-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_CKernel (m : (ℓ : Loc Cert.CKernel.nD Cert.CKernel.τ Cert.CKernel.sig) → Buf (Elt Bits) ℓ) : Prop :=
  True

def Pre_CKernelIdeal (m : (ℓ : Loc Cert.CKernelIdeal.nD Cert.CKernelIdeal.τ Cert.CKernelIdeal.sig) → Buf (Elt Ideal) ℓ) : Prop :=
  True

def Pre_CReferenceIdeal (m : (ℓ : Loc Cert.CReferenceIdeal.nD Cert.CReferenceIdeal.τ Cert.CReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1)
      ∧ r.2.mem ((c.tc : Thread Cert.QKernel.nD Cert.QKernel.τ).loc Cert.QKernel.main_arg2) = m ((c.tc : Thread Cert.QKernel.nD Cert.QKernel.τ).loc Cert.QKernel.main_arg2)
      ∧ r.2.mem ((c.tc : Thread Cert.QKernel.nD Cert.QKernel.τ).loc Cert.QKernel.main_arg3) = m ((c.tc : Thread Cert.QKernel.nD Cert.QKernel.τ).loc Cert.QKernel.main_arg3)
      ∧ r.2.mem ((c.tc : Thread Cert.QKernel.nD Cert.QKernel.τ).loc Cert.QKernel.main_arg4) = m ((c.tc : Thread Cert.QKernel.nD Cert.QKernel.τ).loc Cert.QKernel.main_arg4))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
      ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3)
      ∧ r.2.mem ((c.tc : Thread Cert.QReferenceIdeal.nD Cert.QReferenceIdeal.τ).loc Cert.QReferenceIdeal.main_arg4) = m ((c.tc : Thread Cert.QReferenceIdeal.nD Cert.QReferenceIdeal.τ).loc Cert.QReferenceIdeal.main_arg4))
      ∧ r.2.sem = fun _ => 0)

def quiescent_CKernel [hCKernel : Cert.CKernel.Facts] : Prop :=
  ∀ (m : (ℓ : Loc Cert.CKernel.nD Cert.CKernel.τ Cert.CKernel.sig) → Buf (Elt Bits) ℓ) (g : Dev Cert.CKernel.nD → PrngReg), Pre_CKernel m →
    θ_run (Cert.CKernel.defs (F := Bits)) (onTc (τ := Cert.CKernel.τ) (Cert.CKernel.main (F := Bits))) ⟨m, fun _ => 0, g⟩ (fun r => (∀ c : Dev Cert.CKernel.nD,
      r.2.mem ((c.tc : Thread Cert.CKernel.nD Cert.CKernel.τ).loc Cert.CKernel.main_arg0) = m ((c.tc : Thread Cert.CKernel.nD Cert.CKernel.τ).loc Cert.CKernel.main_arg0)
      ∧ r.2.mem ((c.tc : Thread Cert.CKernel.nD Cert.CKernel.τ).loc Cert.CKernel.main_arg1) = m ((c.tc : Thread Cert.CKernel.nD Cert.CKernel.τ).loc Cert.CKernel.main_arg1)
      ∧ r.2.mem ((c.tc : Thread Cert.CKernel.nD Cert.CKernel.τ).loc Cert.CKernel.main_arg2) = m ((c.tc : Thread Cert.CKernel.nD Cert.CKernel.τ).loc Cert.CKernel.main_arg2)
      ∧ r.2.mem ((c.tc : Thread Cert.CKernel.nD Cert.CKernel.τ).loc Cert.CKernel.main_arg3) = m ((c.tc : Thread Cert.CKernel.nD Cert.CKernel.τ).loc Cert.CKernel.main_arg3)
      ∧ r.2.mem ((c.tc : Thread Cert.CKernel.nD Cert.CKernel.τ).loc Cert.CKernel.main_arg4) = m ((c.tc : Thread Cert.CKernel.nD Cert.CKernel.τ).loc Cert.CKernel.main_arg4)
      ∧ r.2.mem ((c.tc : Thread Cert.CKernel.nD Cert.CKernel.τ).loc Cert.CKernel.main_arg5) = m ((c.tc : Thread Cert.CKernel.nD Cert.CKernel.τ).loc Cert.CKernel.main_arg5)
      ∧ r.2.mem ((c.tc : Thread Cert.CKernel.nD Cert.CKernel.τ).loc Cert.CKernel.main_arg6) = m ((c.tc : Thread Cert.CKernel.nD Cert.CKernel.τ).loc Cert.CKernel.main_arg6))
      ∧ r.2.sem = fun _ => 0)

def quiescent_CKernelIdeal [hCKernelIdeal : Cert.CKernelIdeal.Facts] : Prop :=
  ∀ (m : (ℓ : Loc Cert.CKernelIdeal.nD Cert.CKernelIdeal.τ Cert.CKernelIdeal.sig) → Buf (Elt Ideal) ℓ) (g : Dev Cert.CKernelIdeal.nD → PrngReg), Pre_CKernelIdeal m →
    θ_run (Cert.CKernelIdeal.defs (F := Ideal)) (onTc (τ := Cert.CKernelIdeal.τ) (Cert.CKernelIdeal.main (F := Ideal))) ⟨m, fun _ => 0, g⟩ (fun r => (∀ c : Dev Cert.CKernelIdeal.nD,
      r.2.mem ((c.tc : Thread Cert.CKernelIdeal.nD Cert.CKernelIdeal.τ).loc Cert.CKernelIdeal.main_arg0) = m ((c.tc : Thread Cert.CKernelIdeal.nD Cert.CKernelIdeal.τ).loc Cert.CKernelIdeal.main_arg0)
      ∧ r.2.mem ((c.tc : Thread Cert.CKernelIdeal.nD Cert.CKernelIdeal.τ).loc Cert.CKernelIdeal.main_arg1) = m ((c.tc : Thread Cert.CKernelIdeal.nD Cert.CKernelIdeal.τ).loc Cert.CKernelIdeal.main_arg1)
      ∧ r.2.mem ((c.tc : Thread Cert.CKernelIdeal.nD Cert.CKernelIdeal.τ).loc Cert.CKernelIdeal.main_arg2) = m ((c.tc : Thread Cert.CKernelIdeal.nD Cert.CKernelIdeal.τ).loc Cert.CKernelIdeal.main_arg2)
      ∧ r.2.mem ((c.tc : Thread Cert.CKernelIdeal.nD Cert.CKernelIdeal.τ).loc Cert.CKernelIdeal.main_arg3) = m ((c.tc : Thread Cert.CKernelIdeal.nD Cert.CKernelIdeal.τ).loc Cert.CKernelIdeal.main_arg3)
      ∧ r.2.mem ((c.tc : Thread Cert.CKernelIdeal.nD Cert.CKernelIdeal.τ).loc Cert.CKernelIdeal.main_arg4) = m ((c.tc : Thread Cert.CKernelIdeal.nD Cert.CKernelIdeal.τ).loc Cert.CKernelIdeal.main_arg4)
      ∧ r.2.mem ((c.tc : Thread Cert.CKernelIdeal.nD Cert.CKernelIdeal.τ).loc Cert.CKernelIdeal.main_arg5) = m ((c.tc : Thread Cert.CKernelIdeal.nD Cert.CKernelIdeal.τ).loc Cert.CKernelIdeal.main_arg5)
      ∧ r.2.mem ((c.tc : Thread Cert.CKernelIdeal.nD Cert.CKernelIdeal.τ).loc Cert.CKernelIdeal.main_arg6) = m ((c.tc : Thread Cert.CKernelIdeal.nD Cert.CKernelIdeal.τ).loc Cert.CKernelIdeal.main_arg6))
      ∧ r.2.sem = fun _ => 0)

def quiescent_CReferenceIdeal [hCReferenceIdeal : Cert.CReferenceIdeal.Facts] : Prop :=
  ∀ (m : (ℓ : Loc Cert.CReferenceIdeal.nD Cert.CReferenceIdeal.τ Cert.CReferenceIdeal.sig) → Buf (Elt Ideal) ℓ) (g : Dev Cert.CReferenceIdeal.nD → PrngReg), Pre_CReferenceIdeal m →
    θ_run (Cert.CReferenceIdeal.defs (F := Ideal)) (onTc (τ := Cert.CReferenceIdeal.τ) (Cert.CReferenceIdeal.main (F := Ideal))) ⟨m, fun _ => 0, g⟩ (fun r => (∀ c : Dev Cert.CReferenceIdeal.nD,
      r.2.mem ((c.tc : Thread Cert.CReferenceIdeal.nD Cert.CReferenceIdeal.τ).loc Cert.CReferenceIdeal.main_arg0) = m ((c.tc : Thread Cert.CReferenceIdeal.nD Cert.CReferenceIdeal.τ).loc Cert.CReferenceIdeal.main_arg0)
      ∧ r.2.mem ((c.tc : Thread Cert.CReferenceIdeal.nD Cert.CReferenceIdeal.τ).loc Cert.CReferenceIdeal.main_arg1) = m ((c.tc : Thread Cert.CReferenceIdeal.nD Cert.CReferenceIdeal.τ).loc Cert.CReferenceIdeal.main_arg1)
      ∧ r.2.mem ((c.tc : Thread Cert.CReferenceIdeal.nD Cert.CReferenceIdeal.τ).loc Cert.CReferenceIdeal.main_arg2) = m ((c.tc : Thread Cert.CReferenceIdeal.nD Cert.CReferenceIdeal.τ).loc Cert.CReferenceIdeal.main_arg2)
      ∧ r.2.mem ((c.tc : Thread Cert.CReferenceIdeal.nD Cert.CReferenceIdeal.τ).loc Cert.CReferenceIdeal.main_arg3) = m ((c.tc : Thread Cert.CReferenceIdeal.nD Cert.CReferenceIdeal.τ).loc Cert.CReferenceIdeal.main_arg3)
      ∧ r.2.mem ((c.tc : Thread Cert.CReferenceIdeal.nD Cert.CReferenceIdeal.τ).loc Cert.CReferenceIdeal.main_arg4) = m ((c.tc : Thread Cert.CReferenceIdeal.nD Cert.CReferenceIdeal.τ).loc Cert.CReferenceIdeal.main_arg4)
      ∧ r.2.mem ((c.tc : Thread Cert.CReferenceIdeal.nD Cert.CReferenceIdeal.τ).loc Cert.CReferenceIdeal.main_arg5) = m ((c.tc : Thread Cert.CReferenceIdeal.nD Cert.CReferenceIdeal.τ).loc Cert.CReferenceIdeal.main_arg5)
      ∧ r.2.mem ((c.tc : Thread Cert.CReferenceIdeal.nD Cert.CReferenceIdeal.τ).loc Cert.CReferenceIdeal.main_arg6) = m ((c.tc : Thread Cert.CReferenceIdeal.nD Cert.CReferenceIdeal.τ).loc Cert.CReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_QKernel_QKernelIdeal : Prop :=
  IdealRules.bf16_pair.BufferStatement Cert.QKernelIdeal.S8x592x2x128 Cert.QKernelIdeal.S8x592x1x128
  ∧ IdealRules.bf16_pair.PackStatement Cert.QKernelIdeal.S256x128
  ∧ IdealRules.bf16_pair.Statement Cert.QKernelIdeal.S256x2x128 Cert.QKernelIdeal.S256x1x128

def algebraic_QKernelIdeal_QReferenceIdeal [hQKernelIdeal : Cert.QKernelIdeal.Facts] [hQReferenceIdeal : Cert.QReferenceIdeal.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QKernelIdeal m →
    (∀ c : Dev Cert.QKernelIdeal.nD,
      m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0)
      ∧ m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1)
      ∧ m' ((c.tc : Thread Cert.QReferenceIdeal.nD Cert.QReferenceIdeal.τ).loc Cert.QReferenceIdeal.main_arg2) = m ((c.tc : Thread Cert.QKernelIdeal.nD Cert.QKernelIdeal.τ).loc Cert.QKernelIdeal.main_arg2)
      ∧ m' ((c.tc : Thread Cert.QReferenceIdeal.nD Cert.QReferenceIdeal.τ).loc Cert.QReferenceIdeal.main_arg3) = m ((c.tc : Thread Cert.QKernelIdeal.nD Cert.QKernelIdeal.τ).loc Cert.QKernelIdeal.main_arg3)
      ∧ m' ((c.tc : Thread Cert.QReferenceIdeal.nD Cert.QReferenceIdeal.τ).loc Cert.QReferenceIdeal.main_arg4) = m ((c.tc : Thread Cert.QKernelIdeal.nD Cert.QKernelIdeal.τ).loc Cert.QKernelIdeal.main_arg4)) →
    ∃ (v0 : (c : Dev Cert.QKernelIdeal.nD) → Buf (Elt Ideal) ((c.tc : Thread Cert.QKernelIdeal.nD Cert.QKernelIdeal.τ).loc Cert.QKernelIdeal.main_v13)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v13) = v0 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
          ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
          ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
          ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v14) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3)
          ∧ r.2.mem ((c.tc : Thread Cert.QReferenceIdeal.nD Cert.QReferenceIdeal.τ).loc Cert.QReferenceIdeal.main_arg4) = m' ((c.tc : Thread Cert.QReferenceIdeal.nD Cert.QReferenceIdeal.τ).loc Cert.QReferenceIdeal.main_arg4))

def preserves_CKernel_CKernelIdeal : Prop :=
  True

def algebraic_CKernelIdeal_CReferenceIdeal [hCKernelIdeal : Cert.CKernelIdeal.Facts] [hCReferenceIdeal : Cert.CReferenceIdeal.Facts] : Prop :=
  ∀ (m : (ℓ : Loc Cert.CKernelIdeal.nD Cert.CKernelIdeal.τ Cert.CKernelIdeal.sig) → Buf (Elt Ideal) ℓ) (g : Dev Cert.CKernelIdeal.nD → PrngReg)
    (m' : (ℓ : Loc Cert.CReferenceIdeal.nD Cert.CReferenceIdeal.τ Cert.CReferenceIdeal.sig) → Buf (Elt Ideal) ℓ) (g' : Dev Cert.CReferenceIdeal.nD → PrngReg), Pre_CKernelIdeal m →
    (∀ c : Dev Cert.CKernelIdeal.nD,
      m' ((c.tc : Thread Cert.CReferenceIdeal.nD Cert.CReferenceIdeal.τ).loc Cert.CReferenceIdeal.main_arg0) = m ((c.tc : Thread Cert.CKernelIdeal.nD Cert.CKernelIdeal.τ).loc Cert.CKernelIdeal.main_arg0)
      ∧ m' ((c.tc : Thread Cert.CReferenceIdeal.nD Cert.CReferenceIdeal.τ).loc Cert.CReferenceIdeal.main_arg1) = m ((c.tc : Thread Cert.CKernelIdeal.nD Cert.CKernelIdeal.τ).loc Cert.CKernelIdeal.main_arg1)
      ∧ m' ((c.tc : Thread Cert.CReferenceIdeal.nD Cert.CReferenceIdeal.τ).loc Cert.CReferenceIdeal.main_arg2) = m ((c.tc : Thread Cert.CKernelIdeal.nD Cert.CKernelIdeal.τ).loc Cert.CKernelIdeal.main_arg2)
      ∧ m' ((c.tc : Thread Cert.CReferenceIdeal.nD Cert.CReferenceIdeal.τ).loc Cert.CReferenceIdeal.main_arg3) = m ((c.tc : Thread Cert.CKernelIdeal.nD Cert.CKernelIdeal.τ).loc Cert.CKernelIdeal.main_arg3)
      ∧ m' ((c.tc : Thread Cert.CReferenceIdeal.nD Cert.CReferenceIdeal.τ).loc Cert.CReferenceIdeal.main_arg4) = m ((c.tc : Thread Cert.CKernelIdeal.nD Cert.CKernelIdeal.τ).loc Cert.CKernelIdeal.main_arg4)
      ∧ m' ((c.tc : Thread Cert.CReferenceIdeal.nD Cert.CReferenceIdeal.τ).loc Cert.CReferenceIdeal.main_arg5) = m ((c.tc : Thread Cert.CKernelIdeal.nD Cert.CKernelIdeal.τ).loc Cert.CKernelIdeal.main_arg5)
      ∧ m' ((c.tc : Thread Cert.CReferenceIdeal.nD Cert.CReferenceIdeal.τ).loc Cert.CReferenceIdeal.main_arg6) = m ((c.tc : Thread Cert.CKernelIdeal.nD Cert.CKernelIdeal.τ).loc Cert.CKernelIdeal.main_arg6)) →
    ∃ (v0 : (c : Dev Cert.CKernelIdeal.nD) → Buf (Elt Ideal) ((c.tc : Thread Cert.CKernelIdeal.nD Cert.CKernelIdeal.τ).loc Cert.CKernelIdeal.main_v13_0)) (v1 : (c : Dev Cert.CKernelIdeal.nD) → Buf (Elt Ideal) ((c.tc : Thread Cert.CKernelIdeal.nD Cert.CKernelIdeal.τ).loc Cert.CKernelIdeal.main_v13_1)),
      θ_run (Cert.CKernelIdeal.defs (F := Ideal)) (onTc (τ := Cert.CKernelIdeal.τ) (Cert.CKernelIdeal.main (F := Ideal))) ⟨m, fun _ => 0, g⟩ (fun r => ∀ c : Dev Cert.CKernelIdeal.nD,
          r.2.mem ((c.tc : Thread Cert.CKernelIdeal.nD Cert.CKernelIdeal.τ).loc Cert.CKernelIdeal.main_v13_0) = v0 c
          ∧ r.2.mem ((c.tc : Thread Cert.CKernelIdeal.nD Cert.CKernelIdeal.τ).loc Cert.CKernelIdeal.main_v13_1) = v1 c
          ∧ r.2.mem ((c.tc : Thread Cert.CKernelIdeal.nD Cert.CKernelIdeal.τ).loc Cert.CKernelIdeal.main_arg0) = m ((c.tc : Thread Cert.CKernelIdeal.nD Cert.CKernelIdeal.τ).loc Cert.CKernelIdeal.main_arg0)
          ∧ r.2.mem ((c.tc : Thread Cert.CKernelIdeal.nD Cert.CKernelIdeal.τ).loc Cert.CKernelIdeal.main_arg1) = m ((c.tc : Thread Cert.CKernelIdeal.nD Cert.CKernelIdeal.τ).loc Cert.CKernelIdeal.main_arg1)
          ∧ r.2.mem ((c.tc : Thread Cert.CKernelIdeal.nD Cert.CKernelIdeal.τ).loc Cert.CKernelIdeal.main_arg2) = m ((c.tc : Thread Cert.CKernelIdeal.nD Cert.CKernelIdeal.τ).loc Cert.CKernelIdeal.main_arg2)
          ∧ r.2.mem ((c.tc : Thread Cert.CKernelIdeal.nD Cert.CKernelIdeal.τ).loc Cert.CKernelIdeal.main_arg3) = m ((c.tc : Thread Cert.CKernelIdeal.nD Cert.CKernelIdeal.τ).loc Cert.CKernelIdeal.main_arg3)
          ∧ r.2.mem ((c.tc : Thread Cert.CKernelIdeal.nD Cert.CKernelIdeal.τ).loc Cert.CKernelIdeal.main_arg4) = m ((c.tc : Thread Cert.CKernelIdeal.nD Cert.CKernelIdeal.τ).loc Cert.CKernelIdeal.main_arg4)
          ∧ r.2.mem ((c.tc : Thread Cert.CKernelIdeal.nD Cert.CKernelIdeal.τ).loc Cert.CKernelIdeal.main_arg5) = m ((c.tc : Thread Cert.CKernelIdeal.nD Cert.CKernelIdeal.τ).loc Cert.CKernelIdeal.main_arg5)
          ∧ r.2.mem ((c.tc : Thread Cert.CKernelIdeal.nD Cert.CKernelIdeal.τ).loc Cert.CKernelIdeal.main_arg6) = m ((c.tc : Thread Cert.CKernelIdeal.nD Cert.CKernelIdeal.τ).loc Cert.CKernelIdeal.main_arg6))
      ∧ θ_run (Cert.CReferenceIdeal.defs (F := Ideal)) (onTc (τ := Cert.CReferenceIdeal.τ) (Cert.CReferenceIdeal.main (F := Ideal))) ⟨m', fun _ => 0, g'⟩ (fun r => ∀ c : Dev Cert.CReferenceIdeal.nD,
          r.2.mem ((c.tc : Thread Cert.CReferenceIdeal.nD Cert.CReferenceIdeal.τ).loc Cert.CReferenceIdeal.main_v17_0) = v0 c
          ∧ r.2.mem ((c.tc : Thread Cert.CReferenceIdeal.nD Cert.CReferenceIdeal.τ).loc Cert.CReferenceIdeal.main_v17_1) = v1 c
          ∧ r.2.mem ((c.tc : Thread Cert.CReferenceIdeal.nD Cert.CReferenceIdeal.τ).loc Cert.CReferenceIdeal.main_arg0) = m' ((c.tc : Thread Cert.CReferenceIdeal.nD Cert.CReferenceIdeal.τ).loc Cert.CReferenceIdeal.main_arg0)
          ∧ r.2.mem ((c.tc : Thread Cert.CReferenceIdeal.nD Cert.CReferenceIdeal.τ).loc Cert.CReferenceIdeal.main_arg1) = m' ((c.tc : Thread Cert.CReferenceIdeal.nD Cert.CReferenceIdeal.τ).loc Cert.CReferenceIdeal.main_arg1)
          ∧ r.2.mem ((c.tc : Thread Cert.CReferenceIdeal.nD Cert.CReferenceIdeal.τ).loc Cert.CReferenceIdeal.main_arg2) = m' ((c.tc : Thread Cert.CReferenceIdeal.nD Cert.CReferenceIdeal.τ).loc Cert.CReferenceIdeal.main_arg2)
          ∧ r.2.mem ((c.tc : Thread Cert.CReferenceIdeal.nD Cert.CReferenceIdeal.τ).loc Cert.CReferenceIdeal.main_arg3) = m' ((c.tc : Thread Cert.CReferenceIdeal.nD Cert.CReferenceIdeal.τ).loc Cert.CReferenceIdeal.main_arg3)
          ∧ r.2.mem ((c.tc : Thread Cert.CReferenceIdeal.nD Cert.CReferenceIdeal.τ).loc Cert.CReferenceIdeal.main_arg4) = m' ((c.tc : Thread Cert.CReferenceIdeal.nD Cert.CReferenceIdeal.τ).loc Cert.CReferenceIdeal.main_arg4)
          ∧ r.2.mem ((c.tc : Thread Cert.CReferenceIdeal.nD Cert.CReferenceIdeal.τ).loc Cert.CReferenceIdeal.main_arg5) = m' ((c.tc : Thread Cert.CReferenceIdeal.nD Cert.CReferenceIdeal.τ).loc Cert.CReferenceIdeal.main_arg5)
          ∧ r.2.mem ((c.tc : Thread Cert.CReferenceIdeal.nD Cert.CReferenceIdeal.τ).loc Cert.CReferenceIdeal.main_arg6) = m' ((c.tc : Thread Cert.CReferenceIdeal.nD Cert.CReferenceIdeal.τ).loc Cert.CReferenceIdeal.main_arg6))

def Claim : Prop :=
  ∃ (hKernel : Cert.Kernel.Facts) (hKernelIdeal : Cert.KernelIdeal.Facts) (hReferenceIdeal : Cert.ReferenceIdeal.Facts) (hQKernel : Cert.QKernel.Facts) (hQKernelIdeal : Cert.QKernelIdeal.Facts) (hQReferenceIdeal : Cert.QReferenceIdeal.Facts) (hCKernel : Cert.CKernel.Facts) (hCKernelIdeal : Cert.CKernelIdeal.Facts) (hCReferenceIdeal : Cert.CReferenceIdeal.Facts),
    quiescent_Kernel (hKernel := hKernel)
    ∧ quiescent_KernelIdeal (hKernelIdeal := hKernelIdeal)
    ∧ quiescent_ReferenceIdeal (hReferenceIdeal := hReferenceIdeal)
    ∧ quiescent_QKernel (hQKernel := hQKernel)
    ∧ quiescent_QKernelIdeal (hQKernelIdeal := hQKernelIdeal)
    ∧ quiescent_QReferenceIdeal (hQReferenceIdeal := hQReferenceIdeal)
    ∧ quiescent_CKernel (hCKernel := hCKernel)
    ∧ quiescent_CKernelIdeal (hCKernelIdeal := hCKernelIdeal)
    ∧ quiescent_CReferenceIdeal (hCReferenceIdeal := hCReferenceIdeal)
    ∧ preserves_Kernel_KernelIdeal
    ∧ algebraic_KernelIdeal_ReferenceIdeal (hKernelIdeal := hKernelIdeal) (hReferenceIdeal := hReferenceIdeal)
    ∧ preserves_QKernel_QKernelIdeal
    ∧ algebraic_QKernelIdeal_QReferenceIdeal (hQKernelIdeal := hQKernelIdeal) (hQReferenceIdeal := hQReferenceIdeal)
    ∧ preserves_CKernel_CKernelIdeal
    ∧ algebraic_CKernelIdeal_CReferenceIdeal (hCKernelIdeal := hCKernelIdeal) (hCReferenceIdeal := hCReferenceIdeal)
-- ==== Kernel.lean ====
abbrev S256x5120 : Shape := ⟨2, ![256, 5120]⟩
abbrev S256x32x128 : Shape := ⟨3, ![256, 32, 128]⟩
abbrev S5120 : Shape := ⟨1, ![5120]⟩
abbrev S4096x5120 : Shape := ⟨2, ![4096, 5120]⟩
abbrev S5120x14336 : Shape := ⟨2, ![5120, 14336]⟩
abbrev S14336 : Shape := ⟨1, ![14336]⟩
abbrev S14336x5120 : Shape := ⟨2, ![14336, 5120]⟩
abbrev S256x8x512 : Shape := ⟨3, ![256, 8, 512]⟩
abbrev S8x256x512 : Shape := ⟨3, ![8, 256, 512]⟩
abbrev S40x128 : Shape := ⟨2, ![40, 128]⟩
abbrev S112x128 : Shape := ⟨2, ![112, 128]⟩
abbrev S256x14336 : Shape := ⟨2, ![256, 14336]⟩
abbrev S4x5120x512 : Shape := ⟨3, ![4, 5120, 512]⟩
abbrev S4 : Shape := ⟨1, ![4]⟩
abbrev S5 : Shape := ⟨1, ![5]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩
abbrev S1x5120x512 : Shape := ⟨3, ![1, 5120, 512]⟩
abbrev S5120x512 : Shape := ⟨2, ![5120, 512]⟩
abbrev S256x128 : Shape := ⟨2, ![256, 128]⟩
abbrev S2x512x5120 : Shape := ⟨3, ![2, 512, 5120]⟩
abbrev S2x256x512 : Shape := ⟨3, ![2, 256, 512]⟩
abbrev S1x512x5120 : Shape := ⟨3, ![1, 512, 5120]⟩
abbrev S512x5120 : Shape := ⟨2, ![512, 5120]⟩
abbrev S1x256x512 : Shape := ⟨3, ![1, 256, 512]⟩
abbrev S256x512 : Shape := ⟨2, ![256, 512]⟩
abbrev S1x512x512 : Shape := ⟨3, ![1, 512, 512]⟩
abbrev S512x512 : Shape := ⟨2, ![512, 512]⟩
abbrev S1x128 : Shape := ⟨2, ![1, 128]⟩
abbrev S32x128 : Shape := ⟨2, ![32, 128]⟩
abbrev S32 : Shape := ⟨1, ![32]⟩
abbrev S32x1 : Shape := ⟨2, ![32, 1]⟩
abbrev S1x256x128 : Shape := ⟨3, ![1, 256, 128]⟩

abbrev nBuf : Space → Nat
  | .hbm => 21
  | .vmem => 14
  | .smem => 0
  | _ => 0

abbrev bufTy : (tb : Table) → Fin (tcTables nBuf tb) → BufTy
  | .hbm, ⟨0, _⟩ => ⟨S256x5120, .bf16⟩
  | .hbm, ⟨1, _⟩ => ⟨S256x32x128, .bf16⟩
  | .hbm, ⟨2, _⟩ => ⟨S5120, .f32⟩
  | .hbm, ⟨3, _⟩ => ⟨S4096x5120, .fp8e4m3⟩
  | .hbm, ⟨4, _⟩ => ⟨S5120, .f32⟩
  | .hbm, ⟨5, _⟩ => ⟨S5120x14336, .fp8e4m3⟩
  | .hbm, ⟨6, _⟩ => ⟨S14336, .f32⟩
  | .hbm, ⟨7, _⟩ => ⟨S5120x14336, .fp8e4m3⟩
  | .hbm, ⟨8, _⟩ => ⟨S14336, .f32⟩
  | .hbm, ⟨9, _⟩ => ⟨S14336x5120, .fp8e4m3⟩
  | .hbm, ⟨10, _⟩ => ⟨S5120, .f32⟩
  | .hbm, ⟨11, _⟩ => ⟨S256x8x512, .bf16⟩
  | .hbm, ⟨12, _⟩ => ⟨S8x256x512, .bf16⟩
  | .hbm, ⟨13, _⟩ => ⟨S40x128, .f32⟩
  | .hbm, ⟨14, _⟩ => ⟨S40x128, .f32⟩
  | .hbm, ⟨15, _⟩ => ⟨S112x128, .f32⟩
  | .hbm, ⟨16, _⟩ => ⟨S112x128, .f32⟩
  | .hbm, ⟨17, _⟩ => ⟨S40x128, .f32⟩
  | .hbm, ⟨18, _⟩ => ⟨S256x5120, .bf16⟩
  | .hbm, ⟨19, _⟩ => ⟨S256x5120, .bf16⟩
  | .hbm, ⟨20, _⟩ => ⟨S256x14336, .bf16⟩
  | .local _ .vmem, ⟨0, _⟩ => ⟨S256x5120, .bf16⟩
  | .local _ .vmem, ⟨1, _⟩ => ⟨S40x128, .f32⟩
  | .local _ .vmem, ⟨2, _⟩ => ⟨S40x128, .f32⟩
  | .local _ .vmem, ⟨3, _⟩ => ⟨S112x128, .f32⟩
  | .local _ .vmem, ⟨4, _⟩ => ⟨S112x128, .f32⟩
  | .local _ .vmem, ⟨5, _⟩ => ⟨S40x128, .f32⟩
  | .local _ .vmem, ⟨6, _⟩ => ⟨S8x256x512, .bf16⟩
  | .local _ .vmem, ⟨7, _⟩ => ⟨S4x5120x512, .fp8e4m3⟩
  | .local _ .vmem, ⟨8, _⟩ => ⟨S256x5120, .bf16⟩
  | .local _ .vmem, ⟨9, _⟩ => ⟨S256x5120, .bf16⟩
  | .local _ .vmem, ⟨10, _⟩ => ⟨S256x128, .f32⟩
  | .local _ .vmem, ⟨11, _⟩ => ⟨S2x512x5120, .fp8e4m3⟩
  | .local _ .vmem, ⟨12, _⟩ => ⟨S256x5120, .f32⟩
  | .local _ .vmem, ⟨13, _⟩ => ⟨S2x256x512, .bf16⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scoped0 : Ref sig .tc := ⟨.vmem, 8, rfl⟩
abbrev cc0_scoped1 : Ref sig .tc := ⟨.vmem, 9, rfl⟩
abbrev cc0_scoped2 : Ref sig .tc := ⟨.vmem, 10, rfl⟩
abbrev cc0_scoped3 : Ref sig .tc := ⟨.vmem, 11, rfl⟩
abbrev cc0_scoped4 : Ref sig .tc := ⟨.vmem, 12, rfl⟩
abbrev cc0_scoped5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_cond1 : BitVec 1 :=
  let c12_i32_0 : BitVec 32 := 12#32
  let c12_i32_1 : BitVec 32 := 12#32
  let v1 : BitVec 1 := Scalar.cmpi .sge c12_i32_0 c12_i32_1
  let c12_i32_2 : BitVec 32 := 12#32
  let c22_i32 : BitVec 32 := 22#32
  let v2 : BitVec 1 := Scalar.cmpi .slt c12_i32_2 c22_i32
  let v3 : BitVec 1 := Scalar.andi v1 v2
  let v4 : BitVec 32 := Scalar.extui v3
  let c0_i32 : BitVec 32 := 0#32
  let v5 : BitVec 1 := Scalar.cmpi .ne v4 c0_i32
  v5

def k0_mult1 : BitVec 32 :=
  let c12_i32_3 : BitVec 32 := 12#32
  let c12_i32_52 : BitVec 32 := 12#32
  let v69 : BitVec 32 := Scalar.subi c12_i32_3 c12_i32_52
  let c512_i32 : BitVec 32 := 512#32
  let v70 : BitVec 32 := Scalar.muli v69 c512_i32
  v70
def k0_off1 : Fin 1 → Nat :=
  let c12_i32 : BitVec 32 := 12#32
  let c4_i32 : BitVec 32 := 4#32
  let v0 : BitVec 32 := Scalar.remsi c12_i32 c4_i32
  ![v0.toNat]
def k0_off2 : Fin 3 → Nat :=
  let c12_i32 : BitVec 32 := 12#32
  let c4_i32 : BitVec 32 := 4#32
  let v0 : BitVec 32 := Scalar.remsi c12_i32 c4_i32
  let c0_i32_53 : BitVec 32 := 0#32
  let c0_i32_54 : BitVec 32 := 0#32
  ![v0.toNat, 0, 0]
def k0_off3 : Fin 2 → Nat :=
  let c0_i32_55 : BitVec 32 := 0#32
  let c12_i32_3 : BitVec 32 := 12#32
  let c12_i32_52 : BitVec 32 := 12#32
  let v69 : BitVec 32 := Scalar.subi c12_i32_3 c12_i32_52
  let c512_i32 : BitVec 32 := 512#32
  let v70 : BitVec 32 := Scalar.muli v69 c512_i32
  let v71 : BitVec 32 := v70
  ![0, v71.toNat]
def k0_cond2 : BitVec 1 :=
  let c12_i32_4 : BitVec 32 := 12#32
  let c22_i32_5 : BitVec 32 := 22#32
  let v6 : BitVec 32 := Scalar.subi c12_i32_4 c22_i32_5
  let c0_i32_6 : BitVec 32 := 0#32
  let v7 : BitVec 1 := Scalar.cmpi .sge v6 c0_i32_6
  let c56_i32 : BitVec 32 := 56#32
  let v8 : BitVec 1 := Scalar.cmpi .slt v6 c56_i32
  let v9 : BitVec 1 := Scalar.andi v7 v8
  let c1_i32 : BitVec 32 := 1#32
  let v10 : BitVec 32 := Scalar.andi v6 c1_i32
  let c0_i32_7 : BitVec 32 := 0#32
  let v11 : BitVec 1 := Scalar.cmpi .eq v10 c0_i32_7
  let v12 : BitVec 1 := Scalar.andi v9 v11
  let v13 : BitVec 32 := Scalar.extui v12
  let c0_i32_8 : BitVec 32 := 0#32
  let v14 : BitVec 1 := Scalar.cmpi .ne v13 c0_i32_8
  v14

def k0_mult2 : BitVec 32 :=
  let c12_i32_4 : BitVec 32 := 12#32
  let c22_i32_5 : BitVec 32 := 22#32
  let v6 : BitVec 32 := Scalar.subi c12_i32_4 c22_i32_5
  let c1_i32_52 : BitVec 32 := 1#32
  let v69 : BitVec 32 := Scalar.shrsi v6 c1_i32_52
  let c512_i32 : BitVec 32 := 512#32
  let v70 : BitVec 32 := Scalar.muli v69 c512_i32
  v70
def k0_off4 : Fin 1 → Nat :=
  let c12_i32 : BitVec 32 := 12#32
  let c4_i32 : BitVec 32 := 4#32
  let v0 : BitVec 32 := Scalar.remsi c12_i32 c4_i32
  ![v0.toNat]
def k0_off5 : Fin 3 → Nat :=
  let c12_i32 : BitVec 32 := 12#32
  let c4_i32 : BitVec 32 := 4#32
  let v0 : BitVec 32 := Scalar.remsi c12_i32 c4_i32
  let c0_i32_53 : BitVec 32 := 0#32
  let c0_i32_54 : BitVec 32 := 0#32
  ![v0.toNat, 0, 0]
def k0_off6 : Fin 2 → Nat :=
  let c0_i32_55 : BitVec 32 := 0#32
  let c12_i32_4 : BitVec 32 := 12#32
  let c22_i32_5 : BitVec 32 := 22#32
  let v6 : BitVec 32 := Scalar.subi c12_i32_4 c22_i32_5
  let c1_i32_52 : BitVec 32 := 1#32
  let v69 : BitVec 32 := Scalar.shrsi v6 c1_i32_52
  let c512_i32 : BitVec 32 := 512#32
  let v70 : BitVec 32 := Scalar.muli v69 c512_i32
  let v71 : BitVec 32 := v70
  ![0, v71.toNat]
def k0_cond3 : BitVec 1 :=
  let c12_i32_4 : BitVec 32 := 12#32
  let c22_i32_5 : BitVec 32 := 22#32
  let v6 : BitVec 32 := Scalar.subi c12_i32_4 c22_i32_5
  let c0_i32_9 : BitVec 32 := 0#32
  let v15 : BitVec 1 := Scalar.cmpi .sge v6 c0_i32_9
  let c56_i32_10 : BitVec 32 := 56#32
  let v16 : BitVec 1 := Scalar.cmpi .slt v6 c56_i32_10
  let v17 : BitVec 1 := Scalar.andi v15 v16
  let c1_i32_11 : BitVec 32 := 1#32
  let v18 : BitVec 32 := Scalar.andi v6 c1_i32_11
  let c1_i32_12 : BitVec 32 := 1#32
  let v19 : BitVec 1 := Scalar.cmpi .eq v18 c1_i32_12
  let v20 : BitVec 1 := Scalar.andi v17 v19
  let v21 : BitVec 32 := Scalar.extui v20
  let c0_i32_13 : BitVec 32 := 0#32
  let v22 : BitVec 1 := Scalar.cmpi .ne v21 c0_i32_13
  v22

def k0_mult3 : BitVec 32 :=
  let c12_i32_4 : BitVec 32 := 12#32
  let c22_i32_5 : BitVec 32 := 22#32
  let v6 : BitVec 32 := Scalar.subi c12_i32_4 c22_i32_5
  let c1_i32_52 : BitVec 32 := 1#32
  let v69 : BitVec 32 := Scalar.shrsi v6 c1_i32_52
  let c512_i32 : BitVec 32 := 512#32
  let v70 : BitVec 32 := Scalar.muli v69 c512_i32
  v70
def k0_off7 : Fin 1 → Nat :=
  let c12_i32 : BitVec 32 := 12#32
  let c4_i32 : BitVec 32 := 4#32
  let v0 : BitVec 32 := Scalar.remsi c12_i32 c4_i32
  ![v0.toNat]
def k0_off8 : Fin 3 → Nat :=
  let c12_i32 : BitVec 32 := 12#32
  let c4_i32 : BitVec 32 := 4#32
  let v0 : BitVec 32 := Scalar.remsi c12_i32 c4_i32
  let c0_i32_53 : BitVec 32 := 0#32
  let c0_i32_54 : BitVec 32 := 0#32
  ![v0.toNat, 0, 0]
def k0_off9 : Fin 2 → Nat :=
  let c0_i32_55 : BitVec 32 := 0#32
  let c12_i32_4 : BitVec 32 := 12#32
  let c22_i32_5 : BitVec 32 := 22#32
  let v6 : BitVec 32 := Scalar.subi c12_i32_4 c22_i32_5
  let c1_i32_52 : BitVec 32 := 1#32
  let v69 : BitVec 32 := Scalar.shrsi v6 c1_i32_52
  let c512_i32 : BitVec 32 := 512#32
  let v70 : BitVec 32 := Scalar.muli v69 c512_i32
  let v71 : BitVec 32 := v70
  ![0, v71.toNat]
def k0_cond4 : BitVec 1 :=
  let c13_i32_15 : BitVec 32 := 13#32
  let c12_i32_16 : BitVec 32 := 12#32
  let v24 : BitVec 1 := Scalar.cmpi .sge c13_i32_15 c12_i32_16
  let c13_i32_17 : BitVec 32 := 13#32
  let c22_i32_18 : BitVec 32 := 22#32
  let v25 : BitVec 1 := Scalar.cmpi .slt c13_i32_17 c22_i32_18
  let v26 : BitVec 1 := Scalar.andi v24 v25
  let v27 : BitVec 32 := Scalar.extui v26
  let c0_i32_20 : BitVec 32 := 0#32
  let v28 : BitVec 1 := Scalar.cmpi .ne v27 c0_i32_20
  v28

def k0_mult4 : BitVec 32 :=
  let c13_i32_19 : BitVec 32 := 13#32
  let c12_i32_52 : BitVec 32 := 12#32
  let v69 : BitVec 32 := Scalar.subi c13_i32_19 c12_i32_52
  let c512_i32 : BitVec 32 := 512#32
  let v70 : BitVec 32 := Scalar.muli v69 c512_i32
  v70
def k0_off10 : Fin 1 → Nat :=
  let c13_i32 : BitVec 32 := 13#32
  let c4_i32_14 : BitVec 32 := 4#32
  let v23 : BitVec 32 := Scalar.remsi c13_i32 c4_i32_14
  ![v23.toNat]
def k0_off11 : Fin 3 → Nat :=
  let c13_i32 : BitVec 32 := 13#32
  let c4_i32_14 : BitVec 32 := 4#32
  let v23 : BitVec 32 := Scalar.remsi c13_i32 c4_i32_14
  let c0_i32_53 : BitVec 32 := 0#32
  let c0_i32_54 : BitVec 32 := 0#32
  ![v23.toNat, 0, 0]
def k0_off12 : Fin 2 → Nat :=
  let c0_i32_55 : BitVec 32 := 0#32
  let c13_i32_19 : BitVec 32 := 13#32
  let c12_i32_52 : BitVec 32 := 12#32
  let v69 : BitVec 32 := Scalar.subi c13_i32_19 c12_i32_52
  let c512_i32 : BitVec 32 := 512#32
  let v70 : BitVec 32 := Scalar.muli v69 c512_i32
  let v71 : BitVec 32 := v70
  ![0, v71.toNat]
def k0_cond5 : BitVec 1 :=
  let c13_i32_21 : BitVec 32 := 13#32
  let c22_i32_22 : BitVec 32 := 22#32
  let v29 : BitVec 32 := Scalar.subi c13_i32_21 c22_i32_22
  let c0_i32_23 : BitVec 32 := 0#32
  let v30 : BitVec 1 := Scalar.cmpi .sge v29 c0_i32_23
  let c56_i32_24 : BitVec 32 := 56#32
  let v31 : BitVec 1 := Scalar.cmpi .slt v29 c56_i32_24
  let v32 : BitVec 1 := Scalar.andi v30 v31
  let c1_i32_25 : BitVec 32 := 1#32
  let v33 : BitVec 32 := Scalar.andi v29 c1_i32_25
  let c0_i32_26 : BitVec 32 := 0#32
  let v34 : BitVec 1 := Scalar.cmpi .eq v33 c0_i32_26
  let v35 : BitVec 1 := Scalar.andi v32 v34
  let v36 : BitVec 32 := Scalar.extui v35
  let c0_i32_27 : BitVec 32 := 0#32
  let v37 : BitVec 1 := Scalar.cmpi .ne v36 c0_i32_27
  v37

def k0_mult5 : BitVec 32 :=
  let c13_i32_21 : BitVec 32 := 13#32
  let c22_i32_22 : BitVec 32 := 22#32
  let v29 : BitVec 32 := Scalar.subi c13_i32_21 c22_i32_22
  let c1_i32_52 : BitVec 32 := 1#32
  let v69 : BitVec 32 := Scalar.shrsi v29 c1_i32_52
  let c512_i32 : BitVec 32 := 512#32
  let v70 : BitVec 32 := Scalar.muli v69 c512_i32
  v70
def k0_off13 : Fin 1 → Nat :=
  let c13_i32 : BitVec 32 := 13#32
  let c4_i32_14 : BitVec 32 := 4#32
  let v23 : BitVec 32 := Scalar.remsi c13_i32 c4_i32_14
  ![v23.toNat]
def k0_off14 : Fin 3 → Nat :=
  let c13_i32 : BitVec 32 := 13#32
  let c4_i32_14 : BitVec 32 := 4#32
  let v23 : BitVec 32 := Scalar.remsi c13_i32 c4_i32_14
  let c0_i32_53 : BitVec 32 := 0#32
  let c0_i32_54 : BitVec 32 := 0#32
  ![v23.toNat, 0, 0]
def k0_off15 : Fin 2 → Nat :=
  let c0_i32_55 : BitVec 32 := 0#32
  let c13_i32_21 : BitVec 32 := 13#32
  let c22_i32_22 : BitVec 32 := 22#32
  let v29 : BitVec 32 := Scalar.subi c13_i32_21 c22_i32_22
  let c1_i32_52 : BitVec 32 := 1#32
  let v69 : BitVec 32 := Scalar.shrsi v29 c1_i32_52
  let c512_i32 : BitVec 32 := 512#32
  let v70 : BitVec 32 := Scalar.muli v69 c512_i32
  let v71 : BitVec 32 := v70
  ![0, v71.toNat]
def k0_cond6 : BitVec 1 :=
  let c13_i32_21 : BitVec 32 := 13#32
  let c22_i32_22 : BitVec 32 := 22#32
  let v29 : BitVec 32 := Scalar.subi c13_i32_21 c22_i32_22
  let c0_i32_28 : BitVec 32 := 0#32
  let v38 : BitVec 1 := Scalar.cmpi .sge v29 c0_i32_28
  let c56_i32_29 : BitVec 32 := 56#32
  let v39 : BitVec 1 := Scalar.cmpi .slt v29 c56_i32_29
  let v40 : BitVec 1 := Scalar.andi v38 v39
  let c1_i32_30 : BitVec 32 := 1#32
  let v41 : BitVec 32 := Scalar.andi v29 c1_i32_30
  let c1_i32_31 : BitVec 32 := 1#32
  let v42 : BitVec 1 := Scalar.cmpi .eq v41 c1_i32_31
  let v43 : BitVec 1 := Scalar.andi v40 v42
  let v44 : BitVec 32 := Scalar.extui v43
  let c0_i32_32 : BitVec 32 := 0#32
  let v45 : BitVec 1 := Scalar.cmpi .ne v44 c0_i32_32
  v45

def k0_mult6 : BitVec 32 :=
  let c13_i32_21 : BitVec 32 := 13#32
  let c22_i32_22 : BitVec 32 := 22#32
  let v29 : BitVec 32 := Scalar.subi c13_i32_21 c22_i32_22
  let c1_i32_52 : BitVec 32 := 1#32
  let v69 : BitVec 32 := Scalar.shrsi v29 c1_i32_52
  let c512_i32 : BitVec 32 := 512#32
  let v70 : BitVec 32 := Scalar.muli v69 c512_i32
  v70
def k0_off16 : Fin 1 → Nat :=
  let c13_i32 : BitVec 32 := 13#32
  let c4_i32_14 : BitVec 32 := 4#32
  let v23 : BitVec 32 := Scalar.remsi c13_i32 c4_i32_14
  ![v23.toNat]
def k0_off17 : Fin 3 → Nat :=
  let c13_i32 : BitVec 32 := 13#32
  let c4_i32_14 : BitVec 32 := 4#32
  let v23 : BitVec 32 := Scalar.remsi c13_i32 c4_i32_14
  let c0_i32_53 : BitVec 32 := 0#32
  let c0_i32_54 : BitVec 32 := 0#32
  ![v23.toNat, 0, 0]
def k0_off18 : Fin 2 → Nat :=
  let c0_i32_55 : BitVec 32 := 0#32
  let c13_i32_21 : BitVec 32 := 13#32
  let c22_i32_22 : BitVec 32 := 22#32
  let v29 : BitVec 32 := Scalar.subi c13_i32_21 c22_i32_22
  let c1_i32_52 : BitVec 32 := 1#32
  let v69 : BitVec 32 := Scalar.shrsi v29 c1_i32_52
  let c512_i32 : BitVec 32 := 512#32
  let v70 : BitVec 32 := Scalar.muli v69 c512_i32
  let v71 : BitVec 32 := v70
  ![0, v71.toNat]
def k0_cond7 : BitVec 1 :=
  let c14_i32_34 : BitVec 32 := 14#32
  let c12_i32_35 : BitVec 32 := 12#32
  let v47 : BitVec 1 := Scalar.cmpi .sge c14_i32_34 c12_i32_35
  let c14_i32_36 : BitVec 32 := 14#32
  let c22_i32_37 : BitVec 32 := 22#32
  let v48 : BitVec 1 := Scalar.cmpi .slt c14_i32_36 c22_i32_37
  let v49 : BitVec 1 := Scalar.andi v47 v48
  let v50 : BitVec 32 := Scalar.extui v49
  let c0_i32_39 : BitVec 32 := 0#32
  let v51 : BitVec 1 := Scalar.cmpi .ne v50 c0_i32_39
  v51

def k0_mult7 : BitVec 32 :=
  let c14_i32_38 : BitVec 32 := 14#32
  let c12_i32_52 : BitVec 32 := 12#32
  let v69 : BitVec 32 := Scalar.subi c14_i32_38 c12_i32_52
  let c512_i32 : BitVec 32 := 512#32
  let v70 : BitVec 32 := Scalar.muli v69 c512_i32
  v70
def k0_off19 : Fin 1 → Nat :=
  let c14_i32 : BitVec 32 := 14#32
  let c4_i32_33 : BitVec 32 := 4#32
  let v46 : BitVec 32 := Scalar.remsi c14_i32 c4_i32_33
  ![v46.toNat]
def k0_off20 : Fin 3 → Nat :=
  let c14_i32 : BitVec 32 := 14#32
  let c4_i32_33 : BitVec 32 := 4#32
  let v46 : BitVec 32 := Scalar.remsi c14_i32 c4_i32_33
  let c0_i32_53 : BitVec 32 := 0#32
  let c0_i32_54 : BitVec 32 := 0#32
  ![v46.toNat, 0, 0]
def k0_off21 : Fin 2 → Nat :=
  let c0_i32_55 : BitVec 32 := 0#32
  let c14_i32_38 : BitVec 32 := 14#32
  let c12_i32_52 : BitVec 32 := 12#32
  let v69 : BitVec 32 := Scalar.subi c14_i32_38 c12_i32_52
  let c512_i32 : BitVec 32 := 512#32
  let v70 : BitVec 32 := Scalar.muli v69 c512_i32
  let v71 : BitVec 32 := v70
  ![0, v71.toNat]
def k0_cond8 : BitVec 1 :=
  let c14_i32_40 : BitVec 32 := 14#32
  let c22_i32_41 : BitVec 32 := 22#32
  let v52 : BitVec 32 := Scalar.subi c14_i32_40 c22_i32_41
  let c0_i32_42 : BitVec 32 := 0#32
  let v53 : BitVec 1 := Scalar.cmpi .sge v52 c0_i32_42
  let c56_i32_43 : BitVec 32 := 56#32
  let v54 : BitVec 1 := Scalar.cmpi .slt v52 c56_i32_43
  let v55 : BitVec 1 := Scalar.andi v53 v54
  let c1_i32_44 : BitVec 32 := 1#32
  let v56 : BitVec 32 := Scalar.andi v52 c1_i32_44
  let c0_i32_45 : BitVec 32 := 0#32
  let v57 : BitVec 1 := Scalar.cmpi .eq v56 c0_i32_45
  let v58 : BitVec 1 := Scalar.andi v55 v57
  let v59 : BitVec 32 := Scalar.extui v58
  let c0_i32_46 : BitVec 32 := 0#32
  let v60 : BitVec 1 := Scalar.cmpi .ne v59 c0_i32_46
  v60

def k0_mult8 : BitVec 32 :=
  let c14_i32_40 : BitVec 32 := 14#32
  let c22_i32_41 : BitVec 32 := 22#32
  let v52 : BitVec 32 := Scalar.subi c14_i32_40 c22_i32_41
  let c1_i32_52 : BitVec 32 := 1#32
  let v69 : BitVec 32 := Scalar.shrsi v52 c1_i32_52
  let c512_i32 : BitVec 32 := 512#32
  let v70 : BitVec 32 := Scalar.muli v69 c512_i32
  v70
def k0_off22 : Fin 1 → Nat :=
  let c14_i32 : BitVec 32 := 14#32
  let c4_i32_33 : BitVec 32 := 4#32
  let v46 : BitVec 32 := Scalar.remsi c14_i32 c4_i32_33
  ![v46.toNat]
def k0_off23 : Fin 3 → Nat :=
  let c14_i32 : BitVec 32 := 14#32
  let c4_i32_33 : BitVec 32 := 4#32
  let v46 : BitVec 32 := Scalar.remsi c14_i32 c4_i32_33
  let c0_i32_53 : BitVec 32 := 0#32
  let c0_i32_54 : BitVec 32 := 0#32
  ![v46.toNat, 0, 0]
def k0_off24 : Fin 2 → Nat :=
  let c0_i32_55 : BitVec 32 := 0#32
  let c14_i32_40 : BitVec 32 := 14#32
  let c22_i32_41 : BitVec 32 := 22#32
  let v52 : BitVec 32 := Scalar.subi c14_i32_40 c22_i32_41
  let c1_i32_52 : BitVec 32 := 1#32
  let v69 : BitVec 32 := Scalar.shrsi v52 c1_i32_52
  let c512_i32 : BitVec 32 := 512#32
  let v70 : BitVec 32 := Scalar.muli v69 c512_i32
  let v71 : BitVec 32 := v70
  ![0, v71.toNat]
def k0_cond9 : BitVec 1 :=
  let c14_i32_40 : BitVec 32 := 14#32
  let c22_i32_41 : BitVec 32 := 22#32
  let v52 : BitVec 32 := Scalar.subi c14_i32_40 c22_i32_41
  let c0_i32_47 : BitVec 32 := 0#32
  let v61 : BitVec 1 := Scalar.cmpi .sge v52 c0_i32_47
  let c56_i32_48 : BitVec 32 := 56#32
  let v62 : BitVec 1 := Scalar.cmpi .slt v52 c56_i32_48
  let v63 : BitVec 1 := Scalar.andi v61 v62
  let c1_i32_49 : BitVec 32 := 1#32
  let v64 : BitVec 32 := Scalar.andi v52 c1_i32_49
  let c1_i32_50 : BitVec 32 := 1#32
  let v65 : BitVec 1 := Scalar.cmpi .eq v64 c1_i32_50
  let v66 : BitVec 1 := Scalar.andi v63 v65
  let v67 : BitVec 32 := Scalar.extui v66
  let c0_i32_51 : BitVec 32 := 0#32
  let v68 : BitVec 1 := Scalar.cmpi .ne v67 c0_i32_51
  v68

def k0_mult9 : BitVec 32 :=
  let c14_i32_40 : BitVec 32 := 14#32
  let c22_i32_41 : BitVec 32 := 22#32
  let v52 : BitVec 32 := Scalar.subi c14_i32_40 c22_i32_41
  let c1_i32_52 : BitVec 32 := 1#32
  let v69 : BitVec 32 := Scalar.shrsi v52 c1_i32_52
  let c512_i32 : BitVec 32 := 512#32
  let v70 : BitVec 32 := Scalar.muli v69 c512_i32
  v70
def k0_off25 : Fin 1 → Nat :=
  let c14_i32 : BitVec 32 := 14#32
  let c4_i32_33 : BitVec 32 := 4#32
  let v46 : BitVec 32 := Scalar.remsi c14_i32 c4_i32_33
  ![v46.toNat]
def k0_off26 : Fin 3 → Nat :=
  let c14_i32 : BitVec 32 := 14#32
  let c4_i32_33 : BitVec 32 := 4#32
  let v46 : BitVec 32 := Scalar.remsi c14_i32 c4_i32_33
  let c0_i32_53 : BitVec 32 := 0#32
  let c0_i32_54 : BitVec 32 := 0#32
  ![v46.toNat, 0, 0]
def k0_off27 : Fin 2 → Nat :=
  let c0_i32_55 : BitVec 32 := 0#32
  let c14_i32_40 : BitVec 32 := 14#32
  let c22_i32_41 : BitVec 32 := 22#32
  let v52 : BitVec 32 := Scalar.subi c14_i32_40 c22_i32_41
  let c1_i32_52 : BitVec 32 := 1#32
  let v69 : BitVec 32 := Scalar.shrsi v52 c1_i32_52
  let c512_i32 : BitVec 32 := 512#32
  let v70 : BitVec 32 := Scalar.muli v69 c512_i32
  let v71 : BitVec 32 := v70
  ![0, v71.toNat]
def k0_mult10 : BitVec 32 :=
  let c0_i32_58_r0 : BitVec 32 := 0#32
  let c512_i32_r0 : BitVec 32 := 512#32
  let v70_r0 : BitVec 32 := Scalar.muli c0_i32_58_r0 c512_i32_r0
  v70_r0
def k0_off28 (c1_i32_59_r0 : BitVec 32) (c0_i32_57_r0 : BitVec 32) : Fin 1 → Nat :=
  let c2_i32_r0 : BitVec 32 := 2#32
  let v69_r0 : BitVec 32 := Scalar.remsi c0_i32_57_r0 c2_i32_r0
  let v72_r0 : BitVec 32 := Scalar.addi c1_i32_59_r0 v69_r0
  ![v72_r0.toNat]
def k0_off28_at (r : Fin 3) : BitVec 32 × BitVec 32 :=
  if r.val < 1 then
    (1#32, 0#32)
  else
    if r.val < 2 then
      (3#32, 26#32)
    else
      (3#32, 27#32)
def k0_off29 : Fin 3 → Nat :=
  let c0_i32_57_r0 : BitVec 32 := 0#32
  let c2_i32_r0 : BitVec 32 := 2#32
  let v69_r0 : BitVec 32 := Scalar.remsi c0_i32_57_r0 c2_i32_r0
  let c0_i32_60_r0 : BitVec 32 := 0#32
  let c0_i32_61_r0 : BitVec 32 := 0#32
  ![v69_r0.toNat, 0, 0]
def k0_off30 : Fin 2 → Nat :=
  let c0_i32_58_r0 : BitVec 32 := 0#32
  let c512_i32_r0 : BitVec 32 := 512#32
  let v70_r0 : BitVec 32 := Scalar.muli c0_i32_58_r0 c512_i32_r0
  let v71_r0 : BitVec 32 := v70_r0
  let c0_i32_62_r0 : BitVec 32 := 0#32
  ![v71_r0.toNat, 0]
@[reducible] def k0_t1_loop : Scf.Loop 32 :=
  let c0_i32_65_r0 : BitVec 32 := 0#32
  let c10_i32_r0 : BitVec 32 := 10#32
  let v82_r0 : BitVec 32 := Scalar.addi c0_i32_65_r0 c10_i32_r0
  let c1_i32_66_r0 : BitVec 32 := 1#32
  ⟨c0_i32_65_r0, v82_r0, c1_i32_66_r0⟩
def k0_mult11 : BitVec 32 :=
  let c0_i32_103_r0 : BitVec 32 := 0#32
  c0_i32_103_r0
def k0_off31 (k0_t1 : Fin k0_t1_loop.trips) : Fin 1 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  ![v121_r0.toNat]
def k0_off32 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let c0_i32_104_r0 : BitVec 32 := 0#32
  let c0_i32_105_r0 : BitVec 32 := 0#32
  ![v121_r0.toNat, 0, 0]
def k0_cond10 (k0_t1 : Fin k0_t1_loop.trips) : BitVec 1 :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_107_r0 : BitVec 32 := 4#32
  let v128_r0 : BitVec 32 := Scalar.addi v120_r0 c4_i32_107_r0
  let c1_i32_108_r0 : BitVec 32 := 1#32
  let v129_r0 : BitVec 32 := Scalar.subi v128_r0 c1_i32_108_r0
  let c24_i32_r0 : BitVec 32 := 24#32
  let v130_r0 : BitVec 1 := Scalar.cmpi .slt v129_r0 c24_i32_r0
  let v131_r0 : BitVec 32 := Scalar.extui v130_r0
  let c0_i32_109_r0 : BitVec 32 := 0#32
  let v132_r0 : BitVec 1 := Scalar.cmpi .ne v131_r0 c0_i32_109_r0
  v132_r0

def k0_cond11 (k0_t1 : Fin k0_t1_loop.trips) : BitVec 1 :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c12_i32_177_r0 : BitVec 32 := 12#32
  let v287_r0 : BitVec 1 := Scalar.cmpi .sge v285_r0 c12_i32_177_r0
  let c22_i32_178_r0 : BitVec 32 := 22#32
  let v288_r0 : BitVec 1 := Scalar.cmpi .slt v285_r0 c22_i32_178_r0
  let v289_r0 : BitVec 1 := Scalar.andi v287_r0 v288_r0
  let v290_r0 : BitVec 32 := Scalar.extui v289_r0
  let c0_i32_179_r0 : BitVec 32 := 0#32
  let v291_r0 : BitVec 1 := Scalar.cmpi .ne v290_r0 c0_i32_179_r0
  v291_r0

def k0_mult12 (k0_t1 : Fin k0_t1_loop.trips) : BitVec 32 :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c12_i32_191_r0 : BitVec 32 := 12#32
  let v309_r0 : BitVec 32 := Scalar.subi v285_r0 c12_i32_191_r0
  let c512_i32_192_r0 : BitVec 32 := 512#32
  let v310_r0 : BitVec 32 := Scalar.muli v309_r0 c512_i32_192_r0
  v310_r0
def k0_off33 (k0_t1 : Fin k0_t1_loop.trips) : Fin 1 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c4_i32_176_r0 : BitVec 32 := 4#32
  let v286_r0 : BitVec 32 := Scalar.remsi v285_r0 c4_i32_176_r0
  ![v286_r0.toNat]
def k0_off34 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c4_i32_176_r0 : BitVec 32 := 4#32
  let v286_r0 : BitVec 32 := Scalar.remsi v285_r0 c4_i32_176_r0
  let c0_i32_193_r0 : BitVec 32 := 0#32
  let c0_i32_194_r0 : BitVec 32 := 0#32
  ![v286_r0.toNat, 0, 0]
def k0_off35 (k0_t1 : Fin k0_t1_loop.trips) : Fin 2 → Nat :=
  let c0_i32_195_r0 : BitVec 32 := 0#32
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c12_i32_191_r0 : BitVec 32 := 12#32
  let v309_r0 : BitVec 32 := Scalar.subi v285_r0 c12_i32_191_r0
  let c512_i32_192_r0 : BitVec 32 := 512#32
  let v310_r0 : BitVec 32 := Scalar.muli v309_r0 c512_i32_192_r0
  let v311_r0 : BitVec 32 := v310_r0
  ![0, v311_r0.toNat]
def k0_cond12 (k0_t1 : Fin k0_t1_loop.trips) : BitVec 1 :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c22_i32_180_r0 : BitVec 32 := 22#32
  let v292_r0 : BitVec 32 := Scalar.subi v285_r0 c22_i32_180_r0
  let c0_i32_181_r0 : BitVec 32 := 0#32
  let v293_r0 : BitVec 1 := Scalar.cmpi .sge v292_r0 c0_i32_181_r0
  let c56_i32_182_r0 : BitVec 32 := 56#32
  let v294_r0 : BitVec 1 := Scalar.cmpi .slt v292_r0 c56_i32_182_r0
  let v295_r0 : BitVec 1 := Scalar.andi v293_r0 v294_r0
  let c1_i32_183_r0 : BitVec 32 := 1#32
  let v296_r0 : BitVec 32 := Scalar.andi v292_r0 c1_i32_183_r0
  let c0_i32_184_r0 : BitVec 32 := 0#32
  let v297_r0 : BitVec 1 := Scalar.cmpi .eq v296_r0 c0_i32_184_r0
  let v298_r0 : BitVec 1 := Scalar.andi v295_r0 v297_r0
  let v299_r0 : BitVec 32 := Scalar.extui v298_r0
  let c0_i32_185_r0 : BitVec 32 := 0#32
  let v300_r0 : BitVec 1 := Scalar.cmpi .ne v299_r0 c0_i32_185_r0
  v300_r0

def k0_mult13 (k0_t1 : Fin k0_t1_loop.trips) : BitVec 32 :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c22_i32_180_r0 : BitVec 32 := 22#32
  let v292_r0 : BitVec 32 := Scalar.subi v285_r0 c22_i32_180_r0
  let c1_i32_191_r0 : BitVec 32 := 1#32
  let v309_r0 : BitVec 32 := Scalar.shrsi v292_r0 c1_i32_191_r0
  let c512_i32_192_r0 : BitVec 32 := 512#32
  let v310_r0 : BitVec 32 := Scalar.muli v309_r0 c512_i32_192_r0
  v310_r0
def k0_off36 (k0_t1 : Fin k0_t1_loop.trips) : Fin 1 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c4_i32_176_r0 : BitVec 32 := 4#32
  let v286_r0 : BitVec 32 := Scalar.remsi v285_r0 c4_i32_176_r0
  ![v286_r0.toNat]
def k0_off37 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c4_i32_176_r0 : BitVec 32 := 4#32
  let v286_r0 : BitVec 32 := Scalar.remsi v285_r0 c4_i32_176_r0
  let c0_i32_193_r0 : BitVec 32 := 0#32
  let c0_i32_194_r0 : BitVec 32 := 0#32
  ![v286_r0.toNat, 0, 0]
def k0_off38 (k0_t1 : Fin k0_t1_loop.trips) : Fin 2 → Nat :=
  let c0_i32_195_r0 : BitVec 32 := 0#32
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c22_i32_180_r0 : BitVec 32 := 22#32
  let v292_r0 : BitVec 32 := Scalar.subi v285_r0 c22_i32_180_r0
  let c1_i32_191_r0 : BitVec 32 := 1#32
  let v309_r0 : BitVec 32 := Scalar.shrsi v292_r0 c1_i32_191_r0
  let c512_i32_192_r0 : BitVec 32 := 512#32
  let v310_r0 : BitVec 32 := Scalar.muli v309_r0 c512_i32_192_r0
  let v311_r0 : BitVec 32 := v310_r0
  ![0, v311_r0.toNat]
def k0_cond13 (k0_t1 : Fin k0_t1_loop.trips) : BitVec 1 :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c22_i32_180_r0 : BitVec 32 := 22#32
  let v292_r0 : BitVec 32 := Scalar.subi v285_r0 c22_i32_180_r0
  let c0_i32_186_r0 : BitVec 32 := 0#32
  let v301_r0 : BitVec 1 := Scalar.cmpi .sge v292_r0 c0_i32_186_r0
  let c56_i32_187_r0 : BitVec 32 := 56#32
  let v302_r0 : BitVec 1 := Scalar.cmpi .slt v292_r0 c56_i32_187_r0
  let v303_r0 : BitVec 1 := Scalar.andi v301_r0 v302_r0
  let c1_i32_188_r0 : BitVec 32 := 1#32
  let v304_r0 : BitVec 32 := Scalar.andi v292_r0 c1_i32_188_r0
  let c1_i32_189_r0 : BitVec 32 := 1#32
  let v305_r0 : BitVec 1 := Scalar.cmpi .eq v304_r0 c1_i32_189_r0
  let v306_r0 : BitVec 1 := Scalar.andi v303_r0 v305_r0
  let v307_r0 : BitVec 32 := Scalar.extui v306_r0
  let c0_i32_190_r0 : BitVec 32 := 0#32
  let v308_r0 : BitVec 1 := Scalar.cmpi .ne v307_r0 c0_i32_190_r0
  v308_r0

def k0_mult14 (k0_t1 : Fin k0_t1_loop.trips) : BitVec 32 :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c22_i32_180_r0 : BitVec 32 := 22#32
  let v292_r0 : BitVec 32 := Scalar.subi v285_r0 c22_i32_180_r0
  let c1_i32_191_r0 : BitVec 32 := 1#32
  let v309_r0 : BitVec 32 := Scalar.shrsi v292_r0 c1_i32_191_r0
  let c512_i32_192_r0 : BitVec 32 := 512#32
  let v310_r0 : BitVec 32 := Scalar.muli v309_r0 c512_i32_192_r0
  v310_r0
def k0_off39 (k0_t1 : Fin k0_t1_loop.trips) : Fin 1 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c4_i32_176_r0 : BitVec 32 := 4#32
  let v286_r0 : BitVec 32 := Scalar.remsi v285_r0 c4_i32_176_r0
  ![v286_r0.toNat]
def k0_off40 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c4_i32_176_r0 : BitVec 32 := 4#32
  let v286_r0 : BitVec 32 := Scalar.remsi v285_r0 c4_i32_176_r0
  let c0_i32_193_r0 : BitVec 32 := 0#32
  let c0_i32_194_r0 : BitVec 32 := 0#32
  ![v286_r0.toNat, 0, 0]
def k0_off41 (k0_t1 : Fin k0_t1_loop.trips) : Fin 2 → Nat :=
  let c0_i32_195_r0 : BitVec 32 := 0#32
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_174_r0 : BitVec 32 := 4#32
  let v284_r0 : BitVec 32 := Scalar.addi v120_r0 c4_i32_174_r0
  let c1_i32_175_r0 : BitVec 32 := 1#32
  let v285_r0 : BitVec 32 := Scalar.subi v284_r0 c1_i32_175_r0
  let c22_i32_180_r0 : BitVec 32 := 22#32
  let v292_r0 : BitVec 32 := Scalar.subi v285_r0 c22_i32_180_r0
  let c1_i32_191_r0 : BitVec 32 := 1#32
  let v309_r0 : BitVec 32 := Scalar.shrsi v292_r0 c1_i32_191_r0
  let c512_i32_192_r0 : BitVec 32 := 512#32
  let v310_r0 : BitVec 32 := Scalar.muli v309_r0 c512_i32_192_r0
  let v311_r0 : BitVec 32 := v310_r0
  ![0, v311_r0.toNat]
def k0_off42 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let v135_r0 : Index := Scalar.indexCast v121_r0
  let c0_113_r0 : Index := 0#32
  let c0_114_r0 : Index := 0#32
  ![v135_r0.toNat, 0, 0]
def k0_off43 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let v141_r0 : Index := Scalar.indexCast v121_r0
  let c512_r0 : Index := 512#32
  let c0_118_r0 : Index := 0#32
  ![v141_r0.toNat, 512, 0]
def k0_off44 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let v148_r0 : Index := Scalar.indexCast v121_r0
  let c1024_r0 : Index := 1024#32
  let c0_122_r0 : Index := 0#32
  ![v148_r0.toNat, 1024, 0]
def k0_off45 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let v155_r0 : Index := Scalar.indexCast v121_r0
  let c1536_r0 : Index := 1536#32
  let c0_126_r0 : Index := 0#32
  ![v155_r0.toNat, 1536, 0]
def k0_off46 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let v162_r0 : Index := Scalar.indexCast v121_r0
  let c2048_r0 : Index := 2048#32
  let c0_130_r0 : Index := 0#32
  ![v162_r0.toNat, 2048, 0]
def k0_off47 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let v169_r0 : Index := Scalar.indexCast v121_r0
  let c2560_r0 : Index := 2560#32
  let c0_134_r0 : Index := 0#32
  ![v169_r0.toNat, 2560, 0]
def k0_off48 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let v176_r0 : Index := Scalar.indexCast v121_r0
  let c3072_r0 : Index := 3072#32
  let c0_138_r0 : Index := 0#32
  ![v176_r0.toNat, 3072, 0]
def k0_off49 (k0_t1 : Fin k0_t1_loop.trips) : Fin 3 → Nat :=
  let c12_i32_101_r0 : BitVec 32 := 12#32
  let c0_i32_65_r0 : BitVec 32 := 0#32
  let c1_i32_66_r0 : BitVec 32 := 1#32
  let arg17_r0 : BitVec 32 := Scf.iv c0_i32_65_r0 c1_i32_66_r0 k0_t1
  let v120_r0 : BitVec 32 := Scalar.addi c12_i32_101_r0 arg17_r0
  let c4_i32_102_r0 : BitVec 32 := 4#32
  let v121_r0 : BitVec 32 := Scalar.remsi v120_r0 c4_i32_102_r0
  let v183_r0 : Index := Scalar.indexCast v121_r0
  let c3584_r0 : Index := 3584#32
  let c0_142_r0 : Index := 0#32
  ![v183_r0.toNat, 3584, 0]
def k0_mult15 (k0_t1 : Fin k0_t1_loop.trips) : BitVec 32 :=
  let c0_i32_65_r0 : BitVec 32 := 0#32
  let c1_i32_66_r0 : BitVec 32 := 1#32
  let arg17_r0 : BitVec 32 := Scf.iv c0_i32_65_r0 c1_i32_66_r0 k0_t1
  let c512_i32_146_r0 : BitVec 32 := 512#32
  let v189_r0 : BitVec 32 := Scalar.muli arg17_r0 c512_i32_146_r0
  let c0_i32_147_r0 : BitVec 32 := 0#32
  let v190_r0 : BitVec 32 := Scalar.addi v189_r0 c0_i32_147_r0
  v190_r0
def k0_off50 (k0_t1 : Fin k0_t1_loop.trips) (c0_i32_149_r0 : BitVec 32) : Fin 2 → Nat :=
  let c0_i32_65_r0 : BitVec 32 := 0#32
  let c1_i32_66_r0 : BitVec 32 := 1#32
  let arg17_r0 : BitVec 32 := Scf.iv c0_i32_65_r0 c1_i32_66_r0 k0_t1
  let c4_i32_148_r0 : BitVec 32 := 4#32
  let v193_r0 : BitVec 32 := Scalar.muli arg17_r0 c4_i32_148_r0
  let v194_r0 : BitVec 32 := Scalar.addi v193_r0 c0_i32_149_r0
  let v195_r0 : Index := Scalar.indexCast v194_r0
  let c0_150_r0 : Index := 0#32
  ![v195_r0.toNat, 0]
def k0_off51 (k0_t1 : Fin k0_t1_loop.trips) (c0_i32_147_r0 : BitVec 32) : Fin 2 → Nat :=
  let c0_151_r0 : Index := 0#32
  let c0_i32_65_r0 : BitVec 32 := 0#32
  let c1_i32_66_r0 : BitVec 32 := 1#32
  let arg17_r0 : BitVec 32 := Scf.iv c0_i32_65_r0 c1_i32_66_r0 k0_t1
  let c512_i32_146_r0 : BitVec 32 := 512#32
  let v189_r0 : BitVec 32 := Scalar.muli arg17_r0 c512_i32_146_r0
  let v190_r0 : BitVec 32 := Scalar.addi v189_r0 c0_i32_147_r0
  let v191_r0 : BitVec 32 := v190_r0
  let v200_r0 : Index := Scalar.indexCast v191_r0
  ![0, v200_r0.toNat]
def k0_mult16 (k0_t1 : Fin k0_t1_loop.trips) : BitVec 32 :=
  let c0_i32_65_r0 : BitVec 32 := 0#32
  let c1_i32_66_r0 : BitVec 32 := 1#32
  let arg17_r0 : BitVec 32 := Scf.iv c0_i32_65_r0 c1_i32_66_r0 k0_t1
  let c512_i32_153_r0 : BitVec 32 := 512#32
  let v212_r0 : BitVec 32 := Scalar.muli arg17_r0 c512_i32_153_r0
  let c128_i32_r0 : BitVec 32 := 128#32
  let v213_r0 : BitVec 32 := Scalar.addi v212_r0 c128_i32_r0
  v213_r0
def k0_mult17 (k0_t1 : Fin k0_t1_loop.trips) : BitVec 32 :=
  let c0_i32_65_r0 : BitVec 32 := 0#32
  let c1_i32_66_r0 : BitVec 32 := 1#32
  let arg17_r0 : BitVec 32 := Scf.iv c0_i32_65_r0 c1_i32_66_r0 k0_t1
  let c512_i32_159_r0 : BitVec 32 := 512#32
  let v235_r0 : BitVec 32 := Scalar.muli arg17_r0 c512_i32_159_r0
  let c256_i32_r0 : BitVec 32 := 256#32
  let v236_r0 : BitVec 32 := Scalar.addi v235_r0 c256_i32_r0
  v236_r0
def k0_mult18 (k0_t1 : Fin k0_t1_loop.trips) : BitVec 32 :=
  let c0_i32_65_r0 : BitVec 32 := 0#32
  let c1_i32_66_r0 : BitVec 32 := 1#32
  let arg17_r0 : BitVec 32 := Scf.iv c0_i32_65_r0 c1_i32_66_r0 k0_t1
  let c512_i32_165_r0 : BitVec 32 := 512#32
  let v258_r0 : BitVec 32 := Scalar.muli arg17_r0 c512_i32_165_r0
  let c384_i32_r0 : BitVec 32 := 384#32
  let v259_r0 : BitVec 32 := Scalar.addi v258_r0 c384_i32_r0
  v259_r0
@[reducible] def k0_t2_loop : Scf.Loop 32 :=
  let c0_i32_70_r0 : BitVec 32 := 0#32
  let c8_i32_r0 : BitVec 32 := 8#32
  let v86_r0 : BitVec 32 := Scalar.addi c0_i32_70_r0 c8_i32_r0
  let c1_i32_71_r0 : BitVec 32 := 1#32
  ⟨c0_i32_70_r0, v86_r0, c1_i32_71_r0⟩
def k0_mult19 (k0_t2 : Fin k0_t2_loop.trips) : BitVec 32 :=
  let c0_i32_70_r0 : BitVec 32 := 0#32
  let c1_i32_71_r0 : BitVec 32 := 1#32
  let arg17_r0 : BitVec 32 := Scf.iv c0_i32_70_r0 c1_i32_71_r0 k0_t2
  let c32_i32_r0 : BitVec 32 := 32#32
  let v120_r0 : BitVec 32 := Scalar.muli arg17_r0 c32_i32_r0
  v120_r0
def k0_off52 (k0_t2 : Fin k0_t2_loop.trips) : Fin 2 → Nat :=
  let c0_i32_70_r0 : BitVec 32 := 0#32
  let c1_i32_71_r0 : BitVec 32 := 1#32
  let arg17_r0 : BitVec 32 := Scf.iv c0_i32_70_r0 c1_i32_71_r0 k0_t2
  let c32_i32_r0 : BitVec 32 := 32#32
  let v120_r0 : BitVec 32 := Scalar.muli arg17_r0 c32_i32_r0
  let v121_r0 : BitVec 32 := v120_r0
  let v122_r0 : Index := Scalar.indexCast v121_r0
  let c0_101_r0 : Index := 0#32
  ![v122_r0.toNat, 0]
def k0_off53 (k0_t2 : Fin k0_t2_loop.trips) (c0_i32_106_r0 : BitVec 32) : Fin 2 → Nat :=
  let c0_i32_70_r0 : BitVec 32 := 0#32
  let c1_i32_71_r0 : BitVec 32 := 1#32
  let arg17_r0 : BitVec 32 := Scf.iv c0_i32_70_r0 c1_i32_71_r0 k0_t2
  let c32_i32_r0 : BitVec 32 := 32#32
  let v120_r0 : BitVec 32 := Scalar.muli arg17_r0 c32_i32_r0
  let v121_r0 : BitVec 32 := v120_r0
  let v132_r0 : Index := Scalar.indexCast v121_r0
  let c128_i32_r0 : BitVec 32 := 128#32
  let v131_r0 : BitVec 32 := Scalar.muli c0_i32_106_r0 c128_i32_r0
  let v133_r0 : Index := Scalar.indexCast v131_r0
  ![v132_r0.toNat, v133_r0.toNat]
@[reducible] def k0_t3_loop : Scf.Loop 32 :=
  let c0_i32_77_r0 : BitVec 32 := 0#32
  let c28_i32_r0 : BitVec 32 := 28#32
  let v92_r0 : BitVec 32 := Scalar.addi c0_i32_77_r0 c28_i32_r0
  let c1_i32_78_r0 : BitVec 32 := 1#32
  ⟨c0_i32_77_r0, v92_r0, c1_i32_78_r0⟩
def k0_mult20 : BitVec 32 :=
  let c0_i32_104_r0 : BitVec 32 := 0#32
  c0_i32_104_r0
def k0_off54 (k0_t3 : Fin k0_t3_loop.trips) : Fin 1 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c4_i32_103_r0 : BitVec 32 := 4#32
  let v122_r0 : BitVec 32 := Scalar.remsi v121_r0 c4_i32_103_r0
  ![v122_r0.toNat]
def k0_off55 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c4_i32_103_r0 : BitVec 32 := 4#32
  let v122_r0 : BitVec 32 := Scalar.remsi v121_r0 c4_i32_103_r0
  let c0_i32_105_r0 : BitVec 32 := 0#32
  let c0_i32_106_r0 : BitVec 32 := 0#32
  ![v122_r0.toNat, 0, 0]
def k0_mult21 : BitVec 32 :=
  let c0_i32_110_r0 : BitVec 32 := 0#32
  c0_i32_110_r0
def k0_off56 (k0_t3 : Fin k0_t3_loop.trips) : Fin 1 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c1_i32_108_r0 : BitVec 32 := 1#32
  let v129_r0 : BitVec 32 := Scalar.addi v121_r0 c1_i32_108_r0
  let c4_i32_109_r0 : BitVec 32 := 4#32
  let v130_r0 : BitVec 32 := Scalar.remsi v129_r0 c4_i32_109_r0
  ![v130_r0.toNat]
def k0_off57 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c1_i32_108_r0 : BitVec 32 := 1#32
  let v129_r0 : BitVec 32 := Scalar.addi v121_r0 c1_i32_108_r0
  let c4_i32_109_r0 : BitVec 32 := 4#32
  let v130_r0 : BitVec 32 := Scalar.remsi v129_r0 c4_i32_109_r0
  let c0_i32_111_r0 : BitVec 32 := 0#32
  let c0_i32_112_r0 : BitVec 32 := 0#32
  ![v130_r0.toNat, 0, 0]
def k0_mult22 (k0_t3 : Fin k0_t3_loop.trips) : BitVec 32 :=
  let c0_i32_77_r0 : BitVec 32 := 0#32
  let c1_i32_78_r0 : BitVec 32 := 1#32
  let arg17_r0 : BitVec 32 := Scf.iv c0_i32_77_r0 c1_i32_78_r0 k0_t3
  let c512_i32_115_r0 : BitVec 32 := 512#32
  let v138_r0 : BitVec 32 := Scalar.muli arg17_r0 c512_i32_115_r0
  v138_r0
def k0_off58 (k0_t3 : Fin k0_t3_loop.trips) (c1_i32_116_r0 : BitVec 32) : Fin 1 → Nat :=
  let c0_i32_77_r0 : BitVec 32 := 0#32
  let c1_i32_78_r0 : BitVec 32 := 1#32
  let arg17_r0 : BitVec 32 := Scf.iv c0_i32_77_r0 c1_i32_78_r0 k0_t3
  let c2_i32_114_r0 : BitVec 32 := 2#32
  let v137_r0 : BitVec 32 := Scalar.remsi arg17_r0 c2_i32_114_r0
  let v140_r0 : BitVec 32 := Scalar.addi c1_i32_116_r0 v137_r0
  ![v140_r0.toNat]
def k0_off59 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_114_r0 : BitVec 32 := 2#32
  let v137_r0 : BitVec 32 := Scalar.remsi arg17_r0 c2_i32_114_r0
  let c0_i32_117_r0 : BitVec 32 := 0#32
  let c0_i32_118_r0 : BitVec 32 := 0#32
  ![v137_r0.toNat, 0, 0]
def k0_off60 (k0_t3 : Fin k0_t3_loop.trips) : Fin 2 → Nat :=
  let c0_i32_77_r0 : BitVec 32 := 0#32
  let c1_i32_78_r0 : BitVec 32 := 1#32
  let arg17_r0 : BitVec 32 := Scf.iv c0_i32_77_r0 c1_i32_78_r0 k0_t3
  let c512_i32_115_r0 : BitVec 32 := 512#32
  let v138_r0 : BitVec 32 := Scalar.muli arg17_r0 c512_i32_115_r0
  let v139_r0 : BitVec 32 := v138_r0
  let c0_i32_119_r0 : BitVec 32 := 0#32
  ![v139_r0.toNat, 0]
def k0_cond14 (k0_t3 : Fin k0_t3_loop.trips) : BitVec 1 :=
  let c0_i32_77_r0 : BitVec 32 := 0#32
  let c1_i32_78_r0 : BitVec 32 := 1#32
  let arg17_r0 : BitVec 32 := Scf.iv c0_i32_77_r0 c1_i32_78_r0 k0_t3
  let c1_i32_120_r0 : BitVec 32 := 1#32
  let v146_r0 : BitVec 32 := Scalar.addi arg17_r0 c1_i32_120_r0
  let c28_i32_121_r0 : BitVec 32 := 28#32
  let v147_r0 : BitVec 1 := Scalar.cmpi .slt v146_r0 c28_i32_121_r0
  let v148_r0 : BitVec 32 := Scalar.extui v147_r0
  let c0_i32_122_r0 : BitVec 32 := 0#32
  let v149_r0 : BitVec 1 := Scalar.cmpi .ne v148_r0 c0_i32_122_r0
  v149_r0

def k0_mult23 (k0_t3 : Fin k0_t3_loop.trips) : BitVec 32 :=
  let c0_i32_77_r0 : BitVec 32 := 0#32
  let c1_i32_78_r0 : BitVec 32 := 1#32
  let arg17_r0 : BitVec 32 := Scf.iv c0_i32_77_r0 c1_i32_78_r0 k0_t3
  let c1_i32_276_r0 : BitVec 32 := 1#32
  let v452_r0 : BitVec 32 := Scalar.addi arg17_r0 c1_i32_276_r0
  let c512_i32_278_r0 : BitVec 32 := 512#32
  let v454_r0 : BitVec 32 := Scalar.muli v452_r0 c512_i32_278_r0
  v454_r0
def k0_off61 (k0_t3 : Fin k0_t3_loop.trips) : Fin 1 → Nat :=
  let c1_i32_279_r0 : BitVec 32 := 1#32
  let c0_i32_77_r0 : BitVec 32 := 0#32
  let c1_i32_78_r0 : BitVec 32 := 1#32
  let arg17_r0 : BitVec 32 := Scf.iv c0_i32_77_r0 c1_i32_78_r0 k0_t3
  let c1_i32_276_r0 : BitVec 32 := 1#32
  let v452_r0 : BitVec 32 := Scalar.addi arg17_r0 c1_i32_276_r0
  let c2_i32_277_r0 : BitVec 32 := 2#32
  let v453_r0 : BitVec 32 := Scalar.remsi v452_r0 c2_i32_277_r0
  let v456_r0 : BitVec 32 := Scalar.addi c1_i32_279_r0 v453_r0
  ![v456_r0.toNat]
def k0_off62 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c1_i32_276_r0 : BitVec 32 := 1#32
  let v452_r0 : BitVec 32 := Scalar.addi arg17_r0 c1_i32_276_r0
  let c2_i32_277_r0 : BitVec 32 := 2#32
  let v453_r0 : BitVec 32 := Scalar.remsi v452_r0 c2_i32_277_r0
  let c0_i32_280_r0 : BitVec 32 := 0#32
  let c0_i32_281_r0 : BitVec 32 := 0#32
  ![v453_r0.toNat, 0, 0]
def k0_off63 (k0_t3 : Fin k0_t3_loop.trips) : Fin 2 → Nat :=
  let c0_i32_77_r0 : BitVec 32 := 0#32
  let c1_i32_78_r0 : BitVec 32 := 1#32
  let arg17_r0 : BitVec 32 := Scf.iv c0_i32_77_r0 c1_i32_78_r0 k0_t3
  let c1_i32_276_r0 : BitVec 32 := 1#32
  let v452_r0 : BitVec 32 := Scalar.addi arg17_r0 c1_i32_276_r0
  let c512_i32_278_r0 : BitVec 32 := 512#32
  let v454_r0 : BitVec 32 := Scalar.muli v452_r0 c512_i32_278_r0
  let v455_r0 : BitVec 32 := v454_r0
  let c0_i32_282_r0 : BitVec 32 := 0#32
  ![v455_r0.toNat, 0]
def k0_cond15 (k0_t3 : Fin k0_t3_loop.trips) : BitVec 1 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c12_i32_126_r0 : BitVec 32 := 12#32
  let v153_r0 : BitVec 1 := Scalar.cmpi .sge v151_r0 c12_i32_126_r0
  let c22_i32_127_r0 : BitVec 32 := 22#32
  let v154_r0 : BitVec 1 := Scalar.cmpi .slt v151_r0 c22_i32_127_r0
  let v155_r0 : BitVec 1 := Scalar.andi v153_r0 v154_r0
  let v156_r0 : BitVec 32 := Scalar.extui v155_r0
  let c0_i32_128_r0 : BitVec 32 := 0#32
  let v157_r0 : BitVec 1 := Scalar.cmpi .ne v156_r0 c0_i32_128_r0
  v157_r0

def k0_mult24 (k0_t3 : Fin k0_t3_loop.trips) : BitVec 32 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c12_i32_276_r0 : BitVec 32 := 12#32
  let v452_r0 : BitVec 32 := Scalar.subi v151_r0 c12_i32_276_r0
  let c512_i32_277_r0 : BitVec 32 := 512#32
  let v453_r0 : BitVec 32 := Scalar.muli v452_r0 c512_i32_277_r0
  v453_r0
def k0_off64 (k0_t3 : Fin k0_t3_loop.trips) : Fin 1 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c4_i32_125_r0 : BitVec 32 := 4#32
  let v152_r0 : BitVec 32 := Scalar.remsi v151_r0 c4_i32_125_r0
  ![v152_r0.toNat]
def k0_off65 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c4_i32_125_r0 : BitVec 32 := 4#32
  let v152_r0 : BitVec 32 := Scalar.remsi v151_r0 c4_i32_125_r0
  let c0_i32_278_r0 : BitVec 32 := 0#32
  let c0_i32_279_r0 : BitVec 32 := 0#32
  ![v152_r0.toNat, 0, 0]
def k0_off66 (k0_t3 : Fin k0_t3_loop.trips) : Fin 2 → Nat :=
  let c0_i32_280_r0 : BitVec 32 := 0#32
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c12_i32_276_r0 : BitVec 32 := 12#32
  let v452_r0 : BitVec 32 := Scalar.subi v151_r0 c12_i32_276_r0
  let c512_i32_277_r0 : BitVec 32 := 512#32
  let v453_r0 : BitVec 32 := Scalar.muli v452_r0 c512_i32_277_r0
  let v454_r0 : BitVec 32 := v453_r0
  ![0, v454_r0.toNat]
def k0_cond16 (k0_t3 : Fin k0_t3_loop.trips) : BitVec 1 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c22_i32_129_r0 : BitVec 32 := 22#32
  let v158_r0 : BitVec 32 := Scalar.subi v151_r0 c22_i32_129_r0
  let c0_i32_130_r0 : BitVec 32 := 0#32
  let v159_r0 : BitVec 1 := Scalar.cmpi .sge v158_r0 c0_i32_130_r0
  let c56_i32_131_r0 : BitVec 32 := 56#32
  let v160_r0 : BitVec 1 := Scalar.cmpi .slt v158_r0 c56_i32_131_r0
  let v161_r0 : BitVec 1 := Scalar.andi v159_r0 v160_r0
  let c1_i32_132_r0 : BitVec 32 := 1#32
  let v162_r0 : BitVec 32 := Scalar.andi v158_r0 c1_i32_132_r0
  let c0_i32_133_r0 : BitVec 32 := 0#32
  let v163_r0 : BitVec 1 := Scalar.cmpi .eq v162_r0 c0_i32_133_r0
  let v164_r0 : BitVec 1 := Scalar.andi v161_r0 v163_r0
  let v165_r0 : BitVec 32 := Scalar.extui v164_r0
  let c0_i32_134_r0 : BitVec 32 := 0#32
  let v166_r0 : BitVec 1 := Scalar.cmpi .ne v165_r0 c0_i32_134_r0
  v166_r0

def k0_mult25 (k0_t3 : Fin k0_t3_loop.trips) : BitVec 32 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c22_i32_129_r0 : BitVec 32 := 22#32
  let v158_r0 : BitVec 32 := Scalar.subi v151_r0 c22_i32_129_r0
  let c1_i32_276_r0 : BitVec 32 := 1#32
  let v452_r0 : BitVec 32 := Scalar.shrsi v158_r0 c1_i32_276_r0
  let c512_i32_277_r0 : BitVec 32 := 512#32
  let v453_r0 : BitVec 32 := Scalar.muli v452_r0 c512_i32_277_r0
  v453_r0
def k0_off67 (k0_t3 : Fin k0_t3_loop.trips) : Fin 1 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c4_i32_125_r0 : BitVec 32 := 4#32
  let v152_r0 : BitVec 32 := Scalar.remsi v151_r0 c4_i32_125_r0
  ![v152_r0.toNat]
def k0_off68 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c4_i32_125_r0 : BitVec 32 := 4#32
  let v152_r0 : BitVec 32 := Scalar.remsi v151_r0 c4_i32_125_r0
  let c0_i32_278_r0 : BitVec 32 := 0#32
  let c0_i32_279_r0 : BitVec 32 := 0#32
  ![v152_r0.toNat, 0, 0]
def k0_off69 (k0_t3 : Fin k0_t3_loop.trips) : Fin 2 → Nat :=
  let c0_i32_280_r0 : BitVec 32 := 0#32
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c22_i32_129_r0 : BitVec 32 := 22#32
  let v158_r0 : BitVec 32 := Scalar.subi v151_r0 c22_i32_129_r0
  let c1_i32_276_r0 : BitVec 32 := 1#32
  let v452_r0 : BitVec 32 := Scalar.shrsi v158_r0 c1_i32_276_r0
  let c512_i32_277_r0 : BitVec 32 := 512#32
  let v453_r0 : BitVec 32 := Scalar.muli v452_r0 c512_i32_277_r0
  let v454_r0 : BitVec 32 := v453_r0
  ![0, v454_r0.toNat]
def k0_cond17 (k0_t3 : Fin k0_t3_loop.trips) : BitVec 1 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c22_i32_129_r0 : BitVec 32 := 22#32
  let v158_r0 : BitVec 32 := Scalar.subi v151_r0 c22_i32_129_r0
  let c0_i32_135_r0 : BitVec 32 := 0#32
  let v167_r0 : BitVec 1 := Scalar.cmpi .sge v158_r0 c0_i32_135_r0
  let c56_i32_136_r0 : BitVec 32 := 56#32
  let v168_r0 : BitVec 1 := Scalar.cmpi .slt v158_r0 c56_i32_136_r0
  let v169_r0 : BitVec 1 := Scalar.andi v167_r0 v168_r0
  let c1_i32_137_r0 : BitVec 32 := 1#32
  let v170_r0 : BitVec 32 := Scalar.andi v158_r0 c1_i32_137_r0
  let c1_i32_138_r0 : BitVec 32 := 1#32
  let v171_r0 : BitVec 1 := Scalar.cmpi .eq v170_r0 c1_i32_138_r0
  let v172_r0 : BitVec 1 := Scalar.andi v169_r0 v171_r0
  let v173_r0 : BitVec 32 := Scalar.extui v172_r0
  let c0_i32_139_r0 : BitVec 32 := 0#32
  let v174_r0 : BitVec 1 := Scalar.cmpi .ne v173_r0 c0_i32_139_r0
  v174_r0

def k0_mult26 (k0_t3 : Fin k0_t3_loop.trips) : BitVec 32 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c22_i32_129_r0 : BitVec 32 := 22#32
  let v158_r0 : BitVec 32 := Scalar.subi v151_r0 c22_i32_129_r0
  let c1_i32_276_r0 : BitVec 32 := 1#32
  let v452_r0 : BitVec 32 := Scalar.shrsi v158_r0 c1_i32_276_r0
  let c512_i32_277_r0 : BitVec 32 := 512#32
  let v453_r0 : BitVec 32 := Scalar.muli v452_r0 c512_i32_277_r0
  v453_r0
def k0_off70 (k0_t3 : Fin k0_t3_loop.trips) : Fin 1 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c4_i32_125_r0 : BitVec 32 := 4#32
  let v152_r0 : BitVec 32 := Scalar.remsi v151_r0 c4_i32_125_r0
  ![v152_r0.toNat]
def k0_off71 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c4_i32_125_r0 : BitVec 32 := 4#32
  let v152_r0 : BitVec 32 := Scalar.remsi v151_r0 c4_i32_125_r0
  let c0_i32_278_r0 : BitVec 32 := 0#32
  let c0_i32_279_r0 : BitVec 32 := 0#32
  ![v152_r0.toNat, 0, 0]
def k0_off72 (k0_t3 : Fin k0_t3_loop.trips) : Fin 2 → Nat :=
  let c0_i32_280_r0 : BitVec 32 := 0#32
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_123_r0 : BitVec 32 := 2#32
  let v150_r0 : BitVec 32 := Scalar.addi v121_r0 c2_i32_123_r0
  let c0_i32_124_r0 : BitVec 32 := 0#32
  let v151_r0 : BitVec 32 := Scalar.addi v150_r0 c0_i32_124_r0
  let c22_i32_129_r0 : BitVec 32 := 22#32
  let v158_r0 : BitVec 32 := Scalar.subi v151_r0 c22_i32_129_r0
  let c1_i32_276_r0 : BitVec 32 := 1#32
  let v452_r0 : BitVec 32 := Scalar.shrsi v158_r0 c1_i32_276_r0
  let c512_i32_277_r0 : BitVec 32 := 512#32
  let v453_r0 : BitVec 32 := Scalar.muli v452_r0 c512_i32_277_r0
  let v454_r0 : BitVec 32 := v453_r0
  ![0, v454_r0.toNat]
def k0_cond18 (k0_t3 : Fin k0_t3_loop.trips) : BitVec 1 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c12_i32_143_r0 : BitVec 32 := 12#32
  let v178_r0 : BitVec 1 := Scalar.cmpi .sge v176_r0 c12_i32_143_r0
  let c22_i32_144_r0 : BitVec 32 := 22#32
  let v179_r0 : BitVec 1 := Scalar.cmpi .slt v176_r0 c22_i32_144_r0
  let v180_r0 : BitVec 1 := Scalar.andi v178_r0 v179_r0
  let v181_r0 : BitVec 32 := Scalar.extui v180_r0
  let c0_i32_145_r0 : BitVec 32 := 0#32
  let v182_r0 : BitVec 1 := Scalar.cmpi .ne v181_r0 c0_i32_145_r0
  v182_r0

def k0_mult27 (k0_t3 : Fin k0_t3_loop.trips) : BitVec 32 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c12_i32_276_r0 : BitVec 32 := 12#32
  let v452_r0 : BitVec 32 := Scalar.subi v176_r0 c12_i32_276_r0
  let c512_i32_277_r0 : BitVec 32 := 512#32
  let v453_r0 : BitVec 32 := Scalar.muli v452_r0 c512_i32_277_r0
  v453_r0
def k0_off73 (k0_t3 : Fin k0_t3_loop.trips) : Fin 1 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c4_i32_142_r0 : BitVec 32 := 4#32
  let v177_r0 : BitVec 32 := Scalar.remsi v176_r0 c4_i32_142_r0
  ![v177_r0.toNat]
def k0_off74 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c4_i32_142_r0 : BitVec 32 := 4#32
  let v177_r0 : BitVec 32 := Scalar.remsi v176_r0 c4_i32_142_r0
  let c0_i32_278_r0 : BitVec 32 := 0#32
  let c0_i32_279_r0 : BitVec 32 := 0#32
  ![v177_r0.toNat, 0, 0]
def k0_off75 (k0_t3 : Fin k0_t3_loop.trips) : Fin 2 → Nat :=
  let c0_i32_280_r0 : BitVec 32 := 0#32
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c12_i32_276_r0 : BitVec 32 := 12#32
  let v452_r0 : BitVec 32 := Scalar.subi v176_r0 c12_i32_276_r0
  let c512_i32_277_r0 : BitVec 32 := 512#32
  let v453_r0 : BitVec 32 := Scalar.muli v452_r0 c512_i32_277_r0
  let v454_r0 : BitVec 32 := v453_r0
  ![0, v454_r0.toNat]
def k0_cond19 (k0_t3 : Fin k0_t3_loop.trips) : BitVec 1 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c22_i32_146_r0 : BitVec 32 := 22#32
  let v183_r0 : BitVec 32 := Scalar.subi v176_r0 c22_i32_146_r0
  let c0_i32_147_r0 : BitVec 32 := 0#32
  let v184_r0 : BitVec 1 := Scalar.cmpi .sge v183_r0 c0_i32_147_r0
  let c56_i32_148_r0 : BitVec 32 := 56#32
  let v185_r0 : BitVec 1 := Scalar.cmpi .slt v183_r0 c56_i32_148_r0
  let v186_r0 : BitVec 1 := Scalar.andi v184_r0 v185_r0
  let c1_i32_149_r0 : BitVec 32 := 1#32
  let v187_r0 : BitVec 32 := Scalar.andi v183_r0 c1_i32_149_r0
  let c0_i32_150_r0 : BitVec 32 := 0#32
  let v188_r0 : BitVec 1 := Scalar.cmpi .eq v187_r0 c0_i32_150_r0
  let v189_r0 : BitVec 1 := Scalar.andi v186_r0 v188_r0
  let v190_r0 : BitVec 32 := Scalar.extui v189_r0
  let c0_i32_151_r0 : BitVec 32 := 0#32
  let v191_r0 : BitVec 1 := Scalar.cmpi .ne v190_r0 c0_i32_151_r0
  v191_r0

def k0_mult28 (k0_t3 : Fin k0_t3_loop.trips) : BitVec 32 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c22_i32_146_r0 : BitVec 32 := 22#32
  let v183_r0 : BitVec 32 := Scalar.subi v176_r0 c22_i32_146_r0
  let c1_i32_276_r0 : BitVec 32 := 1#32
  let v452_r0 : BitVec 32 := Scalar.shrsi v183_r0 c1_i32_276_r0
  let c512_i32_277_r0 : BitVec 32 := 512#32
  let v453_r0 : BitVec 32 := Scalar.muli v452_r0 c512_i32_277_r0
  v453_r0
def k0_off76 (k0_t3 : Fin k0_t3_loop.trips) : Fin 1 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c4_i32_142_r0 : BitVec 32 := 4#32
  let v177_r0 : BitVec 32 := Scalar.remsi v176_r0 c4_i32_142_r0
  ![v177_r0.toNat]
def k0_off77 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c4_i32_142_r0 : BitVec 32 := 4#32
  let v177_r0 : BitVec 32 := Scalar.remsi v176_r0 c4_i32_142_r0
  let c0_i32_278_r0 : BitVec 32 := 0#32
  let c0_i32_279_r0 : BitVec 32 := 0#32
  ![v177_r0.toNat, 0, 0]
def k0_off78 (k0_t3 : Fin k0_t3_loop.trips) : Fin 2 → Nat :=
  let c0_i32_280_r0 : BitVec 32 := 0#32
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c22_i32_146_r0 : BitVec 32 := 22#32
  let v183_r0 : BitVec 32 := Scalar.subi v176_r0 c22_i32_146_r0
  let c1_i32_276_r0 : BitVec 32 := 1#32
  let v452_r0 : BitVec 32 := Scalar.shrsi v183_r0 c1_i32_276_r0
  let c512_i32_277_r0 : BitVec 32 := 512#32
  let v453_r0 : BitVec 32 := Scalar.muli v452_r0 c512_i32_277_r0
  let v454_r0 : BitVec 32 := v453_r0
  ![0, v454_r0.toNat]
def k0_cond20 (k0_t3 : Fin k0_t3_loop.trips) : BitVec 1 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c22_i32_146_r0 : BitVec 32 := 22#32
  let v183_r0 : BitVec 32 := Scalar.subi v176_r0 c22_i32_146_r0
  let c0_i32_152_r0 : BitVec 32 := 0#32
  let v192_r0 : BitVec 1 := Scalar.cmpi .sge v183_r0 c0_i32_152_r0
  let c56_i32_153_r0 : BitVec 32 := 56#32
  let v193_r0 : BitVec 1 := Scalar.cmpi .slt v183_r0 c56_i32_153_r0
  let v194_r0 : BitVec 1 := Scalar.andi v192_r0 v193_r0
  let c1_i32_154_r0 : BitVec 32 := 1#32
  let v195_r0 : BitVec 32 := Scalar.andi v183_r0 c1_i32_154_r0
  let c1_i32_155_r0 : BitVec 32 := 1#32
  let v196_r0 : BitVec 1 := Scalar.cmpi .eq v195_r0 c1_i32_155_r0
  let v197_r0 : BitVec 1 := Scalar.andi v194_r0 v196_r0
  let v198_r0 : BitVec 32 := Scalar.extui v197_r0
  let c0_i32_156_r0 : BitVec 32 := 0#32
  let v199_r0 : BitVec 1 := Scalar.cmpi .ne v198_r0 c0_i32_156_r0
  v199_r0

def k0_mult29 (k0_t3 : Fin k0_t3_loop.trips) : BitVec 32 :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c22_i32_146_r0 : BitVec 32 := 22#32
  let v183_r0 : BitVec 32 := Scalar.subi v176_r0 c22_i32_146_r0
  let c1_i32_276_r0 : BitVec 32 := 1#32
  let v452_r0 : BitVec 32 := Scalar.shrsi v183_r0 c1_i32_276_r0
  let c512_i32_277_r0 : BitVec 32 := 512#32
  let v453_r0 : BitVec 32 := Scalar.muli v452_r0 c512_i32_277_r0
  v453_r0
def k0_off79 (k0_t3 : Fin k0_t3_loop.trips) : Fin 1 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c4_i32_142_r0 : BitVec 32 := 4#32
  let v177_r0 : BitVec 32 := Scalar.remsi v176_r0 c4_i32_142_r0
  ![v177_r0.toNat]
def k0_off80 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c4_i32_142_r0 : BitVec 32 := 4#32
  let v177_r0 : BitVec 32 := Scalar.remsi v176_r0 c4_i32_142_r0
  let c0_i32_278_r0 : BitVec 32 := 0#32
  let c0_i32_279_r0 : BitVec 32 := 0#32
  ![v177_r0.toNat, 0, 0]
def k0_off81 (k0_t3 : Fin k0_t3_loop.trips) : Fin 2 → Nat :=
  let c0_i32_280_r0 : BitVec 32 := 0#32
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c2_i32_140_r0 : BitVec 32 := 2#32
  let v175_r0 : BitVec 32 := Scalar.addi v121_r0 c2_i32_140_r0
  let c1_i32_141_r0 : BitVec 32 := 1#32
  let v176_r0 : BitVec 32 := Scalar.addi v175_r0 c1_i32_141_r0
  let c22_i32_146_r0 : BitVec 32 := 22#32
  let v183_r0 : BitVec 32 := Scalar.subi v176_r0 c22_i32_146_r0
  let c1_i32_276_r0 : BitVec 32 := 1#32
  let v452_r0 : BitVec 32 := Scalar.shrsi v183_r0 c1_i32_276_r0
  let c512_i32_277_r0 : BitVec 32 := 512#32
  let v453_r0 : BitVec 32 := Scalar.muli v452_r0 c512_i32_277_r0
  let v454_r0 : BitVec 32 := v453_r0
  ![0, v454_r0.toNat]
def k0_cond21 (k0_t3 : Fin k0_t3_loop.trips) : BitVec 1 :=
  let c0_i32_77_r0 : BitVec 32 := 0#32
  let c1_i32_78_r0 : BitVec 32 := 1#32
  let arg17_r0 : BitVec 32 := Scf.iv c0_i32_77_r0 c1_i32_78_r0 k0_t3
  let c2_i32_157_r0 : BitVec 32 := 2#32
  let v200_r0 : BitVec 1 := Scalar.cmpi .sge arg17_r0 c2_i32_157_r0
  let v201_r0 : BitVec 32 := Scalar.extui v200_r0
  let c0_i32_158_r0 : BitVec 32 := 0#32
  let v202_r0 : BitVec 1 := Scalar.cmpi .ne v201_r0 c0_i32_158_r0
  v202_r0

def k0_mult30 (k0_t3 : Fin k0_t3_loop.trips) : BitVec 32 :=
  let c0_i32_77_r0 : BitVec 32 := 0#32
  let c1_i32_78_r0 : BitVec 32 := 1#32
  let arg17_r0 : BitVec 32 := Scf.iv c0_i32_77_r0 c1_i32_78_r0 k0_t3
  let c2_i32_276_r0 : BitVec 32 := 2#32
  let v452_r0 : BitVec 32 := Scalar.subi arg17_r0 c2_i32_276_r0
  let c512_i32_278_r0 : BitVec 32 := 512#32
  let v454_r0 : BitVec 32 := Scalar.muli v452_r0 c512_i32_278_r0
  v454_r0
def k0_off82 (k0_t3 : Fin k0_t3_loop.trips) : Fin 1 → Nat :=
  let c3_i32_279_r0 : BitVec 32 := 3#32
  let c0_i32_77_r0 : BitVec 32 := 0#32
  let c1_i32_78_r0 : BitVec 32 := 1#32
  let arg17_r0 : BitVec 32 := Scf.iv c0_i32_77_r0 c1_i32_78_r0 k0_t3
  let c2_i32_276_r0 : BitVec 32 := 2#32
  let v452_r0 : BitVec 32 := Scalar.subi arg17_r0 c2_i32_276_r0
  let c2_i32_277_r0 : BitVec 32 := 2#32
  let v453_r0 : BitVec 32 := Scalar.remsi v452_r0 c2_i32_277_r0
  let v456_r0 : BitVec 32 := Scalar.addi c3_i32_279_r0 v453_r0
  ![v456_r0.toNat]
def k0_off83 (k0_t3 : Fin k0_t3_loop.trips) : Fin 2 → Nat :=
  let c0_i32_280_r0 : BitVec 32 := 0#32
  let c0_i32_77_r0 : BitVec 32 := 0#32
  let c1_i32_78_r0 : BitVec 32 := 1#32
  let arg17_r0 : BitVec 32 := Scf.iv c0_i32_77_r0 c1_i32_78_r0 k0_t3
  let c2_i32_276_r0 : BitVec 32 := 2#32
  let v452_r0 : BitVec 32 := Scalar.subi arg17_r0 c2_i32_276_r0
  let c512_i32_278_r0 : BitVec 32 := 512#32
  let v454_r0 : BitVec 32 := Scalar.muli v452_r0 c512_i32_278_r0
  let v455_r0 : BitVec 32 := v454_r0
  ![0, v455_r0.toNat]
def k0_off84 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_276_r0 : BitVec 32 := 2#32
  let v452_r0 : BitVec 32 := Scalar.subi arg17_r0 c2_i32_276_r0
  let c2_i32_277_r0 : BitVec 32 := 2#32
  let v453_r0 : BitVec 32 := Scalar.remsi v452_r0 c2_i32_277_r0
  let c0_i32_281_r0 : BitVec 32 := 0#32
  let c0_i32_282_r0 : BitVec 32 := 0#32
  ![v453_r0.toNat, 0, 0]
def k0_off85 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c4_i32_103_r0 : BitVec 32 := 4#32
  let v122_r0 : BitVec 32 := Scalar.remsi v121_r0 c4_i32_103_r0
  let v204_r0 : Index := Scalar.indexCast v122_r0
  let c0_161_r0 : Index := 0#32
  let c0_162_r0 : Index := 0#32
  ![v204_r0.toNat, 0, 0]
def k0_off86 (k0_t3 : Fin k0_t3_loop.trips) : Fin 3 → Nat :=
  let c22_i32_102_r0 : BitVec 32 := 22#32
  let c2_i32_101_r0 : BitVec 32 := 2#32
  let c0_i32_77_r0 : BitVec 32 := 0#32
  let c1_i32_78_r0 : BitVec 32 := 1#32
  let arg17_r0 : BitVec 32 := Scf.iv c0_i32_77_r0 c1_i32_78_r0 k0_t3
  let v120_r0 : BitVec 32 := Scalar.muli c2_i32_101_r0 arg17_r0
  let v121_r0 : BitVec 32 := Scalar.addi c22_i32_102_r0 v120_r0
  let c1_i32_108_r0 : BitVec 32 := 1#32
  let v129_r0 : BitVec 32 := Scalar.addi v121_r0 c1_i32_108_r0
  let c4_i32_109_r0 : BitVec 32 := 4#32
  let v130_r0 : BitVec 32 := Scalar.remsi v129_r0 c4_i32_109_r0
  let v209_r0 : Index := Scalar.indexCast v130_r0
  let c0_166_r0 : Index := 0#32
  let c0_167_r0 : Index := 0#32
  ![v209_r0.toNat, 0, 0]
def k0_off87 (k0_t3 : Fin k0_t3_loop.trips) (c0_i32_171_r0 : BitVec 32) : Fin 2 → Nat :=
  let c0_i32_77_r0 : BitVec 32 := 0#32
  let c1_i32_78_r0 : BitVec 32 := 1#32
  let arg17_r0 : BitVec 32 := Scf.iv c0_i32_77_r0 c1_i32_78_r0 k0_t3
  let c4_i32_170_r0 : BitVec 32 := 4#32
  let v215_r0 : BitVec 32 := Scalar.muli arg17_r0 c4_i32_170_r0
  let v216_r0 : BitVec 32 := Scalar.addi v215_r0 c0_i32_171_r0
  let v217_r0 : Index := Scalar.indexCast v216_r0
  let c0_172_r0 : Index := 0#32
  ![v217_r0.toNat, 0]
def k0_off88 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_169_r0 : BitVec 32 := 2#32
  let v213_r0 : BitVec 32 := Scalar.remsi arg17_r0 c2_i32_169_r0
  let v234_r0 : Index := Scalar.indexCast v213_r0
  let c0_176_r0 : Index := 0#32
  let c0_177_r0 : Index := 0#32
  ![v234_r0.toNat, 0, 0]
def k0_off89 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_169_r0 : BitVec 32 := 2#32
  let v213_r0 : BitVec 32 := Scalar.remsi arg17_r0 c2_i32_169_r0
  let v258_r0 : Index := Scalar.indexCast v213_r0
  let c0_184_r0 : Index := 0#32
  let c128_r0 : Index := 128#32
  ![v258_r0.toNat, 0, 128]
def k0_off90 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_169_r0 : BitVec 32 := 2#32
  let v213_r0 : BitVec 32 := Scalar.remsi arg17_r0 c2_i32_169_r0
  let v282_r0 : Index := Scalar.indexCast v213_r0
  let c0_191_r0 : Index := 0#32
  let c256_r0 : Index := 256#32
  ![v282_r0.toNat, 0, 256]
def k0_off91 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_169_r0 : BitVec 32 := 2#32
  let v213_r0 : BitVec 32 := Scalar.remsi arg17_r0 c2_i32_169_r0
  let v306_r0 : Index := Scalar.indexCast v213_r0
  let c0_198_r0 : Index := 0#32
  let c384_r0 : Index := 384#32
  ![v306_r0.toNat, 0, 384]
def k0_off92 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_169_r0 : BitVec 32 := 2#32
  let v213_r0 : BitVec 32 := Scalar.remsi arg17_r0 c2_i32_169_r0
  let v310_r0 : Index := Scalar.indexCast v213_r0
  let c0_199_r0 : Index := 0#32
  let c0_200_r0 : Index := 0#32
  ![v310_r0.toNat, 0, 0]
def k0_off93 (c0_i32_202_r0 : BitVec 32) : Fin 2 → Nat :=
  let c0_204_r0 : Index := 0#32
  let c512_i32_203_r0 : BitVec 32 := 512#32
  let v313_r0 : BitVec 32 := Scalar.muli c0_i32_202_r0 c512_i32_203_r0
  let v314_r0 : Index := Scalar.indexCast v313_r0
  ![0, v314_r0.toNat]
def k0_off94 (k0_t3 : Fin k0_t3_loop.trips) (c0_i32_202_r0 : BitVec 32) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_169_r0 : BitVec 32 := 2#32
  let v213_r0 : BitVec 32 := Scalar.remsi arg17_r0 c2_i32_169_r0
  let v316_r0 : Index := Scalar.indexCast v213_r0
  let c0_205_r0 : Index := 0#32
  let c512_i32_203_r0 : BitVec 32 := 512#32
  let v313_r0 : BitVec 32 := Scalar.muli c0_i32_202_r0 c512_i32_203_r0
  let v317_r0 : Index := Scalar.indexCast v313_r0
  ![v316_r0.toNat, 0, v317_r0.toNat]
def k0_mult31 (k0_t3 : Fin k0_t3_loop.trips) : BitVec 32 :=
  let c0_i32_77_r0 : BitVec 32 := 0#32
  let c1_i32_78_r0 : BitVec 32 := 1#32
  let arg17_r0 : BitVec 32 := Scf.iv c0_i32_77_r0 c1_i32_78_r0 k0_t3
  let c512_i32_270_r0 : BitVec 32 := 512#32
  let v444_r0 : BitVec 32 := Scalar.muli arg17_r0 c512_i32_270_r0
  v444_r0
def k0_off95 (k0_t3 : Fin k0_t3_loop.trips) : Fin 2 → Nat :=
  let c0_i32_272_r0 : BitVec 32 := 0#32
  let c0_i32_77_r0 : BitVec 32 := 0#32
  let c1_i32_78_r0 : BitVec 32 := 1#32
  let arg17_r0 : BitVec 32 := Scf.iv c0_i32_77_r0 c1_i32_78_r0 k0_t3
  let c512_i32_270_r0 : BitVec 32 := 512#32
  let v444_r0 : BitVec 32 := Scalar.muli arg17_r0 c512_i32_270_r0
  let v445_r0 : BitVec 32 := v444_r0
  ![0, v445_r0.toNat]
def k0_off96 (k0_t3 : Fin k0_t3_loop.trips) : Fin 3 → Nat :=
  let c0_i32_77_r0 : BitVec 32 := 0#32
  let c1_i32_78_r0 : BitVec 32 := 1#32
  let arg17_r0 : BitVec 32 := Scf.iv c0_i32_77_r0 c1_i32_78_r0 k0_t3
  let c2_i32_269_r0 : BitVec 32 := 2#32
  let v443_r0 : BitVec 32 := Scalar.remsi arg17_r0 c2_i32_269_r0
  let c0_i32_273_r0 : BitVec 32 := 0#32
  let c0_i32_274_r0 : BitVec 32 := 0#32
  ![v443_r0.toNat, 0, 0]
def k0_mult32 : BitVec 32 :=
  let c26_i32_82_r0 : BitVec 32 := 26#32
  let c512_i32_83_r0 : BitVec 32 := 512#32
  let v97_r0 : BitVec 32 := Scalar.muli c26_i32_82_r0 c512_i32_83_r0
  v97_r0
def k0_off97 (c26_i32_82_r0 : BitVec 32) : Fin 2 → Nat :=
  let c0_i32_84_r0 : BitVec 32 := 0#32
  let c512_i32_83_r0 : BitVec 32 := 512#32
  let v97_r0 : BitVec 32 := Scalar.muli c26_i32_82_r0 c512_i32_83_r0
  let v98_r0 : BitVec 32 := v97_r0
  ![0, v98_r0.toNat]
def k0_off98 (c26_i32_r0 : BitVec 32) : Fin 3 → Nat :=
  let c2_i32_81_r0 : BitVec 32 := 2#32
  let v96_r0 : BitVec 32 := Scalar.remsi c26_i32_r0 c2_i32_81_r0
  let c0_i32_85_r0 : BitVec 32 := 0#32
  let c0_i32_86_r0 : BitVec 32 := 0#32
  ![v96_r0.toNat, 0, 0]
def k0_mult33 : BitVec 32 :=
  let c27_i32_88_r0 : BitVec 32 := 27#32
  let c512_i32_89_r0 : BitVec 32 := 512#32
  let v106_r0 : BitVec 32 := Scalar.muli c27_i32_88_r0 c512_i32_89_r0
  v106_r0
@[reducible] def k0_t4_loop : Scf.Loop 32 :=
  let c0_i32_95_r0 : BitVec 32 := 0#32
  let c8_i32_96_r0 : BitVec 32 := 8#32
  let v114_r0 : BitVec 32 := Scalar.addi c0_i32_95_r0 c8_i32_96_r0
  let c1_i32_97_r0 : BitVec 32 := 1#32
  ⟨c0_i32_95_r0, v114_r0, c1_i32_97_r0⟩
def k0_mult34 (k0_t4 : Fin k0_t4_loop.trips) : BitVec 32 :=
  let c0_i32_95_r0 : BitVec 32 := 0#32
  let c1_i32_97_r0 : BitVec 32 := 1#32
  let arg17_r0 : BitVec 32 := Scf.iv c0_i32_95_r0 c1_i32_97_r0 k0_t4
  let c32_i32_r0 : BitVec 32 := 32#32
  let v120_r0 : BitVec 32 := Scalar.muli arg17_r0 c32_i32_r0
  v120_r0
def k0_off99 (k0_t4 : Fin k0_t4_loop.trips) (c0_i32_102_r0 : BitVec 32) : Fin 2 → Nat :=
  let c0_i32_95_r0 : BitVec 32 := 0#32
  let c1_i32_97_r0 : BitVec 32 := 1#32
  let arg17_r0 : BitVec 32 := Scf.iv c0_i32_95_r0 c1_i32_97_r0 k0_t4
  let c32_i32_r0 : BitVec 32 := 32#32
  let v120_r0 : BitVec 32 := Scalar.muli arg17_r0 c32_i32_r0
  let v121_r0 : BitVec 32 := v120_r0
  let v123_r0 : Index := Scalar.indexCast v121_r0
  let c128_i32_r0 : BitVec 32 := 128#32
  let v122_r0 : BitVec 32 := Scalar.muli c0_i32_102_r0 c128_i32_r0
  let v124_r0 : Index := Scalar.indexCast v122_r0
  ![v123_r0.toNat, v124_r0.toNat]
abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S256x5120 : Shape := ⟨2, ![256, 5120]⟩
abbrev S256x32x128 : Shape := ⟨3, ![256, 32, 128]⟩
abbrev S5120 : Shape := ⟨1, ![5120]⟩
abbrev S4096x5120 : Shape := ⟨2, ![4096, 5120]⟩
abbrev S5120x14336 : Shape := ⟨2, ![5120, 14336]⟩
abbrev S14336 : Shape := ⟨1, ![14336]⟩
abbrev S14336x5120 : Shape := ⟨2, ![14336, 5120]⟩
abbrev S256x4096 : Shape := ⟨2, ![256, 4096]⟩
abbrev S1x5120 : Shape := ⟨2, ![1, 5120]⟩
abbrev S1x14336 : Shape := ⟨2, ![1, 14336]⟩
abbrev S256x14336 : Shape := ⟨2, ![256, 14336]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S256x5120, .bf16⟩
  | .hbm, ⟨1, _⟩ => ⟨S256x32x128, .bf16⟩
  | .hbm, ⟨2, _⟩ => ⟨S5120, .f32⟩
  | .hbm, ⟨3, _⟩ => ⟨S4096x5120, .fp8e4m3⟩
  | .hbm, ⟨4, _⟩ => ⟨S5120, .f32⟩
  | .hbm, ⟨5, _⟩ => ⟨S5120x14336, .fp8e4m3⟩
  | .hbm, ⟨6, _⟩ => ⟨S14336, .f32⟩
  | .hbm, ⟨7, _⟩ => ⟨S5120x14336, .fp8e4m3⟩
  | .hbm, ⟨8, _⟩ => ⟨S14336, .f32⟩
  | .hbm, ⟨9, _⟩ => ⟨S14336x5120, .fp8e4m3⟩
  | .hbm, ⟨10, _⟩ => ⟨S5120, .f32⟩
  | .hbm, ⟨11, _⟩ => ⟨S256x4096, .bf16⟩
  | .hbm, ⟨12, _⟩ => ⟨S1x5120, .f32⟩
  | .hbm, ⟨13, _⟩ => ⟨S1x5120, .f32⟩
  | .hbm, ⟨14, _⟩ => ⟨S1x14336, .f32⟩
  | .hbm, ⟨15, _⟩ => ⟨S1x14336, .f32⟩
  | .hbm, ⟨16, _⟩ => ⟨S1x5120, .f32⟩
  | .hbm, ⟨17, _⟩ => ⟨S256x5120, .bf16⟩
  | .hbm, ⟨18, _⟩ => ⟨S256x5120, .bf16⟩
  | .hbm, ⟨19, _⟩ => ⟨S256x14336, .bf16⟩
  | .local _ .vmem, ⟨0, _⟩ => ⟨S256x5120, .bf16⟩
  | .local _ .vmem, ⟨1, _⟩ => ⟨S256x4096, .bf16⟩
  | .local _ .vmem, ⟨2, _⟩ => ⟨S1x5120, .f32⟩
  | .local _ .vmem, ⟨3, _⟩ => ⟨S4096x5120, .fp8e4m3⟩
  | .local _ .vmem, ⟨4, _⟩ => ⟨S1x5120, .f32⟩
  | .local _ .vmem, ⟨5, _⟩ => ⟨S5120x14336, .fp8e4m3⟩
  | .local _ .vmem, ⟨6, _⟩ => ⟨S1x14336, .f32⟩
  | .local _ .vmem, ⟨7, _⟩ => ⟨S5120x14336, .fp8e4m3⟩
  | .local _ .vmem, ⟨8, _⟩ => ⟨S1x14336, .f32⟩
  | .local _ .vmem, ⟨9, _⟩ => ⟨S14336x5120, .fp8e4m3⟩
  | .local _ .vmem, ⟨10, _⟩ => ⟨S1x5120, .f32⟩
  | .local _ .vmem, ⟨11, _⟩ => ⟨S256x5120, .bf16⟩
  | .local _ .vmem, ⟨12, _⟩ => ⟨S256x5120, .bf16⟩
  | .local _ .vmem, ⟨13, _⟩ => ⟨S256x14336, .bf16⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x14336 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x14336 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x14336 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14336x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x5120 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x5120 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x14336 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== QKernel.lean ====
abbrev S256x5120 : Shape := ⟨2, ![256, 5120]⟩
abbrev S256 : Shape := ⟨1, ![256]⟩
abbrev S5120 : Shape := ⟨1, ![5120]⟩
abbrev S5120x6144 : Shape := ⟨2, ![5120, 6144]⟩
abbrev S6144 : Shape := ⟨1, ![6144]⟩
abbrev S64 : Shape := ⟨1, ![64]⟩
abbrev S_ : Shape := ⟨0, ![]⟩
abbrev S128 : Shape := ⟨1, ![128]⟩
abbrev S1x128 : Shape := ⟨2, ![1, 128]⟩
abbrev S256x1 : Shape := ⟨2, ![256, 1]⟩
abbrev S40x128 : Shape := ⟨2, ![40, 128]⟩
abbrev S48x128 : Shape := ⟨2, ![48, 128]⟩
abbrev S256x32x128 : Shape := ⟨3, ![256, 32, 128]⟩
abbrev S4x5120x512 : Shape := ⟨3, ![4, 5120, 512]⟩
abbrev S4 : Shape := ⟨1, ![4]⟩
abbrev S5 : Shape := ⟨1, ![5]⟩
abbrev S1 : Shape := ⟨1, ![1]⟩
abbrev S1x5120x512 : Shape := ⟨3, ![1, 5120, 512]⟩
abbrev S5120x512 : Shape := ⟨2, ![5120, 512]⟩
abbrev S8x592x128 : Shape := ⟨3, ![8, 592, 128]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S256x512 : Shape := ⟨2, ![256, 512]⟩
abbrev S1x592x128 : Shape := ⟨3, ![1, 592, 128]⟩
abbrev S592x128 : Shape := ⟨2, ![592, 128]⟩
abbrev S256x16x128 : Shape := ⟨3, ![256, 16, 128]⟩
abbrev S4096x128 : Shape := ⟨2, ![4096, 128]⟩
abbrev S256x2x128 : Shape := ⟨3, ![256, 2, 128]⟩
abbrev S256x1x128 : Shape := ⟨3, ![256, 1, 128]⟩

abbrev nBuf : Space → Nat
  | .hbm => 22
  | .vmem => 11
  | .smem => 0
  | _ => 0

abbrev bufTy : (tb : Table) → Fin (tcTables nBuf tb) → BufTy
  | .hbm, ⟨0, _⟩ => ⟨S256x5120, .bf16⟩
  | .hbm, ⟨1, _⟩ => ⟨S256, .i32⟩
  | .hbm, ⟨2, _⟩ => ⟨S5120, .f32⟩
  | .hbm, ⟨3, _⟩ => ⟨S5120x6144, .fp8e4m3⟩
  | .hbm, ⟨4, _⟩ => ⟨S6144, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S128, .f32⟩
  | .hbm, ⟨17, _⟩ => ⟨S1x128, .f32⟩
  | .hbm, ⟨18, _⟩ => ⟨S256x1, .i32⟩
  | .hbm, ⟨19, _⟩ => ⟨S40x128, .f32⟩
  | .hbm, ⟨20, _⟩ => ⟨S48x128, .f32⟩
  | .hbm, ⟨21, _⟩ => ⟨S256x32x128, .bf16⟩
  | .local _ .vmem, ⟨0, _⟩ => ⟨S256x5120, .bf16⟩
  | .local _ .vmem, ⟨1, _⟩ => ⟨S256x1, .i32⟩
  | .local _ .vmem, ⟨2, _⟩ => ⟨S1x128, .f32⟩
  | .local _ .vmem, ⟨3, _⟩ => ⟨S40x128, .f32⟩
  | .local _ .vmem, ⟨4, _⟩ => ⟨S48x128, .f32⟩
  | .local _ .vmem, ⟨5, _⟩ => ⟨S4x5120x512, .fp8e4m3⟩
  | .local _ .vmem, ⟨6, _⟩ => ⟨S8x592x128, .i32⟩
  | .local _ .vmem, ⟨7, _⟩ => ⟨S256x5120, .bf16⟩
  | .local _ .vmem, ⟨8, _⟩ => ⟨S256x32x128, .bf16⟩
  | .local _ .vmem, ⟨9, _⟩ => ⟨S256x128, .f32⟩
  | .local _ .vmem, ⟨10, _⟩ => ⟨S256x128, .f32⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scoped0 : Ref sig .tc := ⟨.vmem, 6, rfl⟩
abbrev cc0_scoped1 : Ref sig .tc := ⟨.vmem, 7, rfl⟩
abbrev cc0_scoped2 : Ref sig .tc := ⟨.vmem, 8, rfl⟩
abbrev cc0_scoped3 : Ref sig .tc := ⟨.vmem, 9, rfl⟩
abbrev cc0_scoped4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

def k0_cond1 : BitVec 1 :=
  let c0_i32_0 : BitVec 32 := 0#32
  let c8_i32 : BitVec 32 := 8#32
  let v1 : BitVec 1 := Scalar.cmpi .slt c0_i32_0 c8_i32
  let v2 : BitVec 32 := Scalar.extui v1
  let c0_i32_2 : BitVec 32 := 0#32
  let v3 : BitVec 1 := Scalar.cmpi .ne v2 c0_i32_2
  v3

def k0_mult1 : BitVec 32 :=
  let c0_i32_1 : BitVec 32 := 0#32
  let c512_i32 : BitVec 32 := 512#32
  let v12 : BitVec 32 := Scalar.muli c0_i32_1 c512_i32
  v12
def k0_off1 : Fin 1 → Nat :=
  let c0_i32 : BitVec 32 := 0#32
  let c4_i32 : BitVec 32 := 4#32
  let v0 : BitVec 32 := Scalar.remsi c0_i32 c4_i32
  ![v0.toNat]
def k0_off2 : Fin 3 → Nat :=
  let c0_i32 : BitVec 32 := 0#32
  let c4_i32 : BitVec 32 := 4#32
  let v0 : BitVec 32 := Scalar.remsi c0_i32 c4_i32
  let c0_i32_13 : BitVec 32 := 0#32
  let c0_i32_14 : BitVec 32 := 0#32
  ![v0.toNat, 0, 0]
def k0_off3 : Fin 2 → Nat :=
  let c0_i32_15 : BitVec 32 := 0#32
  let c0_i32_1 : BitVec 32 := 0#32
  let c512_i32 : BitVec 32 := 512#32
  let v12 : BitVec 32 := Scalar.muli c0_i32_1 c512_i32
  let v13 : BitVec 32 := v12
  ![0, v13.toNat]
def k0_cond2 : BitVec 1 :=
  let c1_i32_4 : BitVec 32 := 1#32
  let c8_i32_5 : BitVec 32 := 8#32
  let v5 : BitVec 1 := Scalar.cmpi .slt c1_i32_4 c8_i32_5
  let v6 : BitVec 32 := Scalar.extui v5
  let c0_i32_7 : BitVec 32 := 0#32
  let v7 : BitVec 1 := Scalar.cmpi .ne v6 c0_i32_7
  v7

def k0_mult2 : BitVec 32 :=
  let c1_i32_6 : BitVec 32 := 1#32
  let c512_i32 : BitVec 32 := 512#32
  let v12 : BitVec 32 := Scalar.muli c1_i32_6 c512_i32
  v12
def k0_off4 : Fin 1 → Nat :=
  let c1_i32 : BitVec 32 := 1#32
  let c4_i32_3 : BitVec 32 := 4#32
  let v4 : BitVec 32 := Scalar.remsi c1_i32 c4_i32_3
  ![v4.toNat]
def k0_off5 : Fin 3 → Nat :=
  let c1_i32 : BitVec 32 := 1#32
  let c4_i32_3 : BitVec 32 := 4#32
  let v4 : BitVec 32 := Scalar.remsi c1_i32 c4_i32_3
  let c0_i32_13 : BitVec 32 := 0#32
  let c0_i32_14 : BitVec 32 := 0#32
  ![v4.toNat, 0, 0]
def k0_off6 : Fin 2 → Nat :=
  let c0_i32_15 : BitVec 32 := 0#32
  let c1_i32_6 : BitVec 32 := 1#32
  let c512_i32 : BitVec 32 := 512#32
  let v12 : BitVec 32 := Scalar.muli c1_i32_6 c512_i32
  let v13 : BitVec 32 := v12
  ![0, v13.toNat]
def k0_cond3 : BitVec 1 :=
  let c2_i32_9 : BitVec 32 := 2#32
  let c8_i32_10 : BitVec 32 := 8#32
  let v9 : BitVec 1 := Scalar.cmpi .slt c2_i32_9 c8_i32_10
  let v10 : BitVec 32 := Scalar.extui v9
  let c0_i32_12 : BitVec 32 := 0#32
  let v11 : BitVec 1 := Scalar.cmpi .ne v10 c0_i32_12
  v11

def k0_mult3 : BitVec 32 :=
  let c2_i32_11 : BitVec 32 := 2#32
  let c512_i32 : BitVec 32 := 512#32
  let v12 : BitVec 32 := Scalar.muli c2_i32_11 c512_i32
  v12
def k0_off7 : Fin 1 → Nat :=
  let c2_i32 : BitVec 32 := 2#32
  let c4_i32_8 : BitVec 32 := 4#32
  let v8 : BitVec 32 := Scalar.remsi c2_i32 c4_i32_8
  ![v8.toNat]
def k0_off8 : Fin 3 → Nat :=
  let c2_i32 : BitVec 32 := 2#32
  let c4_i32_8 : BitVec 32 := 4#32
  let v8 : BitVec 32 := Scalar.remsi c2_i32 c4_i32_8
  let c0_i32_13 : BitVec 32 := 0#32
  let c0_i32_14 : BitVec 32 := 0#32
  ![v8.toNat, 0, 0]
def k0_off9 : Fin 2 → Nat :=
  let c0_i32_15 : BitVec 32 := 0#32
  let c2_i32_11 : BitVec 32 := 2#32
  let c512_i32 : BitVec 32 := 512#32
  let v12 : BitVec 32 := Scalar.muli c2_i32_11 c512_i32
  let v13 : BitVec 32 := v12
  ![0, v13.toNat]
@[reducible] def k0_t1_loop : Scf.Loop 32 :=
  let c0_i32_18_r1 : BitVec 32 := 0#32
  let c8_i32_19_r1 : BitVec 32 := 8#32
  let v12_r1 : BitVec 32 := Scalar.addi c0_i32_18_r1 c8_i32_19_r1
  let c1_i32_20_r1 : BitVec 32 := 1#32
  ⟨c0_i32_18_r1, v12_r1, c1_i32_20_r1⟩
def k0_mult4 (k0_t1 : Fin k0_t1_loop.trips) : BitVec 32 :=
  let c0_i32_18_r1 : BitVec 32 := 0#32
  let c1_i32_20_r1 : BitVec 32 := 1#32
  let arg10_r1 : BitVec 32 := Scf.iv c0_i32_18_r1 c1_i32_20_r1 k0_t1
  let c32_i32_r1 : BitVec 32 := 32#32
  let v170_r1 : BitVec 32 := Scalar.muli arg10_r1 c32_i32_r1
  v170_r1
def k0_off10 (k0_t1 : Fin k0_t1_loop.trips) (c0_i32_130_r1 : BitVec 32) : Fin 2 → Nat :=
  let c0_i32_18_r1 : BitVec 32 := 0#32
  let c1_i32_20_r1 : BitVec 32 := 1#32
  let arg10_r1 : BitVec 32 := Scf.iv c0_i32_18_r1 c1_i32_20_r1 k0_t1
  let c32_i32_r1 : BitVec 32 := 32#32
  let v170_r1 : BitVec 32 := Scalar.muli arg10_r1 c32_i32_r1
  let v171_r1 : BitVec 32 := v170_r1
  let v174_r1 : Index := Scalar.indexCast v171_r1
  let c128_i32_r1 : BitVec 32 := 128#32
  let v173_r1 : BitVec 32 := Scalar.muli c0_i32_130_r1 c128_i32_r1
  let v175_r1 : Index := Scalar.indexCast v173_r1
  ![v174_r1.toNat, v175_r1.toNat]
@[reducible] def k0_t2_loop : Scf.Loop 32 :=
  let c0_i32_30_r1 : BitVec 32 := 0#32
  let c8_i32_31_r1 : BitVec 32 := 8#32
  let v36_r1 : BitVec 32 := Scalar.addi c0_i32_30_r1 c8_i32_31_r1
  let c1_i32_32_r1 : BitVec 32 := 1#32
  ⟨c0_i32_30_r1, v36_r1, c1_i32_32_r1⟩
def k0_mult5 : BitVec 32 :=
  let c0_i32_130_r1 : BitVec 32 := 0#32
  c0_i32_130_r1
def k0_off11 (k0_t2 : Fin k0_t2_loop.trips) : Fin 1 → Nat :=
  let c0_i32_30_r1 : BitVec 32 := 0#32
  let c1_i32_32_r1 : BitVec 32 := 1#32
  let arg10_r1 : BitVec 32 := Scf.iv c0_i32_30_r1 c1_i32_32_r1 k0_t2
  let c4_i32_129_r1 : BitVec 32 := 4#32
  let v170_r1 : BitVec 32 := Scalar.remsi arg10_r1 c4_i32_129_r1
  ![v170_r1.toNat]
def k0_off12 (k0_t2 : Fin k0_t2_loop.trips) : Fin 3 → Nat :=
  let c0_i32_30_r1 : BitVec 32 := 0#32
  let c1_i32_32_r1 : BitVec 32 := 1#32
  let arg10_r1 : BitVec 32 := Scf.iv c0_i32_30_r1 c1_i32_32_r1 k0_t2
  let c4_i32_129_r1 : BitVec 32 := 4#32
  let v170_r1 : BitVec 32 := Scalar.remsi arg10_r1 c4_i32_129_r1
  let c0_i32_131_r1 : BitVec 32 := 0#32
  let c0_i32_132_r1 : BitVec 32 := 0#32
  ![v170_r1.toNat, 0, 0]
def k0_cond4 (k0_t2 : Fin k0_t2_loop.trips) : BitVec 1 :=
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c8_i32_137_r1 : BitVec 32 := 8#32
  let v180_r1 : BitVec 1 := Scalar.cmpi .slt v178_r1 c8_i32_137_r1
  let v181_r1 : BitVec 32 := Scalar.extui v180_r1
  let c0_i32_138_r1 : BitVec 32 := 0#32
  let v182_r1 : BitVec 1 := Scalar.cmpi .ne v181_r1 c0_i32_138_r1
  v182_r1

def k0_mult6 (k0_t2 : Fin k0_t2_loop.trips) : BitVec 32 :=
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c512_i32_r1 : BitVec 32 := 512#32
  let v256_r1 : BitVec 32 := Scalar.muli v178_r1 c512_i32_r1
  v256_r1
def k0_off13 (k0_t2 : Fin k0_t2_loop.trips) : Fin 1 → Nat :=
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c4_i32_136_r1 : BitVec 32 := 4#32
  let v179_r1 : BitVec 32 := Scalar.remsi v178_r1 c4_i32_136_r1
  ![v179_r1.toNat]
def k0_off14 (k0_t2 : Fin k0_t2_loop.trips) : Fin 3 → Nat :=
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c4_i32_136_r1 : BitVec 32 := 4#32
  let v179_r1 : BitVec 32 := Scalar.remsi v178_r1 c4_i32_136_r1
  let c0_i32_185_r1 : BitVec 32 := 0#32
  let c0_i32_186_r1 : BitVec 32 := 0#32
  ![v179_r1.toNat, 0, 0]
def k0_off15 (k0_t2 : Fin k0_t2_loop.trips) : Fin 2 → Nat :=
  let c0_i32_187_r1 : BitVec 32 := 0#32
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c512_i32_r1 : BitVec 32 := 512#32
  let v256_r1 : BitVec 32 := Scalar.muli v178_r1 c512_i32_r1
  let v257_r1 : BitVec 32 := v256_r1
  ![0, v257_r1.toNat]
def k0_off16 (k0_t2 : Fin k0_t2_loop.trips) : Fin 3 → Nat :=
  let c0_i32_30_r1 : BitVec 32 := 0#32
  let c1_i32_32_r1 : BitVec 32 := 1#32
  let arg10_r1 : BitVec 32 := Scf.iv c0_i32_30_r1 c1_i32_32_r1 k0_t2
  let c4_i32_129_r1 : BitVec 32 := 4#32
  let v170_r1 : BitVec 32 := Scalar.remsi arg10_r1 c4_i32_129_r1
  let v184_r1 : Index := Scalar.indexCast v170_r1
  let c0_141_r1 : Index := 0#32
  let c0_142_r1 : Index := 0#32
  ![v184_r1.toNat, 0, 0]
def k0_off17 (k0_t2 : Fin k0_t2_loop.trips) (c0_i32_145_r1 : BitVec 32) : Fin 2 → Nat :=
  let c0_i32_30_r1 : BitVec 32 := 0#32
  let c1_i32_32_r1 : BitVec 32 := 1#32
  let arg10_r1 : BitVec 32 := Scf.iv c0_i32_30_r1 c1_i32_32_r1 k0_t2
  let c4_i32_144_r1 : BitVec 32 := 4#32
  let v189_r1 : BitVec 32 := Scalar.muli arg10_r1 c4_i32_144_r1
  let v190_r1 : BitVec 32 := Scalar.addi v189_r1 c0_i32_145_r1
  let v191_r1 : Index := Scalar.indexCast v190_r1
  let c0_146_r1 : Index := 0#32
  ![v191_r1.toNat, 0]
def k0_off18 (k0_t2 : Fin k0_t2_loop.trips) : Fin 3 → Nat :=
  let c0_i32_30_r1 : BitVec 32 := 0#32
  let c1_i32_32_r1 : BitVec 32 := 1#32
  let arg10_r1 : BitVec 32 := Scf.iv c0_i32_30_r1 c1_i32_32_r1 k0_t2
  let c0_i32_176_r1 : BitVec 32 := 0#32
  let c0_i32_177_r1 : BitVec 32 := 0#32
  ![arg10_r1.toNat, 0, 0]
abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QKernelIdeal.lean ====
abbrev S256x5120 : Shape := ⟨2, ![256, 5120]⟩
abbrev S256 : Shape := ⟨1, ![256]⟩
abbrev S5120 : Shape := ⟨1, ![5120]⟩
abbrev S5120x6144 : Shape := ⟨2, ![5120, 6144]⟩
abbrev S6144 : Shape := ⟨1, ![6144]⟩
abbrev S64 : Shape := ⟨1, ![64]⟩
abbrev S_ : Shape := ⟨0, ![]⟩
abbrev S128 : Shape := ⟨1, ![128]⟩
abbrev S1x128 : Shape := ⟨2, ![1, 128]⟩
abbrev S256x1 : Shape := ⟨2, ![256, 1]⟩
abbrev S40x128 : Shape := ⟨2, ![40, 128]⟩
abbrev S48x128 : Shape := ⟨2, ![48, 128]⟩
abbrev S256x32x128 : Shape := ⟨3, ![256, 32, 128]⟩
abbrev S4x5120x512 : Shape := ⟨3, ![4, 5120, 512]⟩
abbrev S4 : Shape := ⟨1, ![4]⟩
abbrev S5 : Shape := ⟨1, ![5]⟩
abbrev S1 : Shape := ⟨1, ![1]⟩
abbrev S1x5120x512 : Shape := ⟨3, ![1, 5120, 512]⟩
abbrev S5120x512 : Shape := ⟨2, ![5120, 512]⟩
abbrev S8x592x128 : Shape := ⟨3, ![8, 592, 128]⟩
abbrev S8x592x2x128 : Shape := ⟨4, ![8, 592, 2, 128]⟩
abbrev S8x592x1x128 : Shape := ⟨4, ![8, 592, 1, 128]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S256x512 : Shape := ⟨2, ![256, 512]⟩
abbrev S1x592x2x128 : Shape := ⟨4, ![1, 592, 2, 128]⟩
abbrev S592x2x128 : Shape := ⟨3, ![592, 2, 128]⟩
abbrev S256x2x128 : Shape := ⟨3, ![256, 2, 128]⟩
abbrev S256x1x128 : Shape := ⟨3, ![256, 1, 128]⟩
abbrev S256x16x128 : Shape := ⟨3, ![256, 16, 128]⟩
abbrev S4096x128 : Shape := ⟨2, ![4096, 128]⟩

abbrev nBuf : Space → Nat
  | .hbm => 22
  | .vmem => 11
  | .smem => 0
  | _ => 0

abbrev bufTy : (tb : Table) → Fin (tcTables nBuf tb) → BufTy
  | .hbm, ⟨0, _⟩ => ⟨S256x5120, .bf16⟩
  | .hbm, ⟨1, _⟩ => ⟨S256, .i32⟩
  | .hbm, ⟨2, _⟩ => ⟨S5120, .f32⟩
  | .hbm, ⟨3, _⟩ => ⟨S5120x6144, .fp8e4m3⟩
  | .hbm, ⟨4, _⟩ => ⟨S6144, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S128, .f32⟩
  | .hbm, ⟨17, _⟩ => ⟨S1x128, .f32⟩
  | .hbm, ⟨18, _⟩ => ⟨S256x1, .i32⟩
  | .hbm, ⟨19, _⟩ => ⟨S40x128, .f32⟩
  | .hbm, ⟨20, _⟩ => ⟨S48x128, .f32⟩
  | .hbm, ⟨21, _⟩ => ⟨S256x32x128, .bf16⟩
  | .local _ .vmem, ⟨0, _⟩ => ⟨S256x5120, .bf16⟩
  | .local _ .vmem, ⟨1, _⟩ => ⟨S256x1, .i32⟩
  | .local _ .vmem, ⟨2, _⟩ => ⟨S1x128, .f32⟩
  | .local _ .vmem, ⟨3, _⟩ => ⟨S40x128, .f32⟩
  | .local _ .vmem, ⟨4, _⟩ => ⟨S48x128, .f32⟩
  | .local _ .vmem, ⟨5, _⟩ => ⟨S4x5120x512, .fp8e4m3⟩
  | .local _ .vmem, ⟨6, _⟩ => ⟨S8x592x2x128, .bf16⟩
  | .local _ .vmem, ⟨7, _⟩ => ⟨S256x5120, .bf16⟩
  | .local _ .vmem, ⟨8, _⟩ => ⟨S256x32x128, .bf16⟩
  | .local _ .vmem, ⟨9, _⟩ => ⟨S256x128, .f32⟩
  | .local _ .vmem, ⟨10, _⟩ => ⟨S256x128, .f32⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scoped0 : Ref sig .tc := ⟨.vmem, 6, rfl⟩
abbrev cc0_scoped1 : Ref sig .tc := ⟨.vmem, 7, rfl⟩
abbrev cc0_scoped2 : Ref sig .tc := ⟨.vmem, 8, rfl⟩
abbrev cc0_scoped3 : Ref sig .tc := ⟨.vmem, 9, rfl⟩
abbrev cc0_scoped4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_cond1 : BitVec 1 :=
  let c0_i32_0 : BitVec 32 := 0#32
  let c8_i32 : BitVec 32 := 8#32
  let v1 : BitVec 1 := Scalar.cmpi .slt c0_i32_0 c8_i32
  let v2 : BitVec 32 := Scalar.extui v1
  let c0_i32_2 : BitVec 32 := 0#32
  let v3 : BitVec 1 := Scalar.cmpi .ne v2 c0_i32_2
  v3

def k0_mult1 : BitVec 32 :=
  let c0_i32_1 : BitVec 32 := 0#32
  let c512_i32 : BitVec 32 := 512#32
  let v12 : BitVec 32 := Scalar.muli c0_i32_1 c512_i32
  v12
def k0_off1 : Fin 1 → Nat :=
  let c0_i32 : BitVec 32 := 0#32
  let c4_i32 : BitVec 32 := 4#32
  let v0 : BitVec 32 := Scalar.remsi c0_i32 c4_i32
  ![v0.toNat]
def k0_off2 : Fin 3 → Nat :=
  let c0_i32 : BitVec 32 := 0#32
  let c4_i32 : BitVec 32 := 4#32
  let v0 : BitVec 32 := Scalar.remsi c0_i32 c4_i32
  let c0_i32_13 : BitVec 32 := 0#32
  let c0_i32_14 : BitVec 32 := 0#32
  ![v0.toNat, 0, 0]
def k0_off3 : Fin 2 → Nat :=
  let c0_i32_15 : BitVec 32 := 0#32
  let c0_i32_1 : BitVec 32 := 0#32
  let c512_i32 : BitVec 32 := 512#32
  let v12 : BitVec 32 := Scalar.muli c0_i32_1 c512_i32
  let v13 : BitVec 32 := v12
  ![0, v13.toNat]
def k0_cond2 : BitVec 1 :=
  let c1_i32_4 : BitVec 32 := 1#32
  let c8_i32_5 : BitVec 32 := 8#32
  let v5 : BitVec 1 := Scalar.cmpi .slt c1_i32_4 c8_i32_5
  let v6 : BitVec 32 := Scalar.extui v5
  let c0_i32_7 : BitVec 32 := 0#32
  let v7 : BitVec 1 := Scalar.cmpi .ne v6 c0_i32_7
  v7

def k0_mult2 : BitVec 32 :=
  let c1_i32_6 : BitVec 32 := 1#32
  let c512_i32 : BitVec 32 := 512#32
  let v12 : BitVec 32 := Scalar.muli c1_i32_6 c512_i32
  v12
def k0_off4 : Fin 1 → Nat :=
  let c1_i32 : BitVec 32 := 1#32
  let c4_i32_3 : BitVec 32 := 4#32
  let v4 : BitVec 32 := Scalar.remsi c1_i32 c4_i32_3
  ![v4.toNat]
def k0_off5 : Fin 3 → Nat :=
  let c1_i32 : BitVec 32 := 1#32
  let c4_i32_3 : BitVec 32 := 4#32
  let v4 : BitVec 32 := Scalar.remsi c1_i32 c4_i32_3
  let c0_i32_13 : BitVec 32 := 0#32
  let c0_i32_14 : BitVec 32 := 0#32
  ![v4.toNat, 0, 0]
def k0_off6 : Fin 2 → Nat :=
  let c0_i32_15 : BitVec 32 := 0#32
  let c1_i32_6 : BitVec 32 := 1#32
  let c512_i32 : BitVec 32 := 512#32
  let v12 : BitVec 32 := Scalar.muli c1_i32_6 c512_i32
  let v13 : BitVec 32 := v12
  ![0, v13.toNat]
def k0_cond3 : BitVec 1 :=
  let c2_i32_9 : BitVec 32 := 2#32
  let c8_i32_10 : BitVec 32 := 8#32
  let v9 : BitVec 1 := Scalar.cmpi .slt c2_i32_9 c8_i32_10
  let v10 : BitVec 32 := Scalar.extui v9
  let c0_i32_12 : BitVec 32 := 0#32
  let v11 : BitVec 1 := Scalar.cmpi .ne v10 c0_i32_12
  v11

def k0_mult3 : BitVec 32 :=
  let c2_i32_11 : BitVec 32 := 2#32
  let c512_i32 : BitVec 32 := 512#32
  let v12 : BitVec 32 := Scalar.muli c2_i32_11 c512_i32
  v12
def k0_off7 : Fin 1 → Nat :=
  let c2_i32 : BitVec 32 := 2#32
  let c4_i32_8 : BitVec 32 := 4#32
  let v8 : BitVec 32 := Scalar.remsi c2_i32 c4_i32_8
  ![v8.toNat]
def k0_off8 : Fin 3 → Nat :=
  let c2_i32 : BitVec 32 := 2#32
  let c4_i32_8 : BitVec 32 := 4#32
  let v8 : BitVec 32 := Scalar.remsi c2_i32 c4_i32_8
  let c0_i32_13 : BitVec 32 := 0#32
  let c0_i32_14 : BitVec 32 := 0#32
  ![v8.toNat, 0, 0]
def k0_off9 : Fin 2 → Nat :=
  let c0_i32_15 : BitVec 32 := 0#32
  let c2_i32_11 : BitVec 32 := 2#32
  let c512_i32 : BitVec 32 := 512#32
  let v12 : BitVec 32 := Scalar.muli c2_i32_11 c512_i32
  let v13 : BitVec 32 := v12
  ![0, v13.toNat]
@[reducible] def k0_t1_loop : Scf.Loop 32 :=
  let c0_i32_18_r1 : BitVec 32 := 0#32
  let c8_i32_19_r1 : BitVec 32 := 8#32
  let v12_r1 : BitVec 32 := Scalar.addi c0_i32_18_r1 c8_i32_19_r1
  let c1_i32_20_r1 : BitVec 32 := 1#32
  ⟨c0_i32_18_r1, v12_r1, c1_i32_20_r1⟩
def k0_mult4 (k0_t1 : Fin k0_t1_loop.trips) : BitVec 32 :=
  let c0_i32_18_r1 : BitVec 32 := 0#32
  let c1_i32_20_r1 : BitVec 32 := 1#32
  let arg10_r1 : BitVec 32 := Scf.iv c0_i32_18_r1 c1_i32_20_r1 k0_t1
  let c32_i32_r1 : BitVec 32 := 32#32
  let v170_r1 : BitVec 32 := Scalar.muli arg10_r1 c32_i32_r1
  v170_r1
def k0_off10 (k0_t1 : Fin k0_t1_loop.trips) (c0_i32_130_r1 : BitVec 32) : Fin 2 → Nat :=
  let c0_i32_18_r1 : BitVec 32 := 0#32
  let c1_i32_20_r1 : BitVec 32 := 1#32
  let arg10_r1 : BitVec 32 := Scf.iv c0_i32_18_r1 c1_i32_20_r1 k0_t1
  let c32_i32_r1 : BitVec 32 := 32#32
  let v170_r1 : BitVec 32 := Scalar.muli arg10_r1 c32_i32_r1
  let v171_r1 : BitVec 32 := v170_r1
  let v174_r1 : Index := Scalar.indexCast v171_r1
  let c128_i32_r1 : BitVec 32 := 128#32
  let v173_r1 : BitVec 32 := Scalar.muli c0_i32_130_r1 c128_i32_r1
  let v175_r1 : Index := Scalar.indexCast v173_r1
  ![v174_r1.toNat, v175_r1.toNat]
@[reducible] def k0_t2_loop : Scf.Loop 32 :=
  let c0_i32_30_r1 : BitVec 32 := 0#32
  let c8_i32_31_r1 : BitVec 32 := 8#32
  let v36_r1 : BitVec 32 := Scalar.addi c0_i32_30_r1 c8_i32_31_r1
  let c1_i32_32_r1 : BitVec 32 := 1#32
  ⟨c0_i32_30_r1, v36_r1, c1_i32_32_r1⟩
def k0_mult5 : BitVec 32 :=
  let c0_i32_130_r1 : BitVec 32 := 0#32
  c0_i32_130_r1
def k0_off11 (k0_t2 : Fin k0_t2_loop.trips) : Fin 1 → Nat :=
  let c0_i32_30_r1 : BitVec 32 := 0#32
  let c1_i32_32_r1 : BitVec 32 := 1#32
  let arg10_r1 : BitVec 32 := Scf.iv c0_i32_30_r1 c1_i32_32_r1 k0_t2
  let c4_i32_129_r1 : BitVec 32 := 4#32
  let v170_r1 : BitVec 32 := Scalar.remsi arg10_r1 c4_i32_129_r1
  ![v170_r1.toNat]
def k0_off12 (k0_t2 : Fin k0_t2_loop.trips) : Fin 3 → Nat :=
  let c0_i32_30_r1 : BitVec 32 := 0#32
  let c1_i32_32_r1 : BitVec 32 := 1#32
  let arg10_r1 : BitVec 32 := Scf.iv c0_i32_30_r1 c1_i32_32_r1 k0_t2
  let c4_i32_129_r1 : BitVec 32 := 4#32
  let v170_r1 : BitVec 32 := Scalar.remsi arg10_r1 c4_i32_129_r1
  let c0_i32_131_r1 : BitVec 32 := 0#32
  let c0_i32_132_r1 : BitVec 32 := 0#32
  ![v170_r1.toNat, 0, 0]
def k0_cond4 (k0_t2 : Fin k0_t2_loop.trips) : BitVec 1 :=
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c8_i32_137_r1 : BitVec 32 := 8#32
  let v180_r1 : BitVec 1 := Scalar.cmpi .slt v178_r1 c8_i32_137_r1
  let v181_r1 : BitVec 32 := Scalar.extui v180_r1
  let c0_i32_138_r1 : BitVec 32 := 0#32
  let v182_r1 : BitVec 1 := Scalar.cmpi .ne v181_r1 c0_i32_138_r1
  v182_r1

def k0_mult6 (k0_t2 : Fin k0_t2_loop.trips) : BitVec 32 :=
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c512_i32_r1 : BitVec 32 := 512#32
  let v256_r1 : BitVec 32 := Scalar.muli v178_r1 c512_i32_r1
  v256_r1
def k0_off13 (k0_t2 : Fin k0_t2_loop.trips) : Fin 1 → Nat :=
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c4_i32_136_r1 : BitVec 32 := 4#32
  let v179_r1 : BitVec 32 := Scalar.remsi v178_r1 c4_i32_136_r1
  ![v179_r1.toNat]
def k0_off14 (k0_t2 : Fin k0_t2_loop.trips) : Fin 3 → Nat :=
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c4_i32_136_r1 : BitVec 32 := 4#32
  let v179_r1 : BitVec 32 := Scalar.remsi v178_r1 c4_i32_136_r1
  let c0_i32_185_r1 : BitVec 32 := 0#32
  let c0_i32_186_r1 : BitVec 32 := 0#32
  ![v179_r1.toNat, 0, 0]
def k0_off15 (k0_t2 : Fin k0_t2_loop.trips) : Fin 2 → Nat :=
  let c0_i32_187_r1 : BitVec 32 := 0#32
  let c0_i32_30_r1 : BitVec 32 := 0#32
  let c1_i32_32_r1 : BitVec 32 := 1#32
  let arg10_r1 : BitVec 32 := Scf.iv c0_i32_30_r1 c1_i32_32_r1 k0_t2
  let c4_i32_134_r1 : BitVec 32 := 4#32
  let v177_r1 : BitVec 32 := Scalar.addi arg10_r1 c4_i32_134_r1
  let c1_i32_135_r1 : BitVec 32 := 1#32
  let v178_r1 : BitVec 32 := Scalar.subi v177_r1 c1_i32_135_r1
  let c512_i32_r1 : BitVec 32 := 512#32
  let v256_r1 : BitVec 32 := Scalar.muli v178_r1 c512_i32_r1
  let v257_r1 : BitVec 32 := v256_r1
  ![0, v257_r1.toNat]
def k0_off16 (k0_t2 : Fin k0_t2_loop.trips) : Fin 3 → Nat :=
  let c0_i32_30_r1 : BitVec 32 := 0#32
  let c1_i32_32_r1 : BitVec 32 := 1#32
  let arg10_r1 : BitVec 32 := Scf.iv c0_i32_30_r1 c1_i32_32_r1 k0_t2
  let c4_i32_129_r1 : BitVec 32 := 4#32
  let v170_r1 : BitVec 32 := Scalar.remsi arg10_r1 c4_i32_129_r1
  let v184_r1 : Index := Scalar.indexCast v170_r1
  let c0_141_r1 : Index := 0#32
  let c0_142_r1 : Index := 0#32
  ![v184_r1.toNat, 0, 0]
def k0_off17 (k0_t2 : Fin k0_t2_loop.trips) (c0_i32_145_r1 : BitVec 32) : Fin 2 → Nat :=
  let c0_i32_30_r1 : BitVec 32 := 0#32
  let c1_i32_32_r1 : BitVec 32 := 1#32
  let arg10_r1 : BitVec 32 := Scf.iv c0_i32_30_r1 c1_i32_32_r1 k0_t2
  let c4_i32_144_r1 : BitVec 32 := 4#32
  let v189_r1 : BitVec 32 := Scalar.muli arg10_r1 c4_i32_144_r1
  let v190_r1 : BitVec 32 := Scalar.addi v189_r1 c0_i32_145_r1
  let v191_r1 : Index := Scalar.indexCast v190_r1
  let c0_146_r1 : Index := 0#32
  ![v191_r1.toNat, 0]
def k0_off18 (k0_t2 : Fin k0_t2_loop.trips) : Fin 4 → Nat :=
  let c0_i32_30_r1 : BitVec 32 := 0#32
  let c1_i32_32_r1 : BitVec 32 := 1#32
  let arg10_r1 : BitVec 32 := Scf.iv c0_i32_30_r1 c1_i32_32_r1 k0_t2
  let c0_i32_176_r1 : BitVec 32 := 0#32
  let c0_i32_177_r1 : BitVec 32 := 0#32
  ![arg10_r1.toNat, 0, 0, 0]
abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QReferenceIdeal.lean ====
abbrev S256x5120 : Shape := ⟨2, ![256, 5120]⟩
abbrev S256 : Shape := ⟨1, ![256]⟩
abbrev S5120 : Shape := ⟨1, ![5120]⟩
abbrev S5120x6144 : Shape := ⟨2, ![5120, 6144]⟩
abbrev S6144 : Shape := ⟨1, ![6144]⟩
abbrev S64 : Shape := ⟨1, ![64]⟩
abbrev S_ : Shape := ⟨0, ![]⟩
abbrev S256x1 : Shape := ⟨2, ![256, 1]⟩
abbrev S1x64 : Shape := ⟨2, ![1, 64]⟩
abbrev S1x5120 : Shape := ⟨2, ![1, 5120]⟩
abbrev S5120x4096 : Shape := ⟨2, ![5120, 4096]⟩
abbrev S4096 : Shape := ⟨1, ![4096]⟩
abbrev S1x4096 : Shape := ⟨2, ![1, 4096]⟩
abbrev S256x32x128 : Shape := ⟨3, ![256, 32, 128]⟩
abbrev S256x4096 : Shape := ⟨2, ![256, 4096]⟩
abbrev S256x64 : Shape := ⟨2, ![256, 64]⟩
abbrev S256x128 : Shape := ⟨2, ![256, 128]⟩
abbrev S256x1x128 : Shape := ⟨3, ![256, 1, 128]⟩
abbrev S256x32x64 : Shape := ⟨3, ![256, 32, 64]⟩

abbrev nBuf : Space → Nat
  | .hbm => 23
  | .vmem => 7
  | .smem => 0
  | _ => 0

abbrev bufTy : (tb : Table) → Fin (tcTables nBuf tb) → BufTy
  | .hbm, ⟨0, _⟩ => ⟨S256x5120, .bf16⟩
  | .hbm, ⟨1, _⟩ => ⟨S256, .i32⟩
  | .hbm, ⟨2, _⟩ => ⟨S5120, .f32⟩
  | .hbm, ⟨3, _⟩ => ⟨S5120x6144, .fp8e4m3⟩
  | .hbm, ⟨4, _⟩ => ⟨S6144, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S256x1, .i32⟩
  | .hbm, ⟨17, _⟩ => ⟨S1x64, .f32⟩
  | .hbm, ⟨18, _⟩ => ⟨S1x5120, .f32⟩
  | .hbm, ⟨19, _⟩ => ⟨S5120x4096, .fp8e4m3⟩
  | .hbm, ⟨20, _⟩ => ⟨S4096, .f32⟩
  | .hbm, ⟨21, _⟩ => ⟨S1x4096, .f32⟩
  | .hbm, ⟨22, _⟩ => ⟨S256x32x128, .bf16⟩
  | .local _ .vmem, ⟨0, _⟩ => ⟨S256x5120, .bf16⟩
  | .local _ .vmem, ⟨1, _⟩ => ⟨S256x1, .i32⟩
  | .local _ .vmem, ⟨2, _⟩ => ⟨S1x64, .f32⟩
  | .local _ .vmem, ⟨3, _⟩ => ⟨S1x5120, .f32⟩
  | .local _ .vmem, ⟨4, _⟩ => ⟨S5120x4096, .fp8e4m3⟩
  | .local _ .vmem, ⟨5, _⟩ => ⟨S1x4096, .f32⟩
  | .local _ .vmem, ⟨6, _⟩ => ⟨S256x32x128, .bf16⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== CKernel.lean ====
abbrev S256x5120 : Shape := ⟨2, ![256, 5120]⟩
abbrev S256 : Shape := ⟨1, ![256]⟩
abbrev S5120 : Shape := ⟨1, ![5120]⟩
abbrev S5120x6144 : Shape := ⟨2, ![5120, 6144]⟩
abbrev S6144 : Shape := ⟨1, ![6144]⟩
abbrev S256x8 : Shape := ⟨2, ![256, 8]⟩
abbrev S64 : Shape := ⟨1, ![64]⟩
abbrev S_ : Shape := ⟨0, ![]⟩
abbrev S128 : Shape := ⟨1, ![128]⟩
abbrev S1x128 : Shape := ⟨2, ![1, 128]⟩
abbrev S256x1 : Shape := ⟨2, ![256, 1]⟩
abbrev S40x128 : Shape := ⟨2, ![40, 128]⟩
abbrev S48x128 : Shape := ⟨2, ![48, 128]⟩
abbrev S256x8x128 : Shape := ⟨3, ![256, 8, 128]⟩
abbrev S4x5120x512 : Shape := ⟨3, ![4, 5120, 512]⟩
abbrev S4 : Shape := ⟨1, ![4]⟩
abbrev S5 : Shape := ⟨1, ![5]⟩
abbrev S1 : Shape := ⟨1, ![1]⟩
abbrev S1x5120x512 : Shape := ⟨3, ![1, 5120, 512]⟩
abbrev S5120x512 : Shape := ⟨2, ![5120, 512]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S256x512 : Shape := ⟨2, ![256, 512]⟩
abbrev S256x1x128 : Shape := ⟨3, ![256, 1, 128]⟩
abbrev S256x4x128 : Shape := ⟨3, ![256, 4, 128]⟩

abbrev nBuf : Space → Nat
  | .hbm => 25
  | .vmem => 13
  | .smem => 0
  | _ => 0

abbrev bufTy : (tb : Table) → Fin (tcTables nBuf tb) → BufTy
  | .hbm, ⟨0, _⟩ => ⟨S256x5120, .bf16⟩
  | .hbm, ⟨1, _⟩ => ⟨S256, .i32⟩
  | .hbm, ⟨2, _⟩ => ⟨S5120, .f32⟩
  | .hbm, ⟨3, _⟩ => ⟨S5120x6144, .fp8e4m3⟩
  | .hbm, ⟨4, _⟩ => ⟨S6144, .f32⟩
  | .hbm, ⟨5, _⟩ => ⟨S256x8, .f32⟩
  | .hbm, ⟨6, _⟩ => ⟨S256x8, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S1x128, .f32⟩
  | .hbm, ⟨20, _⟩ => ⟨S256x1, .i32⟩
  | .hbm, ⟨21, _⟩ => ⟨S40x128, .f32⟩
  | .hbm, ⟨22, _⟩ => ⟨S48x128, .f32⟩
  | .hbm, ⟨23, _⟩ => ⟨S256x8x128, .fp8e4m3⟩
  | .hbm, ⟨24, _⟩ => ⟨S256x8x128, .fp8e4m3⟩
  | .local _ .vmem, ⟨0, _⟩ => ⟨S256x5120, .bf16⟩
  | .local _ .vmem, ⟨1, _⟩ => ⟨S256x1, .i32⟩
  | .local _ .vmem, ⟨2, _⟩ => ⟨S1x128, .f32⟩
  | .local _ .vmem, ⟨3, _⟩ => ⟨S40x128, .f32⟩
  | .local _ .vmem, ⟨4, _⟩ => ⟨S48x128, .f32⟩
  | .local _ .vmem, ⟨5, _⟩ => ⟨S256x8, .f32⟩
  | .local _ .vmem, ⟨6, _⟩ => ⟨S256x8, .f32⟩
  | .local _ .vmem, ⟨7, _⟩ => ⟨S4x5120x512, .fp8e4m3⟩
  | .local _ .vmem, ⟨8, _⟩ => ⟨S256x8x128, .fp8e4m3⟩
  | .local _ .vmem, ⟨9, _⟩ => ⟨S256x8x128, .fp8e4m3⟩
  | .local _ .vmem, ⟨10, _⟩ => ⟨S256x5120, .bf16⟩
  | .local _ .vmem, ⟨11, _⟩ => ⟨S256x128, .f32⟩
  | .local _ .vmem, ⟨12, _⟩ => ⟨S256x128, .f32⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scoped0 : Ref sig .tc := ⟨.vmem, 10, rfl⟩
abbrev cc0_scoped1 : Ref sig .tc := ⟨.vmem, 11, rfl⟩
abbrev cc0_scoped2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_cond1 : BitVec 1 :=
  let c8_i32_0 : BitVec 32 := 8#32
  let c12_i32 : BitVec 32 := 12#32
  let v1 : BitVec 1 := Scalar.cmpi .slt c8_i32_0 c12_i32
  let v2 : BitVec 32 := Scalar.extui v1
  let c0_i32 : BitVec 32 := 0#32
  let v3 : BitVec 1 := Scalar.cmpi .ne v2 c0_i32
  v3

def k0_mult1 : BitVec 32 :=
  let c8_i32_1 : BitVec 32 := 8#32
  let c512_i32 : BitVec 32 := 512#32
  let v12 : BitVec 32 := Scalar.muli c8_i32_1 c512_i32
  v12
def k0_off1 : Fin 1 → Nat :=
  let c8_i32 : BitVec 32 := 8#32
  let c4_i32 : BitVec 32 := 4#32
  let v0 : BitVec 32 := Scalar.remsi c8_i32 c4_i32
  ![v0.toNat]
def k0_off2 : Fin 3 → Nat :=
  let c8_i32 : BitVec 32 := 8#32
  let c4_i32 : BitVec 32 := 4#32
  let v0 : BitVec 32 := Scalar.remsi c8_i32 c4_i32
  let c0_i32_12 : BitVec 32 := 0#32
  let c0_i32_13 : BitVec 32 := 0#32
  ![v0.toNat, 0, 0]
def k0_off3 : Fin 2 → Nat :=
  let c0_i32_14 : BitVec 32 := 0#32
  let c8_i32_1 : BitVec 32 := 8#32
  let c512_i32 : BitVec 32 := 512#32
  let v12 : BitVec 32 := Scalar.muli c8_i32_1 c512_i32
  let v13 : BitVec 32 := v12
  ![0, v13.toNat]
def k0_cond2 : BitVec 1 :=
  let c9_i32_3 : BitVec 32 := 9#32
  let c12_i32_4 : BitVec 32 := 12#32
  let v5 : BitVec 1 := Scalar.cmpi .slt c9_i32_3 c12_i32_4
  let v6 : BitVec 32 := Scalar.extui v5
  let c0_i32_6 : BitVec 32 := 0#32
  let v7 : BitVec 1 := Scalar.cmpi .ne v6 c0_i32_6
  v7

def k0_mult2 : BitVec 32 :=
  let c9_i32_5 : BitVec 32 := 9#32
  let c512_i32 : BitVec 32 := 512#32
  let v12 : BitVec 32 := Scalar.muli c9_i32_5 c512_i32
  v12
def k0_off4 : Fin 1 → Nat :=
  let c9_i32 : BitVec 32 := 9#32
  let c4_i32_2 : BitVec 32 := 4#32
  let v4 : BitVec 32 := Scalar.remsi c9_i32 c4_i32_2
  ![v4.toNat]
def k0_off5 : Fin 3 → Nat :=
  let c9_i32 : BitVec 32 := 9#32
  let c4_i32_2 : BitVec 32 := 4#32
  let v4 : BitVec 32 := Scalar.remsi c9_i32 c4_i32_2
  let c0_i32_12 : BitVec 32 := 0#32
  let c0_i32_13 : BitVec 32 := 0#32
  ![v4.toNat, 0, 0]
def k0_off6 : Fin 2 → Nat :=
  let c0_i32_14 : BitVec 32 := 0#32
  let c9_i32_5 : BitVec 32 := 9#32
  let c512_i32 : BitVec 32 := 512#32
  let v12 : BitVec 32 := Scalar.muli c9_i32_5 c512_i32
  let v13 : BitVec 32 := v12
  ![0, v13.toNat]
def k0_cond3 : BitVec 1 :=
  let c10_i32_8 : BitVec 32 := 10#32
  let c12_i32_9 : BitVec 32 := 12#32
  let v9 : BitVec 1 := Scalar.cmpi .slt c10_i32_8 c12_i32_9
  let v10 : BitVec 32 := Scalar.extui v9
  let c0_i32_11 : BitVec 32 := 0#32
  let v11 : BitVec 1 := Scalar.cmpi .ne v10 c0_i32_11
  v11

def k0_mult3 : BitVec 32 :=
  let c10_i32_10 : BitVec 32 := 10#32
  let c512_i32 : BitVec 32 := 512#32
  let v12 : BitVec 32 := Scalar.muli c10_i32_10 c512_i32
  v12
def k0_off7 : Fin 1 → Nat :=
  let c10_i32 : BitVec 32 := 10#32
  let c4_i32_7 : BitVec 32 := 4#32
  let v8 : BitVec 32 := Scalar.remsi c10_i32 c4_i32_7
  ![v8.toNat]
def k0_off8 : Fin 3 → Nat :=
  let c10_i32 : BitVec 32 := 10#32
  let c4_i32_7 : BitVec 32 := 4#32
  let v8 : BitVec 32 := Scalar.remsi c10_i32 c4_i32_7
  let c0_i32_12 : BitVec 32 := 0#32
  let c0_i32_13 : BitVec 32 := 0#32
  ![v8.toNat, 0, 0]
def k0_off9 : Fin 2 → Nat :=
  let c0_i32_14 : BitVec 32 := 0#32
  let c10_i32_10 : BitVec 32 := 10#32
  let c512_i32 : BitVec 32 := 512#32
  let v12 : BitVec 32 := Scalar.muli c10_i32_10 c512_i32
  let v13 : BitVec 32 := v12
  ![0, v13.toNat]
@[reducible] def k0_t1_loop : Scf.Loop 32 :=
  let c0_i32_15_r0 : BitVec 32 := 0#32
  let c8_i32_16_r0 : BitVec 32 := 8#32
  let v12_r0 : BitVec 32 := Scalar.addi c0_i32_15_r0 c8_i32_16_r0
  let c1_i32_r0 : BitVec 32 := 1#32
  ⟨c0_i32_15_r0, v12_r0, c1_i32_r0⟩
def k0_mult4 (k0_t1 : Fin k0_t1_loop.trips) : BitVec 32 :=
  let c0_i32_15_r0 : BitVec 32 := 0#32
  let c1_i32_r0 : BitVec 32 := 1#32
  let arg15_r0 : BitVec 32 := Scf.iv c0_i32_15_r0 c1_i32_r0 k0_t1
  let c32_i32_r0 : BitVec 32 := 32#32
  let v436_r0 : BitVec 32 := Scalar.muli arg15_r0 c32_i32_r0
  v436_r0
def k0_off10 (k0_t1 : Fin k0_t1_loop.trips) (c0_i32_237_r0 : BitVec 32) : Fin 2 → Nat :=
  let c0_i32_15_r0 : BitVec 32 := 0#32
  let c1_i32_r0 : BitVec 32 := 1#32
  let arg15_r0 : BitVec 32 := Scf.iv c0_i32_15_r0 c1_i32_r0 k0_t1
  let c32_i32_r0 : BitVec 32 := 32#32
  let v436_r0 : BitVec 32 := Scalar.muli arg15_r0 c32_i32_r0
  let v437_r0 : BitVec 32 := v436_r0
  let v440_r0 : Index := Scalar.indexCast v437_r0
  let c128_i32_r0 : BitVec 32 := 128#32
  let v439_r0 : BitVec 32 := Scalar.muli c0_i32_237_r0 c128_i32_r0
  let v441_r0 : Index := Scalar.indexCast v439_r0
  ![v440_r0.toNat, v441_r0.toNat]
def k0_mult5 : BitVec 32 :=
  let c0_i32_27_r0 : BitVec 32 := 0#32
  c0_i32_27_r0
def k0_off11 (c8_i32_25_r0 : BitVec 32) : Fin 1 → Nat :=
  let c4_i32_26_r0 : BitVec 32 := 4#32
  let v36_r0 : BitVec 32 := Scalar.remsi c8_i32_25_r0 c4_i32_26_r0
  ![v36_r0.toNat]
def k0_off12 (c8_i32_25_r0 : BitVec 32) : Fin 3 → Nat :=
  let c4_i32_26_r0 : BitVec 32 := 4#32
  let v36_r0 : BitVec 32 := Scalar.remsi c8_i32_25_r0 c4_i32_26_r0
  let c0_i32_28_r0 : BitVec 32 := 0#32
  let c0_i32_29_r0 : BitVec 32 := 0#32
  ![v36_r0.toNat, 0, 0]
def k0_cond4 : BitVec 1 :=
  let c8_i32_31_r0 : BitVec 32 := 8#32
  let c4_i32_32_r0 : BitVec 32 := 4#32
  let v43_r0 : BitVec 32 := Scalar.addi c8_i32_31_r0 c4_i32_32_r0
  let c1_i32_33_r0 : BitVec 32 := 1#32
  let v44_r0 : BitVec 32 := Scalar.subi v43_r0 c1_i32_33_r0
  let c12_i32_35_r0 : BitVec 32 := 12#32
  let v46_r0 : BitVec 1 := Scalar.cmpi .slt v44_r0 c12_i32_35_r0
  let v47_r0 : BitVec 32 := Scalar.extui v46_r0
  let c0_i32_36_r0 : BitVec 32 := 0#32
  let v48_r0 : BitVec 1 := Scalar.cmpi .ne v47_r0 c0_i32_36_r0
  v48_r0

def k0_mult6 : BitVec 32 :=
  let c8_i32_31_r0 : BitVec 32 := 8#32
  let c4_i32_32_r0 : BitVec 32 := 4#32
  let v43_r0 : BitVec 32 := Scalar.addi c8_i32_31_r0 c4_i32_32_r0
  let c1_i32_33_r0 : BitVec 32 := 1#32
  let v44_r0 : BitVec 32 := Scalar.subi v43_r0 c1_i32_33_r0
  let c512_i32_r0 : BitVec 32 := 512#32
  let v436_r0 : BitVec 32 := Scalar.muli v44_r0 c512_i32_r0
  v436_r0
def k0_off13 : Fin 1 → Nat :=
  let c8_i32_31_r0 : BitVec 32 := 8#32
  let c4_i32_32_r0 : BitVec 32 := 4#32
  let v43_r0 : BitVec 32 := Scalar.addi c8_i32_31_r0 c4_i32_32_r0
  let c1_i32_33_r0 : BitVec 32 := 1#32
  let v44_r0 : BitVec 32 := Scalar.subi v43_r0 c1_i32_33_r0
  let c4_i32_34_r0 : BitVec 32 := 4#32
  let v45_r0 : BitVec 32 := Scalar.remsi v44_r0 c4_i32_34_r0
  ![v45_r0.toNat]
def k0_off14 : Fin 3 → Nat :=
  let c8_i32_31_r0 : BitVec 32 := 8#32
  let c4_i32_32_r0 : BitVec 32 := 4#32
  let v43_r0 : BitVec 32 := Scalar.addi c8_i32_31_r0 c4_i32_32_r0
  let c1_i32_33_r0 : BitVec 32 := 1#32
  let v44_r0 : BitVec 32 := Scalar.subi v43_r0 c1_i32_33_r0
  let c4_i32_34_r0 : BitVec 32 := 4#32
  let v45_r0 : BitVec 32 := Scalar.remsi v44_r0 c4_i32_34_r0
  let c0_i32_236_r0 : BitVec 32 := 0#32
  let c0_i32_237_r0 : BitVec 32 := 0#32
  ![v45_r0.toNat, 0, 0]
def k0_off15 : Fin 2 → Nat :=
  let c0_i32_238_r0 : BitVec 32 := 0#32
  let c8_i32_31_r0 : BitVec 32 := 8#32
  let c4_i32_32_r0 : BitVec 32 := 4#32
  let v43_r0 : BitVec 32 := Scalar.addi c8_i32_31_r0 c4_i32_32_r0
  let c1_i32_33_r0 : BitVec 32 := 1#32
  let v44_r0 : BitVec 32 := Scalar.subi v43_r0 c1_i32_33_r0
  let c512_i32_r0 : BitVec 32 := 512#32
  let v436_r0 : BitVec 32 := Scalar.muli v44_r0 c512_i32_r0
  let v437_r0 : BitVec 32 := v436_r0
  ![0, v437_r0.toNat]
def k0_off16 (c8_i32_25_r0 : BitVec 32) : Fin 3 → Nat :=
  let c4_i32_26_r0 : BitVec 32 := 4#32
  let v36_r0 : BitVec 32 := Scalar.remsi c8_i32_25_r0 c4_i32_26_r0
  let v50_r0 : Index := Scalar.indexCast v36_r0
  let c0_39_r0 : Index := 0#32
  let c0_40_r0 : Index := 0#32
  ![v50_r0.toNat, 0, 0]
def k0_mult7 : BitVec 32 :=
  let c0_i32_88_r0 : BitVec 32 := 0#32
  c0_i32_88_r0
def k0_cond5 : BitVec 1 :=
  let c9_i32_92_r0 : BitVec 32 := 9#32
  let c4_i32_93_r0 : BitVec 32 := 4#32
  let v153_r0 : BitVec 32 := Scalar.addi c9_i32_92_r0 c4_i32_93_r0
  let c1_i32_94_r0 : BitVec 32 := 1#32
  let v154_r0 : BitVec 32 := Scalar.subi v153_r0 c1_i32_94_r0
  let c12_i32_96_r0 : BitVec 32 := 12#32
  let v156_r0 : BitVec 1 := Scalar.cmpi .slt v154_r0 c12_i32_96_r0
  let v157_r0 : BitVec 32 := Scalar.extui v156_r0
  let c0_i32_97_r0 : BitVec 32 := 0#32
  let v158_r0 : BitVec 1 := Scalar.cmpi .ne v157_r0 c0_i32_97_r0
  v158_r0

def k0_mult8 : BitVec 32 :=
  let c9_i32_92_r0 : BitVec 32 := 9#32
  let c4_i32_93_r0 : BitVec 32 := 4#32
  let v153_r0 : BitVec 32 := Scalar.addi c9_i32_92_r0 c4_i32_93_r0
  let c1_i32_94_r0 : BitVec 32 := 1#32
  let v154_r0 : BitVec 32 := Scalar.subi v153_r0 c1_i32_94_r0
  let c512_i32_r0 : BitVec 32 := 512#32
  let v436_r0 : BitVec 32 := Scalar.muli v154_r0 c512_i32_r0
  v436_r0
def k0_off17 : Fin 1 → Nat :=
  let c9_i32_92_r0 : BitVec 32 := 9#32
  let c4_i32_93_r0 : BitVec 32 := 4#32
  let v153_r0 : BitVec 32 := Scalar.addi c9_i32_92_r0 c4_i32_93_r0
  let c1_i32_94_r0 : BitVec 32 := 1#32
  let v154_r0 : BitVec 32 := Scalar.subi v153_r0 c1_i32_94_r0
  let c4_i32_95_r0 : BitVec 32 := 4#32
  let v155_r0 : BitVec 32 := Scalar.remsi v154_r0 c4_i32_95_r0
  ![v155_r0.toNat]
def k0_off18 : Fin 3 → Nat :=
  let c9_i32_92_r0 : BitVec 32 := 9#32
  let c4_i32_93_r0 : BitVec 32 := 4#32
  let v153_r0 : BitVec 32 := Scalar.addi c9_i32_92_r0 c4_i32_93_r0
  let c1_i32_94_r0 : BitVec 32 := 1#32
  let v154_r0 : BitVec 32 := Scalar.subi v153_r0 c1_i32_94_r0
  let c4_i32_95_r0 : BitVec 32 := 4#32
  let v155_r0 : BitVec 32 := Scalar.remsi v154_r0 c4_i32_95_r0
  let c0_i32_236_r0 : BitVec 32 := 0#32
  let c0_i32_237_r0 : BitVec 32 := 0#32
  ![v155_r0.toNat, 0, 0]
def k0_off19 : Fin 2 → Nat :=
  let c0_i32_238_r0 : BitVec 32 := 0#32
  let c9_i32_92_r0 : BitVec 32 := 9#32
  let c4_i32_93_r0 : BitVec 32 := 4#32
  let v153_r0 : BitVec 32 := Scalar.addi c9_i32_92_r0 c4_i32_93_r0
  let c1_i32_94_r0 : BitVec 32 := 1#32
  let v154_r0 : BitVec 32 := Scalar.subi v153_r0 c1_i32_94_r0
  let c512_i32_r0 : BitVec 32 := 512#32
  let v436_r0 : BitVec 32 := Scalar.muli v154_r0 c512_i32_r0
  let v437_r0 : BitVec 32 := v436_r0
  ![0, v437_r0.toNat]
def k0_mult9 : BitVec 32 :=
  let c0_i32_148_r0 : BitVec 32 := 0#32
  c0_i32_148_r0
def k0_cond6 : BitVec 1 :=
  let c10_i32_152_r0 : BitVec 32 := 10#32
  let c4_i32_153_r0 : BitVec 32 := 4#32
  let v263_r0 : BitVec 32 := Scalar.addi c10_i32_152_r0 c4_i32_153_r0
  let c1_i32_154_r0 : BitVec 32 := 1#32
  let v264_r0 : BitVec 32 := Scalar.subi v263_r0 c1_i32_154_r0
  let c12_i32_156_r0 : BitVec 32 := 12#32
  let v266_r0 : BitVec 1 := Scalar.cmpi .slt v264_r0 c12_i32_156_r0
  let v267_r0 : BitVec 32 := Scalar.extui v266_r0
  let c0_i32_157_r0 : BitVec 32 := 0#32
  let v268_r0 : BitVec 1 := Scalar.cmpi .ne v267_r0 c0_i32_157_r0
  v268_r0

def k0_mult10 : BitVec 32 :=
  let c10_i32_152_r0 : BitVec 32 := 10#32
  let c4_i32_153_r0 : BitVec 32 := 4#32
  let v263_r0 : BitVec 32 := Scalar.addi c10_i32_152_r0 c4_i32_153_r0
  let c1_i32_154_r0 : BitVec 32 := 1#32
  let v264_r0 : BitVec 32 := Scalar.subi v263_r0 c1_i32_154_r0
  let c512_i32_r0 : BitVec 32 := 512#32
  let v436_r0 : BitVec 32 := Scalar.muli v264_r0 c512_i32_r0
  v436_r0
def k0_off20 : Fin 1 → Nat :=
  let c10_i32_152_r0 : BitVec 32 := 10#32
  let c4_i32_153_r0 : BitVec 32 := 4#32
  let v263_r0 : BitVec 32 := Scalar.addi c10_i32_152_r0 c4_i32_153_r0
  let c1_i32_154_r0 : BitVec 32 := 1#32
  let v264_r0 : BitVec 32 := Scalar.subi v263_r0 c1_i32_154_r0
  let c4_i32_155_r0 : BitVec 32 := 4#32
  let v265_r0 : BitVec 32 := Scalar.remsi v264_r0 c4_i32_155_r0
  ![v265_r0.toNat]
def k0_off21 : Fin 3 → Nat :=
  let c10_i32_152_r0 : BitVec 32 := 10#32
  let c4_i32_153_r0 : BitVec 32 := 4#32
  let v263_r0 : BitVec 32 := Scalar.addi c10_i32_152_r0 c4_i32_153_r0
  let c1_i32_154_r0 : BitVec 32 := 1#32
  let v264_r0 : BitVec 32 := Scalar.subi v263_r0 c1_i32_154_r0
  let c4_i32_155_r0 : BitVec 32 := 4#32
  let v265_r0 : BitVec 32 := Scalar.remsi v264_r0 c4_i32_155_r0
  let c0_i32_236_r0 : BitVec 32 := 0#32
  let c0_i32_237_r0 : BitVec 32 := 0#32
  ![v265_r0.toNat, 0, 0]
def k0_off22 : Fin 2 → Nat :=
  let c0_i32_238_r0 : BitVec 32 := 0#32
  let c10_i32_152_r0 : BitVec 32 := 10#32
  let c4_i32_153_r0 : BitVec 32 := 4#32
  let v263_r0 : BitVec 32 := Scalar.addi c10_i32_152_r0 c4_i32_153_r0
  let c1_i32_154_r0 : BitVec 32 := 1#32
  let v264_r0 : BitVec 32 := Scalar.subi v263_r0 c1_i32_154_r0
  let c512_i32_r0 : BitVec 32 := 512#32
  let v436_r0 : BitVec 32 := Scalar.muli v264_r0 c512_i32_r0
  let v437_r0 : BitVec 32 := v436_r0
  ![0, v437_r0.toNat]
def k0_mult11 : BitVec 32 :=
  let c0_i32_191_r0 : BitVec 32 := 0#32
  c0_i32_191_r0
def k0_cond7 : BitVec 1 :=
  let c11_i32_195_r0 : BitVec 32 := 11#32
  let c4_i32_196_r0 : BitVec 32 := 4#32
  let v349_r0 : BitVec 32 := Scalar.addi c11_i32_195_r0 c4_i32_196_r0
  let c1_i32_197_r0 : BitVec 32 := 1#32
  let v350_r0 : BitVec 32 := Scalar.subi v349_r0 c1_i32_197_r0
  let c12_i32_199_r0 : BitVec 32 := 12#32
  let v352_r0 : BitVec 1 := Scalar.cmpi .slt v350_r0 c12_i32_199_r0
  let v353_r0 : BitVec 32 := Scalar.extui v352_r0
  let c0_i32_200_r0 : BitVec 32 := 0#32
  let v354_r0 : BitVec 1 := Scalar.cmpi .ne v353_r0 c0_i32_200_r0
  v354_r0

def k0_mult12 : BitVec 32 :=
  let c11_i32_195_r0 : BitVec 32 := 11#32
  let c4_i32_196_r0 : BitVec 32 := 4#32
  let v349_r0 : BitVec 32 := Scalar.addi c11_i32_195_r0 c4_i32_196_r0
  let c1_i32_197_r0 : BitVec 32 := 1#32
  let v350_r0 : BitVec 32 := Scalar.subi v349_r0 c1_i32_197_r0
  let c512_i32_r0 : BitVec 32 := 512#32
  let v436_r0 : BitVec 32 := Scalar.muli v350_r0 c512_i32_r0
  v436_r0
def k0_off23 : Fin 1 → Nat :=
  let c11_i32_195_r0 : BitVec 32 := 11#32
  let c4_i32_196_r0 : BitVec 32 := 4#32
  let v349_r0 : BitVec 32 := Scalar.addi c11_i32_195_r0 c4_i32_196_r0
  let c1_i32_197_r0 : BitVec 32 := 1#32
  let v350_r0 : BitVec 32 := Scalar.subi v349_r0 c1_i32_197_r0
  let c4_i32_198_r0 : BitVec 32 := 4#32
  let v351_r0 : BitVec 32 := Scalar.remsi v350_r0 c4_i32_198_r0
  ![v351_r0.toNat]
def k0_off24 : Fin 3 → Nat :=
  let c11_i32_195_r0 : BitVec 32 := 11#32
  let c4_i32_196_r0 : BitVec 32 := 4#32
  let v349_r0 : BitVec 32 := Scalar.addi c11_i32_195_r0 c4_i32_196_r0
  let c1_i32_197_r0 : BitVec 32 := 1#32
  let v350_r0 : BitVec 32 := Scalar.subi v349_r0 c1_i32_197_r0
  let c4_i32_198_r0 : BitVec 32 := 4#32
  let v351_r0 : BitVec 32 := Scalar.remsi v350_r0 c4_i32_198_r0
  let c0_i32_236_r0 : BitVec 32 := 0#32
  let c0_i32_237_r0 : BitVec 32 := 0#32
  ![v351_r0.toNat, 0, 0]
def k0_off25 : Fin 2 → Nat :=
  let c0_i32_238_r0 : BitVec 32 := 0#32
  let c11_i32_195_r0 : BitVec 32 := 11#32
  let c4_i32_196_r0 : BitVec 32 := 4#32
  let v349_r0 : BitVec 32 := Scalar.addi c11_i32_195_r0 c4_i32_196_r0
  let c1_i32_197_r0 : BitVec 32 := 1#32
  let v350_r0 : BitVec 32 := Scalar.subi v349_r0 c1_i32_197_r0
  let c512_i32_r0 : BitVec 32 := 512#32
  let v436_r0 : BitVec 32 := Scalar.muli v350_r0 c512_i32_r0
  let v437_r0 : BitVec 32 := v436_r0
  ![0, v437_r0.toNat]
abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== CReferenceIdeal.lean ====
abbrev S256x5120 : Shape := ⟨2, ![256, 5120]⟩
abbrev S256 : Shape := ⟨1, ![256]⟩
abbrev S5120 : Shape := ⟨1, ![5120]⟩
abbrev S5120x6144 : Shape := ⟨2, ![5120, 6144]⟩
abbrev S6144 : Shape := ⟨1, ![6144]⟩
abbrev S256x8 : Shape := ⟨2, ![256, 8]⟩
abbrev S64 : Shape := ⟨1, ![64]⟩
abbrev S_ : Shape := ⟨0, ![]⟩
abbrev S256x1 : Shape := ⟨2, ![256, 1]⟩
abbrev S1x64 : Shape := ⟨2, ![1, 64]⟩
abbrev S1x5120 : Shape := ⟨2, ![1, 5120]⟩
abbrev S5120x1024 : Shape := ⟨2, ![5120, 1024]⟩
abbrev S1024 : Shape := ⟨1, ![1024]⟩
abbrev S1x1024 : Shape := ⟨2, ![1, 1024]⟩
abbrev S256x8x128 : Shape := ⟨3, ![256, 8, 128]⟩
abbrev S256x1024 : Shape := ⟨2, ![256, 1024]⟩
abbrev S256x64 : Shape := ⟨2, ![256, 64]⟩
abbrev S256x128 : Shape := ⟨2, ![256, 128]⟩
abbrev S256x1x128 : Shape := ⟨3, ![256, 1, 128]⟩
abbrev S256x8x64 : Shape := ⟨3, ![256, 8, 64]⟩
abbrev S256x8x1 : Shape := ⟨3, ![256, 8, 1]⟩

abbrev nBuf : Space → Nat
  | .hbm => 29
  | .vmem => 12
  | .smem => 0
  | _ => 0

abbrev bufTy : (tb : Table) → Fin (tcTables nBuf tb) → BufTy
  | .hbm, ⟨0, _⟩ => ⟨S256x5120, .bf16⟩
  | .hbm, ⟨1, _⟩ => ⟨S256, .i32⟩
  | .hbm, ⟨2, _⟩ => ⟨S5120, .f32⟩
  | .hbm, ⟨3, _⟩ => ⟨S5120x6144, .fp8e4m3⟩
  | .hbm, ⟨4, _⟩ => ⟨S6144, .f32⟩
  | .hbm, ⟨5, _⟩ => ⟨S256x8, .f32⟩
  | .hbm, ⟨6, _⟩ => ⟨S256x8, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S256x1, .i32⟩
  | .hbm, ⟨19, _⟩ => ⟨S1x64, .f32⟩
  | .hbm, ⟨20, _⟩ => ⟨S1x5120, .f32⟩
  | .hbm, ⟨21, _⟩ => ⟨S5120x1024, .fp8e4m3⟩
  | .hbm, ⟨22, _⟩ => ⟨S1024, .f32⟩
  | .hbm, ⟨23, _⟩ => ⟨S1x1024, .f32⟩
  | .hbm, ⟨24, _⟩ => ⟨S5120x1024, .fp8e4m3⟩
  | .hbm, ⟨25, _⟩ => ⟨S1024, .f32⟩
  | .hbm, ⟨26, _⟩ => ⟨S1x1024, .f32⟩
  | .hbm, ⟨27, _⟩ => ⟨S256x8x128, .fp8e4m3⟩
  | .hbm, ⟨28, _⟩ => ⟨S256x8x128, .fp8e4m3⟩
  | .local _ .vmem, ⟨0, _⟩ => ⟨S256x5120, .bf16⟩
  | .local _ .vmem, ⟨1, _⟩ => ⟨S256x1, .i32⟩
  | .local _ .vmem, ⟨2, _⟩ => ⟨S1x64, .f32⟩
  | .local _ .vmem, ⟨3, _⟩ => ⟨S1x5120, .f32⟩
  | .local _ .vmem, ⟨4, _⟩ => ⟨S5120x1024, .fp8e4m3⟩
  | .local _ .vmem, ⟨5, _⟩ => ⟨S1x1024, .f32⟩
  | .local _ .vmem, ⟨6, _⟩ => ⟨S5120x1024, .fp8e4m3⟩
  | .local _ .vmem, ⟨7, _⟩ => ⟨S1x1024, .f32⟩
  | .local _ .vmem, ⟨8, _⟩ => ⟨S256x8, .f32⟩
  | .local _ .vmem, ⟨9, _⟩ => ⟨S256x8, .f32⟩
  | .local _ .vmem, ⟨10, _⟩ => ⟨S256x8x128, .fp8e4m3⟩
  | .local _ .vmem, ⟨11, _⟩ => ⟨S256x8x128, .fp8e4m3⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x8x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x8x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Names.lean ====
/-
  The canonical names of the kernel's windows: the weight ring's slots and cells, the column blocks of the three
  streamed weights, the row blocks and the two slots of the down projection's weight, the two slots of the
  activation block and the activation's column blocks in HBM. Each printed slice of the program is one of these
  (`@[sl_canon]` equations, from the generated closed forms of the offsets).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The arrays left in HBM and the kernel's own buffers -/

abbrev woM : Memref sig .tc .hbm S4096x5120 .fp8e4m3 := Memref.whole main_arg3
abbrev wgM : Memref sig .tc .hbm S5120x14336 .fp8e4m3 := Memref.whole main_arg5
abbrev wuM : Memref sig .tc .hbm S5120x14336 .fp8e4m3 := Memref.whole main_arg7
abbrev wdM : Memref sig .tc .hbm S14336x5120 .fp8e4m3 := Memref.whole main_arg9
abbrev outM : Memref sig .tc .hbm S256x5120 .bf16 := Memref.whole main_v7_0
abbrev hmidM : Memref sig .tc .hbm S256x5120 .bf16 := Memref.whole main_v7_1
abbrev mactM : Memref sig .tc .hbm S256x14336 .bf16 := Memref.whole main_v7_2
abbrev ringM : Memref sig .tc .vmem S4x5120x512 .fp8e4m3 := Memref.whole cc0_scratch0
abbrev hmM : Memref sig .tc .vmem S256x5120 .bf16 := Memref.whole cc0_scoped0
abbrev h2M : Memref sig .tc .vmem S256x5120 .bf16 := Memref.whole cc0_scoped1
abbrev ssM : Memref sig .tc .vmem S256x128 .f32 := Memref.whole cc0_scoped2
abbrev dringM : Memref sig .tc .vmem S2x512x5120 .fp8e4m3 := Memref.whole cc0_scoped3
abbrev accM : Memref sig .tc .vmem S256x5120 .f32 := Memref.whole cc0_scoped4
abbrev aringM : Memref sig .tc .vmem S2x256x512 .bf16 := Memref.whole cc0_scoped5

/-! ## Offsets and their bounds -/

abbrev slotOff (s : Fin 4) : Fin 3 → Nat := ![s.val, 0, 0]
abbrev slot2Off (s : Fin 2) : Fin 3 → Nat := ![s.val, 0, 0]
abbrev colOff (b : ℕ) : Fin 2 → Nat := ![0, 512 * b]
abbrev rowOff (b : ℕ) : Fin 2 → Nat := ![512 * b, 0]

theorem slotO_inb (s : Fin 4) : ∀ a, slotOff s a + S1x4096x512.size a ≤ S4x5120x512.size a := by
  have := s.isLt; intro a; fin_cases a
  · show s.val + 1 ≤ 4; omega
  · show 0 + 4096 ≤ 5120; omega
  · show 0 + 512 ≤ 512; omega
theorem slotF_inb (s : Fin 4) : ∀ a, slotOff s a + S1x5120x512.size a ≤ S4x5120x512.size a := by
  have := s.isLt; intro a; fin_cases a
  · show s.val + 1 ≤ 4; omega
  · show 0 + 5120 ≤ 5120; omega
  · show 0 + 512 ≤ 512; omega
theorem dslot_inb (s : Fin 2) : ∀ a, slot2Off s a + S1x512x5120.size a ≤ S2x512x5120.size a := by
  have := s.isLt; intro a; fin_cases a
  · show s.val + 1 ≤ 2; omega
  · show 0 + 512 ≤ 512; omega
  · show 0 + 5120 ≤ 5120; omega
theorem aslot_inb (s : Fin 2) : ∀ a, slot2Off s a + S1x256x512.size a ≤ S2x256x512.size a := by
  have := s.isLt; intro a; fin_cases a
  · show s.val + 1 ≤ 2; omega
  · show 0 + 256 ≤ 256; omega
  · show 0 + 512 ≤ 512; omega
theorem woBlk_inb (b : Fin 10) : ∀ a, colOff b.val a + S4096x512.size a ≤ S4096x5120.size a := by
  have := b.isLt; intro a; fin_cases a
  · show 0 + 4096 ≤ 4096; omega
  · show 512 * b.val + 512 ≤ 5120; omega
theorem wgBlk_inb (b : Fin 28) : ∀ a, colOff b.val a + S5120x512.size a ≤ S5120x14336.size a := by
  have := b.isLt; intro a; fin_cases a
  · show 0 + 5120 ≤ 5120; omega
  · show 512 * b.val + 512 ≤ 14336; omega
theorem wdBlk_inb (b : Fin 28) : ∀ a, rowOff b.val a + S512x5120.size a ≤ S14336x5120.size a := by
  have := b.isLt; intro a; fin_cases a
  · show 512 * b.val + 512 ≤ 14336; omega
  · show 0 + 5120 ≤ 5120; omega
theorem mactBlk_inb (b : Fin 28) : ∀ a, colOff b.val a + S256x512.size a ≤ S256x14336.size a := by
  have := b.isLt; intro a; fin_cases a
  · show 0 + 256 ≤ 256; omega
  · show 512 * b.val + 512 ≤ 14336; omega
theorem wsem_inb (s : Fin 4) : ∀ a, (![s.val] : Fin 1 → Nat) a + S1.size a ≤ S4.size a := by
  have := s.isLt; intro a; fin_cases a; show s.val + 1 ≤ 4; omega
theorem dsem_inb (s : Fin 5) : ∀ a, (![s.val] : Fin 1 → Nat) a + S1.size a ≤ S5.size a := by
  have := s.isLt; intro a; fin_cases a; show s.val + 1 ≤ 5; omega

/-! ## The windows -/

/-- The first 4096 rows of slot `s` of the weight ring: where a block of the output projection lands. -/
def slotO (s : Fin 4) : Memref sig .tc .vmem S4096x512 .fp8e4m3 :=
  (ringM.slice (Rect.unit (s := S4x5120x512) (slotOff s) S1x4096x512.size (slotO_inb s)) (fun _ => rfl)).squeeze S4096x512 squeezes_S1x4096x512_S4096x512
/-- Slot `s` of the weight ring, whole: where a block of the gate or up projection lands. -/
def slotF (s : Fin 4) : Memref sig .tc .vmem S5120x512 .fp8e4m3 :=
  (ringM.slice (Rect.unit (s := S4x5120x512) (slotOff s) S1x5120x512.size (slotF_inb s)) (fun _ => rfl)).squeeze S5120x512 squeezes_S1x5120x512_S5120x512
/-- Slot `s` of the down projection's weight buffer. -/
def slotD (s : Fin 2) : Memref sig .tc .vmem S512x5120 .fp8e4m3 :=
  (dringM.slice (Rect.unit (s := S2x512x5120) (slot2Off s) S1x512x5120.size (dslot_inb s)) (fun _ => rfl)).squeeze S512x5120 squeezes_S1x512x5120_S512x5120
/-- Slot `s` of the activation buffer. -/
def slotA (s : Fin 2) : Memref sig .tc .vmem S256x512 .bf16 :=
  (aringM.slice (Rect.unit (s := S2x256x512) (slot2Off s) S1x256x512.size (aslot_inb s)) (fun _ => rfl)).squeeze S256x512 squeezes_S1x256x512_S256x512
/-- Column block `b` of the output projection's weight. -/
def woBlk (b : Fin 10) : Memref sig .tc .hbm S4096x512 .fp8e4m3 :=
  woM.slice (Rect.unit (s := S4096x5120) (colOff b.val) S4096x512.size (woBlk_inb b)) (fun _ => rfl)
/-- Column block `b` of the gate projection's weight. -/
def wgBlk (b : Fin 28) : Memref sig .tc .hbm S5120x512 .fp8e4m3 :=
  wgM.slice (Rect.unit (s := S5120x14336) (colOff b.val) S5120x512.size (wgBlk_inb b)) (fun _ => rfl)
/-- Column block `b` of the up projection's weight. -/
def wuBlk (b : Fin 28) : Memref sig .tc .hbm S5120x512 .fp8e4m3 :=
  wuM.slice (Rect.unit (s := S5120x14336) (colOff b.val) S5120x512.size (wgBlk_inb b)) (fun _ => rfl)
/-- Row block `b` of the down projection's weight. -/
def wdBlk (b : Fin 28) : Memref sig .tc .hbm S512x5120 .fp8e4m3 :=
  wdM.slice (Rect.unit (s := S14336x5120) (rowOff b.val) S512x5120.size (wdBlk_inb b)) (fun _ => rfl)
/-- Column block `b` of the activation in HBM. -/
def mactBlk (b : Fin 28) : Memref sig .tc .hbm S256x512 .bf16 :=
  mactM.slice (Rect.unit (s := S256x14336) (colOff b.val) S256x512.size (mactBlk_inb b)) (fun _ => rfl)
/-- The weight ring's cell `s`. -/
def wsem (s : Fin 4) : DmaSems sig S_ := (cc0_scratch1.slice (Rect.unit (s := S4) ![s.val] S1.size (wsem_inb s))).squeeze S_ squeezes_S1_S_
/-- The other transfers' cell `s`. -/
def dsem (s : Fin 5) : DmaSems sig S_ := (cc0_scratch2.slice (Rect.unit (s := S5) ![s.val] S1.size (dsem_inb s))).squeeze S_ squeezes_S1_S_

instance (s : Fin 4) : ClosedOff (slotOff s) := ⟨slotOff s, rfl⟩
instance (s : Fin 2) : ClosedOff (slot2Off s) := ⟨slot2Off s, rfl⟩
instance (b : ℕ) : ClosedOff (colOff b) := ⟨colOff b, rfl⟩
instance (b : ℕ) : ClosedOff (rowOff b) := ⟨rowOff b, rfl⟩

/-! ## Congruence in the offset -/

theorem wsem_congr {off : Fin 1 → Nat} {s : Fin 4} (e : off = ![s.val]) (hh) :
    (cc0_scratch1.slice (Rect.unit (s := S4) off S1.size hh)).squeeze S_ squeezes_S1_S_ = wsem s :=
  congrArg (fun A : DmaSems sig S1 => A.squeeze S_ squeezes_S1_S_) (SemArray.slice_unit_congr _ e _ _)
theorem dsem_congr {off : Fin 1 → Nat} {s : Fin 5} (e : off = ![s.val]) (hh) :
    (cc0_scratch2.slice (Rect.unit (s := S5) off S1.size hh)).squeeze S_ squeezes_S1_S_ = dsem s :=
  congrArg (fun A : DmaSems sig S1 => A.squeeze S_ squeezes_S1_S_) (SemArray.slice_unit_congr _ e _ _)
theorem slotO_congr {off : Fin 3 → Nat} {s : Fin 4} (e : off = slotOff s) (hh hs) :
    (ringM.slice (Rect.unit (s := S4x5120x512) off S1x4096x512.size hh) hs).squeeze S4096x512 squeezes_S1x4096x512_S4096x512 = slotO s :=
  congrArg (fun M : Memref sig .tc .vmem S1x4096x512 .fp8e4m3 => M.squeeze S4096x512 squeezes_S1x4096x512_S4096x512) (Memref.slice_unit_congr _ e _ _ _ _)
theorem slotF_congr {off : Fin 3 → Nat} {s : Fin 4} (e : off = slotOff s) (hh hs) :
    (ringM.slice (Rect.unit (s := S4x5120x512) off S1x5120x512.size hh) hs).squeeze S5120x512 squeezes_S1x5120x512_S5120x512 = slotF s :=
  congrArg (fun M : Memref sig .tc .vmem S1x5120x512 .fp8e4m3 => M.squeeze S5120x512 squeezes_S1x5120x512_S5120x512) (Memref.slice_unit_congr _ e _ _ _ _)
theorem slotD_congr {off : Fin 3 → Nat} {s : Fin 2} (e : off = slot2Off s) (hh hs) :
    (dringM.slice (Rect.unit (s := S2x512x5120) off S1x512x5120.size hh) hs).squeeze S512x5120 squeezes_S1x512x5120_S512x5120 = slotD s :=
  congrArg (fun M : Memref sig .tc .vmem S1x512x5120 .fp8e4m3 => M.squeeze S512x5120 squeezes_S1x512x5120_S512x5120) (Memref.slice_unit_congr _ e _ _ _ _)
theorem slotA_congr {off : Fin 3 → Nat} {s : Fin 2} (e : off = slot2Off s) (hh hs) :
    (aringM.slice (Rect.unit (s := S2x256x512) off S1x256x512.size hh) hs).squeeze S256x512 squeezes_S1x256x512_S256x512 = slotA s :=
  congrArg (fun M : Memref sig .tc .vmem S1x256x512 .bf16 => M.squeeze S256x512 squeezes_S1x256x512_S256x512) (Memref.slice_unit_congr _ e _ _ _ _)
theorem woBlk_congr {off : Fin 2 → Nat} {b : Fin 10} (e : off = colOff b.val) (hh hs) :
    woM.slice (Rect.unit (s := S4096x5120) off S4096x512.size hh) hs = woBlk b := Memref.slice_unit_congr _ e _ _ _ (fun _ => rfl)
theorem wgBlk_congr {off : Fin 2 → Nat} {b : Fin 28} (e : off = colOff b.val) (hh hs) :
    wgM.slice (Rect.unit (s := S5120x14336) off S5120x512.size hh) hs = wgBlk b := Memref.slice_unit_congr _ e _ _ _ (fun _ => rfl)
theorem wuBlk_congr {off : Fin 2 → Nat} {b : Fin 28} (e : off = colOff b.val) (hh hs) :
    wuM.slice (Rect.unit (s := S5120x14336) off S5120x512.size hh) hs = wuBlk b := Memref.slice_unit_congr _ e _ _ _ (fun _ => rfl)
theorem wdBlk_congr {off : Fin 2 → Nat} {b : Fin 28} (e : off = rowOff b.val) (hh hs) :
    wdM.slice (Rect.unit (s := S14336x5120) off S512x5120.size hh) hs = wdBlk b := Memref.slice_unit_congr _ e _ _ _ (fun _ => rfl)
theorem mactBlk_congr {off : Fin 2 → Nat} {b : Fin 28} (e : off = colOff b.val) (hh hs) :
    mactM.slice (Rect.unit (s := S256x14336) off S256x512.size hh) hs = mactBlk b := Memref.slice_unit_congr _ e _ _ _ (fun _ => rfl)

/-! ## The windows' elements -/

theorem slotO_set (s : Fin 4) : (slotO s : Memref sig .tc .vmem _ _).view.set = (Rect.unit (s := S4x5120x512) (slotOff s) S1x4096x512.size (slotO_inb s)).set := (View.set_reshape _ _).trans (View.set_slice_whole _ _)
theorem slotF_set (s : Fin 4) : (slotF s : Memref sig .tc .vmem _ _).view.set = (Rect.unit (s := S4x5120x512) (slotOff s) S1x5120x512.size (slotF_inb s)).set := (View.set_reshape _ _).trans (View.set_slice_whole _ _)
theorem slotD_set (s : Fin 2) : (slotD s : Memref sig .tc .vmem _ _).view.set = (Rect.unit (s := S2x512x5120) (slot2Off s) S1x512x5120.size (dslot_inb s)).set := (View.set_reshape _ _).trans (View.set_slice_whole _ _)
theorem slotA_set (s : Fin 2) : (slotA s : Memref sig .tc .vmem _ _).view.set = (Rect.unit (s := S2x256x512) (slot2Off s) S1x256x512.size (aslot_inb s)).set := (View.set_reshape _ _).trans (View.set_slice_whole _ _)
theorem mactBlk_set (b : Fin 28) : (mactBlk b : Memref sig .tc .hbm _ _).view.set = (Rect.unit (s := S256x14336) (colOff b.val) S256x512.size (mactBlk_inb b)).set := View.set_slice_whole _ _

/-! ## The first loop's windows at trip `k` -/

section T1
variable (k : Fin k0_t1_loop.trips)

theorem t1_lt : k.val < 10 := k.isLt
theorem cond10_iff : ∀ k : Fin k0_t1_loop.trips, k0_cond10 k = 1#1 ↔ k.val ≤ 8 := by decide +kernel
theorem cond11_iff : ∀ k : Fin k0_t1_loop.trips, k0_cond11 k = 1#1 ↔ k.val ≤ 6 := by decide +kernel
theorem cond12_iff : ∀ k : Fin k0_t1_loop.trips, k0_cond12 k = 1#1 ↔ (k.val = 7 ∨ k.val = 9) := by decide +kernel
theorem cond13_iff : ∀ k : Fin k0_t1_loop.trips, k0_cond13 k = 1#1 ↔ k.val = 8 := by decide +kernel
theorem off38_eq : ∀ k : Fin k0_t1_loop.trips, k.val = 7 → k0_off38 k = colOff 0 := by decide +kernel
theorem off41_eq : ∀ k : Fin k0_t1_loop.trips, k.val = 8 → k0_off41 k = colOff 0 := by decide +kernel

@[sl_canon] theorem t1_semW (hh) : (cc0_scratch1.slice (Rect.unit (s := S4) (k0_off31 k) S1.size hh)).squeeze S_ squeezes_S1_S_ = wsem (Ring.sl 4 (k.val + 12)) :=
  wsem_congr (k0_off31_eq k) _
@[sl_canon] theorem t1_semO (hh) : (cc0_scratch1.slice (Rect.unit (s := S4) (k0_off33 k) S1.size hh)).squeeze S_ squeezes_S1_S_ = wsem (Ring.sl 4 (k.val + 15)) :=
  wsem_congr (k0_off33_eq k) _
@[sl_canon] theorem t1_semG (hh) : (cc0_scratch1.slice (Rect.unit (s := S4) (k0_off36 k) S1.size hh)).squeeze S_ squeezes_S1_S_ = wsem (Ring.sl 4 (k.val + 15)) :=
  wsem_congr (k0_off36_eq k) _
@[sl_canon] theorem t1_semU (hh) : (cc0_scratch1.slice (Rect.unit (s := S4) (k0_off39 k) S1.size hh)).squeeze S_ squeezes_S1_S_ = wsem (Ring.sl 4 (k.val + 15)) :=
  wsem_congr (k0_off39_eq k) _
@[sl_canon] theorem t1_slotW (hh hs) : (ringM.slice (Rect.unit (s := S4x5120x512) (k0_off32 k) S1x4096x512.size hh) hs).squeeze S4096x512 squeezes_S1x4096x512_S4096x512 = slotO (Ring.sl 4 (k.val + 12)) :=
  slotO_congr (k0_off32_eq k) _ _
@[sl_canon] theorem t1_slotO (hh hs) : (ringM.slice (Rect.unit (s := S4x5120x512) (k0_off34 k) S1x4096x512.size hh) hs).squeeze S4096x512 squeezes_S1x4096x512_S4096x512 = slotO (Ring.sl 4 (k.val + 15)) :=
  slotO_congr (k0_off34_eq k) _ _
@[sl_canon] theorem t1_slotG (hh hs) : (ringM.slice (Rect.unit (s := S4x5120x512) (k0_off37 k) S1x5120x512.size hh) hs).squeeze S5120x512 squeezes_S1x5120x512_S5120x512 = slotF (Ring.sl 4 (k.val + 15)) :=
  slotF_congr (k0_off37_eq k) _ _
@[sl_canon] theorem t1_slotU (hh hs) : (ringM.slice (Rect.unit (s := S4x5120x512) (k0_off40 k) S1x5120x512.size hh) hs).squeeze S5120x512 squeezes_S1x5120x512_S5120x512 = slotF (Ring.sl 4 (k.val + 15)) :=
  slotF_congr (k0_off40_eq k) _ _
theorem bk10_val (n : ℕ) (h : n < 10) : (Ring.bk 10 n).val = n := Ring.bk_val h
@[sl_canon] theorem t1_blkO (hk : k.val ≤ 6) (hh hs) : woM.slice (Rect.unit (s := S4096x5120) (k0_off35 k) S4096x512.size hh) hs = woBlk (Ring.bk 10 (k.val + 3)) :=
  woBlk_congr ((k0_off35_eq k).trans (by unfold colOff; rw [bk10_val _ (by omega)]; congr 2)) _ _
@[sl_canon] theorem t1_blkG (hk : k.val = 7) (hh hs) : wgM.slice (Rect.unit (s := S5120x14336) (k0_off38 k) S5120x512.size hh) hs = wgBlk 0 :=
  wgBlk_congr (off38_eq k hk) _ _
@[sl_canon] theorem t1_blkU (hk : k.val = 8) (hh hs) : wuM.slice (Rect.unit (s := S5120x14336) (k0_off41 k) S5120x512.size hh) hs = wuBlk 0 :=
  wuBlk_congr (off41_eq k hk) _ _

/-- Rows 512j … 512j+511 of a slot lie in the part an output projection block fills. -/
theorem ring_inO {off : Fin 3 → Nat} {s : Fin 4} (j : ℕ) (hj : j < 8) (e : off = ![s.val, 512 * j, 0]) (hh) :
    (ringM.access (Rect.unit (s := S4x5120x512) off S1x512x512.size hh) : View sig .tc .vmem _ _).set ⊆ (slotO s : Memref sig .tc .vmem _ _).view.set := by
  subst e
  intro i hi
  replace hi := Rect.mem_set_unit.1 ((Finset.ext_iff.1 (View.set_slice_whole _ _) i).1 hi)
  rw [slotO_set, Rect.mem_set_unit]
  intro a
  have h := hi a
  fin_cases a
  · exact h
  · obtain ⟨h1, h2⟩ := h
    exact ⟨Nat.zero_le _, lt_of_lt_of_le h2 (show 512 * j + 512 ≤ 0 + 4096 by omega)⟩
  · exact h

end T1

/-! ## The third loop's windows at trip `k` -/

/-- The cell of the down projection's slot `s`. -/
def dsemW (s : Fin 2) : DmaSems sig S_ := dsem ⟨s.val + 1, by omega⟩
/-- The cell of the activation buffer's slot `s`. -/
def dsemA (s : Fin 2) : DmaSems sig S_ := dsem ⟨s.val + 3, by omega⟩

section T3
variable (k : Fin k0_t3_loop.trips)

theorem t3_lt : k.val < 28 := k.isLt
theorem cond14_iff : ∀ k : Fin k0_t3_loop.trips, k0_cond14 k = 1#1 ↔ k.val < 27 := by decide +kernel
theorem cond15_not : ∀ k : Fin k0_t3_loop.trips, ¬ k0_cond15 k = 1#1 := by decide +kernel
theorem cond16_iff : ∀ k : Fin k0_t3_loop.trips, k0_cond16 k = 1#1 ↔ k.val < 27 := by decide +kernel
theorem cond17_not : ∀ k : Fin k0_t3_loop.trips, ¬ k0_cond17 k = 1#1 := by decide +kernel
theorem cond18_not : ∀ k : Fin k0_t3_loop.trips, ¬ k0_cond18 k = 1#1 := by decide +kernel
theorem cond19_not : ∀ k : Fin k0_t3_loop.trips, ¬ k0_cond19 k = 1#1 := by decide +kernel
theorem cond20_iff : ∀ k : Fin k0_t3_loop.trips, k0_cond20 k = 1#1 ↔ k.val < 27 := by decide +kernel
theorem cond21_iff : ∀ k : Fin k0_t3_loop.trips, k0_cond21 k = 1#1 ↔ 2 ≤ k.val := by decide +kernel
theorem off69_eq : ∀ k : Fin k0_t3_loop.trips, k.val < 27 → k0_off69 k = colOff (k.val + 1) := by decide +kernel
theorem off81_eq : ∀ k : Fin k0_t3_loop.trips, k.val < 27 → k0_off81 k = colOff (k.val + 1) := by decide +kernel
theorem off82_eq : ∀ k : Fin k0_t3_loop.trips, 2 ≤ k.val → k0_off82 k = ![k.val % 2 + 3] := by decide +kernel
theorem off84_eq : ∀ k : Fin k0_t3_loop.trips, 2 ≤ k.val → k0_off84 k = ![k.val % 2, 0, 0] := by decide +kernel
theorem off83_eq : ∀ k : Fin k0_t3_loop.trips, 2 ≤ k.val → k0_off83 k = colOff (k.val - 2) := by decide +kernel
theorem bk28_val (n : ℕ) (h : n < 28) : (Ring.bk 28 n).val = n := Ring.bk_val h

@[sl_canon] theorem t3_semG (hh) : (cc0_scratch1.slice (Rect.unit (s := S4) (k0_off54 k) S1.size hh)).squeeze S_ squeezes_S1_S_ = wsem (Ring.sl 4 (2 * k.val + 22)) :=
  wsem_congr (k0_off54_eq k) _
@[sl_canon] theorem t3_semU (hh) : (cc0_scratch1.slice (Rect.unit (s := S4) (k0_off56 k) S1.size hh)).squeeze S_ squeezes_S1_S_ = wsem (Ring.sl 4 (2 * k.val + 23)) :=
  wsem_congr (k0_off56_eq k) _
@[sl_canon] theorem t3_semG' (hh) : (cc0_scratch1.slice (Rect.unit (s := S4) (k0_off67 k) S1.size hh)).squeeze S_ squeezes_S1_S_ = wsem (Ring.sl 4 (2 * k.val + 24)) :=
  wsem_congr (k0_off67_eq k) _
@[sl_canon] theorem t3_semU' (hh) : (cc0_scratch1.slice (Rect.unit (s := S4) (k0_off79 k) S1.size hh)).squeeze S_ squeezes_S1_S_ = wsem (Ring.sl 4 (2 * k.val + 25)) :=
  wsem_congr (k0_off79_eq k) _
@[sl_canon] theorem t3_semD (hh) : (cc0_scratch2.slice (Rect.unit (s := S5) (k0_off58 k 1#32) S1.size hh)).squeeze S_ squeezes_S1_S_ = dsemW (Ring.sl 2 k.val) :=
  dsem_congr ((k0_off58_eq k 0).trans (congrArg (fun n => ![n]) (by show 2 * 0 + k.val % 2 + 1 = k.val % 2 + 1; omega))) _
@[sl_canon] theorem t3_semD' (hh) : (cc0_scratch2.slice (Rect.unit (s := S5) (k0_off61 k) S1.size hh)).squeeze S_ squeezes_S1_S_ = dsemW (Ring.sl 2 (k.val + 1)) :=
  dsem_congr (k0_off61_eq k) _
@[sl_canon] theorem t3_semA (hh) : (cc0_scratch2.slice (Rect.unit (s := S5) (k0_off58 k 3#32) S1.size hh)).squeeze S_ squeezes_S1_S_ = dsemA (Ring.sl 2 k.val) :=
  dsem_congr ((k0_off58_eq k 1).trans (congrArg (fun n => ![n]) (by show 2 * 1 + k.val % 2 + 1 = k.val % 2 + 3; omega))) _
@[sl_canon] theorem t3_semA' (hk : 2 ≤ k.val) (hh) : (cc0_scratch2.slice (Rect.unit (s := S5) (k0_off82 k) S1.size hh)).squeeze S_ squeezes_S1_S_ = dsemA (Ring.sl 2 k.val) :=
  dsem_congr (off82_eq k hk) _
@[sl_canon] theorem t3_slotG (hh hs) : (ringM.slice (Rect.unit (s := S4x5120x512) (k0_off55 k) S1x5120x512.size hh) hs).squeeze S5120x512 squeezes_S1x5120x512_S5120x512 = slotF (Ring.sl 4 (2 * k.val + 22)) :=
  slotF_congr (k0_off55_eq k) _ _
@[sl_canon] theorem t3_slotU (hh hs) : (ringM.slice (Rect.unit (s := S4x5120x512) (k0_off57 k) S1x5120x512.size hh) hs).squeeze S5120x512 squeezes_S1x5120x512_S5120x512 = slotF (Ring.sl 4 (2 * k.val + 23)) :=
  slotF_congr (k0_off57_eq k) _ _
@[sl_canon] theorem t3_slotG' (hh hs) : (ringM.slice (Rect.unit (s := S4x5120x512) (k0_off68 k) S1x5120x512.size hh) hs).squeeze S5120x512 squeezes_S1x5120x512_S5120x512 = slotF (Ring.sl 4 (2 * k.val + 24)) :=
  slotF_congr (k0_off68_eq k) _ _
@[sl_canon] theorem t3_slotU' (hh hs) : (ringM.slice (Rect.unit (s := S4x5120x512) (k0_off80 k) S1x5120x512.size hh) hs).squeeze S5120x512 squeezes_S1x5120x512_S5120x512 = slotF (Ring.sl 4 (2 * k.val + 25)) :=
  slotF_congr (k0_off80_eq k) _ _
@[sl_canon] theorem t3_slotD (hh hs) : (dringM.slice (Rect.unit (s := S2x512x5120) (k0_off59 k) S1x512x5120.size hh) hs).squeeze S512x5120 squeezes_S1x512x5120_S512x5120 = slotD (Ring.sl 2 k.val) :=
  slotD_congr (k0_off59_eq k) _ _
@[sl_canon] theorem t3_slotD' (hh hs) : (dringM.slice (Rect.unit (s := S2x512x5120) (k0_off62 k) S1x512x5120.size hh) hs).squeeze S512x5120 squeezes_S1x512x5120_S512x5120 = slotD (Ring.sl 2 (k.val + 1)) :=
  slotD_congr (k0_off62_eq k) _ _
@[sl_canon] theorem t3_slotA (hh hs) : (aringM.slice (Rect.unit (s := S2x256x512) (k0_off96 k) S1x256x512.size hh) hs).squeeze S256x512 squeezes_S1x256x512_S256x512 = slotA (Ring.sl 2 k.val) :=
  slotA_congr (k0_off96_eq k) _ _
@[sl_canon] theorem t3_slotA' (hk : 2 ≤ k.val) (hh hs) : (aringM.slice (Rect.unit (s := S2x256x512) (k0_off84 k) S1x256x512.size hh) hs).squeeze S256x512 squeezes_S1x256x512_S256x512 = slotA (Ring.sl 2 k.val) :=
  slotA_congr (off84_eq k hk) _ _
@[sl_canon] theorem t3_blkG' (hk : k.val < 27) (hh hs) : wgM.slice (Rect.unit (s := S5120x14336) (k0_off69 k) S5120x512.size hh) hs = wgBlk (Ring.bk 28 (k.val + 1)) :=
  wgBlk_congr ((off69_eq k hk).trans (by rw [bk28_val _ (by omega)])) _ _
@[sl_canon] theorem t3_blkU' (hk : k.val < 27) (hh hs) : wuM.slice (Rect.unit (s := S5120x14336) (k0_off81 k) S5120x512.size hh) hs = wuBlk (Ring.bk 28 (k.val + 1)) :=
  wuBlk_congr ((off81_eq k hk).trans (by rw [bk28_val _ (by omega)])) _ _
@[sl_canon] theorem t3_blkD (hh hs) : wdM.slice (Rect.unit (s := S14336x5120) (k0_off60 k) S512x5120.size hh) hs = wdBlk (Ring.bk 28 k.val) :=
  wdBlk_congr ((k0_off60_eq k).trans (by unfold rowOff; rw [bk28_val _ k.isLt])) _ _
@[sl_canon] theorem t3_blkD' (hk : k.val < 27) (hh hs) : wdM.slice (Rect.unit (s := S14336x5120) (k0_off63 k) S512x5120.size hh) hs = wdBlk (Ring.bk 28 (k.val + 1)) :=
  wdBlk_congr ((k0_off63_eq k).trans (by unfold rowOff; rw [bk28_val _ (by omega)]; congr 1)) _ _
@[sl_canon] theorem t3_blkA (hh hs) : mactM.slice (Rect.unit (s := S256x14336) (k0_off95 k) S256x512.size hh) hs = mactBlk (Ring.bk 28 k.val) :=
  mactBlk_congr ((k0_off95_eq k).trans (by unfold colOff; rw [bk28_val _ k.isLt])) _ _
@[sl_canon] theorem t3_blkA' (hk : 2 ≤ k.val) (hh hs) : mactM.slice (Rect.unit (s := S256x14336) (k0_off83 k) S256x512.size hh) hs = mactBlk (Ring.bk 28 (k.val - 2)) :=
  mactBlk_congr ((off83_eq k hk).trans (by rw [bk28_val _ (by have := t3_lt k; omega)])) _ _

theorem ring_inF {off : Fin 3 → Nat} {s : Fin 4} (e : off = ![s.val, 0, 0]) (hh) :
    (ringM.access (Rect.unit (s := S4x5120x512) off S1x5120x512.size hh) : View sig .tc .vmem _ _).set ⊆ (slotF s : Memref sig .tc .vmem _ _).view.set := by
  subst e
  refine Finset.subset_of_eq ?_
  unfold slotF
  exact ((View.set_slice_whole _ _).trans ((View.set_reshape _ _).trans (View.set_slice_whole _ _)).symm)
theorem dring_in {off : Fin 3 → Nat} {s : Fin 2} (j : ℕ) (hj : j < 10) (e : off = ![s.val, 0, 512 * j]) (hh) :
    (dringM.access (Rect.unit (s := S2x512x5120) off S1x512x512.size hh) : View sig .tc .vmem _ _).set ⊆ (slotD s : Memref sig .tc .vmem _ _).view.set := by
  subst e
  intro i hi
  replace hi := Rect.mem_set_unit.1 ((Finset.ext_iff.1 (View.set_slice_whole _ _) i).1 hi)
  rw [slotD_set, Rect.mem_set_unit]
  intro a
  have h := hi a
  fin_cases a
  · exact h
  · exact h
  · obtain ⟨h1, h2⟩ := h
    exact ⟨Nat.zero_le _, lt_of_lt_of_le h2 (show 512 * j + 512 ≤ 0 + 5120 by omega)⟩
theorem aring_in {off : Fin 3 → Nat} {s : Fin 2} (j : ℕ) (hj : j < 4) (e : off = ![s.val, 0, 128 * j]) (hh) :
    (aringM.access (Rect.unit (s := S2x256x512) off S1x256x128.size hh) : View sig .tc .vmem _ _).set ⊆ (slotA s : Memref sig .tc .vmem _ _).view.set := by
  subst e
  intro i hi
  replace hi := Rect.mem_set_unit.1 ((Finset.ext_iff.1 (View.set_slice_whole _ _) i).1 hi)
  rw [slotA_set, Rect.mem_set_unit]
  intro a
  have h := hi a
  fin_cases a
  · exact h
  · exact h
  · obtain ⟨h1, h2⟩ := h
    exact ⟨Nat.zero_le _, lt_of_lt_of_le h2 (show 128 * j + 128 ≤ 0 + 512 by omega)⟩
/-- The same, as a store of the whole box asks it. -/
theorem aring_inS {off : Fin 3 → Nat} {s : Fin 2} (j : ℕ) (hj : j < 4) (e : off = ![s.val, 0, 128 * j]) (hh) :
    (aringM.access (Rect.unit (s := S2x256x512) off S1x256x128.size hh) : View sig .tc .vmem _ _).setOn Finset.univ ⊆ (slotA s : Memref sig .tc .vmem _ _).view.set :=
  aring_in j hj e hh
theorem aring_inW {off : Fin 3 → Nat} {s : Fin 2} (e : off = ![s.val, 0, 0]) (hh) :
    (aringM.access (Rect.unit (s := S2x256x512) off S1x256x512.size hh) : View sig .tc .vmem _ _).set ⊆ (slotA s : Memref sig .tc .vmem _ _).view.set := by
  subst e
  refine Finset.subset_of_eq ?_
  unfold slotA
  exact ((View.set_slice_whole _ _).trans ((View.set_reshape _ _).trans (View.set_slice_whole _ _)).symm)

end T3

/-! ## The windows named before and after the loops -/

@[sl_canon] theorem b_sem0 (hh) : (cc0_scratch1.slice (Rect.unit (s := S4) k0_off1 S1.size hh)).squeeze S_ squeezes_S1_S_ = wsem 0 := wsem_congr k0_off1_eq _
@[sl_canon] theorem b_sem1 (hh) : (cc0_scratch1.slice (Rect.unit (s := S4) k0_off10 S1.size hh)).squeeze S_ squeezes_S1_S_ = wsem 1 := wsem_congr k0_off10_eq _
@[sl_canon] theorem b_sem2 (hh) : (cc0_scratch1.slice (Rect.unit (s := S4) k0_off19 S1.size hh)).squeeze S_ squeezes_S1_S_ = wsem 2 := wsem_congr k0_off19_eq _
@[sl_canon] theorem b_slot0 (hh hs) : (ringM.slice (Rect.unit (s := S4x5120x512) k0_off2 S1x4096x512.size hh) hs).squeeze S4096x512 squeezes_S1x4096x512_S4096x512 = slotO 0 := slotO_congr k0_off2_eq _ _
@[sl_canon] theorem b_slot1 (hh hs) : (ringM.slice (Rect.unit (s := S4x5120x512) k0_off11 S1x4096x512.size hh) hs).squeeze S4096x512 squeezes_S1x4096x512_S4096x512 = slotO 1 := slotO_congr k0_off11_eq _ _
@[sl_canon] theorem b_slot2 (hh hs) : (ringM.slice (Rect.unit (s := S4x5120x512) k0_off20 S1x4096x512.size hh) hs).squeeze S4096x512 squeezes_S1x4096x512_S4096x512 = slotO 2 := slotO_congr k0_off20_eq _ _
@[sl_canon] theorem b_blk0 (hh hs) : woM.slice (Rect.unit (s := S4096x5120) k0_off3 S4096x512.size hh) hs = woBlk 0 := woBlk_congr k0_off3_eq _ _
@[sl_canon] theorem b_blk1 (hh hs) : woM.slice (Rect.unit (s := S4096x5120) k0_off12 S4096x512.size hh) hs = woBlk 1 := woBlk_congr k0_off12_eq _ _
@[sl_canon] theorem b_blk2 (hh hs) : woM.slice (Rect.unit (s := S4096x5120) k0_off21 S4096x512.size hh) hs = woBlk 2 := woBlk_congr k0_off21_eq _ _
theorem off28_eq0 : k0_off28 1#32 0#32 = ![1] := by decide +kernel
theorem off28_eq1 : k0_off28 3#32 26#32 = ![3] := by decide +kernel
theorem off28_eq2 : k0_off28 3#32 27#32 = ![4] := by decide +kernel
@[sl_canon] theorem b_semD (hh) : (cc0_scratch2.slice (Rect.unit (s := S5) (k0_off28 1#32 0#32) S1.size hh)).squeeze S_ squeezes_S1_S_ = dsemW 0 := dsem_congr off28_eq0 _
@[sl_canon] theorem b_semA0 (hh) : (cc0_scratch2.slice (Rect.unit (s := S5) (k0_off28 3#32 26#32) S1.size hh)).squeeze S_ squeezes_S1_S_ = dsemA 0 := dsem_congr off28_eq1 _
@[sl_canon] theorem b_semA1 (hh) : (cc0_scratch2.slice (Rect.unit (s := S5) (k0_off28 3#32 27#32) S1.size hh)).squeeze S_ squeezes_S1_S_ = dsemA 1 := dsem_congr off28_eq2 _
@[sl_canon] theorem b_semH (hh) : (cc0_scratch2.slice (Rect.unit (s := S5) ![0] S1.size hh)).squeeze S_ squeezes_S1_S_ = dsem 0 := dsem_congr (s := 0) rfl _
@[sl_canon] theorem b_slotD (hh hs) : (dringM.slice (Rect.unit (s := S2x512x5120) k0_off29 S1x512x5120.size hh) hs).squeeze S512x5120 squeezes_S1x512x5120_S512x5120 = slotD 0 := slotD_congr k0_off29_eq _ _
@[sl_canon] theorem b_blkD (hh hs) : wdM.slice (Rect.unit (s := S14336x5120) k0_off30 S512x5120.size hh) hs = wdBlk 0 := wdBlk_congr k0_off30_eq _ _
theorem off97_eq0 : k0_off97 26#32 = colOff (26 : Fin 28).val := by decide +kernel
theorem off97_eq1 : k0_off97 27#32 = colOff (27 : Fin 28).val := by decide +kernel
theorem off98_eq0 : k0_off98 26#32 = slot2Off 0 := by decide +kernel
theorem off98_eq1 : k0_off98 27#32 = slot2Off 1 := by decide +kernel
theorem cond1_true : k0_cond1 = 1#1 := by decide +kernel
theorem cond2_not : ¬ k0_cond2 = 1#1 := by decide +kernel
theorem cond3_not : ¬ k0_cond3 = 1#1 := by decide +kernel
theorem cond4_true : k0_cond4 = 1#1 := by decide +kernel
theorem cond5_not : ¬ k0_cond5 = 1#1 := by decide +kernel
theorem cond6_not : ¬ k0_cond6 = 1#1 := by decide +kernel
theorem cond7_true : k0_cond7 = 1#1 := by decide +kernel
theorem cond8_not : ¬ k0_cond8 = 1#1 := by decide +kernel
theorem cond9_not : ¬ k0_cond9 = 1#1 := by decide +kernel
@[sl_canon] theorem b_slotA0 (hh hs) : (aringM.slice (Rect.unit (s := S2x256x512) (k0_off98 26#32) S1x256x512.size hh) hs).squeeze S256x512 squeezes_S1x256x512_S256x512 = slotA 0 := slotA_congr off98_eq0 _ _
@[sl_canon] theorem b_slotA1 (hh hs) : (aringM.slice (Rect.unit (s := S2x256x512) (k0_off98 27#32) S1x256x512.size hh) hs).squeeze S256x512 squeezes_S1x256x512_S256x512 = slotA 1 := slotA_congr off98_eq1 _ _
@[sl_canon] theorem b_blkA0 (hh hs) : mactM.slice (Rect.unit (s := S256x14336) (k0_off97 26#32) S256x512.size hh) hs = mactBlk 26 := mactBlk_congr off97_eq0 _ _
@[sl_canon] theorem b_blkA1 (hh hs) : mactM.slice (Rect.unit (s := S256x14336) (k0_off97 27#32) S256x512.size hh) hs = mactBlk 27 := mactBlk_congr off97_eq1 _ _

end Cert.Proof.Layer
-- ==== Proof.Ring.lean ====
module

public import proofs.«01_k».proof.Proof.Names

@[expose] public section

noncomputable section

/-! # The weight ring's resources

A slot of the weight ring is free, or it awaits a column block of the output, gate or up projection's weight. Each slot
carries its own read share of the three weights; a transfer into the slot takes the block it copies at that share. -/

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The read share of the streamed weights that rides with slot `s`. -/
def qs (s : Fin 4) : PosShare TreeShare := Transfers.shareTokN fullShare s.val
/-- The read share of the down projection's weight that rides with slot `s`. -/
def qd (s : Fin 2) : PosShare TreeShare := Transfers.shareTokN fullShare s.val

/-- The four weights' contents. -/
structure Weights (c : Dev nD) where
  wo : Buf (Elt F) (woM.view.loc (c : Thread nD τ))
  wg : Buf (Elt F) (wgM.view.loc (c : Thread nD τ))
  wu : Buf (Elt F) (wuM.view.loc (c : Thread nD τ))
  wd : Buf (Elt F) (wdM.view.loc (c : Thread nD τ))

section Pieces
variable (c : Dev nD) (X : Weights (F := F) c)

abbrev cellP (s : Fin 4) : sProp 𝕄 := semVal ((c : Thread nD τ), SemLoc.dma (wsem s).sem) 0
abbrev slotOP (s : Fin 4) (f : Buf (Elt F) ((slotO s).view.loc (c : Thread nD τ))) : sProp 𝕄 :=
  (slotO s).view.loc (c : Thread nD τ) ↦[(slotO s).view.set]{fullShare} f
abbrev slotFP (s : Fin 4) (f : Buf (Elt F) ((slotF s).view.loc (c : Thread nD τ))) : sProp 𝕄 :=
  (slotF s).view.loc (c : Thread nD τ) ↦[(slotF s).view.set]{fullShare} f
abbrev woP (s : Fin 4) (b : Fin 10) : sProp 𝕄 := (woBlk b).view.loc (c : Thread nD τ) ↦[(woBlk b).view.set]{qs s} X.wo
abbrev wgP (s : Fin 4) (b : Fin 28) : sProp 𝕄 := (wgBlk b).view.loc (c : Thread nD τ) ↦[(wgBlk b).view.set]{qs s} X.wg
abbrev wuP (s : Fin 4) (b : Fin 28) : sProp 𝕄 := (wuBlk b).view.loc (c : Thread nD τ) ↦[(wuBlk b).view.set]{qs s} X.wu
abbrev woW (s : Fin 4) : sProp 𝕄 := woM.view.loc (c : Thread nD τ) ↦{qs s} X.wo
abbrev wgW (s : Fin 4) : sProp 𝕄 := wgM.view.loc (c : Thread nD τ) ↦{qs s} X.wg
abbrev wuW (s : Fin 4) : sProp 𝕄 := wuM.view.loc (c : Thread nD τ) ↦{qs s} X.wu

/-- A block's words as a slot's payload. -/
abbrev payO (b : Fin 10) : S4096x512.Idx → Elt F .fp8e4m3 := ReadAs.same.apply ((woBlk b).view.read (Elt F) X.wo)
abbrev payG (b : Fin 28) : S5120x512.Idx → Elt F .fp8e4m3 := ReadAs.same.apply ((wgBlk b).view.read (Elt F) X.wg)
abbrev payU (b : Fin 28) : S5120x512.Idx → Elt F .fp8e4m3 := ReadAs.same.apply ((wuBlk b).view.read (Elt F) X.wu)

abbrev flightO (s : Fin 4) (b : Fin 10) (f : Buf (Elt F) ((slotO s).view.loc (c : Thread nD τ))) : sProp 𝕄 :=
  Transfers.Flight countersEmb (c : Thread nD τ) (SemLoc.dma (wsem s).sem) () 65536
    iprop(slotOP c s ((slotO s).view.writes (Elt F) f [⟨Rect.whole S4096x512, payO c X b⟩]) ∗ woP c X s b)
abbrev flightG (s : Fin 4) (b : Fin 28) (f : Buf (Elt F) ((slotF s).view.loc (c : Thread nD τ))) : sProp 𝕄 :=
  Transfers.Flight countersEmb (c : Thread nD τ) (SemLoc.dma (wsem s).sem) () 81920
    iprop(slotFP c s ((slotF s).view.writes (Elt F) f [⟨Rect.whole S5120x512, payG c X b⟩]) ∗ wgP c X s b)
abbrev flightU (s : Fin 4) (b : Fin 28) (f : Buf (Elt F) ((slotF s).view.loc (c : Thread nD τ))) : sProp 𝕄 :=
  Transfers.Flight countersEmb (c : Thread nD τ) (SemLoc.dma (wsem s).sem) () 81920
    iprop(slotFP c s ((slotF s).view.writes (Elt F) f [⟨Rect.whole S5120x512, payU c X b⟩]) ∗ wuP c X s b)

/-- What stays behind while block `b` of the output projection's weight is on its way into slot `s`. -/
def hidO (s : Fin 4) (b : Fin 10) : sProp 𝕄 :=
  iprop((∃ g : Buf (Elt F) ((slotF s).view.loc (c : Thread nD τ)), (slotF s).view.loc (c : Thread nD τ) ↦[(slotF s).view.set \ (slotO s).view.set]{fullShare} g)
    ∗ (woM.view.loc (c : Thread nD τ) ↦[Finset.univ \ (woBlk b).view.set]{qs s} X.wo) ∗ wgW c X s ∗ wuW c X s)
def hidG (s : Fin 4) (b : Fin 28) : sProp 𝕄 :=
  iprop(woW c X s ∗ (wgM.view.loc (c : Thread nD τ) ↦[Finset.univ \ (wgBlk b).view.set]{qs s} X.wg) ∗ wuW c X s)
def hidU (s : Fin 4) (b : Fin 28) : sProp 𝕄 :=
  iprop(woW c X s ∗ wgW c X s ∗ (wuM.view.loc (c : Thread nD τ) ↦[Finset.univ \ (wuBlk b).view.set]{qs s} X.wu))

/-- Slot `s` free: its cell at zero, its words at anything, its shares of the weights whole. -/
def freeSlot (s : Fin 4) : sProp 𝕄 := iprop(cellP c s ∗ (∃ f, slotFP c s f) ∗ woW c X s ∗ wgW c X s ∗ wuW c X s)
/-- Slot `s` awaiting block `b` of the output, gate, up projection's weight. -/
def fltO (s : Fin 4) (b : Fin 10) : sProp 𝕄 := iprop((∃ f, flightO c X s b f) ∗ hidO c X s b)
def fltG (s : Fin 4) (b : Fin 28) : sProp 𝕄 := iprop((∃ f, flightG c X s b f) ∗ hidG c X s b)
def fltU (s : Fin 4) (b : Fin 28) : sProp 𝕄 := iprop((∃ f, flightU c X s b f) ∗ hidU c X s b)

omit [FloatOps F] in
theorem slotO_sub (s : Fin 4) : (slotO s : Memref sig .tc .vmem _ _).view.set ⊆ (slotF s : Memref sig .tc .vmem _ _).view.set := by
  intro i hi
  replace hi := Rect.mem_set_unit.1 ((Finset.ext_iff.1 (slotO_set s) i).1 hi)
  refine (Finset.ext_iff.1 (slotF_set s) i).2 (Rect.mem_set_unit.2 fun a => ?_)
  have h := hi a
  fin_cases a
  · exact h
  · exact ⟨h.1, lt_of_lt_of_le h.2 (show 0 + 4096 ≤ 0 + 5120 by omega)⟩
  · exact h

theorem free_openO (s : Fin 4) (b : Fin 10) : freeSlot c X s ⊢ iprop(cellP c s ∗ (∃ f, slotOP c s f) ∗ woP c X s b ∗ hidO c X s b) := by
  unfold freeSlot hidO
  iintro ⟨Hc, ⟨%f, Hs⟩, Ho, Hg, Hu⟩
  ihave H2 := (pointsTo_split_subset (slotO_sub s)).1 $$ Hs
  icases H2 with ⟨Hs, Hr⟩
  ihave H2 := (pointsTo_split_subset (Finset.subset_univ (woBlk b).view.set)).1 $$ Ho
  icases H2 with ⟨Ho, Hor⟩
  isplitl [Hc]; · iexact Hc
  isplitl [Hs]; · iexists f; iexact Hs
  isplitl [Ho]; · iexact Ho
  isplitl [Hr]; · iexists f; iexact Hr
  isplitl [Hor]; · iexact Hor
  isplitl [Hg]; · iexact Hg
  iexact Hu
theorem free_closeO (s : Fin 4) (b : Fin 10) : iprop(cellP c s ∗ (∃ f, slotOP c s f) ∗ woP c X s b ∗ hidO c X s b) ⊢ freeSlot c X s := by
  unfold freeSlot hidO
  iintro ⟨Hc, ⟨%f, Hs⟩, Ho, ⟨%g, Hr⟩, Hor, Hg, Hu⟩
  ihave Hs2 := (pointsTo_join_subset (slotO_sub s) (ℓ := (slotF s).view.loc (c : Thread nD τ)) (q := fullShare) (g := f) (f := g)) $$ [Hs Hr]
  · isplitl [Hs]; · iexact Hs
    iexact Hr
  ihave Ho2 := (pointsTo_split_subset (Finset.subset_univ (woBlk b).view.set) (ℓ := woM.view.loc (c : Thread nD τ)) (q := qs s) (f := X.wo)).2 $$ [Ho Hor]
  · isplitl [Ho]; · iexact Ho
    iexact Hor
  isplitl [Hc]; · iexact Hc
  isplitl [Hs2]; · iexists _; iexact Hs2
  isplitl [Ho2]; · iexact Ho2
  isplitl [Hg]; · iexact Hg
  iexact Hu
theorem free_openG (s : Fin 4) (b : Fin 28) : freeSlot c X s ⊣⊢ iprop(cellP c s ∗ (∃ f, slotFP c s f) ∗ wgP c X s b ∗ hidG c X s b) := by
  unfold freeSlot hidG
  refine ⟨?_, ?_⟩
  · iintro ⟨Hc, Hs, Ho, Hg, Hu⟩
    ihave H2 := (pointsTo_split_subset (Finset.subset_univ (wgBlk b).view.set)).1 $$ Hg
    icases H2 with ⟨Hg, Hr⟩
    isplitl [Hc]; · iexact Hc
    isplitl [Hs]; · iexact Hs
    isplitl [Hg]; · iexact Hg
    isplitl [Ho]; · iexact Ho
    isplitl [Hr]; · iexact Hr
    iexact Hu
  · iintro ⟨Hc, Hs, Hg, Ho, Hr, Hu⟩
    ihave Hg2 := (pointsTo_split_subset (Finset.subset_univ (wgBlk b).view.set) (ℓ := wgM.view.loc (c : Thread nD τ)) (q := qs s) (f := X.wg)).2 $$ [Hg Hr]
    · isplitl [Hg]; · iexact Hg
      iexact Hr
    isplitl [Hc]; · iexact Hc
    isplitl [Hs]; · iexact Hs
    isplitl [Ho]; · iexact Ho
    isplitl [Hg2]; · iexact Hg2
    iexact Hu
theorem free_openU (s : Fin 4) (b : Fin 28) : freeSlot c X s ⊣⊢ iprop(cellP c s ∗ (∃ f, slotFP c s f) ∗ wuP c X s b ∗ hidU c X s b) := by
  unfold freeSlot hidU
  refine ⟨?_, ?_⟩
  · iintro ⟨Hc, Hs, Ho, Hg, Hu⟩
    ihave H2 := (pointsTo_split_subset (Finset.subset_univ (wuBlk b).view.set)).1 $$ Hu
    icases H2 with ⟨Hu, Hr⟩
    isplitl [Hc]; · iexact Hc
    isplitl [Hs]; · iexact Hs
    isplitl [Hu]; · iexact Hu
    isplitl [Ho]; · iexact Ho
    isplitl [Hg]; · iexact Hg
    iexact Hr
  · iintro ⟨Hc, Hs, Hu, Ho, Hg, Hr⟩
    ihave Hu2 := (pointsTo_split_subset (Finset.subset_univ (wuBlk b).view.set) (ℓ := wuM.view.loc (c : Thread nD τ)) (q := qs s) (f := X.wu)).2 $$ [Hu Hr]
    · isplitl [Hu]; · iexact Hu
      iexact Hr
    isplitl [Hc]; · iexact Hc
    isplitl [Hs]; · iexact Hs
    isplitl [Ho]; · iexact Ho
    isplitl [Hg]; · iexact Hg
    iexact Hu2

/-- Slot number `n` of the first loop: awaiting an output projection block, then the first gate and up blocks, then free. -/
def ringAt (n : ℕ) : sProp 𝕄 :=
  if n < 22 then fltO c X (Ring.sl 4 n) (Ring.bk 10 (n - 12))
  else if n = 22 then fltG c X (Ring.sl 4 n) 0
  else if n = 23 then fltU c X (Ring.sl 4 n) 0
  else freeSlot c X (Ring.sl 4 n)

theorem ringAt_lt (n : ℕ) (h : n < 22) : ringAt c X n = fltO c X (Ring.sl 4 n) (Ring.bk 10 (n - 12)) := by
  unfold ringAt; rw [if_pos h]
theorem ringAt_gate (n : ℕ) (h : n = 22) : ringAt c X n = fltG c X (Ring.sl 4 n) 0 := by
  unfold ringAt; rw [if_neg (by omega), if_pos h]
theorem ringAt_up (n : ℕ) (h : n = 23) : ringAt c X n = fltU c X (Ring.sl 4 n) 0 := by
  unfold ringAt; rw [if_neg (by omega), if_neg (by omega), if_pos h]
theorem ringAt_ge (n : ℕ) (h : 24 ≤ n) : ringAt c X n = freeSlot c X (Ring.sl 4 n) := by
  unfold ringAt; rw [if_neg (by omega), if_neg (by omega), if_neg (by omega)]

/-! ## The other buffers' resources -/

abbrev slotDP (s : Fin 2) (f : Buf (Elt F) ((slotD s).view.loc (c : Thread nD τ))) : sProp 𝕄 :=
  (slotD s).view.loc (c : Thread nD τ) ↦[(slotD s).view.set]{fullShare} f
abbrev wdP (s : Fin 2) (b : Fin 28) : sProp 𝕄 := (wdBlk b).view.loc (c : Thread nD τ) ↦[(wdBlk b).view.set]{qd s} X.wd
abbrev wdW (s : Fin 2) : sProp 𝕄 := wdM.view.loc (c : Thread nD τ) ↦{qd s} X.wd
abbrev payD (b : Fin 28) : S512x5120.Idx → Elt F .fp8e4m3 := ReadAs.same.apply ((wdBlk b).view.read (Elt F) X.wd)
abbrev cellD (s : Fin 2) : sProp 𝕄 := semVal ((c : Thread nD τ), SemLoc.dma (dsemW s).sem) 0
abbrev flightD (s : Fin 2) (b : Fin 28) (f : Buf (Elt F) ((slotD s).view.loc (c : Thread nD τ))) : sProp 𝕄 :=
  Transfers.Flight countersEmb (c : Thread nD τ) (SemLoc.dma (dsemW s).sem) () 81920
    iprop(slotDP c s ((slotD s).view.writes (Elt F) f [⟨Rect.whole S512x5120, payD c X b⟩]) ∗ wdP c X s b)
def hidD (s : Fin 2) (b : Fin 28) : sProp 𝕄 := iprop(wdM.view.loc (c : Thread nD τ) ↦[Finset.univ \ (wdBlk b).view.set]{qd s} X.wd)
/-- Slot `s` of the down projection's buffer free, and awaiting block `b`. -/
def freeD (s : Fin 2) : sProp 𝕄 := iprop(cellD c s ∗ (∃ f, slotDP c s f) ∗ wdW c X s)
def fltD (s : Fin 2) (b : Fin 28) : sProp 𝕄 := iprop((∃ f, flightD c X s b f) ∗ hidD c X s b)
theorem free_openD (s : Fin 2) (b : Fin 28) : freeD c X s ⊣⊢ iprop(cellD c s ∗ (∃ f, slotDP c s f) ∗ wdP c X s b ∗ hidD c X s b) := by
  unfold freeD hidD
  refine ⟨?_, ?_⟩
  · iintro ⟨Hc, Hs, Hu⟩
    ihave H2 := (pointsTo_split_subset (Finset.subset_univ (wdBlk b).view.set)).1 $$ Hu
    icases H2 with ⟨Hu, Hr⟩
    isplitl [Hc]; · iexact Hc
    isplitl [Hs]; · iexact Hs
    isplitl [Hu]; · iexact Hu
    iexact Hr
  · iintro ⟨Hc, Hs, Hu, Hr⟩
    ihave Hu2 := (pointsTo_split_subset (Finset.subset_univ (wdBlk b).view.set) (ℓ := wdM.view.loc (c : Thread nD τ)) (q := qd s) (f := X.wd)).2 $$ [Hu Hr]
    · isplitl [Hu]; · iexact Hu
      iexact Hr
    isplitl [Hc]; · iexact Hc
    isplitl [Hs]; · iexact Hs
    iexact Hu2

end Pieces

end Cert.Proof.Layer
-- ==== Proof.Wo.lean ====
module

public import proofs.«01_k».proof.Proof.Ring

@[expose] public section

noncomputable section

/-! # The output projection's loop -/

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (X : Weights (F := F) c)
variable (arg0 : Memref sig .tc .vmem S256x5120 .bf16) (harg0 : arg0.IsWhole) (arg1 : Memref sig .tc .vmem S40x128 .f32) (harg1 : arg1.IsWhole)
  (arg2 : Memref sig .tc .vmem S40x128 .f32) (harg2 : arg2.IsWhole) (arg3 : Memref sig .tc .vmem S112x128 .f32) (harg3 : arg3.IsWhole)
  (arg4 : Memref sig .tc .vmem S112x128 .f32) (harg4 : arg4.IsWhole) (arg5 : Memref sig .tc .vmem S40x128 .f32) (harg5 : arg5.IsWhole)
  (arg6 : Memref sig .tc .vmem S8x256x512 .bf16) (harg6 : arg6.IsWhole)
  (out : Memref sig .tc .hbm S256x5120 .bf16) (hout : out.IsWhole) (hmid : Memref sig .tc .hbm S256x5120 .bf16) (hhmid : hmid.IsWhole)
  (hm : Memref sig .tc .vmem S256x5120 .bf16) (hhm : hm.IsWhole) (h2 : Memref sig .tc .vmem S256x5120 .bf16) (hh2 : h2.IsWhole)
  (ss : Memref sig .tc .vmem S256x128 .f32) (hss : ss.IsWhole) (acc : Memref sig .tc .vmem S256x5120 .f32) (hacc : acc.IsWhole)

abbrev trip1G (v52 : BitVec 32) (v58 : BitVec 1) := k0_t1_body (F := F) arg0 harg0 arg1 harg1 arg2 harg2 arg3 harg3 arg4 harg4 arg5 harg5 arg6 harg6 woM (Memref.isWhole_whole _) wgM (Memref.isWhole_whole _) wuM (Memref.isWhole_whole _) wdM (Memref.isWhole_whole _) out hout hmid hhmid mactM (Memref.isWhole_whole _) ringM (Memref.isWhole_whole _) cc0_scratch1 cc0_scratch2 hm hhm h2 hh2 ss hss dringM (Memref.isWhole_whole _) acc hacc aringM (Memref.isWhole_whole _) v52 v58

abbrev vecP {sp : Space} {s : Shape} {e : EltTy} (m : Memref sig .tc sp s e) (f : Buf (Elt F) (m.view.loc (c : Thread nD τ))) : sProp 𝕄 :=
  m.view.loc (c : Thread nD τ) ↦[m.view.set]{fullShare} f

/-! ## One trip's values -/

variable (X0 : Buf (Elt F) (arg0.view.loc (c : Thread nD τ))) (X2 : Buf (Elt F) (arg2.view.loc (c : Thread nD τ))) (X6 : Buf (Elt F) (arg6.view.loc (c : Thread nD τ)))

section Values
variable (k : Fin k0_t1_loop.trips)

/-- The weight slot as trip `k` finds it, read at 512 of its rows. -/
abbrev wRead (off : Fin 3 → Nat) (hh : ∀ a, off a + S1x512x512.size a ≤ S4x5120x512.size a) : Vec F S1x512x512 .fp8e4m3 :=
  View.readAt (Elt F) ringM.view (Rect.unit (s := S4x5120x512) off S1x512x512.size hh).toLoadRect
    ((slotO (Ring.sl 4 (k.val + 12))).view.writes (Elt F) (slotO (Ring.sl 4 (k.val + 12))).view.junk [⟨Rect.whole S4096x512, payO c X (Ring.bk 10 k.val)⟩])
/-- Plane `j` of the attention output. -/
abbrev aRead (j : ℕ) (hh : ∀ a, (![j, 0, 0] : Fin 3 → Nat) a + S1x256x512.size a ≤ S8x256x512.size a) : Vec F S1x256x512 .bf16 :=
  View.readAt (Elt F) arg6.view (Rect.unit (s := S8x256x512) ![j, 0, 0] S1x256x512.size hh).toLoadRect X6
abbrev soRead (r : BitVec 32) (hh : ∀ a, k0_off50 k r a + S1x128.size a ≤ S40x128.size a) : Vec F S1x128 .f32 :=
  View.readAt (Elt F) arg2.view (Rect.unit (s := S40x128) (k0_off50 k r) S1x128.size hh).toLoadRect X2
abbrev xRead (r : BitVec 32) (hh : ∀ a, k0_off51 k r a + S256x128.size a ≤ S256x5120.size a) : Vec F S256x128 .bf16 :=
  View.readAt (Elt F) arg0.view (Rect.unit (s := S256x5120) (k0_off51 k r) S256x128.size hh).toLoadRect X0

/-- The first seven planes' products, summed. -/
def y7 : FVec F S256x512 .f32 :=
  k0_pay3 (k0_pay1 (aRead c arg6 X6 0 inb_S8x256x512_S1x256x512_0_0_0) (wRead c X k (k0_off42 k) (k0_off42_inb k)) (aRead c arg6 X6 1 inb_S8x256x512_S1x256x512_1_0_0) (wRead c X k (k0_off43 k) (k0_off43_inb k)))
    (k0_pay2 (aRead c arg6 X6 2 inb_S8x256x512_S1x256x512_2_0_0)) (wRead c X k (k0_off44 k) (k0_off44_inb k))
    (aRead c arg6 X6 3 inb_S8x256x512_S1x256x512_3_0_0) (wRead c X k (k0_off45 k) (k0_off45_inb k))
    (aRead c arg6 X6 4 inb_S8x256x512_S1x256x512_4_0_0) (wRead c X k (k0_off46 k) (k0_off46_inb k))
    (aRead c arg6 X6 5 inb_S8x256x512_S1x256x512_5_0_0) (wRead c X k (k0_off47 k) (k0_off47_inb k))
    (aRead c arg6 X6 6 inb_S8x256x512_S1x256x512_6_0_0) (wRead c X k (k0_off48 k) (k0_off48_inb k))
/-- The last plane and its rows of the weight. -/
abbrev a7 : Vec F S1x256x512 .bf16 := aRead c arg6 X6 7 inb_S8x256x512_S1x256x512_7_0_0
abbrev w7 : Vec F S1x512x512 .fp8e4m3 := wRead c X k (k0_off49 k) (k0_off49_inb k)
/-- Block `k` of the projection. -/
def y8 : FVec F S256x512 .f32 := k0_pay4 (y7 c X arg6 X6 k) (a7 c arg6 X6) (w7 c X k)

/-- The four column stripes the trip stores. -/
def hp0 : FVec F S256x128 .bf16 := k0_pay6 (y7 c X arg6 X6 k) (a7 c arg6 X6) (w7 c X k) (soRead c arg2 X2 k 0#32 (k0_off50_inb k 0)) (xRead c arg0 X0 k 0#32 (k0_off51_inb k 0))
def hp1 : FVec F S256x128 .bf16 := k0_pay10 (k0_pay8 (y7 c X arg6 X6 k) (a7 c arg6 X6) (w7 c X k) (soRead c arg2 X2 k 1#32 (k0_off50_inb k 1))) (xRead c arg0 X0 k 128#32 (k0_off51_inb k 1))
def hp2 : FVec F S256x128 .bf16 := k0_pay12 (y8 c X arg6 X6 k) (soRead c arg2 X2 k 2#32 (k0_off50_inb k 2)) (xRead c arg0 X0 k 256#32 (k0_off51_inb k 2))
def hp3 : FVec F S256x128 .bf16 := k0_pay139 (k0_pay14 (y8 c X arg6 X6 k)) (k0_pay15 (soRead c arg2 X2 k 3#32 (k0_off50_inb k 3))) (xRead c arg0 X0 k 384#32 (k0_off51_inb k 3))

abbrev R51 (r : BitVec 32) (hh : ∀ a, k0_off51 k r a + S256x128.size a ≤ S256x5120.size a) : Rect S256x5120 := Rect.unit (s := S256x5120) (k0_off51 k r) S256x128.size hh
abbrev RSS : Rect S256x128 := Rect.unit (s := S256x128) ![0, 0] S256x128.size inb_S256x128_S256x128_0_0

/-- The residual stream after the trip. -/
def hmNext (HM : Buf (Elt F) (hm.view.loc (c : Thread nD τ))) : Buf (Elt F) (hm.view.loc (c : Thread nD τ)) :=
  hm.view.writes (Elt F) HM [⟨R51 k 384#32 (k0_off51_inb k 3), hp3 c X arg0 arg2 arg6 X0 X2 X6 k⟩, ⟨R51 k 256#32 (k0_off51_inb k 2), hp2 c X arg0 arg2 arg6 X0 X2 X6 k⟩,
    ⟨R51 k 128#32 (k0_off51_inb k 1), hp1 c X arg0 arg2 arg6 X0 X2 X6 k⟩, ⟨R51 k 0#32 (k0_off51_inb k 0), hp0 c X arg0 arg2 arg6 X0 X2 X6 k⟩]
/-- The sums of squares after the trip. -/
def ssNext (SS : Buf (Elt F) (ss.view.loc (c : Thread nD τ))) : Buf (Elt F) (ss.view.loc (c : Thread nD τ)) :=
  ss.view.writes (Elt F) SS [⟨RSS, k0_pay140
    (k0_pay13 (y8 c X arg6 X6 k)
      (k0_pay7 (y7 c X arg6 X6 k) (a7 c arg6 X6) (w7 c X k) (View.readAt (Elt F) ss.view RSS.toLoadRect SS) (soRead c arg2 X2 k 0#32 (k0_off50_inb k 0)) (xRead c arg0 X0 k 0#32 (k0_off51_inb k 0)))
      (k0_pay8 (y7 c X arg6 X6 k) (a7 c arg6 X6) (w7 c X k) (soRead c arg2 X2 k 1#32 (k0_off50_inb k 1))) (xRead c arg0 X0 k 128#32 (k0_off51_inb k 1))
      (soRead c arg2 X2 k 2#32 (k0_off50_inb k 2)) (xRead c arg0 X0 k 256#32 (k0_off51_inb k 2)))
    (k0_pay14 (y8 c X arg6 X6 k)) (k0_pay15 (soRead c arg2 X2 k 3#32 (k0_off50_inb k 3))) (xRead c arg0 X0 k 384#32 (k0_off51_inb k 3))⟩]
end Values

/-! ## One trip -/

theorem trip1 (v52 : BitVec 32) (v58 : BitVec 1) (k : Fin k0_t1_loop.trips) (a : BitVec 32)
   (HM : Buf (Elt F) (hm.view.loc (c : Thread nD τ))) (SS : Buf (Elt F) (ss.view.loc (c : Thread nD τ))) :
   iprop(vecP c arg0 X0 ∗ vecP c arg2 X2 ∗ vecP c arg6 X6 ∗ vecP c hm HM ∗ vecP c ss SS ∗ (∃ W, owes (c : Thread nD τ) 0 W)
     ∗ fltO c X (Ring.sl 4 (k.val + 12)) (Ring.bk 10 k.val) ∗ freeSlot c X (Ring.sl 4 (k.val + 15)))
   ⊢ wp frame (wpE (defs₀ (F := F)) 𝒱₀ (c : Thread nD τ) none) Set.univ (trip1G arg0 harg0 arg1 harg1 arg2 harg2 arg3 harg3 arg4 harg4 arg5 harg5 arg6 harg6 out hout hmid hhmid hm hhm h2 hh2 ss hss acc hacc v52 v58 k a)
      (fun _ => iprop(vecP c arg0 X0 ∗ vecP c arg2 X2 ∗ vecP c arg6 X6 ∗ vecP c hm (hmNext c X arg0 arg2 arg6 hm X0 X2 X6 k HM) ∗ vecP c ss (ssNext c X arg0 arg2 arg6 ss X0 X2 X6 k SS) ∗ (∃ W, owes (c : Thread nD τ) 0 W)
     ∗ freeSlot c X (Ring.sl 4 (k.val + 12)) ∗ ringAt c X (k.val + 15))) := by
  have hk : k.val < 10 := t1_lt k
  have hS0 := ring_inO (s := Ring.sl 4 (k.val + 12)) 0 (by decide) (k0_off42_eq k) (k0_off42_inb k)
  have hS1 := ring_inO (s := Ring.sl 4 (k.val + 12)) 1 (by decide) (k0_off43_eq k) (k0_off43_inb k)
  have hS2 := ring_inO (s := Ring.sl 4 (k.val + 12)) 2 (by decide) (k0_off44_eq k) (k0_off44_inb k)
  have hS3 := ring_inO (s := Ring.sl 4 (k.val + 12)) 3 (by decide) (k0_off45_eq k) (k0_off45_inb k)
  have hS4 := ring_inO (s := Ring.sl 4 (k.val + 12)) 4 (by decide) (k0_off46_eq k) (k0_off46_inb k)
  have hS5 := ring_inO (s := Ring.sl 4 (k.val + 12)) 5 (by decide) (k0_off47_eq k) (k0_off47_inb k)
  have hS6 := ring_inO (s := Ring.sl 4 (k.val + 12)) 6 (by decide) (k0_off48_eq k) (k0_off48_inb k)
  have hS7 := ring_inO (s := Ring.sl 4 (k.val + 12)) 7 (by decide) (k0_off49_eq k) (k0_off49_inb k)
  dsimp only [trip1G]
  sl_unfold [k0_t1_body]
  unfold fltO
  have hcase : k.val ≤ 6 ∨ k.val = 7 ∨ k.val = 8 ∨ k.val = 9 := by omega
  rcases hcase with h | h | h | h
  all_goals
    iintro ⟨H0, H2, H6, Hhm, Hss, ⟨%W, HW⟩, ⟨⟨%f, HF⟩, Hhid⟩, Hfree⟩
  on_goal 1 =>
    have h10 : k0_cond10 k = 1#1 := (cond10_iff k).2 (by omega)
    have h11 : k0_cond11 k = 1#1 := (cond11_iff k).2 (by omega)
    have h12 : ¬ k0_cond12 k = 1#1 := fun e => by have := (cond12_iff k).1 e; omega
    have h13 : ¬ k0_cond13 k = 1#1 := fun e => by have := (cond13_iff k).1 e; omega
    ihave Hop := (free_openO c X _ (Ring.bk 10 (k.val + 3))) $$ Hfree
    icases Hop with ⟨Hc, ⟨%f', Hs⟩, Hw, Hh⟩
  on_goal 2 =>
    have h10 : k0_cond10 k = 1#1 := (cond10_iff k).2 (by omega)
    have h11 : ¬ k0_cond11 k = 1#1 := fun e => by have := (cond11_iff k).1 e; omega
    have h12 : k0_cond12 k = 1#1 := (cond12_iff k).2 (by omega)
    have h13 : ¬ k0_cond13 k = 1#1 := fun e => by have := (cond13_iff k).1 e; omega
    ihave Hop := (free_openG c X _ 0).1 $$ Hfree
    icases Hop with ⟨Hc, ⟨%f', Hs⟩, Hw, Hh⟩
  on_goal 3 =>
    have h10 : k0_cond10 k = 1#1 := (cond10_iff k).2 (by omega)
    have h11 : ¬ k0_cond11 k = 1#1 := fun e => by have := (cond11_iff k).1 e; omega
    have h12 : ¬ k0_cond12 k = 1#1 := fun e => by have := (cond12_iff k).1 e; omega
    have h13 : k0_cond13 k = 1#1 := (cond13_iff k).2 (by omega)
    ihave Hop := (free_openU c X _ 0).1 $$ Hfree
    icases Hop with ⟨Hc, ⟨%f', Hs⟩, Hw, Hh⟩
  on_goal 4 =>
    have h10 : ¬ k0_cond10 k = 1#1 := fun e => by have := (cond10_iff k).1 e; omega
  all_goals
    sl_exec
    sl_step
    isplitl [H0]; · iexact H0
    isplitl [H2]; · iexact H2
    isplitl [H6]; · iexact H6
    isplitl [Hhm]; · iexact Hhm
    isplitl [Hss]; · iexact Hss
    isplitl [HW]; · iexists _; iexact HW
    isplitl [HF HF_dst HF_src Hhid]
    · iapply (free_closeO c X _ (Ring.bk 10 k.val))
      isplitl [HF]; · iexact HF
      isplitl [HF_dst]; · iexists _; iexact HF_dst
      isplitl [HF_src]; · iexact HF_src
      iexact Hhid
  on_goal 1 =>
    iapply (Entails.of_eq (ringAt_lt c X _ (by omega)).symm)
    unfold fltO
  on_goal 2 =>
    iapply (Entails.of_eq (ringAt_gate c X _ (by omega)).symm)
    unfold fltG
  on_goal 3 =>
    iapply (Entails.of_eq (ringAt_up c X _ (by omega)).symm)
    unfold fltU
  on_goal 4 =>
    iapply (Entails.of_eq (ringAt_ge c X _ (by omega)).symm)
    iexact Hfree
  all_goals
    isplitl [Hc]; · iexists _; iexact Hc
    iexact Hh

end Trip
end Cert.Proof.Layer
-- ==== Proof.Norm.lean ====
module

public import proofs.«01_k».proof.Proof.Wo

@[expose] public section

noncomputable section

/-! # The normalisation's loop -/

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD)
variable (arg0 : Memref sig .tc .vmem S256x5120 .bf16) (harg0 : arg0.IsWhole) (arg1 : Memref sig .tc .vmem S40x128 .f32) (harg1 : arg1.IsWhole)
  (arg2 : Memref sig .tc .vmem S40x128 .f32) (harg2 : arg2.IsWhole) (arg3 : Memref sig .tc .vmem S112x128 .f32) (harg3 : arg3.IsWhole)
  (arg4 : Memref sig .tc .vmem S112x128 .f32) (harg4 : arg4.IsWhole) (arg5 : Memref sig .tc .vmem S40x128 .f32) (harg5 : arg5.IsWhole)
  (arg6 : Memref sig .tc .vmem S8x256x512 .bf16) (harg6 : arg6.IsWhole)
  (out : Memref sig .tc .hbm S256x5120 .bf16) (hout : out.IsWhole) (hmid : Memref sig .tc .hbm S256x5120 .bf16) (hhmid : hmid.IsWhole)
  (hm : Memref sig .tc .vmem S256x5120 .bf16) (hhm : hm.IsWhole) (h2 : Memref sig .tc .vmem S256x5120 .bf16) (hh2 : h2.IsWhole)
  (ss : Memref sig .tc .vmem S256x128 .f32) (hss : ss.IsWhole) (acc : Memref sig .tc .vmem S256x5120 .f32) (hacc : acc.IsWhole)

abbrev trip2G := k0_t2_body (F := F) arg0 harg0 arg1 harg1 arg2 harg2 arg3 harg3 arg4 harg4 arg5 harg5 arg6 harg6 woM (Memref.isWhole_whole _) wgM (Memref.isWhole_whole _) wuM (Memref.isWhole_whole _) wdM (Memref.isWhole_whole _) out hout hmid hhmid mactM (Memref.isWhole_whole _) ringM (Memref.isWhole_whole _) cc0_scratch1 cc0_scratch2 hm hhm h2 hh2 ss hss dringM (Memref.isWhole_whole _) acc hacc aringM (Memref.isWhole_whole _) 0#32 0#32 1#32
abbrev trip4G := k0_t4_body (F := F) arg0 harg0 arg1 harg1 arg2 harg2 arg3 harg3 arg4 harg4 arg5 harg5 arg6 harg6 woM (Memref.isWhole_whole _) wgM (Memref.isWhole_whole _) wuM (Memref.isWhole_whole _) wdM (Memref.isWhole_whole _) out hout hmid hhmid mactM (Memref.isWhole_whole _) ringM (Memref.isWhole_whole _) cc0_scratch1 cc0_scratch2 hm hhm h2 hh2 ss hss dringM (Memref.isWhole_whole _) acc hacc aringM (Memref.isWhole_whole _) 0#32

/-! ## The stripes one trip stores -/

section Values
variable (X1 : Buf (Elt F) (arg1.view.loc (c : Thread nD τ))) (X5 : Buf (Elt F) (arg5.view.loc (c : Thread nD τ)))
  (SS : Buf (Elt F) (ss.view.loc (c : Thread nD τ))) (HM : Buf (Elt F) (hm.view.loc (c : Thread nD τ))) (ACC : Buf (Elt F) (acc.view.loc (c : Thread nD τ)))

theorem row_inb (r : Fin 40) : ∀ a, (![r.val, 0] : Fin 2 → Nat) a + S1x128.size a ≤ S40x128.size a := by
  revert r; decide

abbrev R53 (k : Fin k0_t2_loop.trips) (r : Fin 40) : Rect S256x5120 := Rect.unit (s := S256x5120) (k0_off53 k (BitVec.ofNat 32 r.val)) S32x128.size (k0_off53_inb k r)
/-- The inverse norm of the trip's 32 rows. -/
def rinv (k : Fin k0_t2_loop.trips) : FVec F S32x1 .f32 :=
  k0_pay16 (View.readAt (Elt F) ss.view (Rect.unit (s := S256x128) (k0_off52 k) S32x128.size (k0_off52_inb k)).toLoadRect SS)
/-- Column stripe `r` of the trip's 32 rows, normalised. -/
def nrm (k : Fin k0_t2_loop.trips) (r : Fin 40) : FVec F S32x128 .bf16 :=
  k0_pay20 (rinv c ss SS k) (View.readAt (Elt F) hm.view (R53 k r).toLoadRect HM)
    (View.readAt (Elt F) arg1.view (Rect.unit (s := S40x128) ![r.val, 0] S1x128.size (row_inb r)).toLoadRect X1)
/-- The first `n` stripes, the last one first. -/
def nrmL (k : Fin k0_t2_loop.trips) : (n : ℕ) → n ≤ 40 → List (View.Piece (Elt F) S256x5120 .bf16)
  | 0, _ => []
  | n + 1, h => ⟨R53 k ⟨n, h⟩, nrm c arg1 hm ss X1 SS HM k ⟨n, h⟩⟩ :: nrmL k n (Nat.le_of_succ_le h)

abbrev R99 (k : Fin k0_t4_loop.trips) (r : Fin 40) : Rect S256x5120 := Rect.unit (s := S256x5120) (k0_off99 k (BitVec.ofNat 32 r.val)) S32x128.size (k0_off99_inb k r)
/-- Column stripe `r` of the trip's 32 rows, the down projection added. -/
def fin1 (k : Fin k0_t4_loop.trips) (r : Fin 40) : FVec F S32x128 .bf16 :=
  k0_pay85 (View.readAt (Elt F) hm.view (R99 k r).toLoadRect HM) (View.readAt (Elt F) acc.view (R99 k r).toLoadRect ACC)
    (View.readAt (Elt F) arg5.view (Rect.unit (s := S40x128) ![r.val, 0] S1x128.size (row_inb r)).toLoadRect X5)
def finL (k : Fin k0_t4_loop.trips) : (n : ℕ) → n ≤ 40 → List (View.Piece (Elt F) S256x5120 .bf16)
  | 0, _ => []
  | n + 1, h => ⟨R99 k ⟨n, h⟩, fin1 c arg5 hm acc X5 HM ACC k ⟨n, h⟩⟩ :: finL k n (Nat.le_of_succ_le h)
end Values

set_option backward.proofsInPublic true in
/-- One trip of the normalisation: 40 column stripes of 32 rows stored. -/
theorem trip2 (k : Fin k0_t2_loop.trips) (a : BitVec 32) (q : PosShare TreeShare)
   (X1 : Buf (Elt F) (arg1.view.loc (c : Thread nD τ))) (SS : Buf (Elt F) (ss.view.loc (c : Thread nD τ)))
   (HM : Buf (Elt F) (hm.view.loc (c : Thread nD τ))) (H2 : Buf (Elt F) (h2.view.loc (c : Thread nD τ))) :
   iprop(vecP c arg1 X1 ∗ vecP c ss SS ∗ (hm.view.loc (c : Thread nD τ) ↦[hm.view.set]{q} HM) ∗ vecP c h2 H2)
   ⊢ wp frame (wpE (defs₀ (F := F)) 𝒱₀ (c : Thread nD τ) none) Set.univ (trip2G arg0 harg0 arg1 harg1 arg2 harg2 arg3 harg3 arg4 harg4 arg5 harg5 arg6 harg6 out hout hmid hhmid hm hhm h2 hh2 ss hss acc hacc k a)
      (fun _ => iprop(vecP c arg1 X1 ∗ vecP c ss SS ∗ (hm.view.loc (c : Thread nD τ) ↦[hm.view.set]{q} HM) ∗ vecP c h2 (h2.view.writes (Elt F) H2 (nrmL c arg1 hm ss X1 SS HM k 40 le_rfl)))) := by
  iintro ⟨H1, Hss, Hhm, Hh2⟩
  dsimp only [trip2G]
  sl_unfold [k0_t2_body]
  sl_exec
  sl_step
  isplitl [H1]; · iexact H1
  isplitl [Hss]; · iexact Hss
  isplitl [Hhm]; · iexact Hhm
  iexact Hh2

set_option backward.proofsInPublic true in
/-- One trip of the last loop: 40 column stripes of 32 rows. A stripe is read before any store of the trip meets it. -/
theorem trip4 (k : Fin k0_t4_loop.trips) (a : BitVec 32)
   (X5 : Buf (Elt F) (arg5.view.loc (c : Thread nD τ))) (ACC : Buf (Elt F) (acc.view.loc (c : Thread nD τ)))
   (HM : Buf (Elt F) (hm.view.loc (c : Thread nD τ))) :
   iprop(vecP c arg5 X5 ∗ vecP c acc ACC ∗ vecP c hm HM)
   ⊢ wp frame (wpE (defs₀ (F := F)) 𝒱₀ (c : Thread nD τ) none) Set.univ (trip4G arg0 harg0 arg1 harg1 arg2 harg2 arg3 harg3 arg4 harg4 arg5 harg5 arg6 harg6 out hout hmid hhmid hm hhm h2 hh2 ss hss acc hacc k a)
      (fun _ => iprop(vecP c arg5 X5 ∗ vecP c acc ACC ∗ vecP c hm (hm.view.writes (Elt F) HM (finL c arg5 hm acc X5 HM ACC k 40 le_rfl)))) := by
  iintro ⟨H1, Hss, Hhm⟩
  dsimp only [trip4G]
  sl_unfold [k0_t4_body]
  sl_exec
  sl_step
  isplitl [H1]; · iexact H1
  isplitl [Hss]; · iexact Hss
  iexact Hhm
end Trip
end Cert.Proof.Layer
-- ==== Proof.Ff.lean ====
module

public import proofs.«01_k».proof.Proof.Norm

@[expose] public section

noncomputable section

/-! # The gated MLP's loop -/

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The activation buffer's resources -/

section Act
variable (c : Dev nD)
abbrev cellA (s : Fin 2) : sProp 𝕄 := semVal ((c : Thread nD τ), SemLoc.dma (dsemA s).sem) 0
abbrev slotAP (s : Fin 2) (f : Buf (Elt F) ((slotA s).view.loc (c : Thread nD τ))) : sProp 𝕄 :=
  (slotA s).view.loc (c : Thread nD τ) ↦[(slotA s).view.set]{fullShare} f
abbrev mactP (b : Fin 28) (f : Buf (Elt F) ((mactBlk b).view.loc (c : Thread nD τ))) : sProp 𝕄 :=
  (mactBlk b).view.loc (c : Thread nD τ) ↦[(mactBlk b).view.set]{fullShare} f
/-- Slot `s` of the activation buffer free. -/
def freeA (s : Fin 2) : sProp 𝕄 := iprop(cellA c s ∗ (∃ f, slotAP c s f))
/-- Block `b` of the activations landed with the words `V`, whatever the buffer held before. -/
def doneA (b : Fin 28) (V : S256x512.Idx → Elt F .bf16) : sProp 𝕄 :=
  iprop(∃ f, mactP c b ((mactBlk b).view.writes (Elt F) f [⟨Rect.whole S256x512, V⟩]))
/-- Slot `s` on its way out to block `b`, whose words will be `V`. -/
def fltA (s : Fin 2) (b : Fin 28) (V : S256x512.Idx → Elt F .bf16) : sProp 𝕄 :=
  iprop(∃ f g, Transfers.Flight countersEmb (c : Thread nD τ) (SemLoc.dma (dsemA s).sem) () 8192
    iprop(mactP c b ((mactBlk b).view.writes (Elt F) f [⟨Rect.whole S256x512, V⟩]) ∗ slotAP c s g))
/-- What trip `n` of the MLP's loop finds: the gate, up and down blocks on their way, or past the last trip free slots. -/
def gAt (X : Weights (F := F) c) (n : ℕ) : sProp 𝕄 := if n < 28 then fltG c X (Ring.sl 4 (2 * n + 22)) (Ring.bk 28 n) else freeSlot c X (Ring.sl 4 (2 * n + 22))
def uAt (X : Weights (F := F) c) (n : ℕ) : sProp 𝕄 := if n < 28 then fltU c X (Ring.sl 4 (2 * n + 23)) (Ring.bk 28 n) else freeSlot c X (Ring.sl 4 (2 * n + 23))
def dAt (X : Weights (F := F) c) (n : ℕ) : sProp 𝕄 := if n < 28 then fltD c X (Ring.sl 2 n) (Ring.bk 28 n) else freeD c X (Ring.sl 2 n)
/-- The activation slot trip `n` finds: free in the first two trips, on its way out afterwards. -/
def aAt (V : ℕ → S256x512.Idx → Elt F .bf16) (n : ℕ) : sProp 𝕄 := if n < 2 then freeA c (Ring.sl 2 n) else fltA c (Ring.sl 2 n) (Ring.bk 28 (n - 2)) (V (n - 2))
/-- The activation block trip `n` sees landed. -/
def aDone (V : ℕ → S256x512.Idx → Elt F .bf16) (n : ℕ) : sProp 𝕄 := if n < 2 then iprop(emp) else doneA c (Ring.bk 28 (n - 2)) (V (n - 2))
theorem gAt_lt (X : Weights (F := F) c) {n : ℕ} (h : n < 28) : gAt c X n = fltG c X (Ring.sl 4 (2 * n + 22)) (Ring.bk 28 n) := if_pos h
theorem uAt_lt (X : Weights (F := F) c) {n : ℕ} (h : n < 28) : uAt c X n = fltU c X (Ring.sl 4 (2 * n + 23)) (Ring.bk 28 n) := if_pos h
theorem dAt_lt (X : Weights (F := F) c) {n : ℕ} (h : n < 28) : dAt c X n = fltD c X (Ring.sl 2 n) (Ring.bk 28 n) := if_pos h
theorem gAt_ge (X : Weights (F := F) c) {n : ℕ} (h : ¬ n < 28) : gAt c X n = freeSlot c X (Ring.sl 4 (2 * n + 22)) := if_neg h
theorem uAt_ge (X : Weights (F := F) c) {n : ℕ} (h : ¬ n < 28) : uAt c X n = freeSlot c X (Ring.sl 4 (2 * n + 23)) := if_neg h
theorem dAt_ge (X : Weights (F := F) c) {n : ℕ} (h : ¬ n < 28) : dAt c X n = freeD c X (Ring.sl 2 n) := if_neg h
theorem aAt_lt (V : ℕ → S256x512.Idx → Elt F .bf16) {n : ℕ} (h : n < 2) : aAt c V n = freeA c (Ring.sl 2 n) := if_pos h
theorem aAt_ge (V : ℕ → S256x512.Idx → Elt F .bf16) {n : ℕ} (h : ¬ n < 2) : aAt c V n = fltA c (Ring.sl 2 n) (Ring.bk 28 (n - 2)) (V (n - 2)) := if_neg h
theorem aDone_lt (V : ℕ → S256x512.Idx → Elt F .bf16) {n : ℕ} (h : n < 2) : aDone c V n = iprop(emp) := if_pos h
theorem aDone_ge (V : ℕ → S256x512.Idx → Elt F .bf16) {n : ℕ} (h : ¬ n < 2) : aDone c V n = doneA c (Ring.bk 28 (n - 2)) (V (n - 2)) := if_neg h
end Act

section Trip
variable (c : Dev nD) (X : Weights (F := F) c)
variable (arg0 : Memref sig .tc .vmem S256x5120 .bf16) (harg0 : arg0.IsWhole) (arg1 : Memref sig .tc .vmem S40x128 .f32) (harg1 : arg1.IsWhole)
  (arg2 : Memref sig .tc .vmem S40x128 .f32) (harg2 : arg2.IsWhole) (arg3 : Memref sig .tc .vmem S112x128 .f32) (harg3 : arg3.IsWhole)
  (arg4 : Memref sig .tc .vmem S112x128 .f32) (harg4 : arg4.IsWhole) (arg5 : Memref sig .tc .vmem S40x128 .f32) (harg5 : arg5.IsWhole)
  (arg6 : Memref sig .tc .vmem S8x256x512 .bf16) (harg6 : arg6.IsWhole)
  (out : Memref sig .tc .hbm S256x5120 .bf16) (hout : out.IsWhole) (hmid : Memref sig .tc .hbm S256x5120 .bf16) (hhmid : hmid.IsWhole)
  (hm : Memref sig .tc .vmem S256x5120 .bf16) (hhm : hm.IsWhole) (h2 : Memref sig .tc .vmem S256x5120 .bf16) (hh2 : h2.IsWhole)
  (ss : Memref sig .tc .vmem S256x128 .f32) (hss : ss.IsWhole) (acc : Memref sig .tc .vmem S256x5120 .f32) (hacc : acc.IsWhole)

abbrev trip3G := k0_t3_body (F := F) arg0 harg0 arg1 harg1 arg2 harg2 arg3 harg3 arg4 harg4 arg5 harg5 arg6 harg6 woM (Memref.isWhole_whole _) wgM (Memref.isWhole_whole _) wuM (Memref.isWhole_whole _) wdM (Memref.isWhole_whole _) out hout hmid hhmid mactM (Memref.isWhole_whole _) ringM (Memref.isWhole_whole _) cc0_scratch1 cc0_scratch2 hm hhm h2 hh2 ss hss dringM (Memref.isWhole_whole _) acc hacc aringM (Memref.isWhole_whole _) 0#32 0#32 1#32

variable (X3 : Buf (Elt F) (arg3.view.loc (c : Thread nD τ))) (X4 : Buf (Elt F) (arg4.view.loc (c : Thread nD τ)))

/-! ## One trip's values -/

section Values
variable (k : Fin k0_t3_loop.trips) (H2 : Buf (Elt F) (h2.view.loc (c : Thread nD τ))) (ACC : Buf (Elt F) (acc.view.loc (c : Thread nD τ)))

abbrev h2Read : Vec F S256x5120 .bf16 := View.readAt (Elt F) h2.view (Rect.unit (s := S256x5120) ![0, 0] S256x5120.size inb_S256x5120_S256x5120_0_0).toLoadRect H2
/-- The gate and up blocks as the trip reads them. -/
abbrev gRead : Vec F S1x5120x512 .fp8e4m3 :=
  View.readAt (Elt F) ringM.view (Rect.unit (s := S4x5120x512) (k0_off85 k) S1x5120x512.size (k0_off85_inb k)).toLoadRect
    ((slotF (Ring.sl 4 (2 * k.val + 22))).view.writes (Elt F) (slotF (Ring.sl 4 (2 * k.val + 22))).view.junk [⟨Rect.whole S5120x512, payG c X (Ring.bk 28 k.val)⟩])
abbrev uRead : Vec F S1x5120x512 .fp8e4m3 :=
  View.readAt (Elt F) ringM.view (Rect.unit (s := S4x5120x512) (k0_off86 k) S1x5120x512.size (k0_off86_inb k)).toLoadRect
    ((slotF (Ring.sl 4 (2 * k.val + 23))).view.writes (Elt F) (slotF (Ring.sl 4 (2 * k.val + 23))).view.junk [⟨Rect.whole S5120x512, payU c X (Ring.bk 28 k.val)⟩])
abbrev dRead (r : Fin 10) : Vec F S1x512x512 .fp8e4m3 :=
  View.readAt (Elt F) dringM.view (Rect.unit (s := S2x512x5120) (k0_off94 k (BitVec.ofNat 32 r.val)) S1x512x512.size (k0_off94_inb k r)).toLoadRect
    ((slotD (Ring.sl 2 k.val)).view.writes (Elt F) (slotD (Ring.sl 2 k.val)).view.junk [⟨Rect.whole S512x5120, payD c X (Ring.bk 28 k.val)⟩])
abbrev sgRead (r : Fin 4) : Vec F S1x128 .f32 :=
  View.readAt (Elt F) arg3.view (Rect.unit (s := S112x128) (k0_off87 k (BitVec.ofNat 32 r.val)) S1x128.size (k0_off87_inb k r)).toLoadRect X3
abbrev suRead (r : Fin 4) : Vec F S1x128 .f32 :=
  View.readAt (Elt F) arg4.view (Rect.unit (s := S112x128) (k0_off87 k (BitVec.ofNat 32 r.val)) S1x128.size (k0_off87_inb k r)).toLoadRect X4
/-- The gate and the up product of the trip's 512 columns. -/
def gateF : FVec F S256x512 .f32 := k0_pay66 (h2Read c h2 H2) (gRead c X k)
def upF : FVec F S256x512 .f32 := k0_pay67 (h2Read c h2 H2) (uRead c X k)
/-- The four column stripes the trip stores into its activation slot. -/
def actL : List (View.Piece (Elt F) S2x256x512 .bf16) :=
  [⟨Rect.unit (s := S2x256x512) (k0_off91 k) S1x256x128.size (k0_off91_inb k), k0_pay73 (k0_pay72 (gateF c X h2 k H2) (upF c X h2 k H2) (sgRead c arg3 X3 k 3) (suRead c arg4 X4 k 3))⟩,
   ⟨Rect.unit (s := S2x256x512) (k0_off90 k) S1x256x128.size (k0_off90_inb k), k0_pay71 (gateF c X h2 k H2) (upF c X h2 k H2) (sgRead c arg3 X3 k 2) (suRead c arg4 X4 k 2)⟩,
   ⟨Rect.unit (s := S2x256x512) (k0_off89 k) S1x256x128.size (k0_off89_inb k), k0_pay70 (gateF c X h2 k H2) (upF c X h2 k H2) (sgRead c arg3 X3 k 1) (suRead c arg4 X4 k 1)⟩,
   ⟨Rect.unit (s := S2x256x512) (k0_off88 k) S1x256x128.size (k0_off88_inb k), k0_pay69 (upF c X h2 k H2) (k0_pay68 (h2Read c h2 H2) (gRead c X k)) (sgRead c arg3 X3 k 0) (suRead c arg4 X4 k 0)⟩]
/-- The activation buffer with those stripes over `g`. -/
def actB (g : Buf (Elt F) (aringM.view.loc (c : Thread nD τ))) : Buf (Elt F) (aringM.view.loc (c : Thread nD τ)) :=
  aringM.view.writes (Elt F) g (actL c X arg3 arg4 h2 X3 X4 k H2)
/-- The trip's activation block as its transfer reads it, and as the down projection reads it. -/
def actV (g : Buf (Elt F) (aringM.view.loc (c : Thread nD τ))) : S256x512.Idx → Elt F .bf16 :=
  ReadAs.same.apply ((slotA (Ring.sl 2 k.val)).view.read (Elt F) (actB c X arg3 arg4 h2 X3 X4 k H2 g))
def actR (g : Buf (Elt F) (aringM.view.loc (c : Thread nD τ))) : Vec F S1x256x512 .bf16 :=
  View.readAt (Elt F) aringM.view (Rect.unit (s := S2x256x512) (k0_off92 k) S1x256x512.size (k0_off92_inb k)).toLoadRect (actB c X arg3 arg4 h2 X3 X4 k H2 g)

theorem actL_cover (y : S2x256x512.Idx) (h0 : (y 0).val = k.val % 2) : ∃ p ∈ actL c X arg3 arg4 h2 X3 X4 k H2, y ∈ p.1.set := by
  have h1 : (y 1).val < 256 := (y 1).isLt
  have h2' : (y 2).val < 512 := (y 2).isLt
  have key : ∀ (j : ℕ) (off : Fin 3 → Nat) (hh : ∀ a, off a + S1x256x128.size a ≤ S2x256x512.size a), off = ![k.val % 2, 0, 128 * j] → 128 * j ≤ (y 2).val → (y 2).val < 128 * j + 128 →
      y ∈ (Rect.unit (s := S2x256x512) off S1x256x128.size hh).set := by
    intro j off hh e hl hu
    subst e
    refine Rect.mem_set_unit.2 fun a => ?_
    fin_cases a
    · exact ⟨le_of_eq h0.symm, by show (y 0).val < k.val % 2 + 1; omega⟩
    · exact ⟨Nat.zero_le _, by show (y 1).val < 0 + 256; omega⟩
    · exact ⟨hl, hu⟩
  have hc : (y 2).val < 128 ∨ (128 ≤ (y 2).val ∧ (y 2).val < 256) ∨ (256 ≤ (y 2).val ∧ (y 2).val < 384) ∨ 384 ≤ (y 2).val := by omega
  unfold actL
  rcases hc with h | h | h | h
  · exact ⟨_, .tail _ (.tail _ (.tail _ (.head _))), key 0 _ (k0_off88_inb k) (k0_off88_eq k) (by omega) (by omega)⟩
  · exact ⟨_, .tail _ (.tail _ (.head _)), key 1 _ (k0_off89_inb k) (k0_off89_eq k) (by omega) (by omega)⟩
  · exact ⟨_, .tail _ (.head _), key 2 _ (k0_off90_inb k) (k0_off90_eq k) (by omega) (by omega)⟩
  · exact ⟨_, .head _, key 3 _ (k0_off91_inb k) (k0_off91_eq k) (by omega) (by omega)⟩

/-- Neither read depends on what the slot held. -/
theorem actB_indep (g g' : Buf (Elt F) (aringM.view.loc (c : Thread nD τ))) (y : S2x256x512.Idx) (h0 : (y 0).val = k.val % 2) :
    aringM.view.read (Elt F) (actB c X arg3 arg4 h2 X3 X4 k H2 g) y = aringM.view.read (Elt F) (actB c X arg3 arg4 h2 X3 X4 k H2 g') y :=
  View.read_writes_apply_eq (Val := Elt F) aringM.view g aringM.view g' y _ (actL_cover c X arg3 arg4 h2 X3 X4 k H2 y h0)
theorem actRead_indep (g g' : Buf (Elt F) (aringM.view.loc (c : Thread nD τ))) {off : Fin 3 → ℕ} (e : off = ![k.val % 2, 0, 0]) (hh : ∀ a, off a + S1x256x512.size a ≤ S2x256x512.size a) :
    View.readAt (Elt F) aringM.view (Rect.unit (s := S2x256x512) off S1x256x512.size hh).toLoadRect (actB c X arg3 arg4 h2 X3 X4 k H2 g)
      = View.readAt (Elt F) aringM.view (Rect.unit (s := S2x256x512) off S1x256x512.size hh).toLoadRect (actB c X arg3 arg4 h2 X3 X4 k H2 g') := by
  funext j
  refine actB_indep c X arg3 arg4 h2 X3 X4 k H2 g g' ((Rect.unit (s := S2x256x512) off S1x256x512.size hh).toLoadRect.idx j) ?_
  subst e
  have hj : (j 0).val < 1 := (j 0).isLt
  show k.val % 2 + 1 * (j 0).val = k.val % 2
  omega
theorem actV_eq (g : Buf (Elt F) (aringM.view.loc (c : Thread nD τ))) : actV c X arg3 arg4 h2 X3 X4 k H2 g
    = shapeCast S256x512 (View.readAt (Elt F) aringM.view (Rect.unit (s := S2x256x512) (slot2Off (Ring.sl 2 k.val)) S1x256x512.size (aslot_inb _)).toLoadRect (actB c X arg3 arg4 h2 X3 X4 k H2 g)) shapeCasts_S1x256x512_S256x512 :=
  rfl
theorem actV_indep (g g' : Buf (Elt F) (aringM.view.loc (c : Thread nD τ))) : actV c X arg3 arg4 h2 X3 X4 k H2 g = actV c X arg3 arg4 h2 X3 X4 k H2 g' := by
  rw [actV_eq, actV_eq]
  exact congrArg (fun v => shapeCast S256x512 v shapeCasts_S1x256x512_S256x512) (actRead_indep c X arg3 arg4 h2 X3 X4 k H2 g g' rfl _)
theorem actR_indep (g g' : Buf (Elt F) (aringM.view.loc (c : Thread nD τ))) : actR c X arg3 arg4 h2 X3 X4 k H2 g = actR c X arg3 arg4 h2 X3 X4 k H2 g' :=
  actRead_indep c X arg3 arg4 h2 X3 X4 k H2 g g' (k0_off92_eq k) _

abbrev R93 (r : Fin 10) : Rect S256x5120 := Rect.unit (s := S256x5120) (k0_off93 (BitVec.ofNat 32 r.val)) S256x512.size (k0_off93_inb r)
/-- Column block `r` of the accumulator after the trip. -/
def accS (av : Vec F S1x256x512 .bf16) (r : Fin 10) : FVec F S256x512 .f32 :=
  k0_pay77 (k0_pay74 av) (View.readAt (Elt F) acc.view (R93 r).toLoadRect ACC) (dRead c X k r)
def accL (av : Vec F S1x256x512 .bf16) : (n : ℕ) → n ≤ 10 → List (View.Piece (Elt F) S256x5120 .f32)
  | 0, _ => []
  | n + 1, h => ⟨R93 ⟨n, h⟩, accS c X acc k ACC av ⟨n, h⟩⟩ :: accL av n (Nat.le_of_succ_le h)
/-- The accumulator after the trip. -/
def accNext : Buf (Elt F) (acc.view.loc (c : Thread nD τ)) :=
  acc.view.writes (Elt F) ACC (accL c X acc k ACC (actR c X arg3 arg4 h2 X3 X4 k H2 aringM.view.junk) 10 le_rfl)
end Values

theorem trip3 (k : Fin k0_t3_loop.trips) (a : BitVec 32) (V : ℕ → S256x512.Idx → Elt F .bf16)
   (H2 : Buf (Elt F) (h2.view.loc (c : Thread nD τ))) (ACC : Buf (Elt F) (acc.view.loc (c : Thread nD τ))) :
   iprop(vecP c arg3 X3 ∗ vecP c arg4 X4 ∗ vecP c h2 H2 ∗ vecP c acc ACC ∗ (∃ W, owes (c : Thread nD τ) 0 W)
     ∗ fltG c X (Ring.sl 4 (2 * k.val + 22)) (Ring.bk 28 k.val) ∗ fltU c X (Ring.sl 4 (2 * k.val + 23)) (Ring.bk 28 k.val)
     ∗ fltD c X (Ring.sl 2 k.val) (Ring.bk 28 k.val) ∗ freeSlot c X (Ring.sl 4 (2 * k.val + 24)) ∗ freeSlot c X (Ring.sl 4 (2 * k.val + 25))
     ∗ freeD c X (Ring.sl 2 (k.val + 1)) ∗ aAt c V k.val ∗ (∃ f, mactP c (Ring.bk 28 k.val) f))
   ⊢ wp frame (wpE (defs₀ (F := F)) 𝒱₀ (c : Thread nD τ) none) Set.univ (trip3G arg0 harg0 arg1 harg1 arg2 harg2 arg3 harg3 arg4 harg4 arg5 harg5 arg6 harg6 out hout hmid hhmid hm hhm h2 hh2 ss hss acc hacc k a)
      (fun _ => iprop(vecP c arg3 X3 ∗ vecP c arg4 X4 ∗ vecP c h2 H2 ∗ vecP c acc (accNext c X arg3 arg4 h2 acc X3 X4 k H2 ACC) ∗ (∃ W, owes (c : Thread nD τ) 0 W)
     ∗ freeSlot c X (Ring.sl 4 (2 * k.val + 22)) ∗ freeSlot c X (Ring.sl 4 (2 * k.val + 23)) ∗ freeD c X (Ring.sl 2 k.val)
     ∗ gAt c X (k.val + 1) ∗ uAt c X (k.val + 1) ∗ dAt c X (k.val + 1)
     ∗ fltA c (Ring.sl 2 k.val) (Ring.bk 28 k.val) (actV c X arg3 arg4 h2 X3 X4 k H2 aringM.view.junk) ∗ aDone c V k.val)) := by
  have hk : k.val < 28 := t3_lt k
  have hG := ring_inF (s := Ring.sl 4 (2 * k.val + 22)) (k0_off85_eq k) (k0_off85_inb k)
  have hU := ring_inF (s := Ring.sl 4 (2 * k.val + 23)) (k0_off86_eq k) (k0_off86_inb k)
  have hA0 := aring_in (s := Ring.sl 2 k.val) 0 (by decide) (k0_off88_eq k) (k0_off88_inb k)
  have hA1 := aring_in (s := Ring.sl 2 k.val) 1 (by decide) (k0_off89_eq k) (k0_off89_inb k)
  have hA2 := aring_in (s := Ring.sl 2 k.val) 2 (by decide) (k0_off90_eq k) (k0_off90_inb k)
  have hA3 := aring_in (s := Ring.sl 2 k.val) 3 (by decide) (k0_off91_eq k) (k0_off91_inb k)
  have hB0 := aring_inS (s := Ring.sl 2 k.val) 0 (by decide) (k0_off88_eq k) (k0_off88_inb k)
  have hB1 := aring_inS (s := Ring.sl 2 k.val) 1 (by decide) (k0_off89_eq k) (k0_off89_inb k)
  have hB2 := aring_inS (s := Ring.sl 2 k.val) 2 (by decide) (k0_off90_eq k) (k0_off90_inb k)
  have hB3 := aring_inS (s := Ring.sl 2 k.val) 3 (by decide) (k0_off91_eq k) (k0_off91_inb k)
  have hAW := aring_inW (s := Ring.sl 2 k.val) (k0_off92_eq k) (k0_off92_inb k)
  have hD0 := dring_in (off := k0_off94 k 0#32) (s := Ring.sl 2 k.val) 0 (by decide) (k0_off94_eq k 0) (k0_off94_inb k 0)
  have hD1 := dring_in (off := k0_off94 k 1#32) (s := Ring.sl 2 k.val) 1 (by decide) (k0_off94_eq k 1) (k0_off94_inb k 1)
  have hD2 := dring_in (off := k0_off94 k 2#32) (s := Ring.sl 2 k.val) 2 (by decide) (k0_off94_eq k 2) (k0_off94_inb k 2)
  have hD3 := dring_in (off := k0_off94 k 3#32) (s := Ring.sl 2 k.val) 3 (by decide) (k0_off94_eq k 3) (k0_off94_inb k 3)
  have hD4 := dring_in (off := k0_off94 k 4#32) (s := Ring.sl 2 k.val) 4 (by decide) (k0_off94_eq k 4) (k0_off94_inb k 4)
  have hD5 := dring_in (off := k0_off94 k 5#32) (s := Ring.sl 2 k.val) 5 (by decide) (k0_off94_eq k 5) (k0_off94_inb k 5)
  have hD6 := dring_in (off := k0_off94 k 6#32) (s := Ring.sl 2 k.val) 6 (by decide) (k0_off94_eq k 6) (k0_off94_inb k 6)
  have hD7 := dring_in (off := k0_off94 k 7#32) (s := Ring.sl 2 k.val) 7 (by decide) (k0_off94_eq k 7) (k0_off94_inb k 7)
  have hD8 := dring_in (off := k0_off94 k 8#32) (s := Ring.sl 2 k.val) 8 (by decide) (k0_off94_eq k 8) (k0_off94_inb k 8)
  have hD9 := dring_in (off := k0_off94 k 9#32) (s := Ring.sl 2 k.val) 9 (by decide) (k0_off94_eq k 9) (k0_off94_inb k 9)
  have h15 := cond15_not k
  have h17 := cond17_not k
  have h18 := cond18_not k
  have h19 := cond19_not k
  dsimp only [trip3G]
  sl_unfold [k0_t3_body]
  unfold fltG fltU fltD
  have hcase : (2 ≤ k.val ∧ k.val < 27) ∨ k.val < 2 ∨ k.val = 27 := by omega
  rcases hcase with h | h | h
  on_goal 1 =>
    have h21 : k0_cond21 k = 1#1 := (cond21_iff k).2 (by omega)
    rw [aAt_ge c V (by omega), aDone_ge c V (by omega)]
    unfold fltA
    iintro ⟨H3, H4, Hh2, Hacc, ⟨%W, HW⟩, ⟨⟨%fg, HFG⟩, HhG⟩, ⟨⟨%fu, HFU⟩, HhU⟩, ⟨⟨%fd, HFD⟩, HhD⟩, HsG, HsU, HsD, ⟨%fa, %ga, HFA⟩, ⟨%fm, Hm⟩⟩
  on_goal 2 =>
    have h21 : ¬ k0_cond21 k = 1#1 := fun e => by have := (cond21_iff k).1 e; omega
    rw [aAt_lt c V (by omega), aDone_lt c V (by omega)]
    unfold freeA fltA
    iintro ⟨H3, H4, Hh2, Hacc, ⟨%W, HW⟩, ⟨⟨%fg, HFG⟩, HhG⟩, ⟨⟨%fu, HFU⟩, HhU⟩, ⟨⟨%fd, HFD⟩, HhD⟩, HsG, HsU, HsD, ⟨HFA, ⟨%ga, HFA_src⟩⟩, ⟨%fm, Hm⟩⟩
  on_goal 3 =>
    have h21 : k0_cond21 k = 1#1 := (cond21_iff k).2 (by omega)
    have h14 : ¬ k0_cond14 k = 1#1 := fun e => by have := (cond14_iff k).1 e; omega
    have h16 : ¬ k0_cond16 k = 1#1 := fun e => by have := (cond16_iff k).1 e; omega
    have h20 : ¬ k0_cond20 k = 1#1 := fun e => by have := (cond20_iff k).1 e; omega
    rw [aAt_ge c V (by omega), aDone_ge c V (by omega), gAt_ge c X (by omega), uAt_ge c X (by omega), dAt_ge c X (by omega)]
    unfold fltA
    iintro ⟨H3, H4, Hh2, Hacc, ⟨%W, HW⟩, ⟨⟨%fg, HFG⟩, HhG⟩, ⟨⟨%fu, HFU⟩, HhU⟩, ⟨⟨%fd, HFD⟩, HhD⟩, HsG, HsU, HsD, ⟨%fa, %ga, HFA⟩, ⟨%fm, Hm⟩⟩
  all_goals
    rw [actV_indep c X arg3 arg4 h2 X3 X4 k H2 aringM.view.junk ga]
    unfold accNext
    rw [actR_indep c X arg3 arg4 h2 X3 X4 k H2 aringM.view.junk ga]
  on_goal 1 =>
    rw [gAt_lt c X (by omega), uAt_lt c X (by omega), dAt_lt c X (by omega)]
    have h14 : k0_cond14 k = 1#1 := (cond14_iff k).2 (by omega)
    have h16 : k0_cond16 k = 1#1 := (cond16_iff k).2 (by omega)
    have h20 : k0_cond20 k = 1#1 := (cond20_iff k).2 (by omega)
    unfold fltG fltU fltD
    ihave Hop := (free_openG c X _ (Ring.bk 28 (k.val + 1))).1 $$ HsG
    icases Hop with ⟨HcG, ⟨%f1, HsG⟩, HwG, HhG'⟩
    ihave Hop := (free_openU c X _ (Ring.bk 28 (k.val + 1))).1 $$ HsU
    icases Hop with ⟨HcU, ⟨%f2, HsU⟩, HwU, HhU'⟩
    ihave Hop := (free_openD c X _ (Ring.bk 28 (k.val + 1))).1 $$ HsD
    icases Hop with ⟨HcD, ⟨%f3, HsD⟩, HwD, HhD'⟩
  on_goal 2 =>
    rw [gAt_lt c X (by omega), uAt_lt c X (by omega), dAt_lt c X (by omega)]
    have h14 : k0_cond14 k = 1#1 := (cond14_iff k).2 (by omega)
    have h16 : k0_cond16 k = 1#1 := (cond16_iff k).2 (by omega)
    have h20 : k0_cond20 k = 1#1 := (cond20_iff k).2 (by omega)
    unfold fltG fltU fltD
    ihave Hop := (free_openG c X _ (Ring.bk 28 (k.val + 1))).1 $$ HsG
    icases Hop with ⟨HcG, ⟨%f1, HsG⟩, HwG, HhG'⟩
    ihave Hop := (free_openU c X _ (Ring.bk 28 (k.val + 1))).1 $$ HsU
    icases Hop with ⟨HcU, ⟨%f2, HsU⟩, HwU, HhU'⟩
    ihave Hop := (free_openD c X _ (Ring.bk 28 (k.val + 1))).1 $$ HsD
    icases Hop with ⟨HcD, ⟨%f3, HsD⟩, HwD, HhD'⟩
  all_goals
    sl_exec
    sl_step
    isplitl [H3]; · iexact H3
    isplitl [H4]; · iexact H4
    isplitl [Hh2]; · iexact Hh2
    isplitl [Hacc]; · iexact Hacc
    isplitl [HW]; · iexists _; iexact HW
    isplitl [HFG HFG_dst HFG_src HhG]
    · iapply (free_openG c X _ (Ring.bk 28 k.val)).2
      isplitl [HFG]; · iexact HFG
      isplitl [HFG_dst]; · iexists _; iexact HFG_dst
      isplitl [HFG_src]; · iexact HFG_src
      iexact HhG
    isplitl [HFU HFU_dst HFU_src HhU]
    · iapply (free_openU c X _ (Ring.bk 28 k.val)).2
      isplitl [HFU]; · iexact HFU
      isplitl [HFU_dst]; · iexists _; iexact HFU_dst
      isplitl [HFU_src]; · iexact HFU_src
      iexact HhU
    isplitl [HFD HFD_dst HFD_src HhD]
    · iapply (free_openD c X _ (Ring.bk 28 k.val)).2
      isplitl [HFD]; · iexact HFD
      isplitl [HFD_dst]; · iexists _; iexact HFD_dst
      isplitl [HFD_src]; · iexact HFD_src
      iexact HhD
  on_goal 1 =>
    isplitl [HcG HhG']; · (isplitl [HcG]; · iexists _; iexact HcG); iexact HhG'
    isplitl [HcU HhU']; · (isplitl [HcU]; · iexists _; iexact HcU); iexact HhU'
    isplitl [HcD HhD']; · (isplitl [HcD]; · iexists _; iexact HcD); iexact HhD'
    isplitl [HFA]; · iexists _; iexists _; iexact HFA
    unfold doneA
    iexists _; iexact HFA_dst
  on_goal 1 =>
    isplitl [HcG HhG']; · (isplitl [HcG]; · iexists _; iexact HcG); iexact HhG'
    isplitl [HcU HhU']; · (isplitl [HcU]; · iexists _; iexact HcU); iexact HhU'
    isplitl [HcD HhD']; · (isplitl [HcD]; · iexists _; iexact HcD); iexact HhD'
    isplitl [HFA]; · iexists _; iexists _; iexact HFA
    iempintro
  on_goal 1 =>
    isplitl [HsG]; · iexact HsG
    isplitl [HsU]; · iexact HsU
    isplitl [HsD]; · iexact HsD
    isplitl [HFA]; · iexists _; iexists _; iexact HFA
    unfold doneA
    iexists _; iexact HFA_dst
end Trip
end Cert.Proof.Layer
-- ==== Proof.States.lean ====
module

public import proofs.«01_k».proof.Proof.Ff

@[expose] public section

noncomputable section

/-! # The whole body -/

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (X : Weights (F := F) c)
variable (arg0 : Memref sig .tc .vmem S256x5120 .bf16) (harg0 : arg0.IsWhole) (arg1 : Memref sig .tc .vmem S40x128 .f32) (harg1 : arg1.IsWhole)
  (arg2 : Memref sig .tc .vmem S40x128 .f32) (harg2 : arg2.IsWhole) (arg3 : Memref sig .tc .vmem S112x128 .f32) (harg3 : arg3.IsWhole)
  (arg4 : Memref sig .tc .vmem S112x128 .f32) (harg4 : arg4.IsWhole) (arg5 : Memref sig .tc .vmem S40x128 .f32) (harg5 : arg5.IsWhole)
  (arg6 : Memref sig .tc .vmem S8x256x512 .bf16) (harg6 : arg6.IsWhole)
  (out : Memref sig .tc .hbm S256x5120 .bf16) (hout : out.IsWhole) (hmid : Memref sig .tc .hbm S256x5120 .bf16) (hhmid : hmid.IsWhole)
  (hm : Memref sig .tc .vmem S256x5120 .bf16) (hhm : hm.IsWhole) (h2 : Memref sig .tc .vmem S256x5120 .bf16) (hh2 : h2.IsWhole)
  (ss : Memref sig .tc .vmem S256x128 .f32) (hss : ss.IsWhole) (acc : Memref sig .tc .vmem S256x5120 .f32) (hacc : acc.IsWhole)

/-- The body on its operands. -/
abbrev bodyG := cc0_decoder_layer (F := F) arg0 harg0 arg1 harg1 arg2 harg2 arg3 harg3 arg4 harg4 arg5 harg5 arg6 harg6 woM (Memref.isWhole_whole _) wgM (Memref.isWhole_whole _) wuM (Memref.isWhole_whole _) wdM (Memref.isWhole_whole _) out hout hmid hhmid mactM (Memref.isWhole_whole _) ringM (Memref.isWhole_whole _) cc0_scratch1 cc0_scratch2 hm hhm h2 hh2 ss hss dringM (Memref.isWhole_whole _) acc hacc aringM (Memref.isWhole_whole _)

variable (X0 : Buf (Elt F) (arg0.view.loc (c : Thread nD τ))) (X1 : Buf (Elt F) (arg1.view.loc (c : Thread nD τ))) (X2 : Buf (Elt F) (arg2.view.loc (c : Thread nD τ)))
  (X3 : Buf (Elt F) (arg3.view.loc (c : Thread nD τ))) (X4 : Buf (Elt F) (arg4.view.loc (c : Thread nD τ))) (X5 : Buf (Elt F) (arg5.view.loc (c : Thread nD τ)))
  (X6 : Buf (Elt F) (arg6.view.loc (c : Thread nD τ)))
  (HM0 : Buf (Elt F) (hm.view.loc (c : Thread nD τ))) (H20 : Buf (Elt F) (h2.view.loc (c : Thread nD τ)))
  (SS0 : Buf (Elt F) (ss.view.loc (c : Thread nD τ))) (ACC0 : Buf (Elt F) (acc.view.loc (c : Thread nD τ)))

/-! ## The buffers after the loops' first `n` trips -/

def t1i (n : ℕ) : Fin k0_t1_loop.trips := ⟨n % 10, Nat.mod_lt _ (by decide)⟩
def t2i (n : ℕ) : Fin k0_t2_loop.trips := ⟨n % 8, Nat.mod_lt _ (by decide)⟩
def t3i (n : ℕ) : Fin k0_t3_loop.trips := ⟨n % 28, Nat.mod_lt _ (by decide)⟩
def t4i (n : ℕ) : Fin k0_t4_loop.trips := ⟨n % 8, Nat.mod_lt _ (by decide)⟩
omit [FloatOps F] in
theorem t1i_val (k : Fin k0_t1_loop.trips) : t1i k.val = k := Fin.ext (Nat.mod_eq_of_lt (t1_lt k))
omit [FloatOps F] in
theorem t2i_val (k : Fin k0_t2_loop.trips) : t2i k.val = k := Fin.ext (Nat.mod_eq_of_lt k.isLt)
omit [FloatOps F] in
theorem t3i_val (k : Fin k0_t3_loop.trips) : t3i k.val = k := Fin.ext (Nat.mod_eq_of_lt (t3_lt k))
omit [FloatOps F] in
theorem t4i_val (k : Fin k0_t4_loop.trips) : t4i k.val = k := Fin.ext (Nat.mod_eq_of_lt k.isLt)

/-- The residual stream and the sums of squares, through the output projection's loop. -/
def hmSt : ℕ → Buf (Elt F) (hm.view.loc (c : Thread nD τ))
  | 0 => HM0
  | n + 1 => hmNext c X arg0 arg2 arg6 hm X0 X2 X6 (t1i n) (hmSt n)
def ssSt : ℕ → Buf (Elt F) (ss.view.loc (c : Thread nD τ))
  | 0 => ss.view.writes (Elt F) ss.view.junk [⟨RSS, k0_pay137⟩]
  | n + 1 => ssNext c X arg0 arg2 arg6 ss X0 X2 X6 (t1i n) (ssSt n)
abbrev HMf := hmSt c X arg0 arg2 arg6 hm X0 X2 X6 HM0 10
abbrev SSf := ssSt c X arg0 arg2 arg6 ss X0 X2 X6 10
/-- The normalised rows. -/
def h2St : ℕ → Buf (Elt F) (h2.view.loc (c : Thread nD τ))
  | 0 => H20
  | n + 1 => h2.view.writes (Elt F) (h2St n) (nrmL c arg1 hm ss X1 (SSf c X arg0 arg2 arg6 ss X0 X2 X6) (HMf c X arg0 arg2 arg6 hm X0 X2 X6 HM0) (t2i n) 40 le_rfl)
abbrev H2f := h2St c X arg0 arg1 arg2 arg6 hm h2 ss X0 X1 X2 X6 HM0 H20 8
/-- The down projection's sums, from the normalised rows `H2`. -/
def accSt (H2 : Buf (Elt F) (h2.view.loc (c : Thread nD τ))) : ℕ → Buf (Elt F) (acc.view.loc (c : Thread nD τ))
  | 0 => acc.view.writes (Elt F) acc.view.junk [⟨Rect.unit (s := S256x5120) ![0, 0] S256x5120.size inb_S256x5120_S256x5120_0_0, k0_pay143⟩]
  | n + 1 => accNext c X arg3 arg4 h2 acc X3 X4 (t3i n) H2 (accSt H2 n)
/-- Activation block `n`. -/
def VA (H2 : Buf (Elt F) (h2.view.loc (c : Thread nD τ))) (n : ℕ) : S256x512.Idx → Elt F .bf16 :=
  actV c X arg3 arg4 h2 X3 X4 (t3i n) H2 aringM.view.junk
/-- The residual stream through the last loop, from `HM` and the sums `ACC`. -/
def hmFin (HM : Buf (Elt F) (hm.view.loc (c : Thread nD τ))) (ACC : Buf (Elt F) (acc.view.loc (c : Thread nD τ))) : ℕ → Buf (Elt F) (hm.view.loc (c : Thread nD τ))
  | 0 => HM
  | n + 1 => hm.view.writes (Elt F) (hmFin HM ACC n) (finL c arg5 hm acc X5 (hmFin HM ACC n) ACC (t4i n) 40 le_rfl)

/-! ## The loops' invariants -/

def inv1 (n : ℕ) (_ : BitVec 32) : sProp 𝕄 :=
  iprop(vecP c arg0 X0 ∗ vecP c arg2 X2 ∗ vecP c arg6 X6 ∗ vecP c hm (hmSt c X arg0 arg2 arg6 hm X0 X2 X6 HM0 n) ∗ vecP c ss (ssSt c X arg0 arg2 arg6 ss X0 X2 X6 n)
    ∗ (∃ W, owes (c : Thread nD τ) 0 W) ∗ ringAt c X (n + 12) ∗ ringAt c X (n + 13) ∗ ringAt c X (n + 14) ∗ freeSlot c X (Ring.sl 4 (n + 15)))
theorem step1 (v52 : BitVec 32) (v58 : BitVec 1) (k : Fin k0_t1_loop.trips) (a : BitVec 32) :
    inv1 c X arg0 arg2 arg6 hm ss X0 X2 X6 HM0 k.val a
   ⊢ wp frame (wpE (defs₀ (F := F)) 𝒱₀ (c : Thread nD τ) none) Set.univ (trip1G arg0 harg0 arg1 harg1 arg2 harg2 arg3 harg3 arg4 harg4 arg5 harg5 arg6 harg6 out hout hmid hhmid hm hhm h2 hh2 ss hss acc hacc v52 v58 k a) (inv1 c X arg0 arg2 arg6 hm ss X0 X2 X6 HM0 (k.val + 1)) := by
  have hk := t1_lt k
  have e1 : hmSt c X arg0 arg2 arg6 hm X0 X2 X6 HM0 (k.val + 1) = hmNext c X arg0 arg2 arg6 hm X0 X2 X6 k (hmSt c X arg0 arg2 arg6 hm X0 X2 X6 HM0 k.val) := by rw [hmSt, t1i_val]
  have e2 : ssSt c X arg0 arg2 arg6 ss X0 X2 X6 (k.val + 1) = ssNext c X arg0 arg2 arg6 ss X0 X2 X6 k (ssSt c X arg0 arg2 arg6 ss X0 X2 X6 k.val) := by rw [ssSt, t1i_val]
  have e3 : Ring.sl 4 (k.val + 1 + 15) = Ring.sl 4 (k.val + 12) := Fin.ext (by show (k.val + 1 + 15) % 4 = (k.val + 12) % 4; omega)
  unfold inv1
  rw [e1, e2, e3]
  iintro ⟨H0, H2, H6, Hhm, Hss, HO, Hr, Hr1, Hr2, Hf⟩
  iapply (wp_wand_r Idealize.ShloMosaic.frame (wpE (defs₀ (F := F)) 𝒱₀ (c : Thread nD τ) none) Set.univ)
  isplitl [H0 H2 H6 Hhm Hss HO Hr Hf]
  · iapply (trip1 c X arg0 harg0 arg1 harg1 arg2 harg2 arg3 harg3 arg4 harg4 arg5 harg5 arg6 harg6 out hout hmid hhmid hm hhm h2 hh2 ss hss acc hacc X0 X2 X6 v52 v58 k a _ _)
    isplitl [H0]; · iexact H0
    isplitl [H2]; · iexact H2
    isplitl [H6]; · iexact H6
    isplitl [Hhm]; · iexact Hhm
    isplitl [Hss]; · iexact Hss
    isplitl [HO]; · iexact HO
    isplitl [Hr]
    · iapply (Entails.of_eq (ringAt_lt c X (k.val + 12) (by omega))); iexact Hr
    iexact Hf
  · iintro %_ ⟨H0, H2, H6, Hhm, Hss, HO, Hf, Hr⟩
    isplitl [H0]; · iexact H0
    isplitl [H2]; · iexact H2
    isplitl [H6]; · iexact H6
    isplitl [Hhm]; · iexact Hhm
    isplitl [Hss]; · iexact Hss
    isplitl [HO]; · iexact HO
    isplitl [Hr1]; · iexact Hr1
    isplitl [Hr2]; · iexact Hr2
    isplitl [Hr]; · iexact Hr
    iexact Hf

def inv2 (q : PosShare TreeShare) (SS : Buf (Elt F) (ss.view.loc (c : Thread nD τ))) (HM : Buf (Elt F) (hm.view.loc (c : Thread nD τ))) (G : ℕ → Buf (Elt F) (h2.view.loc (c : Thread nD τ))) (n : ℕ) (_ : BitVec 32) : sProp 𝕄 :=
  iprop(vecP c arg1 X1 ∗ vecP c ss SS ∗ (hm.view.loc (c : Thread nD τ) ↦[hm.view.set]{q} HM) ∗ vecP c h2 (G n))
theorem step2 (k : Fin k0_t2_loop.trips) (a : BitVec 32) (q : PosShare TreeShare) (SS : Buf (Elt F) (ss.view.loc (c : Thread nD τ))) (HM : Buf (Elt F) (hm.view.loc (c : Thread nD τ)))
    (G : ℕ → Buf (Elt F) (h2.view.loc (c : Thread nD τ))) (hG : G (k.val + 1) = h2.view.writes (Elt F) (G k.val) (nrmL c arg1 hm ss X1 SS HM k 40 le_rfl)) :
    inv2 c arg1 hm h2 ss X1 q SS HM G k.val a
   ⊢ wp frame (wpE (defs₀ (F := F)) 𝒱₀ (c : Thread nD τ) none) Set.univ (trip2G arg0 harg0 arg1 harg1 arg2 harg2 arg3 harg3 arg4 harg4 arg5 harg5 arg6 harg6 out hout hmid hhmid hm hhm h2 hh2 ss hss acc hacc k a) (inv2 c arg1 hm h2 ss X1 q SS HM G (k.val + 1)) := by
  unfold inv2
  rw [hG]
  exact trip2 c arg0 harg0 arg1 harg1 arg2 harg2 arg3 harg3 arg4 harg4 arg5 harg5 arg6 harg6 out hout hmid hhmid hm hhm h2 hh2 ss hss acc hacc k a q X1 SS HM _

def inv4 (ACC : Buf (Elt F) (acc.view.loc (c : Thread nD τ))) (G : ℕ → Buf (Elt F) (hm.view.loc (c : Thread nD τ))) (n : ℕ) (_ : BitVec 32) : sProp 𝕄 :=
  iprop(vecP c arg5 X5 ∗ vecP c acc ACC ∗ vecP c hm (G n))
theorem step4 (k : Fin k0_t4_loop.trips) (a : BitVec 32) (ACC : Buf (Elt F) (acc.view.loc (c : Thread nD τ)))
    (G : ℕ → Buf (Elt F) (hm.view.loc (c : Thread nD τ))) (hG : G (k.val + 1) = hm.view.writes (Elt F) (G k.val) (finL c arg5 hm acc X5 (G k.val) ACC k 40 le_rfl)) :
    inv4 c arg5 hm acc X5 ACC G k.val a
   ⊢ wp frame (wpE (defs₀ (F := F)) 𝒱₀ (c : Thread nD τ) none) Set.univ (trip4G arg0 harg0 arg1 harg1 arg2 harg2 arg3 harg3 arg4 harg4 arg5 harg5 arg6 harg6 out hout hmid hhmid hm hhm h2 hh2 ss hss acc hacc k a) (inv4 c arg5 hm acc X5 ACC G (k.val + 1)) := by
  unfold inv4
  rw [hG]
  exact trip4 c arg0 harg0 arg1 harg1 arg2 harg2 arg3 harg3 arg4 harg4 arg5 harg5 arg6 harg6 out hout hmid hhmid hm hhm h2 hh2 ss hss acc hacc k a X5 ACC _

/-- The activation blocks landed so far, and those still to come. -/
def doneS (V : ℕ → S256x512.Idx → Elt F .bf16) (n : ℕ) : sProp 𝕄 := bigSep (Ring.rangeSet 28 0 n) (fun b => doneA c b (V b.val))
def todoS (n : ℕ) : sProp 𝕄 := bigSep (Ring.rangeSet 28 n 28) (fun b => iprop(∃ f, mactP (F := F) c b f))
theorem doneS_zero (V : ℕ → S256x512.Idx → Elt F .bf16) : doneS c V 0 = iprop(emp) := Ring.bigSep_rangeSet_empty le_rfl
theorem doneS_succ (V : ℕ → S256x512.Idx → Elt F .bf16) (n : ℕ) (h : n < 28) : doneS c V (n + 1) = iprop(doneA c (Ring.bk 28 n) (V n) ∗ doneS c V n) := by
  have e : (⟨n + 1 - 1, by omega⟩ : Fin 28) = Ring.bk 28 n := Fin.ext (by rw [Ring.bk_val h]; rfl)
  unfold doneS
  rw [Ring.bigSep_rangeSet_last (Nat.succ_pos n) (by omega), e, Ring.bk_val h]; rfl
theorem todoS_head (n : ℕ) (h : n < 28) : todoS (F := F) c n = iprop((∃ f, mactP c (Ring.bk 28 n) f) ∗ todoS c (n + 1)) := by
  have e : (⟨n, h⟩ : Fin 28) = Ring.bk 28 n := Fin.ext (by rw [Ring.bk_val h])
  unfold todoS
  rw [Ring.bigSep_rangeSet_head h h, e]

def inv3 (V : ℕ → S256x512.Idx → Elt F .bf16) (H2 : Buf (Elt F) (h2.view.loc (c : Thread nD τ))) (G : ℕ → Buf (Elt F) (acc.view.loc (c : Thread nD τ))) (n : ℕ) (_ : BitVec 32) : sProp 𝕄 :=
  iprop(vecP c arg3 X3 ∗ vecP c arg4 X4 ∗ vecP c h2 H2 ∗ vecP c acc (G n) ∗ (∃ W, owes (c : Thread nD τ) 0 W)
    ∗ gAt c X n ∗ uAt c X n ∗ dAt c X n ∗ freeSlot c X (Ring.sl 4 (2 * n + 24)) ∗ freeSlot c X (Ring.sl 4 (2 * n + 25)) ∗ freeD c X (Ring.sl 2 (n + 1))
    ∗ aAt c V n ∗ aAt c V (n + 1) ∗ doneS c V (n - 2) ∗ todoS c n)
theorem step3 (k : Fin k0_t3_loop.trips) (a : BitVec 32) (V : ℕ → S256x512.Idx → Elt F .bf16) (H2 : Buf (Elt F) (h2.view.loc (c : Thread nD τ)))
    (G : ℕ → Buf (Elt F) (acc.view.loc (c : Thread nD τ))) (hG : G (k.val + 1) = accNext c X arg3 arg4 h2 acc X3 X4 k H2 (G k.val))
    (hV : V k.val = actV c X arg3 arg4 h2 X3 X4 k H2 aringM.view.junk) :
    inv3 c X arg3 arg4 h2 acc X3 X4 V H2 G k.val a
   ⊢ wp frame (wpE (defs₀ (F := F)) 𝒱₀ (c : Thread nD τ) none) Set.univ (trip3G arg0 harg0 arg1 harg1 arg2 harg2 arg3 harg3 arg4 harg4 arg5 harg5 arg6 harg6 out hout hmid hhmid hm hhm h2 hh2 ss hss acc hacc k a) (inv3 c X arg3 arg4 h2 acc X3 X4 V H2 G (k.val + 1)) := by
  have hk := t3_lt k
  have e1 : Ring.sl 4 (2 * (k.val + 1) + 24) = Ring.sl 4 (2 * k.val + 22) := Fin.ext (by show (2 * (k.val + 1) + 24) % 4 = (2 * k.val + 22) % 4; omega)
  have e2 : Ring.sl 4 (2 * (k.val + 1) + 25) = Ring.sl 4 (2 * k.val + 23) := Fin.ext (by show (2 * (k.val + 1) + 25) % 4 = (2 * k.val + 23) % 4; omega)
  have e3 : Ring.sl 2 (k.val + 1 + 1) = Ring.sl 2 k.val := Fin.ext (by show (k.val + 1 + 1) % 2 = k.val % 2; omega)
  have e4 : aAt c V (k.val + 1 + 1) = fltA c (Ring.sl 2 k.val) (Ring.bk 28 k.val) (actV c X arg3 arg4 h2 X3 X4 k H2 aringM.view.junk) := by
    rw [aAt_ge c V (by omega), e3, show k.val + 1 + 1 - 2 = k.val by omega, hV]
  have e5 : doneS c V (k.val + 1 - 2) = iprop(aDone c V k.val ∗ doneS c V (k.val - 2)) := by
    by_cases h : k.val < 2
    · rw [aDone_lt c V h, show k.val + 1 - 2 = 0 by omega, show k.val - 2 = 0 by omega, doneS_zero]
      exact (BI.equiv_iff.mp BI.emp_sep).symm
    · rw [aDone_ge c V h, show k.val + 1 - 2 = (k.val - 2) + 1 by omega, doneS_succ c V _ (by omega)]
  unfold inv3
  rw [hG, e1, e2, e3, e4, e5, todoS_head c k.val hk, gAt_lt c X hk, uAt_lt c X hk, dAt_lt c X hk]
  iintro ⟨H3, H4, Hh, Ha, HO, Hg, Hu, Hd, Hf, Hf1, Hfd, HA, HA1, Hdone, Hm, Htodo⟩
  iapply (wp_wand_r Idealize.ShloMosaic.frame (wpE (defs₀ (F := F)) 𝒱₀ (c : Thread nD τ) none) Set.univ)
  isplitl [H3 H4 Hh Ha HO Hg Hu Hd Hf Hf1 Hfd HA Hm]
  · iapply (trip3 c X arg0 harg0 arg1 harg1 arg2 harg2 arg3 harg3 arg4 harg4 arg5 harg5 arg6 harg6 out hout hmid hhmid hm hhm h2 hh2 ss hss acc hacc X3 X4 k a V H2 (G k.val))
    isplitl [H3]; · iexact H3
    isplitl [H4]; · iexact H4
    isplitl [Hh]; · iexact Hh
    isplitl [Ha]; · iexact Ha
    isplitl [HO]; · iexact HO
    isplitl [Hg]; · iexact Hg
    isplitl [Hu]; · iexact Hu
    isplitl [Hd]; · iexact Hd
    isplitl [Hf]; · iexact Hf
    isplitl [Hf1]; · iexact Hf1
    isplitl [Hfd]; · iexact Hfd
    isplitl [HA]; · iexact HA
    iexact Hm
  · iintro %_ ⟨H3, H4, Hh, Ha, HO, Hf, Hf1, Hfd, Hg, Hu, Hd, HA, Hdn⟩
    isplitl [H3]; · iexact H3
    isplitl [H4]; · iexact H4
    isplitl [Hh]; · iexact Hh
    isplitl [Ha]; · iexact Ha
    isplitl [HO]; · iexact HO
    isplitl [Hg]; · iexact Hg
    isplitl [Hu]; · iexact Hu
    isplitl [Hd]; · iexact Hd
    isplitl [Hf]; · iexact Hf
    isplitl [Hf1]; · iexact Hf1
    isplitl [Hfd]; · iexact Hfd
    isplitl [HA1]; · iexact HA1
    isplitl [HA]; · iexact HA
    isplitl [Hdn Hdone]
    · isplitl [Hdn]; · iexact Hdn
      iexact Hdone
    iexact Htodo
end Body
end Cert.Proof.Layer
-- ==== Proof.Body.lean ====
module

public import proofs.«01_k».proof.Proof.States

@[expose] public section

noncomputable section

/-! # The body's run -/

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (X : Weights (F := F) c)
variable (arg0 : Memref sig .tc .vmem S256x5120 .bf16) (harg0 : arg0.IsWhole) (arg1 : Memref sig .tc .vmem S40x128 .f32) (harg1 : arg1.IsWhole)
  (arg2 : Memref sig .tc .vmem S40x128 .f32) (harg2 : arg2.IsWhole) (arg3 : Memref sig .tc .vmem S112x128 .f32) (harg3 : arg3.IsWhole)
  (arg4 : Memref sig .tc .vmem S112x128 .f32) (harg4 : arg4.IsWhole) (arg5 : Memref sig .tc .vmem S40x128 .f32) (harg5 : arg5.IsWhole)
  (arg6 : Memref sig .tc .vmem S8x256x512 .bf16) (harg6 : arg6.IsWhole)
  (out : Memref sig .tc .hbm S256x5120 .bf16) (hout : out.IsWhole) (hmid : Memref sig .tc .hbm S256x5120 .bf16) (hhmid : hmid.IsWhole)
  (hm : Memref sig .tc .vmem S256x5120 .bf16) (hhm : hm.IsWhole) (h2 : Memref sig .tc .vmem S256x5120 .bf16) (hh2 : h2.IsWhole)
  (ss : Memref sig .tc .vmem S256x128 .f32) (hss : ss.IsWhole) (acc : Memref sig .tc .vmem S256x5120 .f32) (hacc : acc.IsWhole)

variable (X0 : Buf (Elt F) (arg0.view.loc (c : Thread nD τ))) (X1 : Buf (Elt F) (arg1.view.loc (c : Thread nD τ))) (X2 : Buf (Elt F) (arg2.view.loc (c : Thread nD τ)))
  (X3 : Buf (Elt F) (arg3.view.loc (c : Thread nD τ))) (X4 : Buf (Elt F) (arg4.view.loc (c : Thread nD τ))) (X5 : Buf (Elt F) (arg5.view.loc (c : Thread nD τ)))
  (X6 : Buf (Elt F) (arg6.view.loc (c : Thread nD τ)))
  (HM0 : Buf (Elt F) (hm.view.loc (c : Thread nD τ))) (H20 : Buf (Elt F) (h2.view.loc (c : Thread nD τ)))
  (SS0 : Buf (Elt F) (ss.view.loc (c : Thread nD τ))) (ACC0 : Buf (Elt F) (acc.view.loc (c : Thread nD τ)))

variable (O0 : Buf (Elt F) (out.view.loc (c : Thread nD τ))) (M0 : Buf (Elt F) (hmid.view.loc (c : Thread nD τ)))

abbrev cellH : sProp 𝕄 := semVal ((c : Thread nD τ), SemLoc.dma (dsem 0).sem) 0

def vH2 : Buf (Elt F) (h2.view.loc (c : Thread nD τ)) := h2St c X arg0 arg1 arg2 arg6 hm h2 ss X0 X1 X2 X6 HM0 H20 8
def vACC : Buf (Elt F) (acc.view.loc (c : Thread nD τ)) := accSt c X arg3 arg4 h2 acc X3 X4 (vH2 c X arg0 arg1 arg2 arg6 hm h2 ss X0 X1 X2 X6 HM0 H20) 28
def vHM : Buf (Elt F) (hm.view.loc (c : Thread nD τ)) := hmFin c arg5 hm acc X5 (HMf c X arg0 arg2 arg6 hm X0 X2 X6 HM0) (vACC c X arg0 arg1 arg2 arg3 arg4 arg6 hm h2 ss acc X0 X1 X2 X3 X4 X6 HM0 H20) 8
def vACT : ℕ → S256x512.Idx → Elt F .bf16 := VA c X arg3 arg4 h2 X3 X4 (vH2 c X arg0 arg1 arg2 arg6 hm h2 ss X0 X1 X2 X6 HM0 H20)

/-- A share of the residual stream put aside. -/
def parkHM (q : PosShare TreeShare) (f : Buf (Elt F) (hm.view.loc (c : Thread nD τ))) : sProp 𝕄 := hm.view.loc (c : Thread nD τ) ↦[hm.view.set]{q} f
theorem fltO_fold (s : Fin 4) (b : Fin 10) (f) : iprop(flightO c X s b f ∗ hidO c X s b) ⊢ fltO c X s b := by
  unfold fltO
  iintro ⟨H, Hh⟩
  isplitl [H]; · iexists f; iexact H
  iexact Hh
theorem fltD_fold (s : Fin 2) (b : Fin 28) (f) : iprop(flightD c X s b f ∗ hidD c X s b) ⊢ fltD c X s b := by
  unfold fltD
  iintro ⟨H, Hh⟩
  isplitl [H]; · iexists f; iexact H
  iexact Hh
theorem ring12 : ringAt c X (0 + 12) = fltO c X 0 0 := ringAt_lt c X _ (by omega)
theorem ring13 : ringAt c X (0 + 13) = fltO c X 1 1 := ringAt_lt c X _ (by omega)
theorem ring14 : ringAt c X (0 + 14) = fltO c X 2 2 := ringAt_lt c X _ (by omega)
theorem ring22 : ringAt c X (10 + 12) = gAt c X 0 := by
  rw [ringAt_gate c X _ rfl, gAt_lt c X (by omega), show Ring.bk 28 0 = 0 from rfl, show 2 * 0 + 22 = 10 + 12 from rfl]
theorem ring23 : ringAt c X (10 + 13) = uAt c X 0 := by
  rw [ringAt_up c X _ rfl, uAt_lt c X (by omega), show Ring.bk 28 0 = 0 from rfl, show 2 * 0 + 23 = 10 + 13 from rfl]
theorem ring24 : ringAt c X (10 + 14) = freeSlot c X (Ring.sl 4 (2 * 0 + 24)) := ringAt_ge c X _ (by omega)
theorem down0 : dAt c X 0 = fltD c X 0 0 := dAt_lt c X (by omega)
theorem act0 (V : ℕ → S256x512.Idx → Elt F .bf16) : aAt c V 0 = freeA c 0 := aAt_lt c V (by omega)
theorem act1 (V : ℕ → S256x512.Idx → Elt F .bf16) : aAt c V (0 + 1) = freeA c 1 := aAt_lt c V (by omega)
theorem gate28 : gAt c X 28 = freeSlot c X 2 := gAt_ge c X (by omega)
theorem up28 : uAt c X 28 = freeSlot c X 3 := uAt_ge c X (by omega)
theorem down28 : dAt c X 28 = freeD c X 0 := dAt_ge c X (by omega)
theorem act28 (V : ℕ → S256x512.Idx → Elt F .bf16) : aAt c V 28 = fltA c 0 26 (V 26) := by
  rw [aAt_ge c V (by omega), show Ring.sl 2 28 = 0 from rfl, show 28 - 2 = 26 from rfl, show Ring.bk 28 26 = 26 from rfl]
theorem act29 (V : ℕ → S256x512.Idx → Elt F .bf16) : aAt c V (28 + 1) = fltA c 1 27 (V 27) := by
  rw [aAt_ge c V (by omega), show Ring.sl 2 (28 + 1) = 1 from rfl, show 28 + 1 - 2 = 27 from rfl, show Ring.bk 28 27 = 27 from rfl]
theorem parkHM_def (q : PosShare TreeShare) (f : Buf (Elt F) (hm.view.loc (c : Thread nD τ))) : parkHM c hm q f = (hm.view.loc (c : Thread nD τ) ↦[hm.view.set]{q} f) := rfl

set_option maxHeartbeats 4000000 in
theorem bodyRun :
   iprop(vecP c arg0 X0 ∗ vecP c arg1 X1 ∗ vecP c arg2 X2 ∗ vecP c arg3 X3 ∗ vecP c arg4 X4 ∗ vecP c arg5 X5 ∗ vecP c arg6 X6
     ∗ vecP c out O0 ∗ vecP c hmid M0 ∗ vecP c hm HM0 ∗ vecP c h2 H20 ∗ vecP c ss SS0 ∗ vecP c acc ACC0 ∗ (∃ W, owes (c : Thread nD τ) 0 W)
     ∗ freeSlot c X 0 ∗ freeSlot c X 1 ∗ freeSlot c X 2 ∗ freeSlot c X 3 ∗ freeD c X 0 ∗ freeD c X 1 ∗ freeA c 0 ∗ freeA c 1 ∗ cellH c ∗ todoS c 0)
   ⊢ wp frame (wpE (defs₀ (F := F)) 𝒱₀ (c : Thread nD τ) none) Set.univ (bodyG arg0 harg0 arg1 harg1 arg2 harg2 arg3 harg3 arg4 harg4 arg5 harg5 arg6 harg6 out hout hmid hhmid hm hhm h2 hh2 ss hss acc hacc)
      (fun _ => iprop(vecP c arg0 X0 ∗ vecP c arg1 X1 ∗ vecP c arg2 X2 ∗ vecP c arg3 X3 ∗ vecP c arg4 X4 ∗ vecP c arg5 X5 ∗ vecP c arg6 X6
     ∗ vecP c out (out.view.writes (Elt F) out.view.junk [⟨Rect.whole S256x5120, ReadAs.same.apply (hm.view.read (Elt F) (vHM c X arg0 arg1 arg2 arg3 arg4 arg5 arg6 hm h2 ss acc X0 X1 X2 X3 X4 X5 X6 HM0 H20))⟩])
     ∗ vecP c hmid (hmid.view.writes (Elt F) hmid.view.junk [⟨Rect.whole S256x5120, ReadAs.same.apply (hm.view.read (Elt F) (HMf c X arg0 arg2 arg6 hm X0 X2 X6 HM0))⟩])
     ∗ (∃ f, vecP c hm f) ∗ (∃ f, vecP c h2 f) ∗ (∃ f, vecP c ss f) ∗ (∃ f, vecP c acc f) ∗ (∃ W, owes (c : Thread nD τ) 0 W)
     ∗ freeSlot c X 0 ∗ freeSlot c X 1 ∗ freeSlot c X 2 ∗ freeSlot c X 3 ∗ freeD c X 0 ∗ freeD c X 1 ∗ freeA c 0 ∗ freeA c 1 ∗ cellH c
     ∗ doneS c (vACT c X arg0 arg1 arg2 arg3 arg4 arg6 hm h2 ss X0 X1 X2 X3 X4 X6 HM0 H20) 28)) := by
  iintro ⟨H0, H1, H2, H3, H4, H5, H6, Hout, Hmid, Hhm, Hh2, Hss, Hacc, ⟨%W, HW⟩, Hs0, Hs1, Hs2, Hs3, Hd0, Hd1, Ha0, Ha1, HcH, Hm⟩
  ihave Hop := (free_openO c X 0 0) $$ Hs0
  icases Hop with ⟨Hc0, ⟨%f0, Hs0⟩, Hw0, Hh0⟩
  ihave Hop := (free_openO c X 1 1) $$ Hs1
  icases Hop with ⟨Hc1, ⟨%f1, Hs1⟩, Hw1, Hh1⟩
  ihave Hop := (free_openO c X 2 2) $$ Hs2
  icases Hop with ⟨Hc2, ⟨%f2, Hs2⟩, Hw2, Hh2'⟩
  ihave Hop := (free_openD c X 0 0).1 $$ Hd0
  icases Hop with ⟨HcD, ⟨%fD, HsD⟩, HwD, HhD⟩
  have c1 := cond1_true
  have c2 := cond2_not
  have c3 := cond3_not
  have c4 := cond4_true
  have c5 := cond5_not
  have c6 := cond6_not
  have c7 := cond7_true
  have c8 := cond8_not
  have c9 := cond9_not
  have hG : ∀ k : Fin k0_t3_loop.trips, accSt c X arg3 arg4 h2 acc X3 X4 (vH2 c X arg0 arg1 arg2 arg6 hm h2 ss X0 X1 X2 X6 HM0 H20) (k.val + 1)
      = accNext c X arg3 arg4 h2 acc X3 X4 k (vH2 c X arg0 arg1 arg2 arg6 hm h2 ss X0 X1 X2 X6 HM0 H20) (accSt c X arg3 arg4 h2 acc X3 X4 (vH2 c X arg0 arg1 arg2 arg6 hm h2 ss X0 X1 X2 X6 HM0 H20) k.val) :=
    fun k => by rw [accSt, t3i_val]
  have hV : ∀ k : Fin k0_t3_loop.trips, vACT c X arg0 arg1 arg2 arg3 arg4 arg6 hm h2 ss X0 X1 X2 X3 X4 X6 HM0 H20 k.val
      = actV c X arg3 arg4 h2 X3 X4 k (vH2 c X arg0 arg1 arg2 arg6 hm h2 ss X0 X1 X2 X6 HM0 H20) aringM.view.junk := fun k => by rw [vACT, VA, t3i_val]
  dsimp only [bodyG]
  sl_unfold [cc0_decoder_layer]
  sl_exec
  ihave Hc0 := (fltO_fold c X 0 0 _) $$ [Hc0 Hh0]
  · isplitl [Hc0]; · iexact Hc0
    iexact Hh0
  ihave Hc1 := (fltO_fold c X 1 1 _) $$ [Hc1 Hh1]
  · isplitl [Hc1]; · iexact Hc1
    iexact Hh1
  ihave Hc2 := (fltO_fold c X 2 2 _) $$ [Hc2 Hh2']
  · isplitl [Hc2]; · iexact Hc2
    iexact Hh2'
  ihave HcD := (fltD_fold c X 0 0 _) $$ [HcD HhD]
  · isplitl [HcD]; · iexact HcD
    iexact HhD
  -- the output projection's loop
  sl_for (inv1 c X arg0 arg2 arg6 hm ss X0 X2 X6 HM0) $$ [H0 H2 H6 Hhm Hss HW Hc0 Hc1 Hc2 Hs3]
  · intro k a
    exact step1 c X arg0 harg0 arg1 harg1 arg2 harg2 arg3 harg3 arg4 harg4 arg5 harg5 arg6 harg6 out hout hmid hhmid hm hhm h2 hh2 ss hss acc hacc X0 X2 X6 HM0 _ _ k a
  · unfold inv1
    rw [ring12, ring13, ring14, hmSt, ssSt]
    sl_unfold_run_names
    isplitl [H0]; · iexact H0
    isplitl [H2]; · iexact H2
    isplitl [H6]; · iexact H6
    isplitl [Hhm]; · iexact Hhm
    isplitl [Hss]; · iexact Hss
    isplitl [HW]; · iexists _; iexact HW
    isplitl [Hc0]; · iexact Hc0
    isplitl [Hc1]; · iexact Hc1
    isplitl [Hc2]; · iexact Hc2
    iexact Hs3
  iintro %_ HI
  rw [show Scf.trips k0_t1_loop.lb k0_t1_loop.ub k0_t1_loop.st = 10 from rfl]
  unfold inv1
  icases HI with ⟨H0, H2, H6, Hhm, Hss, ⟨%W1, HW⟩, Hr22, Hr23, Hr24, Hr25⟩
  ihave Hhm2 := (pointsTo_share (PosShare.mem_left_op_right fullShare)).1 $$ Hhm
  icases Hhm2 with ⟨HhmL, HhmR⟩
  ihave HP := (Entails.of_eq (parkHM_def c hm fullShare.right (hmSt c X arg0 arg2 arg6 hm X0 X2 X6 HM0 10)).symm) $$ HhmR
  unfold cellH
  sl_exec
  -- the normalisation's loop
  ihave HhmR := (Entails.of_eq (parkHM_def c hm fullShare.right (hmSt c X arg0 arg2 arg6 hm X0 X2 X6 HM0 10))) $$ HP
  sl_for (inv2 c arg1 hm h2 ss X1 fullShare.right (ssSt c X arg0 arg2 arg6 ss X0 X2 X6 10) (hmSt c X arg0 arg2 arg6 hm X0 X2 X6 HM0 10) (h2St c X arg0 arg1 arg2 arg6 hm h2 ss X0 X1 X2 X6 HM0 H20)) $$ [H1 Hss HhmR Hh2]
  · intro k a
    exact step2 c arg0 harg0 arg1 harg1 arg2 harg2 arg3 harg3 arg4 harg4 arg5 harg5 arg6 harg6 out hout hmid hhmid hm hhm h2 hh2 ss hss acc hacc X1 k a _ _ _ _ (by rw [h2St, t2i_val])
  · unfold inv2
    isplitl [H1]; · iexact H1
    isplitl [Hss]; · iexact Hss
    isplitl [HhmR]; · iexact HhmR
    iexact Hh2
  iintro %_ HI
  rw [show Scf.trips k0_t2_loop.lb k0_t2_loop.ub k0_t2_loop.st = 8 from rfl]
  unfold inv2
  icases HI with ⟨H1, Hss, HhmR, Hh2⟩
  ihave HP := (Entails.of_eq (parkHM_def c hm fullShare.right (hmSt c X arg0 arg2 arg6 hm X0 X2 X6 HM0 10)).symm) $$ HhmR
  sl_exec
  -- the gated MLP's loop
  sl_for (inv3 c X arg3 arg4 h2 acc X3 X4 (vACT c X arg0 arg1 arg2 arg3 arg4 arg6 hm h2 ss X0 X1 X2 X3 X4 X6 HM0 H20) (vH2 c X arg0 arg1 arg2 arg6 hm h2 ss X0 X1 X2 X6 HM0 H20)
    (accSt c X arg3 arg4 h2 acc X3 X4 (vH2 c X arg0 arg1 arg2 arg6 hm h2 ss X0 X1 X2 X6 HM0 H20))) $$ [H3 H4 Hh2 Hacc HW Hr22 Hr23 HcD Hr24 Hr25 Hd1 Ha0 Ha1 Hm]
  · intro k a
    exact step3 c X arg0 harg0 arg1 harg1 arg2 harg2 arg3 harg3 arg4 harg4 arg5 harg5 arg6 harg6 out hout hmid hhmid hm hhm h2 hh2 ss hss acc hacc X3 X4 k a (vACT c X arg0 arg1 arg2 arg3 arg4 arg6 hm h2 ss X0 X1 X2 X3 X4 X6 HM0 H20) (vH2 c X arg0 arg1 arg2 arg6 hm h2 ss X0 X1 X2 X6 HM0 H20)
      (accSt c X arg3 arg4 h2 acc X3 X4 (vH2 c X arg0 arg1 arg2 arg6 hm h2 ss X0 X1 X2 X6 HM0 H20)) (hG k) (hV k)
  · unfold inv3
    sl_unfold_run_names
    rw [accSt, ← ring22, ← ring23, down0, act0, act1, doneS_zero, ← ring24]
    isplitl [H3]; · iexact H3
    isplitl [H4]; · iexact H4
    isplitl [Hh2]; · iexact Hh2
    isplitl [Hacc]; · iexact Hacc
    isplitl [HW]; · iexists _; iexact HW
    isplitl [Hr22]; · iexact Hr22
    isplitl [Hr23]; · iexact Hr23
    isplitl [HcD]; · iexact HcD
    isplitl [Hr24]; · iexact Hr24
    isplitl [Hr25]; · iexact Hr25
    isplitl [Hd1]; · iexact Hd1
    isplitl [Ha0]; · iexact Ha0
    isplitl [Ha1]; · iexact Ha1
    isplitl []; · iempintro
    iexact Hm
  iintro %_ HI
  rw [show Scf.trips k0_t3_loop.lb k0_t3_loop.ub k0_t3_loop.st = 28 from rfl]
  unfold inv3
  rw [gate28, up28, down28, act28, act29]
  icases HI with ⟨H3, H4, Hh2, Hacc, ⟨%W3, HW⟩, Hs2, Hs3, Hd0, Hs0, Hs1, Hd1, HA0, HA1, Hdone, -⟩
  unfold fltA
  icases HA0 with ⟨%fa0, %ga0, HA0⟩
  icases HA1 with ⟨%fa1, %ga1, HA1⟩
  sl_exec
  -- the last loop
  ihave HhmR := (Entails.of_eq (parkHM_def c hm fullShare.right (hmSt c X arg0 arg2 arg6 hm X0 X2 X6 HM0 10))) $$ HP
  ihave Hhm := (pointsTo_share (PosShare.mem_left_op_right fullShare)).2 $$ [HhmL HhmR]
  · isplitl [HhmL]; · iexact HhmL
    iexact HhmR
  sl_for (inv4 c arg5 hm acc X5 (vACC c X arg0 arg1 arg2 arg3 arg4 arg6 hm h2 ss acc X0 X1 X2 X3 X4 X6 HM0 H20)
    (hmFin c arg5 hm acc X5 (hmSt c X arg0 arg2 arg6 hm X0 X2 X6 HM0 10) (vACC c X arg0 arg1 arg2 arg3 arg4 arg6 hm h2 ss acc X0 X1 X2 X3 X4 X6 HM0 H20))) $$ [H5 Hacc Hhm]
  · intro k a
    exact step4 c arg0 harg0 arg1 harg1 arg2 harg2 arg3 harg3 arg4 harg4 arg5 harg5 arg6 harg6 out hout hmid hhmid hm hhm h2 hh2 ss hss acc hacc X5 k a _ _ (by rw [hmFin, t4i_val])
  · unfold inv4
    rw [hmFin]
    isplitl [H5]; · iexact H5
    isplitl [Hacc]; · iexact Hacc
    iexact Hhm
  iintro %_ HI
  rw [show Scf.trips k0_t4_loop.lb k0_t4_loop.ub k0_t4_loop.st = 8 from rfl]
  unfold inv4
  icases HI with ⟨H5, Hacc, Hhm⟩
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  unfold vHM
  sl_unfold_run_names
  isplitl [Hout]
  · iapply (Entails.of_eq (pointsTo_writes_whole_rebase (Ix := Unit) (Name := ℕ) (U := UU nD τ) (Lvl := ℕ) (c : Thread nD τ) out O0 out.view.junk _ fullShare)); iexact Hout
  isplitl [Hmid]
  · iexact Hmid
  isplitl [Hhm]; · iexists _; iexact Hhm
  isplitl [Hh2]; · iexists _; iexact Hh2
  isplitl [Hss]; · iexists _; iexact Hss
  isplitl [Hacc]; · iexists _; iexact Hacc
  isplitl [HW]; · iexists _; iexact HW
  isplitl [Hs0]; · iexact Hs0
  isplitl [Hs1]; · iexact Hs1
  isplitl [Hs2]; · iexact Hs2
  isplitl [Hs3]; · iexact Hs3
  isplitl [Hd0]; · iexact Hd0
  isplitl [Hd1]; · iexact Hd1
  isplitl [HA0 HA0_src]
  · unfold freeA
    isplitl [HA0]; · iexact HA0
    iexists _; iexact HA0_src
  isplitl [HA1 HA1_src]
  · unfold freeA
    isplitl [HA1]; · iexact HA1
    iexists _; iexact HA1_src
  isplitl [HcH]; · iexact HcH
  rw [doneS_succ c _ 27 (by omega), doneS_succ c _ 26 (by omega), show Ring.bk 28 27 = 27 from rfl, show Ring.bk 28 26 = 26 from rfl]
  isplitl [HA1_dst]
  · unfold doneA; iexists _; iexact HA1_dst
  isplitl [HA0_dst]
  · unfold doneA; iexists _; iexact HA0_dst
  iexact Hdone
end Body
end Cert.Proof.Layer
-- ==== Proof.Pieces.lean ====
/-
  What the launch hands the body and takes back: the weights in read shares, the ring buffers in slots, the cells one
  by one, the activation in its column blocks.
-/
module

public import proofs.«01_k».proof.Proof.Body
public import proofs.«01_k».proof.Proof.Gen.KernelIdeal.Frame

@[expose] public section

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own cells -/

abbrev osem : Fin 9 → SemLoc sig := ![.dma (wsem 0).sem, .dma (wsem 1).sem, .dma (wsem 2).sem, .dma (wsem 3).sem,
  .dma (dsem 0).sem, .dma (dsemW 0).sem, .dma (dsemW 1).sem, .dma (dsemA 0).sem, .dma (dsemA 1).sem]
theorem ownSemFacts : Pipeline.OwnSemFacts spec0 osem := by decide

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

omit [FloatOps F] in
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ cellH c ∗ cellD c 0 ∗ cellD c 1 ∗ cellA c 0 ∗ cellA c 1) := by
  unfold Pipeline.ownSems0; rw [bigSep_fin9]; rfl

/-! ## The slots and blocks as element sets -/

abbrev SF (s : Fin 4) : Finset S4x5120x512.Idx := (Rect.unit (s := S4x5120x512) (slotOff s) S1x5120x512.size (slotF_inb s)).set
abbrev SD (s : Fin 2) : Finset S2x512x5120.Idx := (Rect.unit (s := S2x512x5120) (slot2Off s) S1x512x5120.size (dslot_inb s)).set
abbrev SA (s : Fin 2) : Finset S2x256x512.Idx := (Rect.unit (s := S2x256x512) (slot2Off s) S1x256x512.size (aslot_inb s)).set
abbrev SM (b : Fin 28) : Finset S256x14336.Idx := (Rect.unit (s := S256x14336) (colOff b.val) S256x512.size (mactBlk_inb b)).set

theorem off3_lead {n : ℕ} (b : Fin n) : (![b.val, 0, 0] : Fin 3 → ℕ) 0 = 1 * b.val := (Nat.one_mul _).symm
theorem off3_rest {n : ℕ} (b : Fin n) (a : Fin 3) (h : a ≠ 0) : (![b.val, 0, 0] : Fin 3 → ℕ) a = 0 := by
  fin_cases a
  · exact absurd rfl h
  · rfl
  · rfl
theorem colOff_rest (b : ℕ) (a : Fin 2) (h : a ≠ 1) : colOff b a = 0 := by
  fin_cases a
  · rfl
  · exact absurd rfl h

theorem SF_disjoint : ∀ s s' : Fin 4, s ≠ s' → Disjoint (SF s) (SF s') :=
  Ring.lead_disjoint (s := S4x5120x512) (0 : Fin 3) 1 (fun s : Fin 4 => slotOff s) S1x5120x512.size slotF_inb off3_lead rfl
theorem SF_cover : (Finset.univ : Finset (Fin 4)).biUnion SF = Finset.univ :=
  Ring.lead_cover (s := S4x5120x512) (0 : Fin 3) 1 (fun s : Fin 4 => slotOff s) S1x5120x512.size slotF_inb off3_lead off3_rest rfl (by decide) rfl
theorem SD_disjoint : ∀ s s' : Fin 2, s ≠ s' → Disjoint (SD s) (SD s') :=
  Ring.lead_disjoint (s := S2x512x5120) (0 : Fin 3) 1 (fun s : Fin 2 => slot2Off s) S1x512x5120.size dslot_inb off3_lead rfl
theorem SD_cover : (Finset.univ : Finset (Fin 2)).biUnion SD = Finset.univ :=
  Ring.lead_cover (s := S2x512x5120) (0 : Fin 3) 1 (fun s : Fin 2 => slot2Off s) S1x512x5120.size dslot_inb off3_lead off3_rest rfl (by decide) rfl
theorem SA_disjoint : ∀ s s' : Fin 2, s ≠ s' → Disjoint (SA s) (SA s') :=
  Ring.lead_disjoint (s := S2x256x512) (0 : Fin 3) 1 (fun s : Fin 2 => slot2Off s) S1x256x512.size aslot_inb off3_lead rfl
theorem SA_cover : (Finset.univ : Finset (Fin 2)).biUnion SA = Finset.univ :=
  Ring.lead_cover (s := S2x256x512) (0 : Fin 3) 1 (fun s : Fin 2 => slot2Off s) S1x256x512.size aslot_inb off3_lead off3_rest rfl (by decide) rfl
theorem SM_disjoint : ∀ s s' : Fin 28, s ≠ s' → Disjoint (SM s) (SM s') :=
  Ring.lead_disjoint (s := S256x14336) (1 : Fin 2) 512 (fun b : Fin 28 => colOff b.val) S256x512.size mactBlk_inb (fun _ => rfl) rfl
theorem SM_cover : (Finset.univ : Finset (Fin 28)).biUnion SM = Finset.univ :=
  Ring.lead_cover (s := S256x14336) (1 : Fin 2) 512 (fun b : Fin 28 => colOff b.val) S256x512.size mactBlk_inb (fun _ => rfl) (fun b => colOff_rest b.val) rfl (by decide) rfl

section Splits
variable (c : Dev nD) (X : Weights (F := F) c)

omit [FloatOps F] in
theorem slotFP_eq (s : Fin 4) (f) : slotFP c s f = (((c : Thread nD τ).loc cc0_scratch0) ↦[SF s]{fullShare} f : sProp 𝕄) :=
  congrArg (fun S => (_ ↦[S]{fullShare} f : sProp 𝕄)) (slotF_set s)
omit [FloatOps F] in
theorem slotDP_eq (s : Fin 2) (f) : slotDP c s f = (((c : Thread nD τ).loc cc0_scoped3) ↦[SD s]{fullShare} f : sProp 𝕄) :=
  congrArg (fun S => (_ ↦[S]{fullShare} f : sProp 𝕄)) (slotD_set s)
omit [FloatOps F] in
theorem slotAP_eq (s : Fin 2) (f) : slotAP c s f = (((c : Thread nD τ).loc cc0_scoped5) ↦[SA s]{fullShare} f : sProp 𝕄) :=
  congrArg (fun S => (_ ↦[S]{fullShare} f : sProp 𝕄)) (slotA_set s)
omit [FloatOps F] in
theorem mactP_eq (b : Fin 28) (f) : mactP c b f = (((c : Thread nD τ).loc main_v7_2) ↦[SM b]{fullShare} f : sProp 𝕄) :=
  congrArg (fun S => (_ ↦[S]{fullShare} f : sProp 𝕄)) (mactBlk_set b)

theorem ring_split :
    iprop(∃ f : Buf (Elt F) ((c : Thread nD τ).loc cc0_scratch0), ((c : Thread nD τ).loc cc0_scratch0) ↦{fullShare} f)
      ⊢ (iprop((∃ f, slotFP c 0 f) ∗ (∃ f, slotFP c 1 f) ∗ (∃ f, slotFP c 2 f) ∗ ∃ f, slotFP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) SF SF_disjoint SF_cover f).trans (bigSep_fin4 _))) $$ H
  icases H2 with ⟨H0, H1, H2, H3⟩
  isplitl [H0]; · iexists f; iapply (entails_of_eq (slotFP_eq c 0 f).symm); iexact H0
  isplitl [H1]; · iexists f; iapply (entails_of_eq (slotFP_eq c 1 f).symm); iexact H1
  isplitl [H2]; · iexists f; iapply (entails_of_eq (slotFP_eq c 2 f).symm); iexact H2
  iexists f; iapply (entails_of_eq (slotFP_eq c 3 f).symm); iexact H3
theorem ring_join :
    iprop((∃ f, slotFP c 0 f) ∗ (∃ f, slotFP c 1 f) ∗ (∃ f, slotFP c 2 f) ∗ ∃ f, slotFP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) SF SF_disjoint SF_cover f0)
  irw [bigSep_fin4]
  isplitl [H0]; · iexists f0; iapply (entails_of_eq (slotFP_eq c 0 f0)); iexact H0
  isplitl [H1]; · iexists f1; iapply (entails_of_eq (slotFP_eq c 1 f1)); iexact H1
  isplitl [H2]; · iexists f2; iapply (entails_of_eq (slotFP_eq c 2 f2)); iexact H2
  iexists f3; iapply (entails_of_eq (slotFP_eq c 3 f3)); iexact H3
theorem dring_split :
    iprop(∃ f : Buf (Elt F) ((c : Thread nD τ).loc cc0_scoped3), ((c : Thread nD τ).loc cc0_scoped3) ↦{fullShare} f)
      ⊢ (iprop((∃ f, slotDP c 0 f) ∗ ∃ f, slotDP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped3) SD SD_disjoint SD_cover f).trans (bigSep_fin2 _))) $$ H
  icases H2 with ⟨H0, H1⟩
  isplitl [H0]; · iexists f; iapply (entails_of_eq (slotDP_eq c 0 f).symm); iexact H0
  iexists f; iapply (entails_of_eq (slotDP_eq c 1 f).symm); iexact H1
theorem dring_join :
    iprop((∃ f, slotDP c 0 f) ∗ ∃ f, slotDP c 1 f)
      ⊢ (iprop(∃ f : Buf (Elt F) ((c : Thread nD τ).loc cc0_scoped3), ((c : Thread nD τ).loc cc0_scoped3) ↦{fullShare} f) : sProp 𝕄) := by
  iintro ⟨⟨%f0, H0⟩, ⟨%f1, H1⟩⟩
  iapply (Ring.pointsTo_blocks_join_exists (ℓ := (c : Thread nD τ).loc cc0_scoped3) SD SD_disjoint SD_cover f0)
  irw [bigSep_fin2]
  isplitl [H0]; · iexists f0; iapply (entails_of_eq (slotDP_eq c 0 f0)); iexact H0
  iexists f1; iapply (entails_of_eq (slotDP_eq c 1 f1)); iexact H1
theorem aring_split :
    iprop(∃ f : Buf (Elt F) ((c : Thread nD τ).loc cc0_scoped5), ((c : Thread nD τ).loc cc0_scoped5) ↦{fullShare} f)
      ⊢ (iprop((∃ f, slotAP c 0 f) ∗ ∃ f, slotAP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped5) SA SA_disjoint SA_cover f).trans (bigSep_fin2 _))) $$ H
  icases H2 with ⟨H0, H1⟩
  isplitl [H0]; · iexists f; iapply (entails_of_eq (slotAP_eq c 0 f).symm); iexact H0
  iexists f; iapply (entails_of_eq (slotAP_eq c 1 f).symm); iexact H1
theorem aring_join :
    iprop((∃ f, slotAP c 0 f) ∗ ∃ f, slotAP c 1 f)
      ⊢ (iprop(∃ f : Buf (Elt F) ((c : Thread nD τ).loc cc0_scoped5), ((c : Thread nD τ).loc cc0_scoped5) ↦{fullShare} f) : sProp 𝕄) := by
  iintro ⟨⟨%f0, H0⟩, ⟨%f1, H1⟩⟩
  iapply (Ring.pointsTo_blocks_join_exists (ℓ := (c : Thread nD τ).loc cc0_scoped5) SA SA_disjoint SA_cover f0)
  irw [bigSep_fin2]
  isplitl [H0]; · iexists f0; iapply (entails_of_eq (slotAP_eq c 0 f0)); iexact H0
  iexists f1; iapply (entails_of_eq (slotAP_eq c 1 f1)); iexact H1

/-! ## The activation in its column blocks -/

theorem mactP_in (b : Fin 28) (f : Buf (Elt F) ((c : Thread nD τ).loc main_v7_2)) :
    (((c : Thread nD τ).loc main_v7_2) ↦[SM b]{fullShare} f : sProp 𝕄) ⊢ iprop(∃ f, mactP c b f) := by
  iintro H; iexists f; iapply (entails_of_eq (mactP_eq c b f).symm); iexact H
theorem mact_split (f : Buf (Elt F) ((c : Thread nD τ).loc main_v7_2)) :
    (((c : Thread nD τ).loc main_v7_2) ↦{fullShare} f : sProp 𝕄) ⊢ todoS c 0 := by
  unfold todoS
  rw [Ring.rangeSet_univ, Ring.pointsTo_blocks (Ix := Unit) (Name := ℕ) (U := UU nD τ) (Lvl := ℕ) (q := fullShare) (ℓ := (c : Thread nD τ).loc main_v7_2) SM SM_disjoint SM_cover f]
  exact bigSep_mono fun b _ => mactP_in c b f

/-- The column block an element of the activation lies in. -/
def blkOf (i : S256x14336.Idx) : Fin 28 := ⟨(i 1).val / 512, by have h : (i 1).val < 14336 := (i 1).isLt; omega⟩
theorem blkOf_mem (b : Fin 28) (i : S256x14336.Idx) (hi : i ∈ SM b) : blkOf i = b := by
  have h := (Rect.mem_set_unit.mp hi) 1
  have h1 : 512 * b.val ≤ (i 1).val ∧ (i 1).val < 512 * b.val + 512 := h
  apply Fin.ext
  show (i 1).val / 512 = b.val
  omega
/-- The activation array holding block `b`'s words `V b` on each of its column blocks. -/
def actBuf (V : ℕ → S256x512.Idx → Elt F .bf16) : Buf (Elt F) ((c : Thread nD τ).loc main_v7_2) :=
  fun i => (mactBlk (blkOf i)).view.writes (Elt F) (mactBlk (blkOf i)).view.junk [⟨Rect.whole S256x512, V (blkOf i).val⟩] i
theorem doneA_whole (V : ℕ → S256x512.Idx → Elt F .bf16) (b : Fin 28) :
    doneA c b (V b.val) ⊢ (((c : Thread nD τ).loc main_v7_2) ↦[SM b]{fullShare} actBuf c V : sProp 𝕄) := by
  unfold doneA
  iintro ⟨%f, H⟩
  have e : (mactP c b ((mactBlk b).view.writes (Elt F) f [⟨Rect.whole S256x512, V b.val⟩]) : sProp 𝕄)
      = (((c : Thread nD τ).loc main_v7_2) ↦[SM b]{fullShare} actBuf c V) := by
    refine (pointsTo_writes_whole_rebase (Ix := Unit) (Name := ℕ) (U := UU nD τ) (Lvl := ℕ) (c : Thread nD τ) (mactBlk b) f (mactBlk b).view.junk _ fullShare).trans ?_
    refine (mactP_eq c b _).trans (pointsTo_congr fun i hi => ?_)
    unfold actBuf
    rw [blkOf_mem b i hi]
  iapply (entails_of_eq e); iexact H
theorem doneS_join (V : ℕ → S256x512.Idx → Elt F .bf16) :
    doneS c V 28 ⊢ (((c : Thread nD τ).loc main_v7_2) ↦{fullShare} actBuf c V : sProp 𝕄) := by
  unfold doneS
  rw [Ring.rangeSet_univ, Ring.pointsTo_blocks (Ix := Unit) (Name := ℕ) (U := UU nD τ) (Lvl := ℕ) (q := fullShare) (ℓ := (c : Thread nD τ).loc main_v7_2) SM SM_disjoint SM_cover (actBuf c V)]
  exact bigSep_mono fun b _ => doneA_whole c V b

/-! ## The weights in read shares -/

omit [FloatOps F] in
theorem toks4 {ℓ : Loc nD τ sig} (f : Buf (Elt F) ℓ) :
    (ℓ ↦{fullShare} f : sProp 𝕄) ⊣⊢ iprop((ℓ ↦{Transfers.shareDrop fullShare 4} f) ∗ (ℓ ↦{qs 0} f) ∗ (ℓ ↦{qs 1} f) ∗ (ℓ ↦{qs 2} f) ∗ (ℓ ↦{qs 3} f)) := by
  have h := Transfers.pointsTo_toks (Ix := Unit) (Name := ℕ) (U := UU nD τ) (Lvl := ℕ) (ℓ := ℓ) (S := Finset.univ) (f := f) fullShare 4
  rw [bigSep_fin4] at h
  exact h
omit [FloatOps F] in
theorem toks2 {ℓ : Loc nD τ sig} (f : Buf (Elt F) ℓ) :
    (ℓ ↦{fullShare} f : sProp 𝕄) ⊣⊢ iprop((ℓ ↦{Transfers.shareDrop fullShare 2} f) ∗ (ℓ ↦{qd 0} f) ∗ (ℓ ↦{qd 1} f)) := by
  have h := Transfers.pointsTo_toks (Ix := Unit) (Name := ℕ) (U := UU nD τ) (Lvl := ℕ) (ℓ := ℓ) (S := Finset.univ) (f := f) fullShare 2
  rw [bigSep_fin2] at h
  exact h

/-- The weights' shares no slot carries. -/
def remW : sProp 𝕄 :=
  iprop((woM.view.loc (c : Thread nD τ) ↦{Transfers.shareDrop fullShare 4} X.wo) ∗ (wgM.view.loc (c : Thread nD τ) ↦{Transfers.shareDrop fullShare 4} X.wg)
    ∗ (wuM.view.loc (c : Thread nD τ) ↦{Transfers.shareDrop fullShare 4} X.wu) ∗ (wdM.view.loc (c : Thread nD τ) ↦{Transfers.shareDrop fullShare 2} X.wd))
/-- The weights whole. -/
def wholeW : sProp 𝕄 :=
  iprop((woM.view.loc (c : Thread nD τ) ↦{fullShare} X.wo) ∗ (wgM.view.loc (c : Thread nD τ) ↦{fullShare} X.wg)
    ∗ (wuM.view.loc (c : Thread nD τ) ↦{fullShare} X.wu) ∗ (wdM.view.loc (c : Thread nD τ) ↦{fullShare} X.wd))

omit [FloatOps F] in
theorem vecP_whole (b : Ref sig .tc) (f : Buf (Elt F) ((c : Thread nD τ).loc b)) :
    (vecP c (Memref.whole b) f : sProp 𝕄) = (((c : Thread nD τ).loc b) ↦{fullShare} f) :=
  congrArg (fun S => (_ ↦[S]{fullShare} f : sProp 𝕄)) (View.set_whole _)
theorem vecP_in (b : Ref sig .tc) :
    iprop(∃ f : Buf (Elt F) ((c : Thread nD τ).loc b), ((c : Thread nD τ).loc b) ↦{fullShare} f) ⊢ (iprop(∃ f, vecP c (Memref.whole b) f) : sProp 𝕄) := by
  iintro ⟨%f, H⟩; iexists f; iapply (entails_of_eq (vecP_whole c b f).symm); iexact H
theorem vecP_out (b : Ref sig .tc) :
    iprop(∃ f, vecP c (Memref.whole b) f) ⊢ (iprop(∃ f : Buf (Elt F) ((c : Thread nD τ).loc b), ((c : Thread nD τ).loc b) ↦{fullShare} f) : sProp 𝕄) := by
  iintro ⟨%f, H⟩; iexists f; iapply (entails_of_eq (vecP_whole c b f)); iexact H

/-- What the body holds beside its operands and results, the same at its entry and at its exit. -/
def core : sProp 𝕄 :=
  iprop(remW c X ∗ freeSlot c X 0 ∗ freeSlot c X 1 ∗ freeSlot c X 2 ∗ freeSlot c X 3 ∗ freeD c X 0 ∗ freeD c X 1 ∗ freeA c 0 ∗ freeA c 1 ∗ cellH c
    ∗ (∃ f, vecP c hmM f) ∗ (∃ f, vecP c h2M f) ∗ (∃ f, vecP c ssM f) ∗ (∃ f, vecP c accM f))

theorem core_in : iprop(wholeW c X ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) ⊢ (core c X : sProp 𝕄) := by
  rw [ownSems0_eq, scopedRest0_eq]
  unfold wholeW core remW freeSlot freeD freeA
  iintro ⟨⟨Ho, Hg, Hu, Hd⟩, ⟨Hc0, Hc1, Hc2, Hc3, HcH, HcD0, HcD1, HcA0, HcA1⟩, Hr, Hhm, Hh2, Hss, Hdr, Hacc, Har⟩
  ihave Ho := (toks4 X.wo).1 $$ Ho
  icases Ho with ⟨HoR, Ho0, Ho1, Ho2, Ho3⟩
  ihave Hg := (toks4 X.wg).1 $$ Hg
  icases Hg with ⟨HgR, Hg0, Hg1, Hg2, Hg3⟩
  ihave Hu := (toks4 X.wu).1 $$ Hu
  icases Hu with ⟨HuR, Hu0, Hu1, Hu2, Hu3⟩
  ihave Hd := (toks2 X.wd).1 $$ Hd
  icases Hd with ⟨HdR, Hd0, Hd1⟩
  ihave Hr := (ring_split c) $$ Hr
  icases Hr with ⟨Hr0, Hr1, Hr2, Hr3⟩
  ihave Hdr := (dring_split c) $$ Hdr
  icases Hdr with ⟨Hdr0, Hdr1⟩
  ihave Har := (aring_split c) $$ Har
  icases Har with ⟨Har0, Har1⟩
  isplitl [HoR HgR HuR HdR]
  · isplitl [HoR]; · iexact HoR
    isplitl [HgR]; · iexact HgR
    isplitl [HuR]; · iexact HuR
    iexact HdR
  isplitl [Hc0 Hr0 Ho0 Hg0 Hu0]
  · isplitl [Hc0]; · iexact Hc0
    isplitl [Hr0]; · iexact Hr0
    isplitl [Ho0]; · iexact Ho0
    isplitl [Hg0]; · iexact Hg0
    iexact Hu0
  isplitl [Hc1 Hr1 Ho1 Hg1 Hu1]
  · isplitl [Hc1]; · iexact Hc1
    isplitl [Hr1]; · iexact Hr1
    isplitl [Ho1]; · iexact Ho1
    isplitl [Hg1]; · iexact Hg1
    iexact Hu1
  isplitl [Hc2 Hr2 Ho2 Hg2 Hu2]
  · isplitl [Hc2]; · iexact Hc2
    isplitl [Hr2]; · iexact Hr2
    isplitl [Ho2]; · iexact Ho2
    isplitl [Hg2]; · iexact Hg2
    iexact Hu2
  isplitl [Hc3 Hr3 Ho3 Hg3 Hu3]
  · isplitl [Hc3]; · iexact Hc3
    isplitl [Hr3]; · iexact Hr3
    isplitl [Ho3]; · iexact Ho3
    isplitl [Hg3]; · iexact Hg3
    iexact Hu3
  isplitl [HcD0 Hdr0 Hd0]
  · isplitl [HcD0]; · iexact HcD0
    isplitl [Hdr0]; · iexact Hdr0
    iexact Hd0
  isplitl [HcD1 Hdr1 Hd1]
  · isplitl [HcD1]; · iexact HcD1
    isplitl [Hdr1]; · iexact Hdr1
    iexact Hd1
  isplitl [HcA0 Har0]
  · isplitl [HcA0]; · iexact HcA0
    iexact Har0
  isplitl [HcA1 Har1]
  · isplitl [HcA1]; · iexact HcA1
    iexact Har1
  isplitl [HcH]; · iexact HcH
  isplitl [Hhm]; · iapply (vecP_in c cc0_scoped0); iexact Hhm
  isplitl [Hh2]; · iapply (vecP_in c cc0_scoped1); iexact Hh2
  isplitl [Hss]; · iapply (vecP_in c cc0_scoped2); iexact Hss
  iapply (vecP_in c cc0_scoped4); iexact Hacc

theorem core_out : (core c X : sProp 𝕄) ⊢ iprop(wholeW c X ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) := by
  rw [ownSems0_eq, scopedRest0_eq]
  unfold wholeW core remW freeSlot freeD freeA
  iintro ⟨⟨HoR, HgR, HuR, HdR⟩, ⟨Hc0, Hr0, Ho0, Hg0, Hu0⟩, ⟨Hc1, Hr1, Ho1, Hg1, Hu1⟩, ⟨Hc2, Hr2, Ho2, Hg2, Hu2⟩, ⟨Hc3, Hr3, Ho3, Hg3, Hu3⟩,
    ⟨HcD0, Hdr0, Hd0⟩, ⟨HcD1, Hdr1, Hd1⟩, ⟨HcA0, Har0⟩, ⟨HcA1, Har1⟩, HcH, Hhm, Hh2, Hss, Hacc⟩
  isplitl [HoR HgR HuR HdR Ho0 Ho1 Ho2 Ho3 Hg0 Hg1 Hg2 Hg3 Hu0 Hu1 Hu2 Hu3 Hd0 Hd1]
  · isplitl [HoR Ho0 Ho1 Ho2 Ho3]
    · iapply (toks4 X.wo).2
      isplitl [HoR]; · iexact HoR
      isplitl [Ho0]; · iexact Ho0
      isplitl [Ho1]; · iexact Ho1
      isplitl [Ho2]; · iexact Ho2
      iexact Ho3
    isplitl [HgR Hg0 Hg1 Hg2 Hg3]
    · iapply (toks4 X.wg).2
      isplitl [HgR]; · iexact HgR
      isplitl [Hg0]; · iexact Hg0
      isplitl [Hg1]; · iexact Hg1
      isplitl [Hg2]; · iexact Hg2
      iexact Hg3
    isplitl [HuR Hu0 Hu1 Hu2 Hu3]
    · iapply (toks4 X.wu).2
      isplitl [HuR]; · iexact HuR
      isplitl [Hu0]; · iexact Hu0
      isplitl [Hu1]; · iexact Hu1
      isplitl [Hu2]; · iexact Hu2
      iexact Hu3
    iapply (toks2 X.wd).2
    isplitl [HdR]; · iexact HdR
    isplitl [Hd0]; · iexact Hd0
    iexact Hd1
  isplitl [Hc0 Hc1 Hc2 Hc3 HcH HcD0 HcD1 HcA0 HcA1]
  · isplitl [Hc0]; · iexact Hc0
    isplitl [Hc1]; · iexact Hc1
    isplitl [Hc2]; · iexact Hc2
    isplitl [Hc3]; · iexact Hc3
    isplitl [HcH]; · iexact HcH
    isplitl [HcD0]; · iexact HcD0
    isplitl [HcD1]; · iexact HcD1
    isplitl [HcA0]; · iexact HcA0
    iexact HcA1
  isplitl [Hr0 Hr1 Hr2 Hr3]
  · iapply (ring_join c)
    isplitl [Hr0]; · iexact Hr0
    isplitl [Hr1]; · iexact Hr1
    isplitl [Hr2]; · iexact Hr2
    iexact Hr3
  isplitl [Hhm]; · iapply (vecP_out c cc0_scoped0); iexact Hhm
  isplitl [Hh2]; · iapply (vecP_out c cc0_scoped1); iexact Hh2
  isplitl [Hss]; · iapply (vecP_out c cc0_scoped2); iexact Hss
  isplitl [Hdr0 Hdr1]
  · iapply (dring_join c)
    isplitl [Hdr0]; · iexact Hdr0
    iexact Hdr1
  isplitl [Hacc]; · iapply (vecP_out c cc0_scoped4); iexact Hacc
  iapply (aring_join c)
  isplitl [Har0]; · iexact Har0
  iexact Har1

end Splits

end Cert.Proof.Layer

end
-- ==== Proof.Launch.lean ====
/-
  The launch: @main is the host layout operations and then the region; every run ends with the arguments as launched,
  the three results at the values the body leaves, and every semaphore counter at zero.
-/
module

public import proofs.«01_k».proof.Proof.Pieces

@[expose] public section

noncomputable section

namespace Cert.Proof.Layer

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-- The weights as the region finds them. -/
def wts (c : Dev nD) : Weights (F := F) c := ⟨V m c main_arg3, V m c main_arg5, V m c main_arg7, V m c main_arg9⟩

abbrev st0 (t : Fin cfg0.N) : Memref sig .tc .vmem S256x5120 .bf16 := win0_0.stage (cfg0.slots t 0)
abbrev st1 (t : Fin cfg0.N) : Memref sig .tc .vmem S40x128 .f32 := win0_1.stage (cfg0.slots t 1)
abbrev st2 (t : Fin cfg0.N) : Memref sig .tc .vmem S40x128 .f32 := win0_2.stage (cfg0.slots t 2)
abbrev st3 (t : Fin cfg0.N) : Memref sig .tc .vmem S112x128 .f32 := win0_3.stage (cfg0.slots t 3)
abbrev st4 (t : Fin cfg0.N) : Memref sig .tc .vmem S112x128 .f32 := win0_4.stage (cfg0.slots t 4)
abbrev st5 (t : Fin cfg0.N) : Memref sig .tc .vmem S40x128 .f32 := win0_5.stage (cfg0.slots t 5)
abbrev st6 (t : Fin cfg0.N) : Memref sig .tc .vmem S8x256x512 .bf16 := win0_6.stage (cfg0.slots t 6)

abbrev in0 (c : Dev nD) : Buf (Elt F) ((st0 t0_0).view.loc (c : Thread nD τ)) := (st0 t0_0).view.rep (iblk m c 0 t0_0)
abbrev in1 (c : Dev nD) : Buf (Elt F) ((st1 t0_0).view.loc (c : Thread nD τ)) := (st1 t0_0).view.rep (iblk m c 1 t0_0)
abbrev in2 (c : Dev nD) : Buf (Elt F) ((st2 t0_0).view.loc (c : Thread nD τ)) := (st2 t0_0).view.rep (iblk m c 2 t0_0)
abbrev in3 (c : Dev nD) : Buf (Elt F) ((st3 t0_0).view.loc (c : Thread nD τ)) := (st3 t0_0).view.rep (iblk m c 3 t0_0)
abbrev in4 (c : Dev nD) : Buf (Elt F) ((st4 t0_0).view.loc (c : Thread nD τ)) := (st4 t0_0).view.rep (iblk m c 4 t0_0)
abbrev in5 (c : Dev nD) : Buf (Elt F) ((st5 t0_0).view.loc (c : Thread nD τ)) := (st5 t0_0).view.rep (iblk m c 5 t0_0)
abbrev in6 (c : Dev nD) : Buf (Elt F) ((st6 t0_0).view.loc (c : Thread nD τ)) := (st6 t0_0).view.rep (iblk m c 6 t0_0)

/-! ## The results, as functions of the arguments and of what the two scratch buffers held at first -/

section Results
variable (c : Dev nD) (HM0 : Buf (Elt F) (hmM.view.loc (c : Thread nD τ))) (H20 : Buf (Elt F) (h2M.view.loc (c : Thread nD τ)))
def resHM : Buf (Elt F) (hmM.view.loc (c : Thread nD τ)) := HMf c (wts m c) (st0 t0_0) (st2 t0_0) (st6 t0_0) hmM (in0 m c) (in2 m c) (in6 m c) HM0
def resOUT : Buf (Elt F) (hmM.view.loc (c : Thread nD τ)) :=
  vHM c (wts m c) (st0 t0_0) (st1 t0_0) (st2 t0_0) (st3 t0_0) (st4 t0_0) (st5 t0_0) (st6 t0_0) hmM h2M ssM accM
    (in0 m c) (in1 m c) (in2 m c) (in3 m c) (in4 m c) (in5 m c) (in6 m c) HM0 H20
def resACT : ℕ → S256x512.Idx → Elt F .bf16 :=
  vACT c (wts m c) (st0 t0_0) (st1 t0_0) (st2 t0_0) (st3 t0_0) (st4 t0_0) (st6 t0_0) hmM h2M ssM
    (in0 m c) (in1 m c) (in2 m c) (in3 m c) (in4 m c) (in6 m c) HM0 H20
/-- The layer's output. -/
def outV : Buf (Elt F) ((c : Thread nD τ).loc main_v7_0) :=
  outM.view.writes (Elt F) outM.view.junk [⟨Rect.whole S256x5120, ReadAs.same.apply (hmM.view.read (Elt F) (resOUT m c HM0 H20))⟩]
/-- The residual stream after attention. -/
def hmidV : Buf (Elt F) ((c : Thread nD τ).loc main_v7_1) :=
  hmidM.view.writes (Elt F) hmidM.view.junk [⟨Rect.whole S256x5120, ReadAs.same.apply (hmM.view.read (Elt F) (resHM m c HM0))⟩]
/-- The MLP's activation. -/
def mactV : Buf (Elt F) ((c : Thread nD τ).loc main_v7_2) := actBuf c (resACT m c HM0 H20)
end Results

/-! ## The pipeline's proof data -/

/-- The results' arrays before the body ... -/
def before (c : Dev nD) : sProp 𝕄 := iprop((∃ f, vecP c outM f) ∗ (∃ f, vecP c hmidM f) ∗ todoS c 0)
/-- ... and after it. -/
def done (c : Dev nD) : sProp 𝕄 :=
  iprop(∃ HM0 H20, vecP c outM (outV m c HM0 H20) ∗ vecP c hmidM (hmidV m c HM0) ∗ doneS c (resACT m c HM0 H20) 28)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := match t with
    | ⟨0, _⟩ => iprop(core c (wts m c) ∗ before c)
    | ⟨_ + 1, _⟩ => iprop(core c (wts m c) ∗ done m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0)
        (win0_4.stage (a.2 4)) (hstage0_4 0) (win0_5.stage (a.2 5)) (hstage0_5 0) (win0_6.stage (a.2 6)) (hstage0_6 0) outM (Memref.isWhole_whole _) hmidM (Memref.isWhole_whole _)
        hmM (Memref.isWhole_whole _) h2M (Memref.isWhole_whole _) ssM (Memref.isWhole_whole _) accM (Memref.isWhole_whole _) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) (st4 t) (hstage0_4 0) (st5 t) (hstage0_5 0) (st6 t) (hstage0_6 0)
        outM (Memref.isWhole_whole _) hmidM (Memref.isWhole_whole _) hmM (Memref.isWhole_whole _) h2M (Memref.isWhole_whole _) ssM (Memref.isWhole_whole _) accM (Memref.isWhole_whole _) :=
  (congrFun defs_tc _).trans rfl

set_option maxHeartbeats 1000000 in
set_option backward.isDefEq.respectTransparency.types false in
theorem body_obligation (c : Dev nD) : BodyObligation (dats (F := F) m 0 c) (defs₀ (F := F)) 𝒱₀ () Set.univ := fun t => by
  rw [show t = t0_0 from fin_N0 t]
  rw [bigSep_W0, bigSep_W0]
  dsimp only
  simp only [before_w0, before_w1, before_w2, before_w3, before_w4, before_w5, before_w6, after_w0, after_w1, after_w2, after_w3, after_w4, after_w5, after_w6]
  rw [show (dats m 0 c).Φ (Fin.castSucc t0_0) = iprop(core c (wts m c) ∗ before c) from rfl, show (dats m 0 c).Φ (Fin.succ t0_0) = iprop(core c (wts m c) ∗ done m c) from rfl]
  unfold Dat.owesAt Pipeline.owesWithin
  rw [show (dats m 0 c).owed (Fin.castSucc t0_0) = 0 from rfl, show (dats m 0 c).owed (Fin.succ t0_0) = 0 from rfl]
  unfold owns core before done
  iintro ⟨⟨⟨HR, Hs0, Hs1, Hs2, Hs3, Hd0, Hd1, Ha0, Ha1, HcH, ⟨%HM0, Hhm⟩, ⟨%H20, Hh2⟩, ⟨%SS0, Hss⟩, ⟨%ACC0, Hacc⟩⟩, ⟨%O0, Hout⟩, ⟨%M0, Hmid⟩, Htodo⟩, ⟨%W, -, HW⟩,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩⟩
  ihave H0 := (pointsTo_rep_entails (c : Thread nD τ) (st0 t0_0) g0 fullShare) $$ H0
  ihave H1 := (pointsTo_rep_entails (c : Thread nD τ) (st1 t0_0) g1 fullShare) $$ H1
  ihave H2 := (pointsTo_rep_entails (c : Thread nD τ) (st2 t0_0) g2 fullShare) $$ H2
  ihave H3 := (pointsTo_rep_entails (c : Thread nD τ) (st3 t0_0) g3 fullShare) $$ H3
  ihave H4 := (pointsTo_rep_entails (c : Thread nD τ) (st4 t0_0) g4 fullShare) $$ H4
  ihave H5 := (pointsTo_rep_entails (c : Thread nD τ) (st5 t0_0) g5 fullShare) $$ H5
  ihave H6 := (pointsTo_rep_entails (c : Thread nD τ) (st6 t0_0) g6 fullShare) $$ H6
  rw [hg0, hg1, hg2, hg3, hg4, hg5, hg6]
  sl_rw [prog_eq t0_0]
  iapply (wp_wand_r Idealize.ShloMosaic.frame (wpE (defs₀ (F := F)) 𝒱₀ (c : Thread nD τ) none) Set.univ)
  isplitl [H0 H1 H2 H3 H4 H5 H6 Hout Hmid Hhm Hh2 Hss Hacc HW Hs0 Hs1 Hs2 Hs3 Hd0 Hd1 Ha0 Ha1 HcH Htodo]
  · iapply (bodyRun c (wts m c) (st0 t0_0) (hstage0_0 0) (st1 t0_0) (hstage0_1 0) (st2 t0_0) (hstage0_2 0) (st3 t0_0) (hstage0_3 0) (st4 t0_0) (hstage0_4 0) (st5 t0_0) (hstage0_5 0) (st6 t0_0) (hstage0_6 0)
      outM (Memref.isWhole_whole _) hmidM (Memref.isWhole_whole _) hmM (Memref.isWhole_whole _) h2M (Memref.isWhole_whole _) ssM (Memref.isWhole_whole _) accM (Memref.isWhole_whole _)
      (in0 m c) (in1 m c) (in2 m c) (in3 m c) (in4 m c) (in5 m c) (in6 m c) HM0 H20 SS0 ACC0 O0 M0)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hout]; · iexact Hout
    isplitl [Hmid]; · iexact Hmid
    isplitl [Hhm]; · iexact Hhm
    isplitl [Hh2]; · iexact Hh2
    isplitl [Hss]; · iexact Hss
    isplitl [Hacc]; · iexact Hacc
    isplitl [HW]; · iexists W; iexact HW
    isplitl [Hs0]; · iexact Hs0
    isplitl [Hs1]; · iexact Hs1
    isplitl [Hs2]; · iexact Hs2
    isplitl [Hs3]; · iexact Hs3
    isplitl [Hd0]; · iexact Hd0
    isplitl [Hd1]; · iexact Hd1
    isplitl [Ha0]; · iexact Ha0
    isplitl [Ha1]; · iexact Ha1
    isplitl [HcH]; · iexact HcH
    iexact Htodo
  · iintro %_ ⟨H0, H1, H2, H3, H4, H5, H6, Hout, Hmid, Hhm, Hh2, Hss, Hacc, ⟨%W', HW⟩, Hs0, Hs1, Hs2, Hs3, Hd0, Hd1, Ha0, Ha1, HcH, Hdone⟩
    isplitl [HR Hout Hmid Hhm Hh2 Hss Hacc Hs0 Hs1 Hs2 Hs3 Hd0 Hd1 Ha0 Ha1 HcH Hdone]
    · isplitl [HR Hhm Hh2 Hss Hacc Hs0 Hs1 Hs2 Hs3 Hd0 Hd1 Ha0 Ha1 HcH]
      · isplitl [HR]; · iexact HR
        isplitl [Hs0]; · iexact Hs0
        isplitl [Hs1]; · iexact Hs1
        isplitl [Hs2]; · iexact Hs2
        isplitl [Hs3]; · iexact Hs3
        isplitl [Hd0]; · iexact Hd0
        isplitl [Hd1]; · iexact Hd1
        isplitl [Ha0]; · iexact Ha0
        isplitl [Ha1]; · iexact Ha1
        isplitl [HcH]; · iexact HcH
        isplitl [Hhm]; · iexact Hhm
        isplitl [Hh2]; · iexact Hh2
        isplitl [Hss]; · iexact Hss
        iexact Hacc
      iexists HM0; iexists H20
      isplitl [Hout]; · unfold outV resOUT; iexact Hout
      isplitl [Hmid]; · unfold hmidV resHM; iexact Hmid
      unfold resACT; iexact Hdone
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    iexists _; isplitr; · ipureintro; exact View.read_rep _ _
    iexact H6

/-! ## The run -/

def restZ (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg4) ↦{fullShare} V m c main_arg4) ∗ (((c : Thread nD τ).loc main_arg6) ↦{fullShare} V m c main_arg6)
    ∗ (((c : Thread nD τ).loc main_arg8) ↦{fullShare} V m c main_arg8) ∗ (((c : Thread nD τ).loc main_arg10) ↦{fullShare} V m c main_arg10))
def intoΦ (c : Dev nD) : sProp 𝕄 :=
  iprop(wholeW c (wts m c) ∗ Pipeline.ownSems0 (Ix := Unit) (Name := ℕ) (U := UU nD τ) (Lvl := ℕ) (Val := Elt F) (τ := τ) osem c
    ∗ (((c : Thread nD τ).loc main_v7_0) ↦{fullShare} V m c main_v7_0) ∗ (((c : Thread nD τ).loc main_v7_1) ↦{fullShare} V m c main_v7_1)
    ∗ (((c : Thread nD τ).loc main_v7_2) ↦{fullShare} V m c main_v7_2))
def outOfΦ (c : Dev nD) : sProp 𝕄 := iprop(wholeW c (wts m c) ∗ done m c)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
/-- What the run leaves beside the staged arrays. -/
def QY (c : Dev nD) (s : MemSt nD τ sig (Elt F)) : Prop :=
  (s.mem ((c : Thread nD τ).loc main_arg1) = V m c main_arg1 ∧ s.mem ((c : Thread nD τ).loc main_arg2) = V m c main_arg2 ∧ s.mem ((c : Thread nD τ).loc main_arg4) = V m c main_arg4
    ∧ s.mem ((c : Thread nD τ).loc main_arg6) = V m c main_arg6 ∧ s.mem ((c : Thread nD τ).loc main_arg8) = V m c main_arg8 ∧ s.mem ((c : Thread nD τ).loc main_arg10) = V m c main_arg10)
  ∧ (s.mem ((c : Thread nD τ).loc main_arg3) = V m c main_arg3 ∧ s.mem ((c : Thread nD τ).loc main_arg5) = V m c main_arg5
    ∧ s.mem ((c : Thread nD τ).loc main_arg7) = V m c main_arg7 ∧ s.mem ((c : Thread nD τ).loc main_arg9) = V m c main_arg9)
  ∧ ∃ HM0 H20, s.mem ((c : Thread nD τ).loc main_v7_0) = outV m c HM0 H20 ∧ s.mem ((c : Thread nD τ).loc main_v7_1) = hmidV m c HM0
      ∧ s.mem ((c : Thread nD τ).loc main_v7_2) = mactV m c HM0 H20
def QC : PUnit × MemSt nD τ sig (Elt F) → Prop := fun r =>
  ∀ c : Dev nD, (∀ w : Fin cfg0.W, r.2.mem ((cfg0.win w).arr.view.loc (c : Thread nD τ)) = finalA m c w) ∧ QY m c r.2

theorem hin (c : Dev nD) : iprop(intoΦ m c ∗ Pipeline.scopedRest (Ix := Unit) (Name := ℕ) (U := UU nD τ) (Lvl := ℕ) (Val := Elt F) spec0 c)
    ⊢ (iprop(core c (wts m c) ∗ before c) : sProp 𝕄) := by
  unfold intoΦ before
  iintro ⟨⟨HW, HS, H0, H1, H2⟩, HR⟩
  isplitl [HW HS HR]
  · iapply (core_in c (wts m c))
    isplitl [HW]; · iexact HW
    isplitl [HS]; · iexact HS
    iexact HR
  isplitl [H0]; · iapply (vecP_in c main_v7_0); iexists _; iexact H0
  isplitl [H1]; · iapply (vecP_in c main_v7_1); iexists _; iexact H1
  iapply (mact_split c _); iexact H2
theorem hout (c : Dev nD) : (iprop(core c (wts m c) ∗ done m c) : sProp 𝕄)
    ⊢ iprop(outOfΦ m c ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) := by
  unfold outOfΦ
  iintro ⟨HC, HD⟩
  ihave HC := (core_out c (wts m c)) $$ HC
  icases HC with ⟨HW, HS, HR⟩
  isplitl [HW HD]
  · isplitl [HW]; · iexact HW
    iexact HD
  isplitl [HS]; · iexact HS
  iexact HR
theorem hX (c : Dev nD) : iprop(Pipeline.unscopedRest (Ix := Unit) (Name := ℕ) (U := UU nD τ) (Lvl := ℕ) spec0 c (V m c)
      ∗ Pipeline.ownSems0 (Ix := Unit) (Name := ℕ) (U := UU nD τ) (Lvl := ℕ) (Val := Elt F) (τ := τ) osem c)
    ⊢ (iprop(intoΦ m c ∗ restZ m c) : sProp 𝕄) := by
  rw [unscopedRest0_eq]
  unfold intoΦ restZ wholeW wts
  iintro ⟨⟨H1, H2, H3, H4, H5, H6, H7, H8, H9, H10, -, Ho, Hm, Ha⟩, HS⟩
  isplitl [H3 H5 H7 H9 Ho Hm Ha HS]
  · isplitl [H3 H5 H7 H9]
    · isplitl [H3]; · iexact H3
      isplitl [H5]; · iexact H5
      isplitl [H7]; · iexact H7
      iexact H9
    isplitl [HS]; · iexact HS
    isplitl [Ho]; · iexact Ho
    isplitl [Hm]; · iexact Hm
    iexact Ha
  isplitl [H1]; · iexact H1
  isplitl [H2]; · iexact H2
  isplitl [H4]; · iexact H4
  isplitl [H6]; · iexact H6
  isplitl [H8]; · iexact H8
  iexact H10
theorem hY (c : Dev nD) (s' : Phys nD τ sig (Elt F)) : iprop(outOfΦ m c ∗ restZ m c ∗ SI (Ix := Unit) (Name := ℕ) (U := UU nD τ) (Lvl := ℕ) s')
    ⊢ (iprop(⌜QY m c s'.mem⌝ ∗ SI (Ix := Unit) (Name := ℕ) (U := UU nD τ) (Lvl := ℕ) s') : sProp 𝕄) := by
  unfold outOfΦ restZ wholeW done wts
  iintro ⟨⟨⟨H3, H5, H7, H9⟩, ⟨%HM0, %H20, Ho, Hm, Ha⟩⟩, ⟨H1, H2, H4, H6, H8, H10⟩, HSI⟩
  ihave Ho := (entails_of_eq (vecP_whole c main_v7_0 _)) $$ Ho
  ihave Hm := (entails_of_eq (vecP_whole c main_v7_1 _)) $$ Hm
  ihave Ha := (doneS_join c _) $$ Ha
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  icombine HSI H9 gives %h9
  icombine HSI H10 gives %h10
  icombine HSI Ho gives %ho
  icombine HSI Hm gives %hm
  icombine HSI Ha gives %ha
  isplitr
  · ipureintro
    exact ⟨⟨Buf.eq_of_forall_mem_univ h1, Buf.eq_of_forall_mem_univ h2, Buf.eq_of_forall_mem_univ h4, Buf.eq_of_forall_mem_univ h6, Buf.eq_of_forall_mem_univ h8, Buf.eq_of_forall_mem_univ h10⟩,
      ⟨Buf.eq_of_forall_mem_univ h3, Buf.eq_of_forall_mem_univ h5, Buf.eq_of_forall_mem_univ h7, Buf.eq_of_forall_mem_univ h9⟩,
      HM0, H20, Buf.eq_of_forall_mem_univ ho, Buf.eq_of_forall_mem_univ hm, Buf.eq_of_forall_mem_univ ha⟩
  iexact HSI

set_option maxHeartbeats 1000000 in
set_option backward.isDefEq.respectTransparency.types false in
/-- For any float values, from any memory with zero counters: every weakly fair execution of @main on the TensorCores
    terminates, and every final state has the arguments as launched, the results at the computed contents and every
    semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := restZ m)
    (hX := fun c => by
      iintro ⟨HU, HS, -, -, -⟩; imodintro
      iapply (hX m c)
      isplitl [HU]; · iexact HU
      iexact HS)
    (hin := fun c => hin m c)
    (hout := fun c => hout m c)
    (QY := QY m)
    (hY := fun c s' => by
      iintro H; imodintro
      iapply (hY m c s'); iexact H)
    (hQ := fun _ hh hz => ⟨hh, hz⟩)

theorem finalA_in (c : Dev nD) (w : Fin cfg0.W) (hw : (cfg0.win w).isOut = false) : finalA m c w = V m c (Pipeline.arrRef spec0 w) :=
  (dats (F := F) m 0 c).arrAt_in w hw _

/-- Every argument ends as launched. -/
theorem args_kept (c : Dev nD) (r : PUnit × MemSt nD τ sig (Elt F)) (h : QC m r) :
    r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4) ∧ r.2.mem ((c : Thread nD τ).loc main_arg5) = m ((c : Thread nD τ).loc main_arg5)
    ∧ r.2.mem ((c : Thread nD τ).loc main_arg6) = m ((c : Thread nD τ).loc main_arg6) ∧ r.2.mem ((c : Thread nD τ).loc main_arg7) = m ((c : Thread nD τ).loc main_arg7)
    ∧ r.2.mem ((c : Thread nD τ).loc main_arg8) = m ((c : Thread nD τ).loc main_arg8) ∧ r.2.mem ((c : Thread nD τ).loc main_arg9) = m ((c : Thread nD τ).loc main_arg9)
    ∧ r.2.mem ((c : Thread nD τ).loc main_arg10) = m ((c : Thread nD τ).loc main_arg10) := by
  obtain ⟨h0, ⟨h1, h2, h4, h6, h8, h10⟩, ⟨h3, h5, h7, h9⟩, -⟩ := h c
  exact ⟨((h0 0).trans (finalA_in m c 0 rfl)).trans (V_main_arg0 m c), h1.trans (V_main_arg1 m c), h2.trans (V_main_arg2 m c), h3.trans (V_main_arg3 m c), h4.trans (V_main_arg4 m c),
    h5.trans (V_main_arg5 m c), h6.trans (V_main_arg6 m c), h7.trans (V_main_arg7 m c), h8.trans (V_main_arg8 m c), h9.trans (V_main_arg9 m c), h10.trans (V_main_arg10 m c)⟩

/-- The frame claim, for any float values. -/
theorem frame : θ_run defs (onTc (τ := τ) (main (F := F))) (s₀ m ρ) (fun r => (∀ c : Dev nD,
    r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4) ∧ r.2.mem ((c : Thread nD τ).loc main_arg5) = m ((c : Thread nD τ).loc main_arg5)
    ∧ r.2.mem ((c : Thread nD τ).loc main_arg6) = m ((c : Thread nD τ).loc main_arg6) ∧ r.2.mem ((c : Thread nD τ).loc main_arg7) = m ((c : Thread nD τ).loc main_arg7)
    ∧ r.2.mem ((c : Thread nD τ).loc main_arg8) = m ((c : Thread nD τ).loc main_arg8) ∧ r.2.mem ((c : Thread nD τ).loc main_arg9) = m ((c : Thread nD τ).loc main_arg9)
    ∧ r.2.mem ((c : Thread nD τ).loc main_arg10) = m ((c : Thread nD τ).loc main_arg10)) ∧ r.2.sem = fun _ => 0) :=
  (θ_run defs _ _).mono (fun r hh => ⟨fun c => args_kept m c r hh.1, hh.2⟩) (run_main m ρ)

end Launch

end Cert.Proof.Layer

end
-- ==== Proof.Frames.lean ====
/-
  The three frames. The kernel and the kernel taken at ideal values are one program, so one run serves both.
-/
module

public import proofs.«01_k».proof.Proof.Launch
public import proofs.«01_k».proof.Proof.Gen.Kernel
public import proofs.«01_k».proof.Proof.Gen.Kernel.Frame
public import proofs.«01_k».proof.Proof.Gen.ReferenceIdeal.Frame
public import Idealize.ShloMosaic.Lib.Tactic

@[expose] public section

noncomputable section

namespace Cert.Proof.Layer

open Idealize.ShloMosaic Idealize.ShloMosaic.TcCoe Idealize.ShloMosaic.Tactic
open Idealize.SL.Sem

variable {F : FTy → Type} [FloatOps F]

theorem main_eq : Cert.Kernel.main (F := F) = Cert.KernelIdeal.main (F := F) := by sl_kernel_rfl
theorem defs_eq : Cert.Kernel.defs (F := F) = Cert.KernelIdeal.defs (F := F) := by sl_kernel_rfl

theorem frame_kernel : Cert.quiescent_Kernel := fun m ρ _ => by
  have h := frame (F := Bits) m ρ
  rw [← main_eq, ← defs_eq] at h
  exact h
theorem frame_kernelIdeal : Cert.quiescent_KernelIdeal := fun m ρ _ => frame (F := Ideal) m ρ
theorem frame_referenceIdeal : Cert.quiescent_ReferenceIdeal := fun m ρ _ => Cert.ReferenceIdeal.Gen.frame m ρ

end Cert.Proof.Layer

end
-- ==== Proof.ValPay.lean ====
module

public import proofs.«01_k».proof.Proof.Launch
public import Idealize.ShloMosaic.Lib.Pointwise

@[expose] public section

set_option maxRecDepth 16384

noncomputable section

/-! # The stored values at an index, over the extended reals -/

namespace Cert.Proof.Val

open Cert.KernelIdeal Cert.KernelIdeal.Gen
open Idealize.ShloMosaic

/-! ## The output projection -/

theorem pay1_at (a0 : Vec Ideal S1x256x512 .bf16) (w0 : Vec Ideal S1x512x512 .fp8e4m3) (a1 : Vec Ideal S1x256x512 .bf16) (w1 : Vec Ideal S1x512x512 .fp8e4m3)
    (i : Fin 256) (j : Fin 512) :
    k0_pay1 a0 w0 a1 w1 (ix2 i j) = (∑ t : Fin 512, a0 (ix3 0 i t) * w0 (ix3 0 t j)) + ∑ t : Fin 512, a1 (ix3 0 i t) * w1 (ix3 0 t j) := by
  pointwise [k0_pay1]

theorem pay3_at (y : FVec Ideal S256x512 .f32) (a2 : Vec Ideal S1x256x512 .bf16) (w2 : Vec Ideal S1x512x512 .fp8e4m3) (a3 : Vec Ideal S1x256x512 .bf16) (w3 : Vec Ideal S1x512x512 .fp8e4m3)
    (a4 : Vec Ideal S1x256x512 .bf16) (w4 : Vec Ideal S1x512x512 .fp8e4m3) (a5 : Vec Ideal S1x256x512 .bf16) (w5 : Vec Ideal S1x512x512 .fp8e4m3)
    (a6 : Vec Ideal S1x256x512 .bf16) (w6 : Vec Ideal S1x512x512 .fp8e4m3) (i : Fin 256) (j : Fin 512) :
    k0_pay3 y (k0_pay2 a2) w2 a3 w3 a4 w4 a5 w5 a6 w6 (ix2 i j) = y (ix2 i j) + (∑ t : Fin 512, a2 (ix3 0 i t) * w2 (ix3 0 t j)) + (∑ t : Fin 512, a3 (ix3 0 i t) * w3 (ix3 0 t j))
      + (∑ t : Fin 512, a4 (ix3 0 i t) * w4 (ix3 0 t j)) + (∑ t : Fin 512, a5 (ix3 0 i t) * w5 (ix3 0 t j)) + ∑ t : Fin 512, a6 (ix3 0 i t) * w6 (ix3 0 t j) := by
  pointwise [k0_pay3, k0_pay2]

theorem pay4_at (y : FVec Ideal S256x512 .f32) (a : Vec Ideal S1x256x512 .bf16) (w : Vec Ideal S1x512x512 .fp8e4m3) (i : Fin 256) (j : Fin 512) :
    k0_pay4 y a w (ix2 i j) = y (ix2 i j) + ∑ t : Fin 512, a (ix3 0 i t) * w (ix3 0 t j) := by
  pointwise [k0_pay4]

variable (y : FVec Ideal S256x512 .f32) (a : Vec Ideal S1x256x512 .bf16) (w : Vec Ideal S1x512x512 .fp8e4m3) (s : Vec Ideal S1x128 .f32) (x : Vec Ideal S256x128 .bf16)
theorem pay5_at (i : Fin 256) (l : Fin 128) :
    k0_pay5 y a w s x (ix2 i l) = x (ix2 i l) + k0_pay4 y a w (ix2 i ⟨l.val, by omega⟩) * s (ix2 0 l) := by
  pointwise [k0_pay5]
theorem pay6_at (i : Fin 256) (l : Fin 128) :
    k0_pay6 y a w s x (ix2 i l) = x (ix2 i l) + k0_pay4 y a w (ix2 i ⟨l.val, by omega⟩) * s (ix2 0 l) := by
  pointwise [k0_pay6, k0_pay5]
theorem pay7_at (q : FVec Ideal S256x128 .f32) (i : Fin 256) (l : Fin 128) :
    k0_pay7 y a w q s x (ix2 i l) = q (ix2 i l) + k0_pay6 y a w s x (ix2 i l) * k0_pay6 y a w s x (ix2 i l) := by
  pointwise [k0_pay7, k0_pay6]
theorem pay10_at (i : Fin 256) (l : Fin 128) :
    k0_pay10 (k0_pay8 y a w s) x (ix2 i l) = x (ix2 i l) + k0_pay4 y a w (ix2 i ⟨128 + l.val, by omega⟩) * s (ix2 0 l) := by
  pointwise [k0_pay10, k0_pay9, k0_pay8]
theorem pay12_at (i : Fin 256) (l : Fin 128) :
    k0_pay12 y s x (ix2 i l) = x (ix2 i l) + y (ix2 i ⟨256 + l.val, by omega⟩) * s (ix2 0 l) := by
  pointwise [k0_pay12, k0_pay11]
theorem pay139_at (i : Fin 256) (l : Fin 128) :
    k0_pay139 (k0_pay14 y) (k0_pay15 s) x (ix2 i l) = x (ix2 i l) + y (ix2 i ⟨384 + l.val, by omega⟩) * s (ix2 0 l) := by
  pointwise [k0_pay139, k0_pay138, k0_pay14, k0_pay15]
theorem pay13_at (q : FVec Ideal S256x128 .f32) (e : FVec Ideal S256x128 .f32) (x' : Vec Ideal S256x128 .bf16) (i : Fin 256) (l : Fin 128) :
    k0_pay13 y q e x' s x (ix2 i l) = q (ix2 i l) + k0_pay10 e x' (ix2 i l) * k0_pay10 e x' (ix2 i l) + k0_pay12 y s x (ix2 i l) * k0_pay12 y s x (ix2 i l) := by
  pointwise [k0_pay13, k0_pay12, k0_pay10]
theorem pay140_at (q u v : FVec Ideal S256x128 .f32) (i : Fin 256) (l : Fin 128) :
    k0_pay140 q u v x (ix2 i l) = q (ix2 i l) + k0_pay139 u v x (ix2 i l) * k0_pay139 u v x (ix2 i l) := by
  pointwise [k0_pay140, k0_pay139]
theorem pay137_at (i : Fin 256) (l : Fin 128) : (k0_pay137 : FVec Ideal S256x128 .f32) (ix2 i l) = 0 := by
  pointwise [k0_pay137]
theorem pay143_at (i : Fin 256) (l : Fin 5120) : (k0_pay143 : FVec Ideal S256x5120 .f32) (ix2 i l) = 0 := by
  pointwise [k0_pay143]

/-! ## The normalisation -/

theorem pay20_at (q : Vec Ideal S32x128 .f32) (h : Vec Ideal S32x128 .bf16) (g : Vec Ideal S1x128 .f32) (i : Fin 32) (l : Fin 128) :
    k0_pay20 (k0_pay16 q) h g (ix2 i l)
      = h (ix2 i l) * Ideal.rsqrt (Ideal.div (∑ l' : Fin 128, q (ix2 i l')) (Ideal.ofBits .f32 0x45A00000#32) + Ideal.ofBits .f32 0x3727C5AC#32) * g (ix2 0 l) := by
  pointwise [k0_pay20, k0_pay16]

/-! ## The gated block -/

theorem pay66_at (h : Vec Ideal S256x5120 .bf16) (w : Vec Ideal S1x5120x512 .fp8e4m3) (i : Fin 256) (j : Fin 512) :
    k0_pay66 h w (ix2 i j) = ∑ t : Fin 5120, h (ix2 i t) * w (ix3 0 t j) := by
  pointwise [k0_pay66]
theorem pay67_at (h : Vec Ideal S256x5120 .bf16) (w : Vec Ideal S1x5120x512 .fp8e4m3) (i : Fin 256) (j : Fin 512) :
    k0_pay67 h w (ix2 i j) = ∑ t : Fin 5120, h (ix2 i t) * w (ix3 0 t j) := by
  pointwise [k0_pay67]

/-- The gated product of one element. -/
def gated (g u : EReal) : EReal := g * Ideal.logistic g * u

variable (G U : FVec Ideal S256x512 .f32) (sg su : Vec Ideal S1x128 .f32)
theorem pay69_at (h : Vec Ideal S256x5120 .bf16) (w : Vec Ideal S1x5120x512 .fp8e4m3) (i : Fin 256) (l : Fin 128) :
    k0_pay69 U (k0_pay68 h w) sg su (ix3 0 i l) = gated (k0_pay66 h w (ix2 i ⟨l.val, by omega⟩) * sg (ix2 0 l)) (U (ix2 i ⟨l.val, by omega⟩) * su (ix2 0 l)) := by
  pointwise [k0_pay69, k0_pay68, gated]
theorem pay70_at (i : Fin 256) (l : Fin 128) :
    k0_pay70 G U sg su (ix3 0 i l) = gated (G (ix2 i ⟨128 + l.val, by omega⟩) * sg (ix2 0 l)) (U (ix2 i ⟨128 + l.val, by omega⟩) * su (ix2 0 l)) := by
  pointwise [k0_pay70, gated]
theorem pay71_at (i : Fin 256) (l : Fin 128) :
    k0_pay71 G U sg su (ix3 0 i l) = gated (G (ix2 i ⟨256 + l.val, by omega⟩) * sg (ix2 0 l)) (U (ix2 i ⟨256 + l.val, by omega⟩) * su (ix2 0 l)) := by
  pointwise [k0_pay71, gated]
theorem pay73_at (i : Fin 256) (l : Fin 128) :
    k0_pay73 (k0_pay72 G U sg su) (ix3 0 i l) = gated (G (ix2 i ⟨384 + l.val, by omega⟩) * sg (ix2 0 l)) (U (ix2 i ⟨384 + l.val, by omega⟩) * su (ix2 0 l)) := by
  pointwise [k0_pay73, k0_pay72, gated]

/-! ## The down projection and the last residual -/

theorem pay77_at (a : Vec Ideal S1x256x512 .bf16) (c : Vec Ideal S256x512 .f32) (w : Vec Ideal S1x512x512 .fp8e4m3) (i : Fin 256) (j : Fin 512) :
    k0_pay77 (k0_pay74 a) c w (ix2 i j) = c (ix2 i j) + ∑ t : Fin 512, a (ix3 0 i t) * w (ix3 0 t j) := by
  pointwise [k0_pay77, k0_pay74]
theorem pay85_at (h : Vec Ideal S32x128 .bf16) (c : Vec Ideal S32x128 .f32) (d : Vec Ideal S1x128 .f32) (i : Fin 32) (l : Fin 128) :
    k0_pay85 h c d (ix2 i l) = h (ix2 i l) + c (ix2 i l) * d (ix2 0 l) := by
  pointwise [k0_pay85]

end Cert.Proof.Val
-- ==== Proof.ValRd.lean ====
module

public import proofs.«01_k».proof.Proof.ValPay

@[expose] public section

set_option maxRecDepth 16384

noncomputable section

/-! # The layer in plain mathematics, and the reads of the weight buffers -/

namespace Cert.Proof.Val

open Cert.KernelIdeal Cert.KernelIdeal.Gen Cert.Proof.Layer
open Idealize.ShloMosaic
open Idealize.ShloMosaic.TcCoe

/-- The operands, at row and column. -/
structure Ops where
  x : Fin 256 → Fin 5120 → EReal
  A : Fin 8 → Fin 256 → Fin 512 → EReal
  g : Fin 5120 → EReal
  wo : Fin 4096 → Fin 5120 → EReal
  so : Fin 5120 → EReal
  wg : Fin 5120 → Fin 14336 → EReal
  sg : Fin 14336 → EReal
  wu : Fin 5120 → Fin 14336 → EReal
  su : Fin 14336 → EReal
  wd : Fin 14336 → Fin 5120 → EReal
  sd : Fin 5120 → EReal

namespace Ops
variable (I : Ops)
/-- The residual stream after attention. -/
def hs (i : Fin 256) (J : Fin 5120) : EReal := I.x i J + (∑ p : Fin 8, ∑ t : Fin 512, I.A p i t * I.wo ⟨512 * p.val + t.val, by omega⟩ J) * I.so J
/-- A row's sum of squares. -/
def sq (i : Fin 256) : EReal := ∑ J : Fin 5120, I.hs i J * I.hs i J
/-- The normalised rows. -/
def h2 (i : Fin 256) (J : Fin 5120) : EReal :=
  I.hs i J * Ideal.rsqrt (Ideal.div (I.sq i) (Ideal.ofBits .f32 0x45A00000#32) + Ideal.ofBits .f32 0x3727C5AC#32) * I.g J
/-- The gated activation. -/
def act (i : Fin 256) (n : Fin 14336) : EReal :=
  gated ((∑ t : Fin 5120, I.h2 i t * I.wg t n) * I.sg n) ((∑ t : Fin 5120, I.h2 i t * I.wu t n) * I.su n)
/-- The layer's output. -/
def out (i : Fin 256) (J : Fin 5120) : EReal :=
  I.hs i J + (∑ b : Fin 28, ∑ t : Fin 512, I.act i ⟨512 * b.val + t.val, by omega⟩ * I.wd ⟨512 * b.val + t.val, by omega⟩ J) * I.sd J
end Ops

/-- A load through a unit-stride rectangle, at an index. -/
theorem rd {F : FTy → Type} [FloatOps F] {sp : Space} {s : Shape} {e : EltTy} (M : Memref sig .tc sp s e) (c : Dev nD) (f : Buf (Elt F) (M.view.loc (c : Thread nD τ)))
    (off sz : Fin s.rank → ℕ) {off' : Fin s.rank → ℕ} (e : off = off') (hh : ∀ a, off a + sz a ≤ s.size a) (y : (Rect.unit (s := s) off sz hh).shape.Idx) (z : s.Idx)
    (h : ∀ a, (z a).val = off' a + (y a).val) :
    View.readAt (Elt F) M.view (Rect.unit (s := s) off sz hh).toLoadRect f y = M.view.read (Elt F) f z := by
  subst e
  rw [View.readAt_apply]
  refine congrArg _ (funext fun a => Fin.ext ?_)
  rw [h a]
  show off a + 1 * (y a).val = _
  omega

/-- Where a unit-stride rectangle puts an index. -/
theorem emb_unit {s : Shape} (off sz : Fin s.rank → ℕ) {off' : Fin s.rank → ℕ} (e : off = off') (hh : ∀ a, off a + sz a ≤ s.size a)
    (y : (Rect.unit (s := s) off sz hh).shape.Idx) (z : s.Idx) (h : ∀ a, (z a).val = off' a + (y a).val) : (Rect.unit (s := s) off sz hh).emb y = z := by
  subst e
  refine funext fun a => Fin.ext ?_
  rw [h a]
  show off a + 1 * (y a).val = _
  omega
/-- A store over the whole rectangle, read back. -/
theorem wr_unit {F : FTy → Type} [FloatOps F] {sp : Space} {s : Shape} {e : EltTy} (M : Memref sig .tc sp s e) (c : Dev nD) (f : Buf (Elt F) (M.view.loc (c : Thread nD τ)))
    (off : Fin s.rank → ℕ) (h0 : ∀ a, off a = 0) (hh : ∀ a, off a + s.size a ≤ s.size a) (P : s.Idx → Elt F e) (y : s.Idx) :
    M.view.read (Elt F) (M.view.writes (Elt F) f [⟨Rect.unit (s := s) off s.size hh, P⟩]) y = P y := by
  refine View.read_writes_apply_of_pieces (Val := Elt F) M.view f P [⟨Rect.unit (s := s) off s.size hh, P⟩] (fun p hp x => ?_) y ⟨_, List.mem_singleton.2 rfl, (Rect.mem_set_unit (inb := hh)).2 fun a => ?_⟩
  · obtain rfl := List.mem_singleton.1 hp
    exact congrArg P (emb_unit off s.size rfl hh x x fun a => by rw [h0 a, Nat.zero_add]).symm
  · rw [h0 a]; exact ⟨Nat.zero_le _, by rw [Nat.zero_add]; exact (y a).isLt⟩

/-- The operands' buffers hold the operands. -/
structure Holds (I : Ops) (c : Dev nD) (X : Weights (F := Ideal) c)
    (arg0 : Memref sig .tc .vmem S256x5120 .bf16) (arg1 : Memref sig .tc .vmem S40x128 .f32) (arg2 : Memref sig .tc .vmem S40x128 .f32) (arg3 : Memref sig .tc .vmem S112x128 .f32)
    (arg4 : Memref sig .tc .vmem S112x128 .f32) (arg5 : Memref sig .tc .vmem S40x128 .f32) (arg6 : Memref sig .tc .vmem S8x256x512 .bf16)
    (X0 : Buf (Elt Ideal) (arg0.view.loc (c : Thread nD τ))) (X1 : Buf (Elt Ideal) (arg1.view.loc (c : Thread nD τ))) (X2 : Buf (Elt Ideal) (arg2.view.loc (c : Thread nD τ)))
    (X3 : Buf (Elt Ideal) (arg3.view.loc (c : Thread nD τ))) (X4 : Buf (Elt Ideal) (arg4.view.loc (c : Thread nD τ))) (X5 : Buf (Elt Ideal) (arg5.view.loc (c : Thread nD τ)))
    (X6 : Buf (Elt Ideal) (arg6.view.loc (c : Thread nD τ))) : Prop where
  x : ∀ i J, arg0.view.read (Elt Ideal) X0 (ix2 i J) = I.x i J
  A : ∀ p i t, arg6.view.read (Elt Ideal) X6 (ix3 p i t) = I.A p i t
  g : ∀ (r : Fin 40) (l : Fin 128), arg1.view.read (Elt Ideal) X1 (ix2 r l) = I.g ⟨128 * r.val + l.val, by omega⟩
  so : ∀ (r : Fin 40) (l : Fin 128), arg2.view.read (Elt Ideal) X2 (ix2 r l) = I.so ⟨128 * r.val + l.val, by omega⟩
  sg : ∀ (r : Fin 112) (l : Fin 128), arg3.view.read (Elt Ideal) X3 (ix2 r l) = I.sg ⟨128 * r.val + l.val, by omega⟩
  su : ∀ (r : Fin 112) (l : Fin 128), arg4.view.read (Elt Ideal) X4 (ix2 r l) = I.su ⟨128 * r.val + l.val, by omega⟩
  sd : ∀ (r : Fin 40) (l : Fin 128), arg5.view.read (Elt Ideal) X5 (ix2 r l) = I.sd ⟨128 * r.val + l.val, by omega⟩
  wo : ∀ t J, X.wo (ix2 t J) = I.wo t J
  wg : ∀ t J, X.wg (ix2 t J) = I.wg t J
  wu : ∀ t J, X.wu (ix2 t J) = I.wu t J
  wd : ∀ t J, X.wd (ix2 t J) = I.wd t J

section Slots
variable {α : Type}
theorem sqO (v : S1x4096x512.Idx → α) (h : S1x4096x512.ShapeCasts S4096x512) (a : Fin 4096) (b : Fin 512) : shapeCast S4096x512 v h (ix2 a b) = v (ix3 0 a b) := by
  simp only [pointwise]
theorem sqF (v : S1x5120x512.Idx → α) (h : S1x5120x512.ShapeCasts S5120x512) (a : Fin 5120) (b : Fin 512) : shapeCast S5120x512 v h (ix2 a b) = v (ix3 0 a b) := by
  simp only [pointwise]
theorem sqD (v : S1x512x5120.Idx → α) (h : S1x512x5120.ShapeCasts S512x5120) (a : Fin 512) (b : Fin 5120) : shapeCast S512x5120 v h (ix2 a b) = v (ix3 0 a b) := by
  simp only [pointwise]
theorem sqA (v : S1x256x512.Idx → α) (h : S1x256x512.ShapeCasts S256x512) (a : Fin 256) (b : Fin 512) : shapeCast S256x512 v h (ix2 a b) = v (ix3 0 a b) := by
  simp only [pointwise]
end Slots

section Weights
variable {F : FTy → Type} [FloatOps F] (c : Dev nD) (X : Weights (F := F) c)

/-- What a slot of the weight ring holds, read through the whole ring. -/
theorem ringO_at (s : Fin 4) (P : S4096x512.Idx → Elt F .fp8e4m3) (g : Buf (Elt F) ((slotO s).view.loc (c : Thread nD τ))) (a : Fin 4096) (b : Fin 512) :
    ringM.view.read (Elt F) ((slotO s).view.writes (Elt F) g [⟨Rect.whole S4096x512, P⟩]) (ix3 s ⟨a.val, by omega⟩ b) = P (ix2 a b) := by
  have e := congrFun (View.read_writes_whole (Val := Elt F) (slotO s).view g P) (ix2 a b)
  rw [← e]
  generalize (slotO s).view.writes (Elt F) g [⟨Rect.whole S4096x512, P⟩] = f
  have h1 : (slotO s).view.read (Elt F) f
      = shapeCast S4096x512 (View.readAt (Elt F) ringM.view (Rect.unit (s := S4x5120x512) (slotOff s) S1x4096x512.size (slotO_inb s)).toLoadRect f) squeezes_S1x4096x512_S4096x512.numel_eq := rfl
  rw [h1]
  refine ((sqO _ _ a b).trans (rd ringM c f _ _ rfl _ _ _ fun k => ?_)).symm
  fin_cases k
  · rfl
  · exact (Nat.zero_add a.val).symm
  · exact (Nat.zero_add b.val).symm
theorem ringF_at (s : Fin 4) (P : S5120x512.Idx → Elt F .fp8e4m3) (g : Buf (Elt F) ((slotF s).view.loc (c : Thread nD τ))) (a : Fin 5120) (b : Fin 512) :
    ringM.view.read (Elt F) ((slotF s).view.writes (Elt F) g [⟨Rect.whole S5120x512, P⟩]) (ix3 s a b) = P (ix2 a b) := by
  have e := congrFun (View.read_writes_whole (Val := Elt F) (slotF s).view g P) (ix2 a b)
  rw [← e]
  generalize (slotF s).view.writes (Elt F) g [⟨Rect.whole S5120x512, P⟩] = f
  have h1 : (slotF s).view.read (Elt F) f
      = shapeCast S5120x512 (View.readAt (Elt F) ringM.view (Rect.unit (s := S4x5120x512) (slotOff s) S1x5120x512.size (slotF_inb s)).toLoadRect f) squeezes_S1x5120x512_S5120x512.numel_eq := rfl
  rw [h1]
  refine ((sqF _ _ a b).trans (rd ringM c f _ _ rfl _ _ _ fun k => ?_)).symm
  fin_cases k
  · rfl
  · exact (Nat.zero_add a.val).symm
  · exact (Nat.zero_add b.val).symm
theorem ringD_at (s : Fin 2) (P : S512x5120.Idx → Elt F .fp8e4m3) (g : Buf (Elt F) ((slotD s).view.loc (c : Thread nD τ))) (a : Fin 512) (b : Fin 5120) :
    dringM.view.read (Elt F) ((slotD s).view.writes (Elt F) g [⟨Rect.whole S512x5120, P⟩]) (ix3 s a b) = P (ix2 a b) := by
  have e := congrFun (View.read_writes_whole (Val := Elt F) (slotD s).view g P) (ix2 a b)
  rw [← e]
  generalize (slotD s).view.writes (Elt F) g [⟨Rect.whole S512x5120, P⟩] = f
  have h1 : (slotD s).view.read (Elt F) f
      = shapeCast S512x5120 (View.readAt (Elt F) dringM.view (Rect.unit (s := S2x512x5120) (slot2Off s) S1x512x5120.size (dslot_inb s)).toLoadRect f) squeezes_S1x512x5120_S512x5120.numel_eq := rfl
  rw [h1]
  refine ((sqD _ _ a b).trans (rd dringM c f _ _ rfl _ _ _ fun k => ?_)).symm
  fin_cases k
  · rfl
  · exact (Nat.zero_add a.val).symm
  · exact (Nat.zero_add b.val).symm

/-- The blocks of the weights. -/
theorem payO_at (b : Fin 10) (t : Fin 4096) (j : Fin 512) : payO c X b (ix2 t j) = X.wo (ix2 t ⟨512 * b.val + j.val, by omega⟩) :=
  rd woM c X.wo (colOff b.val) S4096x512.size rfl (woBlk_inb b) (ix2 t j) _ fun k => by
    fin_cases k
    · exact (Nat.zero_add t.val).symm
    · rfl
theorem payG_at (b : Fin 28) (t : Fin 5120) (j : Fin 512) : payG c X b (ix2 t j) = X.wg (ix2 t ⟨512 * b.val + j.val, by omega⟩) :=
  rd wgM c X.wg (colOff b.val) S5120x512.size rfl (wgBlk_inb b) (ix2 t j) _ fun k => by
    fin_cases k
    · exact (Nat.zero_add t.val).symm
    · rfl
theorem payU_at (b : Fin 28) (t : Fin 5120) (j : Fin 512) : payU c X b (ix2 t j) = X.wu (ix2 t ⟨512 * b.val + j.val, by omega⟩) :=
  rd wuM c X.wu (colOff b.val) S5120x512.size rfl (wgBlk_inb b) (ix2 t j) _ fun k => by
    fin_cases k
    · exact (Nat.zero_add t.val).symm
    · rfl
theorem payD_at (b : Fin 28) (t : Fin 512) (j : Fin 5120) : payD c X b (ix2 t j) = X.wd (ix2 ⟨512 * b.val + t.val, by omega⟩ j) :=
  rd wdM c X.wd (rowOff b.val) S512x5120.size rfl (wdBlk_inb b) (ix2 t j) _ fun k => by
    fin_cases k
    · rfl
    · exact (Nat.zero_add j.val).symm

/-- The weight slots as the loops read them. -/
theorem wRead_at (k : Fin k0_t1_loop.trips) (p : Fin 8) (off : Fin 3 → ℕ) (e : off = ![(k.val + 12) % 4, 512 * p.val, 0]) (hh) (t j : Fin 512) :
    wRead c X k off hh (ix3 0 t j) = X.wo (ix2 ⟨512 * p.val + t.val, by omega⟩ ⟨512 * k.val + j.val, by have := t1_lt k; omega⟩) := by
  have hk := t1_lt k
  refine (rd ringM c _ _ _ e _ _ (ix3 (Ring.sl 4 (k.val + 12)) (⟨512 * p.val + t.val, by omega⟩ : Fin 5120) j) fun a => ?_).trans ?_
  · fin_cases a
    · rfl
    · rfl
    · exact (Nat.zero_add j.val).symm
  · refine (ringO_at (F := F) c (Ring.sl 4 (k.val + 12)) _ _ (⟨512 * p.val + t.val, by omega⟩ : Fin 4096) j).trans ((payO_at c X (Ring.bk 10 k.val) _ j).trans ?_)
    refine congrArg X.wo (congrArg (ix2 _) (Fin.ext ?_))
    show 512 * (k.val % 10) + j.val = 512 * k.val + j.val
    rw [Nat.mod_eq_of_lt hk]
theorem gRead_at (k : Fin k0_t3_loop.trips) (t : Fin 5120) (j : Fin 512) :
    gRead c X k (ix3 0 t j) = X.wg (ix2 t ⟨512 * k.val + j.val, by have := t3_lt k; omega⟩) := by
  have hk := t3_lt k
  refine (rd ringM c _ _ _ (k0_off85_eq k) _ _ (ix3 (Ring.sl 4 (2 * k.val + 22)) t j) fun a => ?_).trans ?_
  · fin_cases a
    · rfl
    · exact (Nat.zero_add t.val).symm
    · exact (Nat.zero_add j.val).symm
  · refine (ringF_at (F := F) c (Ring.sl 4 (2 * k.val + 22)) _ _ t j).trans ((payG_at c X (Ring.bk 28 k.val) t j).trans ?_)
    refine congrArg X.wg (congrArg (ix2 _) (Fin.ext ?_))
    show 512 * (k.val % 28) + j.val = 512 * k.val + j.val
    rw [Nat.mod_eq_of_lt hk]
theorem uRead_at (k : Fin k0_t3_loop.trips) (t : Fin 5120) (j : Fin 512) :
    uRead c X k (ix3 0 t j) = X.wu (ix2 t ⟨512 * k.val + j.val, by have := t3_lt k; omega⟩) := by
  have hk := t3_lt k
  refine (rd ringM c _ _ _ (k0_off86_eq k) _ _ (ix3 (Ring.sl 4 (2 * k.val + 23)) t j) fun a => ?_).trans ?_
  · fin_cases a
    · rfl
    · exact (Nat.zero_add t.val).symm
    · exact (Nat.zero_add j.val).symm
  · refine (ringF_at (F := F) c (Ring.sl 4 (2 * k.val + 23)) _ _ t j).trans ((payU_at c X (Ring.bk 28 k.val) t j).trans ?_)
    refine congrArg X.wu (congrArg (ix2 _) (Fin.ext ?_))
    show 512 * (k.val % 28) + j.val = 512 * k.val + j.val
    rw [Nat.mod_eq_of_lt hk]
theorem dRead_at (k : Fin k0_t3_loop.trips) (r : Fin 10) (t j : Fin 512) :
    dRead c X k r (ix3 0 t j) = X.wd (ix2 ⟨512 * k.val + t.val, by have := t3_lt k; omega⟩ ⟨512 * r.val + j.val, by omega⟩) := by
  have hk := t3_lt k
  refine (rd dringM c _ _ _ (k0_off94_eq k r) _ _ (ix3 (Ring.sl 2 k.val) t (⟨512 * r.val + j.val, by omega⟩ : Fin 5120)) fun a => ?_).trans ?_
  · fin_cases a
    · rfl
    · exact (Nat.zero_add t.val).symm
    · rfl
  · refine (ringD_at (F := F) c (Ring.sl 2 k.val) _ _ t (⟨512 * r.val + j.val, by omega⟩ : Fin 5120)).trans ((payD_at c X (Ring.bk 28 k.val) t _).trans ?_)
    refine congrArg X.wd (congrArg (fun q => ix2 q _) (Fin.ext ?_))
    show 512 * (k.val % 28) + t.val = 512 * k.val + t.val
    rw [Nat.mod_eq_of_lt hk]
end Weights
end Cert.Proof.Val
end
-- ==== Proof.ValWo.lean ====
module

public import proofs.«01_k».proof.Proof.ValRd

@[expose] public section

set_option maxRecDepth 16384

noncomputable section

/-! # The output projection's loop, read at an index -/

namespace Cert.Proof.Val

open Cert.KernelIdeal Cert.KernelIdeal.Gen Cert.Proof.Layer
open Idealize.ShloMosaic
open Idealize.ShloMosaic.TcCoe

variable {I : Ops} {c : Dev nD} {X : Weights (F := Ideal) c}
  {arg0 : Memref sig .tc .vmem S256x5120 .bf16} {arg1 : Memref sig .tc .vmem S40x128 .f32} {arg2 : Memref sig .tc .vmem S40x128 .f32} {arg3 : Memref sig .tc .vmem S112x128 .f32}
  {arg4 : Memref sig .tc .vmem S112x128 .f32} {arg5 : Memref sig .tc .vmem S40x128 .f32} {arg6 : Memref sig .tc .vmem S8x256x512 .bf16}
  {X0 : Buf (Elt Ideal) (arg0.view.loc (c : Thread nD τ))} {X1 : Buf (Elt Ideal) (arg1.view.loc (c : Thread nD τ))} {X2 : Buf (Elt Ideal) (arg2.view.loc (c : Thread nD τ))}
  {X3 : Buf (Elt Ideal) (arg3.view.loc (c : Thread nD τ))} {X4 : Buf (Elt Ideal) (arg4.view.loc (c : Thread nD τ))} {X5 : Buf (Elt Ideal) (arg5.view.loc (c : Thread nD τ))}
  {X6 : Buf (Elt Ideal) (arg6.view.loc (c : Thread nD τ))}
  (H : Holds I c X arg0 arg1 arg2 arg3 arg4 arg5 arg6 X0 X1 X2 X3 X4 X5 X6)
  {hm : Memref sig .tc .vmem S256x5120 .bf16} {h2 : Memref sig .tc .vmem S256x5120 .bf16} {ss : Memref sig .tc .vmem S256x128 .f32} {acc : Memref sig .tc .vmem S256x5120 .f32}
include H

theorem aRead_at (p : Fin 8) (j : ℕ) (e : j = p.val) (hh) (i : Fin 256) (t : Fin 512) : aRead c arg6 X6 j hh (ix3 0 i t) = I.A p i t := by
  subst e
  refine (rd arg6 c X6 _ _ rfl _ _ (ix3 p i t) fun a => ?_).trans (H.A p i t)
  fin_cases a
  · rfl
  · exact (Nat.zero_add i.val).symm
  · exact (Nat.zero_add t.val).symm
theorem soRead_at (k : Fin k0_t1_loop.trips) (r : Fin 4) (r' : BitVec 32) (e : r' = BitVec.ofNat 32 r.val) (hh) (l : Fin 128) :
    soRead c arg2 X2 k r' hh (ix2 0 l) = I.so ⟨512 * k.val + 128 * r.val + l.val, by have := t1_lt k; omega⟩ := by
  have hk := t1_lt k
  subst e
  refine (rd arg2 c X2 _ _ (k0_off50_eq k r) _ _ (ix2 (⟨4 * k.val + r.val, by omega⟩ : Fin 40) l) fun a => ?_).trans ((H.so _ l).trans ?_)
  · fin_cases a
    · rfl
    · exact (Nat.zero_add l.val).symm
  · exact congrArg I.so (Fin.ext (by show 128 * (4 * k.val + r.val) + l.val = 512 * k.val + 128 * r.val + l.val; omega))
theorem xRead_at (k : Fin k0_t1_loop.trips) (r : Fin 4) (r' : BitVec 32) (e : r' = BitVec.ofNat 32 (128 * r.val)) (hh) (i : Fin 256) (l : Fin 128) :
    xRead c arg0 X0 k r' hh (ix2 i l) = I.x i ⟨512 * k.val + 128 * r.val + l.val, by have := t1_lt k; omega⟩ := by
  have hk := t1_lt k
  subst e
  refine (rd arg0 c X0 _ _ (k0_off51_eq k r) _ _ (ix2 i (⟨512 * k.val + 128 * r.val + l.val, by omega⟩ : Fin 5120)) fun a => ?_).trans (H.x _ _)
  fin_cases a
  · exact (Nat.zero_add i.val).symm
  · rfl
theorem wRead_at' (k : Fin k0_t1_loop.trips) (p : Fin 8) (off : Fin 3 → ℕ) (e : off = ![(k.val + 12) % 4, 512 * p.val, 0]) (hh) (t j : Fin 512) :
    wRead c X k off hh (ix3 0 t j) = I.wo ⟨512 * p.val + t.val, by omega⟩ ⟨512 * k.val + j.val, by have := t1_lt k; omega⟩ :=
  (wRead_at c X k p off e hh t j).trans (H.wo _ _)

/-- One block's product with the attention output. -/
theorem y8_at (k : Fin k0_t1_loop.trips) (i : Fin 256) (j : Fin 512) :
    y8 c X arg6 X6 k (ix2 i j) = ∑ p : Fin 8, ∑ t : Fin 512, I.A p i t * I.wo ⟨512 * p.val + t.val, by omega⟩ ⟨512 * k.val + j.val, by have := t1_lt k; omega⟩ := by
  unfold y8 y7
  rw [pay4_at, pay3_at, pay1_at, Fin.sum_univ_eight]
  have e (p : Fin 8) (off : Fin 3 → ℕ) (e : off = ![(k.val + 12) % 4, 512 * p.val, 0]) (n : ℕ) (en : n = p.val) (hh) (hh') :
      (∑ t : Fin 512, aRead c arg6 X6 n hh (ix3 0 i t) * wRead c X k off hh' (ix3 0 t j))
        = ∑ t : Fin 512, I.A p i t * I.wo ⟨512 * p.val + t.val, by omega⟩ ⟨512 * k.val + j.val, by have := t1_lt k; omega⟩ :=
    Finset.sum_congr rfl fun t _ => congrArg₂ (· * ·) (aRead_at H p n en hh i t) (wRead_at' H k p off e hh' t j)
  exact congrArg₂ (· + ·) (congrArg₂ (· + ·) (congrArg₂ (· + ·) (congrArg₂ (· + ·) (congrArg₂ (· + ·) (congrArg₂ (· + ·) (congrArg₂ (· + ·)
    (e 0 _ (k0_off42_eq k) 0 rfl _ _) (e 1 _ (k0_off43_eq k) 1 rfl _ _)) (e 2 _ (k0_off44_eq k) 2 rfl _ _)) (e 3 _ (k0_off45_eq k) 3 rfl _ _))
    (e 4 _ (k0_off46_eq k) 4 rfl _ _)) (e 5 _ (k0_off47_eq k) 5 rfl _ _)) (e 6 _ (k0_off48_eq k) 6 rfl _ _)) (e 7 _ (k0_off49_eq k) 7 rfl _ _)

theorem hs_of (k : Fin k0_t1_loop.trips) (r : Fin 4) (i : Fin 256) (l : Fin 128) (J : Fin 5120) (eJ : J.val = 512 * k.val + 128 * r.val + l.val)
    (xv yv sv : EReal) (hx : xv = I.x i ⟨512 * k.val + 128 * r.val + l.val, by have := t1_lt k; omega⟩)
    (hy : yv = y8 c X arg6 X6 k (ix2 i ⟨128 * r.val + l.val, by omega⟩)) (hs : sv = I.so ⟨512 * k.val + 128 * r.val + l.val, by have := t1_lt k; omega⟩) :
    xv + yv * sv = I.hs i J := by
  subst hx hy hs
  rw [y8_at H]
  have hJ : J = ⟨512 * k.val + 128 * r.val + l.val, by have := t1_lt k; omega⟩ := Fin.ext eJ
  refine Eq.trans ?_ (congrArg (I.hs i) hJ).symm
  unfold Ops.hs
  refine congrArg₂ (· + ·) rfl (congrArg₂ (· * ·) (Finset.sum_congr rfl fun p _ => Finset.sum_congr rfl fun t _ => congrArg₂ (· * ·) rfl (congrArg _ (Fin.ext ?_))) rfl)
  show 512 * k.val + (128 * r.val + l.val) = 512 * k.val + 128 * r.val + l.val
  omega

theorem hp0_at (k : Fin k0_t1_loop.trips) (i : Fin 256) (l : Fin 128) (J : Fin 5120) (eJ : J.val = 512 * k.val + 128 * 0 + l.val) :
    hp0 c X arg0 arg2 arg6 X0 X2 X6 k (ix2 i l) = I.hs i J := by
  unfold hp0
  rw [pay6_at]
  exact hs_of H k 0 i l J eJ _ _ _ (xRead_at H k 0 _ rfl _ i l) (congrArg (fun q => y8 c X arg6 X6 k (ix2 i q)) (Fin.ext (Nat.zero_add _).symm)) (soRead_at H k 0 _ rfl _ l)
theorem hp1_at (k : Fin k0_t1_loop.trips) (i : Fin 256) (l : Fin 128) (J : Fin 5120) (eJ : J.val = 512 * k.val + 128 * 1 + l.val) :
    hp1 c X arg0 arg2 arg6 X0 X2 X6 k (ix2 i l) = I.hs i J := by
  unfold hp1
  rw [pay10_at]
  exact hs_of H k 1 i l J eJ _ _ _ (xRead_at H k 1 _ rfl _ i l) rfl (soRead_at H k 1 _ rfl _ l)
theorem hp2_at (k : Fin k0_t1_loop.trips) (i : Fin 256) (l : Fin 128) (J : Fin 5120) (eJ : J.val = 512 * k.val + 128 * 2 + l.val) :
    hp2 c X arg0 arg2 arg6 X0 X2 X6 k (ix2 i l) = I.hs i J := by
  unfold hp2
  rw [pay12_at]
  exact hs_of H k 2 i l J eJ _ _ _ (xRead_at H k 2 _ rfl _ i l) rfl (soRead_at H k 2 _ rfl _ l)
theorem hp3_at (k : Fin k0_t1_loop.trips) (i : Fin 256) (l : Fin 128) (J : Fin 5120) (eJ : J.val = 512 * k.val + 128 * 3 + l.val) :
    hp3 c X arg0 arg2 arg6 X0 X2 X6 k (ix2 i l) = I.hs i J := by
  unfold hp3
  rw [pay139_at]
  exact hs_of H k 3 i l J eJ _ _ _ (xRead_at H k 3 _ rfl _ i l) rfl (soRead_at H k 3 _ rfl _ l)

/-! ## The residual stream -/

theorem hmNext_at (k : Fin k0_t1_loop.trips) (HM : Buf (Elt Ideal) (hm.view.loc (c : Thread nD τ))) (i : Fin 256) (J : Fin 5120)
    (hI : J.val < 512 * k.val → hm.view.read (Elt Ideal) HM (ix2 i J) = I.hs i J) (hJ : J.val < 512 * (k.val + 1)) :
    hm.view.read (Elt Ideal) (hmNext c X arg0 arg2 arg6 hm X0 X2 X6 k HM) (ix2 i J) = I.hs i J := by
  have hk := t1_lt k
  unfold hmNext
  by_cases h : J.val < 512 * k.val
  · refine (View.read_writes_apply_of_forall_not_mem (Val := Elt Ideal) hm.view HM (ix2 i J) _ fun p hp => ?_).trans (hI h)
    have key : ∀ (r : Fin 4) (r' : BitVec 32) (e : r' = BitVec.ofNat 32 (128 * r.val)) (hh), (ix2 i J : S256x5120.Idx) ∉ (R51 k r' hh).set := by
      intro r r' e hh hc
      subst e
      have h1 := (Rect.mem_set_unit.1 hc) 1
      rw [k0_off51_eq k r] at h1
      have h2 : 512 * k.val + 128 * r.val ≤ J.val := h1.1
      omega
    simp only [List.mem_cons, List.not_mem_nil, or_false] at hp
    rcases hp with rfl | rfl | rfl | rfl
    · exact key 3 _ rfl (k0_off51_inb k 3)
    · exact key 2 _ rfl (k0_off51_inb k 2)
    · exact key 1 _ rfl (k0_off51_inb k 1)
    · exact key 0 _ rfl (k0_off51_inb k 0)
  · have key : ∀ (r : Fin 4) (r' : BitVec 32) (e : r' = BitVec.ofNat 32 (128 * r.val)) (hh), 512 * k.val + 128 * r.val ≤ J.val → J.val < 512 * k.val + 128 * r.val + 128 →
        (ix2 i J : S256x5120.Idx) ∈ (R51 k r' hh).set := by
      intro r r' e hh h1 h2
      subst e
      refine Rect.mem_set_unit.2 fun a => ?_
      rw [k0_off51_eq k r]
      fin_cases a
      · exact ⟨Nat.zero_le _, by show i.val < 0 + 256; omega⟩
      · exact ⟨h1, h2⟩
    have val : ∀ (r : Fin 4) (r' : BitVec 32) (e : r' = BitVec.ofNat 32 (128 * r.val)) (hh) (P : S256x128.Idx → EReal)
        (hP : ∀ (i : Fin 256) (l : Fin 128) (J : Fin 5120) (eJ : J.val = 512 * k.val + 128 * r.val + l.val), P (ix2 i l) = I.hs i J) (x : S256x128.Idx),
        P x = (fun z : S256x5120.Idx => I.hs (z 0) (z 1)) ((R51 k r' hh).emb x) := by
      intro r r' e hh P hP x
      subst e
      have hx0 : (x 0).val < 256 := (x 0).isLt
      have hx1 : (x 1).val < 128 := (x 1).isLt
      rw [emb_unit (s := S256x5120) (k0_off51 k (BitVec.ofNat 32 (128 * r.val))) S256x128.size (k0_off51_eq k r) hh x (ix2 (⟨(x 0).val, hx0⟩ : Fin 256) (⟨512 * k.val + 128 * r.val + (x 1).val, by omega⟩ : Fin 5120)) (fun a => by
        fin_cases a
        · exact (Nat.zero_add _).symm
        · rfl)]
      exact (congrArg P (eq_ix2 x)).trans (hP _ _ _ rfl)
    refine View.read_writes_apply_of_pieces (Val := Elt Ideal) hm.view HM (fun z : S256x5120.Idx => I.hs (z 0) (z 1)) _ (fun p hp x => ?_) (ix2 i J) ?_
    · simp only [List.mem_cons, List.not_mem_nil, or_false] at hp
      rcases hp with rfl | rfl | rfl | rfl
      · exact val 3 _ rfl (k0_off51_inb k 3) _ (hp3_at H k) x
      · exact val 2 _ rfl (k0_off51_inb k 2) _ (hp2_at H k) x
      · exact val 1 _ rfl (k0_off51_inb k 1) _ (hp1_at H k) x
      · exact val 0 _ rfl (k0_off51_inb k 0) _ (hp0_at H k) x
    · have hc : J.val < 512 * k.val + 128 ∨ (512 * k.val + 128 ≤ J.val ∧ J.val < 512 * k.val + 256) ∨ (512 * k.val + 256 ≤ J.val ∧ J.val < 512 * k.val + 384) ∨ 512 * k.val + 384 ≤ J.val := by omega
      rcases hc with h1 | h1 | h1 | h1
      · exact ⟨_, .tail _ (.tail _ (.tail _ (.head _))), key 0 _ rfl (k0_off51_inb k 0) (by show 512 * k.val + 128 * 0 ≤ J.val; omega) (by show J.val < 512 * k.val + 128 * 0 + 128; omega)⟩
      · exact ⟨_, .tail _ (.tail _ (.head _)), key 1 _ rfl (k0_off51_inb k 1) (by show 512 * k.val + 128 * 1 ≤ J.val; omega) (by show J.val < 512 * k.val + 128 * 1 + 128; omega)⟩
      · exact ⟨_, .tail _ (.head _), key 2 _ rfl (k0_off51_inb k 2) (by show 512 * k.val + 128 * 2 ≤ J.val; omega) (by show J.val < 512 * k.val + 128 * 2 + 128; omega)⟩
      · exact ⟨_, .head _, key 3 _ rfl (k0_off51_inb k 3) (by show 512 * k.val + 128 * 3 ≤ J.val; omega) (by show J.val < 512 * k.val + 128 * 3 + 128; omega)⟩

theorem hmSt_at (HM0 : Buf (Elt Ideal) (hm.view.loc (c : Thread nD τ))) : ∀ n, n ≤ 10 → ∀ (i : Fin 256) (J : Fin 5120), J.val < 512 * n →
    hm.view.read (Elt Ideal) (hmSt c X arg0 arg2 arg6 hm X0 X2 X6 HM0 n) (ix2 i J) = I.hs i J
  | 0, _, _, _, h => absurd h (by omega)
  | n + 1, hn, i, J, h => by
    have e : (t1i n).val = n := Nat.mod_eq_of_lt (by omega)
    rw [hmSt]
    exact hmNext_at H (t1i n) _ i J (fun h' => hmSt_at HM0 n (by omega) i J (by rw [e] at h'; exact h')) (by rw [e]; exact h)
/-- The residual stream after the loop. -/
theorem HMf_at (HM0 : Buf (Elt Ideal) (hm.view.loc (c : Thread nD τ))) (i : Fin 256) (J : Fin 5120) :
    hm.view.read (Elt Ideal) (HMf c X arg0 arg2 arg6 hm X0 X2 X6 HM0) (ix2 i J) = I.hs i J :=
  hmSt_at H HM0 10 le_rfl i J (by omega)

/-! ## The sums of squares -/

omit H in
/-- The square at a column, zero past the last one. -/
def hq (I : Ops) (i : Fin 256) (J : ℕ) : EReal := if h : J < 5120 then I.hs i ⟨J, h⟩ * I.hs i ⟨J, h⟩ else 0

theorem ssNext_at (k : Fin k0_t1_loop.trips) (SS : Buf (Elt Ideal) (ss.view.loc (c : Thread nD τ))) (i : Fin 256) (l : Fin 128) :
    ss.view.read (Elt Ideal) (ssNext c X arg0 arg2 arg6 ss X0 X2 X6 k SS) (ix2 i l)
      = ss.view.read (Elt Ideal) SS (ix2 i l) + hq I i (512 * k.val + 128 * 0 + l.val) + hq I i (512 * k.val + 128 * 1 + l.val) + hq I i (512 * k.val + 128 * 2 + l.val)
        + hq I i (512 * k.val + 128 * 3 + l.val) := by
  have hk := t1_lt k
  unfold ssNext
  have h0 := hp0_at H k i l ⟨512 * k.val + 128 * 0 + l.val, by omega⟩ rfl
  have h1 := hp1_at H k i l ⟨512 * k.val + 128 * 1 + l.val, by omega⟩ rfl
  have h2 := hp2_at H k i l ⟨512 * k.val + 128 * 2 + l.val, by omega⟩ rfl
  have h3 := hp3_at H k i l ⟨512 * k.val + 128 * 3 + l.val, by omega⟩ rfl
  unfold hp0 at h0; unfold hp1 at h1; unfold hp2 at h2; unfold hp3 at h3
  refine (wr_unit ss c SS _ (by decide) _ _ (ix2 i l)).trans ?_
  rw [pay140_at, pay13_at, pay7_at, h0, h1, h2, h3]
  rw [rd ss c SS ![0, 0] S256x128.size rfl inb_S256x128_S256x128_0_0 (ix2 i l) (ix2 i l) (fun a => by fin_cases a <;> exact (Nat.zero_add _).symm)]
  unfold hq
  rw [dif_pos (show 512 * k.val + 128 * 0 + l.val < 5120 by omega), dif_pos (show 512 * k.val + 128 * 1 + l.val < 5120 by omega), dif_pos (show 512 * k.val + 128 * 2 + l.val < 5120 by omega),
    dif_pos (show 512 * k.val + 128 * 3 + l.val < 5120 by omega)]

theorem ssSt_at (i : Fin 256) (l : Fin 128) : ∀ n, n ≤ 10 →
    ss.view.read (Elt Ideal) (ssSt c X arg0 arg2 arg6 ss X0 X2 X6 n) (ix2 i l) = ∑ q ∈ Finset.range (4 * n), hq I i (128 * q + l.val)
  | 0, _ => by
    rw [ssSt]
    exact (wr_unit ss c _ _ (by decide) _ _ (ix2 i l)).trans (pay137_at i l)
  | n + 1, hn => by
    have e : (t1i n).val = n := Nat.mod_eq_of_lt (by omega)
    rw [ssSt, ssNext_at H, ssSt_at i l n (by omega), e, show 4 * (n + 1) = 4 * n + 1 + 1 + 1 + 1 by omega, Finset.sum_range_succ, Finset.sum_range_succ, Finset.sum_range_succ, Finset.sum_range_succ]
    rw [show 128 * (4 * n) = 512 * n + 128 * 0 by omega, show 128 * (4 * n + 1) = 512 * n + 128 * 1 by omega, show 128 * (4 * n + 1 + 1) = 512 * n + 128 * 2 by omega,
      show 128 * (4 * n + 1 + 1 + 1) = 512 * n + 128 * 3 by omega]
/-- The lanes of a row of the sums of squares, added. -/
theorem SSf_at (i : Fin 256) : (∑ l : Fin 128, ss.view.read (Elt Ideal) (SSf c X arg0 arg2 arg6 ss X0 X2 X6) (ix2 i l)) = I.sq i := by
  have e1 : ∀ l : Fin 128, ss.view.read (Elt Ideal) (SSf c X arg0 arg2 arg6 ss X0 X2 X6) (ix2 i l) = ∑ q : Fin 40, hq I i (128 * q.val + l.val) := fun l =>
    (ssSt_at H i l 10 le_rfl).trans (Finset.sum_range (fun q => hq I i (128 * q + l.val)))
  rw [Finset.sum_congr rfl fun l _ => e1 l, Finset.sum_comm]
  unfold Ops.sq
  refine Eq.trans ?_ (Fin.sum_univ_tiles 40 128 (by decide) (fun J : Fin 5120 => I.hs i J * I.hs i J)).symm
  refine Finset.sum_congr rfl fun q _ => Finset.sum_congr rfl fun l _ => ?_
  unfold hq
  rw [dif_pos (show 128 * q.val + l.val < 5120 by omega)]
  have : (⟨128 * q.val + l.val, by omega⟩ : Fin 5120) = ⟨q.val * 128 + l.val, by omega⟩ := Fin.ext (by show 128 * q.val + l.val = q.val * 128 + l.val; omega)
  rw [this]

end Cert.Proof.Val
end
-- ==== Proof.ValFf.lean ====
module

public import proofs.«01_k».proof.Proof.ValWo

@[expose] public section

set_option maxRecDepth 16384

noncomputable section

/-! # The normalisation and the gated MLP, read at an index -/

namespace Cert.Proof.Val

open Cert.KernelIdeal Cert.KernelIdeal.Gen Cert.Proof.Layer
open Idealize.ShloMosaic
open Idealize.ShloMosaic.TcCoe

variable {I : Ops} {c : Dev nD} {X : Weights (F := Ideal) c}
  {arg0 : Memref sig .tc .vmem S256x5120 .bf16} {arg1 : Memref sig .tc .vmem S40x128 .f32} {arg2 : Memref sig .tc .vmem S40x128 .f32} {arg3 : Memref sig .tc .vmem S112x128 .f32}
  {arg4 : Memref sig .tc .vmem S112x128 .f32} {arg5 : Memref sig .tc .vmem S40x128 .f32} {arg6 : Memref sig .tc .vmem S8x256x512 .bf16}
  {X0 : Buf (Elt Ideal) (arg0.view.loc (c : Thread nD τ))} {X1 : Buf (Elt Ideal) (arg1.view.loc (c : Thread nD τ))} {X2 : Buf (Elt Ideal) (arg2.view.loc (c : Thread nD τ))}
  {X3 : Buf (Elt Ideal) (arg3.view.loc (c : Thread nD τ))} {X4 : Buf (Elt Ideal) (arg4.view.loc (c : Thread nD τ))} {X5 : Buf (Elt Ideal) (arg5.view.loc (c : Thread nD τ))}
  {X6 : Buf (Elt Ideal) (arg6.view.loc (c : Thread nD τ))}
  (H : Holds I c X arg0 arg1 arg2 arg3 arg4 arg5 arg6 X0 X1 X2 X3 X4 X5 X6)
  {hm : Memref sig .tc .vmem S256x5120 .bf16} {h2 : Memref sig .tc .vmem S256x5120 .bf16} {ss : Memref sig .tc .vmem S256x128 .f32} {acc : Memref sig .tc .vmem S256x5120 .f32}
include H

/-! ## The normalised rows -/

theorem nrm_at (HM : Buf (Elt Ideal) (hm.view.loc (c : Thread nD τ))) (SS : Buf (Elt Ideal) (ss.view.loc (c : Thread nD τ)))
    (hHM : ∀ i J, hm.view.read (Elt Ideal) HM (ix2 i J) = I.hs i J) (hSS : ∀ i : Fin 256, (∑ l : Fin 128, ss.view.read (Elt Ideal) SS (ix2 i l)) = I.sq i)
    (k : Fin k0_t2_loop.trips) (r : Fin 40) (i : Fin 32) (l : Fin 128) (i' : Fin 256) (J : Fin 5120) (ei : i'.val = 32 * k.val + i.val) (eJ : J.val = 128 * r.val + l.val) :
    nrm c arg1 hm ss X1 SS HM k r (ix2 i l) = I.h2 i' J := by
  unfold nrm rinv
  rw [pay20_at]
  have e1 : ∀ l' : Fin 128, View.readAt (Elt Ideal) ss.view (Rect.unit (s := S256x128) (k0_off52 k) S32x128.size (k0_off52_inb k)).toLoadRect SS (ix2 i l')
      = ss.view.read (Elt Ideal) SS (ix2 i' l') := fun l' => rd ss c SS _ _ (k0_off52_eq k) _ _ _ fun a => by
    fin_cases a
    · exact ei
    · exact (Nat.zero_add l'.val).symm
  have e2 : View.readAt (Elt Ideal) hm.view (R53 k r).toLoadRect HM (ix2 i l) = I.hs i' J :=
    (rd hm c HM _ _ (k0_off53_eq k r) _ _ (ix2 i' J) fun a => by
      fin_cases a
      · exact ei
      · exact eJ).trans (hHM i' J)
  have e3 : View.readAt (Elt Ideal) arg1.view (Rect.unit (s := S40x128) ![r.val, 0] S1x128.size (row_inb r)).toLoadRect X1 (ix2 0 l) = I.g J :=
    (rd arg1 c X1 _ _ rfl _ _ (ix2 r l) fun a => by
      fin_cases a
      · rfl
      · exact (Nat.zero_add l.val).symm).trans ((H.g r l).trans (congrArg I.g (Fin.ext eJ.symm)))
  rw [e2, e3, Finset.sum_congr rfl fun l' _ => e1 l', hSS]
  rfl
omit H in
theorem mem_nrmL (SS : Buf (Elt Ideal) (ss.view.loc (c : Thread nD τ))) (HM : Buf (Elt Ideal) (hm.view.loc (c : Thread nD τ))) (k : Fin k0_t2_loop.trips) (p : View.Piece (Elt Ideal) S256x5120 .bf16) :
    ∀ n hn, p ∈ nrmL c arg1 hm ss X1 SS HM k n hn → ∃ r : Fin 40, p = ⟨R53 k r, nrm c arg1 hm ss X1 SS HM k r⟩
  | 0, _, h => absurd h List.not_mem_nil
  | n + 1, hn, h => by
    rcases List.mem_cons.1 h with rfl | h
    · exact ⟨⟨n, hn⟩, rfl⟩
    · exact mem_nrmL SS HM k p n _ h
omit H in
theorem in_nrmL (SS : Buf (Elt Ideal) (ss.view.loc (c : Thread nD τ))) (HM : Buf (Elt Ideal) (hm.view.loc (c : Thread nD τ))) (k : Fin k0_t2_loop.trips) (r : Fin 40) :
    ∀ n hn, r.val < n → (⟨R53 k r, nrm c arg1 hm ss X1 SS HM k r⟩ : View.Piece (Elt Ideal) S256x5120 .bf16) ∈ nrmL c arg1 hm ss X1 SS HM k n hn
  | 0, _, h => absurd h (by omega)
  | n + 1, hn, h => by
    by_cases e : r.val = n
    · obtain rfl : r = ⟨n, hn⟩ := Fin.ext e
      exact .head _
    · exact .tail _ (in_nrmL SS HM k r n _ (by omega))
omit H in
theorem R53_mem (k : Fin k0_t2_loop.trips) (r : Fin 40) (i : Fin 256) (J : Fin 5120) :
    (ix2 i J : S256x5120.Idx) ∈ (R53 k r).set ↔ (32 * k.val ≤ i.val ∧ i.val < 32 * k.val + 32) ∧ (128 * r.val ≤ J.val ∧ J.val < 128 * r.val + 128) := by
  refine (Rect.mem_set_unit (inb := k0_off53_inb k r)).trans ?_
  rw [k0_off53_eq k r]
  exact ⟨fun h => ⟨h 0, h 1⟩, fun h a => by
    fin_cases a
    · exact h.1
    · exact h.2⟩

theorem h2St_at (HM0 : Buf (Elt Ideal) (hm.view.loc (c : Thread nD τ))) (H20 : Buf (Elt Ideal) (h2.view.loc (c : Thread nD τ))) : ∀ n, n ≤ 8 → ∀ (i : Fin 256) (J : Fin 5120), i.val < 32 * n →
    h2.view.read (Elt Ideal) (h2St c X arg0 arg1 arg2 arg6 hm h2 ss X0 X1 X2 X6 HM0 H20 n) (ix2 i J) = I.h2 i J
  | 0, _, _, _, h => absurd h (by omega)
  | n + 1, hn, i, J, h => by
    have e : (t2i n).val = n := Nat.mod_eq_of_lt (by omega)
    rw [h2St]
    by_cases h' : i.val < 32 * n
    · refine (View.read_writes_apply_of_forall_not_mem (Val := Elt Ideal) h2.view _ (ix2 i J) _ fun p hp => ?_).trans (h2St_at HM0 H20 n (by omega) i J h')
      obtain ⟨r, rfl⟩ := mem_nrmL _ _ _ p 40 _ hp
      intro hc
      have := (R53_mem (t2i n) r i J).1 hc
      rw [e] at this
      omega
    · refine View.read_writes_apply_of_pieces (Val := Elt Ideal) h2.view _ (fun z : S256x5120.Idx => I.h2 (z 0) (z 1)) _ (fun p hp x => ?_) (ix2 i J)
        ⟨_, in_nrmL _ _ (t2i n) ⟨J.val / 128, by omega⟩ 40 _ (by show J.val / 128 < 40; omega), (R53_mem _ _ i J).2 ⟨by rw [e]; omega, by show 128 * (J.val / 128) ≤ J.val; omega, by show J.val < 128 * (J.val / 128) + 128; omega⟩⟩
      obtain ⟨r, rfl⟩ := mem_nrmL _ _ _ p 40 _ hp
      have hx0 : (x 0).val < 32 := (x 0).isLt
      have hx1 : (x 1).val < 128 := (x 1).isLt
      rw [emb_unit (s := S256x5120) _ S32x128.size (k0_off53_eq (t2i n) r) (k0_off53_inb (t2i n) r) x
        (ix2 (⟨32 * (t2i n).val + (x 0).val, by omega⟩ : Fin 256) (⟨128 * r.val + (x 1).val, by omega⟩ : Fin 5120)) (fun a => by fin_cases a <;> rfl)]
      exact (congrArg _ (eq_ix2 x)).trans (nrm_at H _ _ (HMf_at H HM0) (SSf_at H) (t2i n) r _ _ _ _ rfl rfl)
theorem H2f_at (HM0 : Buf (Elt Ideal) (hm.view.loc (c : Thread nD τ))) (H20 : Buf (Elt Ideal) (h2.view.loc (c : Thread nD τ))) (i : Fin 256) (J : Fin 5120) :
    h2.view.read (Elt Ideal) (H2f c X arg0 arg1 arg2 arg6 hm h2 ss X0 X1 X2 X6 HM0 H20) (ix2 i J) = I.h2 i J :=
  h2St_at H HM0 H20 8 le_rfl i J (by omega)

/-! ## The activation -/

section Act
variable (H2 : Buf (Elt Ideal) (h2.view.loc (c : Thread nD τ))) (hH2 : ∀ i J, h2.view.read (Elt Ideal) H2 (ix2 i J) = I.h2 i J)
include hH2
omit H in
theorem h2Read_at (i : Fin 256) (J : Fin 5120) : h2Read c h2 H2 (ix2 i J) = I.h2 i J :=
  (rd h2 c H2 _ _ rfl _ _ (ix2 i J) fun a => by fin_cases a <;> exact (Nat.zero_add _).symm).trans (hH2 i J)
theorem gateF_at (k : Fin k0_t3_loop.trips) (i : Fin 256) (j : Fin 512) :
    gateF c X h2 k H2 (ix2 i j) = ∑ t : Fin 5120, I.h2 i t * I.wg t ⟨512 * k.val + j.val, by have := t3_lt k; omega⟩ := by
  unfold gateF
  rw [pay66_at]
  exact Finset.sum_congr rfl fun t _ => congrArg₂ (· * ·) (h2Read_at H2 hH2 i t) ((gRead_at c X k t j).trans (H.wg _ _))
theorem upF_at (k : Fin k0_t3_loop.trips) (i : Fin 256) (j : Fin 512) :
    upF c X h2 k H2 (ix2 i j) = ∑ t : Fin 5120, I.h2 i t * I.wu t ⟨512 * k.val + j.val, by have := t3_lt k; omega⟩ := by
  unfold upF
  rw [pay67_at]
  exact Finset.sum_congr rfl fun t _ => congrArg₂ (· * ·) (h2Read_at H2 hH2 i t) ((uRead_at c X k t j).trans (H.wu _ _))
omit hH2 in
theorem sgRead_at (k : Fin k0_t3_loop.trips) (r : Fin 4) (l : Fin 128) : sgRead c arg3 X3 k r (ix2 0 l) = I.sg ⟨512 * k.val + (128 * r.val + l.val), by have := t3_lt k; omega⟩ := by
  have hk := t3_lt k
  refine (rd arg3 c X3 _ _ (k0_off87_eq k r) _ _ (ix2 (⟨4 * k.val + r.val, by omega⟩ : Fin 112) l) fun a => ?_).trans ((H.sg _ l).trans ?_)
  · fin_cases a
    · rfl
    · exact (Nat.zero_add l.val).symm
  · exact congrArg I.sg (Fin.ext (by show 128 * (4 * k.val + r.val) + l.val = 512 * k.val + (128 * r.val + l.val); omega))
omit hH2 in
theorem suRead_at (k : Fin k0_t3_loop.trips) (r : Fin 4) (l : Fin 128) : suRead c arg4 X4 k r (ix2 0 l) = I.su ⟨512 * k.val + (128 * r.val + l.val), by have := t3_lt k; omega⟩ := by
  have hk := t3_lt k
  refine (rd arg4 c X4 _ _ (k0_off87_eq k r) _ _ (ix2 (⟨4 * k.val + r.val, by omega⟩ : Fin 112) l) fun a => ?_).trans ((H.su _ l).trans ?_)
  · fin_cases a
    · rfl
    · exact (Nat.zero_add l.val).symm
  · exact congrArg I.su (Fin.ext (by show 128 * (4 * k.val + r.val) + l.val = 512 * k.val + (128 * r.val + l.val); omega))
theorem act_of (k : Fin k0_t3_loop.trips) (r : Fin 4) (i : Fin 256) (l : Fin 128) (j : Fin 512) (ej : j.val = 128 * r.val + l.val) :
    gated (gateF c X h2 k H2 (ix2 i j) * sgRead c arg3 X3 k r (ix2 0 l)) (upF c X h2 k H2 (ix2 i j) * suRead c arg4 X4 k r (ix2 0 l))
      = I.act i ⟨512 * k.val + (128 * r.val + l.val), by have := t3_lt k; omega⟩ := by
  rw [gateF_at H H2 hH2, upF_at H H2 hH2, sgRead_at H, suRead_at H]
  have hk := t3_lt k
  have e : (⟨512 * k.val + (128 * r.val + l.val), by omega⟩ : Fin 14336) = ⟨512 * k.val + j.val, by omega⟩ := Fin.ext (by show 512 * k.val + (128 * r.val + l.val) = 512 * k.val + j.val; omega)
  rw [e]
  rfl

theorem actB_at (k : Fin k0_t3_loop.trips) (g : Buf (Elt Ideal) (aringM.view.loc (c : Thread nD τ))) (s : Fin 2) (hs : s.val = k.val % 2) (i : Fin 256) (j : Fin 512) :
    aringM.view.read (Elt Ideal) (actB c X arg3 arg4 h2 X3 X4 k H2 g) (ix3 s i j) = I.act i ⟨512 * k.val + j.val, by have := t3_lt k; omega⟩ := by
  have hk := t3_lt k
  unfold actB
  have val : ∀ (r : Fin 4) (off : Fin 3 → ℕ) (e : off = ![k.val % 2, 0, 128 * r.val]) (hh : ∀ a, off a + S1x256x128.size a ≤ S2x256x512.size a) (P : S1x256x128.Idx → EReal)
      (hP : ∀ (i : Fin 256) (l : Fin 128), P (ix3 0 i l) = I.act i ⟨512 * k.val + (128 * r.val + l.val), by omega⟩) (x : S1x256x128.Idx),
      P x = (fun z : S2x256x512.Idx => I.act (z 1) ⟨512 * k.val + (z 2).val, by have h : (z 2).val < 512 := (z 2).isLt; omega⟩) ((Rect.unit (s := S2x256x512) off S1x256x128.size hh).emb x) := by
    intro r off e hh P hP x
    have hx0 : (x 0).val < 1 := (x 0).isLt
    have hx1 : (x 1).val < 256 := (x 1).isLt
    have hx2 : (x 2).val < 128 := (x 2).isLt
    rw [emb_unit (s := S2x256x512) off S1x256x128.size e hh x (ix3 (⟨k.val % 2, by omega⟩ : Fin 2) (⟨(x 1).val, hx1⟩ : Fin 256) (⟨128 * r.val + (x 2).val, by omega⟩ : Fin 512)) (fun a => by
      fin_cases a
      · show k.val % 2 = k.val % 2 + (x 0).val; omega
      · exact (Nat.zero_add _).symm
      · rfl)]
    have ex : x = ix3 0 (⟨(x 1).val, hx1⟩ : Fin 256) (⟨(x 2).val, hx2⟩ : Fin 128) := funext fun a => Fin.ext (by
      fin_cases a
      · show (x 0).val = 0; omega
      · rfl
      · rfl)
    exact (congrArg P ex).trans (hP _ _)
  refine (View.read_writes_apply_of_pieces (Val := Elt Ideal) aringM.view g (fun z : S2x256x512.Idx => I.act (z 1) ⟨512 * k.val + (z 2).val, by have h : (z 2).val < 512 := (z 2).isLt; omega⟩) _
    (fun p hp x => ?_) (ix3 s i j) (actL_cover c X arg3 arg4 h2 X3 X4 k H2 (ix3 s i j) hs)).trans rfl
  unfold actL at hp
  simp only [List.mem_cons, List.not_mem_nil, or_false] at hp
  rcases hp with rfl | rfl | rfl | rfl
  · exact val 3 _ (k0_off91_eq k) (k0_off91_inb k) _ (fun i l => (pay73_at _ _ _ _ i l).trans (act_of H H2 hH2 k 3 i l _ rfl)) x
  · exact val 2 _ (k0_off90_eq k) (k0_off90_inb k) _ (fun i l => (pay71_at _ _ _ _ i l).trans (act_of H H2 hH2 k 2 i l _ rfl)) x
  · exact val 1 _ (k0_off89_eq k) (k0_off89_inb k) _ (fun i l => (pay70_at _ _ _ _ i l).trans (act_of H H2 hH2 k 1 i l _ rfl)) x
  · exact val 0 _ (k0_off88_eq k) (k0_off88_inb k) _ (fun i l => (pay69_at _ _ _ _ _ i l).trans (act_of H H2 hH2 k 0 i l _ (Nat.zero_add _).symm)) x
theorem actR_at (k : Fin k0_t3_loop.trips) (g : Buf (Elt Ideal) (aringM.view.loc (c : Thread nD τ))) (i : Fin 256) (j : Fin 512) :
    actR c X arg3 arg4 h2 X3 X4 k H2 g (ix3 0 i j) = I.act i ⟨512 * k.val + j.val, by have := t3_lt k; omega⟩ := by
  unfold actR
  refine (rd aringM c _ _ _ (k0_off92_eq k) _ _ (ix3 (⟨k.val % 2, by omega⟩ : Fin 2) i j) fun a => ?_).trans (actB_at H H2 hH2 k g _ rfl i j)
  fin_cases a
  · rfl
  · exact (Nat.zero_add i.val).symm
  · exact (Nat.zero_add j.val).symm
/-- Activation block `n`. -/
theorem VA_at (n : Fin 28) (i : Fin 256) (j : Fin 512) : VA c X arg3 arg4 h2 X3 X4 H2 n.val (ix2 i j) = I.act i ⟨512 * n.val + j.val, by omega⟩ := by
  have e : (t3i n.val).val = n.val := Nat.mod_eq_of_lt n.isLt
  unfold VA
  rw [actV_eq]
  refine (sqA _ _ i j).trans ((rd aringM c _ _ _ rfl _ _ (ix3 (Ring.sl 2 (t3i n.val).val) i j) fun a => ?_).trans ((actB_at H H2 hH2 (t3i n.val) _ _ rfl i j).trans ?_))
  · fin_cases a
    · rfl
    · exact (Nat.zero_add i.val).symm
    · exact (Nat.zero_add j.val).symm
  · exact congrArg (I.act i) (Fin.ext (by show 512 * (t3i n.val).val + j.val = 512 * n.val + j.val; rw [e]))

/-! ## The down projection -/

omit H hH2 in
/-- Block `b`'s share of a down projection's element, zero past the last block. -/
def dn (I : Ops) (i : Fin 256) (J : Fin 5120) (b : ℕ) : EReal :=
  if h : b < 28 then ∑ t : Fin 512, I.act i ⟨512 * b + t.val, by omega⟩ * I.wd ⟨512 * b + t.val, by omega⟩ J else 0
omit H hH2 in
theorem mem_accL (ACC : Buf (Elt Ideal) (acc.view.loc (c : Thread nD τ))) (av : Vec Ideal S1x256x512 .bf16) (k : Fin k0_t3_loop.trips) (p : View.Piece (Elt Ideal) S256x5120 .f32) :
    ∀ n hn, p ∈ accL c X acc k ACC av n hn → ∃ r : Fin 10, p = ⟨R93 r, accS c X acc k ACC av r⟩
  | 0, _, h => absurd h List.not_mem_nil
  | n + 1, hn, h => by
    rcases List.mem_cons.1 h with rfl | h
    · exact ⟨⟨n, hn⟩, rfl⟩
    · exact mem_accL ACC av k p n _ h
omit H hH2 in
theorem in_accL (ACC : Buf (Elt Ideal) (acc.view.loc (c : Thread nD τ))) (av : Vec Ideal S1x256x512 .bf16) (k : Fin k0_t3_loop.trips) (r : Fin 10) :
    ∀ n hn, r.val < n → (⟨R93 r, accS c X acc k ACC av r⟩ : View.Piece (Elt Ideal) S256x5120 .f32) ∈ accL c X acc k ACC av n hn
  | 0, _, h => absurd h (by omega)
  | n + 1, hn, h => by
    by_cases e : r.val = n
    · obtain rfl : r = ⟨n, hn⟩ := Fin.ext e
      exact .head _
    · exact .tail _ (in_accL ACC av k r n _ (by omega))

theorem accNext_at (k : Fin k0_t3_loop.trips) (ACC : Buf (Elt Ideal) (acc.view.loc (c : Thread nD τ))) (i : Fin 256) (J : Fin 5120) :
    acc.view.read (Elt Ideal) (accNext c X arg3 arg4 h2 acc X3 X4 k H2 ACC) (ix2 i J) = acc.view.read (Elt Ideal) ACC (ix2 i J) + dn I i J k.val := by
  have hk : k.val < 28 := t3_lt k
  unfold accNext
  refine (View.read_writes_apply_of_pieces (Val := Elt Ideal) acc.view ACC (fun z : S256x5120.Idx => acc.view.read (Elt Ideal) ACC z + dn I (z 0) (z 1) k.val) _ (fun p hp x => ?_) (ix2 i J)
    ⟨_, in_accL ACC _ k ⟨J.val / 512, by omega⟩ 10 _ (by show J.val / 512 < 10; omega), (Rect.mem_set_unit (inb := k0_off93_inb _)).2 fun a => ?_⟩).trans rfl
  · obtain ⟨r, rfl⟩ := mem_accL _ _ _ p 10 _ hp
    have hx0 : (x 0).val < 256 := (x 0).isLt
    have hx1 : (x 1).val < 512 := (x 1).isLt
    rw [emb_unit (s := S256x5120) _ S256x512.size (k0_off93_eq r) (k0_off93_inb r) x
      (ix2 (⟨(x 0).val, hx0⟩ : Fin 256) (⟨512 * r.val + (x 1).val, by omega⟩ : Fin 5120)) (fun a => by
        fin_cases a
        · exact (Nat.zero_add _).symm
        · rfl)]
    refine (congrArg (accS c X acc k ACC _ r) (eq_ix2 x)).trans ?_
    unfold accS
    refine (pay77_at _ _ _ _ _).trans (congrArg₂ (· + ·) (rd acc c ACC _ _ (k0_off93_eq r) _ _ _ fun a => ?_) ?_)
    · fin_cases a
      · exact (Nat.zero_add _).symm
      · rfl
    · unfold dn
      rw [dif_pos hk]
      exact Finset.sum_congr rfl fun t _ => congrArg₂ (· * ·) (actR_at H H2 hH2 k _ _ t) ((dRead_at c X k r t _).trans (H.wd _ _))
  · rw [k0_off93_eq]
    fin_cases a
    · exact ⟨Nat.zero_le _, by show i.val < 0 + 256; omega⟩
    · exact ⟨by show 512 * (J.val / 512) ≤ J.val; omega, by show J.val < 512 * (J.val / 512) + 512; omega⟩
theorem accSt_at (i : Fin 256) (J : Fin 5120) : ∀ n, n ≤ 28 →
    acc.view.read (Elt Ideal) (accSt c X arg3 arg4 h2 acc X3 X4 H2 n) (ix2 i J) = ∑ b ∈ Finset.range n, dn I i J b
  | 0, _ => by
    rw [accSt]
    exact (wr_unit acc c _ _ (by decide) _ _ (ix2 i J)).trans (pay143_at i J)
  | n + 1, hn => by
    have e : (t3i n).val = n := Nat.mod_eq_of_lt (by omega)
    rw [accSt, accNext_at H H2 hH2, accSt_at i J n (by omega), e, Finset.sum_range_succ]
/-- The down projection's sums. -/
theorem ACCf_at (i : Fin 256) (J : Fin 5120) : acc.view.read (Elt Ideal) (accSt c X arg3 arg4 h2 acc X3 X4 H2 28) (ix2 i J)
    = ∑ b : Fin 28, ∑ t : Fin 512, I.act i ⟨512 * b.val + t.val, by omega⟩ * I.wd ⟨512 * b.val + t.val, by omega⟩ J :=
  (accSt_at H H2 hH2 i J 28 le_rfl).trans ((Finset.sum_range (fun b => dn I i J b)).trans (Finset.sum_congr rfl fun b _ => dif_pos b.isLt))
end Act

/-! ## The last residual -/

section Fin
omit H in
theorem mem_finL (HM : Buf (Elt Ideal) (hm.view.loc (c : Thread nD τ))) (ACC : Buf (Elt Ideal) (acc.view.loc (c : Thread nD τ))) (k : Fin k0_t4_loop.trips) (p : View.Piece (Elt Ideal) S256x5120 .bf16) :
    ∀ n hn, p ∈ finL c arg5 hm acc X5 HM ACC k n hn → ∃ r : Fin 40, p = ⟨R99 k r, fin1 c arg5 hm acc X5 HM ACC k r⟩
  | 0, _, h => absurd h List.not_mem_nil
  | n + 1, hn, h => by
    rcases List.mem_cons.1 h with rfl | h
    · exact ⟨⟨n, hn⟩, rfl⟩
    · exact mem_finL HM ACC k p n _ h
omit H in
theorem in_finL (HM : Buf (Elt Ideal) (hm.view.loc (c : Thread nD τ))) (ACC : Buf (Elt Ideal) (acc.view.loc (c : Thread nD τ))) (k : Fin k0_t4_loop.trips) (r : Fin 40) :
    ∀ n hn, r.val < n → (⟨R99 k r, fin1 c arg5 hm acc X5 HM ACC k r⟩ : View.Piece (Elt Ideal) S256x5120 .bf16) ∈ finL c arg5 hm acc X5 HM ACC k n hn
  | 0, _, h => absurd h (by omega)
  | n + 1, hn, h => by
    by_cases e : r.val = n
    · obtain rfl : r = ⟨n, hn⟩ := Fin.ext e
      exact .head _
    · exact .tail _ (in_finL HM ACC k r n _ (by omega))
omit H in
theorem R99_mem (k : Fin k0_t4_loop.trips) (r : Fin 40) (i : Fin 256) (J : Fin 5120) :
    (ix2 i J : S256x5120.Idx) ∈ (R99 k r).set ↔ (32 * k.val ≤ i.val ∧ i.val < 32 * k.val + 32) ∧ (128 * r.val ≤ J.val ∧ J.val < 128 * r.val + 128) := by
  refine (Rect.mem_set_unit (inb := k0_off99_inb k r)).trans ?_
  rw [k0_off99_eq k r]
  exact ⟨fun h => ⟨h 0, h 1⟩, fun h a => by
    fin_cases a
    · exact h.1
    · exact h.2⟩

variable (HM : Buf (Elt Ideal) (hm.view.loc (c : Thread nD τ))) (ACC : Buf (Elt Ideal) (acc.view.loc (c : Thread nD τ)))
    (hHM : ∀ i J, hm.view.read (Elt Ideal) HM (ix2 i J) = I.hs i J)
    (hA : ∀ i J, acc.view.read (Elt Ideal) ACC (ix2 i J) = ∑ b : Fin 28, ∑ t : Fin 512, I.act i ⟨512 * b.val + t.val, by omega⟩ * I.wd ⟨512 * b.val + t.val, by omega⟩ J)
include hA
theorem fin1_at (HM' : Buf (Elt Ideal) (hm.view.loc (c : Thread nD τ))) (k : Fin k0_t4_loop.trips) (r : Fin 40) (i : Fin 32) (l : Fin 128) (i' : Fin 256) (J : Fin 5120)
    (ei : i'.val = 32 * k.val + i.val) (eJ : J.val = 128 * r.val + l.val) (hHM' : hm.view.read (Elt Ideal) HM' (ix2 i' J) = I.hs i' J) :
    fin1 c arg5 hm acc X5 HM' ACC k r (ix2 i l) = I.out i' J := by
  unfold fin1
  rw [pay85_at]
  have e2 : View.readAt (Elt Ideal) hm.view (R99 k r).toLoadRect HM' (ix2 i l) = I.hs i' J :=
    (rd hm c HM' _ _ (k0_off99_eq k r) _ _ (ix2 i' J) fun a => by
      fin_cases a
      · exact ei
      · exact eJ).trans hHM'
  have e4 : View.readAt (Elt Ideal) acc.view (R99 k r).toLoadRect ACC (ix2 i l) = _ :=
    (rd acc c ACC _ _ (k0_off99_eq k r) _ _ (ix2 i' J) fun a => by
      fin_cases a
      · exact ei
      · exact eJ).trans (hA i' J)
  have e3 : View.readAt (Elt Ideal) arg5.view (Rect.unit (s := S40x128) ![r.val, 0] S1x128.size (row_inb r)).toLoadRect X5 (ix2 0 l) = I.sd J :=
    (rd arg5 c X5 _ _ rfl _ _ (ix2 r l) fun a => by
      fin_cases a
      · rfl
      · exact (Nat.zero_add l.val).symm).trans ((H.sd r l).trans (congrArg I.sd (Fin.ext eJ.symm)))
  rw [e2, e3, e4]
  rfl
include hHM
theorem hmFin_at : ∀ n, n ≤ 8 → ∀ (i : Fin 256) (J : Fin 5120),
    hm.view.read (Elt Ideal) (hmFin c arg5 hm acc X5 HM ACC n) (ix2 i J) = if i.val < 32 * n then I.out i J else I.hs i J
  | 0, _, i, J => by rw [if_neg (by omega)]; exact hHM i J
  | n + 1, hn, i, J => by
    have e : (t4i n).val = n := Nat.mod_eq_of_lt (by omega)
    rw [hmFin]
    by_cases h' : 32 * n ≤ i.val ∧ i.val < 32 * n + 32
    · rw [if_pos (by omega)]
      refine (View.read_writes_apply_of_pieces (Val := Elt Ideal) hm.view _ (fun z : S256x5120.Idx => I.out (z 0) (z 1)) _ (fun p hp x => ?_) (ix2 i J)
        ⟨_, in_finL _ _ (t4i n) ⟨J.val / 128, by omega⟩ 40 _ (by show J.val / 128 < 40; omega), (R99_mem _ _ i J).2 ⟨by rw [e]; omega, by show 128 * (J.val / 128) ≤ J.val; omega, by show J.val < 128 * (J.val / 128) + 128; omega⟩⟩)
      obtain ⟨r, rfl⟩ := mem_finL _ _ _ p 40 _ hp
      have hx0 : (x 0).val < 32 := (x 0).isLt
      have hx1 : (x 1).val < 128 := (x 1).isLt
      rw [emb_unit (s := S256x5120) _ S32x128.size (k0_off99_eq (t4i n) r) (k0_off99_inb (t4i n) r) x
        (ix2 (⟨32 * (t4i n).val + (x 0).val, by omega⟩ : Fin 256) (⟨128 * r.val + (x 1).val, by omega⟩ : Fin 5120)) (fun a => by fin_cases a <;> rfl)]
      refine (congrArg _ (eq_ix2 x)).trans (fin1_at H ACC hA _ (t4i n) r _ _ _ _ rfl rfl ((hmFin_at n (by omega) _ _).trans (if_neg ?_)))
      show ¬ 32 * (t4i n).val + (x 0).val < 32 * n
      omega
    · refine (View.read_writes_apply_of_forall_not_mem (Val := Elt Ideal) hm.view _ (ix2 i J) _ fun p hp => ?_).trans ((hmFin_at n (by omega) i J).trans ?_)
      · obtain ⟨r, rfl⟩ := mem_finL _ _ _ p 40 _ hp
        intro hc
        have := (R99_mem (t4i n) r i J).1 hc
        rw [e] at this
        omega
      · by_cases h : i.val < 32 * n
        · rw [if_pos h, if_pos (by omega)]
        · rw [if_neg h, if_neg (by omega)]
theorem hmFin8_at (i : Fin 256) (J : Fin 5120) : hm.view.read (Elt Ideal) (hmFin c arg5 hm acc X5 HM ACC 8) (ix2 i J) = I.out i J :=
  (hmFin_at H HM ACC hHM hA 8 le_rfl i J).trans (if_pos (by omega))
end Fin

end Cert.Proof.Val
end
-- ==== Proof.ValRes.lean ====
module

public import proofs.«01_k».proof.Proof.ValFf
public import proofs.«01_k».proof.Proof.Launch
public import Idealize.ShloMosaic.Lib.Pipeline.ValueKit

@[expose] public section

set_option maxRecDepth 16384

/-! The kernel's three results, read at an index. -/

noncomputable section

namespace Cert.Proof.Val

open Cert.KernelIdeal Cert.KernelIdeal.Gen Cert.Proof.Layer Idealize.ShloMosaic Idealize.ShloMosaic.TcCoe Idealize.ShloMosaic.Tactic

variable (m : (ℓ : Loc nD τ sig) → Buf (Elt Ideal) ℓ) (c : Dev nD)

/-- The kernel's operands, read at indices. -/
def Ik : Ops where
  x i J := m ((c : Thread nD τ).loc main_arg0) (ix2 i J)
  A p i t := m ((c : Thread nD τ).loc main_arg1) (ix3 i ⟨4 * p.val + t.val / 128, by omega⟩ ⟨t.val % 128, by omega⟩)
  g J := m ((c : Thread nD τ).loc main_arg2) (ix1 J)
  wo t J := m ((c : Thread nD τ).loc main_arg3) (ix2 t J)
  so J := m ((c : Thread nD τ).loc main_arg4) (ix1 J)
  wg t J := m ((c : Thread nD τ).loc main_arg5) (ix2 t J)
  sg J := m ((c : Thread nD τ).loc main_arg6) (ix1 J)
  wu t J := m ((c : Thread nD τ).loc main_arg7) (ix2 t J)
  su J := m ((c : Thread nD τ).loc main_arg8) (ix1 J)
  wd t J := m ((c : Thread nD τ).loc main_arg9) (ix2 t J)
  sd J := m ((c : Thread nD τ).loc main_arg10) (ix1 J)

theorem idx0 : win0_0.index t0_0 = fun _ => 0 := by funext a; fin_cases a <;> rfl
theorem idx1 : win0_1.index t0_0 = fun _ => 0 := by funext a; fin_cases a <;> rfl
theorem idx2 : win0_2.index t0_0 = fun _ => 0 := by funext a; fin_cases a <;> rfl
theorem idx3 : win0_3.index t0_0 = fun _ => 0 := by funext a; fin_cases a <;> rfl
theorem idx4 : win0_4.index t0_0 = fun _ => 0 := by funext a; fin_cases a <;> rfl
theorem idx5 : win0_5.index t0_0 = fun _ => 0 := by funext a; fin_cases a <;> rfl
theorem idx6 : win0_6.index t0_0 = fun _ => 0 := by funext a; fin_cases a <;> rfl
theorem V1_at (p : Fin 8) (i : Fin 256) (t : Fin 512) : V m c main_v1 (ix3 p i t : S8x256x512.Idx) = (Ik m c).A p i t := by
  entry_read
  pointwise
  exact congrArg (m ((c : Thread nD τ).loc main_arg1)) (congrArg (fun q => ix3 i q _) (Fin.ext (by show p.val * 4 + t.val / 128 = 4 * p.val + t.val / 128; omega)))
theorem V2_at (r : Fin 40) (l : Fin 128) : V m c main_v2 (ix2 r l : S40x128.Idx) = (Ik m c).g ⟨128 * r.val + l.val, by omega⟩ := by
  entry_read
  pointwise
  exact congrArg (m ((c : Thread nD τ).loc main_arg2)) (congrArg ix1 (Fin.ext (by show r.val * 128 + l.val = 128 * r.val + l.val; omega)))
theorem V3_at (r : Fin 40) (l : Fin 128) : V m c main_v3 (ix2 r l : S40x128.Idx) = (Ik m c).so ⟨128 * r.val + l.val, by omega⟩ := by
  entry_read
  pointwise
  exact congrArg (m ((c : Thread nD τ).loc main_arg4)) (congrArg ix1 (Fin.ext (by show r.val * 128 + l.val = 128 * r.val + l.val; omega)))
theorem V4_at (r : Fin 112) (l : Fin 128) : V m c main_v4 (ix2 r l : S112x128.Idx) = (Ik m c).sg ⟨128 * r.val + l.val, by omega⟩ := by
  entry_read
  pointwise
  exact congrArg (m ((c : Thread nD τ).loc main_arg6)) (congrArg ix1 (Fin.ext (by show r.val * 128 + l.val = 128 * r.val + l.val; omega)))
theorem V5_at (r : Fin 112) (l : Fin 128) : V m c main_v5 (ix2 r l : S112x128.Idx) = (Ik m c).su ⟨128 * r.val + l.val, by omega⟩ := by
  entry_read
  pointwise
  exact congrArg (m ((c : Thread nD τ).loc main_arg8)) (congrArg ix1 (Fin.ext (by show r.val * 128 + l.val = 128 * r.val + l.val; omega)))
theorem V6_at (r : Fin 40) (l : Fin 128) : V m c main_v6 (ix2 r l : S40x128.Idx) = (Ik m c).sd ⟨128 * r.val + l.val, by omega⟩ := by
  entry_read
  pointwise
  exact congrArg (m ((c : Thread nD τ).loc main_arg10)) (congrArg ix1 (Fin.ext (by show r.val * 128 + l.val = 128 * r.val + l.val; omega)))
theorem blk0_at (i : Fin 256) (J : Fin 5120) : iblk m c 0 t0_0 (ix2 i J : S256x5120.Idx) = (Ik m c).x i J := by
  unfold Ik; blk_ext [iblk, V, idx0]
theorem blk6_at (p : Fin 8) (i : Fin 256) (t : Fin 512) : iblk m c 6 t0_0 (ix3 p i t : S8x256x512.Idx) = V m c main_v1 (ix3 p i t : S8x256x512.Idx) := by
  blk_ext [iblk, idx6]
theorem blk1_at (r : Fin 40) (l : Fin 128) : iblk m c 1 t0_0 (ix2 r l : S40x128.Idx) = V m c main_v2 (ix2 r l : S40x128.Idx) := by
  blk_ext [iblk, idx1]
theorem blk2_at (r : Fin 40) (l : Fin 128) : iblk m c 2 t0_0 (ix2 r l : S40x128.Idx) = V m c main_v3 (ix2 r l : S40x128.Idx) := by
  blk_ext [iblk, idx2]
theorem blk3_at (r : Fin 112) (l : Fin 128) : iblk m c 3 t0_0 (ix2 r l : S112x128.Idx) = V m c main_v4 (ix2 r l : S112x128.Idx) := by
  blk_ext [iblk, idx3]
theorem blk4_at (r : Fin 112) (l : Fin 128) : iblk m c 4 t0_0 (ix2 r l : S112x128.Idx) = V m c main_v5 (ix2 r l : S112x128.Idx) := by
  blk_ext [iblk, idx4]
theorem blk5_at (r : Fin 40) (l : Fin 128) : iblk m c 5 t0_0 (ix2 r l : S40x128.Idx) = V m c main_v6 (ix2 r l : S40x128.Idx) := by
  blk_ext [iblk, idx5]

theorem holds : Holds (Ik m c) c (wts m c) (st0 t0_0) (st1 t0_0) (st2 t0_0) (st3 t0_0) (st4 t0_0) (st5 t0_0) (st6 t0_0)
    (in0 m c) (in1 m c) (in2 m c) (in3 m c) (in4 m c) (in5 m c) (in6 m c) where
  x i J := (congrFun (View.read_rep (st0 t0_0).view _) _).trans (blk0_at m c i J)
  A p i t := (congrFun (View.read_rep (st6 t0_0).view _) _).trans ((blk6_at m c p i t).trans (V1_at m c p i t))
  g r l := (congrFun (View.read_rep (st1 t0_0).view _) _).trans ((blk1_at m c r l).trans (V2_at m c r l))
  so r l := (congrFun (View.read_rep (st2 t0_0).view _) _).trans ((blk2_at m c r l).trans (V3_at m c r l))
  sg r l := (congrFun (View.read_rep (st3 t0_0).view _) _).trans ((blk3_at m c r l).trans (V4_at m c r l))
  su r l := (congrFun (View.read_rep (st4 t0_0).view _) _).trans ((blk4_at m c r l).trans (V5_at m c r l))
  sd r l := (congrFun (View.read_rep (st5 t0_0).view _) _).trans ((blk5_at m c r l).trans (V6_at m c r l))
  wo t J := congrFun (V_main_arg3 m c) (ix2 t J)
  wg t J := congrFun (V_main_arg5 m c) (ix2 t J)
  wu t J := congrFun (V_main_arg7 m c) (ix2 t J)
  wd t J := congrFun (V_main_arg9 m c) (ix2 t J)

variable (HM0 : Buf (Elt Ideal) (hmM.view.loc (c : Thread nD τ))) (H20 : Buf (Elt Ideal) (h2M.view.loc (c : Thread nD τ)))
theorem readHmid (f : Buf (Elt Ideal) ((c : Thread nD τ).loc main_v7_1)) : hmidM.view.read (Elt Ideal) f = f := View.read_whole main_v7_1 f
theorem readOut (f : Buf (Elt Ideal) ((c : Thread nD τ).loc main_v7_0)) : outM.view.read (Elt Ideal) f = f := View.read_whole main_v7_0 f
theorem actBuf_of (V : ℕ → S256x512.Idx → Elt Ideal .bf16) (y : S256x14336.Idx) (b : Fin 28) (h : blkOf y = b) :
    actBuf c V y = (mactBlk b).view.writes (Elt Ideal) (mactBlk b).view.junk [⟨Rect.whole S256x512, V b.val⟩] y := by
  subst h
  rfl
/-- The residual stream after attention, whatever the scratch held. -/
theorem hmidV_at (i : Fin 256) (J : Fin 5120) : hmidV m c HM0 (ix2 i J : S256x5120.Idx) = (Ik m c).hs i J := by
  have h : hmidM.view.read (Elt Ideal) (hmidV m c HM0) (ix2 i J) = hmM.view.read (Elt Ideal) (resHM m c HM0) (ix2 i J) := by
    unfold hmidV
    rw [View.read_writes_whole]
  have e : hmM.view.read (Elt Ideal) (resHM m c HM0) (ix2 i J) = (Ik m c).hs i J := HMf_at (holds m c) HM0 i J
  exact (congrFun (readHmid c _) _).symm.trans (h.trans e)
/-- The layer's output, whatever the scratch held. -/
theorem outV_at (i : Fin 256) (J : Fin 5120) : outV m c HM0 H20 (ix2 i J : S256x5120.Idx) = (Ik m c).out i J := by
  have h : outM.view.read (Elt Ideal) (outV m c HM0 H20) (ix2 i J) = hmM.view.read (Elt Ideal) (resOUT m c HM0 H20) (ix2 i J) := by
    unfold outV
    rw [View.read_writes_whole]
  have e : hmM.view.read (Elt Ideal) (resOUT m c HM0 H20) (ix2 i J) = (Ik m c).out i J := by
    unfold resOUT vHM vACC vH2
    exact hmFin8_at (holds m c) _ _ (HMf_at (holds m c) HM0) (fun i J => ACCf_at (holds m c) _ (H2f_at (holds m c) HM0 H20) i J) i J
  exact (congrFun (readOut c _) _).symm.trans (h.trans e)
theorem readMact (b : Fin 28) (f : Buf (Elt Ideal) ((c : Thread nD τ).loc main_v7_2)) (i : Fin 256) (j : Fin 512) (n : Fin 14336) (h : n.val = 512 * b.val + j.val) :
    (mactBlk b).view.read (Elt Ideal) f (ix2 i j) = f (ix2 i n : S256x14336.Idx) := by
  have e : (Rect.unit (s := S256x14336) (colOff b.val) S256x512.size (mactBlk_inb b)).emb (ix2 i j) = (ix2 i n : S256x14336.Idx) :=
    emb_unit (s := S256x14336) (colOff b.val) S256x512.size rfl (mactBlk_inb b) (ix2 i j) (ix2 i n) fun a => by
      fin_cases a
      · exact (Nat.zero_add i.val).symm
      · exact h
  rw [← e]
  rfl
theorem resACT_at (b : Fin 28) (i : Fin 256) (j : Fin 512) : resACT m c HM0 H20 b.val (ix2 i j) = (Ik m c).act i ⟨512 * b.val + j.val, by omega⟩ := by
  unfold resACT vACT vH2
  exact VA_at (holds m c) _ (H2f_at (holds m c) HM0 H20) b i j
theorem actBuf_at (V : ℕ → S256x512.Idx → Elt Ideal .bf16) (b : Fin 28) (i : Fin 256) (j : Fin 512) (n : Fin 14336) (h : n.val = 512 * b.val + j.val) :
    actBuf c V (ix2 i n : S256x14336.Idx) = V b.val (ix2 i j) := by
  refine (actBuf_of c V _ b (Fin.ext (by show n.val / 512 = b.val; omega))).trans ?_
  refine (readMact c b _ i j n h).symm.trans ?_
  rw [View.read_writes_whole]
/-- The activation, whatever the scratch held. -/
theorem mactV_at (i : Fin 256) (n : Fin 14336) : mactV m c HM0 H20 (ix2 i n : S256x14336.Idx) = (Ik m c).act i n := by
  have hb : n.val / 512 < 28 := by omega
  have hj : n.val % 512 < 512 := by omega
  unfold mactV
  refine (actBuf_at c _ ⟨n.val / 512, hb⟩ i ⟨n.val % 512, hj⟩ n (by show n.val = 512 * (n.val / 512) + n.val % 512; omega)).trans ?_
  refine (resACT_at m c HM0 H20 ⟨n.val / 512, hb⟩ i ⟨n.val % 512, hj⟩).trans (congrArg ((Ik m c).act i) (Fin.ext ?_))
  show 512 * (n.val / 512) + n.val % 512 = n.val
  omega
end Cert.Proof.Val
end
-- ==== Proof.ValRef.lean ====
module

public import proofs.«01_k».proof.Proof.ValRd
public import proofs.«01_k».proof.Proof.Gen.ReferenceIdeal.Value
public import Idealize.ShloMosaic.Lib.Pipeline.ValueKit

@[expose] public section

set_option maxRecDepth 16384

/-! The reference's three results, read at an index. -/

noncomputable section

namespace Cert.Proof.ValR

open Cert.ReferenceIdeal Cert.ReferenceIdeal.Gen Cert.Proof.Val Idealize.ShloMosaic Idealize.ShloMosaic.TcCoe Idealize.ShloMosaic.Tactic

section Pay
variable (x : Vec Ideal S256x5120 .bf16) (a : Vec Ideal S256x4096 .bf16) (g : Vec Ideal S1x5120 .f32) (wo : Vec Ideal S4096x5120 .fp8e4m3) (so : Vec Ideal S1x5120 .f32)

theorem pay3_at (i : Fin 256) (J : Fin 5120) : k0_pay3 x a wo so (ix2 i J) = x (ix2 i J) + (∑ t : Fin 4096, a (ix2 i t) * wo (ix2 t J)) * so (ix2 0 J) := by
  pointwise [k0_pay3]
theorem pay4_at (i : Fin 256) (J : Fin 5120) : k0_pay4 x a wo so g (ix2 i J)
    = k0_pay3 x a wo so (ix2 i J) * Ideal.rsqrt (Ideal.div (∑ t : Fin 5120, k0_pay3 x a wo so (ix2 i t) * k0_pay3 x a wo so (ix2 i t)) (Ideal.ofBits .f32 0x45A00000#32) + Ideal.ofBits .f32 0x3727C5AC#32) * g (ix2 0 J) := by
  pointwise [k0_pay4]
variable (wg : Vec Ideal S5120x14336 .fp8e4m3) (sg : Vec Ideal S1x14336 .f32)
theorem pay5_at (i : Fin 256) (n : Fin 14336) : k0_pay5 x a wo so g wg sg (ix2 i n) = (∑ t : Fin 5120, k0_pay4 x a wo so g (ix2 i t) * wg (ix2 t n)) * sg (ix2 0 n) := by
  pointwise [k0_pay5]
theorem pay1_at (h : FVec Ideal S256x5120 .bf16) (gt : FVec Ideal S256x14336 .f32) (i : Fin 256) (n : Fin 14336) :
    k0_pay1 h gt wg sg (ix2 i n) = gated (gt (ix2 i n)) ((∑ t : Fin 5120, h (ix2 i t) * wg (ix2 t n)) * sg (ix2 0 n)) := by
  pointwise [k0_pay1, gated]
theorem pay2_at (hm : FVec Ideal S256x5120 .bf16) (h : FVec Ideal S256x5120 .bf16) (gt : FVec Ideal S256x14336 .f32) (wd : Vec Ideal S14336x5120 .fp8e4m3) (sd : Vec Ideal S1x5120 .f32) (i : Fin 256) (J : Fin 5120) :
    k0_pay2 hm h gt wg sg wd sd (ix2 i J) = hm (ix2 i J) + (∑ n : Fin 14336, k0_pay1 h gt wg sg (ix2 i n) * wd (ix2 n J)) * sd (ix2 0 J) := by
  pointwise [k0_pay2]
end Pay

variable (m : (ℓ : Loc nD τ sig) → Buf (Elt Ideal) ℓ) (c : Dev nD)

/-- The reference's operands, read at indices. -/
def Ir : Ops where
  x i J := m ((c : Thread nD τ).loc main_arg0) (ix2 i J)
  A p i t := m ((c : Thread nD τ).loc main_arg1) (ix3 i ⟨4 * p.val + t.val / 128, by omega⟩ ⟨t.val % 128, by omega⟩)
  g J := m ((c : Thread nD τ).loc main_arg2) (ix1 J)
  wo t J := m ((c : Thread nD τ).loc main_arg3) (ix2 t J)
  so J := m ((c : Thread nD τ).loc main_arg4) (ix1 J)
  wg t J := m ((c : Thread nD τ).loc main_arg5) (ix2 t J)
  sg J := m ((c : Thread nD τ).loc main_arg6) (ix1 J)
  wu t J := m ((c : Thread nD τ).loc main_arg7) (ix2 t J)
  su J := m ((c : Thread nD τ).loc main_arg8) (ix1 J)
  wd t J := m ((c : Thread nD τ).loc main_arg9) (ix2 t J)
  sd J := m ((c : Thread nD τ).loc main_arg10) (ix1 J)

theorem idx0 : win0_0.index t0_0 = fun _ => 0 := by funext a; fin_cases a <;> rfl
theorem idx1 : win0_1.index t0_0 = fun _ => 0 := by funext a; fin_cases a <;> rfl
theorem idx2 : win0_2.index t0_0 = fun _ => 0 := by funext a; fin_cases a <;> rfl
theorem idx3 : win0_3.index t0_0 = fun _ => 0 := by funext a; fin_cases a <;> rfl
theorem idx4 : win0_4.index t0_0 = fun _ => 0 := by funext a; fin_cases a <;> rfl
theorem idx5 : win0_5.index t0_0 = fun _ => 0 := by funext a; fin_cases a <;> rfl
theorem idx6 : win0_6.index t0_0 = fun _ => 0 := by funext a; fin_cases a <;> rfl
theorem idx7 : win0_7.index t0_0 = fun _ => 0 := by funext a; fin_cases a <;> rfl
theorem idx8 : win0_8.index t0_0 = fun _ => 0 := by funext a; fin_cases a <;> rfl
theorem idx9 : win0_9.index t0_0 = fun _ => 0 := by funext a; fin_cases a <;> rfl
theorem idx10 : win0_10.index t0_0 = fun _ => 0 := by funext a; fin_cases a <;> rfl
theorem V0_at (i : Fin 256) (p : Fin 8) (t : Fin 512) : V m c main_v0 (ix2 i (⟨p.val * 512 + t.val, by omega⟩ : Fin 4096) : S256x4096.Idx) = (Ir m c).A p i t := by
  entry_read
  pointwise
  exact congrArg (m ((c : Thread nD τ).loc main_arg1)) (congrArg₂ (fun q r => ix3 i q r) (Fin.ext (by show (p.val * 512 + t.val) / 128 = 4 * p.val + t.val / 128; omega)) (Fin.ext (by show (p.val * 512 + t.val) % 128 = t.val % 128; omega)))
theorem V1_at (J : Fin 5120) : V m c main_v1 (ix2 0 J : S1x5120.Idx) = (Ir m c).g J := by
  entry_read
  pointwise
  rfl
theorem blk2_at (J : Fin 5120) : iblk m c 2 t0_0 (ix2 0 J : S1x5120.Idx) = (Ir m c).g J := by
  refine Eq.trans ?_ (V1_at m c J)
  blk_ext [iblk, idx2]
theorem V2_at (J : Fin 5120) : V m c main_v2 (ix2 0 J : S1x5120.Idx) = (Ir m c).so J := by
  entry_read
  pointwise
  rfl
theorem blk4_at (J : Fin 5120) : iblk m c 4 t0_0 (ix2 0 J : S1x5120.Idx) = (Ir m c).so J := by
  refine Eq.trans ?_ (V2_at m c J)
  blk_ext [iblk, idx4]
theorem V3_at (J : Fin 14336) : V m c main_v3 (ix2 0 J : S1x14336.Idx) = (Ir m c).sg J := by
  entry_read
  pointwise
  rfl
theorem blk6_at (J : Fin 14336) : iblk m c 6 t0_0 (ix2 0 J : S1x14336.Idx) = (Ir m c).sg J := by
  refine Eq.trans ?_ (V3_at m c J)
  blk_ext [iblk, idx6]
theorem V4_at (J : Fin 14336) : V m c main_v4 (ix2 0 J : S1x14336.Idx) = (Ir m c).su J := by
  entry_read
  pointwise
  rfl
theorem blk8_at (J : Fin 14336) : iblk m c 8 t0_0 (ix2 0 J : S1x14336.Idx) = (Ir m c).su J := by
  refine Eq.trans ?_ (V4_at m c J)
  blk_ext [iblk, idx8]
theorem V5_at (J : Fin 5120) : V m c main_v5 (ix2 0 J : S1x5120.Idx) = (Ir m c).sd J := by
  entry_read
  pointwise
  rfl
theorem blk10_at (J : Fin 5120) : iblk m c 10 t0_0 (ix2 0 J : S1x5120.Idx) = (Ir m c).sd J := by
  refine Eq.trans ?_ (V5_at m c J)
  blk_ext [iblk, idx10]
theorem blk1_at (i : Fin 256) (p : Fin 8) (t : Fin 512) : iblk m c 1 t0_0 (ix2 i (⟨p.val * 512 + t.val, by omega⟩ : Fin 4096) : S256x4096.Idx) = (Ir m c).A p i t := by
  refine Eq.trans ?_ (V0_at m c i p t)
  blk_ext [iblk, idx1]
theorem blk0_at (i : Fin 256) (J : Fin 5120) : iblk m c 0 t0_0 (ix2 i J : S256x5120.Idx) = (Ir m c).x i J := by
  unfold Ir; blk_ext [iblk, V, idx0]
theorem blk3_at (i : Fin 4096) (J : Fin 5120) : iblk m c 3 t0_0 (ix2 i J : S4096x5120.Idx) = (Ir m c).wo i J := by
  unfold Ir; blk_ext [iblk, V, idx3]
theorem blk5_at (i : Fin 5120) (J : Fin 14336) : iblk m c 5 t0_0 (ix2 i J : S5120x14336.Idx) = (Ir m c).wg i J := by
  unfold Ir; blk_ext [iblk, V, idx5]
theorem blk7_at (i : Fin 5120) (J : Fin 14336) : iblk m c 7 t0_0 (ix2 i J : S5120x14336.Idx) = (Ir m c).wu i J := by
  unfold Ir; blk_ext [iblk, V, idx7]
theorem blk9_at (i : Fin 14336) (J : Fin 5120) : iblk m c 9 t0_0 (ix2 i J : S14336x5120.Idx) = (Ir m c).wd i J := by
  unfold Ir; blk_ext [iblk, V, idx9]
theorem ld0 {e : EltTy} (x : Vec Ideal S256x5120 e) (j : S256x5120.Idx) : View.ld x r0_0 j = x j := by
  exact congrFun (View.ld_unit_lit _ x (by decide)) j
theorem ld1 {e : EltTy} (x : Vec Ideal S256x4096 e) (j : S256x4096.Idx) : View.ld x r0_1 j = x j := by
  exact congrFun (View.ld_unit_lit _ x (by decide)) j
theorem ld2 {e : EltTy} (x : Vec Ideal S4096x5120 e) (j : S4096x5120.Idx) : View.ld x r0_2 j = x j := by
  exact congrFun (View.ld_unit_lit _ x (by decide)) j
theorem ld3 {e : EltTy} (x : Vec Ideal S1x5120 e) (j : S1x5120.Idx) : View.ld x r0_3 j = x j := by
  exact congrFun (View.ld_unit_lit _ x (by decide)) j
theorem ld4 {e : EltTy} (x : Vec Ideal S5120x14336 e) (j : S5120x14336.Idx) : View.ld x r0_4 j = x j := by
  exact congrFun (View.ld_unit_lit _ x (by decide)) j
theorem ld5 {e : EltTy} (x : Vec Ideal S1x14336 e) (j : S1x14336.Idx) : View.ld x r0_5 j = x j := by
  exact congrFun (View.ld_unit_lit _ x (by decide)) j
theorem ld6 {e : EltTy} (x : Vec Ideal S14336x5120 e) (j : S14336x5120.Idx) : View.ld x r0_6 j = x j := by
  exact congrFun (View.ld_unit_lit _ x (by decide)) j

section Blocks
variable (x0 : Vec Ideal S256x5120 .bf16) (x1 : Vec Ideal S256x4096 .bf16) (x2 : Vec Ideal S1x5120 .f32) (x3 : Vec Ideal S4096x5120 .fp8e4m3) (x4 : Vec Ideal S1x5120 .f32)
  (x5 : Vec Ideal S5120x14336 .fp8e4m3) (x6 : Vec Ideal S1x14336 .f32) (x7 : Vec Ideal S5120x14336 .fp8e4m3) (x8 : Vec Ideal S1x14336 .f32) (x9 : Vec Ideal S14336x5120 .fp8e4m3) (x10 : Vec Ideal S1x5120 .f32)
  (I : Ops) (h0 : ∀ i J, x0 (ix2 i J) = I.x i J) (h1 : ∀ i (p : Fin 8) (t : Fin 512), x1 (ix2 i (⟨p.val * 512 + t.val, by omega⟩ : Fin 4096)) = I.A p i t) (h2 : ∀ J, x2 (ix2 0 J) = I.g J)
  (h3 : ∀ i J, x3 (ix2 i J) = I.wo i J) (h4 : ∀ J, x4 (ix2 0 J) = I.so J) (h5 : ∀ i J, x5 (ix2 i J) = I.wg i J) (h6 : ∀ J, x6 (ix2 0 J) = I.sg J)
  (h7 : ∀ i J, x7 (ix2 i J) = I.wu i J) (h8 : ∀ J, x8 (ix2 0 J) = I.su J) (h9 : ∀ i J, x9 (ix2 i J) = I.wd i J) (h10 : ∀ J, x10 (ix2 0 J) = I.sd J)

include h0 h1 h3 h4 in
theorem hs_at (i : Fin 256) (J : Fin 5120) : k0_pay3 x0 x1 x3 x4 (ix2 i J) = I.hs i J := by
  rw [pay3_at, h0, h4]
  refine congrArg (fun z => I.x i J + z * I.so J) ((Fin.sum_univ_tiles 8 512 (by decide) (fun t : Fin 4096 => x1 (ix2 i t) * x3 (ix2 t J))).trans ?_)
  refine Finset.sum_congr rfl fun p _ => Finset.sum_congr rfl fun t _ => congrArg₂ (· * ·) (h1 i p t) ((h3 _ J).trans (congrArg (fun q => I.wo q J) (Fin.ext ?_)))
  show p.val * 512 + t.val = 512 * p.val + t.val
  omega
include h0 h1 h2 h3 h4 in
theorem h2_at (i : Fin 256) (J : Fin 5120) : k0_pay4 x0 x1 x3 x4 x2 (ix2 i J) = I.h2 i J := by
  rw [pay4_at, h2]
  simp only [hs_at x0 x1 x3 x4 I h0 h1 h3 h4]
  rfl
include h0 h1 h2 h3 h4 h5 h6 h7 h8 in
theorem act_at (i : Fin 256) (n : Fin 14336) : k0_pay1 (k0_pay4 x0 x1 x3 x4 x2) (k0_pay5 x0 x1 x3 x4 x2 x5 x6) x7 x8 (ix2 i n) = I.act i n := by
  rw [pay1_at, pay5_at, h6, h8]
  simp only [h2_at x0 x1 x2 x3 x4 I h0 h1 h2 h3 h4, h5, h7]
  rfl
include h0 h1 h2 h3 h4 h5 h6 h7 h8 h9 h10 in
theorem out_at (i : Fin 256) (J : Fin 5120) : k0_pay2 (k0_pay3 x0 x1 x3 x4) (k0_pay4 x0 x1 x3 x4 x2) (k0_pay5 x0 x1 x3 x4 x2 x5 x6) x7 x8 x9 x10 (ix2 i J) = I.out i J := by
  rw [pay2_at, h10, hs_at x0 x1 x3 x4 I h0 h1 h3 h4]
  refine congrArg (fun z => I.hs i J + z * I.sd J) ((Fin.sum_univ_tiles 28 512 (by decide) (fun n : Fin 14336 => k0_pay1 (k0_pay4 x0 x1 x3 x4 x2) (k0_pay5 x0 x1 x3 x4 x2 x5 x6) x7 x8 (ix2 i n) * x9 (ix2 n J))).trans ?_)
  refine Finset.sum_congr rfl fun b _ => Finset.sum_congr rfl fun t _ => ?_
  have e : (⟨b.val * 512 + t.val, by omega⟩ : Fin 14336) = ⟨512 * b.val + t.val, by omega⟩ := Fin.ext (by show b.val * 512 + t.val = 512 * b.val + t.val; omega)
  exact (congrArg (fun n : Fin 14336 => k0_pay1 (k0_pay4 x0 x1 x3 x4 x2) (k0_pay5 x0 x1 x3 x4 x2 x5 x6) x7 x8 (ix2 i n) * x9 (ix2 n J)) e).trans
    (congrArg₂ (· * ·) (act_at x0 x1 x2 x3 x4 x5 x6 x7 x8 I h0 h1 h2 h3 h4 h5 h6 h7 h8 i _) (h9 _ J))
end Blocks

theorem arr12 (i : Fin 256) (J : Fin 5120) : (dats m 0 c).arrAt 12 cfg0.N (ix2 i J : S256x5120.Idx) = (Ir m c).hs i J := by
  have h : (dats m 0 c).arrAt 12 cfg0.N = fun j => k0_pay6 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) j := by
    refine (dats m 0 c).arrAt_eq_of_after_last 12 t0_0 (by decide +kernel) _ fun j => ?_
    blk_simp
    rw [after0_12]
    frame_out
  rw [h]
  unfold k0_pay6
  exact hs_at _ _ _ _ (Ir m c) (fun i J => (ld0 _ _).trans (blk0_at m c i J)) (fun i p t => (ld1 _ _).trans (blk1_at m c i p t)) (fun i J => (ld2 _ _).trans (blk3_at m c i J)) (fun J => (ld3 _ _).trans (blk4_at m c J)) i J
theorem arr13 (i : Fin 256) (n : Fin 14336) : (dats m 0 c).arrAt 13 cfg0.N (ix2 i n : S256x14336.Idx) = (Ir m c).act i n := by
  have h : (dats m 0 c).arrAt 13 cfg0.N = fun j => k0_pay1 (k0_pay7 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0))
      (k0_pay8 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) (iblk m c 7 t0_0) (iblk m c 8 t0_0) j := by
    refine (dats m 0 c).arrAt_eq_of_after_last 13 t0_0 (by decide +kernel) _ fun j => ?_
    blk_simp
    rw [after0_13]
    frame_out
  rw [h]
  unfold k0_pay7 k0_pay8
  exact act_at _ _ _ _ _ _ _ _ _ (Ir m c) (fun i J => (ld0 _ _).trans (blk0_at m c i J)) (fun i p t => (ld1 _ _).trans (blk1_at m c i p t)) (fun J => (ld3 _ _).trans (blk2_at m c J)) (fun i J => (ld2 _ _).trans (blk3_at m c i J)) (fun J => (ld3 _ _).trans (blk4_at m c J))
    (fun i J => (ld4 _ _).trans (blk5_at m c i J)) (fun J => (ld5 _ _).trans (blk6_at m c J)) (fun i J => blk7_at m c i J) (fun J => blk8_at m c J) i n
theorem arr11 (i : Fin 256) (J : Fin 5120) : (dats m 0 c).arrAt 11 cfg0.N (ix2 i J : S256x5120.Idx) = (Ir m c).out i J := by
  have h : (dats m 0 c).arrAt 11 cfg0.N = fun j => k0_pay2 (k0_pay6 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0))
      (k0_pay7 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0))
      (k0_pay8 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) (iblk m c 7 t0_0) (iblk m c 8 t0_0)
      (iblk m c 9 t0_0) (iblk m c 10 t0_0) j := by
    refine (dats m 0 c).arrAt_eq_of_after_last 11 t0_0 (by decide +kernel) _ fun j => ?_
    blk_simp
    rw [after0_11]
    frame_out
  rw [h]
  unfold k0_pay6 k0_pay7 k0_pay8
  exact out_at _ _ _ _ _ _ _ _ _ _ _ (Ir m c) (fun i J => (ld0 _ _).trans (blk0_at m c i J)) (fun i p t => (ld1 _ _).trans (blk1_at m c i p t)) (fun J => (ld3 _ _).trans (blk2_at m c J)) (fun i J => (ld2 _ _).trans (blk3_at m c i J)) (fun J => (ld3 _ _).trans (blk4_at m c J))
    (fun i J => (ld4 _ _).trans (blk5_at m c i J)) (fun J => (ld5 _ _).trans (blk6_at m c J)) (fun i J => blk7_at m c i J) (fun J => blk8_at m c J) (fun i J => blk9_at m c i J) (fun J => blk10_at m c J) i J
end Cert.Proof.ValR
end
-- ==== Proof.Alg.lean ====
/- The kernel and the reference leave the same three results: each is the layer's mathematics of the arguments,
   read at row and column. -/
module

public import proofs.«01_k».proof.Defs
public import proofs.«01_k».proof.Proof.ValRes
public import proofs.«01_k».proof.Proof.ValRef

@[expose] public section

set_option maxRecDepth 16384

noncomputable section

namespace Cert.Proof.Val

open Idealize.ShloMosaic Idealize.ShloMosaic.TcCoe Idealize.SL.Sem

theorem ops_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    ValR.Ir m' c = Ik m c := by
  unfold ValR.Ir Ik
  congr 1
  · funext i J; exact congrFun h0 (ix2 i J)
  · funext p i t; exact congrFun h1 (ix3 i _ _)
  · funext J; exact congrFun h2 (ix1 J)
  · funext t J; exact congrFun h3 (ix2 t J)
  · funext J; exact congrFun h4 (ix1 J)
  · funext t J; exact congrFun h5 (ix2 t J)
  · funext J; exact congrFun h6 (ix1 J)
  · funext t J; exact congrFun h7 (ix2 t J)
  · funext J; exact congrFun h8 (ix1 J)
  · funext t J; exact congrFun h9 (ix2 t J)
  · funext J; exact congrFun h10 (ix1 J)

/-- An array of a row and a column, from its elements. -/
def arr {a b : ℕ} (f : Fin a → Fin b → EReal) : (⟨2, ![a, b]⟩ : Shape).Idx → EReal := fun j => f (j 0) (j 1)
theorem eq_arr {a b : ℕ} (X : (⟨2, ![a, b]⟩ : Shape).Idx → EReal) (f : Fin a → Fin b → EReal) (h : ∀ i J, X (ix2 i J) = f i J) : X = arr f :=
  funext fun j => (congrArg X (eq_ix2 j)).trans (h (j 0) (j 1))

theorem algebraic : Cert.algebraic_KernelIdeal_ReferenceIdeal := fun m g m' g' _ hargs => by
  refine ⟨fun c => arr (Ik m c).out, fun c => arr (Ik m c).hs, fun c => arr (Ik m c).act, ?_, ?_⟩
  · refine (θ_run _ _ _).mono (fun r h c => ?_) (Layer.run_main m g)
    obtain ⟨HM0, H20, e0, e1, e2⟩ := (h.1 c).2.2.2
    exact ⟨e0.trans (eq_arr _ _ (outV_at m c HM0 H20)), e1.trans (eq_arr _ _ (hmidV_at m c HM0)), e2.trans (eq_arr _ _ (mactV_at m c HM0 H20)), Layer.args_kept m c r h.1⟩
  · refine (θ_run _ _ _).mono (fun r h c => ?_) (Cert.ReferenceIdeal.Value.run_blocks m' g')
    obtain ⟨e0, e1, e2, hk⟩ := h c
    obtain ⟨h0, h1, h2, h3, h4, h5, h6, h7, h8, h9, h10⟩ := hargs c
    have hI := ops_eq m m' c h0 h1 h2 h3 h4 h5 h6 h7 h8 h9 h10
    exact ⟨e0.trans ((eq_arr _ _ (ValR.arr11 m' c)).trans (congrArg (fun I : Ops => arr I.out) hI)),
      e1.trans ((eq_arr _ _ (ValR.arr12 m' c)).trans (congrArg (fun I : Ops => arr I.hs) hI)),
      e2.trans ((eq_arr _ _ (ValR.arr13 m' c)).trans (congrArg (fun I : Ops => arr I.act) hI)), hk⟩

end Cert.Proof.Val

end
-- ==== Proof.QBitsNames.lean ====
/-
  The rotated queries' kernel on words: the canonical names of its windows (the weight ring's slots and cells, the column blocks
  of the projection's weight) and the ring's resources.
-/
module

public import proofs.«01_k».proof.Defs
public import proofs.«01_k».proof.Proof.Gen.QKernel.Launch
public import proofs.«01_k».proof.Proof.Gen.QKernel.Skeleton
public import proofs.«01_k».proof.Proof.Gen.QKernel.Loops
public import proofs.«01_k».proof.Proof.Gen.QKernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.QueryBits

open Cert.QKernel Cert.QKernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [BitOps F] in
theorem entails_of_eq {P Q : sProp 𝕄} (e : P = Q) : P ⊢ Q := e ▸ .rfl

/-! ## The windows -/

abbrev wM : Memref sig .tc .hbm S5120x6144 .fp8e4m3 := Memref.whole main_arg3
abbrev outM : Memref sig .tc .hbm S256x32x128 .bf16 := Memref.whole main_v13
abbrev ringM : Memref sig .tc .vmem S4x5120x512 .fp8e4m3 := Memref.whole cc0_scratch0
abbrev q2M : Memref sig .tc .vmem S8x592x128 .i32 := Memref.whole cc0_scoped0
abbrev hM : Memref sig .tc .vmem S256x5120 .bf16 := Memref.whole cc0_scoped1
abbrev qoM : Memref sig .tc .vmem S256x32x128 .bf16 := Memref.whole cc0_scoped2
abbrev cosM : Memref sig .tc .vmem S256x128 .f32 := Memref.whole cc0_scoped3
abbrev sinM : Memref sig .tc .vmem S256x128 .f32 := Memref.whole cc0_scoped4

abbrev slotOff (s : Fin 4) : Fin 3 → Nat := ![s.val, 0, 0]
abbrev colOff (b : ℕ) : Fin 2 → Nat := ![0, 512 * b]

theorem slotF_inb (s : Fin 4) : ∀ a, slotOff s a + S1x5120x512.size a ≤ S4x5120x512.size a := by
  have := s.isLt; intro a; fin_cases a
  · show s.val + 1 ≤ 4; omega
  · show 0 + 5120 ≤ 5120; omega
  · show 0 + 512 ≤ 512; omega
theorem wBlk_inb (b : Fin 8) : ∀ a, colOff b.val a + S5120x512.size a ≤ S5120x6144.size a := by
  have := b.isLt; intro a; fin_cases a
  · show 0 + 5120 ≤ 5120; omega
  · show 512 * b.val + 512 ≤ 6144; omega
theorem wsem_inb (s : Fin 4) : ∀ a, (![s.val] : Fin 1 → Nat) a + S1.size a ≤ S4.size a := by
  have := s.isLt; intro a; fin_cases a; show s.val + 1 ≤ 4; omega
theorem dsem_inb (s : Fin 5) : ∀ a, (![s.val] : Fin 1 → Nat) a + S1.size a ≤ S5.size a := by
  have := s.isLt; intro a; fin_cases a; show s.val + 1 ≤ 5; omega

/-- Slot `s` of the weight ring. -/
def slotF (s : Fin 4) : Memref sig .tc .vmem S5120x512 .fp8e4m3 :=
  (ringM.slice (Rect.unit (s := S4x5120x512) (slotOff s) S1x5120x512.size (slotF_inb s)) (fun _ => rfl)).squeeze S5120x512 squeezes_S1x5120x512_S5120x512
/-- Column block `b` of the projection's weight. -/
def wBlk (b : Fin 8) : Memref sig .tc .hbm S5120x512 .fp8e4m3 :=
  wM.slice (Rect.unit (s := S5120x6144) (colOff b.val) S5120x512.size (wBlk_inb b)) (fun _ => rfl)
/-- The weight ring's cell `s`. -/
def wsem (s : Fin 4) : DmaSems sig S_ := (cc0_scratch1.slice (Rect.unit (s := S4) ![s.val] S1.size (wsem_inb s))).squeeze S_ squeezes_S1_S_
/-- The other transfers' cell `s`. -/
def dsem (s : Fin 5) : DmaSems sig S_ := (cc0_scratch2.slice (Rect.unit (s := S5) ![s.val] S1.size (dsem_inb s))).squeeze S_ squeezes_S1_S_

instance (s : Fin 4) : ClosedOff (slotOff s) := ⟨slotOff s, rfl⟩
instance (b : ℕ) : ClosedOff (colOff b) := ⟨colOff b, rfl⟩

theorem wsem_congr {off : Fin 1 → Nat} {s : Fin 4} (e : off = ![s.val]) (hh) :
    (cc0_scratch1.slice (Rect.unit (s := S4) off S1.size hh)).squeeze S_ squeezes_S1_S_ = wsem s :=
  congrArg (fun A : DmaSems sig S1 => A.squeeze S_ squeezes_S1_S_) (SemArray.slice_unit_congr _ e _ _)
theorem slotF_congr {off : Fin 3 → Nat} {s : Fin 4} (e : off = slotOff s) (hh hs) :
    (ringM.slice (Rect.unit (s := S4x5120x512) off S1x5120x512.size hh) hs).squeeze S5120x512 squeezes_S1x5120x512_S5120x512 = slotF s :=
  congrArg (fun M : Memref sig .tc .vmem S1x5120x512 .fp8e4m3 => M.squeeze S5120x512 squeezes_S1x5120x512_S5120x512) (Memref.slice_unit_congr _ e _ _ _ _)
theorem wBlk_congr {off : Fin 2 → Nat} {b : Fin 8} (e : off = colOff b.val) (hh hs) :
    wM.slice (Rect.unit (s := S5120x6144) off S5120x512.size hh) hs = wBlk b := Memref.slice_unit_congr _ e _ _ _ (fun _ => rfl)
theorem slotF_set (s : Fin 4) : (slotF s : Memref sig .tc .vmem _ _).view.set = (Rect.unit (s := S4x5120x512) (slotOff s) S1x5120x512.size (slotF_inb s)).set := (View.set_reshape _ _).trans (View.set_slice_whole _ _)
theorem ring_inF {off : Fin 3 → Nat} {s : Fin 4} (e : off = ![s.val, 0, 0]) (hh) :
    (ringM.access (Rect.unit (s := S4x5120x512) off S1x5120x512.size hh) : View sig .tc .vmem _ _).set ⊆ (slotF s : Memref sig .tc .vmem _ _).view.set := by
  subst e
  refine Finset.subset_of_eq ?_
  unfold slotF
  exact ((View.set_slice_whole _ _).trans ((View.set_reshape _ _).trans (View.set_slice_whole _ _)).symm)

/-! ## The loop's windows at trip `k`, and the first three transfers' -/

section Trip
variable (k : Fin k0_t2_loop.trips)
theorem t2_lt : k.val < 8 := k.isLt
theorem cond1_true : k0_cond1 = 1#1 := by decide +kernel
theorem cond2_true : k0_cond2 = 1#1 := by decide +kernel
theorem cond3_true : k0_cond3 = 1#1 := by decide +kernel
theorem cond4_iff : ∀ k : Fin k0_t2_loop.trips, k0_cond4 k = 1#1 ↔ k.val ≤ 4 := by decide +kernel
theorem bk8_val (n : ℕ) (h : n < 8) : (Ring.bk 8 n).val = n := Ring.bk_val h

@[sl_canon] theorem t2_sem (hh) : (cc0_scratch1.slice (Rect.unit (s := S4) (k0_off11 k) S1.size hh)).squeeze S_ squeezes_S1_S_ = wsem (Ring.sl 4 k.val) :=
  wsem_congr (k0_off11_eq k) _
@[sl_canon] theorem t2_sem' (hh) : (cc0_scratch1.slice (Rect.unit (s := S4) (k0_off13 k) S1.size hh)).squeeze S_ squeezes_S1_S_ = wsem (Ring.sl 4 (k.val + 3)) :=
  wsem_congr (k0_off13_eq k) _
@[sl_canon] theorem t2_slot (hh hs) : (ringM.slice (Rect.unit (s := S4x5120x512) (k0_off12 k) S1x5120x512.size hh) hs).squeeze S5120x512 squeezes_S1x5120x512_S5120x512 = slotF (Ring.sl 4 k.val) :=
  slotF_congr (k0_off12_eq k) _ _
@[sl_canon] theorem t2_slot' (hh hs) : (ringM.slice (Rect.unit (s := S4x5120x512) (k0_off14 k) S1x5120x512.size hh) hs).squeeze S5120x512 squeezes_S1x5120x512_S5120x512 = slotF (Ring.sl 4 (k.val + 3)) :=
  slotF_congr (k0_off14_eq k) _ _
@[sl_canon] theorem t2_blk' (hk : k.val ≤ 4) (hh hs) : wM.slice (Rect.unit (s := S5120x6144) (k0_off15 k) S5120x512.size hh) hs = wBlk (Ring.bk 8 (k.val + 3)) :=
  wBlk_congr ((k0_off15_eq k).trans (by unfold colOff; rw [bk8_val _ (by omega)]; congr 2)) _ _
end Trip

@[sl_canon] theorem b_sem0 (hh) : (cc0_scratch1.slice (Rect.unit (s := S4) k0_off1 S1.size hh)).squeeze S_ squeezes_S1_S_ = wsem 0 := wsem_congr k0_off1_eq _
@[sl_canon] theorem b_sem1 (hh) : (cc0_scratch1.slice (Rect.unit (s := S4) k0_off4 S1.size hh)).squeeze S_ squeezes_S1_S_ = wsem 1 := wsem_congr k0_off4_eq _
@[sl_canon] theorem b_sem2 (hh) : (cc0_scratch1.slice (Rect.unit (s := S4) k0_off7 S1.size hh)).squeeze S_ squeezes_S1_S_ = wsem 2 := wsem_congr k0_off7_eq _
@[sl_canon] theorem b_slot0 (hh hs) : (ringM.slice (Rect.unit (s := S4x5120x512) k0_off2 S1x5120x512.size hh) hs).squeeze S5120x512 squeezes_S1x5120x512_S5120x512 = slotF 0 := slotF_congr k0_off2_eq _ _
@[sl_canon] theorem b_slot1 (hh hs) : (ringM.slice (Rect.unit (s := S4x5120x512) k0_off5 S1x5120x512.size hh) hs).squeeze S5120x512 squeezes_S1x5120x512_S5120x512 = slotF 1 := slotF_congr k0_off5_eq _ _
@[sl_canon] theorem b_slot2 (hh hs) : (ringM.slice (Rect.unit (s := S4x5120x512) k0_off8 S1x5120x512.size hh) hs).squeeze S5120x512 squeezes_S1x5120x512_S5120x512 = slotF 2 := slotF_congr k0_off8_eq _ _
@[sl_canon] theorem b_blk0 (hh hs) : wM.slice (Rect.unit (s := S5120x6144) k0_off3 S5120x512.size hh) hs = wBlk 0 := wBlk_congr k0_off3_eq _ _
@[sl_canon] theorem b_blk1 (hh hs) : wM.slice (Rect.unit (s := S5120x6144) k0_off6 S5120x512.size hh) hs = wBlk 1 := wBlk_congr k0_off6_eq _ _
@[sl_canon] theorem b_blk2 (hh hs) : wM.slice (Rect.unit (s := S5120x6144) k0_off9 S5120x512.size hh) hs = wBlk 2 := wBlk_congr k0_off9_eq _ _
@[sl_canon] theorem b_dsem (hh) : (cc0_scratch2.slice (Rect.unit (s := S5) ![0] S1.size hh)).squeeze S_ squeezes_S1_S_ = dsem 0 := rfl

/-! ## The weight ring's resources -/

/-- The read share of the weight that rides with slot `s`. -/
def qs (s : Fin 4) : PosShare TreeShare := Transfers.shareTokN fullShare s.val

section Pieces
variable (c : Dev nD) (X : Buf (Elt F) (wM.view.loc (c : Thread nD τ)))

abbrev cellP (s : Fin 4) : sProp 𝕄 := semVal ((c : Thread nD τ), SemLoc.dma (wsem s).sem) 0
abbrev cellH : sProp 𝕄 := semVal ((c : Thread nD τ), SemLoc.dma (dsem 0).sem) 0
abbrev slotFP (s : Fin 4) (f : Buf (Elt F) ((slotF s).view.loc (c : Thread nD τ))) : sProp 𝕄 :=
  (slotF s).view.loc (c : Thread nD τ) ↦[(slotF s).view.set]{fullShare} f
abbrev wP (s : Fin 4) (b : Fin 8) : sProp 𝕄 := (wBlk b).view.loc (c : Thread nD τ) ↦[(wBlk b).view.set]{qs s} X
abbrev wW (s : Fin 4) : sProp 𝕄 := wM.view.loc (c : Thread nD τ) ↦{qs s} X
/-- A block's words as a slot's payload. -/
abbrev payW (b : Fin 8) : S5120x512.Idx → Elt F .fp8e4m3 := ReadAs.same.apply ((wBlk b).view.read (Elt F) X)
abbrev flight (s : Fin 4) (b : Fin 8) (f : Buf (Elt F) ((slotF s).view.loc (c : Thread nD τ))) : sProp 𝕄 :=
  Transfers.Flight countersEmb (c : Thread nD τ) (SemLoc.dma (wsem s).sem) () 81920
    iprop(slotFP c s ((slotF s).view.writes (Elt F) f [⟨Rect.whole S5120x512, payW c X b⟩]) ∗ wP c X s b)
/-- What stays behind while block `b` is on its way into slot `s`. -/
def hid (s : Fin 4) (b : Fin 8) : sProp 𝕄 := wM.view.loc (c : Thread nD τ) ↦[Finset.univ \ (wBlk b).view.set]{qs s} X
/-- Slot `s` free: its cell at zero, its words at anything, its share of the weight whole. -/
def freeSlot (s : Fin 4) : sProp 𝕄 := iprop(cellP c s ∗ (∃ f, slotFP c s f) ∗ wW c X s)
/-- Slot `s` awaiting block `b`. -/
def flt (s : Fin 4) (b : Fin 8) : sProp 𝕄 := iprop((∃ f, flight c X s b f) ∗ hid c X s b)

theorem free_open (s : Fin 4) (b : Fin 8) : freeSlot c X s ⊣⊢ iprop(cellP c s ∗ (∃ f, slotFP c s f) ∗ wP c X s b ∗ hid c X s b) := by
  unfold freeSlot hid
  refine ⟨?_, ?_⟩
  · iintro ⟨Hc, Hs, Hu⟩
    ihave H2 := (pointsTo_split_subset (Finset.subset_univ (wBlk b).view.set)).1 $$ Hu
    icases H2 with ⟨Hu, Hr⟩
    isplitl [Hc]; · iexact Hc
    isplitl [Hs]; · iexact Hs
    isplitl [Hu]; · iexact Hu
    iexact Hr
  · iintro ⟨Hc, Hs, Hu, Hr⟩
    ihave Hu2 := (pointsTo_split_subset (Finset.subset_univ (wBlk b).view.set) (ℓ := wM.view.loc (c : Thread nD τ)) (q := qs s) (f := X)).2 $$ [Hu Hr]
    · isplitl [Hu]; · iexact Hu
      iexact Hr
    isplitl [Hc]; · iexact Hc
    isplitl [Hs]; · iexact Hs
    iexact Hu2

/-- Slot number `n` of the loop: awaiting block `n`, then free. -/
def ringAt (n : ℕ) : sProp 𝕄 := if n < 8 then flt c X (Ring.sl 4 n) (Ring.bk 8 n) else freeSlot c X (Ring.sl 4 n)
theorem ringAt_lt (n : ℕ) (h : n < 8) : ringAt c X n = flt c X (Ring.sl 4 n) (Ring.bk 8 n) := by unfold ringAt; rw [if_pos h]
theorem ringAt_ge (n : ℕ) (h : 8 ≤ n) : ringAt c X n = freeSlot c X (Ring.sl 4 n) := by unfold ringAt; rw [if_neg (by omega)]
theorem flt_fold (s : Fin 4) (b : Fin 8) (f) : iprop(flight c X s b f ∗ hid c X s b) ⊢ flt c X s b := by
  unfold flt
  iintro ⟨H, Hh⟩
  isplitl [H]; · iexists f; iexact H
  iexact Hh

abbrev vecP {sp : Space} {s : Shape} {e : EltTy} (m : Memref sig .tc sp s e) (f : Buf (Elt F) (m.view.loc (c : Thread nD τ))) : sProp 𝕄 :=
  m.view.loc (c : Thread nD τ) ↦[m.view.set]{fullShare} f
end Pieces

end Cert.Proof.QueryBits

end
-- ==== Proof.QBitsBody.lean ====
module

public import proofs.«01_k».proof.Proof.QBitsNames

@[expose] public section

noncomputable section

/-! # The body of the rotated queries on words: it ends with what it was given, whatever the scratch holds -/

namespace Cert.Proof.QueryBits

open Cert.QKernel Cert.QKernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

section Body
variable (c : Dev nD)
variable (arg0 : Memref sig .tc .vmem S256x5120 .bf16) (harg0 : arg0.IsWhole) (arg1 : Memref sig .tc .vmem S256x1 .i32) (harg1 : arg1.IsWhole)
  (arg2 : Memref sig .tc .vmem S1x128 .f32) (harg2 : arg2.IsWhole) (arg3 : Memref sig .tc .vmem S40x128 .f32) (harg3 : arg3.IsWhole)
  (arg4 : Memref sig .tc .vmem S48x128 .f32) (harg4 : arg4.IsWhole)
  (hm : Memref sig .tc .vmem S256x5120 .bf16) (hhm : hm.IsWhole)
  (qo : Memref sig .tc .vmem S256x32x128 .bf16) (hqo : qo.IsWhole) (cm : Memref sig .tc .vmem S256x128 .f32) (hcm : cm.IsWhole)
  (sm : Memref sig .tc .vmem S256x128 .f32) (hsm : sm.IsWhole)

abbrev trip1G := k0_t1_body (F := F) arg0 harg0 arg1 harg1 arg2 harg2 arg3 harg3 arg4 harg4 wM (Memref.isWhole_whole _) outM (Memref.isWhole_whole _) ringM (Memref.isWhole_whole _) cc0_scratch1 cc0_scratch2 q2M (Memref.isWhole_whole _) hm hhm qo hqo cm hcm sm hsm
abbrev trip2G (v21 : FVec F S256x128 .f32) (v26 : IVec S256x128 32) := k0_t2_body (F := F) arg0 harg0 arg1 harg1 arg2 harg2 arg3 harg3 arg4 harg4 wM (Memref.isWhole_whole _) outM (Memref.isWhole_whole _) ringM (Memref.isWhole_whole _) cc0_scratch1 cc0_scratch2 q2M (Memref.isWhole_whole _) hm hhm qo hqo cm hcm sm hsm v21 v26
abbrev bodyG := cc0_decoder_layer (F := F) arg0 harg0 arg1 harg1 arg2 harg2 arg3 harg3 arg4 harg4 wM (Memref.isWhole_whole _) outM (Memref.isWhole_whole _) ringM (Memref.isWhole_whole _) cc0_scratch1 cc0_scratch2 q2M (Memref.isWhole_whole _) hm hhm qo hqo cm hcm sm hsm

variable (X : Buf (Elt F) (wM.view.loc (c : Thread nD τ))) (X0 : Buf (Elt F) (arg0.view.loc (c : Thread nD τ))) (X1 : Buf (Elt F) (arg1.view.loc (c : Thread nD τ)))
  (X2 : Buf (Elt F) (arg2.view.loc (c : Thread nD τ))) (X3 : Buf (Elt F) (arg3.view.loc (c : Thread nD τ))) (X4 : Buf (Elt F) (arg4.view.loc (c : Thread nD τ)))

/-- A buffer at anything. -/
abbrev anyP {sp : Space} {s : Shape} {e : EltTy} (m : Memref sig .tc sp s e) : sProp 𝕄 := iprop(∃ f, vecP c m f)
/-- The word buffer at anything. -/
abbrev anyQ2 : sProp 𝕄 := iprop(∃ f, q2M.view.loc (c : Thread nD τ) ↦{fullShare} f)

/-! ## The loops' invariants -/

def inv1 (_ : ℕ) (_ : BitVec 32) : sProp 𝕄 := iprop(vecP c arg0 X0 ∗ vecP c arg3 X3 ∗ anyP c hm)
set_option backward.proofsInPublic true in
theorem step1 (k : Fin k0_t1_loop.trips) (a : BitVec 32) :
    inv1 c arg0 arg3 hm X0 X3 k.val a
   ⊢ wp frame (wpE (defs₀ (F := F)) 𝒱₀ (c : Thread nD τ) none) Set.univ (trip1G arg0 harg0 arg1 harg1 arg2 harg2 arg3 harg3 arg4 harg4 hm hhm qo hqo cm hcm sm hsm k a) (inv1 c arg0 arg3 hm X0 X3 (k.val + 1)) := by
  unfold inv1
  iintro ⟨H0, H3, ⟨%H, Hhm⟩⟩
  dsimp only [trip1G]
  sl_unfold [k0_t1_body]
  sl_exec
  sl_step
  isplitl [H0]; · iexact H0
  isplitl [H3]; · iexact H3
  iexists _; iexact Hhm

def inv2 (n : ℕ) (_ : BitVec 32) : sProp 𝕄 :=
  iprop(vecP c arg4 X4 ∗ anyP c hm ∗ anyP c cm ∗ anyP c sm ∗ anyQ2 c ∗ (∃ W, owes (c : Thread nD τ) 0 W)
    ∗ ringAt c X n ∗ ringAt c X (n + 1) ∗ ringAt c X (n + 2) ∗ freeSlot c X (Ring.sl 4 (n + 3)))
theorem step2 (v21 : FVec F S256x128 .f32) (v26 : IVec S256x128 32) (k : Fin k0_t2_loop.trips) (a : BitVec 32) :
    inv2 c arg4 hm cm sm X X4 k.val a
   ⊢ wp frame (wpE (defs₀ (F := F)) 𝒱₀ (c : Thread nD τ) none) Set.univ (trip2G arg0 harg0 arg1 harg1 arg2 harg2 arg3 harg3 arg4 harg4 hm hhm qo hqo cm hcm sm hsm v21 v26 k a) (inv2 c arg4 hm cm sm X X4 (k.val + 1)) := by
  have hk : k.val < 8 := t2_lt k
  have hS := ring_inF (s := Ring.sl 4 k.val) (k0_off16_eq k) (k0_off16_inb k)
  have e3 : Ring.sl 4 (k.val + 1 + 3) = Ring.sl 4 k.val := Fin.ext (by show (k.val + 1 + 3) % 4 = k.val % 4; omega)
  unfold inv2
  rw [e3, ringAt_lt c X k.val hk]
  dsimp only [trip2G]
  sl_unfold [k0_t2_body]
  unfold flt
  have hcase : k.val ≤ 4 ∨ 5 ≤ k.val := by omega
  rcases hcase with h | h
  all_goals
    iintro ⟨H4, ⟨%H, Hhm⟩, ⟨%CM, Hcm⟩, ⟨%SM, Hsm⟩, ⟨%Q2, Hq2⟩, ⟨%W, HW⟩, ⟨⟨%f, HF⟩, Hhid⟩, Hr1, Hr2, Hfree⟩
  on_goal 1 =>
    have h4 : k0_cond4 k = 1#1 := (cond4_iff k).2 h
    ihave Hop := (free_open c X _ (Ring.bk 8 (k.val + 3))).1 $$ Hfree
    icases Hop with ⟨Hc, ⟨%f', Hs⟩, Hw, Hh⟩
  on_goal 2 =>
    have h4 : ¬ k0_cond4 k = 1#1 := fun e => by have := (cond4_iff k).1 e; omega
  all_goals
    sl_exec
    sl_step
    isplitl [H4]; · iexact H4
    isplitl [Hhm]; · iexists _; iexact Hhm
    isplitl [Hcm]; · iexists _; iexact Hcm
    isplitl [Hsm]; · iexists _; iexact Hsm
    isplitl [Hq2]; · iexists _; iexact Hq2
    isplitl [HW]; · iexists _; iexact HW
    isplitl [Hr1]; · iexact Hr1
    isplitl [Hr2]; · iexact Hr2
  on_goal 1 =>
    isplitl [Hc Hh]
    · iapply (entails_of_eq (ringAt_lt c X _ (by omega)).symm)
      unfold flt
      isplitl [Hc]; · iexists _; iexact Hc
      iexact Hh
  on_goal 2 =>
    isplitl [Hfree]
    · iapply (entails_of_eq (ringAt_ge c X _ (by omega)).symm)
      iexact Hfree
  all_goals
    iapply (free_open c X _ (Ring.bk 8 k.val)).2
    isplitl [HF]; · iexact HF
    isplitl [HF_dst]; · iexists _; iexact HF_dst
    isplitl [HF_src]; · iexact HF_src
    iexact Hhid

/-! ## The body -/

theorem ring0 : ringAt c X 0 = flt c X 0 0 := ringAt_lt c X _ (by omega)
theorem ring1 : ringAt c X (0 + 1) = flt c X 1 1 := ringAt_lt c X _ (by omega)
theorem ring2 : ringAt c X (0 + 2) = flt c X 2 2 := ringAt_lt c X _ (by omega)
theorem ring8 : ringAt c X 8 = freeSlot c X 0 := ringAt_ge c X _ (by omega)
theorem ring9 : ringAt c X (8 + 1) = freeSlot c X 1 := ringAt_ge c X _ (by omega)
theorem ring10 : ringAt c X (8 + 2) = freeSlot c X 2 := ringAt_ge c X _ (by omega)

/-- What the body is given and gives back. -/
def held : sProp 𝕄 :=
  iprop(vecP c arg0 X0 ∗ vecP c arg1 X1 ∗ vecP c arg2 X2 ∗ vecP c arg3 X3 ∗ vecP c arg4 X4
     ∗ anyP c outM ∗ anyQ2 c ∗ anyP c hm ∗ anyP c qo ∗ anyP c cm ∗ anyP c sm ∗ (∃ W, owes (c : Thread nD τ) 0 W)
     ∗ freeSlot c X 0 ∗ freeSlot c X 1 ∗ freeSlot c X 2 ∗ freeSlot c X 3 ∗ cellH c)

set_option maxHeartbeats 4000000 in
set_option backward.proofsInPublic true in
theorem bodyRun :
   held c arg0 arg1 arg2 arg3 arg4 hm qo cm sm X X0 X1 X2 X3 X4
   ⊢ wp frame (wpE (defs₀ (F := F)) 𝒱₀ (c : Thread nD τ) none) Set.univ (bodyG arg0 harg0 arg1 harg1 arg2 harg2 arg3 harg3 arg4 harg4 hm hhm qo hqo cm hcm sm hsm)
      (fun _ => held c arg0 arg1 arg2 arg3 arg4 hm qo cm sm X X0 X1 X2 X3 X4) := by
  unfold held
  iintro ⟨H0, H1, H2, H3, H4, ⟨%O0, Hout⟩, Hq2, Hhm, ⟨%QO0, Hqo⟩, ⟨%C0, Hcm⟩, ⟨%S0, Hsm⟩, ⟨%W, HW⟩, Hs0, Hs1, Hs2, Hs3, HcH⟩
  ihave Hop := (free_open c X 0 0).1 $$ Hs0
  icases Hop with ⟨Hc0, ⟨%f0, Hs0⟩, Hw0, Hh0⟩
  ihave Hop := (free_open c X 1 1).1 $$ Hs1
  icases Hop with ⟨Hc1, ⟨%f1, Hs1⟩, Hw1, Hh1⟩
  ihave Hop := (free_open c X 2 2).1 $$ Hs2
  icases Hop with ⟨Hc2, ⟨%f2, Hs2⟩, Hw2, Hh2⟩
  have c1 := cond1_true
  have c2 := cond2_true
  have c3 := cond3_true
  dsimp only [bodyG]
  sl_unfold [cc0_decoder_layer]
  sl_exec
  ihave Hc0 := (flt_fold c X 0 0 _) $$ [Hc0 Hh0]
  · isplitl [Hc0]; · iexact Hc0
    iexact Hh0
  ihave Hc1 := (flt_fold c X 1 1 _) $$ [Hc1 Hh1]
  · isplitl [Hc1]; · iexact Hc1
    iexact Hh1
  ihave Hc2 := (flt_fold c X 2 2 _) $$ [Hc2 Hh2]
  · isplitl [Hc2]; · iexact Hc2
    iexact Hh2
  -- the normalisation's loop
  sl_for (inv1 c arg0 arg3 hm X0 X3) $$ [H0 H3 Hhm]
  · intro k a
    exact step1 c arg0 harg0 arg1 harg1 arg2 harg2 arg3 harg3 arg4 harg4 hm hhm qo hqo cm hcm sm hsm X0 X3 k a
  · unfold inv1
    isplitl [H0]; · iexact H0
    isplitl [H3]; · iexact H3
    iexact Hhm
  iintro %_ HI
  unfold inv1
  icases HI with ⟨H0, H3, Hhm⟩
  sl_exec
  -- the projection's loop
  sl_for (inv2 c arg4 hm cm sm X X4) $$ [H4 Hhm Hcm Hsm Hq2 HW Hc0 Hc1 Hc2 Hs3]
  · intro k a
    exact step2 c arg0 harg0 arg1 harg1 arg2 harg2 arg3 harg3 arg4 harg4 hm hhm qo hqo cm hcm sm hsm X X4 _ _ k a
  · unfold inv2
    rw [ring0, ring1, ring2]
    isplitl [H4]; · iexact H4
    isplitl [Hhm]; · iexact Hhm
    isplitl [Hcm]; · iexists _; iexact Hcm
    isplitl [Hsm]; · iexists _; iexact Hsm
    isplitl [Hq2]; · iexact Hq2
    isplitl [HW]; · iexists _; iexact HW
    isplitl [Hc0]; · iexact Hc0
    isplitl [Hc1]; · iexact Hc1
    isplitl [Hc2]; · iexact Hc2
    iexact Hs3
  iintro %_ HI
  rw [show Scf.trips k0_t2_loop.lb k0_t2_loop.ub k0_t2_loop.st = 8 from rfl]
  unfold inv2
  rw [ring8, ring9, ring10]
  icases HI with ⟨H4, Hhm, Hcm, Hsm, ⟨%Q2, Hq2⟩, ⟨%W2, HW⟩, Hs0, Hs1, Hs2, Hs3⟩
  unfold cellH
  sl_exec
  sl_step
  isplitl [H0]; · iexact H0
  isplitl [H1]; · iexact H1
  isplitl [H2]; · iexact H2
  isplitl [H3]; · iexact H3
  isplitl [H4]; · iexact H4
  isplitl [Hout]; · iexists _; iexact Hout
  isplitl [Hq2]; · iexists _; iexact Hq2
  isplitl [Hhm]; · iexact Hhm
  isplitl [Hqo]; · iexists _; iexact Hqo
  isplitl [Hcm]; · iexact Hcm
  isplitl [Hsm]; · iexact Hsm
  isplitl [HW]; · iexists _; iexact HW
  isplitl [Hs0]; · iexact Hs0
  isplitl [Hs1]; · iexact Hs1
  isplitl [Hs2]; · iexact Hs2
  isplitl [Hs3]; · iexact Hs3
  iexact HcH
end Body
end Cert.Proof.QueryBits

end
-- ==== Proof.QBitsLaunch.lean ====
module

public import proofs.«01_k».proof.Proof.QBitsBody
public import proofs.«01_k».proof.Proof.Gen.QKernel.Frame

@[expose] public section

noncomputable section

/-! # The launch of the rotated queries' kernel on words: it ends, its arguments unchanged -/

namespace Cert.Proof.QueryBits

open Cert.QKernel Cert.QKernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UU nD τ) ℕ

/-! ## The kernel's own cells -/

abbrev cellX (c : Dev nD) (s : Fin 5) : sProp 𝕄 := semVal ((c : Thread nD τ), SemLoc.dma (dsem s).sem) 0
abbrev osem : Fin 9 → SemLoc sig := ![.dma (wsem 0).sem, .dma (wsem 1).sem, .dma (wsem 2).sem, .dma (wsem 3).sem,
  .dma (dsem 0).sem, .dma (dsem 1).sem, .dma (dsem 2).sem, .dma (dsem 3).sem, .dma (dsem 4).sem]
theorem ownSemFacts : Pipeline.OwnSemFacts spec0 osem := by decide

omit [BitOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [BitOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

omit [BitOps F] in
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ cellH c ∗ cellX c 1 ∗ cellX c 2 ∗ cellX c 3 ∗ cellX c 4) := by
  unfold Pipeline.ownSems0; rw [bigSep_fin9]; rfl

/-! ## The slots as element sets -/

abbrev SF (s : Fin 4) : Finset S4x5120x512.Idx := (Rect.unit (s := S4x5120x512) (slotOff s) S1x5120x512.size (slotF_inb s)).set

theorem off3_lead {n : ℕ} (b : Fin n) : (![b.val, 0, 0] : Fin 3 → ℕ) 0 = 1 * b.val := (Nat.one_mul _).symm
theorem off3_rest {n : ℕ} (b : Fin n) (a : Fin 3) (h : a ≠ 0) : (![b.val, 0, 0] : Fin 3 → ℕ) a = 0 := by
  fin_cases a
  · exact absurd rfl h
  · rfl
  · rfl
theorem SF_disjoint : ∀ s s' : Fin 4, s ≠ s' → Disjoint (SF s) (SF s') :=
  Ring.lead_disjoint (s := S4x5120x512) (0 : Fin 3) 1 (fun s : Fin 4 => slotOff s) S1x5120x512.size slotF_inb off3_lead rfl
theorem SF_cover : (Finset.univ : Finset (Fin 4)).biUnion SF = Finset.univ :=
  Ring.lead_cover (s := S4x5120x512) (0 : Fin 3) 1 (fun s : Fin 4 => slotOff s) S1x5120x512.size slotF_inb off3_lead off3_rest rfl (by decide) rfl

section Splits
variable (c : Dev nD) (X : Buf (Elt F) (wM.view.loc (c : Thread nD τ)))

omit [BitOps F] in
theorem slotFP_eq (s : Fin 4) (f) : slotFP c s f = (((c : Thread nD τ).loc cc0_scratch0) ↦[SF s]{fullShare} f : sProp 𝕄) :=
  congrArg (fun S => (_ ↦[S]{fullShare} f : sProp 𝕄)) (slotF_set s)

theorem ring_split :
    iprop(∃ f : Buf (Elt F) ((c : Thread nD τ).loc cc0_scratch0), ((c : Thread nD τ).loc cc0_scratch0) ↦{fullShare} f)
      ⊢ (iprop((∃ f, slotFP c 0 f) ∗ (∃ f, slotFP c 1 f) ∗ (∃ f, slotFP c 2 f) ∗ ∃ f, slotFP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) SF SF_disjoint SF_cover f).trans (bigSep_fin4 _))) $$ H
  icases H2 with ⟨H0, H1, H2, H3⟩
  isplitl [H0]; · iexists f; iapply (entails_of_eq (slotFP_eq c 0 f).symm); iexact H0
  isplitl [H1]; · iexists f; iapply (entails_of_eq (slotFP_eq c 1 f).symm); iexact H1
  isplitl [H2]; · iexists f; iapply (entails_of_eq (slotFP_eq c 2 f).symm); iexact H2
  iexists f; iapply (entails_of_eq (slotFP_eq c 3 f).symm); iexact H3
theorem ring_join :
    iprop((∃ f, slotFP c 0 f) ∗ (∃ f, slotFP c 1 f) ∗ (∃ f, slotFP c 2 f) ∗ ∃ f, slotFP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) SF SF_disjoint SF_cover f0)
  irw [bigSep_fin4]
  isplitl [H0]; · iexists f0; iapply (entails_of_eq (slotFP_eq c 0 f0)); iexact H0
  isplitl [H1]; · iexists f1; iapply (entails_of_eq (slotFP_eq c 1 f1)); iexact H1
  isplitl [H2]; · iexists f2; iapply (entails_of_eq (slotFP_eq c 2 f2)); iexact H2
  iexists f3; iapply (entails_of_eq (slotFP_eq c 3 f3)); iexact H3
omit [BitOps F] in
theorem toks4 {ℓ : Loc nD τ sig} (f : Buf (Elt F) ℓ) :
    (ℓ ↦{fullShare} f : sProp 𝕄) ⊣⊢ iprop((ℓ ↦{Transfers.shareDrop fullShare 4} f) ∗ (ℓ ↦{qs 0} f) ∗ (ℓ ↦{qs 1} f) ∗ (ℓ ↦{qs 2} f) ∗ (ℓ ↦{qs 3} f)) := by
  have h := Transfers.pointsTo_toks (Ix := Unit) (Name := ℕ) (U := UU nD τ) (Lvl := ℕ) (ℓ := ℓ) (S := Finset.univ) (f := f) fullShare 4
  rw [bigSep_fin4] at h
  exact h

/-- The weight's share no slot carries. -/
def remW : sProp 𝕄 := wM.view.loc (c : Thread nD τ) ↦{Transfers.shareDrop fullShare 4} X
/-- The weight whole. -/
def wholeW : sProp 𝕄 := wM.view.loc (c : Thread nD τ) ↦{fullShare} X

omit [BitOps F] in
theorem vecP_whole (b : Ref sig .tc) (f : Buf (Elt F) ((c : Thread nD τ).loc b)) :
    (vecP c (Memref.whole b) f : sProp 𝕄) = (((c : Thread nD τ).loc b) ↦{fullShare} f) :=
  congrArg (fun S => (_ ↦[S]{fullShare} f : sProp 𝕄)) (View.set_whole _)
theorem vecP_in (b : Ref sig .tc) :
    iprop(∃ f : Buf (Elt F) ((c : Thread nD τ).loc b), ((c : Thread nD τ).loc b) ↦{fullShare} f) ⊢ (iprop(∃ f, vecP c (Memref.whole b) f) : sProp 𝕄) := by
  iintro ⟨%f, H⟩; iexists f; iapply (entails_of_eq (vecP_whole c b f).symm); iexact H
theorem vecP_out (b : Ref sig .tc) :
    iprop(∃ f, vecP c (Memref.whole b) f) ⊢ (iprop(∃ f : Buf (Elt F) ((c : Thread nD τ).loc b), ((c : Thread nD τ).loc b) ↦{fullShare} f) : sProp 𝕄) := by
  iintro ⟨%f, H⟩; iexists f; iapply (entails_of_eq (vecP_whole c b f)); iexact H

/-- What the body holds beside its operands and result, the same at its entry and at its exit. -/
def core : sProp 𝕄 :=
  iprop(remW c X ∗ freeSlot c X 0 ∗ freeSlot c X 1 ∗ freeSlot c X 2 ∗ freeSlot c X 3 ∗ cellH c ∗ (cellX c 1 ∗ cellX c 2 ∗ cellX c 3 ∗ cellX c 4)
    ∗ (∃ f, q2M.view.loc (c : Thread nD τ) ↦{fullShare} f) ∗ (∃ f, vecP c hM f) ∗ (∃ f, vecP c qoM f) ∗ (∃ f, vecP c cosM f) ∗ (∃ f, vecP c sinM f))

theorem core_in : iprop(wholeW c X ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) ⊢ (core c X : sProp 𝕄) := by
  rw [ownSems0_eq, scopedRest0_eq]
  unfold wholeW core remW freeSlot
  iintro ⟨Ho, ⟨Hc0, Hc1, Hc2, Hc3, HcH, HX⟩, Hr, Hq2, Hhm, Hqo, Hcm, Hsm⟩
  ihave Ho := (toks4 X).1 $$ Ho
  icases Ho with ⟨HoR, Ho0, Ho1, Ho2, Ho3⟩
  ihave Hr := (ring_split c) $$ Hr
  icases Hr with ⟨Hr0, Hr1, Hr2, Hr3⟩
  isplitl [HoR]; · iexact HoR
  isplitl [Hc0 Hr0 Ho0]
  · isplitl [Hc0]; · iexact Hc0
    isplitl [Hr0]; · iexact Hr0
    iexact Ho0
  isplitl [Hc1 Hr1 Ho1]
  · isplitl [Hc1]; · iexact Hc1
    isplitl [Hr1]; · iexact Hr1
    iexact Ho1
  isplitl [Hc2 Hr2 Ho2]
  · isplitl [Hc2]; · iexact Hc2
    isplitl [Hr2]; · iexact Hr2
    iexact Ho2
  isplitl [Hc3 Hr3 Ho3]
  · isplitl [Hc3]; · iexact Hc3
    isplitl [Hr3]; · iexact Hr3
    iexact Ho3
  isplitl [HcH]; · iexact HcH
  isplitl [HX]; · iexact HX
  isplitl [Hq2]; · iexact Hq2
  isplitl [Hhm]; · iapply (vecP_in c cc0_scoped1); iexact Hhm
  isplitl [Hqo]; · iapply (vecP_in c cc0_scoped2); iexact Hqo
  isplitl [Hcm]; · iapply (vecP_in c cc0_scoped3); iexact Hcm
  iapply (vecP_in c cc0_scoped4); iexact Hsm

theorem core_out : (core c X : sProp 𝕄) ⊢ iprop(wholeW c X ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) := by
  rw [ownSems0_eq, scopedRest0_eq]
  unfold wholeW core remW freeSlot
  iintro ⟨HoR, ⟨Hc0, Hr0, Ho0⟩, ⟨Hc1, Hr1, Ho1⟩, ⟨Hc2, Hr2, Ho2⟩, ⟨Hc3, Hr3, Ho3⟩, HcH, HX, Hq2, Hhm, Hqo, Hcm, Hsm⟩
  isplitl [HoR Ho0 Ho1 Ho2 Ho3]
  · iapply (toks4 X).2
    isplitl [HoR]; · iexact HoR
    isplitl [Ho0]; · iexact Ho0
    isplitl [Ho1]; · iexact Ho1
    isplitl [Ho2]; · iexact Ho2
    iexact Ho3
  isplitl [Hc0 Hc1 Hc2 Hc3 HcH HX]
  · isplitl [Hc0]; · iexact Hc0
    isplitl [Hc1]; · iexact Hc1
    isplitl [Hc2]; · iexact Hc2
    isplitl [Hc3]; · iexact Hc3
    isplitl [HcH]; · iexact HcH
    iexact HX
  isplitl [Hr0 Hr1 Hr2 Hr3]
  · iapply (ring_join c)
    isplitl [Hr0]; · iexact Hr0
    isplitl [Hr1]; · iexact Hr1
    isplitl [Hr2]; · iexact Hr2
    iexact Hr3
  isplitl [Hq2]; · iexact Hq2
  isplitl [Hhm]; · iapply (vecP_out c cc0_scoped1); iexact Hhm
  isplitl [Hqo]; · iapply (vecP_out c cc0_scoped2); iexact Hqo
  isplitl [Hcm]; · iapply (vecP_out c cc0_scoped3); iexact Hcm
  iapply (vecP_out c cc0_scoped4); iexact Hsm

end Splits

section Launch
variable (m : (ℓ : Loc nD τ sig) → Buf (Elt F) ℓ) (ρ : Dev nD → PrngReg)

/-- The weight as the region finds it. -/
def wts (c : Dev nD) : Buf (Elt F) (wM.view.loc (c : Thread nD τ)) := V m c main_arg3

abbrev st0 (t : Fin cfg0.N) : Memref sig .tc .vmem S256x5120 .bf16 := win0_0.stage (cfg0.slots t 0)
abbrev st1 (t : Fin cfg0.N) : Memref sig .tc .vmem S256x1 .i32 := win0_1.stage (cfg0.slots t 1)
abbrev st2 (t : Fin cfg0.N) : Memref sig .tc .vmem S1x128 .f32 := win0_2.stage (cfg0.slots t 2)
abbrev st3 (t : Fin cfg0.N) : Memref sig .tc .vmem S40x128 .f32 := win0_3.stage (cfg0.slots t 3)
abbrev st4 (t : Fin cfg0.N) : Memref sig .tc .vmem S48x128 .f32 := win0_4.stage (cfg0.slots t 4)

abbrev in0 (c : Dev nD) : Buf (Elt F) ((st0 t0_0).view.loc (c : Thread nD τ)) := (st0 t0_0).view.rep (iblk m c 0 t0_0)
abbrev in1 (c : Dev nD) : Buf (Elt F) ((st1 t0_0).view.loc (c : Thread nD τ)) := (st1 t0_0).view.rep (iblk m c 1 t0_0)
abbrev in2 (c : Dev nD) : Buf (Elt F) ((st2 t0_0).view.loc (c : Thread nD τ)) := (st2 t0_0).view.rep (iblk m c 2 t0_0)
abbrev in3 (c : Dev nD) : Buf (Elt F) ((st3 t0_0).view.loc (c : Thread nD τ)) := (st3 t0_0).view.rep (iblk m c 3 t0_0)
abbrev in4 (c : Dev nD) : Buf (Elt F) ((st4 t0_0).view.loc (c : Thread nD τ)) := (st4 t0_0).view.rep (iblk m c 4 t0_0)

/-! ## The pipeline's proof data -/

def before (c : Dev nD) : sProp 𝕄 := iprop(∃ f, vecP c outM f)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := iprop(core c (wts m c) ∗ before c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0)
        hM (Memref.isWhole_whole _) qoM (Memref.isWhole_whole _) cosM (Memref.isWhole_whole _) sinM (Memref.isWhole_whole _) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) (st4 t) (hstage0_4 0)
        hM (Memref.isWhole_whole _) qoM (Memref.isWhole_whole _) cosM (Memref.isWhole_whole _) sinM (Memref.isWhole_whole _) :=
  (congrFun defs_tc _).trans rfl

set_option maxHeartbeats 1000000 in
set_option backward.isDefEq.respectTransparency.types false in
theorem body_obligation (c : Dev nD) : BodyObligation (dats (F := F) m 0 c) (defs₀ (F := F)) 𝒱₀ () Set.univ := fun t => by
  rw [show t = t0_0 from fin_N0 t]
  rw [bigSep_W0, bigSep_W0]
  dsimp only
  simp only [before_w0, before_w1, before_w2, before_w3, before_w4, after_w0, after_w1, after_w2, after_w3, after_w4]
  rw [show (dats m 0 c).Φ (Fin.castSucc t0_0) = iprop(core c (wts m c) ∗ before c) from rfl, show (dats m 0 c).Φ (Fin.succ t0_0) = iprop(core c (wts m c) ∗ before c) from rfl]
  unfold Dat.owesAt Pipeline.owesWithin
  rw [show (dats m 0 c).owed (Fin.castSucc t0_0) = 0 from rfl, show (dats m 0 c).owed (Fin.succ t0_0) = 0 from rfl]
  unfold owns core before
  iintro ⟨⟨⟨HR, Hs0, Hs1, Hs2, Hs3, HcH, HX, Hq2, Hhm, Hqo, Hcm, Hsm⟩, Hout⟩, ⟨%W, -, HW⟩,
    ⟨%d0, %g0, %hg0, H0⟩, ⟨%d1, %g1, %hg1, H1⟩, ⟨%d2, %g2, %hg2, H2⟩, ⟨%d3, %g3, %hg3, H3⟩, ⟨%d4, %g4, %hg4, H4⟩⟩
  ihave H0 := (pointsTo_rep_entails (c : Thread nD τ) (st0 t0_0) g0 fullShare) $$ H0
  ihave H1 := (pointsTo_rep_entails (c : Thread nD τ) (st1 t0_0) g1 fullShare) $$ H1
  ihave H2 := (pointsTo_rep_entails (c : Thread nD τ) (st2 t0_0) g2 fullShare) $$ H2
  ihave H3 := (pointsTo_rep_entails (c : Thread nD τ) (st3 t0_0) g3 fullShare) $$ H3
  ihave H4 := (pointsTo_rep_entails (c : Thread nD τ) (st4 t0_0) g4 fullShare) $$ H4
  rw [hg0, hg1, hg2, hg3, hg4]
  sl_rw [prog_eq t0_0]
  iapply (wp_wand_r Idealize.ShloMosaic.frame (wpE (defs₀ (F := F)) 𝒱₀ (c : Thread nD τ) none) Set.univ)
  isplitl [H0 H1 H2 H3 H4 Hout Hq2 Hhm Hqo Hcm Hsm HW Hs0 Hs1 Hs2 Hs3 HcH]
  · iapply (bodyRun c (st0 t0_0) (hstage0_0 0) (st1 t0_0) (hstage0_1 0) (st2 t0_0) (hstage0_2 0) (st3 t0_0) (hstage0_3 0) (st4 t0_0) (hstage0_4 0)
      hM (Memref.isWhole_whole _) qoM (Memref.isWhole_whole _) cosM (Memref.isWhole_whole _) sinM (Memref.isWhole_whole _)
      (wts m c) (in0 m c) (in1 m c) (in2 m c) (in3 m c) (in4 m c))
    unfold held
    isplitl [H0]; · iexact H0
    isplitl [H1]; · iexact H1
    isplitl [H2]; · iexact H2
    isplitl [H3]; · iexact H3
    isplitl [H4]; · iexact H4
    isplitl [Hout]; · iexact Hout
    isplitl [Hq2]; · iexact Hq2
    isplitl [Hhm]; · iexact Hhm
    isplitl [Hqo]; · iexact Hqo
    isplitl [Hcm]; · iexact Hcm
    isplitl [Hsm]; · iexact Hsm
    isplitl [HW]; · iexists W; iexact HW
    isplitl [Hs0]; · iexact Hs0
    isplitl [Hs1]; · iexact Hs1
    isplitl [Hs2]; · iexact Hs2
    isplitl [Hs3]; · iexact Hs3
    iexact HcH
  · unfold held
    iintro %_ ⟨H0, H1, H2, H3, H4, Hout, Hq2, Hhm, Hqo, Hcm, Hsm, ⟨%W', HW⟩, Hs0, Hs1, Hs2, Hs3, HcH⟩
    isplitl [HR HX Hout Hq2 Hhm Hqo Hcm Hsm Hs0 Hs1 Hs2 Hs3 HcH]
    · isplitl [HR HX Hq2 Hhm Hqo Hcm Hsm Hs0 Hs1 Hs2 Hs3 HcH]
      · isplitl [HR]; · iexact HR
        isplitl [Hs0]; · iexact Hs0
        isplitl [Hs1]; · iexact Hs1
        isplitl [Hs2]; · iexact Hs2
        isplitl [Hs3]; · iexact Hs3
        isplitl [HcH]; · iexact HcH
        isplitl [HX]; · iexact HX
        isplitl [Hq2]; · iexact Hq2
        isplitl [Hhm]; · iexact Hhm
        isplitl [Hqo]; · iexact Hqo
        isplitl [Hcm]; · iexact Hcm
        iexact Hsm
      iexact Hout
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr; · ipureintro; exact View.read_rep _ _
    iexact H4

/-! ## The run -/

def restZ (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg4) ↦{fullShare} V m c main_arg4))
def intoΦ (c : Dev nD) : sProp 𝕄 :=
  iprop(wholeW c (wts m c) ∗ Pipeline.ownSems0 (Ix := Unit) (Name := ℕ) (U := UU nD τ) (Lvl := ℕ) (Val := Elt F) (τ := τ) osem c
    ∗ (((c : Thread nD τ).loc main_v13) ↦{fullShare} V m c main_v13))
def outOfΦ (c : Dev nD) : sProp 𝕄 := iprop(wholeW c (wts m c) ∗ before c)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
/-- What the run leaves beside the staged arrays. -/
def QY (c : Dev nD) (s : MemSt nD τ sig (Elt F)) : Prop :=
  (s.mem ((c : Thread nD τ).loc main_arg1) = V m c main_arg1 ∧ s.mem ((c : Thread nD τ).loc main_arg2) = V m c main_arg2 ∧ s.mem ((c : Thread nD τ).loc main_arg4) = V m c main_arg4)
  ∧ s.mem ((c : Thread nD τ).loc main_arg3) = V m c main_arg3
def QC : PUnit × MemSt nD τ sig (Elt F) → Prop := fun r =>
  ∀ c : Dev nD, (∀ w : Fin cfg0.W, r.2.mem ((cfg0.win w).arr.view.loc (c : Thread nD τ)) = finalA m c w) ∧ QY m c r.2

theorem hin (c : Dev nD) : iprop(intoΦ m c ∗ Pipeline.scopedRest (Ix := Unit) (Name := ℕ) (U := UU nD τ) (Lvl := ℕ) (Val := Elt F) spec0 c)
    ⊢ (iprop(core c (wts m c) ∗ before c) : sProp 𝕄) := by
  unfold intoΦ before
  iintro ⟨⟨HW, HS, Ho⟩, HR⟩
  isplitl [HW HS HR]
  · iapply (core_in c (wts m c))
    isplitl [HW]; · iexact HW
    isplitl [HS]; · iexact HS
    iexact HR
  iapply (vecP_in c main_v13); iexists _; iexact Ho
theorem hout (c : Dev nD) : (iprop(core c (wts m c) ∗ before c) : sProp 𝕄)
    ⊢ iprop(outOfΦ m c ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) := by
  unfold outOfΦ
  iintro ⟨HC, HD⟩
  ihave HC := (core_out c (wts m c)) $$ HC
  icases HC with ⟨HW, HS, HR⟩
  isplitl [HW HD]
  · isplitl [HW]; · iexact HW
    iexact HD
  isplitl [HS]; · iexact HS
  iexact HR
theorem hX (c : Dev nD) : iprop(Pipeline.unscopedRest (Ix := Unit) (Name := ℕ) (U := UU nD τ) (Lvl := ℕ) spec0 c (V m c)
      ∗ Pipeline.ownSems0 (Ix := Unit) (Name := ℕ) (U := UU nD τ) (Lvl := ℕ) (Val := Elt F) (τ := τ) osem c)
    ⊢ (iprop(intoΦ m c ∗ restZ m c) : sProp 𝕄) := by
  rw [unscopedRest0_eq]
  unfold intoΦ restZ wholeW wts
  iintro ⟨⟨H1, H2, H3, H4, -, -, -, -, -, -, -, -, -, -, -, -, Ho⟩, HS⟩
  isplitl [H3 Ho HS]
  · isplitl [H3]; · iexact H3
    isplitl [HS]; · iexact HS
    iexact Ho
  isplitl [H1]; · iexact H1
  isplitl [H2]; · iexact H2
  iexact H4
theorem hY (c : Dev nD) (s' : Phys nD τ sig (Elt F)) : iprop(outOfΦ m c ∗ restZ m c ∗ SI (Ix := Unit) (Name := ℕ) (U := UU nD τ) (Lvl := ℕ) s')
    ⊢ (iprop(⌜QY m c s'.mem⌝ ∗ SI (Ix := Unit) (Name := ℕ) (U := UU nD τ) (Lvl := ℕ) s') : sProp 𝕄) := by
  unfold outOfΦ restZ wholeW wts
  iintro ⟨⟨H3, -⟩, ⟨H1, H2, H4⟩, HSI⟩
  icombine HSI H1 gives %h1
  icombine HSI H2 gives %h2
  icombine HSI H3 gives %h3
  icombine HSI H4 gives %h4
  isplitr
  · ipureintro
    exact ⟨⟨Buf.eq_of_forall_mem_univ h1, Buf.eq_of_forall_mem_univ h2, Buf.eq_of_forall_mem_univ h4⟩, Buf.eq_of_forall_mem_univ h3⟩
  iexact HSI

set_option maxHeartbeats 1000000 in
set_option backward.isDefEq.respectTransparency.types false in
/-- For any float values, from any memory with zero counters: every weakly fair execution of @main on the TensorCores
    terminates, and every final state has the arguments as launched and every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := restZ m)
    (hX := fun c => by
      iintro ⟨HU, HS, -, -, -⟩; imodintro
      iapply (hX m c)
      isplitl [HU]; · iexact HU
      iexact HS)
    (hin := fun c => hin m c)
    (hout := fun c => hout m c)
    (QY := QY m)
    (hY := fun c s' => by
      iintro H; imodintro
      iapply (hY m c s'); iexact H)
    (hQ := fun _ hh hz => ⟨hh, hz⟩)

theorem finalA_in (c : Dev nD) (w : Fin cfg0.W) (hw : (cfg0.win w).isOut = false) : finalA m c w = V m c (Pipeline.arrRef spec0 w) :=
  (dats (F := F) m 0 c).arrAt_in w hw _

/-- Every argument ends as launched. -/
theorem args_kept (c : Dev nD) (r : PUnit × MemSt nD τ sig (Elt F)) (h : QC m r) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) := by
  obtain ⟨h0, ⟨h1, h2, h4⟩, h3⟩ := h c
  exact ⟨((h0 0).trans (finalA_in m c 0 rfl)).trans (V_main_arg0 m c), h1.trans (V_main_arg1 m c), h2.trans (V_main_arg2 m c), h3.trans (V_main_arg3 m c), h4.trans (V_main_arg4 m c)⟩

/-- The frame claim, for any float values. -/
theorem frame : θ_run defs (onTc (τ := τ) (main (F := F))) (s₀ m ρ) (fun r => (∀ c : Dev nD,
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4)) ∧ r.2.sem = fun _ => 0) :=
  (θ_run defs _ _).mono (fun r hh => ⟨fun c => args_kept m c r hh.1, hh.2⟩) (run_main m ρ)

end Launch

end Cert.Proof.QueryBits

end
-- ==== Proof.QNames.lean ====
/-
  The rotated queries' kernel: the canonical names of its windows (the weight ring's slots and cells, the column blocks
  of the projection's weight) and the ring's resources.
-/
module

public import proofs.«01_k».proof.Defs
public import proofs.«01_k».proof.Proof.Gen.QKernelIdeal.Launch
public import proofs.«01_k».proof.Proof.Gen.QKernelIdeal.Skeleton
public import proofs.«01_k».proof.Proof.Gen.QKernelIdeal.Loops
public import proofs.«01_k».proof.Proof.Gen.QKernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Query

open Cert.QKernelIdeal Cert.QKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The windows -/

abbrev wM : Memref sig .tc .hbm S5120x6144 .fp8e4m3 := Memref.whole main_arg3
abbrev outM : Memref sig .tc .hbm S256x32x128 .bf16 := Memref.whole main_v13
abbrev ringM : Memref sig .tc .vmem S4x5120x512 .fp8e4m3 := Memref.whole cc0_scratch0
abbrev q2M : Memref sig .tc .vmem S8x592x2x128 .bf16 := Memref.whole cc0_scoped0
abbrev hM : Memref sig .tc .vmem S256x5120 .bf16 := Memref.whole cc0_scoped1
abbrev qoM : Memref sig .tc .vmem S256x32x128 .bf16 := Memref.whole cc0_scoped2
abbrev cosM : Memref sig .tc .vmem S256x128 .f32 := Memref.whole cc0_scoped3
abbrev sinM : Memref sig .tc .vmem S256x128 .f32 := Memref.whole cc0_scoped4

abbrev slotOff (s : Fin 4) : Fin 3 → Nat := ![s.val, 0, 0]
abbrev colOff (b : ℕ) : Fin 2 → Nat := ![0, 512 * b]

theorem slotF_inb (s : Fin 4) : ∀ a, slotOff s a + S1x5120x512.size a ≤ S4x5120x512.size a := by
  have := s.isLt; intro a; fin_cases a
  · show s.val + 1 ≤ 4; omega
  · show 0 + 5120 ≤ 5120; omega
  · show 0 + 512 ≤ 512; omega
theorem wBlk_inb (b : Fin 8) : ∀ a, colOff b.val a + S5120x512.size a ≤ S5120x6144.size a := by
  have := b.isLt; intro a; fin_cases a
  · show 0 + 5120 ≤ 5120; omega
  · show 512 * b.val + 512 ≤ 6144; omega
theorem wsem_inb (s : Fin 4) : ∀ a, (![s.val] : Fin 1 → Nat) a + S1.size a ≤ S4.size a := by
  have := s.isLt; intro a; fin_cases a; show s.val + 1 ≤ 4; omega
theorem dsem_inb (s : Fin 5) : ∀ a, (![s.val] : Fin 1 → Nat) a + S1.size a ≤ S5.size a := by
  have := s.isLt; intro a; fin_cases a; show s.val + 1 ≤ 5; omega

/-- Slot `s` of the weight ring. -/
def slotF (s : Fin 4) : Memref sig .tc .vmem S5120x512 .fp8e4m3 :=
  (ringM.slice (Rect.unit (s := S4x5120x512) (slotOff s) S1x5120x512.size (slotF_inb s)) (fun _ => rfl)).squeeze S5120x512 squeezes_S1x5120x512_S5120x512
/-- Column block `b` of the projection's weight. -/
def wBlk (b : Fin 8) : Memref sig .tc .hbm S5120x512 .fp8e4m3 :=
  wM.slice (Rect.unit (s := S5120x6144) (colOff b.val) S5120x512.size (wBlk_inb b)) (fun _ => rfl)
/-- The weight ring's cell `s`. -/
def wsem (s : Fin 4) : DmaSems sig S_ := (cc0_scratch1.slice (Rect.unit (s := S4) ![s.val] S1.size (wsem_inb s))).squeeze S_ squeezes_S1_S_
/-- The other transfers' cell `s`. -/
def dsem (s : Fin 5) : DmaSems sig S_ := (cc0_scratch2.slice (Rect.unit (s := S5) ![s.val] S1.size (dsem_inb s))).squeeze S_ squeezes_S1_S_

instance (s : Fin 4) : ClosedOff (slotOff s) := ⟨slotOff s, rfl⟩
instance (b : ℕ) : ClosedOff (colOff b) := ⟨colOff b, rfl⟩

theorem wsem_congr {off : Fin 1 → Nat} {s : Fin 4} (e : off = ![s.val]) (hh) :
    (cc0_scratch1.slice (Rect.unit (s := S4) off S1.size hh)).squeeze S_ squeezes_S1_S_ = wsem s :=
  congrArg (fun A : DmaSems sig S1 => A.squeeze S_ squeezes_S1_S_) (SemArray.slice_unit_congr _ e _ _)
theorem slotF_congr {off : Fin 3 → Nat} {s : Fin 4} (e : off = slotOff s) (hh hs) :
    (ringM.slice (Rect.unit (s := S4x5120x512) off S1x5120x512.size hh) hs).squeeze S5120x512 squeezes_S1x5120x512_S5120x512 = slotF s :=
  congrArg (fun M : Memref sig .tc .vmem S1x5120x512 .fp8e4m3 => M.squeeze S5120x512 squeezes_S1x5120x512_S5120x512) (Memref.slice_unit_congr _ e _ _ _ _)
theorem wBlk_congr {off : Fin 2 → Nat} {b : Fin 8} (e : off = colOff b.val) (hh hs) :
    wM.slice (Rect.unit (s := S5120x6144) off S5120x512.size hh) hs = wBlk b := Memref.slice_unit_congr _ e _ _ _ (fun _ => rfl)
theorem slotF_set (s : Fin 4) : (slotF s : Memref sig .tc .vmem _ _).view.set = (Rect.unit (s := S4x5120x512) (slotOff s) S1x5120x512.size (slotF_inb s)).set := (View.set_reshape _ _).trans (View.set_slice_whole _ _)
theorem ring_inF {off : Fin 3 → Nat} {s : Fin 4} (e : off = ![s.val, 0, 0]) (hh) :
    (ringM.access (Rect.unit (s := S4x5120x512) off S1x5120x512.size hh) : View sig .tc .vmem _ _).set ⊆ (slotF s : Memref sig .tc .vmem _ _).view.set := by
  subst e
  refine Finset.subset_of_eq ?_
  unfold slotF
  exact ((View.set_slice_whole _ _).trans ((View.set_reshape _ _).trans (View.set_slice_whole _ _)).symm)

/-! ## The loop's windows at trip `k`, and the first three transfers' -/

section Trip
variable (k : Fin k0_t2_loop.trips)
theorem t2_lt : k.val < 8 := k.isLt
theorem cond1_true : k0_cond1 = 1#1 := by decide +kernel
theorem cond2_true : k0_cond2 = 1#1 := by decide +kernel
theorem cond3_true : k0_cond3 = 1#1 := by decide +kernel
theorem cond4_iff : ∀ k : Fin k0_t2_loop.trips, k0_cond4 k = 1#1 ↔ k.val ≤ 4 := by decide +kernel
theorem bk8_val (n : ℕ) (h : n < 8) : (Ring.bk 8 n).val = n := Ring.bk_val h

@[sl_canon] theorem t2_sem (hh) : (cc0_scratch1.slice (Rect.unit (s := S4) (k0_off11 k) S1.size hh)).squeeze S_ squeezes_S1_S_ = wsem (Ring.sl 4 k.val) :=
  wsem_congr (k0_off11_eq k) _
@[sl_canon] theorem t2_sem' (hh) : (cc0_scratch1.slice (Rect.unit (s := S4) (k0_off13 k) S1.size hh)).squeeze S_ squeezes_S1_S_ = wsem (Ring.sl 4 (k.val + 3)) :=
  wsem_congr (k0_off13_eq k) _
@[sl_canon] theorem t2_slot (hh hs) : (ringM.slice (Rect.unit (s := S4x5120x512) (k0_off12 k) S1x5120x512.size hh) hs).squeeze S5120x512 squeezes_S1x5120x512_S5120x512 = slotF (Ring.sl 4 k.val) :=
  slotF_congr (k0_off12_eq k) _ _
@[sl_canon] theorem t2_slot' (hh hs) : (ringM.slice (Rect.unit (s := S4x5120x512) (k0_off14 k) S1x5120x512.size hh) hs).squeeze S5120x512 squeezes_S1x5120x512_S5120x512 = slotF (Ring.sl 4 (k.val + 3)) :=
  slotF_congr (k0_off14_eq k) _ _
@[sl_canon] theorem t2_blk' (hk : k.val ≤ 4) (hh hs) : wM.slice (Rect.unit (s := S5120x6144) (k0_off15 k) S5120x512.size hh) hs = wBlk (Ring.bk 8 (k.val + 3)) :=
  wBlk_congr ((k0_off15_eq k).trans (by unfold colOff; rw [bk8_val _ (by omega)]; congr 2)) _ _
end Trip

@[sl_canon] theorem b_sem0 (hh) : (cc0_scratch1.slice (Rect.unit (s := S4) k0_off1 S1.size hh)).squeeze S_ squeezes_S1_S_ = wsem 0 := wsem_congr k0_off1_eq _
@[sl_canon] theorem b_sem1 (hh) : (cc0_scratch1.slice (Rect.unit (s := S4) k0_off4 S1.size hh)).squeeze S_ squeezes_S1_S_ = wsem 1 := wsem_congr k0_off4_eq _
@[sl_canon] theorem b_sem2 (hh) : (cc0_scratch1.slice (Rect.unit (s := S4) k0_off7 S1.size hh)).squeeze S_ squeezes_S1_S_ = wsem 2 := wsem_congr k0_off7_eq _
@[sl_canon] theorem b_slot0 (hh hs) : (ringM.slice (Rect.unit (s := S4x5120x512) k0_off2 S1x5120x512.size hh) hs).squeeze S5120x512 squeezes_S1x5120x512_S5120x512 = slotF 0 := slotF_congr k0_off2_eq _ _
@[sl_canon] theorem b_slot1 (hh hs) : (ringM.slice (Rect.unit (s := S4x5120x512) k0_off5 S1x5120x512.size hh) hs).squeeze S5120x512 squeezes_S1x5120x512_S5120x512 = slotF 1 := slotF_congr k0_off5_eq _ _
@[sl_canon] theorem b_slot2 (hh hs) : (ringM.slice (Rect.unit (s := S4x5120x512) k0_off8 S1x5120x512.size hh) hs).squeeze S5120x512 squeezes_S1x5120x512_S5120x512 = slotF 2 := slotF_congr k0_off8_eq _ _
@[sl_canon] theorem b_blk0 (hh hs) : wM.slice (Rect.unit (s := S5120x6144) k0_off3 S5120x512.size hh) hs = wBlk 0 := wBlk_congr k0_off3_eq _ _
@[sl_canon] theorem b_blk1 (hh hs) : wM.slice (Rect.unit (s := S5120x6144) k0_off6 S5120x512.size hh) hs = wBlk 1 := wBlk_congr k0_off6_eq _ _
@[sl_canon] theorem b_blk2 (hh hs) : wM.slice (Rect.unit (s := S5120x6144) k0_off9 S5120x512.size hh) hs = wBlk 2 := wBlk_congr k0_off9_eq _ _
@[sl_canon] theorem b_dsem (hh) : (cc0_scratch2.slice (Rect.unit (s := S5) ![0] S1.size hh)).squeeze S_ squeezes_S1_S_ = dsem 0 := rfl

/-! ## The weight ring's resources -/

/-- The read share of the weight that rides with slot `s`. -/
def qs (s : Fin 4) : PosShare TreeShare := Transfers.shareTokN fullShare s.val

section Pieces
variable (c : Dev nD) (X : Buf (Elt F) (wM.view.loc (c : Thread nD τ)))

abbrev cellP (s : Fin 4) : sProp 𝕄 := semVal ((c : Thread nD τ), SemLoc.dma (wsem s).sem) 0
abbrev cellH : sProp 𝕄 := semVal ((c : Thread nD τ), SemLoc.dma (dsem 0).sem) 0
abbrev slotFP (s : Fin 4) (f : Buf (Elt F) ((slotF s).view.loc (c : Thread nD τ))) : sProp 𝕄 :=
  (slotF s).view.loc (c : Thread nD τ) ↦[(slotF s).view.set]{fullShare} f
abbrev wP (s : Fin 4) (b : Fin 8) : sProp 𝕄 := (wBlk b).view.loc (c : Thread nD τ) ↦[(wBlk b).view.set]{qs s} X
abbrev wW (s : Fin 4) : sProp 𝕄 := wM.view.loc (c : Thread nD τ) ↦{qs s} X
/-- A block's words as a slot's payload. -/
abbrev payW (b : Fin 8) : S5120x512.Idx → Elt F .fp8e4m3 := ReadAs.same.apply ((wBlk b).view.read (Elt F) X)
abbrev flight (s : Fin 4) (b : Fin 8) (f : Buf (Elt F) ((slotF s).view.loc (c : Thread nD τ))) : sProp 𝕄 :=
  Transfers.Flight countersEmb (c : Thread nD τ) (SemLoc.dma (wsem s).sem) () 81920
    iprop(slotFP c s ((slotF s).view.writes (Elt F) f [⟨Rect.whole S5120x512, payW c X b⟩]) ∗ wP c X s b)
/-- What stays behind while block `b` is on its way into slot `s`. -/
def hid (s : Fin 4) (b : Fin 8) : sProp 𝕄 := wM.view.loc (c : Thread nD τ) ↦[Finset.univ \ (wBlk b).view.set]{qs s} X
/-- Slot `s` free: its cell at zero, its words at anything, its share of the weight whole. -/
def freeSlot (s : Fin 4) : sProp 𝕄 := iprop(cellP c s ∗ (∃ f, slotFP c s f) ∗ wW c X s)
/-- Slot `s` awaiting block `b`. -/
def flt (s : Fin 4) (b : Fin 8) : sProp 𝕄 := iprop((∃ f, flight c X s b f) ∗ hid c X s b)

theorem free_open (s : Fin 4) (b : Fin 8) : freeSlot c X s ⊣⊢ iprop(cellP c s ∗ (∃ f, slotFP c s f) ∗ wP c X s b ∗ hid c X s b) := by
  unfold freeSlot hid
  refine ⟨?_, ?_⟩
  · iintro ⟨Hc, Hs, Hu⟩
    ihave H2 := (pointsTo_split_subset (Finset.subset_univ (wBlk b).view.set)).1 $$ Hu
    icases H2 with ⟨Hu, Hr⟩
    isplitl [Hc]; · iexact Hc
    isplitl [Hs]; · iexact Hs
    isplitl [Hu]; · iexact Hu
    iexact Hr
  · iintro ⟨Hc, Hs, Hu, Hr⟩
    ihave Hu2 := (pointsTo_split_subset (Finset.subset_univ (wBlk b).view.set) (ℓ := wM.view.loc (c : Thread nD τ)) (q := qs s) (f := X)).2 $$ [Hu Hr]
    · isplitl [Hu]; · iexact Hu
      iexact Hr
    isplitl [Hc]; · iexact Hc
    isplitl [Hs]; · iexact Hs
    iexact Hu2

/-- Slot number `n` of the loop: awaiting block `n`, then free. -/
def ringAt (n : ℕ) : sProp 𝕄 := if n < 8 then flt c X (Ring.sl 4 n) (Ring.bk 8 n) else freeSlot c X (Ring.sl 4 n)
theorem ringAt_lt (n : ℕ) (h : n < 8) : ringAt c X n = flt c X (Ring.sl 4 n) (Ring.bk 8 n) := by unfold ringAt; rw [if_pos h]
theorem ringAt_ge (n : ℕ) (h : 8 ≤ n) : ringAt c X n = freeSlot c X (Ring.sl 4 n) := by unfold ringAt; rw [if_neg (by omega)]
theorem flt_fold (s : Fin 4) (b : Fin 8) (f) : iprop(flight c X s b f ∗ hid c X s b) ⊢ flt c X s b := by
  unfold flt
  iintro ⟨H, Hh⟩
  isplitl [H]; · iexists f; iexact H
  iexact Hh

abbrev vecP {sp : Space} {s : Shape} {e : EltTy} (m : Memref sig .tc sp s e) (f : Buf (Elt F) (m.view.loc (c : Thread nD τ))) : sProp 𝕄 :=
  m.view.loc (c : Thread nD τ) ↦[m.view.set]{fullShare} f
end Pieces

end Cert.Proof.Query

end
-- ==== Proof.QTrips.lean ====
module

public import proofs.«01_k».proof.Proof.QNames

@[expose] public section

noncomputable section

/-! # The two loops of the rotated queries -/

namespace Cert.Proof.Query

open Cert.QKernelIdeal Cert.QKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Trip
variable (c : Dev nD)
variable (arg0 : Memref sig .tc .vmem S256x5120 .bf16) (harg0 : arg0.IsWhole) (arg1 : Memref sig .tc .vmem S256x1 .i32) (harg1 : arg1.IsWhole)
  (arg2 : Memref sig .tc .vmem S1x128 .f32) (harg2 : arg2.IsWhole) (arg3 : Memref sig .tc .vmem S40x128 .f32) (harg3 : arg3.IsWhole)
  (arg4 : Memref sig .tc .vmem S48x128 .f32) (harg4 : arg4.IsWhole)
  (hm : Memref sig .tc .vmem S256x5120 .bf16) (hhm : hm.IsWhole)
  (qo : Memref sig .tc .vmem S256x32x128 .bf16) (hqo : qo.IsWhole) (cm : Memref sig .tc .vmem S256x128 .f32) (hcm : cm.IsWhole)
  (sm : Memref sig .tc .vmem S256x128 .f32) (hsm : sm.IsWhole)

abbrev trip1G := k0_t1_body (F := F) arg0 harg0 arg1 harg1 arg2 harg2 arg3 harg3 arg4 harg4 wM (Memref.isWhole_whole _) outM (Memref.isWhole_whole _) ringM (Memref.isWhole_whole _) cc0_scratch1 cc0_scratch2 q2M (Memref.isWhole_whole _) hm hhm qo hqo cm hcm sm hsm
abbrev trip2G (v21 : FVec F S256x128 .f32) (v26 : IVec S256x128 32) := k0_t2_body (F := F) arg0 harg0 arg1 harg1 arg2 harg2 arg3 harg3 arg4 harg4 wM (Memref.isWhole_whole _) outM (Memref.isWhole_whole _) ringM (Memref.isWhole_whole _) cc0_scratch1 cc0_scratch2 q2M (Memref.isWhole_whole _) hm hhm qo hqo cm hcm sm hsm v21 v26

/-! ## One trip's values -/

section Values
variable (X : Buf (Elt F) (wM.view.loc (c : Thread nD τ))) (X0 : Buf (Elt F) (arg0.view.loc (c : Thread nD τ))) (X3 : Buf (Elt F) (arg3.view.loc (c : Thread nD τ)))
  (X4 : Buf (Elt F) (arg4.view.loc (c : Thread nD τ))) (H : Buf (Elt F) (hm.view.loc (c : Thread nD τ)))
  (CM : Buf (Elt F) (cm.view.loc (c : Thread nD τ))) (SM : Buf (Elt F) (sm.view.loc (c : Thread nD τ))) (Q2 : Buf (Elt F) (q2M.view.loc (c : Thread nD τ)))

theorem row_inb (r : Fin 40) : ∀ a, (![r.val, 0] : Fin 2 → Nat) a + S1x128.size a ≤ S40x128.size a := by
  revert r; decide

section Norm
variable (k : Fin k0_t1_loop.trips)
abbrev R10 (r : Fin 40) : Rect S256x5120 := Rect.unit (s := S256x5120) (k0_off10 k (BitVec.ofNat 32 r.val)) S32x128.size (k0_off10_inb k r)
/-- Column stripe `r` of the trip's 32 rows of `x`. -/
abbrev xs (r : Fin 40) : Vec F S32x128 .bf16 := View.readAt (Elt F) arg0.view (R10 k r).toLoadRect X0
/-- The inverse norm of the trip's 32 rows. -/
def rinv : FVec F S32x1 .f32 :=
  let x := xs c arg0 X0 k
  k0_pay7 (k0_pay6 (k0_pay5 (k0_pay4 (k0_pay3 (k0_pay2 (k0_pay1 (x 0) (x 1) (x 2) (x 3) (x 4) (x 5))
      (x 6) (x 7) (x 8) (x 9) (x 10) (x 11)) (x 12) (x 13) (x 14) (x 15) (x 16) (x 17) (x 18))
      (x 19) (x 20) (x 21) (x 22) (x 23) (x 24) (x 25)) (x 26) (x 27) (x 28) (x 29) (x 30) (x 31))
      (x 32) (x 33) (x 34) (x 35) (x 36) (x 37) (x 38)) (x 39)
/-- Column stripe `r` of the trip's 32 rows, normalised. -/
def nrm (r : Fin 40) : FVec F S32x128 .bf16 :=
  k0_pay11 (rinv c arg0 X0 k) (xs c arg0 X0 k r)
    (View.readAt (Elt F) arg3.view (Rect.unit (s := S40x128) ![r.val, 0] S1x128.size (row_inb r)).toLoadRect X3)
/-- The first `n` stripes, the last one first. -/
def nrmL : (n : ℕ) → n ≤ 40 → List (View.Piece (Elt F) S256x5120 .bf16)
  | 0, _ => []
  | n + 1, h => ⟨R10 k ⟨n, h⟩, nrm c arg0 arg3 X0 X3 k ⟨n, h⟩⟩ :: nrmL n (Nat.le_of_succ_le h)
end Norm

section Head
variable (k : Fin k0_t2_loop.trips)
abbrev RH : Rect S256x5120 := Rect.unit (s := S256x5120) ![0, 0] S256x5120.size inb_S256x5120_S256x5120_0_0
abbrev RC : Rect S256x128 := Rect.unit (s := S256x128) ![0, 0] S256x128.size inb_S256x128_S256x128_0_0
abbrev hAll : Vec F S256x5120 .bf16 := View.readAt (Elt F) hm.view RH.toLoadRect H
abbrev wAll : Vec F S1x5120x512 .fp8e4m3 :=
  View.readAt (Elt F) ringM.view (Rect.unit (s := S4x5120x512) (k0_off16 k) S1x5120x512.size (k0_off16_inb k)).toLoadRect
    ((slotF (Ring.sl 4 k.val)).view.writes (Elt F) (slotF (Ring.sl 4 k.val)).view.junk [⟨Rect.whole S5120x512, payW c X (Ring.bk 8 k.val)⟩])
abbrev sRow (r : Fin 4) : Vec F S1x128 .f32 :=
  View.readAt (Elt F) arg4.view (Rect.unit (s := S48x128) (k0_off17 k (BitVec.ofNat 32 r.val)) S1x128.size (k0_off17_inb k r)).toLoadRect X4
abbrev cAll : Vec F S256x128 .f32 := View.readAt (Elt F) cm.view RC.toLoadRect CM
abbrev sAll : Vec F S256x128 .f32 := View.readAt (Elt F) sm.view RC.toLoadRect SM

/-- Heads `4k` and `4k + 1`, then `4k + 2` and `4k + 3`, rotated. -/
def pair0 : Vec F S256x2x128 .bf16 :=
  k0_pay70 (k0_pay60 (hAll c hm H) (wAll c X k) (sRow c arg4 X4 k 0) (cAll c cm CM) (sAll c sm SM))
    (k0_pay62 (k0_pay61 (hAll c hm H) (wAll c X k)) (sRow c arg4 X4 k 1) (cAll c cm CM) (sAll c sm SM))
def pair1 : Vec F S256x2x128 .bf16 :=
  k0_pay71 (k0_pay63 (k0_pay59 (hAll c hm H) (wAll c X k)) (sRow c arg4 X4 k 2) (cAll c cm CM) (sAll c sm SM))
    (k0_pay65 (k0_pay59 (hAll c hm H) (wAll c X k)) (sRow c arg4 X4 k 3) (cAll c cm CM))
    (k0_pay66 (k0_pay59 (hAll c hm H) (wAll c X k)) (sRow c arg4 X4 k 3)) (sAll c sm SM)

/-- Plane `k` of the pair buffer. -/
abbrev plane : Memref sig .tc .vmem S592x2x128 .bf16 :=
  (q2M.slice (Rect.unit (s := S8x592x2x128) (k0_off18 k) S1x592x2x128.size (k0_off18_inb k)) (fun _ => rfl)).squeeze S592x2x128 squeezes_S1x592x2x128_S592x2x128
abbrev LR0 : LoadRect S592x2x128 := ⟨![0, 0, 0], S256x2x128.size, ![2, 1, 1], inb_S592x2x128_S256x2x128_0_0_0_s_2_1_1⟩
abbrev LR1 : LoadRect S592x2x128 := ⟨![1, 0, 0], S256x2x128.size, ![2, 1, 1], inb_S592x2x128_S256x2x128_1_0_0_s_2_1_1⟩
abbrev SR0 : Rect S592x2x128 := ⟨LR0, spos_2_1_1⟩
abbrev SR1 : Rect S592x2x128 := ⟨LR1, spos_2_1_1⟩

/-- The pair buffer after the trip. -/
def q2Next : Buf (Elt F) (q2M.view.loc (c : Thread nD τ)) :=
  (plane k).view.writes (Elt F) Q2 [⟨SR1, pair1 c arg4 hm cm sm X X4 H CM SM k⟩, ⟨SR0, pair0 c arg4 hm cm sm X X4 H CM SM k⟩]
end Head
end Values

/-! ## One trip -/

set_option backward.proofsInPublic true in
/-- One trip of the normalisation: 40 column stripes of 32 rows stored. -/
theorem trip1 (k : Fin k0_t1_loop.trips) (a : BitVec 32)
   (X0 : Buf (Elt F) (arg0.view.loc (c : Thread nD τ))) (X3 : Buf (Elt F) (arg3.view.loc (c : Thread nD τ)))
   (H : Buf (Elt F) (hm.view.loc (c : Thread nD τ))) :
   iprop(vecP c arg0 X0 ∗ vecP c arg3 X3 ∗ vecP c hm H)
   ⊢ wp frame (wpE (defs₀ (F := F)) 𝒱₀ (c : Thread nD τ) none) Set.univ (trip1G arg0 harg0 arg1 harg1 arg2 harg2 arg3 harg3 arg4 harg4 hm hhm qo hqo cm hcm sm hsm k a)
      (fun _ => iprop(vecP c arg0 X0 ∗ vecP c arg3 X3 ∗ vecP c hm (hm.view.writes (Elt F) H (nrmL c arg0 arg3 X0 X3 k 40 le_rfl)))) := by
  iintro ⟨H0, H3, Hhm⟩
  dsimp only [trip1G]
  sl_unfold [k0_t1_body]
  sl_exec
  sl_step
  isplitl [H0]; · iexact H0
  isplitl [H3]; · iexact H3
  iexact Hhm

/-- One trip of the projection: four heads scaled, rotated and stored in pairs. -/
theorem trip2 (v21 : FVec F S256x128 .f32) (v26 : IVec S256x128 32) (k : Fin k0_t2_loop.trips) (a : BitVec 32)
   (X : Buf (Elt F) (wM.view.loc (c : Thread nD τ))) (X4 : Buf (Elt F) (arg4.view.loc (c : Thread nD τ)))
   (H : Buf (Elt F) (hm.view.loc (c : Thread nD τ))) (CM : Buf (Elt F) (cm.view.loc (c : Thread nD τ)))
   (SM : Buf (Elt F) (sm.view.loc (c : Thread nD τ))) (Q2 : Buf (Elt F) (q2M.view.loc (c : Thread nD τ))) :
   iprop(vecP c arg4 X4 ∗ vecP c hm H ∗ vecP c cm CM ∗ vecP c sm SM ∗ (q2M.view.loc (c : Thread nD τ) ↦{fullShare} Q2) ∗ (∃ W, owes (c : Thread nD τ) 0 W)
     ∗ flt c X (Ring.sl 4 k.val) (Ring.bk 8 k.val) ∗ freeSlot c X (Ring.sl 4 (k.val + 3)))
   ⊢ wp frame (wpE (defs₀ (F := F)) 𝒱₀ (c : Thread nD τ) none) Set.univ (trip2G arg0 harg0 arg1 harg1 arg2 harg2 arg3 harg3 arg4 harg4 hm hhm qo hqo cm hcm sm hsm v21 v26 k a)
      (fun _ => iprop(vecP c arg4 X4 ∗ vecP c hm H ∗ vecP c cm CM ∗ vecP c sm SM ∗ (q2M.view.loc (c : Thread nD τ) ↦{fullShare} q2Next c arg4 hm cm sm X X4 H CM SM Q2 k) ∗ (∃ W, owes (c : Thread nD τ) 0 W)
     ∗ freeSlot c X (Ring.sl 4 k.val) ∗ ringAt c X (k.val + 3))) := by
  have hk : k.val < 8 := t2_lt k
  have hS := ring_inF (s := Ring.sl 4 k.val) (k0_off16_eq k) (k0_off16_inb k)
  dsimp only [trip2G]
  sl_unfold [k0_t2_body]
  unfold flt
  have hcase : k.val ≤ 4 ∨ 5 ≤ k.val := by omega
  rcases hcase with h | h
  all_goals
    iintro ⟨H4, Hhm, Hcm, Hsm, Hq2, ⟨%W, HW⟩, ⟨⟨%f, HF⟩, Hhid⟩, Hfree⟩
  on_goal 1 =>
    have h4 : k0_cond4 k = 1#1 := (cond4_iff k).2 h
    ihave Hop := (free_open c X _ (Ring.bk 8 (k.val + 3))).1 $$ Hfree
    icases Hop with ⟨Hc, ⟨%f', Hs⟩, Hw, Hh⟩
  on_goal 2 =>
    have h4 : ¬ k0_cond4 k = 1#1 := fun e => by have := (cond4_iff k).1 e; omega
  all_goals
    sl_exec
    sl_step
    sl_exec
    sl_step
    isplitl [H4]; · iexact H4
    isplitl [Hhm]; · iexact Hhm
    isplitl [Hcm]; · iexact Hcm
    isplitl [Hsm]; · iexact Hsm
    isplitl [Hq2]; · iexact Hq2
    isplitl [HW]; · iexists _; iexact HW
    isplitl [HF HF_dst HF_src Hhid]
    · iapply (free_open c X _ (Ring.bk 8 k.val)).2
      isplitl [HF]; · iexact HF
      isplitl [HF_dst]; · iexists _; iexact HF_dst
      isplitl [HF_src]; · iexact HF_src
      iexact Hhid
  on_goal 1 =>
    iapply (entails_of_eq (ringAt_lt c X _ (by omega)).symm)
    unfold flt
    isplitl [Hc]; · iexists _; iexact Hc
    iexact Hh
  on_goal 1 =>
    iapply (entails_of_eq (ringAt_ge c X _ (by omega)).symm)
    iexact Hfree
end Trip
end Cert.Proof.Query

end
-- ==== Proof.QBody.lean ====
module

public import proofs.«01_k».proof.Proof.QTrips

@[expose] public section

noncomputable section

/-! # The body of the rotated queries -/

namespace Cert.Proof.Query

open Cert.QKernelIdeal Cert.QKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD)
variable (arg0 : Memref sig .tc .vmem S256x5120 .bf16) (harg0 : arg0.IsWhole) (arg1 : Memref sig .tc .vmem S256x1 .i32) (harg1 : arg1.IsWhole)
  (arg2 : Memref sig .tc .vmem S1x128 .f32) (harg2 : arg2.IsWhole) (arg3 : Memref sig .tc .vmem S40x128 .f32) (harg3 : arg3.IsWhole)
  (arg4 : Memref sig .tc .vmem S48x128 .f32) (harg4 : arg4.IsWhole)
  (hm : Memref sig .tc .vmem S256x5120 .bf16) (hhm : hm.IsWhole)
  (qo : Memref sig .tc .vmem S256x32x128 .bf16) (hqo : qo.IsWhole) (cm : Memref sig .tc .vmem S256x128 .f32) (hcm : cm.IsWhole)
  (sm : Memref sig .tc .vmem S256x128 .f32) (hsm : sm.IsWhole)

abbrev bodyG := cc0_decoder_layer (F := F) arg0 harg0 arg1 harg1 arg2 harg2 arg3 harg3 arg4 harg4 wM (Memref.isWhole_whole _) outM (Memref.isWhole_whole _) ringM (Memref.isWhole_whole _) cc0_scratch1 cc0_scratch2 q2M (Memref.isWhole_whole _) hm hhm qo hqo cm hcm sm hsm

variable (X : Buf (Elt F) (wM.view.loc (c : Thread nD τ))) (X0 : Buf (Elt F) (arg0.view.loc (c : Thread nD τ))) (X1 : Buf (Elt F) (arg1.view.loc (c : Thread nD τ)))
  (X2 : Buf (Elt F) (arg2.view.loc (c : Thread nD τ))) (X3 : Buf (Elt F) (arg3.view.loc (c : Thread nD τ))) (X4 : Buf (Elt F) (arg4.view.loc (c : Thread nD τ)))
  (H0 : Buf (Elt F) (hm.view.loc (c : Thread nD τ))) (Q0 : Buf (Elt F) (q2M.view.loc (c : Thread nD τ))) (QO0 : Buf (Elt F) (qo.view.loc (c : Thread nD τ)))
  (C0 : Buf (Elt F) (cm.view.loc (c : Thread nD τ))) (S0 : Buf (Elt F) (sm.view.loc (c : Thread nD τ))) (O0 : Buf (Elt F) (outM.view.loc (c : Thread nD τ)))

/-! ## The buffers after the loops' first `n` trips -/

def t1i (n : ℕ) : Fin k0_t1_loop.trips := ⟨n % 8, Nat.mod_lt _ (by decide)⟩
def t2i (n : ℕ) : Fin k0_t2_loop.trips := ⟨n % 8, Nat.mod_lt _ (by decide)⟩
omit [FloatOps F] in
theorem t1i_val (k : Fin k0_t1_loop.trips) : t1i k.val = k := Fin.ext (Nat.mod_eq_of_lt k.isLt)
omit [FloatOps F] in
theorem t2i_val (k : Fin k0_t2_loop.trips) : t2i k.val = k := Fin.ext (Nat.mod_eq_of_lt (t2_lt k))

/-- The normalised rows. -/
def hSt : ℕ → Buf (Elt F) (hm.view.loc (c : Thread nD τ))
  | 0 => H0
  | n + 1 => hm.view.writes (Elt F) (hSt n) (nrmL c arg0 arg3 X0 X3 (t1i n) 40 le_rfl)
/-- The angles' cosines and sines. -/
abbrev posR : Vec F S256x1 .i32 := View.readAt (Elt F) arg1.view (Rect.unit (s := S256x1) ![0, 0] S256x1.size inb_S256x1_S256x1_0_0).toLoadRect X1
abbrev invR : Vec F S1x128 .f32 := View.readAt (Elt F) arg2.view (Rect.unit (s := S1x128) ![0, 0] S1x128.size inb_S1x128_S1x128_0_0).toLoadRect X2
def cosV : Buf (Elt F) (cm.view.loc (c : Thread nD τ)) := cm.view.writes (Elt F) cm.view.junk [⟨RC, k0_pay68 (posR c arg1 X1) (invR c arg2 X2)⟩]
def sinV : Buf (Elt F) (sm.view.loc (c : Thread nD τ)) :=
  sm.view.writes (Elt F) sm.view.junk [⟨RC, k0_pay69 (k0_pay67 (posR c arg1 X1) (invR c arg2 X2)) (iota .tc S256x128 32 [1] iota_S256x128_d1_w32)⟩]
/-- The pair buffer, from the normalised rows `H` and the angles. -/
def q2St (H : Buf (Elt F) (hm.view.loc (c : Thread nD τ))) (CM : Buf (Elt F) (cm.view.loc (c : Thread nD τ))) (SM : Buf (Elt F) (sm.view.loc (c : Thread nD τ))) :
    ℕ → Buf (Elt F) (q2M.view.loc (c : Thread nD τ))
  | 0 => Q0
  | n + 1 => q2Next c arg4 hm cm sm X X4 H CM SM (q2St H CM SM n) (t2i n)

/-! ## The loops' invariants -/

def inv1 (n : ℕ) (_ : BitVec 32) : sProp 𝕄 := iprop(vecP c arg0 X0 ∗ vecP c arg3 X3 ∗ vecP c hm (hSt c arg0 arg3 hm X0 X3 H0 n))
theorem step1 (k : Fin k0_t1_loop.trips) (a : BitVec 32) :
    inv1 c arg0 arg3 hm X0 X3 H0 k.val a
   ⊢ wp frame (wpE (defs₀ (F := F)) 𝒱₀ (c : Thread nD τ) none) Set.univ (trip1G arg0 harg0 arg1 harg1 arg2 harg2 arg3 harg3 arg4 harg4 hm hhm qo hqo cm hcm sm hsm k a) (inv1 c arg0 arg3 hm X0 X3 H0 (k.val + 1)) := by
  have e : hSt c arg0 arg3 hm X0 X3 H0 (k.val + 1) = hm.view.writes (Elt F) (hSt c arg0 arg3 hm X0 X3 H0 k.val) (nrmL c arg0 arg3 X0 X3 k 40 le_rfl) := by rw [hSt, t1i_val]
  unfold inv1
  rw [e]
  exact trip1 c arg0 harg0 arg1 harg1 arg2 harg2 arg3 harg3 arg4 harg4 hm hhm qo hqo cm hcm sm hsm k a X0 X3 _

def inv2 (H : Buf (Elt F) (hm.view.loc (c : Thread nD τ))) (CM : Buf (Elt F) (cm.view.loc (c : Thread nD τ))) (SM : Buf (Elt F) (sm.view.loc (c : Thread nD τ))) (n : ℕ) (_ : BitVec 32) : sProp 𝕄 :=
  iprop(vecP c arg4 X4 ∗ vecP c hm H ∗ vecP c cm CM ∗ vecP c sm SM ∗ (q2M.view.loc (c : Thread nD τ) ↦{fullShare} q2St c arg4 hm cm sm X X4 Q0 H CM SM n)
    ∗ (∃ W, owes (c : Thread nD τ) 0 W) ∗ ringAt c X n ∗ ringAt c X (n + 1) ∗ ringAt c X (n + 2) ∗ freeSlot c X (Ring.sl 4 (n + 3)))
theorem step2 (v21 : FVec F S256x128 .f32) (v26 : IVec S256x128 32) (H : Buf (Elt F) (hm.view.loc (c : Thread nD τ))) (CM : Buf (Elt F) (cm.view.loc (c : Thread nD τ)))
    (SM : Buf (Elt F) (sm.view.loc (c : Thread nD τ))) (k : Fin k0_t2_loop.trips) (a : BitVec 32) :
    inv2 c arg4 hm cm sm X X4 Q0 H CM SM k.val a
   ⊢ wp frame (wpE (defs₀ (F := F)) 𝒱₀ (c : Thread nD τ) none) Set.univ (trip2G arg0 harg0 arg1 harg1 arg2 harg2 arg3 harg3 arg4 harg4 hm hhm qo hqo cm hcm sm hsm v21 v26 k a) (inv2 c arg4 hm cm sm X X4 Q0 H CM SM (k.val + 1)) := by
  have hk := t2_lt k
  have e : q2St c arg4 hm cm sm X X4 Q0 H CM SM (k.val + 1) = q2Next c arg4 hm cm sm X X4 H CM SM (q2St c arg4 hm cm sm X X4 Q0 H CM SM k.val) k := by rw [q2St, t2i_val]
  have e3 : Ring.sl 4 (k.val + 1 + 3) = Ring.sl 4 k.val := Fin.ext (by show (k.val + 1 + 3) % 4 = k.val % 4; omega)
  unfold inv2
  rw [e, e3]
  iintro ⟨H4, Hhm, Hcm, Hsm, Hq, HO, Hr, Hr1, Hr2, Hf⟩
  iapply (wp_wand_r Idealize.ShloMosaic.frame (wpE (defs₀ (F := F)) 𝒱₀ (c : Thread nD τ) none) Set.univ)
  isplitl [H4 Hhm Hcm Hsm Hq HO Hr Hf]
  · iapply (trip2 c arg0 harg0 arg1 harg1 arg2 harg2 arg3 harg3 arg4 harg4 hm hhm qo hqo cm hcm sm hsm v21 v26 k a X X4 H CM SM _)
    isplitl [H4]; · iexact H4
    isplitl [Hhm]; · iexact Hhm
    isplitl [Hcm]; · iexact Hcm
    isplitl [Hsm]; · iexact Hsm
    isplitl [Hq]; · iexact Hq
    isplitl [HO]; · iexact HO
    isplitl [Hr]
    · iapply (entails_of_eq (ringAt_lt c X k.val hk)); iexact Hr
    iexact Hf
  · iintro %_ ⟨H4, Hhm, Hcm, Hsm, Hq, HO, Hf, Hr⟩
    isplitl [H4]; · iexact H4
    isplitl [Hhm]; · iexact Hhm
    isplitl [Hcm]; · iexact Hcm
    isplitl [Hsm]; · iexact Hsm
    isplitl [Hq]; · iexact Hq
    isplitl [HO]; · iexact HO
    isplitl [Hr1]; · iexact Hr1
    isplitl [Hr2]; · iexact Hr2
    isplitl [Hr]; · iexact Hr
    iexact Hf

/-! ## The sixteen pairs of heads, out of the pair buffer -/

theorem plane_inb (p : Fin 8) : ∀ a, (![p.val, 0, 0, 0] : Fin 4 → Nat) a + S1x592x2x128.size a ≤ S8x592x2x128.size a := by revert p; decide
theorem par_inb (j : Fin 2) : ∀ a, S256x2x128.size a = 0 ∨ (![j.val, 0, 0] : Fin 3 → Nat) a + (![2, 1, 1] : Fin 3 → Nat) a * (S256x2x128.size a - 1) < S592x2x128.size a := by revert j; decide
theorem head_inb (i : Fin 16) : ∀ a, (![0, 2 * i.val, 0] : Fin 3 → Nat) a + S256x2x128.size a ≤ S256x32x128.size a := by revert i; decide
abbrev planeN (p : Fin 8) : Memref sig .tc .vmem S592x2x128 .bf16 :=
  (q2M.slice (Rect.unit (s := S8x592x2x128) ![p.val, 0, 0, 0] S1x592x2x128.size (plane_inb p)) (fun _ => rfl)).squeeze S592x2x128 squeezes_S1x592x2x128_S592x2x128
abbrev LR (j : Fin 2) : LoadRect S592x2x128 := ⟨![j.val, 0, 0], S256x2x128.size, ![2, 1, 1], par_inb j⟩
abbrev RO (i : Fin 16) : Rect S256x32x128 := Rect.unit (s := S256x32x128) ![0, 2 * i.val, 0] S256x2x128.size (head_inb i)
/-- Pair `i` of heads, as copied. -/
def copyP (Q2 : Buf (Elt F) (q2M.view.loc (c : Thread nD τ))) (p : Fin 8) (j : Fin 2) : Vec F S256x2x128 .bf16 :=
  k0_pay72 (View.readAt (Elt F) (planeN p).view (LR j) Q2)
/-- The first `n` pairs, the last one first. -/
def qoL (Q2 : Buf (Elt F) (q2M.view.loc (c : Thread nD τ))) : (n : ℕ) → n ≤ 16 → List (View.Piece (Elt F) S256x32x128 .bf16)
  | 0, _ => []
  | n + 1, h => ⟨RO ⟨n, h⟩, copyP c Q2 ⟨n / 2, by omega⟩ ⟨n % 2, by omega⟩⟩ :: qoL Q2 n (Nat.le_of_succ_le h)

def vQ2 : Buf (Elt F) (q2M.view.loc (c : Thread nD τ)) :=
  q2St c arg4 hm cm sm X X4 Q0 (hSt c arg0 arg3 hm X0 X3 H0 8) (cosV c arg1 arg2 cm X1 X2) (sinV c arg1 arg2 sm X1 X2) 8
def vQO : Buf (Elt F) (qo.view.loc (c : Thread nD τ)) :=
  qo.view.writes (Elt F) QO0 (qoL c (vQ2 c arg0 arg1 arg2 arg3 arg4 hm cm sm X X0 X1 X2 X3 X4 H0 Q0) 16 le_rfl)

theorem ring0 : ringAt c X 0 = flt c X 0 0 := ringAt_lt c X _ (by omega)
theorem ring1 : ringAt c X (0 + 1) = flt c X 1 1 := ringAt_lt c X _ (by omega)
theorem ring2 : ringAt c X (0 + 2) = flt c X 2 2 := ringAt_lt c X _ (by omega)
theorem ring8 : ringAt c X 8 = freeSlot c X 0 := ringAt_ge c X _ (by omega)
theorem ring9 : ringAt c X (8 + 1) = freeSlot c X 1 := ringAt_ge c X _ (by omega)
theorem ring10 : ringAt c X (8 + 2) = freeSlot c X 2 := ringAt_ge c X _ (by omega)

set_option maxHeartbeats 4000000 in
set_option backward.proofsInPublic true in
theorem bodyRun :
   iprop(vecP c arg0 X0 ∗ vecP c arg1 X1 ∗ vecP c arg2 X2 ∗ vecP c arg3 X3 ∗ vecP c arg4 X4
     ∗ vecP c outM O0 ∗ (q2M.view.loc (c : Thread nD τ) ↦{fullShare} Q0) ∗ vecP c hm H0 ∗ vecP c qo QO0 ∗ vecP c cm C0 ∗ vecP c sm S0 ∗ (∃ W, owes (c : Thread nD τ) 0 W)
     ∗ freeSlot c X 0 ∗ freeSlot c X 1 ∗ freeSlot c X 2 ∗ freeSlot c X 3 ∗ cellH c)
   ⊢ wp frame (wpE (defs₀ (F := F)) 𝒱₀ (c : Thread nD τ) none) Set.univ (bodyG arg0 harg0 arg1 harg1 arg2 harg2 arg3 harg3 arg4 harg4 hm hhm qo hqo cm hcm sm hsm)
      (fun _ => iprop(vecP c arg0 X0 ∗ vecP c arg1 X1 ∗ vecP c arg2 X2 ∗ vecP c arg3 X3 ∗ vecP c arg4 X4
     ∗ vecP c outM (outM.view.writes (Elt F) outM.view.junk [⟨Rect.whole S256x32x128, ReadAs.same.apply (qo.view.read (Elt F) (vQO c arg0 arg1 arg2 arg3 arg4 hm qo cm sm X X0 X1 X2 X3 X4 H0 Q0 QO0))⟩])
     ∗ (∃ f, q2M.view.loc (c : Thread nD τ) ↦{fullShare} f) ∗ (∃ f, vecP c hm f) ∗ (∃ f, vecP c qo f) ∗ (∃ f, vecP c cm f) ∗ (∃ f, vecP c sm f) ∗ (∃ W, owes (c : Thread nD τ) 0 W)
     ∗ freeSlot c X 0 ∗ freeSlot c X 1 ∗ freeSlot c X 2 ∗ freeSlot c X 3 ∗ cellH c)) := by
  iintro ⟨H0, H1, H2, H3, H4, Hout, Hq2, Hhm, Hqo, Hcm, Hsm, ⟨%W, HW⟩, Hs0, Hs1, Hs2, Hs3, HcH⟩
  ihave Hop := (free_open c X 0 0).1 $$ Hs0
  icases Hop with ⟨Hc0, ⟨%f0, Hs0⟩, Hw0, Hh0⟩
  ihave Hop := (free_open c X 1 1).1 $$ Hs1
  icases Hop with ⟨Hc1, ⟨%f1, Hs1⟩, Hw1, Hh1⟩
  ihave Hop := (free_open c X 2 2).1 $$ Hs2
  icases Hop with ⟨Hc2, ⟨%f2, Hs2⟩, Hw2, Hh2⟩
  have c1 := cond1_true
  have c2 := cond2_true
  have c3 := cond3_true
  dsimp only [bodyG]
  sl_unfold [cc0_decoder_layer]
  sl_exec
  ihave Hc0 := (flt_fold c X 0 0 _) $$ [Hc0 Hh0]
  · isplitl [Hc0]; · iexact Hc0
    iexact Hh0
  ihave Hc1 := (flt_fold c X 1 1 _) $$ [Hc1 Hh1]
  · isplitl [Hc1]; · iexact Hc1
    iexact Hh1
  ihave Hc2 := (flt_fold c X 2 2 _) $$ [Hc2 Hh2]
  · isplitl [Hc2]; · iexact Hc2
    iexact Hh2
  -- the normalisation's loop
  sl_for (inv1 c arg0 arg3 hm X0 X3 H0) $$ [H0 H3 Hhm]
  · intro k a
    exact step1 c arg0 harg0 arg1 harg1 arg2 harg2 arg3 harg3 arg4 harg4 hm hhm qo hqo cm hcm sm hsm X0 X3 H0 k a
  · unfold inv1
    rw [hSt]
    isplitl [H0]; · iexact H0
    isplitl [H3]; · iexact H3
    iexact Hhm
  iintro %_ HI
  rw [show Scf.trips k0_t1_loop.lb k0_t1_loop.ub k0_t1_loop.st = 8 from rfl]
  unfold inv1
  icases HI with ⟨H0, H3, Hhm⟩
  sl_exec
  -- the projection's loop
  sl_for (inv2 c arg4 hm cm sm X X4 Q0 (hSt c arg0 arg3 hm X0 X3 H0 8) (cosV c arg1 arg2 cm X1 X2) (sinV c arg1 arg2 sm X1 X2)) $$ [H4 Hhm Hcm Hsm Hq2 HW Hc0 Hc1 Hc2 Hs3]
  · intro k a
    exact step2 c arg0 harg0 arg1 harg1 arg2 harg2 arg3 harg3 arg4 harg4 hm hhm qo hqo cm hcm sm hsm X X4 Q0 _ _ _ _ _ k a
  · unfold inv2 cosV sinV
    rw [ring0, ring1, ring2, q2St]
    sl_unfold_run_names
    isplitl [H4]; · iexact H4
    isplitl [Hhm]; · iexact Hhm
    isplitl [Hcm]; · iexact Hcm
    isplitl [Hsm]; · iexact Hsm
    isplitl [Hq2]; · iexact Hq2
    isplitl [HW]; · iexists _; iexact HW
    isplitl [Hc0]; · iexact Hc0
    isplitl [Hc1]; · iexact Hc1
    isplitl [Hc2]; · iexact Hc2
    iexact Hs3
  iintro %_ HI
  rw [show Scf.trips k0_t2_loop.lb k0_t2_loop.ub k0_t2_loop.st = 8 from rfl]
  unfold inv2
  rw [ring8, ring9, ring10]
  icases HI with ⟨H4, Hhm, Hcm, Hsm, Hq2, ⟨%W2, HW⟩, Hs0, Hs1, Hs2, Hs3⟩
  unfold cellH
  sl_exec
  sl_step
  isplitl [H0]; · iexact H0
  isplitl [H1]; · iexact H1
  isplitl [H2]; · iexact H2
  isplitl [H3]; · iexact H3
  isplitl [H4]; · iexact H4
  sl_unfold_run_names
  isplitl [Hout]
  · iapply (entails_of_eq (pointsTo_writes_whole_rebase (Ix := Unit) (Name := ℕ) (U := UU nD τ) (Lvl := ℕ) (c : Thread nD τ) outM O0 outM.view.junk _ fullShare)); iexact Hout
  isplitl [Hq2]; · iexists _; iexact Hq2
  isplitl [Hhm]; · iexists _; iexact Hhm
  isplitl [Hqo]; · iexists _; iexact Hqo
  isplitl [Hcm]; · iexists _; iexact Hcm
  isplitl [Hsm]; · iexists _; iexact Hsm
  isplitl [HW]; · iexists _; iexact HW
  isplitl [Hs0]; · iexact Hs0
  isplitl [Hs1]; · iexact Hs1
  isplitl [Hs2]; · iexact Hs2
  isplitl [Hs3]; · iexact Hs3
  iexact HcH
end Body
end Cert.Proof.Query

end
-- ==== Proof.QLaunch.lean ====
module

public import proofs.«01_k».proof.Proof.QBody
public import proofs.«01_k».proof.Proof.Gen.QKernelIdeal.Frame

@[expose] public section

noncomputable section

/-! # The launch of the rotated queries' kernel -/

namespace Cert.Proof.Query

open Cert.QKernelIdeal Cert.QKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's own cells -/

abbrev cellX (c : Dev nD) (s : Fin 5) : sProp 𝕄 := semVal ((c : Thread nD τ), SemLoc.dma (dsem s).sem) 0
abbrev osem : Fin 9 → SemLoc sig := ![.dma (wsem 0).sem, .dma (wsem 1).sem, .dma (wsem 2).sem, .dma (wsem 3).sem,
  .dma (dsem 0).sem, .dma (dsem 1).sem, .dma (dsem 2).sem, .dma (dsem 3).sem, .dma (dsem 4).sem]
theorem ownSemFacts : Pipeline.OwnSemFacts spec0 osem := by decide

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

omit [FloatOps F] in
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ cellH c ∗ cellX c 1 ∗ cellX c 2 ∗ cellX c 3 ∗ cellX c 4) := by
  unfold Pipeline.ownSems0; rw [bigSep_fin9]; rfl

/-! ## The slots as element sets -/

abbrev SF (s : Fin 4) : Finset S4x5120x512.Idx := (Rect.unit (s := S4x5120x512) (slotOff s) S1x5120x512.size (slotF_inb s)).set

theorem off3_lead {n : ℕ} (b : Fin n) : (![b.val, 0, 0] : Fin 3 → ℕ) 0 = 1 * b.val := (Nat.one_mul _).symm
theorem off3_rest {n : ℕ} (b : Fin n) (a : Fin 3) (h : a ≠ 0) : (![b.val, 0, 0] : Fin 3 → ℕ) a = 0 := by
  fin_cases a
  · exact absurd rfl h
  · rfl
  · rfl
theorem SF_disjoint : ∀ s s' : Fin 4, s ≠ s' → Disjoint (SF s) (SF s') :=
  Ring.lead_disjoint (s := S4x5120x512) (0 : Fin 3) 1 (fun s : Fin 4 => slotOff s) S1x5120x512.size slotF_inb off3_lead rfl
theorem SF_cover : (Finset.univ : Finset (Fin 4)).biUnion SF = Finset.univ :=
  Ring.lead_cover (s := S4x5120x512) (0 : Fin 3) 1 (fun s : Fin 4 => slotOff s) S1x5120x512.size slotF_inb off3_lead off3_rest rfl (by decide) rfl

section Splits
variable (c : Dev nD) (X : Buf (Elt F) (wM.view.loc (c : Thread nD τ)))

omit [FloatOps F] in
theorem slotFP_eq (s : Fin 4) (f) : slotFP c s f = (((c : Thread nD τ).loc cc0_scratch0) ↦[SF s]{fullShare} f : sProp 𝕄) :=
  congrArg (fun S => (_ ↦[S]{fullShare} f : sProp 𝕄)) (slotF_set s)

theorem ring_split :
    iprop(∃ f : Buf (Elt F) ((c : Thread nD τ).loc cc0_scratch0), ((c : Thread nD τ).loc cc0_scratch0) ↦{fullShare} f)
      ⊢ (iprop((∃ f, slotFP c 0 f) ∗ (∃ f, slotFP c 1 f) ∗ (∃ f, slotFP c 2 f) ∗ ∃ f, slotFP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) SF SF_disjoint SF_cover f).trans (bigSep_fin4 _))) $$ H
  icases H2 with ⟨H0, H1, H2, H3⟩
  isplitl [H0]; · iexists f; iapply (entails_of_eq (slotFP_eq c 0 f).symm); iexact H0
  isplitl [H1]; · iexists f; iapply (entails_of_eq (slotFP_eq c 1 f).symm); iexact H1
  isplitl [H2]; · iexists f; iapply (entails_of_eq (slotFP_eq c 2 f).symm); iexact H2
  iexists f; iapply (entails_of_eq (slotFP_eq c 3 f).symm); iexact H3
theorem ring_join :
    iprop((∃ f, slotFP c 0 f) ∗ (∃ f, slotFP c 1 f) ∗ (∃ f, slotFP c 2 f) ∗ ∃ f, slotFP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) SF SF_disjoint SF_cover f0)
  irw [bigSep_fin4]
  isplitl [H0]; · iexists f0; iapply (entails_of_eq (slotFP_eq c 0 f0)); iexact H0
  isplitl [H1]; · iexists f1; iapply (entails_of_eq (slotFP_eq c 1 f1)); iexact H1
  isplitl [H2]; · iexists f2; iapply (entails_of_eq (slotFP_eq c 2 f2)); iexact H2
  iexists f3; iapply (entails_of_eq (slotFP_eq c 3 f3)); iexact H3
omit [FloatOps F] in
theorem toks4 {ℓ : Loc nD τ sig} (f : Buf (Elt F) ℓ) :
    (ℓ ↦{fullShare} f : sProp 𝕄) ⊣⊢ iprop((ℓ ↦{Transfers.shareDrop fullShare 4} f) ∗ (ℓ ↦{qs 0} f) ∗ (ℓ ↦{qs 1} f) ∗ (ℓ ↦{qs 2} f) ∗ (ℓ ↦{qs 3} f)) := by
  have h := Transfers.pointsTo_toks (Ix := Unit) (Name := ℕ) (U := UU nD τ) (Lvl := ℕ) (ℓ := ℓ) (S := Finset.univ) (f := f) fullShare 4
  rw [bigSep_fin4] at h
  exact h

/-- The weight's share no slot carries. -/
def remW : sProp 𝕄 := wM.view.loc (c : Thread nD τ) ↦{Transfers.shareDrop fullShare 4} X
/-- The weight whole. -/
def wholeW : sProp 𝕄 := wM.view.loc (c : Thread nD τ) ↦{fullShare} X

omit [FloatOps F] in
theorem vecP_whole (b : Ref sig .tc) (f : Buf (Elt F) ((c : Thread nD τ).loc b)) :
    (vecP c (Memref.whole b) f : sProp 𝕄) = (((c : Thread nD τ).loc b) ↦{fullShare} f) :=
  congrArg (fun S => (_ ↦[S]{fullShare} f : sProp 𝕄)) (View.set_whole _)
theorem vecP_in (b : Ref sig .tc) :
    iprop(∃ f : Buf (Elt F) ((c : Thread nD τ).loc b), ((c : Thread nD τ).loc b) ↦{fullShare} f) ⊢ (iprop(∃ f, vecP c (Memref.whole b) f) : sProp 𝕄) := by
  iintro ⟨%f, H⟩; iexists f; iapply (entails_of_eq (vecP_whole c b f).symm); iexact H
theorem vecP_out (b : Ref sig .tc) :
    iprop(∃ f, vecP c (Memref.whole b) f) ⊢ (iprop(∃ f : Buf (Elt F) ((c : Thread nD τ).loc b), ((c : Thread nD τ).loc b) ↦{fullShare} f) : sProp 𝕄) := by
  iintro ⟨%f, H⟩; iexists f; iapply (entails_of_eq (vecP_whole c b f)); iexact H

/-- What the body holds beside its operands and result, the same at its entry and at its exit. -/
def core : sProp 𝕄 :=
  iprop(remW c X ∗ freeSlot c X 0 ∗ freeSlot c X 1 ∗ freeSlot c X 2 ∗ freeSlot c X 3 ∗ cellH c ∗ (cellX c 1 ∗ cellX c 2 ∗ cellX c 3 ∗ cellX c 4)
    ∗ (∃ f, q2M.view.loc (c : Thread nD τ) ↦{fullShare} f) ∗ (∃ f, vecP c hM f) ∗ (∃ f, vecP c qoM f) ∗ (∃ f, vecP c cosM f) ∗ (∃ f, vecP c sinM f))

theorem core_in : iprop(wholeW c X ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) ⊢ (core c X : sProp 𝕄) := by
  rw [ownSems0_eq, scopedRest0_eq]
  unfold wholeW core remW freeSlot
  iintro ⟨Ho, ⟨Hc0, Hc1, Hc2, Hc3, HcH, HX⟩, Hr, Hq2, Hhm, Hqo, Hcm, Hsm⟩
  ihave Ho := (toks4 X).1 $$ Ho
  icases Ho with ⟨HoR, Ho0, Ho1, Ho2, Ho3⟩
  ihave Hr := (ring_split c) $$ Hr
  icases Hr with ⟨Hr0, Hr1, Hr2, Hr3⟩
  isplitl [HoR]; · iexact HoR
  isplitl [Hc0 Hr0 Ho0]
  · isplitl [Hc0]; · iexact Hc0
    isplitl [Hr0]; · iexact Hr0
    iexact Ho0
  isplitl [Hc1 Hr1 Ho1]
  · isplitl [Hc1]; · iexact Hc1
    isplitl [Hr1]; · iexact Hr1
    iexact Ho1
  isplitl [Hc2 Hr2 Ho2]
  · isplitl [Hc2]; · iexact Hc2
    isplitl [Hr2]; · iexact Hr2
    iexact Ho2
  isplitl [Hc3 Hr3 Ho3]
  · isplitl [Hc3]; · iexact Hc3
    isplitl [Hr3]; · iexact Hr3
    iexact Ho3
  isplitl [HcH]; · iexact HcH
  isplitl [HX]; · iexact HX
  isplitl [Hq2]; · iexact Hq2
  isplitl [Hhm]; · iapply (vecP_in c cc0_scoped1); iexact Hhm
  isplitl [Hqo]; · iapply (vecP_in c cc0_scoped2); iexact Hqo
  isplitl [Hcm]; · iapply (vecP_in c cc0_scoped3); iexact Hcm
  iapply (vecP_in c cc0_scoped4); iexact Hsm

theorem core_out : (core c X : sProp 𝕄) ⊢ iprop(wholeW c X ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) := by
  rw [ownSems0_eq, scopedRest0_eq]
  unfold wholeW core remW freeSlot
  iintro ⟨HoR, ⟨Hc0, Hr0, Ho0⟩, ⟨Hc1, Hr1, Ho1⟩, ⟨Hc2, Hr2, Ho2⟩, ⟨Hc3, Hr3, Ho3⟩, HcH, HX, Hq2, Hhm, Hqo, Hcm, Hsm⟩
  isplitl [HoR Ho0 Ho1 Ho2 Ho3]
  · iapply (toks4 X).2
    isplitl [HoR]; · iexact HoR
    isplitl [Ho0]; · iexact Ho0
    isplitl [Ho1]; · iexact Ho1
    isplitl [Ho2]; · iexact Ho2
    iexact Ho3
  isplitl [Hc0 Hc1 Hc2 Hc3 HcH HX]
  · isplitl [Hc0]; · iexact Hc0
    isplitl [Hc1]; · iexact Hc1
    isplitl [Hc2]; · iexact Hc2
    isplitl [Hc3]; · iexact Hc3
    isplitl [HcH]; · iexact HcH
    iexact HX
  isplitl [Hr0 Hr1 Hr2 Hr3]
  · iapply (ring_join c)
    isplitl [Hr0]; · iexact Hr0
    isplitl [Hr1]; · iexact Hr1
    isplitl [Hr2]; · iexact Hr2
    iexact Hr3
  isplitl [Hq2]; · iexact Hq2
  isplitl [Hhm]; · iapply (vecP_out c cc0_scoped1); iexact Hhm
  isplitl [Hqo]; · iapply (vecP_out c cc0_scoped2); iexact Hqo
  isplitl [Hcm]; · iapply (vecP_out c cc0_scoped3); iexact Hcm
  iapply (vecP_out c cc0_scoped4); iexact Hsm

end Splits

section Launch
variable (m : (ℓ : Loc nD τ sig) → Buf (Elt F) ℓ) (ρ : Dev nD → PrngReg)

/-- The weight as the region finds it. -/
def wts (c : Dev nD) : Buf (Elt F) (wM.view.loc (c : Thread nD τ)) := V m c main_arg3

abbrev st0 (t : Fin cfg0.N) : Memref sig .tc .vmem S256x5120 .bf16 := win0_0.stage (cfg0.slots t 0)
abbrev st1 (t : Fin cfg0.N) : Memref sig .tc .vmem S256x1 .i32 := win0_1.stage (cfg0.slots t 1)
abbrev st2 (t : Fin cfg0.N) : Memref sig .tc .vmem S1x128 .f32 := win0_2.stage (cfg0.slots t 2)
abbrev st3 (t : Fin cfg0.N) : Memref sig .tc .vmem S40x128 .f32 := win0_3.stage (cfg0.slots t 3)
abbrev st4 (t : Fin cfg0.N) : Memref sig .tc .vmem S48x128 .f32 := win0_4.stage (cfg0.slots t 4)

abbrev in0 (c : Dev nD) : Buf (Elt F) ((st0 t0_0).view.loc (c : Thread nD τ)) := (st0 t0_0).view.rep (iblk m c 0 t0_0)
abbrev in1 (c : Dev nD) : Buf (Elt F) ((st1 t0_0).view.loc (c : Thread nD τ)) := (st1 t0_0).view.rep (iblk m c 1 t0_0)
abbrev in2 (c : Dev nD) : Buf (Elt F) ((st2 t0_0).view.loc (c : Thread nD τ)) := (st2 t0_0).view.rep (iblk m c 2 t0_0)
abbrev in3 (c : Dev nD) : Buf (Elt F) ((st3 t0_0).view.loc (c : Thread nD τ)) := (st3 t0_0).view.rep (iblk m c 3 t0_0)
abbrev in4 (c : Dev nD) : Buf (Elt F) ((st4 t0_0).view.loc (c : Thread nD τ)) := (st4 t0_0).view.rep (iblk m c 4 t0_0)

/-- The result, as a function of the arguments and of what the scratch buffers held at first. -/
def outV (c : Dev nD) (H0 : Buf (Elt F) (hM.view.loc (c : Thread nD τ))) (Q0 : Buf (Elt F) (q2M.view.loc (c : Thread nD τ))) (QO0 : Buf (Elt F) (qoM.view.loc (c : Thread nD τ))) :
    Buf (Elt F) ((c : Thread nD τ).loc main_v13) :=
  outM.view.writes (Elt F) outM.view.junk [⟨Rect.whole S256x32x128, ReadAs.same.apply (qoM.view.read (Elt F)
    (vQO c (st0 t0_0) (st1 t0_0) (st2 t0_0) (st3 t0_0) (st4 t0_0) hM qoM cosM sinM (wts m c) (in0 m c) (in1 m c) (in2 m c) (in3 m c) (in4 m c) H0 Q0 QO0))⟩]

/-! ## The pipeline's proof data -/

def before (c : Dev nD) : sProp 𝕄 := iprop(∃ f, vecP c outM f)
def done (c : Dev nD) : sProp 𝕄 := iprop(∃ H0 Q0 QO0, vecP c outM (outV m c H0 Q0 QO0))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := match t with
    | ⟨0, _⟩ => iprop(core c (wts m c) ∗ before c)
    | ⟨_ + 1, _⟩ => iprop(core c (wts m c) ∗ done m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0)
        hM (Memref.isWhole_whole _) qoM (Memref.isWhole_whole _) cosM (Memref.isWhole_whole _) sinM (Memref.isWhole_whole _) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) (st4 t) (hstage0_4 0)
        hM (Memref.isWhole_whole _) qoM (Memref.isWhole_whole _) cosM (Memref.isWhole_whole _) sinM (Memref.isWhole_whole _) :=
  (congrFun defs_tc _).trans rfl

set_option maxHeartbeats 1000000 in
set_option backward.isDefEq.respectTransparency.types false in
theorem body_obligation (c : Dev nD) : BodyObligation (dats (F := F) m 0 c) (defs₀ (F := F)) 𝒱₀ () Set.univ := fun t => by
  rw [show t = t0_0 from fin_N0 t]
  rw [bigSep_W0, bigSep_W0]
  dsimp only
  simp only [before_w0, before_w1, before_w2, before_w3, before_w4, after_w0, after_w1, after_w2, after_w3, after_w4]
  rw [show (dats m 0 c).Φ (Fin.castSucc t0_0) = iprop(core c (wts m c) ∗ before c) from rfl, show (dats m 0 c).Φ (Fin.succ t0_0) = iprop(core c (wts m c) ∗ done m c) from rfl]
  unfold Dat.owesAt Pipeline.owesWithin
  rw [show (dats m 0 c).owed (Fin.castSucc t0_0) = 0 from rfl, show (dats m 0 c).owed (Fin.succ t0_0) = 0 from rfl]
  unfold owns core before done
  iintro ⟨⟨⟨HR, Hs0, Hs1, Hs2, Hs3, HcH, HX, ⟨%Q0, Hq2⟩, ⟨%H0, Hhm⟩, ⟨%QO0, Hqo⟩, ⟨%C0, Hcm⟩, ⟨%S0, Hsm⟩⟩, ⟨%O0, Hout⟩⟩, ⟨%W, -, HW⟩,
    ⟨%d0, %g0, %hg0, H0⟩, ⟨%d1, %g1, %hg1, H1⟩, ⟨%d2, %g2, %hg2, H2⟩, ⟨%d3, %g3, %hg3, H3⟩, ⟨%d4, %g4, %hg4, H4⟩⟩
  ihave H0 := (pointsTo_rep_entails (c : Thread nD τ) (st0 t0_0) g0 fullShare) $$ H0
  ihave H1 := (pointsTo_rep_entails (c : Thread nD τ) (st1 t0_0) g1 fullShare) $$ H1
  ihave H2 := (pointsTo_rep_entails (c : Thread nD τ) (st2 t0_0) g2 fullShare) $$ H2
  ihave H3 := (pointsTo_rep_entails (c : Thread nD τ) (st3 t0_0) g3 fullShare) $$ H3
  ihave H4 := (pointsTo_rep_entails (c : Thread nD τ) (st4 t0_0) g4 fullShare) $$ H4
  rw [hg0, hg1, hg2, hg3, hg4]
  sl_rw [prog_eq t0_0]
  iapply (wp_wand_r Idealize.ShloMosaic.frame (wpE (defs₀ (F := F)) 𝒱₀ (c : Thread nD τ) none) Set.univ)
  isplitl [H0 H1 H2 H3 H4 Hout Hq2 Hhm Hqo Hcm Hsm HW Hs0 Hs1 Hs2 Hs3 HcH]
  · iapply (bodyRun c (st0 t0_0) (hstage0_0 0) (st1 t0_0) (hstage0_1 0) (st2 t0_0) (hstage0_2 0) (st3 t0_0) (hstage0_3 0) (st4 t0_0) (hstage0_4 0)
      hM (Memref.isWhole_whole _) qoM (Memref.isWhole_whole _) cosM (Memref.isWhole_whole _) sinM (Memref.isWhole_whole _)
      (wts m c) (in0 m c) (in1 m c) (in2 m c) (in3 m c) (in4 m c) H0 Q0 QO0 C0 S0 O0)
    isplitl [H0]; · iexact H0
    isplitl [H1]; · iexact H1
    isplitl [H2]; · iexact H2
    isplitl [H3]; · iexact H3
    isplitl [H4]; · iexact H4
    isplitl [Hout]; · iexact Hout
    isplitl [Hq2]; · iexact Hq2
    isplitl [Hhm]; · iexact Hhm
    isplitl [Hqo]; · iexact Hqo
    isplitl [Hcm]; · iexact Hcm
    isplitl [Hsm]; · iexact Hsm
    isplitl [HW]; · iexists W; iexact HW
    isplitl [Hs0]; · iexact Hs0
    isplitl [Hs1]; · iexact Hs1
    isplitl [Hs2]; · iexact Hs2
    isplitl [Hs3]; · iexact Hs3
    iexact HcH
  · iintro %_ ⟨H0, H1, H2, H3, H4, Hout, Hq2, Hhm, Hqo, Hcm, Hsm, ⟨%W', HW⟩, Hs0, Hs1, Hs2, Hs3, HcH⟩
    isplitl [HR HX Hout Hq2 Hhm Hqo Hcm Hsm Hs0 Hs1 Hs2 Hs3 HcH]
    · isplitl [HR HX Hq2 Hhm Hqo Hcm Hsm Hs0 Hs1 Hs2 Hs3 HcH]
      · isplitl [HR]; · iexact HR
        isplitl [Hs0]; · iexact Hs0
        isplitl [Hs1]; · iexact Hs1
        isplitl [Hs2]; · iexact Hs2
        isplitl [Hs3]; · iexact Hs3
        isplitl [HcH]; · iexact HcH
        isplitl [HX]; · iexact HX
        isplitl [Hq2]; · iexact Hq2
        isplitl [Hhm]; · iexact Hhm
        isplitl [Hqo]; · iexact Hqo
        isplitl [Hcm]; · iexact Hcm
        iexact Hsm
      iexists H0; iexists Q0; iexists QO0
      unfold outV; iexact Hout
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr; · ipureintro; exact View.read_rep _ _
    iexact H4

/-! ## The run -/

def restZ (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg4) ↦{fullShare} V m c main_arg4))
def intoΦ (c : Dev nD) : sProp 𝕄 :=
  iprop(wholeW c (wts m c) ∗ Pipeline.ownSems0 (Ix := Unit) (Name := ℕ) (U := UU nD τ) (Lvl := ℕ) (Val := Elt F) (τ := τ) osem c
    ∗ (((c : Thread nD τ).loc main_v13) ↦{fullShare} V m c main_v13))
def outOfΦ (c : Dev nD) : sProp 𝕄 := iprop(wholeW c (wts m c) ∗ done m c)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
/-- What the run leaves beside the staged arrays. -/
def QY (c : Dev nD) (s : MemSt nD τ sig (Elt F)) : Prop :=
  (s.mem ((c : Thread nD τ).loc main_arg1) = V m c main_arg1 ∧ s.mem ((c : Thread nD τ).loc main_arg2) = V m c main_arg2 ∧ s.mem ((c : Thread nD τ).loc main_arg4) = V m c main_arg4)
  ∧ s.mem ((c : Thread nD τ).loc main_arg3) = V m c main_arg3
  ∧ ∃ H0 Q0 QO0, s.mem ((c : Thread nD τ).loc main_v13) = outV m c H0 Q0 QO0
def QC : PUnit × MemSt nD τ sig (Elt F) → Prop := fun r =>
  ∀ c : Dev nD, (∀ w : Fin cfg0.W, r.2.mem ((cfg0.win w).arr.view.loc (c : Thread nD τ)) = finalA m c w) ∧ QY m c r.2

theorem hin (c : Dev nD) : iprop(intoΦ m c ∗ Pipeline.scopedRest (Ix := Unit) (Name := ℕ) (U := UU nD τ) (Lvl := ℕ) (Val := Elt F) spec0 c)
    ⊢ (iprop(core c (wts m c) ∗ before c) : sProp 𝕄) := by
  unfold intoΦ before
  iintro ⟨⟨HW, HS, Ho⟩, HR⟩
  isplitl [HW HS HR]
  · iapply (core_in c (wts m c))
    isplitl [HW]; · iexact HW
    isplitl [HS]; · iexact HS
    iexact HR
  iapply (vecP_in c main_v13); iexists _; iexact Ho
theorem hout (c : Dev nD) : (iprop(core c (wts m c) ∗ done m c) : sProp 𝕄)
    ⊢ iprop(outOfΦ m c ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) := by
  unfold outOfΦ
  iintro ⟨HC, HD⟩
  ihave HC := (core_out c (wts m c)) $$ HC
  icases HC with ⟨HW, HS, HR⟩
  isplitl [HW HD]
  · isplitl [HW]; · iexact HW
    iexact HD
  isplitl [HS]; · iexact HS
  iexact HR
theorem hX (c : Dev nD) : iprop(Pipeline.unscopedRest (Ix := Unit) (Name := ℕ) (U := UU nD τ) (Lvl := ℕ) spec0 c (V m c)
      ∗ Pipeline.ownSems0 (Ix := Unit) (Name := ℕ) (U := UU nD τ) (Lvl := ℕ) (Val := Elt F) (τ := τ) osem c)
    ⊢ (iprop(intoΦ m c ∗ restZ m c) : sProp 𝕄) := by
  rw [unscopedRest0_eq]
  unfold intoΦ restZ wholeW wts
  iintro ⟨⟨H1, H2, H3, H4, -, -, -, -, -, -, -, -, -, -, -, -, Ho⟩, HS⟩
  isplitl [H3 Ho HS]
  · isplitl [H3]; · iexact H3
    isplitl [HS]; · iexact HS
    iexact Ho
  isplitl [H1]; · iexact H1
  isplitl [H2]; · iexact H2
  iexact H4
theorem hY (c : Dev nD) (s' : Phys nD τ sig (Elt F)) : iprop(outOfΦ m c ∗ restZ m c ∗ SI (Ix := Unit) (Name := ℕ) (U := UU nD τ) (Lvl := ℕ) s')
    ⊢ (iprop(⌜QY m c s'.mem⌝ ∗ SI (Ix := Unit) (Name := ℕ) (U := UU nD τ) (Lvl := ℕ) s') : sProp 𝕄) := by
  unfold outOfΦ restZ wholeW done wts
  iintro ⟨⟨H3, ⟨%H0, %Q0, %QO0, Ho⟩⟩, ⟨H1, H2, H4⟩, HSI⟩
  ihave Ho := (entails_of_eq (vecP_whole c main_v13 _)) $$ Ho
  icombine HSI H1 gives %h1
  icombine HSI H2 gives %h2
  icombine HSI H3 gives %h3
  icombine HSI H4 gives %h4
  icombine HSI Ho gives %ho
  isplitr
  · ipureintro
    exact ⟨⟨Buf.eq_of_forall_mem_univ h1, Buf.eq_of_forall_mem_univ h2, Buf.eq_of_forall_mem_univ h4⟩, Buf.eq_of_forall_mem_univ h3,
      H0, Q0, QO0, Buf.eq_of_forall_mem_univ ho⟩
  iexact HSI

set_option maxHeartbeats 1000000 in
set_option backward.isDefEq.respectTransparency.types false in
/-- For any float values, from any memory with zero counters: every weakly fair execution of @main on the TensorCores
    terminates, and every final state has the arguments as launched, the result at the computed contents and every
    semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := restZ m)
    (hX := fun c => by
      iintro ⟨HU, HS, -, -, -⟩; imodintro
      iapply (hX m c)
      isplitl [HU]; · iexact HU
      iexact HS)
    (hin := fun c => hin m c)
    (hout := fun c => hout m c)
    (QY := QY m)
    (hY := fun c s' => by
      iintro H; imodintro
      iapply (hY m c s'); iexact H)
    (hQ := fun _ hh hz => ⟨hh, hz⟩)

theorem finalA_in (c : Dev nD) (w : Fin cfg0.W) (hw : (cfg0.win w).isOut = false) : finalA m c w = V m c (Pipeline.arrRef spec0 w) :=
  (dats (F := F) m 0 c).arrAt_in w hw _

/-- Every argument ends as launched. -/
theorem args_kept (c : Dev nD) (r : PUnit × MemSt nD τ sig (Elt F)) (h : QC m r) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) := by
  obtain ⟨h0, ⟨h1, h2, h4⟩, h3, -⟩ := h c
  exact ⟨((h0 0).trans (finalA_in m c 0 rfl)).trans (V_main_arg0 m c), h1.trans (V_main_arg1 m c), h2.trans (V_main_arg2 m c), h3.trans (V_main_arg3 m c), h4.trans (V_main_arg4 m c)⟩

/-- The frame claim, for any float values. -/
theorem frame : θ_run defs (onTc (τ := τ) (main (F := F))) (s₀ m ρ) (fun r => (∀ c : Dev nD,
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4)) ∧ r.2.sem = fun _ => 0) :=
  (θ_run defs _ _).mono (fun r hh => ⟨fun c => args_kept m c r hh.1, hh.2⟩) (run_main m ρ)

end Launch

end Cert.Proof.Query

end
-- ==== Proof.QValPay.lean ====
module

public import proofs.«01_k».proof.Proof.QLaunch
public import Idealize.ShloMosaic.Lib.Pointwise
public import Idealize.ShloMosaic.Lib.KernelVsHost
public import Idealize.ShloMosaic.Lib.Bf16PairInverse

@[expose] public section

set_option maxRecDepth 16384

noncomputable section

/-! # The rotated queries' stored values at an index, over the extended reals -/

namespace Cert.Proof.Query

open Cert.QKernelIdeal Cert.QKernelIdeal.Gen
open Idealize.ShloMosaic

/-- The lane 64 places on, around the head. -/
abbrev opp (l : Fin 128) : Fin 128 := ⟨(l.val + 128 - 64) % 128, Nat.mod_lt _ (by decide)⟩

theorem rot_at (y : FVec Ideal S256x128 .f32) (h : S256x128.Rotates 1 none) (i : Fin 256) (l : Fin 128) :
    dynamicRotate 1 64#32 none y h (ix2 i l) = y (ix2 i (opp l)) :=
  dynamicRotate_apply 1 64#32 y h (ix2 i l) (ix2 i (opp l)) fun b => by
    fin_cases b <;> rfl

theorem inter_at (lo hi : Vec Ideal S256x1x128 .bf16) (h : S256x2x128.Bitcasts 16 S256x1x128 32) (i : Fin 256) (e : Fin 2) (l : Fin 128) :
    interleaveRows S256x2x128 lo hi h (ix3 i e l) = ![lo (ix3 i 0 l), hi (ix3 i 0 l)] e := by
  have hr : S256x2x128.row (ix3 i e l) = e.val := rfl
  unfold interleaveRows
  dsimp only
  rw [hr]
  have hj : (fun b : Fin S256x1x128.rank => if hb : (b.cast h.1).val + 2 = S256x2x128.rank then
        (⟨((ix3 i e l : S256x2x128.Idx) (b.cast h.1)).val / 2, by
          have hs : S256x2x128.size (b.cast h.1) * 16 = S256x1x128.size b * 32 := by
            have hs := h.2.2 (b.cast h.1); rw [if_pos hb] at hs; exact hs
          have hi : ((ix3 i e l : S256x2x128.Idx) (b.cast h.1)).val < S256x2x128.size (b.cast h.1) := ((ix3 i e l : S256x2x128.Idx) (b.cast h.1)).isLt
          omega⟩ : Fin (S256x1x128.size b))
      else ((ix3 i e l : S256x2x128.Idx) (b.cast h.1)).cast (by have hs := h.2.2 (b.cast h.1); rw [if_neg hb] at hs; exact hs)) = (ix3 i 0 l : S256x1x128.Idx) := by
    funext a
    apply Fin.ext
    match a with
    | ⟨0, _⟩ => rfl
    | ⟨1, _⟩ => exact Nat.div_eq_of_lt e.isLt
    | ⟨2, _⟩ => rfl
  rw [hj]
  fin_cases e <;> rfl

theorem pay59_at (H : Vec Ideal S256x5120 .bf16) (W : Vec Ideal S1x5120x512 .fp8e4m3) (i : Fin 256) (j : Fin 512) :
    k0_pay59 H W (ix2 i j) = ∑ t : Fin 5120, H (ix2 i t) * W (ix3 0 t j) := by
  pointwise [k0_pay59]

/-- A head's 128 columns, scaled. -/
def sc (Y : FVec Ideal S256x512 .f32) (s : Vec Ideal S1x128 .f32) (r : Fin 4) (i : Fin 256) (l : Fin 128) : EReal :=
  Y (ix2 i ⟨128 * r.val + l.val, by omega⟩) * s (ix2 0 l)
/-- A head's lane, rotated. -/
def hd (Y : FVec Ideal S256x512 .f32) (s : Vec Ideal S1x128 .f32) (C S : Vec Ideal S256x128 .f32) (r : Fin 4) (i : Fin 256) (l : Fin 128) : EReal :=
  sc Y s r i l * C (ix2 i l) + sc Y s r i (opp l) * S (ix2 i l)

variable (H : Vec Ideal S256x5120 .bf16) (W : Vec Ideal S1x5120x512 .fp8e4m3) (Y : FVec Ideal S256x512 .f32) (s : Vec Ideal S1x128 .f32) (C S : Vec Ideal S256x128 .f32)
  (i : Fin 256) (l : Fin 128)
theorem pay64_at : k0_pay64 Y s (ix2 i l) = sc Y s 3 i l := by
  unfold sc
  pointwise [k0_pay64]
theorem pay60_at : k0_pay60 H W s C S (ix2 i l) = hd (k0_pay59 H W) s C S 0 i l := by
  unfold hd sc
  pointwise [k0_pay60, rot_at]
theorem pay62_at : k0_pay62 (k0_pay61 H W) s C S (ix2 i l) = hd (k0_pay59 H W) s C S 1 i l := by
  unfold hd sc
  pointwise [k0_pay62, k0_pay61, rot_at]
theorem pay63_at : k0_pay63 Y s C S (ix2 i l) = hd Y s C S 2 i l := by
  unfold hd sc
  pointwise [k0_pay63, rot_at]

theorem pay70_at (a b : FVec Ideal S256x128 .f32) (e : Fin 2) : k0_pay70 a b (ix3 i e l) = ![a (ix2 i l), b (ix2 i l)] e := by
  unfold k0_pay70
  rw [inter_at]
  fin_cases e
  · pointwise []
  · pointwise []
theorem pay71_at (a b d : FVec Ideal S256x128 .f32) (e : Fin 2) : k0_pay71 a b d S (ix3 i e l) = ![a (ix2 i l), b (ix2 i l) + d (ix2 i l) * S (ix2 i l)] e := by
  unfold k0_pay71
  rw [inter_at]
  fin_cases e
  · pointwise []
  · pointwise []
theorem pay72_at (raw : Vec Ideal S256x2x128 .bf16) (e : Fin 2) : k0_pay72 raw (ix3 i e l) = raw (ix3 i e l) := by
  unfold k0_pay72
  rw [inter_at, shapeCast_shapeCast, shapeCast_shapeCast]
  fin_cases e
  · refine (congrArg raw (funext fun a => Fin.ext ?_))
    fin_cases a <;> rfl
  · refine (congrArg raw (funext fun a => Fin.ext ?_))
    fin_cases a <;> rfl

theorem pay67_at (p : Vec Ideal S256x1 .i32) (v : Vec Ideal S1x128 .f32) : k0_pay67 p v (ix2 i l) = FloatOps.sitofp (F := Ideal) .f32 (p (ix2 i 0)) * v (ix2 0 l) := by
  pointwise [k0_pay67]
theorem pay68_at (p : Vec Ideal S256x1 .i32) (v : Vec Ideal S1x128 .f32) : k0_pay68 p v (ix2 i l) = Ideal.cos (k0_pay67 p v (ix2 i l)) := by
  pointwise [k0_pay68]
theorem pay69_at (a : FVec Ideal S256x128 .f32) : k0_pay69 a (iota .tc S256x128 32 [1] iota_S256x128_d1_w32) (ix2 i l)
    = if l.val < 64 then 0 - Ideal.sin (a (ix2 i l)) else Ideal.sin (a (ix2 i l)) := by
  pointwise [k0_pay69]
  have e : IntOp.cmpi .slt (BitVec.ofNat 32 l.val) 64#32 = if l.val < 64 then 1#1 else 0#1 := by
    revert l; decide
  rw [e]
  split <;> rfl

/-! ## The norm -/

/-- A row's square at a lane of stripe `q`. -/
def sqx (x : Fin 40 → Vec Ideal S32x128 .bf16) (i : Fin 32) (l : Fin 128) (q : ℕ) : EReal :=
  x ⟨q % 40, Nat.mod_lt _ (by decide)⟩ (ix2 i l) * x ⟨q % 40, Nat.mod_lt _ (by decide)⟩ (ix2 i l)

section Norm
variable (x : Fin 40 → Vec Ideal S32x128 .bf16) (i : Fin 32) (l : Fin 128) (y : FVec Ideal S32x128 .f32)
theorem pay1_at : k0_pay1 (x 0) (x 1) (x 2) (x 3) (x 4) (x 5) (ix2 i l) = ∑ q ∈ Finset.range 6, sqx x i l q := by
  pointwise [k0_pay1]
  simp only [Finset.sum_range_succ, Finset.sum_range_zero, zero_add]
  rfl
theorem pay2_at (h : y (ix2 i l) = ∑ q ∈ Finset.range 6, sqx x i l q) :
    k0_pay2 y (x 6) (x 7) (x 8) (x 9) (x 10) (x 11) (ix2 i l) = ∑ q ∈ Finset.range 12, sqx x i l q := by
  pointwise [k0_pay2]
  rw [h]
  simp only [Finset.sum_range_succ]
  rfl
theorem pay3_at (h : y (ix2 i l) = ∑ q ∈ Finset.range 12, sqx x i l q) :
    k0_pay3 y (x 12) (x 13) (x 14) (x 15) (x 16) (x 17) (x 18) (ix2 i l) = ∑ q ∈ Finset.range 19, sqx x i l q := by
  pointwise [k0_pay3]
  rw [h]
  simp only [Finset.sum_range_succ]
  rfl
theorem pay4_at (h : y (ix2 i l) = ∑ q ∈ Finset.range 19, sqx x i l q) :
    k0_pay4 y (x 19) (x 20) (x 21) (x 22) (x 23) (x 24) (x 25) (ix2 i l) = ∑ q ∈ Finset.range 26, sqx x i l q := by
  pointwise [k0_pay4]
  rw [h]
  simp only [Finset.sum_range_succ]
  rfl
theorem pay5_at (h : y (ix2 i l) = ∑ q ∈ Finset.range 26, sqx x i l q) :
    k0_pay5 y (x 26) (x 27) (x 28) (x 29) (x 30) (x 31) (ix2 i l) = ∑ q ∈ Finset.range 32, sqx x i l q := by
  pointwise [k0_pay5]
  rw [h]
  simp only [Finset.sum_range_succ]
  rfl
theorem pay6_at (h : y (ix2 i l) = ∑ q ∈ Finset.range 32, sqx x i l q) :
    k0_pay6 y (x 32) (x 33) (x 34) (x 35) (x 36) (x 37) (x 38) (ix2 i l) = ∑ q ∈ Finset.range 39, sqx x i l q := by
  pointwise [k0_pay6]
  rw [h]
  simp only [Finset.sum_range_succ]
  rfl
theorem pay7_at (h : ∀ l, y (ix2 i l) = ∑ q ∈ Finset.range 39, sqx x i l q) :
    k0_pay7 y (x 39) (ix2 i 0) = Ideal.rsqrt (Ideal.div (∑ l : Fin 128, ∑ q : Fin 40, x q (ix2 i l) * x q (ix2 i l)) (Ideal.ofBits .f32 0x45A00000#32) + Ideal.ofBits .f32 0x3727C5AC#32) := by
  have e : ∀ l : Fin 128, (∑ q : Fin 40, x q (ix2 i l) * x q (ix2 i l)) = y (ix2 i l) + x 39 (ix2 i l) * x 39 (ix2 i l) := fun l => by
    rw [h l]
    refine (Eq.trans (Finset.sum_congr rfl fun q _ => ?_) (Finset.sum_range (fun q => sqx x i l q)).symm).trans (Finset.sum_range_succ _ 39)
    have hq : (⟨q.val % 40, Nat.mod_lt _ (by decide)⟩ : Fin 40) = q := Fin.ext (Nat.mod_eq_of_lt q.isLt)
    unfold sqx
    rw [hq]
  rw [Finset.sum_congr rfl fun l _ => e l]
  pointwise [k0_pay7]
theorem pay11_at (r : FVec Ideal S32x1 .f32) (v : Vec Ideal S32x128 .bf16) (g : Vec Ideal S1x128 .f32) : k0_pay11 r v g (ix2 i l) = v (ix2 i l) * r (ix2 i 0) * g (ix2 0 l) := by
  pointwise [k0_pay11]
end Norm

end Cert.Proof.Query
-- ==== Proof.QVal.lean ====
module

public import proofs.«01_k».proof.Proof.QValPay

@[expose] public section

set_option maxRecDepth 16384

noncomputable section

/-! # The rotated queries at a row, a head and a lane -/

namespace Cert.Proof.Query

open Cert.QKernelIdeal Cert.QKernelIdeal.Gen
open Idealize.ShloMosaic
open Idealize.ShloMosaic.TcCoe

/-- The inverse frequency of a lane of a half head. -/
def freq (j : Fin 64) : EReal :=
  Ideal.pow (Ideal.ofBits .f32 0x48F42400#32) (Ideal.div (-(Ideal.ofBits .f32 0x40000000#32 * FloatOps.sitofp (F := Ideal) .f32 (BitVec.ofNat 32 j.val))) (Ideal.ofBits .f32 0x43000000#32))

/-- The operands, read at indices. -/
structure Ops where
  x : Fin 256 → Fin 5120 → EReal
  pos : Fin 256 → EReal
  inv : Fin 64 → EReal
  g : Fin 5120 → EReal
  w : Fin 5120 → Fin 4096 → EReal
  s : Fin 4096 → EReal

/-- Lane `l` of head `h` among the query columns. -/
abbrev lane (h : Fin 32) (l : Fin 128) : Fin 4096 := ⟨128 * h.val + l.val, by omega⟩

namespace Ops
variable (I : Ops)
/-- A row's sum of squares. -/
def sq (i : Fin 256) : EReal := ∑ J : Fin 5120, I.x i J * I.x i J
/-- The normalised rows. -/
def h1 (i : Fin 256) (J : Fin 5120) : EReal :=
  I.x i J * Ideal.rsqrt (Ideal.div (I.sq i) (Ideal.ofBits .f32 0x45A00000#32) + Ideal.ofBits .f32 0x3727C5AC#32) * I.g J
/-- The queries before the rotation. -/
def q (i : Fin 256) (n : Fin 4096) : EReal := (∑ t : Fin 5120, I.h1 i t * I.w t n) * I.s n
/-- The angle of a row's position at a lane. -/
def ang (i : Fin 256) (l : Fin 128) : EReal := I.pos i * I.inv ⟨l.val % 64, Nat.mod_lt _ (by decide)⟩
/-- The rotated queries. -/
def out (i : Fin 256) (h : Fin 32) (l : Fin 128) : EReal :=
  I.q i (lane h l) * Ideal.cos (I.ang i l) + (if l.val < 64 then 0 - I.q i (lane h (opp l)) else I.q i (lane h (opp l))) * Ideal.sin (I.ang i l)
end Ops

section Reads
variable {F : FTy → Type} [FloatOps F]
/-- A load through a unit-stride rectangle, at an index. -/
theorem rd {sp : Space} {s : Shape} {e : EltTy} (M : Memref sig .tc sp s e) (c : Dev nD) (f : Buf (Elt F) (M.view.loc (c : Thread nD τ)))
    (off sz : Fin s.rank → ℕ) {off' : Fin s.rank → ℕ} (e : off = off') (hh : ∀ a, off a + sz a ≤ s.size a) (y : (Rect.unit (s := s) off sz hh).shape.Idx) (z : s.Idx)
    (h : ∀ a, (z a).val = off' a + (y a).val) :
    View.readAt (Elt F) M.view (Rect.unit (s := s) off sz hh).toLoadRect f y = M.view.read (Elt F) f z := by
  subst e
  rw [View.readAt_apply]
  refine congrArg _ (funext fun a => Fin.ext ?_)
  rw [h a]
  show off a + 1 * (y a).val = _
  omega
/-- Where a unit-stride rectangle puts an index. -/
theorem emb_unit {s : Shape} (off sz : Fin s.rank → ℕ) {off' : Fin s.rank → ℕ} (e : off = off') (hh : ∀ a, off a + sz a ≤ s.size a)
    (y : (Rect.unit (s := s) off sz hh).shape.Idx) (z : s.Idx) (h : ∀ a, (z a).val = off' a + (y a).val) : (Rect.unit (s := s) off sz hh).emb y = z := by
  subst e
  refine funext fun a => Fin.ext ?_
  rw [h a]
  show off a + 1 * (y a).val = _
  omega
/-- A store over the whole rectangle, read back. -/
theorem wr_unit {sp : Space} {s : Shape} {e : EltTy} (M : Memref sig .tc sp s e) (c : Dev nD) (f : Buf (Elt F) (M.view.loc (c : Thread nD τ)))
    (off : Fin s.rank → ℕ) (h0 : ∀ a, off a = 0) (hh : ∀ a, off a + s.size a ≤ s.size a) (P : s.Idx → Elt F e) (y : s.Idx) :
    M.view.read (Elt F) (M.view.writes (Elt F) f [⟨Rect.unit (s := s) off s.size hh, P⟩]) y = P y := by
  refine View.read_writes_apply_of_pieces (Val := Elt F) M.view f P [⟨Rect.unit (s := s) off s.size hh, P⟩] (fun p hp x => ?_) y ⟨_, List.mem_singleton.2 rfl, (Rect.mem_set_unit (inb := hh)).2 fun a => ?_⟩
  · obtain rfl := List.mem_singleton.1 hp
    exact congrArg P (emb_unit off s.size rfl hh x x fun a => by rw [h0 a, Nat.zero_add]).symm
  · rw [h0 a]; exact ⟨Nat.zero_le _, by rw [Nat.zero_add]; exact (y a).isLt⟩

theorem sqF {α : Type} (v : S1x5120x512.Idx → α) (h : S1x5120x512.ShapeCasts S5120x512) (a : Fin 5120) (b : Fin 512) : shapeCast S5120x512 v h (ix2 a b) = v (ix3 0 a b) := by
  simp only [pointwise]
theorem sqP {α : Type} (v : S1x592x2x128.Idx → α) (h : S1x592x2x128.ShapeCasts S592x2x128) (a : Fin 592) (e : Fin 2) (l : Fin 128) : shapeCast S592x2x128 v h (ix3 a e l) = v (ix4 0 a e l) := by
  simp only [pointwise]

variable (c : Dev nD) (X : Buf (Elt F) (wM.view.loc (c : Thread nD τ)))
/-- What a slot of the weight ring holds, read through the whole ring. -/
theorem ringF_at (s : Fin 4) (P : S5120x512.Idx → Elt F .fp8e4m3) (g : Buf (Elt F) ((slotF s).view.loc (c : Thread nD τ))) (a : Fin 5120) (b : Fin 512) :
    ringM.view.read (Elt F) ((slotF s).view.writes (Elt F) g [⟨Rect.whole S5120x512, P⟩]) (ix3 s a b) = P (ix2 a b) := by
  have e := congrFun (View.read_writes_whole (Val := Elt F) (slotF s).view g P) (ix2 a b)
  rw [← e]
  generalize (slotF s).view.writes (Elt F) g [⟨Rect.whole S5120x512, P⟩] = f
  have h1 : (slotF s).view.read (Elt F) f
      = shapeCast S5120x512 (View.readAt (Elt F) ringM.view (Rect.unit (s := S4x5120x512) (slotOff s) S1x5120x512.size (slotF_inb s)).toLoadRect f) squeezes_S1x5120x512_S5120x512.numel_eq := rfl
  rw [h1]
  refine ((sqF _ _ a b).trans (rd ringM c f _ _ rfl _ _ _ fun k => ?_)).symm
  fin_cases k
  · rfl
  · exact (Nat.zero_add a.val).symm
  · exact (Nat.zero_add b.val).symm
/-- A block of the weight. -/
theorem payW_at (b : Fin 8) (t : Fin 5120) (j : Fin 512) : payW c X b (ix2 t j) = X (ix2 t (⟨512 * b.val + j.val, by omega⟩ : Fin 6144) : S5120x6144.Idx) :=
  rd wM c X (colOff b.val) S5120x512.size rfl (wBlk_inb b) (ix2 t j) _ fun k => by
    fin_cases k
    · exact (Nat.zero_add t.val).symm
    · rfl
theorem wAll_at (k : Fin k0_t2_loop.trips) (t : Fin 5120) (j : Fin 512) :
    wAll c X k (ix3 0 t j) = X (ix2 t (⟨512 * k.val + j.val, by have := t2_lt k; omega⟩ : Fin 6144) : S5120x6144.Idx) := by
  have hk := t2_lt k
  refine (rd ringM c _ _ _ (k0_off16_eq k) _ _ (ix3 (Ring.sl 4 k.val) t j) fun a => ?_).trans ?_
  · fin_cases a
    · rfl
    · exact (Nat.zero_add t.val).symm
    · exact (Nat.zero_add j.val).symm
  · refine (ringF_at (F := F) c (Ring.sl 4 k.val) _ _ t j).trans ((payW_at c X (Ring.bk 8 k.val) t j).trans ?_)
    refine congrArg X (congrArg (ix2 _) (Fin.ext ?_))
    show 512 * (k.val % 8) + j.val = 512 * k.val + j.val
    rw [Nat.mod_eq_of_lt hk]
end Reads

/-- The operands' buffers hold the operands. -/
structure Holds (I : Ops) (c : Dev nD) (X : Buf (Elt Ideal) (wM.view.loc (c : Thread nD τ)))
    (arg0 : Memref sig .tc .vmem S256x5120 .bf16) (arg1 : Memref sig .tc .vmem S256x1 .i32) (arg2 : Memref sig .tc .vmem S1x128 .f32) (arg3 : Memref sig .tc .vmem S40x128 .f32)
    (arg4 : Memref sig .tc .vmem S48x128 .f32)
    (X0 : Buf (Elt Ideal) (arg0.view.loc (c : Thread nD τ))) (X1 : Buf (Elt Ideal) (arg1.view.loc (c : Thread nD τ))) (X2 : Buf (Elt Ideal) (arg2.view.loc (c : Thread nD τ)))
    (X3 : Buf (Elt Ideal) (arg3.view.loc (c : Thread nD τ))) (X4 : Buf (Elt Ideal) (arg4.view.loc (c : Thread nD τ))) : Prop where
  x : ∀ i J, arg0.view.read (Elt Ideal) X0 (ix2 i J) = I.x i J
  pos : ∀ i : Fin 256, FloatOps.sitofp (F := Ideal) .f32 (arg1.view.read (Elt Ideal) X1 (ix2 i 0)) = I.pos i
  inv : ∀ l : Fin 128, arg2.view.read (Elt Ideal) X2 (ix2 0 l) = I.inv ⟨l.val % 64, Nat.mod_lt _ (by decide)⟩
  g : ∀ (r : Fin 40) (l : Fin 128), arg3.view.read (Elt Ideal) X3 (ix2 r l) = I.g ⟨128 * r.val + l.val, by omega⟩
  s : ∀ (r : Fin 32) (l : Fin 128), arg4.view.read (Elt Ideal) X4 (ix2 (⟨r.val, by omega⟩ : Fin 48) l) = I.s (lane r l)
  w : ∀ (t : Fin 5120) (n : Fin 4096), X (ix2 t (⟨n.val, by omega⟩ : Fin 6144) : S5120x6144.Idx) = I.w t n

variable {I : Ops} {c : Dev nD} {X : Buf (Elt Ideal) (wM.view.loc (c : Thread nD τ))}
  {arg0 : Memref sig .tc .vmem S256x5120 .bf16} {arg1 : Memref sig .tc .vmem S256x1 .i32} {arg2 : Memref sig .tc .vmem S1x128 .f32} {arg3 : Memref sig .tc .vmem S40x128 .f32}
  {arg4 : Memref sig .tc .vmem S48x128 .f32}
  {X0 : Buf (Elt Ideal) (arg0.view.loc (c : Thread nD τ))} {X1 : Buf (Elt Ideal) (arg1.view.loc (c : Thread nD τ))} {X2 : Buf (Elt Ideal) (arg2.view.loc (c : Thread nD τ))}
  {X3 : Buf (Elt Ideal) (arg3.view.loc (c : Thread nD τ))} {X4 : Buf (Elt Ideal) (arg4.view.loc (c : Thread nD τ))}
  (H : Holds I c X arg0 arg1 arg2 arg3 arg4 X0 X1 X2 X3 X4)
  {hm : Memref sig .tc .vmem S256x5120 .bf16} {qo : Memref sig .tc .vmem S256x32x128 .bf16} {cm sm : Memref sig .tc .vmem S256x128 .f32}
include H

/-! ## The normalised rows -/

theorem xs_at (k : Fin k0_t1_loop.trips) (r : Fin 40) (i : Fin 32) (l : Fin 128) (i' : Fin 256) (J : Fin 5120) (ei : i'.val = 32 * k.val + i.val) (eJ : J.val = 128 * r.val + l.val) :
    xs c arg0 X0 k r (ix2 i l) = I.x i' J :=
  (rd arg0 c X0 _ _ (k0_off10_eq k r) _ _ (ix2 i' J) fun a => by
    fin_cases a
    · exact ei
    · exact eJ).trans (H.x i' J)
theorem rinv_at (k : Fin k0_t1_loop.trips) (i : Fin 32) (i' : Fin 256) (ei : i'.val = 32 * k.val + i.val) :
    rinv c arg0 X0 k (ix2 i 0) = Ideal.rsqrt (Ideal.div (I.sq i') (Ideal.ofBits .f32 0x45A00000#32) + Ideal.ofBits .f32 0x3727C5AC#32) := by
  have e : (∑ l : Fin 128, ∑ q : Fin 40, xs c arg0 X0 k q (ix2 i l) * xs c arg0 X0 k q (ix2 i l)) = I.sq i' := by
    rw [Finset.sum_comm]
    unfold Ops.sq
    refine Eq.trans ?_ (Fin.sum_univ_tiles 40 128 (by decide) (fun J : Fin 5120 => I.x i' J * I.x i' J)).symm
    refine Finset.sum_congr rfl fun q _ => Finset.sum_congr rfl fun l _ => ?_
    rw [xs_at H k q i l i' ⟨q.val * 128 + l.val, by omega⟩ ei (by show q.val * 128 + l.val = _; omega)]
  rw [← e]
  exact pay7_at (xs c arg0 X0 k) i _ fun l => pay6_at _ i l _ (pay5_at _ i l _ (pay4_at _ i l _ (pay3_at _ i l _ (pay2_at _ i l _ (pay1_at _ i l)))))
theorem nrm_at (k : Fin k0_t1_loop.trips) (r : Fin 40) (i : Fin 32) (l : Fin 128) (i' : Fin 256) (J : Fin 5120) (ei : i'.val = 32 * k.val + i.val) (eJ : J.val = 128 * r.val + l.val) :
    nrm c arg0 arg3 X0 X3 k r (ix2 i l) = I.h1 i' J := by
  unfold nrm
  rw [pay11_at, xs_at H k r i l i' J ei eJ, rinv_at H k i i' ei]
  have e3 : View.readAt (Elt Ideal) arg3.view (Rect.unit (s := S40x128) ![r.val, 0] S1x128.size (row_inb r)).toLoadRect X3 (ix2 0 l) = I.g J :=
    (rd arg3 c X3 _ _ rfl _ _ (ix2 r l) fun a => by
      fin_cases a
      · rfl
      · exact (Nat.zero_add l.val).symm).trans ((H.g r l).trans (congrArg I.g (Fin.ext eJ.symm)))
  rw [e3]
  rfl
omit H in
theorem mem_nrmL (k : Fin k0_t1_loop.trips) (p : View.Piece (Elt Ideal) S256x5120 .bf16) :
    ∀ n hn, p ∈ nrmL c arg0 arg3 X0 X3 k n hn → ∃ r : Fin 40, p = ⟨R10 k r, nrm c arg0 arg3 X0 X3 k r⟩
  | 0, _, h => absurd h List.not_mem_nil
  | n + 1, hn, h => by
    rcases List.mem_cons.1 h with rfl | h
    · exact ⟨⟨n, hn⟩, rfl⟩
    · exact mem_nrmL k p n _ h
omit H in
theorem in_nrmL (k : Fin k0_t1_loop.trips) (r : Fin 40) :
    ∀ n hn, r.val < n → (⟨R10 k r, nrm c arg0 arg3 X0 X3 k r⟩ : View.Piece (Elt Ideal) S256x5120 .bf16) ∈ nrmL c arg0 arg3 X0 X3 k n hn
  | 0, _, h => absurd h (by omega)
  | n + 1, hn, h => by
    by_cases e : r.val = n
    · obtain rfl : r = ⟨n, hn⟩ := Fin.ext e
      exact .head _
    · exact .tail _ (in_nrmL k r n _ (by omega))
omit H in
theorem R10_mem (k : Fin k0_t1_loop.trips) (r : Fin 40) (i : Fin 256) (J : Fin 5120) :
    (ix2 i J : S256x5120.Idx) ∈ (R10 k r).set ↔ (32 * k.val ≤ i.val ∧ i.val < 32 * k.val + 32) ∧ (128 * r.val ≤ J.val ∧ J.val < 128 * r.val + 128) := by
  refine (Rect.mem_set_unit (inb := k0_off10_inb k r)).trans ?_
  rw [k0_off10_eq k r]
  exact ⟨fun h => ⟨h 0, h 1⟩, fun h a => by
    fin_cases a
    · exact h.1
    · exact h.2⟩
theorem hSt_at (H0 : Buf (Elt Ideal) (hm.view.loc (c : Thread nD τ))) : ∀ n, n ≤ 8 → ∀ (i : Fin 256) (J : Fin 5120), i.val < 32 * n →
    hm.view.read (Elt Ideal) (hSt c arg0 arg3 hm X0 X3 H0 n) (ix2 i J) = I.h1 i J
  | 0, _, _, _, h => absurd h (by omega)
  | n + 1, hn, i, J, h => by
    have e : (t1i n).val = n := Nat.mod_eq_of_lt (by omega)
    rw [hSt]
    by_cases h' : i.val < 32 * n
    · refine (View.read_writes_apply_of_forall_not_mem (Val := Elt Ideal) hm.view _ (ix2 i J) _ fun p hp => ?_).trans (hSt_at H0 n (by omega) i J h')
      obtain ⟨r, rfl⟩ := mem_nrmL _ p 40 _ hp
      intro hc
      have := (R10_mem (t1i n) r i J).1 hc
      rw [e] at this
      omega
    · refine View.read_writes_apply_of_pieces (Val := Elt Ideal) hm.view _ (fun z : S256x5120.Idx => I.h1 (z 0) (z 1)) _ (fun p hp x => ?_) (ix2 i J)
        ⟨_, in_nrmL (t1i n) ⟨J.val / 128, by omega⟩ 40 _ (by show J.val / 128 < 40; omega), (R10_mem _ _ i J).2 ⟨by rw [e]; omega, by show 128 * (J.val / 128) ≤ J.val; omega, by show J.val < 128 * (J.val / 128) + 128; omega⟩⟩
      obtain ⟨r, rfl⟩ := mem_nrmL _ p 40 _ hp
      have hx0 : (x 0).val < 32 := (x 0).isLt
      have hx1 : (x 1).val < 128 := (x 1).isLt
      rw [emb_unit (s := S256x5120) _ S32x128.size (k0_off10_eq (t1i n) r) (k0_off10_inb (t1i n) r) x
        (ix2 (⟨32 * (t1i n).val + (x 0).val, by omega⟩ : Fin 256) (⟨128 * r.val + (x 1).val, by omega⟩ : Fin 5120)) (fun a => by fin_cases a <;> rfl)]
      exact (congrArg _ (eq_ix2 x)).trans (nrm_at H (t1i n) r _ _ _ _ rfl rfl)

/-! ## The angles -/

theorem ang_at (i : Fin 256) (l : Fin 128) : k0_pay67 (posR c arg1 X1) (invR c arg2 X2) (ix2 i l) = I.ang i l := by
  rw [pay67_at]
  refine congrArg₂ (· * ·) ((congrArg _ (rd arg1 c X1 _ _ rfl _ _ (ix2 i 0) fun a => ?_)).trans (H.pos i)) ((rd arg2 c X2 _ _ rfl _ _ (ix2 0 l) fun a => ?_).trans (H.inv l))
  · fin_cases a <;> exact (Nat.zero_add _).symm
  · fin_cases a <;> exact (Nat.zero_add _).symm
theorem cos_at (i : Fin 256) (l : Fin 128) : cm.view.read (Elt Ideal) (cosV c arg1 arg2 cm X1 X2) (ix2 i l) = Ideal.cos (I.ang i l) := by
  unfold cosV
  refine (wr_unit cm c _ _ (by decide) _ _ (ix2 i l)).trans ?_
  rw [pay68_at, ang_at H]
theorem sin_at (i : Fin 256) (l : Fin 128) : sm.view.read (Elt Ideal) (sinV c arg1 arg2 sm X1 X2) (ix2 i l)
    = if l.val < 64 then 0 - Ideal.sin (I.ang i l) else Ideal.sin (I.ang i l) := by
  unfold sinV
  refine (wr_unit sm c _ _ (by decide) _ _ (ix2 i l)).trans ?_
  rw [pay69_at, ang_at H]

end Cert.Proof.Query
end
-- ==== Proof.QValQ.lean ====
module

public import proofs.«01_k».proof.Proof.QVal

@[expose] public section

set_option maxRecDepth 16384

noncomputable section

/-! # The pair buffer and the rotated queries copied out of it -/

namespace Cert.Proof.Query

open Cert.QKernelIdeal Cert.QKernelIdeal.Gen
open Idealize.ShloMosaic
open Idealize.ShloMosaic.TcCoe

variable {I : Ops} {c : Dev nD} {X : Buf (Elt Ideal) (wM.view.loc (c : Thread nD τ))}
  {arg0 : Memref sig .tc .vmem S256x5120 .bf16} {arg1 : Memref sig .tc .vmem S256x1 .i32} {arg2 : Memref sig .tc .vmem S1x128 .f32} {arg3 : Memref sig .tc .vmem S40x128 .f32}
  {arg4 : Memref sig .tc .vmem S48x128 .f32}
  {X0 : Buf (Elt Ideal) (arg0.view.loc (c : Thread nD τ))} {X1 : Buf (Elt Ideal) (arg1.view.loc (c : Thread nD τ))} {X2 : Buf (Elt Ideal) (arg2.view.loc (c : Thread nD τ))}
  {X3 : Buf (Elt Ideal) (arg3.view.loc (c : Thread nD τ))} {X4 : Buf (Elt Ideal) (arg4.view.loc (c : Thread nD τ))}
  (H : Holds I c X arg0 arg1 arg2 arg3 arg4 X0 X1 X2 X3 X4)
  {hm : Memref sig .tc .vmem S256x5120 .bf16} {qo : Memref sig .tc .vmem S256x32x128 .bf16} {cm sm : Memref sig .tc .vmem S256x128 .f32}

/-! ## One trip's heads -/

section Heads
variable {HH : Buf (Elt Ideal) (hm.view.loc (c : Thread nD τ))} {CM : Buf (Elt Ideal) (cm.view.loc (c : Thread nD τ))} {SM : Buf (Elt Ideal) (sm.view.loc (c : Thread nD τ))}
  (hH : ∀ i J, hm.view.read (Elt Ideal) HH (ix2 i J) = I.h1 i J) (hC : ∀ i l, cm.view.read (Elt Ideal) CM (ix2 i l) = Ideal.cos (I.ang i l))
  (hS : ∀ (i : Fin 256) (l : Fin 128), sm.view.read (Elt Ideal) SM (ix2 i l) = if l.val < 64 then 0 - Ideal.sin (I.ang i l) else Ideal.sin (I.ang i l))
  (k : Fin k0_t2_loop.trips)

/-- Head `r` of the trip's four. -/
abbrev hdI (r : Fin 4) : Fin 32 := ⟨4 * k.val + r.val, by have := t2_lt k; omega⟩

include H hH in
theorem sc_at (r : Fin 4) (r' : BitVec 32) (er : r' = BitVec.ofNat 32 r.val) (hh) (i : Fin 256) (l : Fin 128) :
    sc (k0_pay59 (hAll c hm HH) (wAll c X k)) (View.readAt (Elt Ideal) arg4.view (Rect.unit (s := S48x128) (k0_off17 k r') S1x128.size hh).toLoadRect X4) r i l
      = I.q i (lane (hdI k r) l) := by
  have hk := t2_lt k
  subst er
  unfold sc
  rw [pay59_at]
  unfold Ops.q
  refine congrArg₂ (· * ·) (Finset.sum_congr rfl fun t _ => congrArg₂ (· * ·) ((rd hm c HH _ _ rfl _ _ (ix2 i t) fun a => ?_).trans (hH i t)) ?_) ((rd arg4 c X4 _ _ (k0_off17_eq k r) _ _ (ix2 (⟨4 * k.val + r.val, by omega⟩ : Fin 48) l) fun a => ?_).trans (H.s (hdI k r) l))
  · fin_cases a <;> exact (Nat.zero_add _).symm
  · refine (wAll_at c X k t _).trans (Eq.trans (congrArg X (congrArg (ix2 t) (Fin.ext ?_))) (H.w t (lane (hdI k r) l)))
    show 512 * k.val + (128 * r.val + l.val) = 128 * (4 * k.val + r.val) + l.val
    omega
  · fin_cases a
    · rfl
    · exact (Nat.zero_add _).symm

include H hH hC hS in
theorem hd_at (r : Fin 4) (r' : BitVec 32) (er : r' = BitVec.ofNat 32 r.val) (hh) (i : Fin 256) (l : Fin 128) :
    hd (k0_pay59 (hAll c hm HH) (wAll c X k)) (View.readAt (Elt Ideal) arg4.view (Rect.unit (s := S48x128) (k0_off17 k r') S1x128.size hh).toLoadRect X4) (cAll c cm CM) (sAll c sm SM) r i l
      = I.out i (hdI k r) l := by
  unfold hd
  rw [sc_at H hH k r r' er hh, sc_at H hH k r r' er hh]
  have e1 : cAll c cm CM (ix2 i l) = Ideal.cos (I.ang i l) := (rd cm c CM _ _ rfl _ _ (ix2 i l) fun a => by fin_cases a <;> exact (Nat.zero_add _).symm).trans (hC i l)
  have e2 : sAll c sm SM (ix2 i l) = if l.val < 64 then 0 - Ideal.sin (I.ang i l) else Ideal.sin (I.ang i l) :=
    (rd sm c SM _ _ rfl _ _ (ix2 i l) fun a => by fin_cases a <;> exact (Nat.zero_add _).symm).trans (hS i l)
  rw [e1, e2]
  unfold Ops.out
  congr 1
  split
  · rw [sub_eq_add_neg, zero_add, sub_eq_add_neg, zero_add, mul_neg, neg_mul]
  · rfl

include H hH hC hS in
theorem pair0_at (i : Fin 256) (e : Fin 2) (l : Fin 128) :
    pair0 c arg4 hm cm sm X X4 HH CM SM k (ix3 i e l) = I.out i ⟨4 * k.val + e.val, by have := t2_lt k; omega⟩ l := by
  unfold pair0
  rw [pay70_at]
  fin_cases e
  · exact (pay60_at _ _ _ _ _ i l).trans (hd_at H hH hC hS k 0 _ rfl _ i l)
  · exact (pay62_at _ _ _ _ _ i l).trans (hd_at H hH hC hS k 1 _ rfl _ i l)
include H hH hC hS in
theorem pair1_at (i : Fin 256) (e : Fin 2) (l : Fin 128) :
    pair1 c arg4 hm cm sm X X4 HH CM SM k (ix3 i e l) = I.out i ⟨4 * k.val + 2 + e.val, by have := t2_lt k; omega⟩ l := by
  unfold pair1
  rw [pay71_at]
  fin_cases e
  · exact (pay63_at _ _ _ _ i l).trans (hd_at H hH hC hS k 2 _ rfl _ i l)
  · refine Eq.trans ?_ (hd_at H hH hC hS k 3 _ rfl (k0_off17_inb k 3) i l)
    unfold hd
    rw [← pay64_at, ← pay64_at]
    pointwise [k0_pay65, k0_pay66]
    rfl

/-! ## The pair buffer -/

/-- Where a plane's element lies in the pair buffer. -/
theorem plane_emb (off : Fin 4 → ℕ) (n : Fin 8) (e : off = ![n.val, 0, 0, 0]) (hh) (hq) (a : Fin 592) (b : Fin 2) (l : Fin 128) :
    (((q2M.slice (Rect.unit (s := S8x592x2x128) off S1x592x2x128.size hh) (fun _ => rfl)).squeeze S592x2x128 hq).view.emb (ix3 a b l) : S8x592x2x128.Idx) = ix4 n a b l := by
  have h1 : (((q2M.slice (Rect.unit (s := S8x592x2x128) off S1x592x2x128.size hh) (fun _ => rfl)).squeeze S592x2x128 hq).view.emb (ix3 a b l) : S8x592x2x128.Idx)
      = (Rect.unit (s := S8x592x2x128) off S1x592x2x128.size hh).emb (shapeCast S592x2x128 (id : S1x592x2x128.Idx → S1x592x2x128.Idx) hq.numel_eq (ix3 a b l)) := rfl
  rw [h1, sqP]
  refine emb_unit (s := S8x592x2x128) off S1x592x2x128.size e hh _ _ fun d => ?_
  fin_cases d
  · rfl
  · exact (Nat.zero_add _).symm
  · exact (Nat.zero_add _).symm
  · exact (Nat.zero_add _).symm

theorem plane_read (f : Buf (Elt Ideal) (q2M.view.loc (c : Thread nD τ))) (off : Fin 4 → ℕ) (n : Fin 8) (e : off = ![n.val, 0, 0, 0]) (hh) (hq) (a : Fin 592) (b : Fin 2) (l : Fin 128) :
    ((q2M.slice (Rect.unit (s := S8x592x2x128) off S1x592x2x128.size hh) (fun _ => rfl)).squeeze S592x2x128 hq).view.read (Elt Ideal) f (ix3 a b l) = f (ix4 n a b l : S8x592x2x128.Idx) :=
  congrArg f (plane_emb off n e hh hq a b l)

/-- Where a pair's element lies in a plane. -/
theorem LR_idx (j : Fin 2) (x : S256x2x128.Idx) : (LR j).idx x = (ix3 (⟨2 * (x 0).val + j.val, by have h0 : (x 0).val < 256 := (x 0).isLt; omega⟩ : Fin 592) (x 1) (x 2) : S592x2x128.Idx) := by
  refine funext fun a => Fin.ext ?_
  fin_cases a
  · show j.val + 2 * (x 0).val = 2 * (x 0).val + j.val; omega
  · show 0 + 1 * (x 1).val = (x 1).val; omega
  · show 0 + 1 * (x 2).val = (x 2).val; omega

/-- A plane's element as the head's lane it holds. -/
def outP (I : Ops) (k : Fin 8) (y : S592x2x128.Idx) : EReal :=
  if h : (y 0).val < 512 then I.out ⟨(y 0).val / 2, by omega⟩ ⟨4 * k.val + 2 * ((y 0).val % 2) + (y 1).val, by have h1 : (y 1).val < 2 := (y 1).isLt; omega⟩ (y 2) else 0

theorem outP_at (I : Ops) (k : Fin 8) (j : Fin 2) (i : Fin 256) (e : Fin 2) (l : Fin 128) (h : Fin 32) (eh : h.val = 4 * k.val + 2 * j.val + e.val) :
    outP I k (ix3 (⟨2 * i.val + j.val, by omega⟩ : Fin 592) e l) = I.out i h l := by
  unfold outP
  refine (dif_pos (show 2 * i.val + j.val < 512 by omega)).trans ?_
  have e1 : (⟨(2 * i.val + j.val) / 2, by omega⟩ : Fin 256) = i := Fin.ext (by show (2 * i.val + j.val) / 2 = i.val; omega)
  have e2 : (⟨4 * k.val + 2 * ((2 * i.val + j.val) % 2) + e.val, by omega⟩ : Fin 32) = h := Fin.ext (by show 4 * k.val + 2 * ((2 * i.val + j.val) % 2) + e.val = h.val; omega)
  exact congrArg₂ (fun u v => I.out u v l) e1 e2

include H hH hC hS in
theorem q2Next_at (Q2 : Buf (Elt Ideal) (q2M.view.loc (c : Thread nD τ))) (p : Fin 8) (hp : p.val ≤ k.val) (j : Fin 2) (i : Fin 256) (e : Fin 2) (l : Fin 128) (h : Fin 32)
    (eh : h.val = 4 * p.val + 2 * j.val + e.val)
    (hQ : p.val < k.val → Q2 (ix4 p (⟨2 * i.val + j.val, by omega⟩ : Fin 592) e l : S8x592x2x128.Idx) = I.out i h l) :
    q2Next c arg4 hm cm sm X X4 HH CM SM Q2 k (ix4 p (⟨2 * i.val + j.val, by omega⟩ : Fin 592) e l : S8x592x2x128.Idx) = I.out i h l := by
  have hk := t2_lt k
  unfold q2Next
  by_cases hpk : p.val < k.val
  · refine (View.writes_apply_of_forall_ne (plane k).view _ _ fun y hy => ?_).trans (hQ hpk)
    have := (plane_emb (k0_off18 k) ⟨k.val, hk⟩ (k0_off18_eq k) (k0_off18_inb k) squeezes_S1x592x2x128_S592x2x128 (y 0) (y 1) (y 2)).symm.trans ((congrArg (fun z : S592x2x128.Idx => ((plane k).view.emb z : S8x592x2x128.Idx)) (eq_ix3 y).symm).trans hy)
    have h0 : k.val = p.val := congrArg (fun z : S8x592x2x128.Idx => (z 0).val) this
    omega
  · have ep : p = ⟨k.val, hk⟩ := Fin.ext (by show p.val = k.val; omega)
    rw [ep]
    refine (plane_read (c := c) _ (k0_off18 k) ⟨k.val, hk⟩ (k0_off18_eq k) (k0_off18_inb k) squeezes_S1x592x2x128_S592x2x128 (⟨2 * i.val + j.val, by omega⟩ : Fin 592) e l).symm.trans ?_
    refine (View.read_writes_apply_of_pieces (Val := Elt Ideal) (plane k).view Q2 (outP I ⟨k.val, hk⟩) _ (fun q hq x => ?_) (ix3 (⟨2 * i.val + j.val, by omega⟩ : Fin 592) e l) ?_).trans (outP_at I ⟨k.val, hk⟩ j i e l h (by rw [eh, ep]))
    · have hx0 : (x 0).val < 256 := by
        simp only [List.mem_cons, List.not_mem_nil, or_false] at hq
        rcases hq with rfl | rfl <;> exact (x 0).isLt
      simp only [List.mem_cons, List.not_mem_nil, or_false] at hq
      rcases hq with rfl | rfl
      · refine (congrArg _ (eq_ix3 (n0 := 256) (n1 := 2) (n2 := 128) x)).trans ((pair1_at H hH hC hS k _ _ _).trans (Eq.trans ?_ (congrArg (outP I ⟨k.val, hk⟩) (LR_idx 1 x)).symm))
        exact (outP_at I ⟨k.val, hk⟩ 1 _ _ _ _ rfl).symm
      · refine (congrArg _ (eq_ix3 (n0 := 256) (n1 := 2) (n2 := 128) x)).trans ((pair0_at H hH hC hS k _ _ _).trans (Eq.trans ?_ (congrArg (outP I ⟨k.val, hk⟩) (LR_idx 0 x)).symm))
        exact (outP_at I ⟨k.val, hk⟩ 0 _ _ _ _ rfl).symm
    · have hm : (ix3 (⟨2 * i.val + j.val, by omega⟩ : Fin 592) e l : S592x2x128.Idx) ∈ (LR j).set := by
        refine (LoadRect.mem_set _).2 fun a => ?_
        fin_cases a
        · exact ⟨i.val, i.isLt, by show 2 * i.val + j.val = j.val + 2 * i.val; omega⟩
        · exact ⟨e.val, e.isLt, by show e.val = 0 + 1 * e.val; omega⟩
        · exact ⟨l.val, l.isLt, by show l.val = 0 + 1 * l.val; omega⟩
      fin_cases j
      · exact ⟨_, .tail _ (.head _), hm⟩
      · exact ⟨_, .head _, hm⟩

include H hH hC hS in
theorem q2St_at (Q0 : Buf (Elt Ideal) (q2M.view.loc (c : Thread nD τ))) (j : Fin 2) (i : Fin 256) (e : Fin 2) (l : Fin 128) : ∀ n, n ≤ 8 → ∀ (p : Fin 8) (h : Fin 32), p.val < n → h.val = 4 * p.val + 2 * j.val + e.val →
    q2St c arg4 hm cm sm X X4 Q0 HH CM SM n (ix4 p (⟨2 * i.val + j.val, by omega⟩ : Fin 592) e l : S8x592x2x128.Idx) = I.out i h l
  | 0, _, _, _, h, _ => absurd h (by omega)
  | n + 1, hn, p, h, hp, eh => by
    have en : (t2i n).val = n := Nat.mod_eq_of_lt (by omega)
    rw [q2St]
    exact q2Next_at H hH hC hS (t2i n) _ p (by rw [en]; omega) j i e l h eh fun h' => q2St_at Q0 j i e l n (by omega) p h (by rw [en] at h'; exact h') eh
end Heads

include H in
theorem vQ2_at (H0 : Buf (Elt Ideal) (hm.view.loc (c : Thread nD τ))) (Q0 : Buf (Elt Ideal) (q2M.view.loc (c : Thread nD τ))) (p : Fin 8) (j : Fin 2) (i : Fin 256) (e : Fin 2) (l : Fin 128) (h : Fin 32)
    (eh : h.val = 4 * p.val + 2 * j.val + e.val) :
    vQ2 c arg0 arg1 arg2 arg3 arg4 hm cm sm X X0 X1 X2 X3 X4 H0 Q0 (ix4 p (⟨2 * i.val + j.val, by omega⟩ : Fin 592) e l : S8x592x2x128.Idx) = I.out i h l := by
  unfold vQ2
  exact q2St_at H (fun i J => hSt_at H H0 8 le_rfl i J (by omega)) (cos_at H) (sin_at H) Q0 j i e l 8 le_rfl p h p.isLt eh

/-! ## The copy -/

theorem copyP_at (Q2 : Buf (Elt Ideal) (q2M.view.loc (c : Thread nD τ))) (p : Fin 8) (j : Fin 2) (i : Fin 256) (e : Fin 2) (l : Fin 128) :
    copyP c Q2 p j (ix3 i e l) = Q2 (ix4 p (⟨2 * i.val + j.val, by omega⟩ : Fin 592) e l : S8x592x2x128.Idx) := by
  unfold copyP
  rw [pay72_at, View.readAt_apply, LR_idx]
  exact (plane_read (c := c) Q2 ![p.val, 0, 0, 0] p rfl (plane_inb p) squeezes_S1x592x2x128_S592x2x128 (⟨2 * i.val + j.val, by omega⟩ : Fin 592) e l)
theorem mem_qoL (Q2 : Buf (Elt Ideal) (q2M.view.loc (c : Thread nD τ))) (p : View.Piece (Elt Ideal) S256x32x128 .bf16) :
    ∀ n hn, p ∈ qoL c Q2 n hn → ∃ r : Fin 16, p = ⟨RO r, copyP c Q2 ⟨r.val / 2, by omega⟩ ⟨r.val % 2, by omega⟩⟩
  | 0, _, h => absurd h List.not_mem_nil
  | n + 1, hn, h => by
    rcases List.mem_cons.1 h with rfl | h
    · exact ⟨⟨n, hn⟩, rfl⟩
    · exact mem_qoL Q2 p n _ h
theorem in_qoL (Q2 : Buf (Elt Ideal) (q2M.view.loc (c : Thread nD τ))) (r : Fin 16) :
    ∀ n hn, r.val < n → (⟨RO r, copyP c Q2 ⟨r.val / 2, by omega⟩ ⟨r.val % 2, by omega⟩⟩ : View.Piece (Elt Ideal) S256x32x128 .bf16) ∈ qoL c Q2 n hn
  | 0, _, h => absurd h (by omega)
  | n + 1, hn, h => by
    by_cases e : r.val = n
    · obtain rfl : r = ⟨n, hn⟩ := Fin.ext e
      exact .head _
    · exact .tail _ (in_qoL Q2 r n _ (by omega))
include H in
theorem vQO_at (H0 : Buf (Elt Ideal) (hm.view.loc (c : Thread nD τ))) (Q0 : Buf (Elt Ideal) (q2M.view.loc (c : Thread nD τ))) (QO0 : Buf (Elt Ideal) (qo.view.loc (c : Thread nD τ)))
    (i : Fin 256) (h : Fin 32) (l : Fin 128) :
    qo.view.read (Elt Ideal) (vQO c arg0 arg1 arg2 arg3 arg4 hm qo cm sm X X0 X1 X2 X3 X4 H0 Q0 QO0) (ix3 i h l) = I.out i h l := by
  unfold vQO
  refine View.read_writes_apply_of_pieces (Val := Elt Ideal) qo.view QO0 (fun z : S256x32x128.Idx => I.out (z 0) (z 1) (z 2)) _ (fun p hp x => ?_) (ix3 i h l)
    ⟨_, in_qoL _ ⟨h.val / 2, by omega⟩ 16 _ (by show h.val / 2 < 16; omega), (Rect.mem_set_unit (inb := head_inb _)).2 fun a => ?_⟩
  · obtain ⟨r, rfl⟩ := mem_qoL _ p 16 _ hp
    have hx0 : (x 0).val < 256 := (x 0).isLt
    have hx1 : (x 1).val < 2 := (x 1).isLt
    have hx2 : (x 2).val < 128 := (x 2).isLt
    rw [emb_unit (s := S256x32x128) ![0, 2 * r.val, 0] S256x2x128.size rfl (head_inb r) x
      (ix3 (⟨(x 0).val, hx0⟩ : Fin 256) (⟨2 * r.val + (x 1).val, by omega⟩ : Fin 32) (⟨(x 2).val, hx2⟩ : Fin 128)) (fun a => by
        fin_cases a
        · exact (Nat.zero_add _).symm
        · rfl
        · exact (Nat.zero_add _).symm)]
    refine (congrArg _ (eq_ix3 (n0 := 256) (n1 := 2) (n2 := 128) x)).trans ((copyP_at _ _ _ _ _ _).trans (vQ2_at H H0 Q0 _ _ _ _ _ _ ?_))
    show 2 * r.val + (x 1).val = 4 * (r.val / 2) + 2 * (r.val % 2) + (x 1).val
    omega
  · fin_cases a
    · exact ⟨Nat.zero_le _, by show i.val < 0 + 256; omega⟩
    · exact ⟨by show 2 * (h.val / 2) ≤ h.val; omega, by show h.val < 2 * (h.val / 2) + 2; omega⟩
    · exact ⟨Nat.zero_le _, by show l.val < 0 + 128; omega⟩

end Cert.Proof.Query
end
-- ==== Proof.QValRes.lean ====
module

public import proofs.«01_k».proof.Proof.QValQ
public import proofs.«01_k».proof.Proof.QLaunch
public import Idealize.ShloMosaic.Lib.Pipeline.ValueKit

@[expose] public section

set_option maxRecDepth 16384

/-! The rotated queries' result, read at an index. -/

noncomputable section

namespace Cert.Proof.Query

open Cert.QKernelIdeal Cert.QKernelIdeal.Gen Idealize.ShloMosaic Idealize.ShloMosaic.TcCoe Idealize.ShloMosaic.Tactic

variable (m : (ℓ : Loc nD τ sig) → Buf (Elt Ideal) ℓ) (c : Dev nD)

/-- The kernel's operands, read at indices. -/
def Ik : Ops where
  x i J := m ((c : Thread nD τ).loc main_arg0) (ix2 i J)
  pos i := FloatOps.sitofp (F := Ideal) .f32 (m ((c : Thread nD τ).loc main_arg1) (ix1 i))
  inv := freq
  g J := m ((c : Thread nD τ).loc main_arg2) (ix1 J)
  w t n := m ((c : Thread nD τ).loc main_arg3) (ix2 t (⟨n.val, by omega⟩ : Fin 6144) : S5120x6144.Idx)
  s n := m ((c : Thread nD τ).loc main_arg4) (ix1 (⟨n.val, by omega⟩ : Fin 6144) : S6144.Idx)

theorem idx0 : win0_0.index t0_0 = fun _ => 0 := by funext a; fin_cases a <;> rfl
theorem idx1 : win0_1.index t0_0 = fun _ => 0 := by funext a; fin_cases a <;> rfl
theorem idx2 : win0_2.index t0_0 = fun _ => 0 := by funext a; fin_cases a <;> rfl
theorem idx3 : win0_3.index t0_0 = fun _ => 0 := by funext a; fin_cases a <;> rfl
theorem idx4 : win0_4.index t0_0 = fun _ => 0 := by funext a; fin_cases a <;> rfl
theorem V9_lo (l : Fin 128) (h : l.val < 64) : V m c main_v9 (ix2 0 l : S1x128.Idx) = freq ⟨l.val, h⟩ := by
  entry_read
  pointwise [freq]
  rw [dif_pos h]
theorem V9_hi (l : Fin 128) (h : ¬ l.val < 64) : V m c main_v9 (ix2 0 l : S1x128.Idx) = freq ⟨l.val - 64, by omega⟩ := by
  entry_read
  pointwise [freq]
  rw [dif_neg h]
theorem V9_at (l : Fin 128) : V m c main_v9 (ix2 0 l : S1x128.Idx) = freq ⟨l.val % 64, Nat.mod_lt _ (by decide)⟩ := by
  by_cases h : l.val < 64
  · exact (V9_lo m c l h).trans (congrArg freq (Fin.ext (by show l.val = l.val % 64; omega)))
  · exact (V9_hi m c l h).trans (congrArg freq (Fin.ext (by show l.val - 64 = l.val % 64; omega)))
theorem V10_at (i : Fin 256) : V m c main_v10 (ix2 i 0 : S256x1.Idx) = m ((c : Thread nD τ).loc main_arg1) (ix1 i) := by
  entry_read
  pointwise
theorem V11_at (r : Fin 40) (l : Fin 128) : V m c main_v11 (ix2 r l : S40x128.Idx) = (Ik m c).g ⟨128 * r.val + l.val, by omega⟩ := by
  entry_read
  pointwise
  exact congrArg (m ((c : Thread nD τ).loc main_arg2)) (congrArg ix1 (Fin.ext (by show r.val * 128 + l.val = 128 * r.val + l.val; omega)))
theorem V12_at (r : Fin 32) (l : Fin 128) : V m c main_v12 (ix2 (⟨r.val, by omega⟩ : Fin 48) l : S48x128.Idx) = (Ik m c).s (lane r l) := by
  entry_read
  pointwise
  exact congrArg (m ((c : Thread nD τ).loc main_arg4)) (congrArg ix1 (Fin.ext (by show r.val * 128 + l.val = 128 * r.val + l.val; omega)))
theorem blk0_at (i : Fin 256) (J : Fin 5120) : iblk m c 0 t0_0 (ix2 i J : S256x5120.Idx) = (Ik m c).x i J := by
  unfold Ik; blk_ext [iblk, V, idx0]
theorem blk1_at (i : Fin 256) : iblk m c 1 t0_0 (ix2 i 0 : S256x1.Idx) = V m c main_v10 (ix2 i 0 : S256x1.Idx) := by
  blk_ext [iblk, idx1]
theorem blk2_at (l : Fin 128) : iblk m c 2 t0_0 (ix2 0 l : S1x128.Idx) = V m c main_v9 (ix2 0 l : S1x128.Idx) := by
  blk_ext [iblk, idx2]
theorem blk3_at (r : Fin 40) (l : Fin 128) : iblk m c 3 t0_0 (ix2 r l : S40x128.Idx) = V m c main_v11 (ix2 r l : S40x128.Idx) := by
  blk_ext [iblk, idx3]
theorem blk4_at (r : Fin 48) (l : Fin 128) : iblk m c 4 t0_0 (ix2 r l : S48x128.Idx) = V m c main_v12 (ix2 r l : S48x128.Idx) := by
  blk_ext [iblk, idx4]

theorem holds : Holds (Ik m c) c (wts m c) (st0 t0_0) (st1 t0_0) (st2 t0_0) (st3 t0_0) (st4 t0_0) (in0 m c) (in1 m c) (in2 m c) (in3 m c) (in4 m c) where
  x i J := (congrFun (View.read_rep (st0 t0_0).view _) _).trans (blk0_at m c i J)
  pos i := congrArg (FloatOps.sitofp (F := Ideal) .f32) ((congrFun (View.read_rep (st1 t0_0).view _) _).trans ((blk1_at m c i).trans (V10_at m c i)))
  inv l := (congrFun (View.read_rep (st2 t0_0).view _) _).trans ((blk2_at m c l).trans (V9_at m c l))
  g r l := (congrFun (View.read_rep (st3 t0_0).view _) _).trans ((blk3_at m c r l).trans (V11_at m c r l))
  s r l := (congrFun (View.read_rep (st4 t0_0).view _) _).trans ((blk4_at m c _ l).trans (V12_at m c r l))
  w t n := congrFun (V_main_arg3 m c) (ix2 t (⟨n.val, by omega⟩ : Fin 6144))

variable (H0 : Buf (Elt Ideal) (hM.view.loc (c : Thread nD τ))) (Q0 : Buf (Elt Ideal) (q2M.view.loc (c : Thread nD τ))) (QO0 : Buf (Elt Ideal) (qoM.view.loc (c : Thread nD τ)))

theorem readOut (f : Buf (Elt Ideal) ((c : Thread nD τ).loc main_v13)) : outM.view.read (Elt Ideal) f = f := View.read_whole main_v13 f
/-- The rotated queries, whatever the scratch held. -/
theorem outV_at (i : Fin 256) (h : Fin 32) (l : Fin 128) : outV m c H0 Q0 QO0 (ix3 i h l : S256x32x128.Idx) = (Ik m c).out i h l := by
  refine (congrFun (readOut c _) _).symm.trans ?_
  unfold outV
  rw [View.read_writes_whole]
  exact vQO_at (holds m c) H0 Q0 QO0 i h l
end Cert.Proof.Query
end
-- ==== Proof.QValRef.lean ====
module

public import proofs.«01_k».proof.Proof.QVal
public import proofs.«01_k».proof.Proof.Gen.QReferenceIdeal.Value
public import Idealize.ShloMosaic.Lib.Pipeline.ValueKit

@[expose] public section

set_option maxRecDepth 16384

/-! The reference's rotated queries, read at an index. -/

noncomputable section

namespace Cert.Proof.QueryR

open Cert.QReferenceIdeal Cert.QReferenceIdeal.Gen Cert.Proof.Query Idealize.ShloMosaic Idealize.ShloMosaic.TcCoe Idealize.ShloMosaic.Tactic

section Pay
variable (x : Vec Ideal S256x5120 .bf16) (g : Vec Ideal S1x5120 .f32) (w : Vec Ideal S5120x4096 .fp8e4m3) (s : Vec Ideal S1x4096 .f32) (pos : Vec Ideal S256x1 .i32) (inv : Vec Ideal S1x64 .f32)

theorem pay2_at (i : Fin 256) (h : Fin 32) (l : Fin 128) : k0_pay2 x g w s (ix3 i h l)
    = (∑ t : Fin 5120, x (ix2 i t) * Ideal.rsqrt (Ideal.div (∑ J : Fin 5120, x (ix2 i J) * x (ix2 i J)) (Ideal.ofBits .f32 0x45A00000#32) + Ideal.ofBits .f32 0x3727C5AC#32) * g (ix2 0 t) * w (ix2 t (lane h l))) * s (ix2 0 (lane h l)) := by
  have e : lane h l = ⟨h.val * 128 + l.val, by omega⟩ := Fin.ext (by show 128 * h.val + l.val = h.val * 128 + l.val; omega)
  rw [e]
  pointwise [k0_pay2]
theorem pay3_at (i : Fin 256) (j : Fin 64) : k0_pay3 pos inv (ix2 i j) = FloatOps.sitofp (F := Ideal) .f32 (pos (ix2 i 0)) * inv (ix2 0 j) := by
  pointwise [k0_pay3]
theorem pay4_lo (i : Fin 256) (l : Fin 128) (hl : l.val < 64) : k0_pay4 pos inv (ix3 i 0 l) = Ideal.sin (k0_pay3 pos inv (ix2 i (⟨l.val, hl⟩ : Fin 64))) := by
  pointwise [k0_pay4]
  rw [dif_pos hl]
theorem pay4_hi (i : Fin 256) (l : Fin 128) (hl : ¬ l.val < 64) : k0_pay4 pos inv (ix3 i 0 l) = Ideal.sin (k0_pay3 pos inv (ix2 i (⟨l.val - 64, by omega⟩ : Fin 64))) := by
  pointwise [k0_pay4]
  rw [dif_neg hl]
theorem pay5_lo (i : Fin 256) (h : Fin 32) (l : Fin 128) (hl : l.val < 64) : k0_pay5 x g w s pos inv (ix3 i h l) = k0_pay2 x g w s (ix3 i h l) * Ideal.cos (k0_pay3 pos inv (ix2 i (⟨l.val, hl⟩ : Fin 64))) := by
  pointwise [k0_pay5]
  rw [dif_pos hl]
theorem pay5_hi (i : Fin 256) (h : Fin 32) (l : Fin 128) (hl : ¬ l.val < 64) : k0_pay5 x g w s pos inv (ix3 i h l) = k0_pay2 x g w s (ix3 i h l) * Ideal.cos (k0_pay3 pos inv (ix2 i (⟨l.val - 64, by omega⟩ : Fin 64))) := by
  pointwise [k0_pay5]
  rw [dif_neg hl]
variable (q : FVec Ideal S256x32x128 .f32) (sn : FVec Ideal S256x1x128 .f32) (qc : FVec Ideal S256x32x128 .f32)
theorem pay1_lo (i : Fin 256) (h : Fin 32) (l : Fin 128) (hl : l.val < 64) : k0_pay1 q sn qc (ix3 i h l) = qc (ix3 i h l) + (0 - q (ix3 i h (⟨64 + l.val, by omega⟩ : Fin 128))) * sn (ix3 i 0 l) := by
  pointwise [k0_pay1]
  rw [dif_pos hl]
theorem pay1_hi (i : Fin 256) (h : Fin 32) (l : Fin 128) (hl : ¬ l.val < 64) : k0_pay1 q sn qc (ix3 i h l) = qc (ix3 i h l) + q (ix3 i h (⟨l.val - 64, by omega⟩ : Fin 128)) * sn (ix3 i 0 l) := by
  pointwise [k0_pay1]
  rw [dif_neg hl]
end Pay

variable (m : (ℓ : Loc nD τ sig) → Buf (Elt Ideal) ℓ) (c : Dev nD)

/-- The reference's operands, read at indices. -/
def Ir : Ops where
  x i J := m ((c : Thread nD τ).loc main_arg0) (ix2 i J)
  pos i := FloatOps.sitofp (F := Ideal) .f32 (m ((c : Thread nD τ).loc main_arg1) (ix1 i))
  inv := freq
  g J := m ((c : Thread nD τ).loc main_arg2) (ix1 J)
  w t n := m ((c : Thread nD τ).loc main_arg3) (ix2 t (⟨n.val, by omega⟩ : Fin 6144) : S5120x6144.Idx)
  s n := m ((c : Thread nD τ).loc main_arg4) (ix1 (⟨n.val, by omega⟩ : Fin 6144) : S6144.Idx)

theorem idx0 : win0_0.index t0_0 = fun _ => 0 := by funext a; fin_cases a <;> rfl
theorem idx1 : win0_1.index t0_0 = fun _ => 0 := by funext a; fin_cases a <;> rfl
theorem idx2 : win0_2.index t0_0 = fun _ => 0 := by funext a; fin_cases a <;> rfl
theorem idx3 : win0_3.index t0_0 = fun _ => 0 := by funext a; fin_cases a <;> rfl
theorem idx4 : win0_4.index t0_0 = fun _ => 0 := by funext a; fin_cases a <;> rfl
theorem idx5 : win0_5.index t0_0 = fun _ => 0 := by funext a; fin_cases a <;> rfl
theorem V8_at (i : Fin 256) : V m c main_v8 (ix2 i 0 : S256x1.Idx) = m ((c : Thread nD τ).loc main_arg1) (ix1 i) := by
  entry_read
  pointwise
theorem V9_at (j : Fin 64) : V m c main_v9 (ix2 0 j : S1x64.Idx) = freq j := by
  entry_read
  pointwise [freq]
theorem V10_at (J : Fin 5120) : V m c main_v10 (ix2 0 J : S1x5120.Idx) = (Ir m c).g J := by
  entry_read
  pointwise
  rfl
theorem V11_at (t : Fin 5120) (n : Fin 4096) : V m c main_v11 (ix2 t n : S5120x4096.Idx) = (Ir m c).w t n := by
  entry_read
  pointwise
  rfl
theorem V13_at (n : Fin 4096) : V m c main_v13 (ix2 0 n : S1x4096.Idx) = (Ir m c).s n := by
  entry_read
  pointwise
  rfl
theorem blk0_at (i : Fin 256) (J : Fin 5120) : iblk m c 0 t0_0 (ix2 i J : S256x5120.Idx) = (Ir m c).x i J := by
  unfold Ir; blk_ext [iblk, V, idx0]
theorem blk1_at (i : Fin 256) : iblk m c 1 t0_0 (ix2 i 0 : S256x1.Idx) = m ((c : Thread nD τ).loc main_arg1) (ix1 i) := by
  refine Eq.trans ?_ (V8_at m c i)
  blk_ext [iblk, idx1]
theorem blk2_at (j : Fin 64) : iblk m c 2 t0_0 (ix2 0 j : S1x64.Idx) = freq j := by
  refine Eq.trans ?_ (V9_at m c j)
  blk_ext [iblk, idx2]
theorem blk3_at (J : Fin 5120) : iblk m c 3 t0_0 (ix2 0 J : S1x5120.Idx) = (Ir m c).g J := by
  refine Eq.trans ?_ (V10_at m c J)
  blk_ext [iblk, idx3]
theorem blk4_at (t : Fin 5120) (n : Fin 4096) : iblk m c 4 t0_0 (ix2 t n : S5120x4096.Idx) = (Ir m c).w t n := by
  refine Eq.trans ?_ (V11_at m c t n)
  blk_ext [iblk, idx4]
theorem blk5_at (n : Fin 4096) : iblk m c 5 t0_0 (ix2 0 n : S1x4096.Idx) = (Ir m c).s n := by
  refine Eq.trans ?_ (V13_at m c n)
  blk_ext [iblk, idx5]

section Blocks
variable (x0 : Vec Ideal S256x5120 .bf16) (x1 : Vec Ideal S256x1 .i32) (x2 : Vec Ideal S1x64 .f32) (x3 : Vec Ideal S1x5120 .f32) (x4 : Vec Ideal S5120x4096 .fp8e4m3) (x5 : Vec Ideal S1x4096 .f32)
  (I : Ops) (h0 : ∀ i J, x0 (ix2 i J) = I.x i J) (h1 : ∀ i, FloatOps.sitofp (F := Ideal) .f32 (x1 (ix2 i 0)) = I.pos i) (h2 : ∀ j, x2 (ix2 0 j) = I.inv j) (h3 : ∀ J, x3 (ix2 0 J) = I.g J)
  (h4 : ∀ t n, x4 (ix2 t n) = I.w t n) (h5 : ∀ n, x5 (ix2 0 n) = I.s n)

include h0 h3 h4 h5 in
theorem q_at (i : Fin 256) (h : Fin 32) (l : Fin 128) : k0_pay2 x0 x3 x4 x5 (ix3 i h l) = I.q i (lane h l) := by
  rw [pay2_at, h5]
  simp only [h0, h3, h4]
  rfl
include h1 h2 in
theorem ang_at (i : Fin 256) (l : Fin 128) (j : Fin 64) (hj : j.val = l.val % 64) : k0_pay3 x1 x2 (ix2 i j) = I.ang i l := by
  rw [pay3_at, h1, h2]
  exact congrArg (fun k => I.pos i * I.inv k) (Fin.ext hj)
include h0 h1 h2 h3 h4 h5 in
theorem out_at (i : Fin 256) (h : Fin 32) (l : Fin 128) : k0_pay1 (k0_pay2 x0 x3 x4 x5) (k0_pay4 x1 x2) (k0_pay5 x0 x3 x4 x5 x1 x2) (ix3 i h l) = I.out i h l := by
  by_cases hl : l.val < 64
  · have eo : (⟨64 + l.val, by omega⟩ : Fin 128) = opp l := Fin.ext (by show 64 + l.val = (l.val + 128 - 64) % 128; omega)
    rw [pay1_lo _ _ _ i h l hl, pay4_lo _ _ i l hl, pay5_lo _ _ _ _ _ _ i h l hl, ang_at x1 x2 I h1 h2 i l _ (by show l.val = l.val % 64; omega), eo,
      q_at x0 x3 x4 x5 I h0 h3 h4 h5, q_at x0 x3 x4 x5 I h0 h3 h4 h5]
    unfold Ops.out
    rw [if_pos hl]
  · have eo : (⟨l.val - 64, by omega⟩ : Fin 128) = opp l := Fin.ext (by show l.val - 64 = (l.val + 128 - 64) % 128; omega)
    rw [pay1_hi _ _ _ i h l hl, pay4_hi _ _ i l hl, pay5_hi _ _ _ _ _ _ i h l hl, ang_at x1 x2 I h1 h2 i l _ (by show l.val - 64 = l.val % 64; omega), eo,
      q_at x0 x3 x4 x5 I h0 h3 h4 h5, q_at x0 x3 x4 x5 I h0 h3 h4 h5]
    unfold Ops.out
    rw [if_neg hl]
end Blocks

theorem arr6 (i : Fin 256) (h : Fin 32) (l : Fin 128) : (dats m 0 c).arrAt 6 cfg0.N (ix3 i h l : S256x32x128.Idx) = (Ir m c).out i h l := by
  have e : (dats m 0 c).arrAt 6 cfg0.N = fun j => k0_pay1
      (k0_pay2 (iblk m c 0 t0_0) (iblk m c 3 t0_0) (iblk m c 4 t0_0) (iblk m c 5 t0_0))
      (k0_pay4 (iblk m c 1 t0_0) (iblk m c 2 t0_0))
      (k0_pay5 (iblk m c 0 t0_0) (iblk m c 3 t0_0) (iblk m c 4 t0_0) (iblk m c 5 t0_0) (iblk m c 1 t0_0) (iblk m c 2 t0_0)) j := by
    refine (dats m 0 c).arrAt_eq_of_after_last 6 t0_0 (by decide +kernel) _ fun j => ?_
    blk_simp
    rw [after0_6]
    frame_out
  rw [e]
  exact out_at _ _ _ _ _ _ (Ir m c) (fun i J => blk0_at m c i J) (fun i => congrArg (FloatOps.sitofp (F := Ideal) .f32) (blk1_at m c i))
    (fun j => blk2_at m c j) (fun J => blk3_at m c J) (fun t n => blk4_at m c t n) (fun n => blk5_at m c n) i h l
end Cert.Proof.QueryR
end
-- ==== Proof.QAlg.lean ====
/- The kernel and the reference leave the same rotated queries: each is the mathematics of the arguments, read at
   row, head and lane. -/
module

public import proofs.«01_k».proof.Defs
public import proofs.«01_k».proof.Proof.QValRes
public import proofs.«01_k».proof.Proof.QValRef

@[expose] public section

set_option maxRecDepth 16384

noncomputable section

namespace Cert.Proof.Query

open Idealize.ShloMosaic Idealize.ShloMosaic.TcCoe Idealize.SL.Sem

theorem ops_eq (m : (ℓ : Loc Cert.QKernelIdeal.nD Cert.QKernelIdeal.τ Cert.QKernelIdeal.sig) → Buf (Elt Ideal) ℓ)
    (m' : (ℓ : Loc Cert.QReferenceIdeal.nD Cert.QReferenceIdeal.τ Cert.QReferenceIdeal.sig) → Buf (Elt Ideal) ℓ) (c : Dev Cert.QKernelIdeal.nD)
    (h0 : m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0))
    (h1 : m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1))
    (h2 : m' ((c.tc : Thread Cert.QReferenceIdeal.nD Cert.QReferenceIdeal.τ).loc Cert.QReferenceIdeal.main_arg2) = m ((c.tc : Thread Cert.QKernelIdeal.nD Cert.QKernelIdeal.τ).loc Cert.QKernelIdeal.main_arg2))
    (h3 : m' ((c.tc : Thread Cert.QReferenceIdeal.nD Cert.QReferenceIdeal.τ).loc Cert.QReferenceIdeal.main_arg3) = m ((c.tc : Thread Cert.QKernelIdeal.nD Cert.QKernelIdeal.τ).loc Cert.QKernelIdeal.main_arg3))
    (h4 : m' ((c.tc : Thread Cert.QReferenceIdeal.nD Cert.QReferenceIdeal.τ).loc Cert.QReferenceIdeal.main_arg4) = m ((c.tc : Thread Cert.QKernelIdeal.nD Cert.QKernelIdeal.τ).loc Cert.QKernelIdeal.main_arg4)) :
    QueryR.Ir m' c = Ik m c := by
  unfold QueryR.Ir Ik
  congr 1
  · funext i J; exact congrFun h0 (ix2 i J)
  · funext i; exact congrArg (FloatOps.sitofp (F := Ideal) .f32) (congrFun h1 (ix1 i))
  · funext J; exact congrFun h2 (ix1 J)
  · funext t n; exact congrFun h3 (ix2 t _)
  · funext n; exact congrFun h4 (ix1 _)

/-- An array of a row, a head and a lane, from its elements. -/
def arr {a b d : ℕ} (f : Fin a → Fin b → Fin d → EReal) : (⟨3, ![a, b, d]⟩ : Shape).Idx → EReal := fun j => f (j 0) (j 1) (j 2)
theorem eq_arr {a b d : ℕ} (X : (⟨3, ![a, b, d]⟩ : Shape).Idx → EReal) (f : Fin a → Fin b → Fin d → EReal) (h : ∀ i p l, X (ix3 i p l) = f i p l) : X = arr f :=
  funext fun j => (congrArg X (eq_ix3 j)).trans (h (j 0) (j 1) (j 2))

theorem algebraic : Cert.algebraic_QKernelIdeal_QReferenceIdeal := fun m g m' g' _ hargs => by
  refine ⟨fun c => arr (Ik m c).out, ?_, ?_⟩
  · refine (θ_run _ _ _).mono (fun r h c => ?_) (run_main m g)
    obtain ⟨H0, Q0, QO0, e0⟩ := (h.1 c).2.2.2
    exact ⟨e0.trans (eq_arr _ _ (outV_at m c H0 Q0 QO0)), args_kept m c r h.1⟩
  · refine (θ_run _ _ _).mono (fun r h c => ?_) (Cert.QReferenceIdeal.Value.run_blocks m' g')
    obtain ⟨e0, hk⟩ := h c
    obtain ⟨h0, h1, h2, h3, h4⟩ := hargs c
    exact ⟨e0.trans ((eq_arr _ _ (QueryR.arr6 m' c)).trans (congrArg (fun I : Ops => arr I.out) (ops_eq m m' c h0 h1 h2 h3 h4))), hk⟩

end Cert.Proof.Query

end
-- ==== Proof.CNames.lean ====
/-
  The cache codes' kernel: the canonical names of its windows (the weight ring's slots and cells, the column blocks
  of the projection's weight) and the ring's resources.
-/
module

public import proofs.«01_k».proof.Defs
public import proofs.«01_k».proof.Proof.Gen.CKernelIdeal.Launch
public import proofs.«01_k».proof.Proof.Gen.CKernelIdeal.Skeleton
public import proofs.«01_k».proof.Proof.Gen.CKernelIdeal.Loops
public import proofs.«01_k».proof.Proof.Gen.CKernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Codes

open Cert.CKernelIdeal Cert.CKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The windows -/

abbrev wM : Memref sig .tc .hbm S5120x6144 .fp8e4m3 := Memref.whole main_arg3
abbrev koM : Memref sig .tc .hbm S256x8x128 .fp8e4m3 := Memref.whole main_v13_0
abbrev voM : Memref sig .tc .hbm S256x8x128 .fp8e4m3 := Memref.whole main_v13_1
abbrev ringM : Memref sig .tc .vmem S4x5120x512 .fp8e4m3 := Memref.whole cc0_scratch0
abbrev kcM : Memref sig .tc .vmem S256x8x128 .fp8e4m3 := Memref.whole cc0_scratch1
abbrev vcM : Memref sig .tc .vmem S256x8x128 .fp8e4m3 := Memref.whole cc0_scratch2
abbrev hM : Memref sig .tc .vmem S256x5120 .bf16 := Memref.whole cc0_scoped0
abbrev cosM : Memref sig .tc .vmem S256x128 .f32 := Memref.whole cc0_scoped1
abbrev sinM : Memref sig .tc .vmem S256x128 .f32 := Memref.whole cc0_scoped2

abbrev slotOff (s : Fin 4) : Fin 3 → Nat := ![s.val, 0, 0]
abbrev colOff (b : ℕ) : Fin 2 → Nat := ![0, 512 * b]

theorem slotF_inb (s : Fin 4) : ∀ a, slotOff s a + S1x5120x512.size a ≤ S4x5120x512.size a := by
  have := s.isLt; intro a; fin_cases a
  · show s.val + 1 ≤ 4; omega
  · show 0 + 5120 ≤ 5120; omega
  · show 0 + 512 ≤ 512; omega
theorem wBlk_inb (b : Fin 12) : ∀ a, colOff b.val a + S5120x512.size a ≤ S5120x6144.size a := by
  have := b.isLt; intro a; fin_cases a
  · show 0 + 5120 ≤ 5120; omega
  · show 512 * b.val + 512 ≤ 6144; omega
theorem wsem_inb (s : Fin 4) : ∀ a, (![s.val] : Fin 1 → Nat) a + S1.size a ≤ S4.size a := by
  have := s.isLt; intro a; fin_cases a; show s.val + 1 ≤ 4; omega
theorem dsem_inb (s : Fin 5) : ∀ a, (![s.val] : Fin 1 → Nat) a + S1.size a ≤ S5.size a := by
  have := s.isLt; intro a; fin_cases a; show s.val + 1 ≤ 5; omega

/-- Slot `s` of the weight ring. -/
def slotF (s : Fin 4) : Memref sig .tc .vmem S5120x512 .fp8e4m3 :=
  (ringM.slice (Rect.unit (s := S4x5120x512) (slotOff s) S1x5120x512.size (slotF_inb s)) (fun _ => rfl)).squeeze S5120x512 squeezes_S1x5120x512_S5120x512
/-- Column block `b` of the projection's weight. -/
def wBlk (b : Fin 12) : Memref sig .tc .hbm S5120x512 .fp8e4m3 :=
  wM.slice (Rect.unit (s := S5120x6144) (colOff b.val) S5120x512.size (wBlk_inb b)) (fun _ => rfl)
/-- The weight ring's cell `s`. -/
def wsem (s : Fin 4) : DmaSems sig S_ := (cc0_scratch3.slice (Rect.unit (s := S4) ![s.val] S1.size (wsem_inb s))).squeeze S_ squeezes_S1_S_
/-- The other transfers' cell `s`. -/
def dsem (s : Fin 5) : DmaSems sig S_ := (cc0_scratch4.slice (Rect.unit (s := S5) ![s.val] S1.size (dsem_inb s))).squeeze S_ squeezes_S1_S_

instance (s : Fin 4) : ClosedOff (slotOff s) := ⟨slotOff s, rfl⟩
instance (b : ℕ) : ClosedOff (colOff b) := ⟨colOff b, rfl⟩

theorem wsem_congr {off : Fin 1 → Nat} {s : Fin 4} (e : off = ![s.val]) (hh) :
    (cc0_scratch3.slice (Rect.unit (s := S4) off S1.size hh)).squeeze S_ squeezes_S1_S_ = wsem s :=
  congrArg (fun A : DmaSems sig S1 => A.squeeze S_ squeezes_S1_S_) (SemArray.slice_unit_congr _ e _ _)
theorem slotF_congr {off : Fin 3 → Nat} {s : Fin 4} (e : off = slotOff s) (hh hs) :
    (ringM.slice (Rect.unit (s := S4x5120x512) off S1x5120x512.size hh) hs).squeeze S5120x512 squeezes_S1x5120x512_S5120x512 = slotF s :=
  congrArg (fun M : Memref sig .tc .vmem S1x5120x512 .fp8e4m3 => M.squeeze S5120x512 squeezes_S1x5120x512_S5120x512) (Memref.slice_unit_congr _ e _ _ _ _)
theorem wBlk_congr {off : Fin 2 → Nat} {b : Fin 12} (e : off = colOff b.val) (hh hs) :
    wM.slice (Rect.unit (s := S5120x6144) off S5120x512.size hh) hs = wBlk b := Memref.slice_unit_congr _ e _ _ _ (fun _ => rfl)
theorem slotF_set (s : Fin 4) : (slotF s : Memref sig .tc .vmem _ _).view.set = (Rect.unit (s := S4x5120x512) (slotOff s) S1x5120x512.size (slotF_inb s)).set := (View.set_reshape _ _).trans (View.set_slice_whole _ _)
theorem ring_inF {off : Fin 3 → Nat} {s : Fin 4} (e : off = ![s.val, 0, 0]) (hh) :
    (ringM.access (Rect.unit (s := S4x5120x512) off S1x5120x512.size hh) : View sig .tc .vmem _ _).set ⊆ (slotF s : Memref sig .tc .vmem _ _).view.set := by
  subst e
  refine Finset.subset_of_eq ?_
  unfold slotF
  exact ((View.set_slice_whole _ _).trans ((View.set_reshape _ _).trans (View.set_slice_whole _ _)).symm)

/-! ## The windows of the four blocks -/

theorem cond1_true : k0_cond1 = 1#1 := by decide +kernel
theorem cond2_true : k0_cond2 = 1#1 := by decide +kernel
theorem cond3_true : k0_cond3 = 1#1 := by decide +kernel
theorem cond4_true : k0_cond4 = 1#1 := by decide +kernel
theorem cond5_false : ¬ k0_cond5 = 1#1 := by decide +kernel
theorem cond6_false : ¬ k0_cond6 = 1#1 := by decide +kernel
theorem cond7_false : ¬ k0_cond7 = 1#1 := by decide +kernel

@[sl_canon] theorem w_sem0 (hh) : (cc0_scratch3.slice (Rect.unit (s := S4) (k0_off11 8#32) S1.size hh)).squeeze S_ squeezes_S1_S_ = wsem 0 := wsem_congr (k0_off11_eq 0) _
@[sl_canon] theorem w_slot0 (hh hs) : (ringM.slice (Rect.unit (s := S4x5120x512) (k0_off12 8#32) S1x5120x512.size hh) hs).squeeze S5120x512 squeezes_S1x5120x512_S5120x512 = slotF 0 := slotF_congr (k0_off12_eq 0) _ _
@[sl_canon] theorem w_sem1 (hh) : (cc0_scratch3.slice (Rect.unit (s := S4) (k0_off11 9#32) S1.size hh)).squeeze S_ squeezes_S1_S_ = wsem 1 := wsem_congr (k0_off11_eq 1) _
@[sl_canon] theorem w_slot1 (hh hs) : (ringM.slice (Rect.unit (s := S4x5120x512) (k0_off12 9#32) S1x5120x512.size hh) hs).squeeze S5120x512 squeezes_S1x5120x512_S5120x512 = slotF 1 := slotF_congr (k0_off12_eq 1) _ _
@[sl_canon] theorem w_sem2 (hh) : (cc0_scratch3.slice (Rect.unit (s := S4) (k0_off11 10#32) S1.size hh)).squeeze S_ squeezes_S1_S_ = wsem 2 := wsem_congr (k0_off11_eq 2) _
@[sl_canon] theorem w_slot2 (hh hs) : (ringM.slice (Rect.unit (s := S4x5120x512) (k0_off12 10#32) S1x5120x512.size hh) hs).squeeze S5120x512 squeezes_S1x5120x512_S5120x512 = slotF 2 := slotF_congr (k0_off12_eq 2) _ _
@[sl_canon] theorem w_sem3 (hh) : (cc0_scratch3.slice (Rect.unit (s := S4) (k0_off11 11#32) S1.size hh)).squeeze S_ squeezes_S1_S_ = wsem 3 := wsem_congr (k0_off11_eq 3) _
@[sl_canon] theorem w_slot3 (hh hs) : (ringM.slice (Rect.unit (s := S4x5120x512) (k0_off12 11#32) S1x5120x512.size hh) hs).squeeze S5120x512 squeezes_S1x5120x512_S5120x512 = slotF 3 := slotF_congr (k0_off12_eq 3) _ _
@[sl_canon] theorem b_sem3 (hh) : (cc0_scratch3.slice (Rect.unit (s := S4) k0_off13 S1.size hh)).squeeze S_ squeezes_S1_S_ = wsem 3 := wsem_congr k0_off13_eq _
@[sl_canon] theorem b_slot3 (hh hs) : (ringM.slice (Rect.unit (s := S4x5120x512) k0_off14 S1x5120x512.size hh) hs).squeeze S5120x512 squeezes_S1x5120x512_S5120x512 = slotF 3 := slotF_congr k0_off14_eq _ _
@[sl_canon] theorem b_blk3 (hh hs) : wM.slice (Rect.unit (s := S5120x6144) k0_off15 S5120x512.size hh) hs = wBlk 11 := wBlk_congr k0_off15_eq _ _
@[sl_canon] theorem b_sem0 (hh) : (cc0_scratch3.slice (Rect.unit (s := S4) k0_off1 S1.size hh)).squeeze S_ squeezes_S1_S_ = wsem 0 := wsem_congr k0_off1_eq _
@[sl_canon] theorem b_sem1 (hh) : (cc0_scratch3.slice (Rect.unit (s := S4) k0_off4 S1.size hh)).squeeze S_ squeezes_S1_S_ = wsem 1 := wsem_congr k0_off4_eq _
@[sl_canon] theorem b_sem2 (hh) : (cc0_scratch3.slice (Rect.unit (s := S4) k0_off7 S1.size hh)).squeeze S_ squeezes_S1_S_ = wsem 2 := wsem_congr k0_off7_eq _
@[sl_canon] theorem b_slot0 (hh hs) : (ringM.slice (Rect.unit (s := S4x5120x512) k0_off2 S1x5120x512.size hh) hs).squeeze S5120x512 squeezes_S1x5120x512_S5120x512 = slotF 0 := slotF_congr k0_off2_eq _ _
@[sl_canon] theorem b_slot1 (hh hs) : (ringM.slice (Rect.unit (s := S4x5120x512) k0_off5 S1x5120x512.size hh) hs).squeeze S5120x512 squeezes_S1x5120x512_S5120x512 = slotF 1 := slotF_congr k0_off5_eq _ _
@[sl_canon] theorem b_slot2 (hh hs) : (ringM.slice (Rect.unit (s := S4x5120x512) k0_off8 S1x5120x512.size hh) hs).squeeze S5120x512 squeezes_S1x5120x512_S5120x512 = slotF 2 := slotF_congr k0_off8_eq _ _
@[sl_canon] theorem b_blk0 (hh hs) : wM.slice (Rect.unit (s := S5120x6144) k0_off3 S5120x512.size hh) hs = wBlk 8 := wBlk_congr k0_off3_eq _ _
@[sl_canon] theorem b_blk1 (hh hs) : wM.slice (Rect.unit (s := S5120x6144) k0_off6 S5120x512.size hh) hs = wBlk 9 := wBlk_congr k0_off6_eq _ _
@[sl_canon] theorem b_blk2 (hh hs) : wM.slice (Rect.unit (s := S5120x6144) k0_off9 S5120x512.size hh) hs = wBlk 10 := wBlk_congr k0_off9_eq _ _
@[sl_canon] theorem d_sem1 (hh) : (cc0_scratch4.slice (Rect.unit (s := S5) ![1] S1.size hh)).squeeze S_ squeezes_S1_S_ = dsem 1 := rfl
@[sl_canon] theorem d_sem2 (hh) : (cc0_scratch4.slice (Rect.unit (s := S5) ![2] S1.size hh)).squeeze S_ squeezes_S1_S_ = dsem 2 := rfl

/-! ## The weight ring's resources -/

/-- The read share of the weight that rides with slot `s`. -/
def qs (s : Fin 4) : PosShare TreeShare := Transfers.shareTokN fullShare s.val

section Pieces
variable (c : Dev nD) (X : Buf (Elt F) (wM.view.loc (c : Thread nD τ)))

abbrev cellP (s : Fin 4) : sProp 𝕄 := semVal ((c : Thread nD τ), SemLoc.dma (wsem s).sem) 0
abbrev cellX (s : Fin 5) : sProp 𝕄 := semVal ((c : Thread nD τ), SemLoc.dma (dsem s).sem) 0
abbrev slotFP (s : Fin 4) (f : Buf (Elt F) ((slotF s).view.loc (c : Thread nD τ))) : sProp 𝕄 :=
  (slotF s).view.loc (c : Thread nD τ) ↦[(slotF s).view.set]{fullShare} f
abbrev wP (s : Fin 4) (b : Fin 12) : sProp 𝕄 := (wBlk b).view.loc (c : Thread nD τ) ↦[(wBlk b).view.set]{qs s} X
abbrev wW (s : Fin 4) : sProp 𝕄 := wM.view.loc (c : Thread nD τ) ↦{qs s} X
/-- A block's words as a slot's payload. -/
abbrev payW (b : Fin 12) : S5120x512.Idx → Elt F .fp8e4m3 := ReadAs.same.apply ((wBlk b).view.read (Elt F) X)
abbrev flight (s : Fin 4) (b : Fin 12) (f : Buf (Elt F) ((slotF s).view.loc (c : Thread nD τ))) : sProp 𝕄 :=
  Transfers.Flight countersEmb (c : Thread nD τ) (SemLoc.dma (wsem s).sem) () 81920
    iprop(slotFP c s ((slotF s).view.writes (Elt F) f [⟨Rect.whole S5120x512, payW c X b⟩]) ∗ wP c X s b)
/-- What stays behind while block `b` is on its way into slot `s`. -/
def hid (s : Fin 4) (b : Fin 12) : sProp 𝕄 := wM.view.loc (c : Thread nD τ) ↦[Finset.univ \ (wBlk b).view.set]{qs s} X
/-- Slot `s` free: its cell at zero, its words at anything, its share of the weight whole. -/
def freeSlot (s : Fin 4) : sProp 𝕄 := iprop(cellP c s ∗ (∃ f, slotFP c s f) ∗ wW c X s)
/-- Slot `s` awaiting block `b`. -/
def flt (s : Fin 4) (b : Fin 12) : sProp 𝕄 := iprop((∃ f, flight c X s b f) ∗ hid c X s b)

theorem free_open (s : Fin 4) (b : Fin 12) : freeSlot c X s ⊣⊢ iprop(cellP c s ∗ (∃ f, slotFP c s f) ∗ wP c X s b ∗ hid c X s b) := by
  unfold freeSlot hid
  refine ⟨?_, ?_⟩
  · iintro ⟨Hc, Hs, Hu⟩
    ihave H2 := (pointsTo_split_subset (Finset.subset_univ (wBlk b).view.set)).1 $$ Hu
    icases H2 with ⟨Hu, Hr⟩
    isplitl [Hc]; · iexact Hc
    isplitl [Hs]; · iexact Hs
    isplitl [Hu]; · iexact Hu
    iexact Hr
  · iintro ⟨Hc, Hs, Hu, Hr⟩
    ihave Hu2 := (pointsTo_split_subset (Finset.subset_univ (wBlk b).view.set) (ℓ := wM.view.loc (c : Thread nD τ)) (q := qs s) (f := X)).2 $$ [Hu Hr]
    · isplitl [Hu]; · iexact Hu
      iexact Hr
    isplitl [Hc]; · iexact Hc
    isplitl [Hs]; · iexact Hs
    iexact Hu2

theorem flt_fold (s : Fin 4) (b : Fin 12) (f) : iprop(flight c X s b f ∗ hid c X s b) ⊢ flt c X s b := by
  unfold flt
  iintro ⟨H, Hh⟩
  isplitl [H]; · iexists f; iexact H
  iexact Hh

abbrev vecP {sp : Space} {s : Shape} {e : EltTy} (m : Memref sig .tc sp s e) (f : Buf (Elt F) (m.view.loc (c : Thread nD τ))) : sProp 𝕄 :=
  m.view.loc (c : Thread nD τ) ↦[m.view.set]{fullShare} f
end Pieces

end Cert.Proof.Codes

end
-- ==== Proof.CBody.lean ====
module

public import proofs.«01_k».proof.Proof.CNames

@[expose] public section

noncomputable section

/-! # The body of the cache codes -/

namespace Cert.Proof.Codes

open Cert.CKernelIdeal Cert.CKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD)
variable (arg0 : Memref sig .tc .vmem S256x5120 .bf16) (harg0 : arg0.IsWhole) (arg1 : Memref sig .tc .vmem S256x1 .i32) (harg1 : arg1.IsWhole)
  (arg2 : Memref sig .tc .vmem S1x128 .f32) (harg2 : arg2.IsWhole) (arg3 : Memref sig .tc .vmem S40x128 .f32) (harg3 : arg3.IsWhole)
  (arg4 : Memref sig .tc .vmem S48x128 .f32) (harg4 : arg4.IsWhole) (arg5 : Memref sig .tc .vmem S256x8 .f32) (harg5 : arg5.IsWhole)
  (arg6 : Memref sig .tc .vmem S256x8 .f32) (harg6 : arg6.IsWhole)
  (hm : Memref sig .tc .vmem S256x5120 .bf16) (hhm : hm.IsWhole) (cm : Memref sig .tc .vmem S256x128 .f32) (hcm : cm.IsWhole)
  (sm : Memref sig .tc .vmem S256x128 .f32) (hsm : sm.IsWhole)

abbrev trip1G := k0_t1_body (F := F) arg0 harg0 arg1 harg1 arg2 harg2 arg3 harg3 arg4 harg4 arg5 harg5 arg6 harg6 wM (Memref.isWhole_whole _) koM (Memref.isWhole_whole _) voM (Memref.isWhole_whole _) ringM (Memref.isWhole_whole _) kcM (Memref.isWhole_whole _) vcM (Memref.isWhole_whole _) cc0_scratch3 cc0_scratch4 hm hhm cm hcm sm hsm
abbrev bodyG := cc0_decoder_layer (F := F) arg0 harg0 arg1 harg1 arg2 harg2 arg3 harg3 arg4 harg4 arg5 harg5 arg6 harg6 wM (Memref.isWhole_whole _) koM (Memref.isWhole_whole _) voM (Memref.isWhole_whole _) ringM (Memref.isWhole_whole _) kcM (Memref.isWhole_whole _) vcM (Memref.isWhole_whole _) cc0_scratch3 cc0_scratch4 hm hhm cm hcm sm hsm

section Values
variable (X : Buf (Elt F) (wM.view.loc (c : Thread nD τ))) (X0 : Buf (Elt F) (arg0.view.loc (c : Thread nD τ))) (X1 : Buf (Elt F) (arg1.view.loc (c : Thread nD τ)))
  (X2 : Buf (Elt F) (arg2.view.loc (c : Thread nD τ))) (X3 : Buf (Elt F) (arg3.view.loc (c : Thread nD τ))) (X4 : Buf (Elt F) (arg4.view.loc (c : Thread nD τ)))
  (X5 : Buf (Elt F) (arg5.view.loc (c : Thread nD τ))) (X6 : Buf (Elt F) (arg6.view.loc (c : Thread nD τ)))
  (H : Buf (Elt F) (hm.view.loc (c : Thread nD τ))) (CM : Buf (Elt F) (cm.view.loc (c : Thread nD τ))) (SM : Buf (Elt F) (sm.view.loc (c : Thread nD τ)))

/-! ## The normalised rows -/

theorem row_inb (r : Fin 40) : ∀ a, (![r.val, 0] : Fin 2 → Nat) a + S1x128.size a ≤ S40x128.size a := by
  revert r; decide

section Norm
variable (k : Fin k0_t1_loop.trips)
abbrev R10 (r : Fin 40) : Rect S256x5120 := Rect.unit (s := S256x5120) (k0_off10 k (BitVec.ofNat 32 r.val)) S32x128.size (k0_off10_inb k r)
/-- Column stripe `r` of the trip's 32 rows of `x`. -/
abbrev xs (r : Fin 40) : Vec F S32x128 .bf16 := View.readAt (Elt F) arg0.view (R10 k r).toLoadRect X0
/-- The inverse norm of the trip's 32 rows. -/
def rinv : FVec F S32x1 .f32 :=
  let x := xs c arg0 X0 k
  k0_pay7 (k0_pay6 (k0_pay5 (k0_pay4 (k0_pay3 (k0_pay2 (k0_pay1 (x 0) (x 1) (x 2) (x 3) (x 4) (x 5))
      (x 6) (x 7) (x 8) (x 9) (x 10) (x 11)) (x 12) (x 13) (x 14) (x 15) (x 16) (x 17) (x 18))
      (x 19) (x 20) (x 21) (x 22) (x 23) (x 24) (x 25)) (x 26) (x 27) (x 28) (x 29) (x 30) (x 31))
      (x 32) (x 33) (x 34) (x 35) (x 36) (x 37) (x 38)) (x 39)
/-- Column stripe `r` of the trip's 32 rows, normalised. -/
def nrm (r : Fin 40) : FVec F S32x128 .bf16 :=
  k0_pay11 (rinv c arg0 X0 k) (xs c arg0 X0 k r)
    (View.readAt (Elt F) arg3.view (Rect.unit (s := S40x128) ![r.val, 0] S1x128.size (row_inb r)).toLoadRect X3)
/-- The first `n` stripes, the last one first. -/
def nrmL : (n : ℕ) → n ≤ 40 → List (View.Piece (Elt F) S256x5120 .bf16)
  | 0, _ => []
  | n + 1, h => ⟨R10 k ⟨n, h⟩, nrm c arg0 arg3 X0 X3 k ⟨n, h⟩⟩ :: nrmL n (Nat.le_of_succ_le h)
end Norm

def t1i (n : ℕ) : Fin k0_t1_loop.trips := ⟨n % 8, Nat.mod_lt _ (by decide)⟩
omit [FloatOps F] in
theorem t1i_val (k : Fin k0_t1_loop.trips) : t1i k.val = k := Fin.ext (Nat.mod_eq_of_lt k.isLt)
/-- The normalised rows after the loop's first `n` trips. -/
def hSt : ℕ → Buf (Elt F) (hm.view.loc (c : Thread nD τ))
  | 0 => H
  | n + 1 => hm.view.writes (Elt F) (hSt n) (nrmL c arg0 arg3 X0 X3 (t1i n) 40 le_rfl)

/-! ## The angles -/

abbrev RH : Rect S256x5120 := Rect.unit (s := S256x5120) ![0, 0] S256x5120.size inb_S256x5120_S256x5120_0_0
abbrev RC : Rect S256x128 := Rect.unit (s := S256x128) ![0, 0] S256x128.size inb_S256x128_S256x128_0_0
abbrev posR : Vec F S256x1 .i32 := View.readAt (Elt F) arg1.view (Rect.unit (s := S256x1) ![0, 0] S256x1.size inb_S256x1_S256x1_0_0).toLoadRect X1
abbrev invR : Vec F S1x128 .f32 := View.readAt (Elt F) arg2.view (Rect.unit (s := S1x128) ![0, 0] S1x128.size inb_S1x128_S1x128_0_0).toLoadRect X2
def cosV : Buf (Elt F) (cm.view.loc (c : Thread nD τ)) := cm.view.writes (Elt F) cm.view.junk [⟨RC, k0_pay60 (posR c arg1 X1) (invR c arg2 X2)⟩]
def sinV : Buf (Elt F) (sm.view.loc (c : Thread nD τ)) :=
  sm.view.writes (Elt F) sm.view.junk [⟨RC, k0_pay61 (k0_pay59 (posR c arg1 X1) (invR c arg2 X2)) (iota .tc S256x128 32 [1] iota_S256x128_d1_w32)⟩]

/-! ## The four blocks -/

theorem sRow_inb (r : Fin 48) : ∀ a, (![r.val, 0] : Fin 2 → Nat) a + S1x128.size a ≤ S48x128.size a := by revert r; decide
theorem kCol_inb (r : Fin 8) : ∀ a, (![0, r.val] : Fin 2 → Nat) a + S256x1.size a ≤ S256x8.size a := by revert r; decide
theorem quad_inb (i : Fin 2) : ∀ a, (![0, 4 * i.val, 0] : Fin 3 → Nat) a + S256x4x128.size a ≤ S256x8x128.size a := by revert i; decide
abbrev hAll : Vec F S256x5120 .bf16 := View.readAt (Elt F) hm.view RH.toLoadRect H
abbrev blk (i : Fin 4) : Fin 12 := ⟨8 + i.val, by omega⟩
abbrev wAll (i : Fin 4) : Vec F S1x5120x512 .fp8e4m3 :=
  View.readAt (Elt F) ringM.view (Rect.unit (s := S4x5120x512) (k0_off16 (BitVec.ofNat 32 (8 + i.val))) S1x5120x512.size (k0_off16_inb i)).toLoadRect
    ((slotF i).view.writes (Elt F) (slotF i).view.junk [⟨Rect.whole S5120x512, payW c X (blk i)⟩])
abbrev sRow (r : Fin 48) : Vec F S1x128 .f32 := View.readAt (Elt F) arg4.view (Rect.unit (s := S48x128) ![r.val, 0] S1x128.size (sRow_inb r)).toLoadRect X4
abbrev kCol (r : Fin 8) : Vec F S256x1 .f32 := View.readAt (Elt F) arg5.view (Rect.unit (s := S256x8) ![0, r.val] S256x1.size (kCol_inb r)).toLoadRect X5
abbrev vCol (r : Fin 8) : Vec F S256x1 .f32 := View.readAt (Elt F) arg6.view (Rect.unit (s := S256x8) ![0, r.val] S256x1.size (kCol_inb r)).toLoadRect X6
abbrev cAll : Vec F S256x128 .f32 := View.readAt (Elt F) cm.view RC.toLoadRect CM
abbrev sAll : Vec F S256x128 .f32 := View.readAt (Elt F) sm.view RC.toLoadRect SM
abbrev RQ (i : Fin 2) : Rect S256x8x128 := Rect.unit (s := S256x8x128) ![0, 4 * i.val, 0] S256x4x128.size (quad_inb i)

/-- Four heads' codes of the keys, then the other four's. -/
def kQuad0 : Vec F S256x4x128 .fp8e4m3 :=
  let h := hAll c hm H; let w := wAll c X 0; let C := cAll c cm CM; let S := sAll c sm SM
  k0_pay69 (k0_pay64 (k0_pay63 h w (sRow c arg4 X4 32)) C S (kCol c arg5 X5 0)) (k0_pay65 (k0_pay62 h w) (sRow c arg4 X4 33) C S (kCol c arg5 X5 1))
    (k0_pay67 (k0_pay66 (k0_pay62 h w)) (sRow c arg4 X4 34) C S (kCol c arg5 X5 2)) (Scalar.ofBits .f32 0x43E00000#32)
    (k0_pay68 (k0_pay62 h w) (sRow c arg4 X4 35) C S (kCol c arg5 X5 3))
def kQuad1 : Vec F S256x4x128 .fp8e4m3 :=
  let h := hAll c hm H; let w := wAll c X 1; let C := cAll c cm CM; let S := sAll c sm SM
  k0_pay78 (k0_pay72 (k0_pay71 h w (sRow c arg4 X4 36)) C S (kCol c arg5 X5 4)) (k0_pay73 (k0_pay70 h w) (sRow c arg4 X4 37) C S (kCol c arg5 X5 5))
    (k0_pay75 (k0_pay74 (k0_pay70 h w)) (sRow c arg4 X4 38) C S (kCol c arg5 X5 6)) (k0_pay76 (k0_pay70 h w) (sRow c arg4 X4 39) C S (kCol c arg5 X5 7))
    (Scalar.ofBits .f32 0x43E00000#32) k0_pay77
/-- Four heads' codes of the values, then the other four's. -/
def vQuad0 : Vec F S256x4x128 .fp8e4m3 :=
  let h := hAll c hm H; let w := wAll c X 2
  k0_pay85 (k0_pay81 (k0_pay80 h w (sRow c arg4 X4 40)) (vCol c arg6 X6 0)) (k0_pay82 (k0_pay79 h w) (sRow c arg4 X4 41) (vCol c arg6 X6 1))
    (k0_pay83 (k0_pay79 h w) (sRow c arg4 X4 42) (vCol c arg6 X6 2)) (k0_pay84 (k0_pay79 h w)) (sRow c arg4 X4 43) (vCol c arg6 X6 3)
def vQuad1 : Vec F S256x4x128 .fp8e4m3 :=
  let h := hAll c hm H; let w := wAll c X 3
  k0_pay91 (k0_pay86 h w) (k0_pay87 h w (sRow c arg4 X4 44) (vCol c arg6 X6 4)) (k0_pay88 h w (sRow c arg4 X4 45) (vCol c arg6 X6 5))
    (k0_pay89 h w) (k0_pay90 (sRow c arg4 X4 46)) (vCol c arg6 X6 6) (sRow c arg4 X4 47) (vCol c arg6 X6 7)
end Values

variable (X : Buf (Elt F) (wM.view.loc (c : Thread nD τ))) (X0 : Buf (Elt F) (arg0.view.loc (c : Thread nD τ))) (X1 : Buf (Elt F) (arg1.view.loc (c : Thread nD τ)))
  (X2 : Buf (Elt F) (arg2.view.loc (c : Thread nD τ))) (X3 : Buf (Elt F) (arg3.view.loc (c : Thread nD τ))) (X4 : Buf (Elt F) (arg4.view.loc (c : Thread nD τ)))
  (X5 : Buf (Elt F) (arg5.view.loc (c : Thread nD τ))) (X6 : Buf (Elt F) (arg6.view.loc (c : Thread nD τ)))
  (H0 : Buf (Elt F) (hm.view.loc (c : Thread nD τ))) (C0 : Buf (Elt F) (cm.view.loc (c : Thread nD τ))) (S0 : Buf (Elt F) (sm.view.loc (c : Thread nD τ)))
  (K0 : Buf (Elt F) (kcM.view.loc (c : Thread nD τ))) (V0 : Buf (Elt F) (vcM.view.loc (c : Thread nD τ)))
  (OK0 : Buf (Elt F) (koM.view.loc (c : Thread nD τ))) (OV0 : Buf (Elt F) (voM.view.loc (c : Thread nD τ)))

abbrev hAt : Buf (Elt F) (hm.view.loc (c : Thread nD τ)) := hSt c arg0 arg3 hm X0 X3 H0 8
/-- The keys' codes, and the values'. -/
def vK : Buf (Elt F) (kcM.view.loc (c : Thread nD τ)) :=
  let h := hAt c arg0 arg3 hm X0 X3 H0; let C := cosV c arg1 arg2 cm X1 X2; let S := sinV c arg1 arg2 sm X1 X2
  kcM.view.writes (Elt F) K0 [⟨RQ 1, kQuad1 c arg4 arg5 hm cm sm X X4 X5 h C S⟩, ⟨RQ 0, kQuad0 c arg4 arg5 hm cm sm X X4 X5 h C S⟩]
def vV : Buf (Elt F) (vcM.view.loc (c : Thread nD τ)) :=
  let h := hAt c arg0 arg3 hm X0 X3 H0
  vcM.view.writes (Elt F) V0 [⟨RQ 1, vQuad1 c arg4 arg6 hm X X4 X6 h⟩, ⟨RQ 0, vQuad0 c arg4 arg6 hm X X4 X6 h⟩]

/-! ## The loop -/

set_option backward.proofsInPublic true in
/-- One trip of the normalisation: 40 column stripes of 32 rows stored. -/
theorem trip1 (k : Fin k0_t1_loop.trips) (a : BitVec 32)
   (X0 : Buf (Elt F) (arg0.view.loc (c : Thread nD τ))) (X3 : Buf (Elt F) (arg3.view.loc (c : Thread nD τ)))
   (H : Buf (Elt F) (hm.view.loc (c : Thread nD τ))) :
   iprop(vecP c arg0 X0 ∗ vecP c arg3 X3 ∗ vecP c hm H)
   ⊢ wp frame (wpE (defs₀ (F := F)) 𝒱₀ (c : Thread nD τ) none) Set.univ (trip1G arg0 harg0 arg1 harg1 arg2 harg2 arg3 harg3 arg4 harg4 arg5 harg5 arg6 harg6 hm hhm cm hcm sm hsm k a)
      (fun _ => iprop(vecP c arg0 X0 ∗ vecP c arg3 X3 ∗ vecP c hm (hm.view.writes (Elt F) H (nrmL c arg0 arg3 X0 X3 k 40 le_rfl)))) := by
  iintro ⟨H0, H3, Hhm⟩
  dsimp only [trip1G]
  sl_unfold [k0_t1_body]
  sl_exec
  sl_step
  isplitl [H0]; · iexact H0
  isplitl [H3]; · iexact H3
  iexact Hhm

def inv1 (n : ℕ) (_ : BitVec 32) : sProp 𝕄 := iprop(vecP c arg0 X0 ∗ vecP c arg3 X3 ∗ vecP c hm (hSt c arg0 arg3 hm X0 X3 H0 n))
theorem step1 (k : Fin k0_t1_loop.trips) (a : BitVec 32) :
    inv1 c arg0 arg3 hm X0 X3 H0 k.val a
   ⊢ wp frame (wpE (defs₀ (F := F)) 𝒱₀ (c : Thread nD τ) none) Set.univ (trip1G arg0 harg0 arg1 harg1 arg2 harg2 arg3 harg3 arg4 harg4 arg5 harg5 arg6 harg6 hm hhm cm hcm sm hsm k a) (inv1 c arg0 arg3 hm X0 X3 H0 (k.val + 1)) := by
  have e : hSt c arg0 arg3 hm X0 X3 H0 (k.val + 1) = hm.view.writes (Elt F) (hSt c arg0 arg3 hm X0 X3 H0 k.val) (nrmL c arg0 arg3 X0 X3 k 40 le_rfl) := by rw [hSt, t1i_val]
  unfold inv1
  rw [e]
  exact trip1 c arg0 harg0 arg1 harg1 arg2 harg2 arg3 harg3 arg4 harg4 arg5 harg5 arg6 harg6 hm hhm cm hcm sm hsm k a X0 X3 _

/-! ## The body -/

set_option maxHeartbeats 4000000 in
set_option backward.proofsInPublic true in
theorem bodyRun :
   iprop(vecP c arg0 X0 ∗ vecP c arg1 X1 ∗ vecP c arg2 X2 ∗ vecP c arg3 X3 ∗ vecP c arg4 X4 ∗ vecP c arg5 X5 ∗ vecP c arg6 X6
     ∗ vecP c koM OK0 ∗ vecP c voM OV0 ∗ vecP c kcM K0 ∗ vecP c vcM V0 ∗ vecP c hm H0 ∗ vecP c cm C0 ∗ vecP c sm S0 ∗ (∃ W, owes (c : Thread nD τ) 0 W)
     ∗ freeSlot c X 0 ∗ freeSlot c X 1 ∗ freeSlot c X 2 ∗ freeSlot c X 3 ∗ cellX c 1 ∗ cellX c 2)
   ⊢ wp frame (wpE (defs₀ (F := F)) 𝒱₀ (c : Thread nD τ) none) Set.univ (bodyG arg0 harg0 arg1 harg1 arg2 harg2 arg3 harg3 arg4 harg4 arg5 harg5 arg6 harg6 hm hhm cm hcm sm hsm)
      (fun _ => iprop(vecP c arg0 X0 ∗ vecP c arg1 X1 ∗ vecP c arg2 X2 ∗ vecP c arg3 X3 ∗ vecP c arg4 X4 ∗ vecP c arg5 X5 ∗ vecP c arg6 X6
     ∗ vecP c koM (koM.view.writes (Elt F) koM.view.junk [⟨Rect.whole S256x8x128, ReadAs.same.apply (kcM.view.read (Elt F) (vK c arg0 arg1 arg2 arg3 arg4 arg5 hm cm sm X X0 X1 X2 X3 X4 X5 H0 K0))⟩])
     ∗ vecP c voM (voM.view.writes (Elt F) voM.view.junk [⟨Rect.whole S256x8x128, ReadAs.same.apply (vcM.view.read (Elt F) (vV c arg0 arg3 arg4 arg6 hm X X0 X3 X4 X6 H0 V0))⟩])
     ∗ (∃ f, vecP c kcM f) ∗ (∃ f, vecP c vcM f) ∗ (∃ f, vecP c hm f) ∗ (∃ f, vecP c cm f) ∗ (∃ f, vecP c sm f) ∗ (∃ W, owes (c : Thread nD τ) 0 W)
     ∗ freeSlot c X 0 ∗ freeSlot c X 1 ∗ freeSlot c X 2 ∗ freeSlot c X 3 ∗ cellX c 1 ∗ cellX c 2)) := by
  iintro ⟨H0, H1, H2, H3, H4, H5, H6, Hko, Hvo, Hkc, Hvc, Hhm, Hcm, Hsm, ⟨%W, HW⟩, Hs0, Hs1, Hs2, Hs3, Hd1, Hd2⟩
  ihave Hop := (free_open c X 0 8).1 $$ Hs0
  icases Hop with ⟨Hc0, ⟨%f0, Hs0⟩, Hw0, Hh0⟩
  ihave Hop := (free_open c X 1 9).1 $$ Hs1
  icases Hop with ⟨Hc1, ⟨%f1, Hs1⟩, Hw1, Hh1⟩
  ihave Hop := (free_open c X 2 10).1 $$ Hs2
  icases Hop with ⟨Hc2, ⟨%f2, Hs2⟩, Hw2, Hh2⟩
  ihave Hop := (free_open c X 3 11).1 $$ Hs3
  icases Hop with ⟨Hc3, ⟨%f3, Hs3⟩, Hw3, Hh3⟩
  have c1 := cond1_true
  have c2 := cond2_true
  have c3 := cond3_true
  have c4 := cond4_true
  have c5 := cond5_false
  have c6 := cond6_false
  have c7 := cond7_false
  have hS0 := ring_inF (s := 0) (k0_off16_eq 0) (k0_off16_inb 0)
  have hS1 := ring_inF (s := 1) (k0_off16_eq 1) (k0_off16_inb 1)
  have hS2 := ring_inF (s := 2) (k0_off16_eq 2) (k0_off16_inb 2)
  have hS3 := ring_inF (s := 3) (k0_off16_eq 3) (k0_off16_inb 3)
  dsimp only [bodyG]
  sl_unfold [cc0_decoder_layer]
  sl_exec
  -- the normalisation's loop
  sl_for (inv1 c arg0 arg3 hm X0 X3 H0) $$ [H0 H3 Hhm]
  · intro k a
    exact step1 c arg0 harg0 arg1 harg1 arg2 harg2 arg3 harg3 arg4 harg4 arg5 harg5 arg6 harg6 hm hhm cm hcm sm hsm X0 X3 H0 k a
  · unfold inv1
    rw [hSt]
    isplitl [H0]; · iexact H0
    isplitl [H3]; · iexact H3
    iexact Hhm
  iintro %_ HI
  rw [show Scf.trips k0_t1_loop.lb k0_t1_loop.ub k0_t1_loop.st = 8 from rfl]
  unfold inv1
  icases HI with ⟨H0, H3, Hhm⟩
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  sl_unfold_run_names
  isplitl [Hko]
  · iapply (entails_of_eq (pointsTo_writes_whole_rebase (Ix := Unit) (Name := ℕ) (U := UU nD τ) (Lvl := ℕ) (c : Thread nD τ) koM OK0 koM.view.junk _ fullShare)); iexact Hko
  isplitl [Hvo]
  · iapply (entails_of_eq (pointsTo_writes_whole_rebase (Ix := Unit) (Name := ℕ) (U := UU nD τ) (Lvl := ℕ) (c : Thread nD τ) voM OV0 voM.view.junk _ fullShare)); iexact Hvo
  isplitl [Hkc]; · iexists _; iexact Hkc
  isplitl [Hvc]; · iexists _; iexact Hvc
  isplitl [Hhm]; · iexists _; iexact Hhm
  isplitl [Hcm]; · iexists _; iexact Hcm
  isplitl [Hsm]; · iexists _; iexact Hsm
  isplitl [HW]; · iexists _; iexact HW
  isplitl [Hc0 Hs0 Hw0 Hh0]
  · iapply (free_open c X 0 8).2
    isplitl [Hc0]; · iexact Hc0
    isplitl [Hs0]; · iexists _; iexact Hs0
    isplitl [Hw0]; · iexact Hw0
    iexact Hh0
  isplitl [Hc1 Hs1 Hw1 Hh1]
  · iapply (free_open c X 1 9).2
    isplitl [Hc1]; · iexact Hc1
    isplitl [Hs1]; · iexists _; iexact Hs1
    isplitl [Hw1]; · iexact Hw1
    iexact Hh1
  isplitl [Hc2 Hs2 Hw2 Hh2]
  · iapply (free_open c X 2 10).2
    isplitl [Hc2]; · iexact Hc2
    isplitl [Hs2]; · iexists _; iexact Hs2
    isplitl [Hw2]; · iexact Hw2
    iexact Hh2
  isplitl [Hc3 Hs3 Hw3 Hh3]
  · iapply (free_open c X 3 11).2
    isplitl [Hc3]; · iexact Hc3
    isplitl [Hs3]; · iexists _; iexact Hs3
    isplitl [Hw3]; · iexact Hw3
    iexact Hh3
  isplitl [Hd1]; · iexact Hd1
  iexact Hd2
end Body
end Cert.Proof.Codes

end
-- ==== Proof.CLaunch.lean ====
module

public import proofs.«01_k».proof.Proof.CBody
public import proofs.«01_k».proof.Proof.Gen.CKernelIdeal.Frame

@[expose] public section

noncomputable section

/-! # The launch of the cache codes' kernel -/

namespace Cert.Proof.Codes

open Cert.CKernelIdeal Cert.CKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's own cells -/

abbrev osem : Fin 9 → SemLoc sig := ![.dma (wsem 0).sem, .dma (wsem 1).sem, .dma (wsem 2).sem, .dma (wsem 3).sem,
  .dma (dsem 0).sem, .dma (dsem 1).sem, .dma (dsem 2).sem, .dma (dsem 3).sem, .dma (dsem 4).sem]
theorem ownSemFacts : Pipeline.OwnSemFacts spec0 osem := by decide

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

omit [FloatOps F] in
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ cellX c 0 ∗ cellX c 1 ∗ cellX c 2 ∗ cellX c 3 ∗ cellX c 4) := by
  unfold Pipeline.ownSems0; rw [bigSep_fin9]; rfl

/-! ## The slots as element sets -/

abbrev SF (s : Fin 4) : Finset S4x5120x512.Idx := (Rect.unit (s := S4x5120x512) (slotOff s) S1x5120x512.size (slotF_inb s)).set

theorem off3_lead {n : ℕ} (b : Fin n) : (![b.val, 0, 0] : Fin 3 → ℕ) 0 = 1 * b.val := (Nat.one_mul _).symm
theorem off3_rest {n : ℕ} (b : Fin n) (a : Fin 3) (h : a ≠ 0) : (![b.val, 0, 0] : Fin 3 → ℕ) a = 0 := by
  fin_cases a
  · exact absurd rfl h
  · rfl
  · rfl
theorem SF_disjoint : ∀ s s' : Fin 4, s ≠ s' → Disjoint (SF s) (SF s') :=
  Ring.lead_disjoint (s := S4x5120x512) (0 : Fin 3) 1 (fun s : Fin 4 => slotOff s) S1x5120x512.size slotF_inb off3_lead rfl
theorem SF_cover : (Finset.univ : Finset (Fin 4)).biUnion SF = Finset.univ :=
  Ring.lead_cover (s := S4x5120x512) (0 : Fin 3) 1 (fun s : Fin 4 => slotOff s) S1x5120x512.size slotF_inb off3_lead off3_rest rfl (by decide) rfl

section Splits
variable (c : Dev nD) (X : Buf (Elt F) (wM.view.loc (c : Thread nD τ)))

omit [FloatOps F] in
theorem slotFP_eq (s : Fin 4) (f) : slotFP c s f = (((c : Thread nD τ).loc cc0_scratch0) ↦[SF s]{fullShare} f : sProp 𝕄) :=
  congrArg (fun S => (_ ↦[S]{fullShare} f : sProp 𝕄)) (slotF_set s)

theorem ring_split :
    iprop(∃ f : Buf (Elt F) ((c : Thread nD τ).loc cc0_scratch0), ((c : Thread nD τ).loc cc0_scratch0) ↦{fullShare} f)
      ⊢ (iprop((∃ f, slotFP c 0 f) ∗ (∃ f, slotFP c 1 f) ∗ (∃ f, slotFP c 2 f) ∗ ∃ f, slotFP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) SF SF_disjoint SF_cover f).trans (bigSep_fin4 _))) $$ H
  icases H2 with ⟨H0, H1, H2, H3⟩
  isplitl [H0]; · iexists f; iapply (entails_of_eq (slotFP_eq c 0 f).symm); iexact H0
  isplitl [H1]; · iexists f; iapply (entails_of_eq (slotFP_eq c 1 f).symm); iexact H1
  isplitl [H2]; · iexists f; iapply (entails_of_eq (slotFP_eq c 2 f).symm); iexact H2
  iexists f; iapply (entails_of_eq (slotFP_eq c 3 f).symm); iexact H3
theorem ring_join :
    iprop((∃ f, slotFP c 0 f) ∗ (∃ f, slotFP c 1 f) ∗ (∃ f, slotFP c 2 f) ∗ ∃ f, slotFP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) SF SF_disjoint SF_cover f0)
  irw [bigSep_fin4]
  isplitl [H0]; · iexists f0; iapply (entails_of_eq (slotFP_eq c 0 f0)); iexact H0
  isplitl [H1]; · iexists f1; iapply (entails_of_eq (slotFP_eq c 1 f1)); iexact H1
  isplitl [H2]; · iexists f2; iapply (entails_of_eq (slotFP_eq c 2 f2)); iexact H2
  iexists f3; iapply (entails_of_eq (slotFP_eq c 3 f3)); iexact H3
omit [FloatOps F] in
theorem toks4 {ℓ : Loc nD τ sig} (f : Buf (Elt F) ℓ) :
    (ℓ ↦{fullShare} f : sProp 𝕄) ⊣⊢ iprop((ℓ ↦{Transfers.shareDrop fullShare 4} f) ∗ (ℓ ↦{qs 0} f) ∗ (ℓ ↦{qs 1} f) ∗ (ℓ ↦{qs 2} f) ∗ (ℓ ↦{qs 3} f)) := by
  have h := Transfers.pointsTo_toks (Ix := Unit) (Name := ℕ) (U := UU nD τ) (Lvl := ℕ) (ℓ := ℓ) (S := Finset.univ) (f := f) fullShare 4
  rw [bigSep_fin4] at h
  exact h

/-- The weight's share no slot carries. -/
def remW : sProp 𝕄 := wM.view.loc (c : Thread nD τ) ↦{Transfers.shareDrop fullShare 4} X
/-- The weight whole. -/
def wholeW : sProp 𝕄 := wM.view.loc (c : Thread nD τ) ↦{fullShare} X

omit [FloatOps F] in
theorem vecP_whole (b : Ref sig .tc) (f : Buf (Elt F) ((c : Thread nD τ).loc b)) :
    (vecP c (Memref.whole b) f : sProp 𝕄) = (((c : Thread nD τ).loc b) ↦{fullShare} f) :=
  congrArg (fun S => (_ ↦[S]{fullShare} f : sProp 𝕄)) (View.set_whole _)
theorem vecP_in (b : Ref sig .tc) :
    iprop(∃ f : Buf (Elt F) ((c : Thread nD τ).loc b), ((c : Thread nD τ).loc b) ↦{fullShare} f) ⊢ (iprop(∃ f, vecP c (Memref.whole b) f) : sProp 𝕄) := by
  iintro ⟨%f, H⟩; iexists f; iapply (entails_of_eq (vecP_whole c b f).symm); iexact H
theorem vecP_out (b : Ref sig .tc) :
    iprop(∃ f, vecP c (Memref.whole b) f) ⊢ (iprop(∃ f : Buf (Elt F) ((c : Thread nD τ).loc b), ((c : Thread nD τ).loc b) ↦{fullShare} f) : sProp 𝕄) := by
  iintro ⟨%f, H⟩; iexists f; iapply (entails_of_eq (vecP_whole c b f)); iexact H

/-- What the body holds beside its operands and result, the same at its entry and at its exit. -/
def core : sProp 𝕄 :=
  iprop(remW c X ∗ freeSlot c X 0 ∗ freeSlot c X 1 ∗ freeSlot c X 2 ∗ freeSlot c X 3 ∗ cellX c 1 ∗ cellX c 2 ∗ (cellX c 0 ∗ cellX c 3 ∗ cellX c 4)
    ∗ (∃ f, vecP c kcM f) ∗ (∃ f, vecP c vcM f) ∗ (∃ f, vecP c hM f) ∗ (∃ f, vecP c cosM f) ∗ (∃ f, vecP c sinM f))

theorem core_in : iprop(wholeW c X ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) ⊢ (core c X : sProp 𝕄) := by
  rw [ownSems0_eq, scopedRest0_eq]
  unfold wholeW core remW freeSlot
  iintro ⟨Ho, ⟨Hc0, Hc1, Hc2, Hc3, HX0, Hd1, Hd2, HX3⟩, Hr, Hkc, Hvc, Hhm, Hcm, Hsm⟩
  ihave Ho := (toks4 X).1 $$ Ho
  icases Ho with ⟨HoR, Ho0, Ho1, Ho2, Ho3⟩
  ihave Hr := (ring_split c) $$ Hr
  icases Hr with ⟨Hr0, Hr1, Hr2, Hr3⟩
  isplitl [HoR]; · iexact HoR
  isplitl [Hc0 Hr0 Ho0]
  · isplitl [Hc0]; · iexact Hc0
    isplitl [Hr0]; · iexact Hr0
    iexact Ho0
  isplitl [Hc1 Hr1 Ho1]
  · isplitl [Hc1]; · iexact Hc1
    isplitl [Hr1]; · iexact Hr1
    iexact Ho1
  isplitl [Hc2 Hr2 Ho2]
  · isplitl [Hc2]; · iexact Hc2
    isplitl [Hr2]; · iexact Hr2
    iexact Ho2
  isplitl [Hc3 Hr3 Ho3]
  · isplitl [Hc3]; · iexact Hc3
    isplitl [Hr3]; · iexact Hr3
    iexact Ho3
  isplitl [Hd1]; · iexact Hd1
  isplitl [Hd2]; · iexact Hd2
  isplitl [HX0 HX3]
  · isplitl [HX0]; · iexact HX0
    iexact HX3
  isplitl [Hkc]; · iapply (vecP_in c cc0_scratch1); iexact Hkc
  isplitl [Hvc]; · iapply (vecP_in c cc0_scratch2); iexact Hvc
  isplitl [Hhm]; · iapply (vecP_in c cc0_scoped0); iexact Hhm
  isplitl [Hcm]; · iapply (vecP_in c cc0_scoped1); iexact Hcm
  iapply (vecP_in c cc0_scoped2); iexact Hsm

theorem core_out : (core c X : sProp 𝕄) ⊢ iprop(wholeW c X ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) := by
  rw [ownSems0_eq, scopedRest0_eq]
  unfold wholeW core remW freeSlot
  iintro ⟨HoR, ⟨Hc0, Hr0, Ho0⟩, ⟨Hc1, Hr1, Ho1⟩, ⟨Hc2, Hr2, Ho2⟩, ⟨Hc3, Hr3, Ho3⟩, Hd1, Hd2, ⟨HX0, HX3⟩, Hkc, Hvc, Hhm, Hcm, Hsm⟩
  isplitl [HoR Ho0 Ho1 Ho2 Ho3]
  · iapply (toks4 X).2
    isplitl [HoR]; · iexact HoR
    isplitl [Ho0]; · iexact Ho0
    isplitl [Ho1]; · iexact Ho1
    isplitl [Ho2]; · iexact Ho2
    iexact Ho3
  isplitl [Hc0 Hc1 Hc2 Hc3 HX0 Hd1 Hd2 HX3]
  · isplitl [Hc0]; · iexact Hc0
    isplitl [Hc1]; · iexact Hc1
    isplitl [Hc2]; · iexact Hc2
    isplitl [Hc3]; · iexact Hc3
    isplitl [HX0]; · iexact HX0
    isplitl [Hd1]; · iexact Hd1
    isplitl [Hd2]; · iexact Hd2
    iexact HX3
  isplitl [Hr0 Hr1 Hr2 Hr3]
  · iapply (ring_join c)
    isplitl [Hr0]; · iexact Hr0
    isplitl [Hr1]; · iexact Hr1
    isplitl [Hr2]; · iexact Hr2
    iexact Hr3
  isplitl [Hkc]; · iapply (vecP_out c cc0_scratch1); iexact Hkc
  isplitl [Hvc]; · iapply (vecP_out c cc0_scratch2); iexact Hvc
  isplitl [Hhm]; · iapply (vecP_out c cc0_scoped0); iexact Hhm
  isplitl [Hcm]; · iapply (vecP_out c cc0_scoped1); iexact Hcm
  iapply (vecP_out c cc0_scoped2); iexact Hsm

end Splits

section Launch
variable (m : (ℓ : Loc nD τ sig) → Buf (Elt F) ℓ) (ρ : Dev nD → PrngReg)

/-- The weight as the region finds it. -/
def wts (c : Dev nD) : Buf (Elt F) (wM.view.loc (c : Thread nD τ)) := V m c main_arg3

abbrev st0 (t : Fin cfg0.N) : Memref sig .tc .vmem S256x5120 .bf16 := win0_0.stage (cfg0.slots t 0)
abbrev st1 (t : Fin cfg0.N) : Memref sig .tc .vmem S256x1 .i32 := win0_1.stage (cfg0.slots t 1)
abbrev st2 (t : Fin cfg0.N) : Memref sig .tc .vmem S1x128 .f32 := win0_2.stage (cfg0.slots t 2)
abbrev st3 (t : Fin cfg0.N) : Memref sig .tc .vmem S40x128 .f32 := win0_3.stage (cfg0.slots t 3)
abbrev st4 (t : Fin cfg0.N) : Memref sig .tc .vmem S48x128 .f32 := win0_4.stage (cfg0.slots t 4)
abbrev st5 (t : Fin cfg0.N) : Memref sig .tc .vmem S256x8 .f32 := win0_5.stage (cfg0.slots t 5)
abbrev st6 (t : Fin cfg0.N) : Memref sig .tc .vmem S256x8 .f32 := win0_6.stage (cfg0.slots t 6)

abbrev in0 (c : Dev nD) : Buf (Elt F) ((st0 t0_0).view.loc (c : Thread nD τ)) := (st0 t0_0).view.rep (iblk m c 0 t0_0)
abbrev in1 (c : Dev nD) : Buf (Elt F) ((st1 t0_0).view.loc (c : Thread nD τ)) := (st1 t0_0).view.rep (iblk m c 1 t0_0)
abbrev in2 (c : Dev nD) : Buf (Elt F) ((st2 t0_0).view.loc (c : Thread nD τ)) := (st2 t0_0).view.rep (iblk m c 2 t0_0)
abbrev in3 (c : Dev nD) : Buf (Elt F) ((st3 t0_0).view.loc (c : Thread nD τ)) := (st3 t0_0).view.rep (iblk m c 3 t0_0)
abbrev in4 (c : Dev nD) : Buf (Elt F) ((st4 t0_0).view.loc (c : Thread nD τ)) := (st4 t0_0).view.rep (iblk m c 4 t0_0)
abbrev in5 (c : Dev nD) : Buf (Elt F) ((st5 t0_0).view.loc (c : Thread nD τ)) := (st5 t0_0).view.rep (iblk m c 5 t0_0)
abbrev in6 (c : Dev nD) : Buf (Elt F) ((st6 t0_0).view.loc (c : Thread nD τ)) := (st6 t0_0).view.rep (iblk m c 6 t0_0)

/-- The results, as functions of the arguments and of what the scratch buffers held at first. -/
def outK (c : Dev nD) (H0 : Buf (Elt F) (hM.view.loc (c : Thread nD τ))) (K0 : Buf (Elt F) (kcM.view.loc (c : Thread nD τ))) : Buf (Elt F) ((c : Thread nD τ).loc main_v13_0) :=
  koM.view.writes (Elt F) koM.view.junk [⟨Rect.whole S256x8x128, ReadAs.same.apply (kcM.view.read (Elt F)
    (vK c (st0 t0_0) (st1 t0_0) (st2 t0_0) (st3 t0_0) (st4 t0_0) (st5 t0_0) hM cosM sinM (wts m c) (in0 m c) (in1 m c) (in2 m c) (in3 m c) (in4 m c) (in5 m c) H0 K0))⟩]
def outV (c : Dev nD) (H0 : Buf (Elt F) (hM.view.loc (c : Thread nD τ))) (V0 : Buf (Elt F) (vcM.view.loc (c : Thread nD τ))) : Buf (Elt F) ((c : Thread nD τ).loc main_v13_1) :=
  voM.view.writes (Elt F) voM.view.junk [⟨Rect.whole S256x8x128, ReadAs.same.apply (vcM.view.read (Elt F)
    (vV c (st0 t0_0) (st3 t0_0) (st4 t0_0) (st6 t0_0) hM (wts m c) (in0 m c) (in3 m c) (in4 m c) (in6 m c) H0 V0))⟩]

/-! ## The pipeline's proof data -/

def before (c : Dev nD) : sProp 𝕄 := iprop((∃ f, vecP c koM f) ∗ (∃ f, vecP c voM f))
def done (c : Dev nD) : sProp 𝕄 := iprop(∃ H0 K0 V0, vecP c koM (outK m c H0 K0) ∗ vecP c voM (outV m c H0 V0))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := match t with
    | ⟨0, _⟩ => iprop(core c (wts m c) ∗ before c)
    | ⟨_ + 1, _⟩ => iprop(core c (wts m c) ∗ done m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0)
        hM (Memref.isWhole_whole _) cosM (Memref.isWhole_whole _) sinM (Memref.isWhole_whole _) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) (st4 t) (hstage0_4 0) (st5 t) (hstage0_5 0) (st6 t) (hstage0_6 0)
        hM (Memref.isWhole_whole _) cosM (Memref.isWhole_whole _) sinM (Memref.isWhole_whole _) :=
  (congrFun defs_tc _).trans rfl

set_option maxHeartbeats 1000000 in
set_option backward.isDefEq.respectTransparency.types false in
theorem body_obligation (c : Dev nD) : BodyObligation (dats (F := F) m 0 c) (defs₀ (F := F)) 𝒱₀ () Set.univ := fun t => by
  rw [show t = t0_0 from fin_N0 t]
  rw [bigSep_W0, bigSep_W0]
  dsimp only
  simp only [before_w0, before_w1, before_w2, before_w3, before_w4, before_w5, before_w6, after_w0, after_w1, after_w2, after_w3, after_w4, after_w5, after_w6]
  rw [show (dats m 0 c).Φ (Fin.castSucc t0_0) = iprop(core c (wts m c) ∗ before c) from rfl, show (dats m 0 c).Φ (Fin.succ t0_0) = iprop(core c (wts m c) ∗ done m c) from rfl]
  unfold Dat.owesAt Pipeline.owesWithin
  rw [show (dats m 0 c).owed (Fin.castSucc t0_0) = 0 from rfl, show (dats m 0 c).owed (Fin.succ t0_0) = 0 from rfl]
  unfold owns core before done
  iintro ⟨⟨⟨HR, Hs0, Hs1, Hs2, Hs3, Hd1, Hd2, HX, ⟨%K0, Hkc⟩, ⟨%V0, Hvc⟩, ⟨%H0, Hhm⟩, ⟨%C0, Hcm⟩, ⟨%S0, Hsm⟩⟩, ⟨%OK0, Hko⟩, ⟨%OV0, Hvo⟩⟩, ⟨%W, -, HW⟩,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩⟩
  ihave H0 := (pointsTo_rep_entails (c : Thread nD τ) (st0 t0_0) g0 fullShare) $$ H0
  ihave H1 := (pointsTo_rep_entails (c : Thread nD τ) (st1 t0_0) g1 fullShare) $$ H1
  ihave H2 := (pointsTo_rep_entails (c : Thread nD τ) (st2 t0_0) g2 fullShare) $$ H2
  ihave H3 := (pointsTo_rep_entails (c : Thread nD τ) (st3 t0_0) g3 fullShare) $$ H3
  ihave H4 := (pointsTo_rep_entails (c : Thread nD τ) (st4 t0_0) g4 fullShare) $$ H4
  ihave H5 := (pointsTo_rep_entails (c : Thread nD τ) (st5 t0_0) g5 fullShare) $$ H5
  ihave H6 := (pointsTo_rep_entails (c : Thread nD τ) (st6 t0_0) g6 fullShare) $$ H6
  rw [hg0, hg1, hg2, hg3, hg4, hg5, hg6]
  sl_rw [prog_eq t0_0]
  iapply (wp_wand_r Idealize.ShloMosaic.frame (wpE (defs₀ (F := F)) 𝒱₀ (c : Thread nD τ) none) Set.univ)
  isplitl [H0 H1 H2 H3 H4 H5 H6 Hko Hvo Hkc Hvc Hhm Hcm Hsm HW Hs0 Hs1 Hs2 Hs3 Hd1 Hd2]
  · iapply (bodyRun c (st0 t0_0) (hstage0_0 0) (st1 t0_0) (hstage0_1 0) (st2 t0_0) (hstage0_2 0) (st3 t0_0) (hstage0_3 0) (st4 t0_0) (hstage0_4 0) (st5 t0_0) (hstage0_5 0) (st6 t0_0) (hstage0_6 0)
      hM (Memref.isWhole_whole _) cosM (Memref.isWhole_whole _) sinM (Memref.isWhole_whole _)
      (wts m c) (in0 m c) (in1 m c) (in2 m c) (in3 m c) (in4 m c) (in5 m c) (in6 m c) H0 C0 S0 K0 V0 OK0 OV0)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hko]; · iexact Hko
    isplitl [Hvo]; · iexact Hvo
    isplitl [Hkc]; · iexact Hkc
    isplitl [Hvc]; · iexact Hvc
    isplitl [Hhm]; · iexact Hhm
    isplitl [Hcm]; · iexact Hcm
    isplitl [Hsm]; · iexact Hsm
    isplitl [HW]; · iexists W; iexact HW
    isplitl [Hs0]; · iexact Hs0
    isplitl [Hs1]; · iexact Hs1
    isplitl [Hs2]; · iexact Hs2
    isplitl [Hs3]; · iexact Hs3
    isplitl [Hd1]; · iexact Hd1
    iexact Hd2
  · iintro %_ ⟨H0, H1, H2, H3, H4, H5, H6, Hko, Hvo, Hkc, Hvc, Hhm, Hcm, Hsm, ⟨%W', HW⟩, Hs0, Hs1, Hs2, Hs3, Hd1, Hd2⟩
    isplitl [HR HX Hko Hvo Hkc Hvc Hhm Hcm Hsm Hs0 Hs1 Hs2 Hs3 Hd1 Hd2]
    · isplitl [HR HX Hkc Hvc Hhm Hcm Hsm Hs0 Hs1 Hs2 Hs3 Hd1 Hd2]
      · isplitl [HR]; · iexact HR
        isplitl [Hs0]; · iexact Hs0
        isplitl [Hs1]; · iexact Hs1
        isplitl [Hs2]; · iexact Hs2
        isplitl [Hs3]; · iexact Hs3
        isplitl [Hd1]; · iexact Hd1
        isplitl [Hd2]; · iexact Hd2
        isplitl [HX]; · iexact HX
        isplitl [Hkc]; · iexact Hkc
        isplitl [Hvc]; · iexact Hvc
        isplitl [Hhm]; · iexact Hhm
        isplitl [Hcm]; · iexact Hcm
        iexact Hsm
      iexists H0; iexists K0; iexists V0
      isplitl [Hko]; · unfold outK; iexact Hko
      unfold outV; iexact Hvo
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    iexists _; isplitr; · ipureintro; exact View.read_rep _ _
    iexact H6

/-! ## The run -/

def restZ (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg4) ↦{fullShare} V m c main_arg4))
def intoΦ (c : Dev nD) : sProp 𝕄 :=
  iprop(wholeW c (wts m c) ∗ Pipeline.ownSems0 (Ix := Unit) (Name := ℕ) (U := UU nD τ) (Lvl := ℕ) (Val := Elt F) (τ := τ) osem c
    ∗ (((c : Thread nD τ).loc main_v13_0) ↦{fullShare} V m c main_v13_0) ∗ (((c : Thread nD τ).loc main_v13_1) ↦{fullShare} V m c main_v13_1))
def outOfΦ (c : Dev nD) : sProp 𝕄 := iprop(wholeW c (wts m c) ∗ done m c)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
/-- What the run leaves beside the staged arrays. -/
def QY (c : Dev nD) (s : MemSt nD τ sig (Elt F)) : Prop :=
  (s.mem ((c : Thread nD τ).loc main_arg1) = V m c main_arg1 ∧ s.mem ((c : Thread nD τ).loc main_arg2) = V m c main_arg2 ∧ s.mem ((c : Thread nD τ).loc main_arg4) = V m c main_arg4)
  ∧ s.mem ((c : Thread nD τ).loc main_arg3) = V m c main_arg3
  ∧ ∃ H0 K0 V0, s.mem ((c : Thread nD τ).loc main_v13_0) = outK m c H0 K0 ∧ s.mem ((c : Thread nD τ).loc main_v13_1) = outV m c H0 V0
def QC : PUnit × MemSt nD τ sig (Elt F) → Prop := fun r =>
  ∀ c : Dev nD, (∀ w : Fin cfg0.W, r.2.mem ((cfg0.win w).arr.view.loc (c : Thread nD τ)) = finalA m c w) ∧ QY m c r.2

theorem hin (c : Dev nD) : iprop(intoΦ m c ∗ Pipeline.scopedRest (Ix := Unit) (Name := ℕ) (U := UU nD τ) (Lvl := ℕ) (Val := Elt F) spec0 c)
    ⊢ (iprop(core c (wts m c) ∗ before c) : sProp 𝕄) := by
  unfold intoΦ before
  iintro ⟨⟨HW, HS, Ho, Ho2⟩, HR⟩
  isplitl [HW HS HR]
  · iapply (core_in c (wts m c))
    isplitl [HW]; · iexact HW
    isplitl [HS]; · iexact HS
    iexact HR
  isplitl [Ho]; · iapply (vecP_in c main_v13_0); iexists _; iexact Ho
  iapply (vecP_in c main_v13_1); iexists _; iexact Ho2
theorem hout (c : Dev nD) : (iprop(core c (wts m c) ∗ done m c) : sProp 𝕄)
    ⊢ iprop(outOfΦ m c ∗ Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) spec0 c) := by
  unfold outOfΦ
  iintro ⟨HC, HD⟩
  ihave HC := (core_out c (wts m c)) $$ HC
  icases HC with ⟨HW, HS, HR⟩
  isplitl [HW HD]
  · isplitl [HW]; · iexact HW
    iexact HD
  isplitl [HS]; · iexact HS
  iexact HR
theorem hX (c : Dev nD) : iprop(Pipeline.unscopedRest (Ix := Unit) (Name := ℕ) (U := UU nD τ) (Lvl := ℕ) spec0 c (V m c)
      ∗ Pipeline.ownSems0 (Ix := Unit) (Name := ℕ) (U := UU nD τ) (Lvl := ℕ) (Val := Elt F) (τ := τ) osem c)
    ⊢ (iprop(intoΦ m c ∗ restZ m c) : sProp 𝕄) := by
  rw [unscopedRest0_eq]
  unfold intoΦ restZ wholeW wts
  iintro ⟨⟨H1, H2, H3, H4, -, -, -, -, -, -, -, -, -, -, -, -, Ho, Ho2⟩, HS⟩
  isplitl [H3 Ho Ho2 HS]
  · isplitl [H3]; · iexact H3
    isplitl [HS]; · iexact HS
    isplitl [Ho]; · iexact Ho
    iexact Ho2
  isplitl [H1]; · iexact H1
  isplitl [H2]; · iexact H2
  iexact H4
theorem hY (c : Dev nD) (s' : Phys nD τ sig (Elt F)) : iprop(outOfΦ m c ∗ restZ m c ∗ SI (Ix := Unit) (Name := ℕ) (U := UU nD τ) (Lvl := ℕ) s')
    ⊢ (iprop(⌜QY m c s'.mem⌝ ∗ SI (Ix := Unit) (Name := ℕ) (U := UU nD τ) (Lvl := ℕ) s') : sProp 𝕄) := by
  unfold outOfΦ restZ wholeW done wts
  iintro ⟨⟨H3, ⟨%H0, %K0, %V0, Ho, Ho2⟩⟩, ⟨H1, H2, H4⟩, HSI⟩
  ihave Ho := (entails_of_eq (vecP_whole c main_v13_0 _)) $$ Ho
  ihave Ho2 := (entails_of_eq (vecP_whole c main_v13_1 _)) $$ Ho2
  icombine HSI H1 gives %h1
  icombine HSI H2 gives %h2
  icombine HSI H3 gives %h3
  icombine HSI H4 gives %h4
  icombine HSI Ho gives %ho
  icombine HSI Ho2 gives %ho2
  isplitr
  · ipureintro
    exact ⟨⟨Buf.eq_of_forall_mem_univ h1, Buf.eq_of_forall_mem_univ h2, Buf.eq_of_forall_mem_univ h4⟩, Buf.eq_of_forall_mem_univ h3,
      H0, K0, V0, Buf.eq_of_forall_mem_univ ho, Buf.eq_of_forall_mem_univ ho2⟩
  iexact HSI

set_option maxHeartbeats 1000000 in
set_option backward.isDefEq.respectTransparency.types false in
/-- For any float values, from any memory with zero counters: every weakly fair execution of @main on the TensorCores
    terminates, and every final state has the arguments as launched, the result at the computed contents and every
    semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := restZ m)
    (hX := fun c => by
      iintro ⟨HU, HS, -, -, -⟩; imodintro
      iapply (hX m c)
      isplitl [HU]; · iexact HU
      iexact HS)
    (hin := fun c => hin m c)
    (hout := fun c => hout m c)
    (QY := QY m)
    (hY := fun c s' => by
      iintro H; imodintro
      iapply (hY m c s'); iexact H)
    (hQ := fun _ hh hz => ⟨hh, hz⟩)

theorem finalA_in (c : Dev nD) (w : Fin cfg0.W) (hw : (cfg0.win w).isOut = false) : finalA m c w = V m c (Pipeline.arrRef spec0 w) :=
  (dats (F := F) m 0 c).arrAt_in w hw _

/-- Every argument ends as launched. -/
theorem args_kept (c : Dev nD) (r : PUnit × MemSt nD τ sig (Elt F)) (h : QC m r) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) := by
  obtain ⟨h0, ⟨h1, h2, h4⟩, h3, -⟩ := h c
  exact ⟨((h0 0).trans (finalA_in m c 0 rfl)).trans (V_main_arg0 m c), h1.trans (V_main_arg1 m c), h2.trans (V_main_arg2 m c), h3.trans (V_main_arg3 m c), h4.trans (V_main_arg4 m c), ((h0 5).trans (finalA_in m c 5 rfl)).trans (V_main_arg5 m c), ((h0 6).trans (finalA_in m c 6 rfl)).trans (V_main_arg6 m c)⟩

/-- The frame claim, for any float values. -/
theorem frame : θ_run defs (onTc (τ := τ) (main (F := F))) (s₀ m ρ) (fun r => (∀ c : Dev nD,
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6)) ∧ r.2.sem = fun _ => 0) :=
  (θ_run defs _ _).mono (fun r hh => ⟨fun c => args_kept m c r hh.1, hh.2⟩) (run_main m ρ)

end Launch

end Cert.Proof.Codes

end
-- ==== Proof.CFrames.lean ====
/- The three frames of the cache codes. The kernel and the kernel taken at ideal values are one program. -/
module

public import proofs.«01_k».proof.Defs
public import proofs.«01_k».proof.Proof.CLaunch
public import proofs.«01_k».proof.Proof.Gen.CKernel
public import proofs.«01_k».proof.Proof.Gen.CKernel.Frame
public import proofs.«01_k».proof.Proof.Gen.CReferenceIdeal.Frame
public import Idealize.ShloMosaic.Lib.Tactic

@[expose] public section

noncomputable section

namespace Cert.Proof.Codes

open Idealize.ShloMosaic Idealize.ShloMosaic.TcCoe Idealize.ShloMosaic.Tactic
open Idealize.SL.Sem

variable {F : FTy → Type} [FloatOps F]

theorem main_eq : Cert.CKernel.main (F := F) = Cert.CKernelIdeal.main (F := F) := by sl_kernel_rfl
theorem defs_eq : Cert.CKernel.defs (F := F) = Cert.CKernelIdeal.defs (F := F) := by sl_kernel_rfl

theorem frame_kernel : Cert.quiescent_CKernel := fun m ρ _ => by
  have h := frame (F := Bits) m ρ
  rw [← main_eq, ← defs_eq] at h
  exact h
theorem frame_kernelIdeal : Cert.quiescent_CKernelIdeal := fun m ρ _ => frame (F := Ideal) m ρ
theorem frame_referenceIdeal : Cert.quiescent_CReferenceIdeal := fun m ρ _ => Cert.CReferenceIdeal.Gen.frame m ρ

end Cert.Proof.Codes

end
-- ==== Proof.CValPay.lean ====
module

public import proofs.«01_k».proof.Proof.CLaunch
public import Idealize.ShloMosaic.Lib.Pointwise
public import Idealize.ShloMosaic.Lib.KernelVsHost

@[expose] public section

set_option maxRecDepth 16384

noncomputable section

/-! # The cache codes' stored values at an index, over the extended reals -/

namespace Cert.Proof.Codes

open Cert.CKernelIdeal Cert.CKernelIdeal.Gen
open Idealize.ShloMosaic

/-- The lane 64 places on, around the head. -/
abbrev opp (l : Fin 128) : Fin 128 := ⟨(l.val + 128 - 64) % 128, Nat.mod_lt _ (by decide)⟩

theorem rot_at (y : FVec Ideal S256x128 .f32) (h : S256x128.Rotates 1 none) (i : Fin 256) (l : Fin 128) :
    dynamicRotate 1 64#32 none y h (ix2 i l) = y (ix2 i (opp l)) :=
  dynamicRotate_apply 1 64#32 y h (ix2 i l) (ix2 i (opp l)) fun b => by
    fin_cases b <;> rfl

theorem pay62_at (H : Vec Ideal S256x5120 .bf16) (W : Vec Ideal S1x5120x512 .fp8e4m3) (i : Fin 256) (j : Fin 512) :
    k0_pay62 H W (ix2 i j) = ∑ t : Fin 5120, H (ix2 i t) * W (ix3 0 t j) := by
  pointwise [k0_pay62]

/-! ## A head's codes -/

section Heads
variable {F : FTy → Type} [FloatOps F]
theorem slices_head (r : Fin 4) : S256x512.Slices ![0, 128 * r.val] S256x128 := by
  revert r; decide
/-- A head's 128 columns, scaled. -/
def scaled (Y : FVec F S256x512 .f32) (s : Vec F S1x128 .f32) (r : Fin 4) : FVec F S256x128 .f32 :=
  mulf (extractStridedSlice S256x128 ![0, 128 * r.val] Y (slices_head r)) (broadcastTo S256x128 (shapeCast S1x128 s shapeCasts_S1x128_S1x128) broadcasts_S1x128_S256x128)
/-- The rotation of a head. -/
def rope (t C S : FVec F S256x128 .f32) : FVec F S256x128 .f32 := addf (mulf t C) (mulf (dynamicRotate 1 64#32 none t rotates_S256x128_d1) S)
/-- The codes of a head at its scales. -/
def code (t : FVec F S256x128 .f32) (k : Vec F S256x1 .f32) : FVec F S256x128 .fp8e4m3 :=
  truncf .fp8e4m3 (minimumf (broadcast S256x128 (Scalar.ofBits .f32 0x43E00000#32)) (maximumf (broadcast S256x128 (Scalar.ofBits .f32 0xC3E00000#32))
    (mulf t (broadcastTo S256x128 (divf (broadcast S256x1 (Scalar.ofBits .f32 0x3F800000#32)) k) broadcasts_S256x1_S256x128)))) bitsLt_fp8e4m3_f32
/-- Four heads' codes, side by side. -/
def quad (a : Fin 4 → FVec F S256x128 .fp8e4m3) : FVec F S256x4x128 .fp8e4m3 :=
  shapeCast S256x4x128 (concatenate S256x4x128 1
    [⟨S256x1x128, shapeCast S256x1x128 (a 0) shapeCasts_S256x128_S256x1x128⟩, ⟨S256x1x128, shapeCast S256x1x128 (a 1) shapeCasts_S256x128_S256x1x128⟩,
     ⟨S256x1x128, shapeCast S256x1x128 (a 2) shapeCasts_S256x128_S256x1x128⟩, ⟨S256x1x128, shapeCast S256x1x128 (a 3) shapeCasts_S256x128_S256x1x128⟩]
    concatenates_S256x1x128_S256x1x128_S256x1x128_S256x1x128_S256x4x128_d1) shapeCasts_S256x4x128_S256x4x128
end Heads

/-- A value's code at a scale. -/
def cd (t k : EReal) : EReal :=
  min (Ideal.ofBits .f32 0x43E00000#32) (max (Ideal.ofBits .f32 0xC3E00000#32) (t * Ideal.div (Ideal.ofBits .f32 0x3F800000#32) k))

variable (i : Fin 256) (l : Fin 128)
theorem scaled_at (Y : FVec Ideal S256x512 .f32) (s : Vec Ideal S1x128 .f32) (r : Fin 4) : scaled Y s r (ix2 i l) = Y (ix2 i ⟨128 * r.val + l.val, by omega⟩) * s (ix2 0 l) := by
  pointwise [scaled]
theorem rope_at (t C S : FVec Ideal S256x128 .f32) : rope t C S (ix2 i l) = t (ix2 i l) * C (ix2 i l) + t (ix2 i (opp l)) * S (ix2 i l) := by
  pointwise [rope, rot_at]
theorem code_at (t : FVec Ideal S256x128 .f32) (k : Vec Ideal S256x1 .f32) : code t k (ix2 i l) = cd (t (ix2 i l)) (k (ix2 i 0)) := by
  unfold cd
  pointwise [code]
theorem quad_at (a : Fin 4 → FVec Ideal S256x128 .fp8e4m3) (e : Fin 4) : quad a (ix3 i e l) = a e (ix2 i l) := by
  fin_cases e
  · pointwise [quad]
  · pointwise [quad]
  · pointwise [quad]
  · pointwise [quad]

theorem pay59_at (p : Vec Ideal S256x1 .i32) (v : Vec Ideal S1x128 .f32) : k0_pay59 p v (ix2 i l) = FloatOps.sitofp (F := Ideal) .f32 (p (ix2 i 0)) * v (ix2 0 l) := by
  pointwise [k0_pay59]
theorem pay60_at (p : Vec Ideal S256x1 .i32) (v : Vec Ideal S1x128 .f32) : k0_pay60 p v (ix2 i l) = Ideal.cos (k0_pay59 p v (ix2 i l)) := by
  pointwise [k0_pay60]
theorem pay61_at (a : FVec Ideal S256x128 .f32) : k0_pay61 a (iota .tc S256x128 32 [1] iota_S256x128_d1_w32) (ix2 i l)
    = if l.val < 64 then 0 - Ideal.sin (a (ix2 i l)) else Ideal.sin (a (ix2 i l)) := by
  pointwise [k0_pay61]
  have e : IntOp.cmpi .slt (BitVec.ofNat 32 l.val) 64#32 = if l.val < 64 then 1#1 else 0#1 := by
    revert l; decide
  rw [e]
  split <;> rfl

/-! ## The norm -/

/-- A row's square at a lane of stripe `q`. -/
def sqx (x : Fin 40 → Vec Ideal S32x128 .bf16) (i : Fin 32) (l : Fin 128) (q : ℕ) : EReal :=
  x ⟨q % 40, Nat.mod_lt _ (by decide)⟩ (ix2 i l) * x ⟨q % 40, Nat.mod_lt _ (by decide)⟩ (ix2 i l)

section Norm
variable (x : Fin 40 → Vec Ideal S32x128 .bf16) (i : Fin 32) (l : Fin 128) (y : FVec Ideal S32x128 .f32)
theorem pay1_at : k0_pay1 (x 0) (x 1) (x 2) (x 3) (x 4) (x 5) (ix2 i l) = ∑ q ∈ Finset.range 6, sqx x i l q := by
  pointwise [k0_pay1]
  simp only [Finset.sum_range_succ, Finset.sum_range_zero, zero_add]
  rfl
theorem pay2_at (h : y (ix2 i l) = ∑ q ∈ Finset.range 6, sqx x i l q) :
    k0_pay2 y (x 6) (x 7) (x 8) (x 9) (x 10) (x 11) (ix2 i l) = ∑ q ∈ Finset.range 12, sqx x i l q := by
  pointwise [k0_pay2]
  rw [h]
  simp only [Finset.sum_range_succ]
  rfl
theorem pay3_at (h : y (ix2 i l) = ∑ q ∈ Finset.range 12, sqx x i l q) :
    k0_pay3 y (x 12) (x 13) (x 14) (x 15) (x 16) (x 17) (x 18) (ix2 i l) = ∑ q ∈ Finset.range 19, sqx x i l q := by
  pointwise [k0_pay3]
  rw [h]
  simp only [Finset.sum_range_succ]
  rfl
theorem pay4_at (h : y (ix2 i l) = ∑ q ∈ Finset.range 19, sqx x i l q) :
    k0_pay4 y (x 19) (x 20) (x 21) (x 22) (x 23) (x 24) (x 25) (ix2 i l) = ∑ q ∈ Finset.range 26, sqx x i l q := by
  pointwise [k0_pay4]
  rw [h]
  simp only [Finset.sum_range_succ]
  rfl
theorem pay5_at (h : y (ix2 i l) = ∑ q ∈ Finset.range 26, sqx x i l q) :
    k0_pay5 y (x 26) (x 27) (x 28) (x 29) (x 30) (x 31) (ix2 i l) = ∑ q ∈ Finset.range 32, sqx x i l q := by
  pointwise [k0_pay5]
  rw [h]
  simp only [Finset.sum_range_succ]
  rfl
theorem pay6_at (h : y (ix2 i l) = ∑ q ∈ Finset.range 32, sqx x i l q) :
    k0_pay6 y (x 32) (x 33) (x 34) (x 35) (x 36) (x 37) (x 38) (ix2 i l) = ∑ q ∈ Finset.range 39, sqx x i l q := by
  pointwise [k0_pay6]
  rw [h]
  simp only [Finset.sum_range_succ]
  rfl
theorem pay7_at (h : ∀ l, y (ix2 i l) = ∑ q ∈ Finset.range 39, sqx x i l q) :
    k0_pay7 y (x 39) (ix2 i 0) = Ideal.rsqrt (Ideal.div (∑ l : Fin 128, ∑ q : Fin 40, x q (ix2 i l) * x q (ix2 i l)) (Ideal.ofBits .f32 0x45A00000#32) + Ideal.ofBits .f32 0x3727C5AC#32) := by
  have e : ∀ l : Fin 128, (∑ q : Fin 40, x q (ix2 i l) * x q (ix2 i l)) = y (ix2 i l) + x 39 (ix2 i l) * x 39 (ix2 i l) := fun l => by
    rw [h l]
    refine (Eq.trans (Finset.sum_congr rfl fun q _ => ?_) (Finset.sum_range (fun q => sqx x i l q)).symm).trans (Finset.sum_range_succ _ 39)
    have hq : (⟨q.val % 40, Nat.mod_lt _ (by decide)⟩ : Fin 40) = q := Fin.ext (Nat.mod_eq_of_lt q.isLt)
    unfold sqx
    rw [hq]
  rw [Finset.sum_congr rfl fun l _ => e l]
  pointwise [k0_pay7]
theorem pay11_at (r : FVec Ideal S32x1 .f32) (v : Vec Ideal S32x128 .bf16) (g : Vec Ideal S1x128 .f32) : k0_pay11 r v g (ix2 i l) = v (ix2 i l) * r (ix2 i 0) * g (ix2 0 l) := by
  pointwise [k0_pay11]
end Norm

end Cert.Proof.Codes
-- ==== Proof.CVal.lean ====
module

public import proofs.«01_k».proof.Proof.CValPay

@[expose] public section

set_option maxRecDepth 16384

noncomputable section

/-! # The cache codes at a row, a head and a lane -/

namespace Cert.Proof.Codes

open Cert.CKernelIdeal Cert.CKernelIdeal.Gen
open Idealize.ShloMosaic
open Idealize.ShloMosaic.TcCoe

/-- The inverse frequency of a lane of a half head. -/
def freq (j : Fin 64) : EReal :=
  Ideal.pow (Ideal.ofBits .f32 0x48F42400#32) (Ideal.div (-(Ideal.ofBits .f32 0x40000000#32 * FloatOps.sitofp (F := Ideal) .f32 (BitVec.ofNat 32 j.val))) (Ideal.ofBits .f32 0x43000000#32))

/-- The operands, read at indices. -/
structure Ops where
  x : Fin 256 → Fin 5120 → EReal
  pos : Fin 256 → EReal
  inv : Fin 64 → EReal
  g : Fin 5120 → EReal
  w : Fin 5120 → Fin 2048 → EReal
  s : Fin 2048 → EReal
  ks : Fin 256 → Fin 8 → EReal
  vs : Fin 256 → Fin 8 → EReal

/-- Lane `l` of head `h` among the columns of the keys and, after them, the values. -/
abbrev lane (h : Fin 16) (l : Fin 128) : Fin 2048 := ⟨128 * h.val + l.val, by omega⟩

namespace Ops
variable (I : Ops)
/-- A row's sum of squares. -/
def sq (i : Fin 256) : EReal := ∑ J : Fin 5120, I.x i J * I.x i J
/-- The normalised rows. -/
def h1 (i : Fin 256) (J : Fin 5120) : EReal :=
  I.x i J * Ideal.rsqrt (Ideal.div (I.sq i) (Ideal.ofBits .f32 0x45A00000#32) + Ideal.ofBits .f32 0x3727C5AC#32) * I.g J
/-- The keys before the rotation, and the values. -/
def y (i : Fin 256) (n : Fin 2048) : EReal := (∑ t : Fin 5120, I.h1 i t * I.w t n) * I.s n
/-- The angle of a row's position at a lane. -/
def ang (i : Fin 256) (l : Fin 128) : EReal := I.pos i * I.inv ⟨l.val % 64, Nat.mod_lt _ (by decide)⟩
/-- The rotated keys. -/
def rk (i : Fin 256) (h : Fin 16) (l : Fin 128) : EReal :=
  I.y i (lane h l) * Ideal.cos (I.ang i l) + (if l.val < 64 then 0 - I.y i (lane h (opp l)) else I.y i (lane h (opp l))) * Ideal.sin (I.ang i l)
/-- The codes of the keys and of the values. -/
def kc (i : Fin 256) (h : Fin 8) (l : Fin 128) : EReal := cd (I.rk i ⟨h.val, by omega⟩ l) (I.ks i h)
def vc (i : Fin 256) (h : Fin 8) (l : Fin 128) : EReal := cd (I.y i (lane ⟨8 + h.val, by omega⟩ l)) (I.vs i h)
end Ops

section Reads
variable {F : FTy → Type} [FloatOps F]
/-- A load through a unit-stride rectangle, at an index. -/
theorem rd {sp : Space} {s : Shape} {e : EltTy} (M : Memref sig .tc sp s e) (c : Dev nD) (f : Buf (Elt F) (M.view.loc (c : Thread nD τ)))
    (off sz : Fin s.rank → ℕ) {off' : Fin s.rank → ℕ} (e : off = off') (hh : ∀ a, off a + sz a ≤ s.size a) (y : (Rect.unit (s := s) off sz hh).shape.Idx) (z : s.Idx)
    (h : ∀ a, (z a).val = off' a + (y a).val) :
    View.readAt (Elt F) M.view (Rect.unit (s := s) off sz hh).toLoadRect f y = M.view.read (Elt F) f z := by
  subst e
  rw [View.readAt_apply]
  refine congrArg _ (funext fun a => Fin.ext ?_)
  rw [h a]
  show off a + 1 * (y a).val = _
  omega
/-- Where a unit-stride rectangle puts an index. -/
theorem emb_unit {s : Shape} (off sz : Fin s.rank → ℕ) {off' : Fin s.rank → ℕ} (e : off = off') (hh : ∀ a, off a + sz a ≤ s.size a)
    (y : (Rect.unit (s := s) off sz hh).shape.Idx) (z : s.Idx) (h : ∀ a, (z a).val = off' a + (y a).val) : (Rect.unit (s := s) off sz hh).emb y = z := by
  subst e
  refine funext fun a => Fin.ext ?_
  rw [h a]
  show off a + 1 * (y a).val = _
  omega
/-- A store over the whole rectangle, read back. -/
theorem wr_unit {sp : Space} {s : Shape} {e : EltTy} (M : Memref sig .tc sp s e) (c : Dev nD) (f : Buf (Elt F) (M.view.loc (c : Thread nD τ)))
    (off : Fin s.rank → ℕ) (h0 : ∀ a, off a = 0) (hh : ∀ a, off a + s.size a ≤ s.size a) (P : s.Idx → Elt F e) (y : s.Idx) :
    M.view.read (Elt F) (M.view.writes (Elt F) f [⟨Rect.unit (s := s) off s.size hh, P⟩]) y = P y := by
  refine View.read_writes_apply_of_pieces (Val := Elt F) M.view f P [⟨Rect.unit (s := s) off s.size hh, P⟩] (fun p hp x => ?_) y ⟨_, List.mem_singleton.2 rfl, (Rect.mem_set_unit (inb := hh)).2 fun a => ?_⟩
  · obtain rfl := List.mem_singleton.1 hp
    exact congrArg P (emb_unit off s.size rfl hh x x fun a => by rw [h0 a, Nat.zero_add]).symm
  · rw [h0 a]; exact ⟨Nat.zero_le _, by rw [Nat.zero_add]; exact (y a).isLt⟩

theorem sqF {α : Type} (v : S1x5120x512.Idx → α) (h : S1x5120x512.ShapeCasts S5120x512) (a : Fin 5120) (b : Fin 512) : shapeCast S5120x512 v h (ix2 a b) = v (ix3 0 a b) := by
  simp only [pointwise]

variable (c : Dev nD) (X : Buf (Elt F) (wM.view.loc (c : Thread nD τ)))
/-- What a slot of the weight ring holds, read through the whole ring. -/
theorem ringF_at (s : Fin 4) (P : S5120x512.Idx → Elt F .fp8e4m3) (g : Buf (Elt F) ((slotF s).view.loc (c : Thread nD τ))) (a : Fin 5120) (b : Fin 512) :
    ringM.view.read (Elt F) ((slotF s).view.writes (Elt F) g [⟨Rect.whole S5120x512, P⟩]) (ix3 s a b) = P (ix2 a b) := by
  have e := congrFun (View.read_writes_whole (Val := Elt F) (slotF s).view g P) (ix2 a b)
  rw [← e]
  generalize (slotF s).view.writes (Elt F) g [⟨Rect.whole S5120x512, P⟩] = f
  have h1 : (slotF s).view.read (Elt F) f
      = shapeCast S5120x512 (View.readAt (Elt F) ringM.view (Rect.unit (s := S4x5120x512) (slotOff s) S1x5120x512.size (slotF_inb s)).toLoadRect f) squeezes_S1x5120x512_S5120x512.numel_eq := rfl
  rw [h1]
  refine ((sqF _ _ a b).trans (rd ringM c f _ _ rfl _ _ _ fun k => ?_)).symm
  fin_cases k
  · rfl
  · exact (Nat.zero_add a.val).symm
  · exact (Nat.zero_add b.val).symm
/-- A block of the weight. -/
theorem payW_at (b : Fin 12) (t : Fin 5120) (j : Fin 512) : payW c X b (ix2 t j) = X (ix2 t (⟨512 * b.val + j.val, by omega⟩ : Fin 6144) : S5120x6144.Idx) :=
  rd wM c X (colOff b.val) S5120x512.size rfl (wBlk_inb b) (ix2 t j) _ fun k => by
    fin_cases k
    · exact (Nat.zero_add t.val).symm
    · rfl
theorem k0_off16_at (k : Fin 4) : k0_off16 (BitVec.ofNat 32 (8 + k.val)) = ![k.val, 0, 0] :=
  (k0_off16_eq k).trans (congrArg (fun n => ![n, 0, 0]) (by omega))
theorem wAll_at (k : Fin 4) (t : Fin 5120) (j : Fin 512) :
    wAll c X k (ix3 0 t j) = X (ix2 t (⟨4096 + (512 * k.val + j.val), by omega⟩ : Fin 6144) : S5120x6144.Idx) := by
  refine (rd ringM c _ _ _ (k0_off16_at k) _ _ (ix3 k t j) fun a => ?_).trans ?_
  · fin_cases a
    · rfl
    · exact (Nat.zero_add t.val).symm
    · exact (Nat.zero_add j.val).symm
  · refine (ringF_at (F := F) c k _ _ t j).trans ((payW_at c X (blk k) t j).trans ?_)
    refine congrArg X (congrArg (ix2 _) (Fin.ext ?_))
    show 512 * (8 + k.val) + j.val = 4096 + (512 * k.val + j.val)
    omega
end Reads

/-- The operands' buffers hold the operands. -/
structure Holds (I : Ops) (c : Dev nD) (X : Buf (Elt Ideal) (wM.view.loc (c : Thread nD τ)))
    (arg0 : Memref sig .tc .vmem S256x5120 .bf16) (arg1 : Memref sig .tc .vmem S256x1 .i32) (arg2 : Memref sig .tc .vmem S1x128 .f32) (arg3 : Memref sig .tc .vmem S40x128 .f32)
    (arg4 : Memref sig .tc .vmem S48x128 .f32) (arg5 arg6 : Memref sig .tc .vmem S256x8 .f32)
    (X0 : Buf (Elt Ideal) (arg0.view.loc (c : Thread nD τ))) (X1 : Buf (Elt Ideal) (arg1.view.loc (c : Thread nD τ))) (X2 : Buf (Elt Ideal) (arg2.view.loc (c : Thread nD τ)))
    (X3 : Buf (Elt Ideal) (arg3.view.loc (c : Thread nD τ))) (X4 : Buf (Elt Ideal) (arg4.view.loc (c : Thread nD τ)))
    (X5 : Buf (Elt Ideal) (arg5.view.loc (c : Thread nD τ))) (X6 : Buf (Elt Ideal) (arg6.view.loc (c : Thread nD τ))) : Prop where
  x : ∀ i J, arg0.view.read (Elt Ideal) X0 (ix2 i J) = I.x i J
  pos : ∀ i : Fin 256, FloatOps.sitofp (F := Ideal) .f32 (arg1.view.read (Elt Ideal) X1 (ix2 i 0)) = I.pos i
  inv : ∀ l : Fin 128, arg2.view.read (Elt Ideal) X2 (ix2 0 l) = I.inv ⟨l.val % 64, Nat.mod_lt _ (by decide)⟩
  g : ∀ (r : Fin 40) (l : Fin 128), arg3.view.read (Elt Ideal) X3 (ix2 r l) = I.g ⟨128 * r.val + l.val, by omega⟩
  s : ∀ (r : Fin 16) (l : Fin 128), arg4.view.read (Elt Ideal) X4 (ix2 (⟨32 + r.val, by omega⟩ : Fin 48) l) = I.s (lane r l)
  w : ∀ (t : Fin 5120) (n : Fin 2048), X (ix2 t (⟨4096 + n.val, by omega⟩ : Fin 6144) : S5120x6144.Idx) = I.w t n
  ks : ∀ i h, arg5.view.read (Elt Ideal) X5 (ix2 i h) = I.ks i h
  vs : ∀ i h, arg6.view.read (Elt Ideal) X6 (ix2 i h) = I.vs i h

variable {I : Ops} {c : Dev nD} {X : Buf (Elt Ideal) (wM.view.loc (c : Thread nD τ))}
  {arg0 : Memref sig .tc .vmem S256x5120 .bf16} {arg1 : Memref sig .tc .vmem S256x1 .i32} {arg2 : Memref sig .tc .vmem S1x128 .f32} {arg3 : Memref sig .tc .vmem S40x128 .f32}
  {arg4 : Memref sig .tc .vmem S48x128 .f32} {arg5 arg6 : Memref sig .tc .vmem S256x8 .f32}
  {X0 : Buf (Elt Ideal) (arg0.view.loc (c : Thread nD τ))} {X1 : Buf (Elt Ideal) (arg1.view.loc (c : Thread nD τ))} {X2 : Buf (Elt Ideal) (arg2.view.loc (c : Thread nD τ))}
  {X3 : Buf (Elt Ideal) (arg3.view.loc (c : Thread nD τ))} {X4 : Buf (Elt Ideal) (arg4.view.loc (c : Thread nD τ))}
  {X5 : Buf (Elt Ideal) (arg5.view.loc (c : Thread nD τ))} {X6 : Buf (Elt Ideal) (arg6.view.loc (c : Thread nD τ))}
  (H : Holds I c X arg0 arg1 arg2 arg3 arg4 arg5 arg6 X0 X1 X2 X3 X4 X5 X6)
  {hm : Memref sig .tc .vmem S256x5120 .bf16} {cm sm : Memref sig .tc .vmem S256x128 .f32}
include H

/-! ## The normalised rows -/

theorem xs_at (k : Fin k0_t1_loop.trips) (r : Fin 40) (i : Fin 32) (l : Fin 128) (i' : Fin 256) (J : Fin 5120) (ei : i'.val = 32 * k.val + i.val) (eJ : J.val = 128 * r.val + l.val) :
    xs c arg0 X0 k r (ix2 i l) = I.x i' J :=
  (rd arg0 c X0 _ _ (k0_off10_eq k r) _ _ (ix2 i' J) fun a => by
    fin_cases a
    · exact ei
    · exact eJ).trans (H.x i' J)
theorem rinv_at (k : Fin k0_t1_loop.trips) (i : Fin 32) (i' : Fin 256) (ei : i'.val = 32 * k.val + i.val) :
    rinv c arg0 X0 k (ix2 i 0) = Ideal.rsqrt (Ideal.div (I.sq i') (Ideal.ofBits .f32 0x45A00000#32) + Ideal.ofBits .f32 0x3727C5AC#32) := by
  have e : (∑ l : Fin 128, ∑ q : Fin 40, xs c arg0 X0 k q (ix2 i l) * xs c arg0 X0 k q (ix2 i l)) = I.sq i' := by
    rw [Finset.sum_comm]
    unfold Ops.sq
    refine Eq.trans ?_ (Fin.sum_univ_tiles 40 128 (by decide) (fun J : Fin 5120 => I.x i' J * I.x i' J)).symm
    refine Finset.sum_congr rfl fun q _ => Finset.sum_congr rfl fun l _ => ?_
    rw [xs_at H k q i l i' ⟨q.val * 128 + l.val, by omega⟩ ei (by show q.val * 128 + l.val = _; omega)]
  rw [← e]
  exact pay7_at (xs c arg0 X0 k) i _ fun l => pay6_at _ i l _ (pay5_at _ i l _ (pay4_at _ i l _ (pay3_at _ i l _ (pay2_at _ i l _ (pay1_at _ i l)))))
theorem nrm_at (k : Fin k0_t1_loop.trips) (r : Fin 40) (i : Fin 32) (l : Fin 128) (i' : Fin 256) (J : Fin 5120) (ei : i'.val = 32 * k.val + i.val) (eJ : J.val = 128 * r.val + l.val) :
    nrm c arg0 arg3 X0 X3 k r (ix2 i l) = I.h1 i' J := by
  unfold nrm
  rw [pay11_at, xs_at H k r i l i' J ei eJ, rinv_at H k i i' ei]
  have e3 : View.readAt (Elt Ideal) arg3.view (Rect.unit (s := S40x128) ![r.val, 0] S1x128.size (row_inb r)).toLoadRect X3 (ix2 0 l) = I.g J :=
    (rd arg3 c X3 _ _ rfl _ _ (ix2 r l) fun a => by
      fin_cases a
      · rfl
      · exact (Nat.zero_add l.val).symm).trans ((H.g r l).trans (congrArg I.g (Fin.ext eJ.symm)))
  rw [e3]
  rfl
omit H in
theorem mem_nrmL (k : Fin k0_t1_loop.trips) (p : View.Piece (Elt Ideal) S256x5120 .bf16) :
    ∀ n hn, p ∈ nrmL c arg0 arg3 X0 X3 k n hn → ∃ r : Fin 40, p = ⟨R10 k r, nrm c arg0 arg3 X0 X3 k r⟩
  | 0, _, h => absurd h List.not_mem_nil
  | n + 1, hn, h => by
    rcases List.mem_cons.1 h with rfl | h
    · exact ⟨⟨n, hn⟩, rfl⟩
    · exact mem_nrmL k p n _ h
omit H in
theorem in_nrmL (k : Fin k0_t1_loop.trips) (r : Fin 40) :
    ∀ n hn, r.val < n → (⟨R10 k r, nrm c arg0 arg3 X0 X3 k r⟩ : View.Piece (Elt Ideal) S256x5120 .bf16) ∈ nrmL c arg0 arg3 X0 X3 k n hn
  | 0, _, h => absurd h (by omega)
  | n + 1, hn, h => by
    by_cases e : r.val = n
    · obtain rfl : r = ⟨n, hn⟩ := Fin.ext e
      exact .head _
    · exact .tail _ (in_nrmL k r n _ (by omega))
omit H in
theorem R10_mem (k : Fin k0_t1_loop.trips) (r : Fin 40) (i : Fin 256) (J : Fin 5120) :
    (ix2 i J : S256x5120.Idx) ∈ (R10 k r).set ↔ (32 * k.val ≤ i.val ∧ i.val < 32 * k.val + 32) ∧ (128 * r.val ≤ J.val ∧ J.val < 128 * r.val + 128) := by
  refine (Rect.mem_set_unit (inb := k0_off10_inb k r)).trans ?_
  rw [k0_off10_eq k r]
  exact ⟨fun h => ⟨h 0, h 1⟩, fun h a => by
    fin_cases a
    · exact h.1
    · exact h.2⟩
theorem hSt_at (H0 : Buf (Elt Ideal) (hm.view.loc (c : Thread nD τ))) : ∀ n, n ≤ 8 → ∀ (i : Fin 256) (J : Fin 5120), i.val < 32 * n →
    hm.view.read (Elt Ideal) (hSt c arg0 arg3 hm X0 X3 H0 n) (ix2 i J) = I.h1 i J
  | 0, _, _, _, h => absurd h (by omega)
  | n + 1, hn, i, J, h => by
    have e : (t1i n).val = n := Nat.mod_eq_of_lt (by omega)
    rw [hSt]
    by_cases h' : i.val < 32 * n
    · refine (View.read_writes_apply_of_forall_not_mem (Val := Elt Ideal) hm.view _ (ix2 i J) _ fun p hp => ?_).trans (hSt_at H0 n (by omega) i J h')
      obtain ⟨r, rfl⟩ := mem_nrmL _ p 40 _ hp
      intro hc
      have := (R10_mem (t1i n) r i J).1 hc
      rw [e] at this
      omega
    · refine View.read_writes_apply_of_pieces (Val := Elt Ideal) hm.view _ (fun z : S256x5120.Idx => I.h1 (z 0) (z 1)) _ (fun p hp x => ?_) (ix2 i J)
        ⟨_, in_nrmL (t1i n) ⟨J.val / 128, by omega⟩ 40 _ (by show J.val / 128 < 40; omega), (R10_mem _ _ i J).2 ⟨by rw [e]; omega, by show 128 * (J.val / 128) ≤ J.val; omega, by show J.val < 128 * (J.val / 128) + 128; omega⟩⟩
      obtain ⟨r, rfl⟩ := mem_nrmL _ p 40 _ hp
      have hx0 : (x 0).val < 32 := (x 0).isLt
      have hx1 : (x 1).val < 128 := (x 1).isLt
      rw [emb_unit (s := S256x5120) _ S32x128.size (k0_off10_eq (t1i n) r) (k0_off10_inb (t1i n) r) x
        (ix2 (⟨32 * (t1i n).val + (x 0).val, by omega⟩ : Fin 256) (⟨128 * r.val + (x 1).val, by omega⟩ : Fin 5120)) (fun a => by fin_cases a <;> rfl)]
      exact (congrArg _ (eq_ix2 x)).trans (nrm_at H (t1i n) r _ _ _ _ rfl rfl)

/-! ## The angles -/

theorem ang_at (i : Fin 256) (l : Fin 128) : k0_pay59 (posR c arg1 X1) (invR c arg2 X2) (ix2 i l) = I.ang i l := by
  rw [pay59_at]
  refine congrArg₂ (· * ·) ((congrArg _ (rd arg1 c X1 _ _ rfl _ _ (ix2 i 0) fun a => ?_)).trans (H.pos i)) ((rd arg2 c X2 _ _ rfl _ _ (ix2 0 l) fun a => ?_).trans (H.inv l))
  · fin_cases a <;> exact (Nat.zero_add _).symm
  · fin_cases a <;> exact (Nat.zero_add _).symm
theorem cos_at (i : Fin 256) (l : Fin 128) : cm.view.read (Elt Ideal) (cosV c arg1 arg2 cm X1 X2) (ix2 i l) = Ideal.cos (I.ang i l) := by
  unfold cosV
  refine (wr_unit cm c _ _ (by decide) _ _ (ix2 i l)).trans ?_
  rw [pay60_at, ang_at H]
theorem sin_at (i : Fin 256) (l : Fin 128) : sm.view.read (Elt Ideal) (sinV c arg1 arg2 sm X1 X2) (ix2 i l)
    = if l.val < 64 then 0 - Ideal.sin (I.ang i l) else Ideal.sin (I.ang i l) := by
  unfold sinV
  refine (wr_unit sm c _ _ (by decide) _ _ (ix2 i l)).trans ?_
  rw [pay61_at, ang_at H]

end Cert.Proof.Codes
end
-- ==== Proof.CValK.lean ====
module

public import proofs.«01_k».proof.Proof.CVal

@[expose] public section

set_option maxRecDepth 16384

noncomputable section

/-! # The code buffers, read at a row, a head and a lane -/

namespace Cert.Proof.Codes

open Cert.CKernelIdeal Cert.CKernelIdeal.Gen
open Idealize.ShloMosaic
open Idealize.ShloMosaic.TcCoe

section Quads
variable {F : FTy → Type} [FloatOps F] (c : Dev nD)
  (arg4 : Memref sig .tc .vmem S48x128 .f32) (arg5 arg6 : Memref sig .tc .vmem S256x8 .f32) (hm : Memref sig .tc .vmem S256x5120 .bf16) (cm sm : Memref sig .tc .vmem S256x128 .f32)
  (X : Buf (Elt F) (wM.view.loc (c : Thread nD τ))) (X4 : Buf (Elt F) (arg4.view.loc (c : Thread nD τ)))
  (X5 : Buf (Elt F) (arg5.view.loc (c : Thread nD τ))) (X6 : Buf (Elt F) (arg6.view.loc (c : Thread nD τ)))
  (HH : Buf (Elt F) (hm.view.loc (c : Thread nD τ))) (CM : Buf (Elt F) (cm.view.loc (c : Thread nD τ))) (SM : Buf (Elt F) (sm.view.loc (c : Thread nD τ)))

/-- Block `b`'s head `r`, scaled. -/
def head (b r : Fin 4) : FVec F S256x128 .f32 :=
  scaled (k0_pay62 (hAll c hm HH) (wAll c X b)) (sRow c arg4 X4 ⟨32 + (4 * b.val + r.val), by omega⟩) r

theorem kQuad0_eq : kQuad0 c arg4 arg5 hm cm sm X X4 X5 HH CM SM
    = quad fun r => code (rope (head c arg4 hm X X4 HH 0 r) (cAll c cm CM) (sAll c sm SM)) (kCol c arg5 X5 ⟨4 * 0 + r.val, by omega⟩) := rfl
theorem kQuad1_eq : kQuad1 c arg4 arg5 hm cm sm X X4 X5 HH CM SM
    = quad fun r => code (rope (head c arg4 hm X X4 HH 1 r) (cAll c cm CM) (sAll c sm SM)) (kCol c arg5 X5 ⟨4 * 1 + r.val, by omega⟩) := rfl
theorem vQuad0_eq : vQuad0 c arg4 arg6 hm X X4 X6 HH = quad fun r => code (head c arg4 hm X X4 HH 2 r) (vCol c arg6 X6 ⟨4 * 0 + r.val, by omega⟩) := rfl
theorem vQuad1_eq : vQuad1 c arg4 arg6 hm X X4 X6 HH = quad fun r => code (head c arg4 hm X X4 HH 3 r) (vCol c arg6 X6 ⟨4 * 1 + r.val, by omega⟩) := rfl
end Quads

variable {I : Ops} {c : Dev nD} {X : Buf (Elt Ideal) (wM.view.loc (c : Thread nD τ))}
  {arg0 : Memref sig .tc .vmem S256x5120 .bf16} {arg1 : Memref sig .tc .vmem S256x1 .i32} {arg2 : Memref sig .tc .vmem S1x128 .f32} {arg3 : Memref sig .tc .vmem S40x128 .f32}
  {arg4 : Memref sig .tc .vmem S48x128 .f32} {arg5 arg6 : Memref sig .tc .vmem S256x8 .f32}
  {X0 : Buf (Elt Ideal) (arg0.view.loc (c : Thread nD τ))} {X1 : Buf (Elt Ideal) (arg1.view.loc (c : Thread nD τ))} {X2 : Buf (Elt Ideal) (arg2.view.loc (c : Thread nD τ))}
  {X3 : Buf (Elt Ideal) (arg3.view.loc (c : Thread nD τ))} {X4 : Buf (Elt Ideal) (arg4.view.loc (c : Thread nD τ))}
  {X5 : Buf (Elt Ideal) (arg5.view.loc (c : Thread nD τ))} {X6 : Buf (Elt Ideal) (arg6.view.loc (c : Thread nD τ))}
  (H : Holds I c X arg0 arg1 arg2 arg3 arg4 arg5 arg6 X0 X1 X2 X3 X4 X5 X6)
  {hm : Memref sig .tc .vmem S256x5120 .bf16} {cm sm : Memref sig .tc .vmem S256x128 .f32}

section Heads
variable {HH : Buf (Elt Ideal) (hm.view.loc (c : Thread nD τ))} {CM : Buf (Elt Ideal) (cm.view.loc (c : Thread nD τ))} {SM : Buf (Elt Ideal) (sm.view.loc (c : Thread nD τ))}
  (hH : ∀ i J, hm.view.read (Elt Ideal) HH (ix2 i J) = I.h1 i J) (hC : ∀ i l, cm.view.read (Elt Ideal) CM (ix2 i l) = Ideal.cos (I.ang i l))
  (hS : ∀ (i : Fin 256) (l : Fin 128), sm.view.read (Elt Ideal) SM (ix2 i l) = if l.val < 64 then 0 - Ideal.sin (I.ang i l) else Ideal.sin (I.ang i l))

include H hH in
theorem head_at (b r : Fin 4) (i : Fin 256) (l : Fin 128) (h : Fin 16) (eh : h.val = 4 * b.val + r.val) :
    head c arg4 hm X X4 HH b r (ix2 i l) = I.y i (lane h l) := by
  have hb : 4 * b.val + r.val < 16 := Nat.lt_of_lt_of_le (Nat.add_lt_add_left r.isLt _) (Nat.mul_le_mul_left 4 b.isLt)
  have e : h = ⟨4 * b.val + r.val, hb⟩ := Fin.ext eh
  subst e
  unfold head
  rw [scaled_at, pay62_at]
  unfold Ops.y
  refine congrArg₂ (· * ·) (Finset.sum_congr rfl fun t _ => congrArg₂ (· * ·) ((rd hm c HH _ _ rfl _ _ (ix2 i t) fun a => ?_).trans (hH i t)) ?_)
    ((rd arg4 c X4 _ _ rfl _ _ (ix2 (⟨32 + (4 * b.val + r.val), by omega⟩ : Fin 48) l) fun a => ?_).trans (H.s ⟨4 * b.val + r.val, by omega⟩ l))
  · fin_cases a <;> exact (Nat.zero_add _).symm
  · refine (wAll_at c X b t _).trans (Eq.trans (congrArg X (congrArg (ix2 t) (Fin.ext ?_))) (H.w t (lane ⟨4 * b.val + r.val, by omega⟩ l)))
    show 4096 + (512 * b.val + (128 * r.val + l.val)) = 4096 + (128 * (4 * b.val + r.val) + l.val)
    omega
  · fin_cases a
    · rfl
    · exact (Nat.zero_add _).symm

include H hH hC hS in
theorem roped_at (b r : Fin 4) (i : Fin 256) (l : Fin 128) (h : Fin 16) (eh : h.val = 4 * b.val + r.val) :
    rope (head c arg4 hm X X4 HH b r) (cAll c cm CM) (sAll c sm SM) (ix2 i l) = I.rk i h l := by
  rw [rope_at, head_at H hH b r i l h eh, head_at H hH b r i (opp l) h eh]
  have e1 : cAll c cm CM (ix2 i l) = Ideal.cos (I.ang i l) := (rd cm c CM _ _ rfl _ _ (ix2 i l) fun a => by fin_cases a <;> exact (Nat.zero_add _).symm).trans (hC i l)
  have e2 : sAll c sm SM (ix2 i l) = if l.val < 64 then 0 - Ideal.sin (I.ang i l) else Ideal.sin (I.ang i l) :=
    (rd sm c SM _ _ rfl _ _ (ix2 i l) fun a => by fin_cases a <;> exact (Nat.zero_add _).symm).trans (hS i l)
  rw [e1, e2]
  unfold Ops.rk
  congr 1
  split
  · rw [sub_eq_add_neg, zero_add, sub_eq_add_neg, zero_add, mul_neg, neg_mul]
  · rfl

include H in
theorem kCol_at (h : Fin 8) (i : Fin 256) : kCol c arg5 X5 h (ix2 i 0) = I.ks i h :=
  (rd arg5 c X5 _ _ rfl _ _ (ix2 i h) fun a => by
    fin_cases a
    · exact (Nat.zero_add _).symm
    · rfl).trans (H.ks i h)
include H in
theorem vCol_at (h : Fin 8) (i : Fin 256) : vCol c arg6 X6 h (ix2 i 0) = I.vs i h :=
  (rd arg6 c X6 _ _ rfl _ _ (ix2 i h) fun a => by
    fin_cases a
    · exact (Nat.zero_add _).symm
    · rfl).trans (H.vs i h)

include H hH hC hS in
theorem kQuad0_at (i : Fin 256) (e : Fin 4) (l : Fin 128) : kQuad0 c arg4 arg5 hm cm sm X X4 X5 HH CM SM (ix3 i e l) = I.kc i ⟨4 * 0 + e.val, by omega⟩ l := by
  rw [kQuad0_eq, quad_at, code_at, roped_at H hH hC hS 0 e i l ⟨4 * 0 + e.val, by omega⟩ rfl, kCol_at H]
  rfl
include H hH hC hS in
theorem kQuad1_at (i : Fin 256) (e : Fin 4) (l : Fin 128) : kQuad1 c arg4 arg5 hm cm sm X X4 X5 HH CM SM (ix3 i e l) = I.kc i ⟨4 * 1 + e.val, by omega⟩ l := by
  rw [kQuad1_eq, quad_at, code_at, roped_at H hH hC hS 1 e i l ⟨4 * 1 + e.val, by omega⟩ rfl, kCol_at H]
  rfl
include H hH in
theorem vQuad0_at (i : Fin 256) (e : Fin 4) (l : Fin 128) : vQuad0 c arg4 arg6 hm X X4 X6 HH (ix3 i e l) = I.vc i ⟨4 * 0 + e.val, by omega⟩ l := by
  rw [vQuad0_eq, quad_at, code_at, head_at H hH 2 e i l ⟨8 + (4 * 0 + e.val), by omega⟩ (by show 8 + (4 * 0 + e.val) = 4 * 2 + e.val; omega), vCol_at H]
  rfl
include H hH in
theorem vQuad1_at (i : Fin 256) (e : Fin 4) (l : Fin 128) : vQuad1 c arg4 arg6 hm X X4 X6 HH (ix3 i e l) = I.vc i ⟨4 * 1 + e.val, by omega⟩ l := by
  rw [vQuad1_eq, quad_at, code_at, head_at H hH 3 e i l ⟨8 + (4 * 1 + e.val), by omega⟩ (by show 8 + (4 * 1 + e.val) = 4 * 3 + e.val; omega), vCol_at H]
  rfl
end Heads

/-- Two quads stored over a code buffer, read back. -/
theorem quads_at (M : Memref sig .tc .vmem S256x8x128 .fp8e4m3) (B0 : Buf (Elt Ideal) (M.view.loc (c : Thread nD τ))) (P : Fin 256 → Fin 8 → Fin 128 → EReal)
    (Q0 Q1 : Vec Ideal S256x4x128 .fp8e4m3) (h0 : ∀ i (e : Fin 4) l, Q0 (ix3 i e l) = P i ⟨4 * 0 + e.val, by omega⟩ l) (h1 : ∀ i (e : Fin 4) l, Q1 (ix3 i e l) = P i ⟨4 * 1 + e.val, by omega⟩ l)
    (i : Fin 256) (h : Fin 8) (l : Fin 128) : M.view.read (Elt Ideal) (M.view.writes (Elt Ideal) B0 [⟨RQ 1, Q1⟩, ⟨RQ 0, Q0⟩]) (ix3 i h l) = P i h l := by
  have em : ∀ (b : Fin 2) (x : S256x4x128.Idx), (RQ b).emb x = (ix3 (x 0) (⟨4 * b.val + (x 1).val, by have h1 : (x 1).val < 4 := (x 1).isLt; omega⟩ : Fin 8) (x 2) : S256x8x128.Idx) := fun b x =>
    emb_unit (s := S256x8x128) ![0, 4 * b.val, 0] S256x4x128.size rfl (quad_inb b) x _ fun a => by
      fin_cases a
      · exact (Nat.zero_add _).symm
      · rfl
      · exact (Nat.zero_add _).symm
  have hm : ∀ b : Fin 2, h.val / 4 = b.val → (ix3 i h l : S256x8x128.Idx) ∈ (RQ b).set := fun b eb => (Rect.mem_set_unit (inb := quad_inb b)).2 fun a => by
    fin_cases a
    · exact ⟨Nat.zero_le _, by show i.val < 0 + 256; omega⟩
    · exact ⟨by show 4 * b.val ≤ h.val; omega, by show h.val < 4 * b.val + 4; omega⟩
    · exact ⟨Nat.zero_le _, by show l.val < 0 + 128; omega⟩
  refine View.read_writes_apply_of_pieces (Val := Elt Ideal) M.view B0 (fun z : S256x8x128.Idx => P (z 0) (z 1) (z 2)) _ (fun p hp x => ?_) (ix3 i h l) ?_
  · simp only [List.mem_cons, List.not_mem_nil, or_false] at hp
    rcases hp with rfl | rfl
    · exact (congrArg _ (eq_ix3 (n0 := 256) (n1 := 4) (n2 := 128) x)).trans ((h1 _ _ _).trans (congrArg (fun z : S256x8x128.Idx => P (z 0) (z 1) (z 2)) (em 1 x)).symm)
    · exact (congrArg _ (eq_ix3 (n0 := 256) (n1 := 4) (n2 := 128) x)).trans ((h0 _ _ _).trans (congrArg (fun z : S256x8x128.Idx => P (z 0) (z 1) (z 2)) (em 0 x)).symm)
  · by_cases hh : h.val < 4
    · exact ⟨_, .tail _ (.head _), hm 0 (by show h.val / 4 = 0; omega)⟩
    · exact ⟨_, .head _, hm 1 (by show h.val / 4 = 1; omega)⟩

include H in
theorem vK_at (H0 : Buf (Elt Ideal) (hm.view.loc (c : Thread nD τ))) (K0 : Buf (Elt Ideal) (kcM.view.loc (c : Thread nD τ))) (i : Fin 256) (h : Fin 8) (l : Fin 128) :
    kcM.view.read (Elt Ideal) (vK c arg0 arg1 arg2 arg3 arg4 arg5 hm cm sm X X0 X1 X2 X3 X4 X5 H0 K0) (ix3 i h l) = I.kc i h l := by
  have hH := fun i J => hSt_at H H0 8 le_rfl i J (by omega)
  unfold vK
  exact quads_at kcM K0 I.kc _ _ (kQuad0_at H hH (cos_at H) (sin_at H)) (kQuad1_at H hH (cos_at H) (sin_at H)) i h l
include H in
theorem vV_at (H0 : Buf (Elt Ideal) (hm.view.loc (c : Thread nD τ))) (V0 : Buf (Elt Ideal) (vcM.view.loc (c : Thread nD τ))) (i : Fin 256) (h : Fin 8) (l : Fin 128) :
    vcM.view.read (Elt Ideal) (vV c arg0 arg3 arg4 arg6 hm X X0 X3 X4 X6 H0 V0) (ix3 i h l) = I.vc i h l := by
  have hH := fun i J => hSt_at H H0 8 le_rfl i J (by omega)
  unfold vV
  exact quads_at vcM V0 I.vc _ _ (vQuad0_at H hH) (vQuad1_at H hH) i h l

end Cert.Proof.Codes
end
-- ==== Proof.CValRes.lean ====
module

public import proofs.«01_k».proof.Proof.CValK
public import proofs.«01_k».proof.Proof.CLaunch
public import Idealize.ShloMosaic.Lib.Pipeline.ValueKit

@[expose] public section

set_option maxRecDepth 16384

/-! The cache codes' results, read at an index. -/

noncomputable section

namespace Cert.Proof.Codes

open Cert.CKernelIdeal Cert.CKernelIdeal.Gen Idealize.ShloMosaic Idealize.ShloMosaic.TcCoe Idealize.ShloMosaic.Tactic

variable (m : (ℓ : Loc nD τ sig) → Buf (Elt Ideal) ℓ) (c : Dev nD)

/-- The kernel's operands, read at indices. -/
def Ik : Ops where
  x i J := m ((c : Thread nD τ).loc main_arg0) (ix2 i J)
  pos i := FloatOps.sitofp (F := Ideal) .f32 (m ((c : Thread nD τ).loc main_arg1) (ix1 i))
  inv := freq
  g J := m ((c : Thread nD τ).loc main_arg2) (ix1 J)
  w t n := m ((c : Thread nD τ).loc main_arg3) (ix2 t (⟨4096 + n.val, by omega⟩ : Fin 6144) : S5120x6144.Idx)
  s n := m ((c : Thread nD τ).loc main_arg4) (ix1 (⟨4096 + n.val, by omega⟩ : Fin 6144) : S6144.Idx)
  ks i h := m ((c : Thread nD τ).loc main_arg5) (ix2 i h)
  vs i h := m ((c : Thread nD τ).loc main_arg6) (ix2 i h)

theorem idx0 : win0_0.index t0_0 = fun _ => 0 := by funext a; fin_cases a <;> rfl
theorem idx1 : win0_1.index t0_0 = fun _ => 0 := by funext a; fin_cases a <;> rfl
theorem idx2 : win0_2.index t0_0 = fun _ => 0 := by funext a; fin_cases a <;> rfl
theorem idx3 : win0_3.index t0_0 = fun _ => 0 := by funext a; fin_cases a <;> rfl
theorem idx4 : win0_4.index t0_0 = fun _ => 0 := by funext a; fin_cases a <;> rfl
theorem idx5 : win0_5.index t0_0 = fun _ => 0 := by funext a; fin_cases a <;> rfl
theorem idx6 : win0_6.index t0_0 = fun _ => 0 := by funext a; fin_cases a <;> rfl
theorem V9_lo (l : Fin 128) (h : l.val < 64) : V m c main_v9 (ix2 0 l : S1x128.Idx) = freq ⟨l.val, h⟩ := by
  entry_read
  pointwise [freq]
  rw [dif_pos h]
theorem V9_hi (l : Fin 128) (h : ¬ l.val < 64) : V m c main_v9 (ix2 0 l : S1x128.Idx) = freq ⟨l.val - 64, by omega⟩ := by
  entry_read
  pointwise [freq]
  rw [dif_neg h]
theorem V9_at (l : Fin 128) : V m c main_v9 (ix2 0 l : S1x128.Idx) = freq ⟨l.val % 64, Nat.mod_lt _ (by decide)⟩ := by
  by_cases h : l.val < 64
  · exact (V9_lo m c l h).trans (congrArg freq (Fin.ext (by show l.val = l.val % 64; omega)))
  · exact (V9_hi m c l h).trans (congrArg freq (Fin.ext (by show l.val - 64 = l.val % 64; omega)))
theorem V10_at (i : Fin 256) : V m c main_v10 (ix2 i 0 : S256x1.Idx) = m ((c : Thread nD τ).loc main_arg1) (ix1 i) := by
  entry_read
  pointwise
theorem V11_at (r : Fin 40) (l : Fin 128) : V m c main_v11 (ix2 r l : S40x128.Idx) = (Ik m c).g ⟨128 * r.val + l.val, by omega⟩ := by
  entry_read
  pointwise
  exact congrArg (m ((c : Thread nD τ).loc main_arg2)) (congrArg ix1 (Fin.ext (by show r.val * 128 + l.val = 128 * r.val + l.val; omega)))
theorem V12_at (r : Fin 16) (l : Fin 128) : V m c main_v12 (ix2 (⟨32 + r.val, by omega⟩ : Fin 48) l : S48x128.Idx) = (Ik m c).s (lane r l) := by
  entry_read
  pointwise
  exact congrArg (m ((c : Thread nD τ).loc main_arg4)) (congrArg ix1 (Fin.ext (by show (32 + r.val) * 128 + l.val = 4096 + (128 * r.val + l.val); omega)))
theorem blk0_at (i : Fin 256) (J : Fin 5120) : iblk m c 0 t0_0 (ix2 i J : S256x5120.Idx) = (Ik m c).x i J := by
  unfold Ik; blk_ext [iblk, V, idx0]
theorem blk1_at (i : Fin 256) : iblk m c 1 t0_0 (ix2 i 0 : S256x1.Idx) = V m c main_v10 (ix2 i 0 : S256x1.Idx) := by
  blk_ext [iblk, idx1]
theorem blk2_at (l : Fin 128) : iblk m c 2 t0_0 (ix2 0 l : S1x128.Idx) = V m c main_v9 (ix2 0 l : S1x128.Idx) := by
  blk_ext [iblk, idx2]
theorem blk3_at (r : Fin 40) (l : Fin 128) : iblk m c 3 t0_0 (ix2 r l : S40x128.Idx) = V m c main_v11 (ix2 r l : S40x128.Idx) := by
  blk_ext [iblk, idx3]
theorem blk4_at (r : Fin 48) (l : Fin 128) : iblk m c 4 t0_0 (ix2 r l : S48x128.Idx) = V m c main_v12 (ix2 r l : S48x128.Idx) := by
  blk_ext [iblk, idx4]

theorem blk5_at (i : Fin 256) (h : Fin 8) : iblk m c 5 t0_0 (ix2 i h : S256x8.Idx) = (Ik m c).ks i h := by
  unfold Ik; blk_ext [iblk, V, idx5]
theorem blk6_at (i : Fin 256) (h : Fin 8) : iblk m c 6 t0_0 (ix2 i h : S256x8.Idx) = (Ik m c).vs i h := by
  unfold Ik; blk_ext [iblk, V, idx6]

theorem holds : Holds (Ik m c) c (wts m c) (st0 t0_0) (st1 t0_0) (st2 t0_0) (st3 t0_0) (st4 t0_0) (st5 t0_0) (st6 t0_0) (in0 m c) (in1 m c) (in2 m c) (in3 m c) (in4 m c) (in5 m c) (in6 m c) where
  x i J := (congrFun (View.read_rep (st0 t0_0).view _) _).trans (blk0_at m c i J)
  pos i := congrArg (FloatOps.sitofp (F := Ideal) .f32) ((congrFun (View.read_rep (st1 t0_0).view _) _).trans ((blk1_at m c i).trans (V10_at m c i)))
  inv l := (congrFun (View.read_rep (st2 t0_0).view _) _).trans ((blk2_at m c l).trans (V9_at m c l))
  g r l := (congrFun (View.read_rep (st3 t0_0).view _) _).trans ((blk3_at m c r l).trans (V11_at m c r l))
  s r l := (congrFun (View.read_rep (st4 t0_0).view _) _).trans ((blk4_at m c _ l).trans (V12_at m c r l))
  w t n := congrFun (V_main_arg3 m c) (ix2 t (⟨4096 + n.val, by omega⟩ : Fin 6144))
  ks i h := (congrFun (View.read_rep (st5 t0_0).view _) _).trans (blk5_at m c i h)
  vs i h := (congrFun (View.read_rep (st6 t0_0).view _) _).trans (blk6_at m c i h)

variable (H0 : Buf (Elt Ideal) (hM.view.loc (c : Thread nD τ))) (K0 : Buf (Elt Ideal) (kcM.view.loc (c : Thread nD τ))) (V0 : Buf (Elt Ideal) (vcM.view.loc (c : Thread nD τ)))

theorem readK (f : Buf (Elt Ideal) ((c : Thread nD τ).loc main_v13_0)) : koM.view.read (Elt Ideal) f = f := View.read_whole main_v13_0 f
theorem readV (f : Buf (Elt Ideal) ((c : Thread nD τ).loc main_v13_1)) : voM.view.read (Elt Ideal) f = f := View.read_whole main_v13_1 f
/-- The codes of the keys, whatever the scratch held. -/
theorem outK_at (i : Fin 256) (h : Fin 8) (l : Fin 128) : outK m c H0 K0 (ix3 i h l : S256x8x128.Idx) = (Ik m c).kc i h l := by
  refine (congrFun (readK c _) _).symm.trans ?_
  unfold outK
  rw [View.read_writes_whole]
  exact vK_at (holds m c) H0 K0 i h l
/-- The codes of the values, whatever the scratch held. -/
theorem outV_at (i : Fin 256) (h : Fin 8) (l : Fin 128) : outV m c H0 V0 (ix3 i h l : S256x8x128.Idx) = (Ik m c).vc i h l := by
  refine (congrFun (readV c _) _).symm.trans ?_
  unfold outV
  rw [View.read_writes_whole]
  exact vV_at (holds m c) H0 V0 i h l
end Cert.Proof.Codes
end
-- ==== Proof.CValRef.lean ====
module

public import proofs.«01_k».proof.Proof.CVal
public import proofs.«01_k».proof.Proof.Gen.CReferenceIdeal.Value
public import Idealize.ShloMosaic.Lib.Pipeline.ValueKit

@[expose] public section

set_option maxRecDepth 16384

/-! The reference's cache codes, read at an index. -/

noncomputable section

namespace Cert.Proof.CodesR

open Cert.CReferenceIdeal Cert.CReferenceIdeal.Gen Cert.Proof.Codes Idealize.ShloMosaic Idealize.ShloMosaic.TcCoe Idealize.ShloMosaic.Tactic

section Pay
variable (x : Vec Ideal S256x5120 .bf16) (g : Vec Ideal S1x5120 .f32) (w : Vec Ideal S5120x1024 .fp8e4m3) (s : Vec Ideal S1x1024 .f32) (pos : Vec Ideal S256x1 .i32) (inv : Vec Ideal S1x64 .f32)

/-- Lane `l` of head `h` of eight. -/
abbrev lane8 (h : Fin 8) (l : Fin 128) : Fin 1024 := ⟨128 * h.val + l.val, by omega⟩

theorem pay1_at (i : Fin 256) (t : Fin 5120) : k0_pay1 x g (ix2 i t)
    = x (ix2 i t) * Ideal.rsqrt (Ideal.div (∑ J : Fin 5120, x (ix2 i J) * x (ix2 i J)) (Ideal.ofBits .f32 0x45A00000#32) + Ideal.ofBits .f32 0x3727C5AC#32) * g (ix2 0 t) := by
  pointwise [k0_pay1]
theorem pay2_at (i : Fin 256) (h : Fin 8) (l : Fin 128) : k0_pay2 x g w s (ix3 i h l) = (∑ t : Fin 5120, k0_pay1 x g (ix2 i t) * w (ix2 t (lane8 h l))) * s (ix2 0 (lane8 h l)) := by
  have e : lane8 h l = ⟨h.val * 128 + l.val, by omega⟩ := Fin.ext (by show 128 * h.val + l.val = h.val * 128 + l.val; omega)
  rw [e]
  pointwise [k0_pay2]
theorem pay3_at (i : Fin 256) (h : Fin 8) (l : Fin 128) : k0_pay3 x g w s (ix3 i h l) = k0_pay2 x g w s (ix3 i h l) := rfl
variable (q : FVec Ideal S256x8x128 .f32) (p : FVec Ideal S256x1 .f32) (k : Vec Ideal S256x8 .f32)
theorem pay4_at (i : Fin 256) : k0_pay4 pos (ix2 i 0) = FloatOps.sitofp (F := Ideal) .f32 (pos (ix2 i 0)) := by
  pointwise [k0_pay4]
theorem pay5_lo (i : Fin 256) (h : Fin 8) (l : Fin 128) (hl : l.val < 64) : k0_pay5 q p inv k (ix3 i h l)
    = cd (q (ix3 i h l) * Ideal.cos (p (ix2 i 0) * inv (ix2 0 (⟨l.val, hl⟩ : Fin 64))) + (0 - q (ix3 i h (⟨64 + l.val, by omega⟩ : Fin 128))) * Ideal.sin (p (ix2 i 0) * inv (ix2 0 (⟨l.val, hl⟩ : Fin 64)))) (k (ix2 i h)) := by
  unfold cd
  pointwise [k0_pay5]
  simp only [dif_pos hl]
theorem pay5_hi (i : Fin 256) (h : Fin 8) (l : Fin 128) (hl : ¬ l.val < 64) : k0_pay5 q p inv k (ix3 i h l)
    = cd (q (ix3 i h l) * Ideal.cos (p (ix2 i 0) * inv (ix2 0 (⟨l.val - 64, by omega⟩ : Fin 64))) + q (ix3 i h (⟨l.val - 64, by omega⟩ : Fin 128)) * Ideal.sin (p (ix2 i 0) * inv (ix2 0 (⟨l.val - 64, by omega⟩ : Fin 64)))) (k (ix2 i h)) := by
  unfold cd
  pointwise [k0_pay5]
  simp only [dif_neg hl]
theorem pay6_at (i : Fin 256) (h : Fin 8) (l : Fin 128) : k0_pay6 q k (ix3 i h l) = cd (q (ix3 i h l)) (k (ix2 i h)) := by
  unfold cd
  pointwise [k0_pay6]
end Pay

variable (m : (ℓ : Loc nD τ sig) → Buf (Elt Ideal) ℓ) (c : Dev nD)

/-- The reference's operands, read at indices. -/
def Ir : Ops where
  x i J := m ((c : Thread nD τ).loc main_arg0) (ix2 i J)
  pos i := FloatOps.sitofp (F := Ideal) .f32 (m ((c : Thread nD τ).loc main_arg1) (ix1 i))
  inv := freq
  g J := m ((c : Thread nD τ).loc main_arg2) (ix1 J)
  w t n := m ((c : Thread nD τ).loc main_arg3) (ix2 t (⟨4096 + n.val, by omega⟩ : Fin 6144) : S5120x6144.Idx)
  s n := m ((c : Thread nD τ).loc main_arg4) (ix1 (⟨4096 + n.val, by omega⟩ : Fin 6144) : S6144.Idx)
  ks i h := m ((c : Thread nD τ).loc main_arg5) (ix2 i h)
  vs i h := m ((c : Thread nD τ).loc main_arg6) (ix2 i h)

theorem idx0 : win0_0.index t0_0 = fun _ => 0 := by funext a; fin_cases a <;> rfl
theorem idx1 : win0_1.index t0_0 = fun _ => 0 := by funext a; fin_cases a <;> rfl
theorem idx2 : win0_2.index t0_0 = fun _ => 0 := by funext a; fin_cases a <;> rfl
theorem idx3 : win0_3.index t0_0 = fun _ => 0 := by funext a; fin_cases a <;> rfl
theorem idx4 : win0_4.index t0_0 = fun _ => 0 := by funext a; fin_cases a <;> rfl
theorem idx5 : win0_5.index t0_0 = fun _ => 0 := by funext a; fin_cases a <;> rfl
theorem idx6 : win0_6.index t0_0 = fun _ => 0 := by funext a; fin_cases a <;> rfl
theorem idx7 : win0_7.index t0_0 = fun _ => 0 := by funext a; fin_cases a <;> rfl
theorem idx8 : win0_8.index t0_0 = fun _ => 0 := by funext a; fin_cases a <;> rfl
theorem idx9 : win0_9.index t0_0 = fun _ => 0 := by funext a; fin_cases a <;> rfl
theorem V8_at (i : Fin 256) : V m c main_v8 (ix2 i 0 : S256x1.Idx) = m ((c : Thread nD τ).loc main_arg1) (ix1 i) := by
  entry_read
  pointwise
theorem V9_at (j : Fin 64) : V m c main_v9 (ix2 0 j : S1x64.Idx) = freq j := by
  entry_read
  pointwise [freq]
theorem V10_at (J : Fin 5120) : V m c main_v10 (ix2 0 J : S1x5120.Idx) = (Ir m c).g J := by
  entry_read
  pointwise
  rfl
theorem V11_at (t : Fin 5120) (n : Fin 1024) : V m c main_v11 (ix2 t n : S5120x1024.Idx) = (Ir m c).w t ⟨n.val, by omega⟩ := by
  entry_read
  pointwise
  rfl
theorem V13_at (n : Fin 1024) : V m c main_v13 (ix2 0 n : S1x1024.Idx) = (Ir m c).s ⟨n.val, by omega⟩ := by
  entry_read
  pointwise
  rfl
theorem V14_at (t : Fin 5120) (n : Fin 1024) : V m c main_v14 (ix2 t n : S5120x1024.Idx) = (Ir m c).w t ⟨1024 + n.val, by omega⟩ := by
  entry_read
  pointwise
  exact congrArg (m ((c : Thread nD τ).loc main_arg3)) (congrArg (ix2 t) (Fin.ext (by show 5120 + n.val = 4096 + (1024 + n.val); omega)))
theorem V16_at (n : Fin 1024) : V m c main_v16 (ix2 0 n : S1x1024.Idx) = (Ir m c).s ⟨1024 + n.val, by omega⟩ := by
  entry_read
  pointwise
  exact congrArg (m ((c : Thread nD τ).loc main_arg4)) (congrArg ix1 (Fin.ext (by show 5120 + n.val = 4096 + (1024 + n.val); omega)))
theorem blk0_at (i : Fin 256) (J : Fin 5120) : iblk m c 0 t0_0 (ix2 i J : S256x5120.Idx) = (Ir m c).x i J := by
  unfold Ir; blk_ext [iblk, V, idx0]
theorem blk1_at (i : Fin 256) : iblk m c 1 t0_0 (ix2 i 0 : S256x1.Idx) = m ((c : Thread nD τ).loc main_arg1) (ix1 i) := by
  refine Eq.trans ?_ (V8_at m c i)
  blk_ext [iblk, idx1]
theorem blk2_at (j : Fin 64) : iblk m c 2 t0_0 (ix2 0 j : S1x64.Idx) = freq j := by
  refine Eq.trans ?_ (V9_at m c j)
  blk_ext [iblk, idx2]
theorem blk3_at (J : Fin 5120) : iblk m c 3 t0_0 (ix2 0 J : S1x5120.Idx) = (Ir m c).g J := by
  refine Eq.trans ?_ (V10_at m c J)
  blk_ext [iblk, idx3]
theorem blk4_at (t : Fin 5120) (n : Fin 1024) : iblk m c 4 t0_0 (ix2 t n : S5120x1024.Idx) = (Ir m c).w t ⟨n.val, by omega⟩ := by
  refine Eq.trans ?_ (V11_at m c t n)
  blk_ext [iblk, idx4]
theorem blk5_at (n : Fin 1024) : iblk m c 5 t0_0 (ix2 0 n : S1x1024.Idx) = (Ir m c).s ⟨n.val, by omega⟩ := by
  refine Eq.trans ?_ (V13_at m c n)
  blk_ext [iblk, idx5]
theorem blk6_at (t : Fin 5120) (n : Fin 1024) : iblk m c 6 t0_0 (ix2 t n : S5120x1024.Idx) = (Ir m c).w t ⟨1024 + n.val, by omega⟩ := by
  refine Eq.trans ?_ (V14_at m c t n)
  blk_ext [iblk, idx6]
theorem blk7_at (n : Fin 1024) : iblk m c 7 t0_0 (ix2 0 n : S1x1024.Idx) = (Ir m c).s ⟨1024 + n.val, by omega⟩ := by
  refine Eq.trans ?_ (V16_at m c n)
  blk_ext [iblk, idx7]
theorem blk8_at (i : Fin 256) (h : Fin 8) : iblk m c 8 t0_0 (ix2 i h : S256x8.Idx) = (Ir m c).ks i h := by
  unfold Ir; blk_ext [iblk, V, idx8]
theorem blk9_at (i : Fin 256) (h : Fin 8) : iblk m c 9 t0_0 (ix2 i h : S256x8.Idx) = (Ir m c).vs i h := by
  unfold Ir; blk_ext [iblk, V, idx9]

section Blocks
variable (x0 : Vec Ideal S256x5120 .bf16) (x1 : Vec Ideal S256x1 .i32) (x2 : Vec Ideal S1x64 .f32) (x3 : Vec Ideal S1x5120 .f32) (x4 : Vec Ideal S5120x1024 .fp8e4m3) (x5 : Vec Ideal S1x1024 .f32)
  (x8 : Vec Ideal S256x8 .f32)
  (I : Ops) (h0 : ∀ i J, x0 (ix2 i J) = I.x i J) (h1 : ∀ i, FloatOps.sitofp (F := Ideal) .f32 (x1 (ix2 i 0)) = I.pos i) (h2 : ∀ j, x2 (ix2 0 j) = I.inv j) (h3 : ∀ J, x3 (ix2 0 J) = I.g J)

include h0 h3 in
/-- Eight heads' columns from column `1024 * b` on, scaled. -/
theorem y_at (b : Fin 2) (h4 : ∀ t n, x4 (ix2 t n) = I.w t ⟨1024 * b.val + n.val, by omega⟩) (h5 : ∀ n, x5 (ix2 0 n) = I.s ⟨1024 * b.val + n.val, by omega⟩)
    (i : Fin 256) (h : Fin 8) (l : Fin 128) : k0_pay2 x0 x3 x4 x5 (ix3 i h l) = I.y i (lane ⟨8 * b.val + h.val, by omega⟩ l) := by
  have e : (⟨1024 * b.val + (lane8 h l).val, by omega⟩ : Fin 2048) = lane ⟨8 * b.val + h.val, by omega⟩ l := Fin.ext (by show 1024 * b.val + (128 * h.val + l.val) = 128 * (8 * b.val + h.val) + l.val; omega)
  rw [pay2_at, h5]
  simp only [pay1_at, h0, h3, h4]
  rw [e]
  rfl
include h1 h2 in
theorem ang_at (i : Fin 256) (l : Fin 128) (j : Fin 64) (hj : j.val = l.val % 64) : k0_pay4 x1 (ix2 i 0) * x2 (ix2 0 j) = I.ang i l := by
  rw [pay4_at, h1, h2]
  exact congrArg (fun k => I.pos i * I.inv k) (Fin.ext hj)
include h1 h2 in
theorem kc_at (q : FVec Ideal S256x8x128 .f32) (hq : ∀ i (h : Fin 8) l, q (ix3 i h l) = I.y i (lane ⟨h.val, by omega⟩ l)) (h8 : ∀ i h, x8 (ix2 i h) = I.ks i h)
    (i : Fin 256) (h : Fin 8) (l : Fin 128) : k0_pay5 q (k0_pay4 x1) x2 x8 (ix3 i h l) = I.kc i h l := by
  unfold Ops.kc Ops.rk
  by_cases hl : l.val < 64
  · have eo : (⟨64 + l.val, by omega⟩ : Fin 128) = opp l := Fin.ext (by show 64 + l.val = (l.val + 128 - 64) % 128; omega)
    rw [pay5_lo _ _ _ _ i h l hl, ang_at x1 x2 I h1 h2 i l _ (by show l.val = l.val % 64; omega), eo, hq, hq, h8, if_pos hl]
  · have eo : (⟨l.val - 64, by omega⟩ : Fin 128) = opp l := Fin.ext (by show l.val - 64 = (l.val + 128 - 64) % 128; omega)
    rw [pay5_hi _ _ _ _ i h l hl, ang_at x1 x2 I h1 h2 i l _ (by show l.val - 64 = l.val % 64; omega), eo, hq, hq, h8, if_neg hl]
end Blocks

theorem arr10 (i : Fin 256) (h : Fin 8) (l : Fin 128) : (dats m 0 c).arrAt 10 cfg0.N (ix3 i h l : S256x8x128.Idx) = (Ir m c).kc i h l := by
  have e : (dats m 0 c).arrAt 10 cfg0.N = fun j => k0_pay5
      (k0_pay2 (iblk m c 0 t0_0) (iblk m c 3 t0_0) (iblk m c 4 t0_0) (iblk m c 5 t0_0)) (k0_pay4 (iblk m c 1 t0_0)) (iblk m c 2 t0_0) (iblk m c 8 t0_0) j := by
    refine (dats m 0 c).arrAt_eq_of_after_last 10 t0_0 (by decide +kernel) _ fun j => ?_
    blk_simp
    rw [after0_10]
    frame_out
  rw [e]
  refine kc_at _ _ _ (Ir m c) (fun i => congrArg (FloatOps.sitofp (F := Ideal) .f32) (blk1_at m c i)) (fun j => blk2_at m c j) _ (fun i h l => ?_) (fun i h => blk8_at m c i h) i h l
  refine (y_at _ _ _ _ (Ir m c) (fun i J => blk0_at m c i J) (fun J => blk3_at m c J) 0
    (fun t n => (blk4_at m c t n).trans (congrArg ((Ir m c).w t) (Fin.ext (Nat.zero_add _).symm))) (fun n => (blk5_at m c n).trans (congrArg (Ir m c).s (Fin.ext (Nat.zero_add _).symm))) i h l).trans ?_
  exact congrArg (fun a => (Ir m c).y i (lane a l)) (Fin.ext (Nat.zero_add _))
theorem arr11 (i : Fin 256) (h : Fin 8) (l : Fin 128) : (dats m 0 c).arrAt 11 cfg0.N (ix3 i h l : S256x8x128.Idx) = (Ir m c).vc i h l := by
  have e : (dats m 0 c).arrAt 11 cfg0.N = fun j => k0_pay6
      (k0_pay3 (iblk m c 0 t0_0) (iblk m c 3 t0_0) (iblk m c 6 t0_0) (iblk m c 7 t0_0)) (iblk m c 9 t0_0) j := by
    refine (dats m 0 c).arrAt_eq_of_after_last 11 t0_0 (by decide +kernel) _ fun j => ?_
    blk_simp
    rw [after0_11]
    frame_out
  rw [e]
  refine (pay6_at _ _ i h l).trans (congrArg₂ cd ((pay3_at _ _ _ _ i h l).trans ?_) (blk9_at m c i h))
  exact y_at _ _ _ _ (Ir m c) (fun i J => blk0_at m c i J) (fun J => blk3_at m c J) 1 (fun t n => blk6_at m c t n) (fun n => blk7_at m c n) i h l
end Cert.Proof.CodesR
end
-- ==== Proof.CAlg.lean ====
/- The kernel and the reference leave the same codes of the new cache rows: each is the mathematics of the arguments, read at
   row, head and lane. -/
module

public import proofs.«01_k».proof.Defs
public import proofs.«01_k».proof.Proof.CValRes
public import proofs.«01_k».proof.Proof.CValRef

@[expose] public section

set_option maxRecDepth 16384

noncomputable section

namespace Cert.Proof.Codes

open Idealize.ShloMosaic Idealize.ShloMosaic.TcCoe Idealize.SL.Sem

theorem ops_eq (m : (ℓ : Loc Cert.CKernelIdeal.nD Cert.CKernelIdeal.τ Cert.CKernelIdeal.sig) → Buf (Elt Ideal) ℓ)
    (m' : (ℓ : Loc Cert.CReferenceIdeal.nD Cert.CReferenceIdeal.τ Cert.CReferenceIdeal.sig) → Buf (Elt Ideal) ℓ) (c : Dev Cert.CKernelIdeal.nD)
    (h0 : m' ((c.tc : Thread Cert.CReferenceIdeal.nD Cert.CReferenceIdeal.τ).loc Cert.CReferenceIdeal.main_arg0) = m ((c.tc : Thread Cert.CKernelIdeal.nD Cert.CKernelIdeal.τ).loc Cert.CKernelIdeal.main_arg0))
    (h1 : m' ((c.tc : Thread Cert.CReferenceIdeal.nD Cert.CReferenceIdeal.τ).loc Cert.CReferenceIdeal.main_arg1) = m ((c.tc : Thread Cert.CKernelIdeal.nD Cert.CKernelIdeal.τ).loc Cert.CKernelIdeal.main_arg1))
    (h2 : m' ((c.tc : Thread Cert.CReferenceIdeal.nD Cert.CReferenceIdeal.τ).loc Cert.CReferenceIdeal.main_arg2) = m ((c.tc : Thread Cert.CKernelIdeal.nD Cert.CKernelIdeal.τ).loc Cert.CKernelIdeal.main_arg2))
    (h3 : m' ((c.tc : Thread Cert.CReferenceIdeal.nD Cert.CReferenceIdeal.τ).loc Cert.CReferenceIdeal.main_arg3) = m ((c.tc : Thread Cert.CKernelIdeal.nD Cert.CKernelIdeal.τ).loc Cert.CKernelIdeal.main_arg3))
    (h4 : m' ((c.tc : Thread Cert.CReferenceIdeal.nD Cert.CReferenceIdeal.τ).loc Cert.CReferenceIdeal.main_arg4) = m ((c.tc : Thread Cert.CKernelIdeal.nD Cert.CKernelIdeal.τ).loc Cert.CKernelIdeal.main_arg4))
    (h5 : m' ((c.tc : Thread Cert.CReferenceIdeal.nD Cert.CReferenceIdeal.τ).loc Cert.CReferenceIdeal.main_arg5) = m ((c.tc : Thread Cert.CKernelIdeal.nD Cert.CKernelIdeal.τ).loc Cert.CKernelIdeal.main_arg5))
    (h6 : m' ((c.tc : Thread Cert.CReferenceIdeal.nD Cert.CReferenceIdeal.τ).loc Cert.CReferenceIdeal.main_arg6) = m ((c.tc : Thread Cert.CKernelIdeal.nD Cert.CKernelIdeal.τ).loc Cert.CKernelIdeal.main_arg6)) :
    CodesR.Ir m' c = Ik m c := by
  unfold CodesR.Ir Ik
  congr 1
  · funext i J; exact congrFun h0 (ix2 i J)
  · funext i; exact congrArg (FloatOps.sitofp (F := Ideal) .f32) (congrFun h1 (ix1 i))
  · funext J; exact congrFun h2 (ix1 J)
  · funext t n; exact congrFun h3 (ix2 t _)
  · funext n; exact congrFun h4 (ix1 _)
  · funext i h; exact congrFun h5 (ix2 i h)
  · funext i h; exact congrFun h6 (ix2 i h)

/-- An array of a row, a head and a lane, from its elements. -/
def arr {a b d : ℕ} (f : Fin a → Fin b → Fin d → EReal) : (⟨3, ![a, b, d]⟩ : Shape).Idx → EReal := fun j => f (j 0) (j 1) (j 2)
theorem eq_arr {a b d : ℕ} (X : (⟨3, ![a, b, d]⟩ : Shape).Idx → EReal) (f : Fin a → Fin b → Fin d → EReal) (h : ∀ i p l, X (ix3 i p l) = f i p l) : X = arr f :=
  funext fun j => (congrArg X (eq_ix3 j)).trans (h (j 0) (j 1) (j 2))

theorem algebraic : Cert.algebraic_CKernelIdeal_CReferenceIdeal := fun m g m' g' _ hargs => by
  refine ⟨fun c => arr (Ik m c).kc, fun c => arr (Ik m c).vc, ?_, ?_⟩
  · refine (θ_run _ _ _).mono (fun r h c => ?_) (run_main m g)
    obtain ⟨H0, K0, V0, e0, e1⟩ := (h.1 c).2.2.2
    exact ⟨e0.trans (eq_arr _ _ (outK_at m c H0 K0)), e1.trans (eq_arr _ _ (outV_at m c H0 V0)), args_kept m c r h.1⟩
  · refine (θ_run _ _ _).mono (fun r h c => ?_) (Cert.CReferenceIdeal.Value.run_blocks m' g')
    obtain ⟨e0, e1, hk⟩ := h c
    obtain ⟨h0, h1, h2, h3, h4, h5, h6⟩ := hargs c
    have eI := ops_eq m m' c h0 h1 h2 h3 h4 h5 h6
    exact ⟨e0.trans ((eq_arr _ _ (CodesR.arr10 m' c)).trans (congrArg (fun I : Ops => arr I.kc) eI)), e1.trans ((eq_arr _ _ (CodesR.arr11 m' c)).trans (congrArg (fun I : Ops => arr I.vc) eI)), hk⟩

end Cert.Proof.Codes

end
-- ==== Proof.lean ====
module

public import proofs.«01_k».proof.Proof.Frames
public import proofs.«01_k».proof.Proof.Alg
public import proofs.«01_k».proof.Proof.QBitsLaunch
public import proofs.«01_k».proof.Proof.QAlg
public import proofs.«01_k».proof.Proof.CFrames
public import proofs.«01_k».proof.Proof.CAlg
public import proofs.«01_k».proof.Proof.Gen.QKernel
public import proofs.«01_k».proof.Proof.Gen.QKernel.Frame
public import proofs.«01_k».proof.Proof.Gen.QKernel.Launch
public import proofs.«01_k».proof.Proof.Gen.QKernel.Loops
public import proofs.«01_k».proof.Proof.Gen.QKernel.Points
public import proofs.«01_k».proof.Proof.Gen.QKernel.Skeleton
public import proofs.«01_k».proof.Proof.Gen.QKernelIdeal
public import proofs.«01_k».proof.Proof.Gen.QKernelIdeal.Frame
public import proofs.«01_k».proof.Proof.Gen.QKernelIdeal.Launch
public import proofs.«01_k».proof.Proof.Gen.QKernelIdeal.Loops
public import proofs.«01_k».proof.Proof.Gen.QKernelIdeal.Points
public import proofs.«01_k».proof.Proof.Gen.QKernelIdeal.Skeleton
public import proofs.«01_k».proof.Proof.Gen.QReferenceIdeal
public import proofs.«01_k».proof.Proof.Gen.QReferenceIdeal.Frame
public import proofs.«01_k».proof.Proof.Gen.QReferenceIdeal.Launch
public import proofs.«01_k».proof.Proof.Gen.QReferenceIdeal.Value
public import proofs.«01_k».proof.Proof.Gen.CKernel
public import proofs.«01_k».proof.Proof.Gen.CKernel.Frame
public import proofs.«01_k».proof.Proof.Gen.CKernelIdeal
public import proofs.«01_k».proof.Proof.Gen.CKernelIdeal.Frame
public import proofs.«01_k».proof.Proof.Gen.CKernelIdeal.Launch
public import proofs.«01_k».proof.Proof.Gen.CKernelIdeal.Points
public import proofs.«01_k».proof.Proof.Gen.CKernelIdeal.Skeleton
public import proofs.«01_k».proof.Proof.Gen.CKernelIdeal.Loops
public import proofs.«01_k».proof.Proof.Gen.CReferenceIdeal
public import proofs.«01_k».proof.Proof.Gen.CReferenceIdeal.Frame
public import proofs.«01_k».proof.Proof.Gen.CReferenceIdeal.Launch
public import proofs.«01_k».proof.Proof.Gen.CReferenceIdeal.Value

@[expose] public section

noncomputable section

namespace Cert.Proof

open Idealize.ShloMosaic

/-- The queries' frame on words. -/
theorem frame_qKernel : Cert.quiescent_QKernel := fun m ρ _ => QueryBits.frame (F := Bits) m ρ
theorem frame_qKernelIdeal : Cert.quiescent_QKernelIdeal := fun m ρ _ => Query.frame (F := Ideal) m ρ
theorem frame_qReferenceIdeal : Cert.quiescent_QReferenceIdeal := fun m ρ _ => Cert.QReferenceIdeal.Gen.frame m ρ
/-- The word buffer of the queries may be read as a buffer of pairs. -/
theorem preserves_q : Cert.preserves_QKernel_QKernelIdeal :=
  ⟨IdealRules.bf16_pair.bufferStatement _ _, IdealRules.bf16_pair.packStatement _, IdealRules.bf16_pair.statement _ _⟩

theorem claim : Cert.Claim :=
  ⟨Cert.Kernel.Gen.facts, Cert.KernelIdeal.Gen.facts, Cert.ReferenceIdeal.Gen.facts,
    Cert.QKernel.Gen.facts, Cert.QKernelIdeal.Gen.facts, Cert.QReferenceIdeal.Gen.facts,
    Cert.CKernel.Gen.facts, Cert.CKernelIdeal.Gen.facts, Cert.CReferenceIdeal.Gen.facts,
    Layer.frame_kernel, Layer.frame_kernelIdeal, Layer.frame_referenceIdeal,
    frame_qKernel, frame_qKernelIdeal, frame_qReferenceIdeal,
    Codes.frame_kernel, Codes.frame_kernelIdeal, Codes.frame_referenceIdeal,
    trivial, Val.algebraic, preserves_q, Query.algebraic, trivial, Codes.algebraic⟩

end Cert.Proof

end
